-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384 : Shape := ⟨1, ![16384]⟩
abbrev S1x32 : Shape := ⟨2, ![1, 32]⟩
abbrev S1000000x32 : Shape := ⟨2, ![1000000, 32]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S1x32 .f32) (main_arg2 : FVec F S1000000x32 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S1x32 : Shape := ⟨2, ![1, 32]⟩
abbrev S1000000x32 : Shape := ⟨2, ![1000000, 32]⟩
abbrev S32x1 : Shape := ⟨2, ![32, 1]⟩
abbrev S32x16 : Shape := ⟨2, ![32, 16]⟩
abbrev S32x1000000 : Shape := ⟨2, ![32, 1000000]⟩
abbrev S16512 : Shape := ⟨1, ![16512]⟩
abbrev S32x512 : Shape := ⟨2, ![32, 512]⟩
abbrev S32x64 : Shape := ⟨2, ![32, 64]⟩
abbrev S130x128 : Shape := ⟨2, ![130, 128]⟩
abbrev S16640 : Shape := ⟨1, ![16640]⟩
abbrev S_ : Shape := ⟨0, ![]⟩
abbrev S16 : Shape := ⟨1, ![16]⟩
abbrev S8x512 : Shape := ⟨2, ![8, 512]⟩
abbrev S1x16 : Shape := ⟨2, ![1, 16]⟩
abbrev S128 : Shape := ⟨1, ![128]⟩
abbrev S1x128 : Shape := ⟨2, ![1, 128]⟩
abbrev S1x16384 : Shape := ⟨2, ![1, 16384]⟩

abbrev nBuf : Table → Nat
  | .hbm => 9
  | .local .scVector .vmem => 9
  | _ => 0

abbrev bufTy : (tb : Table) → Fin (nBuf tb) → BufTy
  | .hbm, ⟨0, _⟩ => ⟨S16384, .i32⟩
  | .hbm, ⟨1, _⟩ => ⟨S1x32, .f32⟩
  | .hbm, ⟨2, _⟩ => ⟨S1000000x32, .f32⟩
  | .hbm, ⟨3, _⟩ => ⟨S32x1, .f32⟩
  | .hbm, ⟨4, _⟩ => ⟨S32x16, .f32⟩
  | .hbm, ⟨5, _⟩ => ⟨S32x1000000, .f32⟩
  | .hbm, ⟨6, _⟩ => ⟨S16512, .f32⟩
  | .hbm, ⟨7, _⟩ => ⟨S16384, .f32⟩
  | .hbm, ⟨8, _⟩ => ⟨S1x16384, .f32⟩
  | .local .scVector .vmem, ⟨0, _⟩ => ⟨S32x512, .f32⟩
  | .local .scVector .vmem, ⟨1, _⟩ => ⟨S32x512, .f32⟩
  | .local .scVector .vmem, ⟨2, _⟩ => ⟨S32x512, .f32⟩
  | .local .scVector .vmem, ⟨3, _⟩ => ⟨S32x64, .f32⟩
  | .local .scVector .vmem, ⟨4, _⟩ => ⟨S16384, .i32⟩
  | .local .scVector .vmem, ⟨5, _⟩ => ⟨S16384, .i32⟩
  | .local .scVector .vmem, ⟨6, _⟩ => ⟨S130x128, .i32⟩
  | .local .scVector .vmem, ⟨7, _⟩ => ⟨S16640, .f32⟩
  | .local .scVector .vmem, ⟨8, _⟩ => ⟨S32x16, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_arg0_scv : Ref sig .scVector := ⟨.hbm, 0, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c1024_i32 : BitVec 32 := 1024#32
  let v7 : BitVec 32 := Scalar.addi c0_i32_1 c1024_i32
  let c1_i32 : BitVec 32 := 1#32
  ⟨c0_i32_1, v7, c1_i32⟩
def k0_off1 (k0_t1 : Fin k0_t1_loop.trips) : Fin 1 → Nat :=
  let c0_i32_1 : BitVec 32 := 0#32
  let c1_i32 : BitVec 32 := 1#32
  let arg19 : BitVec 32 := Scf.iv c0_i32_1 c1_i32 k0_t1
  let c16_i32_135 : BitVec 32 := 16#32
  let v174 : BitVec 32 := Scalar.muli arg19 c16_i32_135
  let v175 : Index := Scalar.indexCast v174
  ![v175.toNat]

def k0_chk1 (v190 : IVec S16 32) : Prop :=
  (∀ a x, ((![v190] : Fin 1 → IVec S16 32) a x).toNat < S16384.size a)
theorem k0_idx1_inb : ∀ (v190 : IVec S16 32) (k0_hw1 : k0_chk1 v190), ∀ a x, ((![v190] : Fin 1 → IVec S16 32) a x).toNat < S16384.size a := fun v190 k0_hw1 => k0_hw1

def k0_chk2 (v192 : IVec S16 32) (v194 : IVec S16 32) : Prop :=
  (∀ a x, ((![v192, v194] : Fin 2 → IVec S16 32) a x).toNat < S130x128.size a)
theorem k0_idx2_inb : ∀ (v192 : IVec S16 32) (v194 : IVec S16 32) (k0_hw2 : k0_chk2 v192 v194), ∀ a x, ((![v192, v194] : Fin 2 → IVec S16 32) a x).toNat < S130x128.size a := fun v192 v194 k0_hw2 => k0_hw2

def k0_chk3 (v14 : IVec S16 32) (v16 : IVec S16 32) : Prop :=
  (∀ a x, ((![v14, v16] : Fin 2 → IVec S16 32) a x).toNat < S130x128.size a)
theorem k0_idx3_inb : ∀ (v14 : IVec S16 32) (v16 : IVec S16 32) (k0_hw3 : k0_chk3 v14 v16), ∀ a x, ((![v14, v16] : Fin 2 → IVec S16 32) a x).toNat < S130x128.size a := fun v14 v16 k0_hw3 => k0_hw3

def k0_chk4 (v23 : IVec S16 32) (v25 : IVec S16 32) : Prop :=
  (∀ a x, ((![v23, v25] : Fin 2 → IVec S16 32) a x).toNat < S130x128.size a)
theorem k0_idx4_inb : ∀ (v23 : IVec S16 32) (v25 : IVec S16 32) (k0_hw4 : k0_chk4 v23 v25), ∀ a x, ((![v23, v25] : Fin 2 → IVec S16 32) a x).toNat < S130x128.size a := fun v23 v25 k0_hw4 => k0_hw4

def k0_chk5 (v32 : IVec S16 32) (v34 : IVec S16 32) : Prop :=
  (∀ a x, ((![v32, v34] : Fin 2 → IVec S16 32) a x).toNat < S130x128.size a)
theorem k0_idx5_inb : ∀ (v32 : IVec S16 32) (v34 : IVec S16 32) (k0_hw5 : k0_chk5 v32 v34), ∀ a x, ((![v32, v34] : Fin 2 → IVec S16 32) a x).toNat < S130x128.size a := fun v32 v34 k0_hw5 => k0_hw5

def k0_chk6 (v41 : IVec S16 32) (v43 : IVec S16 32) : Prop :=
  (∀ a x, ((![v41, v43] : Fin 2 → IVec S16 32) a x).toNat < S130x128.size a)
theorem k0_idx6_inb : ∀ (v41 : IVec S16 32) (v43 : IVec S16 32) (k0_hw6 : k0_chk6 v41 v43), ∀ a x, ((![v41, v43] : Fin 2 → IVec S16 32) a x).toNat < S130x128.size a := fun v41 v43 k0_hw6 => k0_hw6

def k0_chk7 (v50 : IVec S16 32) (v52 : IVec S16 32) : Prop :=
  (∀ a x, ((![v50, v52] : Fin 2 → IVec S16 32) a x).toNat < S130x128.size a)
theorem k0_idx7_inb : ∀ (v50 : IVec S16 32) (v52 : IVec S16 32) (k0_hw7 : k0_chk7 v50 v52), ∀ a x, ((![v50, v52] : Fin 2 → IVec S16 32) a x).toNat < S130x128.size a := fun v50 v52 k0_hw7 => k0_hw7

def k0_chk8 (v59 : IVec S16 32) (v61 : IVec S16 32) : Prop :=
  (∀ a x, ((![v59, v61] : Fin 2 → IVec S16 32) a x).toNat < S130x128.size a)
theorem k0_idx8_inb : ∀ (v59 : IVec S16 32) (v61 : IVec S16 32) (k0_hw8 : k0_chk8 v59 v61), ∀ a x, ((![v59, v61] : Fin 2 → IVec S16 32) a x).toNat < S130x128.size a := fun v59 v61 k0_hw8 => k0_hw8

def k0_chk9 (v68 : IVec S16 32) (v70 : IVec S16 32) : Prop :=
  (∀ a x, ((![v68, v70] : Fin 2 → IVec S16 32) a x).toNat < S130x128.size a)
theorem k0_idx9_inb : ∀ (v68 : IVec S16 32) (v70 : IVec S16 32) (k0_hw9 : k0_chk9 v68 v70), ∀ a x, ((![v68, v70] : Fin 2 → IVec S16 32) a x).toNat < S130x128.size a := fun v68 v70 k0_hw9 => k0_hw9

def k0_chk10 (v77 : IVec S16 32) (v79 : IVec S16 32) : Prop :=
  (∀ a x, ((![v77, v79] : Fin 2 → IVec S16 32) a x).toNat < S130x128.size a)
theorem k0_idx10_inb : ∀ (v77 : IVec S16 32) (v79 : IVec S16 32) (k0_hw10 : k0_chk10 v77 v79), ∀ a x, ((![v77, v79] : Fin 2 → IVec S16 32) a x).toNat < S130x128.size a := fun v77 v79 k0_hw10 => k0_hw10
def k0_off2 (i : grid0.Coords) : Fin 2 → Nat :=
  let c0_i32_30 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c512_i32 : BitVec 32 := 512#32
  let v85 : BitVec 32 := Scalar.muli v84 c512_i32
  ![0, v85.toNat]
def k0_off3 (i : grid0.Coords) : Fin 2 → Nat :=
  let c8_i32_35 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c512_i32_25 : BitVec 32 := 512#32
  let v86 : BitVec 32 := Scalar.muli v84 c512_i32_25
  ![8, v86.toNat]
def k0_off4 (i : grid0.Coords) : Fin 2 → Nat :=
  let c16_i32_41 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c512_i32_26 : BitVec 32 := 512#32
  let v87 : BitVec 32 := Scalar.muli v84 c512_i32_26
  ![16, v87.toNat]
def k0_off5 (i : grid0.Coords) : Fin 2 → Nat :=
  let c24_i32_46 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c512_i32_27 : BitVec 32 := 512#32
  let v88 : BitVec 32 := Scalar.muli v84 c512_i32_27
  ![24, v88.toNat]
def k0_off6 (i : grid0.Coords) : Fin 2 → Nat :=
  let c0_i32_57 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c1_i32_50 : BitVec 32 := 1#32
  let v105 : BitVec 32 := Scalar.addi v84 c1_i32_50
  let c512_i32_51 : BitVec 32 := 512#32
  let v106 : BitVec 32 := Scalar.muli v105 c512_i32_51
  ![0, v106.toNat]
def k0_off7 (i : grid0.Coords) : Fin 2 → Nat :=
  let c8_i32_63 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c1_i32_50 : BitVec 32 := 1#32
  let v105 : BitVec 32 := Scalar.addi v84 c1_i32_50
  let c512_i32_52 : BitVec 32 := 512#32
  let v107 : BitVec 32 := Scalar.muli v105 c512_i32_52
  ![8, v107.toNat]
def k0_off8 (i : grid0.Coords) : Fin 2 → Nat :=
  let c16_i32_69 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c1_i32_50 : BitVec 32 := 1#32
  let v105 : BitVec 32 := Scalar.addi v84 c1_i32_50
  let c512_i32_53 : BitVec 32 := 512#32
  let v108 : BitVec 32 := Scalar.muli v105 c512_i32_53
  ![16, v108.toNat]
def k0_off9 (i : grid0.Coords) : Fin 2 → Nat :=
  let c24_i32_75 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c1_i32_50 : BitVec 32 := 1#32
  let v105 : BitVec 32 := Scalar.addi v84 c1_i32_50
  let c512_i32_54 : BitVec 32 := 512#32
  let v109 : BitVec 32 := Scalar.muli v105 c512_i32_54
  ![24, v109.toNat]
@[reducible] def k0_t2_loop : Scf.Loop 32 :=
  let c0_i32_80 : BitVec 32 := 0#32
  let c20_i32 : BitVec 32 := 20#32
  let v126 : BitVec 32 := Scalar.addi c0_i32_80 c20_i32
  let c1_i32_81 : BitVec 32 := 1#32
  ⟨c0_i32_80, v126, c1_i32_81⟩
def k0_cond1 (k0_t2 : Fin k0_t2_loop.trips) : BitVec 1 :=
  let c3_i32 : BitVec 32 := 3#32
  let c0_i32_80 : BitVec 32 := 0#32
  let c1_i32_81 : BitVec 32 := 1#32
  let arg19 : BitVec 32 := Scf.iv c0_i32_80 c1_i32_81 k0_t2
  let v174 : BitVec 32 := Scalar.muli c3_i32 arg19
  let c0_i32_135 : BitVec 32 := 0#32
  let v175 : BitVec 32 := Scalar.addi v174 c0_i32_135
  let c59_i32 : BitVec 32 := 59#32
  let v177 : BitVec 1 := Scalar.cmpi .slt v175 c59_i32
  let v178 : BitVec 32 := Scalar.extui v177
  let c0_i32_136 : BitVec 32 := 0#32
  let v179 : BitVec 1 := Scalar.cmpi .ne v178 c0_i32_136
  v179

def k0_off10 (i : grid0.Coords) (k0_t2 : Fin k0_t2_loop.trips) : Fin 2 → Nat :=
  let c0_i32_275 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32 : BitVec 32 := 3#32
  let c0_i32_80 : BitVec 32 := 0#32
  let c1_i32_81 : BitVec 32 := 1#32
  let arg19 : BitVec 32 := Scf.iv c0_i32_80 c1_i32_81 k0_t2
  let v174 : BitVec 32 := Scalar.muli c3_i32 arg19
  let c0_i32_135 : BitVec 32 := 0#32
  let v175 : BitVec 32 := Scalar.addi v174 c0_i32_135
  let v176 : BitVec 32 := Scalar.addi v84 v175
  let c2_i32_268 : BitVec 32 := 2#32
  let v297 : BitVec 32 := Scalar.addi v176 c2_i32_268
  let c512_i32_269 : BitVec 32 := 512#32
  let v298 : BitVec 32 := Scalar.muli v297 c512_i32_269
  ![0, v298.toNat]
def k0_off11 (i : grid0.Coords) (k0_t2 : Fin k0_t2_loop.trips) : Fin 2 → Nat :=
  let c8_i32_281 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32 : BitVec 32 := 3#32
  let c0_i32_80 : BitVec 32 := 0#32
  let c1_i32_81 : BitVec 32 := 1#32
  let arg19 : BitVec 32 := Scf.iv c0_i32_80 c1_i32_81 k0_t2
  let v174 : BitVec 32 := Scalar.muli c3_i32 arg19
  let c0_i32_135 : BitVec 32 := 0#32
  let v175 : BitVec 32 := Scalar.addi v174 c0_i32_135
  let v176 : BitVec 32 := Scalar.addi v84 v175
  let c2_i32_268 : BitVec 32 := 2#32
  let v297 : BitVec 32 := Scalar.addi v176 c2_i32_268
  let c512_i32_270 : BitVec 32 := 512#32
  let v299 : BitVec 32 := Scalar.muli v297 c512_i32_270
  ![8, v299.toNat]
def k0_off12 (i : grid0.Coords) (k0_t2 : Fin k0_t2_loop.trips) : Fin 2 → Nat :=
  let c16_i32_287 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32 : BitVec 32 := 3#32
  let c0_i32_80 : BitVec 32 := 0#32
  let c1_i32_81 : BitVec 32 := 1#32
  let arg19 : BitVec 32 := Scf.iv c0_i32_80 c1_i32_81 k0_t2
  let v174 : BitVec 32 := Scalar.muli c3_i32 arg19
  let c0_i32_135 : BitVec 32 := 0#32
  let v175 : BitVec 32 := Scalar.addi v174 c0_i32_135
  let v176 : BitVec 32 := Scalar.addi v84 v175
  let c2_i32_268 : BitVec 32 := 2#32
  let v297 : BitVec 32 := Scalar.addi v176 c2_i32_268
  let c512_i32_271 : BitVec 32 := 512#32
  let v300 : BitVec 32 := Scalar.muli v297 c512_i32_271
  ![16, v300.toNat]
def k0_off13 (i : grid0.Coords) (k0_t2 : Fin k0_t2_loop.trips) : Fin 2 → Nat :=
  let c24_i32_293 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32 : BitVec 32 := 3#32
  let c0_i32_80 : BitVec 32 := 0#32
  let c1_i32_81 : BitVec 32 := 1#32
  let arg19 : BitVec 32 := Scf.iv c0_i32_80 c1_i32_81 k0_t2
  let v174 : BitVec 32 := Scalar.muli c3_i32 arg19
  let c0_i32_135 : BitVec 32 := 0#32
  let v175 : BitVec 32 := Scalar.addi v174 c0_i32_135
  let v176 : BitVec 32 := Scalar.addi v84 v175
  let c2_i32_268 : BitVec 32 := 2#32
  let v297 : BitVec 32 := Scalar.addi v176 c2_i32_268
  let c512_i32_272 : BitVec 32 := 512#32
  let v301 : BitVec 32 := Scalar.muli v297 c512_i32_272
  ![24, v301.toNat]
def k0_off14 (i : grid0.Coords) (k0_t2 : Fin k0_t2_loop.trips) : Fin 2 → Nat :=
  let c0_i32_143 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32 : BitVec 32 := 3#32
  let c0_i32_80 : BitVec 32 := 0#32
  let c1_i32_81 : BitVec 32 := 1#32
  let arg19 : BitVec 32 := Scf.iv c0_i32_80 c1_i32_81 k0_t2
  let v174 : BitVec 32 := Scalar.muli c3_i32 arg19
  let c0_i32_135 : BitVec 32 := 0#32
  let v175 : BitVec 32 := Scalar.addi v174 c0_i32_135
  let v176 : BitVec 32 := Scalar.addi v84 v175
  let c512_i32_137 : BitVec 32 := 512#32
  let v180 : BitVec 32 := Scalar.muli v176 c512_i32_137
  ![0, v180.toNat]
def k0_off15 (i : grid0.Coords) (k0_t2 : Fin k0_t2_loop.trips) : Fin 2 → Nat :=
  let c8_i32_149 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32 : BitVec 32 := 3#32
  let c0_i32_80 : BitVec 32 := 0#32
  let c1_i32_81 : BitVec 32 := 1#32
  let arg19 : BitVec 32 := Scf.iv c0_i32_80 c1_i32_81 k0_t2
  let v174 : BitVec 32 := Scalar.muli c3_i32 arg19
  let c0_i32_135 : BitVec 32 := 0#32
  let v175 : BitVec 32 := Scalar.addi v174 c0_i32_135
  let v176 : BitVec 32 := Scalar.addi v84 v175
  let c512_i32_138 : BitVec 32 := 512#32
  let v181 : BitVec 32 := Scalar.muli v176 c512_i32_138
  ![8, v181.toNat]
def k0_off16 (i : grid0.Coords) (k0_t2 : Fin k0_t2_loop.trips) : Fin 2 → Nat :=
  let c16_i32_155 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32 : BitVec 32 := 3#32
  let c0_i32_80 : BitVec 32 := 0#32
  let c1_i32_81 : BitVec 32 := 1#32
  let arg19 : BitVec 32 := Scf.iv c0_i32_80 c1_i32_81 k0_t2
  let v174 : BitVec 32 := Scalar.muli c3_i32 arg19
  let c0_i32_135 : BitVec 32 := 0#32
  let v175 : BitVec 32 := Scalar.addi v174 c0_i32_135
  let v176 : BitVec 32 := Scalar.addi v84 v175
  let c512_i32_139 : BitVec 32 := 512#32
  let v182 : BitVec 32 := Scalar.muli v176 c512_i32_139
  ![16, v182.toNat]
def k0_off17 (i : grid0.Coords) (k0_t2 : Fin k0_t2_loop.trips) : Fin 2 → Nat :=
  let c24_i32_161 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32 : BitVec 32 := 3#32
  let c0_i32_80 : BitVec 32 := 0#32
  let c1_i32_81 : BitVec 32 := 1#32
  let arg19 : BitVec 32 := Scf.iv c0_i32_80 c1_i32_81 k0_t2
  let v174 : BitVec 32 := Scalar.muli c3_i32 arg19
  let c0_i32_135 : BitVec 32 := 0#32
  let v175 : BitVec 32 := Scalar.addi v174 c0_i32_135
  let v176 : BitVec 32 := Scalar.addi v84 v175
  let c512_i32_140 : BitVec 32 := 512#32
  let v183 : BitVec 32 := Scalar.muli v176 c512_i32_140
  ![24, v183.toNat]
@[reducible] def k0_t3_loop (v8 : BitVec 32) : Scf.Loop 32 :=
  let c0_i32_166 : BitVec 32 := 0#32
  let c15_i32 : BitVec 32 := 15#32
  let v82 : BitVec 32 := Scalar.addi v8 c15_i32
  let c4_i32 : BitVec 32 := 4#32
  let v83 : BitVec 32 := Scalar.shrui v82 c4_i32
  let v201 : BitVec 32 := Scalar.subi v83 c0_i32_166
  let c1_i32_168 : BitVec 32 := 1#32
  let v203 : BitVec 32 := Scalar.divsi v201 c1_i32_168
  let v204 : BitVec 32 := Scalar.muli v203 c1_i32_168
  let v205 : BitVec 32 := Scalar.addi c0_i32_166 v204
  let c1_i32_169 : BitVec 32 := 1#32
  ⟨c0_i32_166, v205, c1_i32_169⟩

def k0_off18 (v8 : BitVec 32) (k0_t3 : Fin (k0_t3_loop v8).trips) : Fin 1 → Nat :=
  let c0_i32_166 : BitVec 32 := 0#32
  let c1_i32_169 : BitVec 32 := 1#32
  let arg20 : BitVec 32 := Scf.iv c0_i32_166 c1_i32_169 k0_t3
  let c16_i32_268 : BitVec 32 := 16#32
  let v297 : BitVec 32 := Scalar.muli arg20 c16_i32_268
  let v298 : Index := Scalar.indexCast v297
  ![v298.toNat]

def k0_chk12 (v314 : IVec S16 32) : Prop :=
  (∀ a x, ((![v314] : Fin 1 → IVec S16 32) a x).toNat < S16384.size a)
theorem k0_idx11_inb : ∀ (v314 : IVec S16 32) (k0_hw12 : k0_chk12 v314), ∀ a x, ((![v314] : Fin 1 → IVec S16 32) a x).toNat < S16384.size a := fun v314 k0_hw12 => k0_hw12
@[reducible] def k0_t4_loop (v8 : BitVec 32) : Scf.Loop 32 :=
  let c0_i32_166 : BitVec 32 := 0#32
  let c15_i32 : BitVec 32 := 15#32
  let v82 : BitVec 32 := Scalar.addi v8 c15_i32
  let c4_i32 : BitVec 32 := 4#32
  let v83 : BitVec 32 := Scalar.shrui v82 c4_i32
  let v201 : BitVec 32 := Scalar.subi v83 c0_i32_166
  let c1_i32_168 : BitVec 32 := 1#32
  let v203 : BitVec 32 := Scalar.divsi v201 c1_i32_168
  let v204 : BitVec 32 := Scalar.muli v203 c1_i32_168
  let v205 : BitVec 32 := Scalar.addi c0_i32_166 v204
  let v202 : BitVec 32 := Scalar.addi c0_i32_166 v201
  let c1_i32_170 : BitVec 32 := 1#32
  ⟨v205, v202, c1_i32_170⟩
def k0_off19 (v8 : BitVec 32) (k0_t4 : Fin (k0_t4_loop v8).trips) : Fin 1 → Nat :=
  let c0_i32_166 : BitVec 32 := 0#32
  let c15_i32 : BitVec 32 := 15#32
  let v82 : BitVec 32 := Scalar.addi v8 c15_i32
  let c4_i32 : BitVec 32 := 4#32
  let v83 : BitVec 32 := Scalar.shrui v82 c4_i32
  let v201 : BitVec 32 := Scalar.subi v83 c0_i32_166
  let c1_i32_168 : BitVec 32 := 1#32
  let v203 : BitVec 32 := Scalar.divsi v201 c1_i32_168
  let v204 : BitVec 32 := Scalar.muli v203 c1_i32_168
  let v205 : BitVec 32 := Scalar.addi c0_i32_166 v204
  let c1_i32_170 : BitVec 32 := 1#32
  let arg20 : BitVec 32 := Scf.iv v205 c1_i32_170 k0_t4
  let c16_i32_268 : BitVec 32 := 16#32
  let v297 : BitVec 32 := Scalar.muli arg20 c16_i32_268
  let v298 : Index := Scalar.indexCast v297
  ![v298.toNat]

def k0_chk13 (v314 : IVec S16 32) : Prop :=
  (∀ a x, ((![v314] : Fin 1 → IVec S16 32) a x).toNat < S16384.size a)
theorem k0_idx12_inb : ∀ (v314 : IVec S16 32) (k0_hw13 : k0_chk13 v314), ∀ a x, ((![v314] : Fin 1 → IVec S16 32) a x).toNat < S16384.size a := fun v314 k0_hw13 => k0_hw13
@[reducible] def k0_t5_loop (v207 : BitVec 32) : Scf.Loop 32 :=
  let c0_i32_174 : BitVec 32 := 0#32
  let c15_i32_171 : BitVec 32 := 15#32
  let v208 : BitVec 32 := Scalar.addi v207 c15_i32_171
  let c4_i32_172 : BitVec 32 := 4#32
  let v209 : BitVec 32 := Scalar.shrui v208 c4_i32_172
  let v210 : BitVec 32 := Scalar.subi v209 c0_i32_174
  let c1_i32_175 : BitVec 32 := 1#32
  let v212 : BitVec 32 := Scalar.divsi v210 c1_i32_175
  let v213 : BitVec 32 := Scalar.muli v212 c1_i32_175
  let v214 : BitVec 32 := Scalar.addi c0_i32_174 v213
  let c1_i32_176 : BitVec 32 := 1#32
  ⟨c0_i32_174, v214, c1_i32_176⟩

def k0_off20 (v207 : BitVec 32) (k0_t5 : Fin (k0_t5_loop v207).trips) : Fin 1 → Nat :=
  let c0_i32_174 : BitVec 32 := 0#32
  let c1_i32_176 : BitVec 32 := 1#32
  let arg20 : BitVec 32 := Scf.iv c0_i32_174 c1_i32_176 k0_t5
  let c16_i32_269 : BitVec 32 := 16#32
  let v302 : BitVec 32 := Scalar.muli arg20 c16_i32_269
  let v303 : Index := Scalar.indexCast v302
  ![v303.toNat]

def k0_chk15 (v308 : IVec S16 32) (v312 : IVec S16 32) : Prop :=
  (∀ a x, ((![v312, v308] : Fin 2 → IVec S16 32) a x).toNat < S32x512.size a)
theorem k0_idx13_inb : ∀ (v308 : IVec S16 32) (v312 : IVec S16 32) (k0_hw15 : k0_chk15 v308 v312), ∀ a x, ((![v312, v308] : Fin 2 → IVec S16 32) a x).toNat < S32x512.size a := fun v308 v312 k0_hw15 => k0_hw15

def k0_chk16 (v308 : IVec S16 32) (v318 : IVec S16 32) : Prop :=
  (∀ a x, ((![v318, v308] : Fin 2 → IVec S16 32) a x).toNat < S32x512.size a)
theorem k0_idx14_inb : ∀ (v308 : IVec S16 32) (v318 : IVec S16 32) (k0_hw16 : k0_chk16 v308 v318), ∀ a x, ((![v318, v308] : Fin 2 → IVec S16 32) a x).toNat < S32x512.size a := fun v308 v318 k0_hw16 => k0_hw16

def k0_chk17 (v308 : IVec S16 32) (v324 : IVec S16 32) : Prop :=
  (∀ a x, ((![v324, v308] : Fin 2 → IVec S16 32) a x).toNat < S32x512.size a)
theorem k0_idx15_inb : ∀ (v308 : IVec S16 32) (v324 : IVec S16 32) (k0_hw17 : k0_chk17 v308 v324), ∀ a x, ((![v324, v308] : Fin 2 → IVec S16 32) a x).toNat < S32x512.size a := fun v308 v324 k0_hw17 => k0_hw17

def k0_chk18 (v308 : IVec S16 32) (v330 : IVec S16 32) : Prop :=
  (∀ a x, ((![v330, v308] : Fin 2 → IVec S16 32) a x).toNat < S32x512.size a)
theorem k0_idx16_inb : ∀ (v308 : IVec S16 32) (v330 : IVec S16 32) (k0_hw18 : k0_chk18 v308 v330), ∀ a x, ((![v330, v308] : Fin 2 → IVec S16 32) a x).toNat < S32x512.size a := fun v308 v330 k0_hw18 => k0_hw18

def k0_chk19 (v308 : IVec S16 32) (v336 : IVec S16 32) : Prop :=
  (∀ a x, ((![v336, v308] : Fin 2 → IVec S16 32) a x).toNat < S32x512.size a)
theorem k0_idx17_inb : ∀ (v308 : IVec S16 32) (v336 : IVec S16 32) (k0_hw19 : k0_chk19 v308 v336), ∀ a x, ((![v336, v308] : Fin 2 → IVec S16 32) a x).toNat < S32x512.size a := fun v308 v336 k0_hw19 => k0_hw19

def k0_chk20 (v308 : IVec S16 32) (v342 : IVec S16 32) : Prop :=
  (∀ a x, ((![v342, v308] : Fin 2 → IVec S16 32) a x).toNat < S32x512.size a)
theorem k0_idx18_inb : ∀ (v308 : IVec S16 32) (v342 : IVec S16 32) (k0_hw20 : k0_chk20 v308 v342), ∀ a x, ((![v342, v308] : Fin 2 → IVec S16 32) a x).toNat < S32x512.size a := fun v308 v342 k0_hw20 => k0_hw20

def k0_chk21 (v308 : IVec S16 32) (v348 : IVec S16 32) : Prop :=
  (∀ a x, ((![v348, v308] : Fin 2 → IVec S16 32) a x).toNat < S32x512.size a)
theorem k0_idx19_inb : ∀ (v308 : IVec S16 32) (v348 : IVec S16 32) (k0_hw21 : k0_chk21 v308 v348), ∀ a x, ((![v348, v308] : Fin 2 → IVec S16 32) a x).toNat < S32x512.size a := fun v308 v348 k0_hw21 => k0_hw21

def k0_chk22 (v308 : IVec S16 32) (v354 : IVec S16 32) : Prop :=
  (∀ a x, ((![v354, v308] : Fin 2 → IVec S16 32) a x).toNat < S32x512.size a)
theorem k0_idx20_inb : ∀ (v308 : IVec S16 32) (v354 : IVec S16 32) (k0_hw22 : k0_chk22 v308 v354), ∀ a x, ((![v354, v308] : Fin 2 → IVec S16 32) a x).toNat < S32x512.size a := fun v308 v354 k0_hw22 => k0_hw22

def k0_chk23 (v308 : IVec S16 32) (v360 : IVec S16 32) : Prop :=
  (∀ a x, ((![v360, v308] : Fin 2 → IVec S16 32) a x).toNat < S32x512.size a)
theorem k0_idx21_inb : ∀ (v308 : IVec S16 32) (v360 : IVec S16 32) (k0_hw23 : k0_chk23 v308 v360), ∀ a x, ((![v360, v308] : Fin 2 → IVec S16 32) a x).toNat < S32x512.size a := fun v308 v360 k0_hw23 => k0_hw23

def k0_chk24 (v308 : IVec S16 32) (v366 : IVec S16 32) : Prop :=
  (∀ a x, ((![v366, v308] : Fin 2 → IVec S16 32) a x).toNat < S32x512.size a)
theorem k0_idx22_inb : ∀ (v308 : IVec S16 32) (v366 : IVec S16 32) (k0_hw24 : k0_chk24 v308 v366), ∀ a x, ((![v366, v308] : Fin 2 → IVec S16 32) a x).toNat < S32x512.size a := fun v308 v366 k0_hw24 => k0_hw24

def k0_chk25 (v308 : IVec S16 32) (v372 : IVec S16 32) : Prop :=
  (∀ a x, ((![v372, v308] : Fin 2 → IVec S16 32) a x).toNat < S32x512.size a)
theorem k0_idx23_inb : ∀ (v308 : IVec S16 32) (v372 : IVec S16 32) (k0_hw25 : k0_chk25 v308 v372), ∀ a x, ((![v372, v308] : Fin 2 → IVec S16 32) a x).toNat < S32x512.size a := fun v308 v372 k0_hw25 => k0_hw25

def k0_chk26 (v308 : IVec S16 32) (v378 : IVec S16 32) : Prop :=
  (∀ a x, ((![v378, v308] : Fin 2 → IVec S16 32) a x).toNat < S32x512.size a)
theorem k0_idx24_inb : ∀ (v308 : IVec S16 32) (v378 : IVec S16 32) (k0_hw26 : k0_chk26 v308 v378), ∀ a x, ((![v378, v308] : Fin 2 → IVec S16 32) a x).toNat < S32x512.size a := fun v308 v378 k0_hw26 => k0_hw26

def k0_chk27 (v308 : IVec S16 32) (v384 : IVec S16 32) : Prop :=
  (∀ a x, ((![v384, v308] : Fin 2 → IVec S16 32) a x).toNat < S32x512.size a)
theorem k0_idx25_inb : ∀ (v308 : IVec S16 32) (v384 : IVec S16 32) (k0_hw27 : k0_chk27 v308 v384), ∀ a x, ((![v384, v308] : Fin 2 → IVec S16 32) a x).toNat < S32x512.size a := fun v308 v384 k0_hw27 => k0_hw27

def k0_chk28 (v308 : IVec S16 32) (v390 : IVec S16 32) : Prop :=
  (∀ a x, ((![v390, v308] : Fin 2 → IVec S16 32) a x).toNat < S32x512.size a)
theorem k0_idx26_inb : ∀ (v308 : IVec S16 32) (v390 : IVec S16 32) (k0_hw28 : k0_chk28 v308 v390), ∀ a x, ((![v390, v308] : Fin 2 → IVec S16 32) a x).toNat < S32x512.size a := fun v308 v390 k0_hw28 => k0_hw28

def k0_chk29 (v308 : IVec S16 32) (v396 : IVec S16 32) : Prop :=
  (∀ a x, ((![v396, v308] : Fin 2 → IVec S16 32) a x).toNat < S32x512.size a)
theorem k0_idx27_inb : ∀ (v308 : IVec S16 32) (v396 : IVec S16 32) (k0_hw29 : k0_chk29 v308 v396), ∀ a x, ((![v396, v308] : Fin 2 → IVec S16 32) a x).toNat < S32x512.size a := fun v308 v396 k0_hw29 => k0_hw29

def k0_chk30 (v308 : IVec S16 32) (v402 : IVec S16 32) : Prop :=
  (∀ a x, ((![v402, v308] : Fin 2 → IVec S16 32) a x).toNat < S32x512.size a)
theorem k0_idx28_inb : ∀ (v308 : IVec S16 32) (v402 : IVec S16 32) (k0_hw30 : k0_chk30 v308 v402), ∀ a x, ((![v402, v308] : Fin 2 → IVec S16 32) a x).toNat < S32x512.size a := fun v308 v402 k0_hw30 => k0_hw30

def k0_chk31 (v308 : IVec S16 32) (v408 : IVec S16 32) : Prop :=
  (∀ a x, ((![v408, v308] : Fin 2 → IVec S16 32) a x).toNat < S32x512.size a)
theorem k0_idx29_inb : ∀ (v308 : IVec S16 32) (v408 : IVec S16 32) (k0_hw31 : k0_chk31 v308 v408), ∀ a x, ((![v408, v308] : Fin 2 → IVec S16 32) a x).toNat < S32x512.size a := fun v308 v408 k0_hw31 => k0_hw31

def k0_chk32 (v308 : IVec S16 32) (v414 : IVec S16 32) : Prop :=
  (∀ a x, ((![v414, v308] : Fin 2 → IVec S16 32) a x).toNat < S32x512.size a)
theorem k0_idx30_inb : ∀ (v308 : IVec S16 32) (v414 : IVec S16 32) (k0_hw32 : k0_chk32 v308 v414), ∀ a x, ((![v414, v308] : Fin 2 → IVec S16 32) a x).toNat < S32x512.size a := fun v308 v414 k0_hw32 => k0_hw32

def k0_chk33 (v308 : IVec S16 32) (v420 : IVec S16 32) : Prop :=
  (∀ a x, ((![v420, v308] : Fin 2 → IVec S16 32) a x).toNat < S32x512.size a)
theorem k0_idx31_inb : ∀ (v308 : IVec S16 32) (v420 : IVec S16 32) (k0_hw33 : k0_chk33 v308 v420), ∀ a x, ((![v420, v308] : Fin 2 → IVec S16 32) a x).toNat < S32x512.size a := fun v308 v420 k0_hw33 => k0_hw33

def k0_chk34 (v308 : IVec S16 32) (v426 : IVec S16 32) : Prop :=
  (∀ a x, ((![v426, v308] : Fin 2 → IVec S16 32) a x).toNat < S32x512.size a)
theorem k0_idx32_inb : ∀ (v308 : IVec S16 32) (v426 : IVec S16 32) (k0_hw34 : k0_chk34 v308 v426), ∀ a x, ((![v426, v308] : Fin 2 → IVec S16 32) a x).toNat < S32x512.size a := fun v308 v426 k0_hw34 => k0_hw34

def k0_chk35 (v308 : IVec S16 32) (v432 : IVec S16 32) : Prop :=
  (∀ a x, ((![v432, v308] : Fin 2 → IVec S16 32) a x).toNat < S32x512.size a)
theorem k0_idx33_inb : ∀ (v308 : IVec S16 32) (v432 : IVec S16 32) (k0_hw35 : k0_chk35 v308 v432), ∀ a x, ((![v432, v308] : Fin 2 → IVec S16 32) a x).toNat < S32x512.size a := fun v308 v432 k0_hw35 => k0_hw35

def k0_chk36 (v308 : IVec S16 32) (v438 : IVec S16 32) : Prop :=
  (∀ a x, ((![v438, v308] : Fin 2 → IVec S16 32) a x).toNat < S32x512.size a)
theorem k0_idx34_inb : ∀ (v308 : IVec S16 32) (v438 : IVec S16 32) (k0_hw36 : k0_chk36 v308 v438), ∀ a x, ((![v438, v308] : Fin 2 → IVec S16 32) a x).toNat < S32x512.size a := fun v308 v438 k0_hw36 => k0_hw36

def k0_chk37 (v308 : IVec S16 32) (v444 : IVec S16 32) : Prop :=
  (∀ a x, ((![v444, v308] : Fin 2 → IVec S16 32) a x).toNat < S32x512.size a)
theorem k0_idx35_inb : ∀ (v308 : IVec S16 32) (v444 : IVec S16 32) (k0_hw37 : k0_chk37 v308 v444), ∀ a x, ((![v444, v308] : Fin 2 → IVec S16 32) a x).toNat < S32x512.size a := fun v308 v444 k0_hw37 => k0_hw37

def k0_chk38 (v308 : IVec S16 32) (v450 : IVec S16 32) : Prop :=
  (∀ a x, ((![v450, v308] : Fin 2 → IVec S16 32) a x).toNat < S32x512.size a)
theorem k0_idx36_inb : ∀ (v308 : IVec S16 32) (v450 : IVec S16 32) (k0_hw38 : k0_chk38 v308 v450), ∀ a x, ((![v450, v308] : Fin 2 → IVec S16 32) a x).toNat < S32x512.size a := fun v308 v450 k0_hw38 => k0_hw38

def k0_chk39 (v308 : IVec S16 32) (v456 : IVec S16 32) : Prop :=
  (∀ a x, ((![v456, v308] : Fin 2 → IVec S16 32) a x).toNat < S32x512.size a)
theorem k0_idx37_inb : ∀ (v308 : IVec S16 32) (v456 : IVec S16 32) (k0_hw39 : k0_chk39 v308 v456), ∀ a x, ((![v456, v308] : Fin 2 → IVec S16 32) a x).toNat < S32x512.size a := fun v308 v456 k0_hw39 => k0_hw39

def k0_chk40 (v308 : IVec S16 32) (v462 : IVec S16 32) : Prop :=
  (∀ a x, ((![v462, v308] : Fin 2 → IVec S16 32) a x).toNat < S32x512.size a)
theorem k0_idx38_inb : ∀ (v308 : IVec S16 32) (v462 : IVec S16 32) (k0_hw40 : k0_chk40 v308 v462), ∀ a x, ((![v462, v308] : Fin 2 → IVec S16 32) a x).toNat < S32x512.size a := fun v308 v462 k0_hw40 => k0_hw40

def k0_chk41 (v308 : IVec S16 32) (v468 : IVec S16 32) : Prop :=
  (∀ a x, ((![v468, v308] : Fin 2 → IVec S16 32) a x).toNat < S32x512.size a)
theorem k0_idx39_inb : ∀ (v308 : IVec S16 32) (v468 : IVec S16 32) (k0_hw41 : k0_chk41 v308 v468), ∀ a x, ((![v468, v308] : Fin 2 → IVec S16 32) a x).toNat < S32x512.size a := fun v308 v468 k0_hw41 => k0_hw41

def k0_chk42 (v308 : IVec S16 32) (v474 : IVec S16 32) : Prop :=
  (∀ a x, ((![v474, v308] : Fin 2 → IVec S16 32) a x).toNat < S32x512.size a)
theorem k0_idx40_inb : ∀ (v308 : IVec S16 32) (v474 : IVec S16 32) (k0_hw42 : k0_chk42 v308 v474), ∀ a x, ((![v474, v308] : Fin 2 → IVec S16 32) a x).toNat < S32x512.size a := fun v308 v474 k0_hw42 => k0_hw42

def k0_chk43 (v308 : IVec S16 32) (v480 : IVec S16 32) : Prop :=
  (∀ a x, ((![v480, v308] : Fin 2 → IVec S16 32) a x).toNat < S32x512.size a)
theorem k0_idx41_inb : ∀ (v308 : IVec S16 32) (v480 : IVec S16 32) (k0_hw43 : k0_chk43 v308 v480), ∀ a x, ((![v480, v308] : Fin 2 → IVec S16 32) a x).toNat < S32x512.size a := fun v308 v480 k0_hw43 => k0_hw43

def k0_chk44 (v308 : IVec S16 32) (v486 : IVec S16 32) : Prop :=
  (∀ a x, ((![v486, v308] : Fin 2 → IVec S16 32) a x).toNat < S32x512.size a)
theorem k0_idx42_inb : ∀ (v308 : IVec S16 32) (v486 : IVec S16 32) (k0_hw44 : k0_chk44 v308 v486), ∀ a x, ((![v486, v308] : Fin 2 → IVec S16 32) a x).toNat < S32x512.size a := fun v308 v486 k0_hw44 => k0_hw44

def k0_chk45 (v308 : IVec S16 32) (v492 : IVec S16 32) : Prop :=
  (∀ a x, ((![v492, v308] : Fin 2 → IVec S16 32) a x).toNat < S32x512.size a)
theorem k0_idx43_inb : ∀ (v308 : IVec S16 32) (v492 : IVec S16 32) (k0_hw45 : k0_chk45 v308 v492), ∀ a x, ((![v492, v308] : Fin 2 → IVec S16 32) a x).toNat < S32x512.size a := fun v308 v492 k0_hw45 => k0_hw45

def k0_chk46 (v308 : IVec S16 32) (v498 : IVec S16 32) : Prop :=
  (∀ a x, ((![v498, v308] : Fin 2 → IVec S16 32) a x).toNat < S32x512.size a)
theorem k0_idx44_inb : ∀ (v308 : IVec S16 32) (v498 : IVec S16 32) (k0_hw46 : k0_chk46 v308 v498), ∀ a x, ((![v498, v308] : Fin 2 → IVec S16 32) a x).toNat < S32x512.size a := fun v308 v498 k0_hw46 => k0_hw46

def k0_chk47 (v310 : IVec S16 32) : Prop :=
  (∀ a x, ((![v310] : Fin 1 → IVec S16 32) a x).toNat < S16640.size a)
theorem k0_idx45_inb : ∀ (v310 : IVec S16 32) (k0_hw47 : k0_chk47 v310), ∀ a x, ((![v310] : Fin 1 → IVec S16 32) a x).toNat < S16640.size a := fun v310 k0_hw47 => k0_hw47
@[reducible] def k0_t6_loop (v207 : BitVec 32) : Scf.Loop 32 :=
  let c0_i32_174 : BitVec 32 := 0#32
  let c15_i32_171 : BitVec 32 := 15#32
  let v208 : BitVec 32 := Scalar.addi v207 c15_i32_171
  let c4_i32_172 : BitVec 32 := 4#32
  let v209 : BitVec 32 := Scalar.shrui v208 c4_i32_172
  let v210 : BitVec 32 := Scalar.subi v209 c0_i32_174
  let c1_i32_175 : BitVec 32 := 1#32
  let v212 : BitVec 32 := Scalar.divsi v210 c1_i32_175
  let v213 : BitVec 32 := Scalar.muli v212 c1_i32_175
  let v214 : BitVec 32 := Scalar.addi c0_i32_174 v213
  let v211 : BitVec 32 := Scalar.addi c0_i32_174 v210
  let c1_i32_177 : BitVec 32 := 1#32
  ⟨v214, v211, c1_i32_177⟩
def k0_off21 (v207 : BitVec 32) (k0_t6 : Fin (k0_t6_loop v207).trips) : Fin 1 → Nat :=
  let c0_i32_174 : BitVec 32 := 0#32
  let c15_i32_171 : BitVec 32 := 15#32
  let v208 : BitVec 32 := Scalar.addi v207 c15_i32_171
  let c4_i32_172 : BitVec 32 := 4#32
  let v209 : BitVec 32 := Scalar.shrui v208 c4_i32_172
  let v210 : BitVec 32 := Scalar.subi v209 c0_i32_174
  let c1_i32_175 : BitVec 32 := 1#32
  let v212 : BitVec 32 := Scalar.divsi v210 c1_i32_175
  let v213 : BitVec 32 := Scalar.muli v212 c1_i32_175
  let v214 : BitVec 32 := Scalar.addi c0_i32_174 v213
  let c1_i32_177 : BitVec 32 := 1#32
  let arg20 : BitVec 32 := Scf.iv v214 c1_i32_177 k0_t6
  let c16_i32_269 : BitVec 32 := 16#32
  let v302 : BitVec 32 := Scalar.muli arg20 c16_i32_269
  let v303 : Index := Scalar.indexCast v302
  ![v303.toNat]

def k0_chk14 (v207 : BitVec 32) : Prop :=
  ((k0_t5_loop v207).OK) ∧
  (∀ k0_t5 : Fin (k0_t5_loop v207).trips, ∀ a, (k0_off20 v207 k0_t5) a + S16.size a ≤ S16384.size a) ∧
  ((k0_t6_loop v207).OK) ∧
  (∀ k0_t6 : Fin (k0_t6_loop v207).trips, ∀ a, (k0_off21 v207 k0_t6) a + S16.size a ≤ S16384.size a)
theorem k0_t5_ok : ∀ (v207 : BitVec 32) (k0_hw14 : k0_chk14 v207), (k0_t5_loop v207).OK := fun v207 k0_hw14 => k0_hw14.1
theorem k0_off20_inb : ∀ (v207 : BitVec 32) (k0_hw14 : k0_chk14 v207) (k0_t5 : Fin (k0_t5_loop v207).trips), ∀ a, (k0_off20 v207 k0_t5) a + S16.size a ≤ S16384.size a := fun v207 k0_hw14 k0_t5 => k0_hw14.2.1 k0_t5
theorem k0_t6_ok : ∀ (v207 : BitVec 32) (k0_hw14 : k0_chk14 v207), (k0_t6_loop v207).OK := fun v207 k0_hw14 => k0_hw14.2.2.1
theorem k0_off21_inb : ∀ (v207 : BitVec 32) (k0_hw14 : k0_chk14 v207) (k0_t6 : Fin (k0_t6_loop v207).trips), ∀ a, (k0_off21 v207 k0_t6) a + S16.size a ≤ S16384.size a := fun v207 k0_hw14 k0_t6 => k0_hw14.2.2.2 k0_t6

def k0_chk48 (v308 : IVec S16 32) (v312 : IVec S16 32) : Prop :=
  (∀ a x, ((![v312, v308] : Fin 2 → IVec S16 32) a x).toNat < S32x512.size a)
theorem k0_idx46_inb : ∀ (v308 : IVec S16 32) (v312 : IVec S16 32) (k0_hw48 : k0_chk48 v308 v312), ∀ a x, ((![v312, v308] : Fin 2 → IVec S16 32) a x).toNat < S32x512.size a := fun v308 v312 k0_hw48 => k0_hw48

def k0_chk49 (v308 : IVec S16 32) (v318 : IVec S16 32) : Prop :=
  (∀ a x, ((![v318, v308] : Fin 2 → IVec S16 32) a x).toNat < S32x512.size a)
theorem k0_idx47_inb : ∀ (v308 : IVec S16 32) (v318 : IVec S16 32) (k0_hw49 : k0_chk49 v308 v318), ∀ a x, ((![v318, v308] : Fin 2 → IVec S16 32) a x).toNat < S32x512.size a := fun v308 v318 k0_hw49 => k0_hw49

def k0_chk50 (v308 : IVec S16 32) (v324 : IVec S16 32) : Prop :=
  (∀ a x, ((![v324, v308] : Fin 2 → IVec S16 32) a x).toNat < S32x512.size a)
theorem k0_idx48_inb : ∀ (v308 : IVec S16 32) (v324 : IVec S16 32) (k0_hw50 : k0_chk50 v308 v324), ∀ a x, ((![v324, v308] : Fin 2 → IVec S16 32) a x).toNat < S32x512.size a := fun v308 v324 k0_hw50 => k0_hw50

def k0_chk51 (v308 : IVec S16 32) (v330 : IVec S16 32) : Prop :=
  (∀ a x, ((![v330, v308] : Fin 2 → IVec S16 32) a x).toNat < S32x512.size a)
theorem k0_idx49_inb : ∀ (v308 : IVec S16 32) (v330 : IVec S16 32) (k0_hw51 : k0_chk51 v308 v330), ∀ a x, ((![v330, v308] : Fin 2 → IVec S16 32) a x).toNat < S32x512.size a := fun v308 v330 k0_hw51 => k0_hw51

def k0_chk52 (v308 : IVec S16 32) (v336 : IVec S16 32) : Prop :=
  (∀ a x, ((![v336, v308] : Fin 2 → IVec S16 32) a x).toNat < S32x512.size a)
theorem k0_idx50_inb : ∀ (v308 : IVec S16 32) (v336 : IVec S16 32) (k0_hw52 : k0_chk52 v308 v336), ∀ a x, ((![v336, v308] : Fin 2 → IVec S16 32) a x).toNat < S32x512.size a := fun v308 v336 k0_hw52 => k0_hw52

def k0_chk53 (v308 : IVec S16 32) (v342 : IVec S16 32) : Prop :=
  (∀ a x, ((![v342, v308] : Fin 2 → IVec S16 32) a x).toNat < S32x512.size a)
theorem k0_idx51_inb : ∀ (v308 : IVec S16 32) (v342 : IVec S16 32) (k0_hw53 : k0_chk53 v308 v342), ∀ a x, ((![v342, v308] : Fin 2 → IVec S16 32) a x).toNat < S32x512.size a := fun v308 v342 k0_hw53 => k0_hw53

def k0_chk54 (v308 : IVec S16 32) (v348 : IVec S16 32) : Prop :=
  (∀ a x, ((![v348, v308] : Fin 2 → IVec S16 32) a x).toNat < S32x512.size a)
theorem k0_idx52_inb : ∀ (v308 : IVec S16 32) (v348 : IVec S16 32) (k0_hw54 : k0_chk54 v308 v348), ∀ a x, ((![v348, v308] : Fin 2 → IVec S16 32) a x).toNat < S32x512.size a := fun v308 v348 k0_hw54 => k0_hw54

def k0_chk55 (v308 : IVec S16 32) (v354 : IVec S16 32) : Prop :=
  (∀ a x, ((![v354, v308] : Fin 2 → IVec S16 32) a x).toNat < S32x512.size a)
theorem k0_idx53_inb : ∀ (v308 : IVec S16 32) (v354 : IVec S16 32) (k0_hw55 : k0_chk55 v308 v354), ∀ a x, ((![v354, v308] : Fin 2 → IVec S16 32) a x).toNat < S32x512.size a := fun v308 v354 k0_hw55 => k0_hw55

def k0_chk56 (v308 : IVec S16 32) (v360 : IVec S16 32) : Prop :=
  (∀ a x, ((![v360, v308] : Fin 2 → IVec S16 32) a x).toNat < S32x512.size a)
theorem k0_idx54_inb : ∀ (v308 : IVec S16 32) (v360 : IVec S16 32) (k0_hw56 : k0_chk56 v308 v360), ∀ a x, ((![v360, v308] : Fin 2 → IVec S16 32) a x).toNat < S32x512.size a := fun v308 v360 k0_hw56 => k0_hw56

def k0_chk57 (v308 : IVec S16 32) (v366 : IVec S16 32) : Prop :=
  (∀ a x, ((![v366, v308] : Fin 2 → IVec S16 32) a x).toNat < S32x512.size a)
theorem k0_idx55_inb : ∀ (v308 : IVec S16 32) (v366 : IVec S16 32) (k0_hw57 : k0_chk57 v308 v366), ∀ a x, ((![v366, v308] : Fin 2 → IVec S16 32) a x).toNat < S32x512.size a := fun v308 v366 k0_hw57 => k0_hw57

def k0_chk58 (v308 : IVec S16 32) (v372 : IVec S16 32) : Prop :=
  (∀ a x, ((![v372, v308] : Fin 2 → IVec S16 32) a x).toNat < S32x512.size a)
theorem k0_idx56_inb : ∀ (v308 : IVec S16 32) (v372 : IVec S16 32) (k0_hw58 : k0_chk58 v308 v372), ∀ a x, ((![v372, v308] : Fin 2 → IVec S16 32) a x).toNat < S32x512.size a := fun v308 v372 k0_hw58 => k0_hw58

def k0_chk59 (v308 : IVec S16 32) (v378 : IVec S16 32) : Prop :=
  (∀ a x, ((![v378, v308] : Fin 2 → IVec S16 32) a x).toNat < S32x512.size a)
theorem k0_idx57_inb : ∀ (v308 : IVec S16 32) (v378 : IVec S16 32) (k0_hw59 : k0_chk59 v308 v378), ∀ a x, ((![v378, v308] : Fin 2 → IVec S16 32) a x).toNat < S32x512.size a := fun v308 v378 k0_hw59 => k0_hw59

def k0_chk60 (v308 : IVec S16 32) (v384 : IVec S16 32) : Prop :=
  (∀ a x, ((![v384, v308] : Fin 2 → IVec S16 32) a x).toNat < S32x512.size a)
theorem k0_idx58_inb : ∀ (v308 : IVec S16 32) (v384 : IVec S16 32) (k0_hw60 : k0_chk60 v308 v384), ∀ a x, ((![v384, v308] : Fin 2 → IVec S16 32) a x).toNat < S32x512.size a := fun v308 v384 k0_hw60 => k0_hw60

def k0_chk61 (v308 : IVec S16 32) (v390 : IVec S16 32) : Prop :=
  (∀ a x, ((![v390, v308] : Fin 2 → IVec S16 32) a x).toNat < S32x512.size a)
theorem k0_idx59_inb : ∀ (v308 : IVec S16 32) (v390 : IVec S16 32) (k0_hw61 : k0_chk61 v308 v390), ∀ a x, ((![v390, v308] : Fin 2 → IVec S16 32) a x).toNat < S32x512.size a := fun v308 v390 k0_hw61 => k0_hw61

def k0_chk62 (v308 : IVec S16 32) (v396 : IVec S16 32) : Prop :=
  (∀ a x, ((![v396, v308] : Fin 2 → IVec S16 32) a x).toNat < S32x512.size a)
theorem k0_idx60_inb : ∀ (v308 : IVec S16 32) (v396 : IVec S16 32) (k0_hw62 : k0_chk62 v308 v396), ∀ a x, ((![v396, v308] : Fin 2 → IVec S16 32) a x).toNat < S32x512.size a := fun v308 v396 k0_hw62 => k0_hw62

def k0_chk63 (v308 : IVec S16 32) (v402 : IVec S16 32) : Prop :=
  (∀ a x, ((![v402, v308] : Fin 2 → IVec S16 32) a x).toNat < S32x512.size a)
theorem k0_idx61_inb : ∀ (v308 : IVec S16 32) (v402 : IVec S16 32) (k0_hw63 : k0_chk63 v308 v402), ∀ a x, ((![v402, v308] : Fin 2 → IVec S16 32) a x).toNat < S32x512.size a := fun v308 v402 k0_hw63 => k0_hw63

def k0_chk64 (v308 : IVec S16 32) (v408 : IVec S16 32) : Prop :=
  (∀ a x, ((![v408, v308] : Fin 2 → IVec S16 32) a x).toNat < S32x512.size a)
theorem k0_idx62_inb : ∀ (v308 : IVec S16 32) (v408 : IVec S16 32) (k0_hw64 : k0_chk64 v308 v408), ∀ a x, ((![v408, v308] : Fin 2 → IVec S16 32) a x).toNat < S32x512.size a := fun v308 v408 k0_hw64 => k0_hw64

def k0_chk65 (v308 : IVec S16 32) (v414 : IVec S16 32) : Prop :=
  (∀ a x, ((![v414, v308] : Fin 2 → IVec S16 32) a x).toNat < S32x512.size a)
theorem k0_idx63_inb : ∀ (v308 : IVec S16 32) (v414 : IVec S16 32) (k0_hw65 : k0_chk65 v308 v414), ∀ a x, ((![v414, v308] : Fin 2 → IVec S16 32) a x).toNat < S32x512.size a := fun v308 v414 k0_hw65 => k0_hw65

def k0_chk66 (v308 : IVec S16 32) (v420 : IVec S16 32) : Prop :=
  (∀ a x, ((![v420, v308] : Fin 2 → IVec S16 32) a x).toNat < S32x512.size a)
theorem k0_idx64_inb : ∀ (v308 : IVec S16 32) (v420 : IVec S16 32) (k0_hw66 : k0_chk66 v308 v420), ∀ a x, ((![v420, v308] : Fin 2 → IVec S16 32) a x).toNat < S32x512.size a := fun v308 v420 k0_hw66 => k0_hw66

def k0_chk67 (v308 : IVec S16 32) (v426 : IVec S16 32) : Prop :=
  (∀ a x, ((![v426, v308] : Fin 2 → IVec S16 32) a x).toNat < S32x512.size a)
theorem k0_idx65_inb : ∀ (v308 : IVec S16 32) (v426 : IVec S16 32) (k0_hw67 : k0_chk67 v308 v426), ∀ a x, ((![v426, v308] : Fin 2 → IVec S16 32) a x).toNat < S32x512.size a := fun v308 v426 k0_hw67 => k0_hw67

def k0_chk68 (v308 : IVec S16 32) (v432 : IVec S16 32) : Prop :=
  (∀ a x, ((![v432, v308] : Fin 2 → IVec S16 32) a x).toNat < S32x512.size a)
theorem k0_idx66_inb : ∀ (v308 : IVec S16 32) (v432 : IVec S16 32) (k0_hw68 : k0_chk68 v308 v432), ∀ a x, ((![v432, v308] : Fin 2 → IVec S16 32) a x).toNat < S32x512.size a := fun v308 v432 k0_hw68 => k0_hw68

def k0_chk69 (v308 : IVec S16 32) (v438 : IVec S16 32) : Prop :=
  (∀ a x, ((![v438, v308] : Fin 2 → IVec S16 32) a x).toNat < S32x512.size a)
theorem k0_idx67_inb : ∀ (v308 : IVec S16 32) (v438 : IVec S16 32) (k0_hw69 : k0_chk69 v308 v438), ∀ a x, ((![v438, v308] : Fin 2 → IVec S16 32) a x).toNat < S32x512.size a := fun v308 v438 k0_hw69 => k0_hw69

def k0_chk70 (v308 : IVec S16 32) (v444 : IVec S16 32) : Prop :=
  (∀ a x, ((![v444, v308] : Fin 2 → IVec S16 32) a x).toNat < S32x512.size a)
theorem k0_idx68_inb : ∀ (v308 : IVec S16 32) (v444 : IVec S16 32) (k0_hw70 : k0_chk70 v308 v444), ∀ a x, ((![v444, v308] : Fin 2 → IVec S16 32) a x).toNat < S32x512.size a := fun v308 v444 k0_hw70 => k0_hw70

def k0_chk71 (v308 : IVec S16 32) (v450 : IVec S16 32) : Prop :=
  (∀ a x, ((![v450, v308] : Fin 2 → IVec S16 32) a x).toNat < S32x512.size a)
theorem k0_idx69_inb : ∀ (v308 : IVec S16 32) (v450 : IVec S16 32) (k0_hw71 : k0_chk71 v308 v450), ∀ a x, ((![v450, v308] : Fin 2 → IVec S16 32) a x).toNat < S32x512.size a := fun v308 v450 k0_hw71 => k0_hw71

def k0_chk72 (v308 : IVec S16 32) (v456 : IVec S16 32) : Prop :=
  (∀ a x, ((![v456, v308] : Fin 2 → IVec S16 32) a x).toNat < S32x512.size a)
theorem k0_idx70_inb : ∀ (v308 : IVec S16 32) (v456 : IVec S16 32) (k0_hw72 : k0_chk72 v308 v456), ∀ a x, ((![v456, v308] : Fin 2 → IVec S16 32) a x).toNat < S32x512.size a := fun v308 v456 k0_hw72 => k0_hw72

def k0_chk73 (v308 : IVec S16 32) (v462 : IVec S16 32) : Prop :=
  (∀ a x, ((![v462, v308] : Fin 2 → IVec S16 32) a x).toNat < S32x512.size a)
theorem k0_idx71_inb : ∀ (v308 : IVec S16 32) (v462 : IVec S16 32) (k0_hw73 : k0_chk73 v308 v462), ∀ a x, ((![v462, v308] : Fin 2 → IVec S16 32) a x).toNat < S32x512.size a := fun v308 v462 k0_hw73 => k0_hw73

def k0_chk74 (v308 : IVec S16 32) (v468 : IVec S16 32) : Prop :=
  (∀ a x, ((![v468, v308] : Fin 2 → IVec S16 32) a x).toNat < S32x512.size a)
theorem k0_idx72_inb : ∀ (v308 : IVec S16 32) (v468 : IVec S16 32) (k0_hw74 : k0_chk74 v308 v468), ∀ a x, ((![v468, v308] : Fin 2 → IVec S16 32) a x).toNat < S32x512.size a := fun v308 v468 k0_hw74 => k0_hw74

def k0_chk75 (v308 : IVec S16 32) (v474 : IVec S16 32) : Prop :=
  (∀ a x, ((![v474, v308] : Fin 2 → IVec S16 32) a x).toNat < S32x512.size a)
theorem k0_idx73_inb : ∀ (v308 : IVec S16 32) (v474 : IVec S16 32) (k0_hw75 : k0_chk75 v308 v474), ∀ a x, ((![v474, v308] : Fin 2 → IVec S16 32) a x).toNat < S32x512.size a := fun v308 v474 k0_hw75 => k0_hw75

def k0_chk76 (v308 : IVec S16 32) (v480 : IVec S16 32) : Prop :=
  (∀ a x, ((![v480, v308] : Fin 2 → IVec S16 32) a x).toNat < S32x512.size a)
theorem k0_idx74_inb : ∀ (v308 : IVec S16 32) (v480 : IVec S16 32) (k0_hw76 : k0_chk76 v308 v480), ∀ a x, ((![v480, v308] : Fin 2 → IVec S16 32) a x).toNat < S32x512.size a := fun v308 v480 k0_hw76 => k0_hw76

def k0_chk77 (v308 : IVec S16 32) (v486 : IVec S16 32) : Prop :=
  (∀ a x, ((![v486, v308] : Fin 2 → IVec S16 32) a x).toNat < S32x512.size a)
theorem k0_idx75_inb : ∀ (v308 : IVec S16 32) (v486 : IVec S16 32) (k0_hw77 : k0_chk77 v308 v486), ∀ a x, ((![v486, v308] : Fin 2 → IVec S16 32) a x).toNat < S32x512.size a := fun v308 v486 k0_hw77 => k0_hw77

def k0_chk78 (v308 : IVec S16 32) (v492 : IVec S16 32) : Prop :=
  (∀ a x, ((![v492, v308] : Fin 2 → IVec S16 32) a x).toNat < S32x512.size a)
theorem k0_idx76_inb : ∀ (v308 : IVec S16 32) (v492 : IVec S16 32) (k0_hw78 : k0_chk78 v308 v492), ∀ a x, ((![v492, v308] : Fin 2 → IVec S16 32) a x).toNat < S32x512.size a := fun v308 v492 k0_hw78 => k0_hw78

def k0_chk79 (v308 : IVec S16 32) (v498 : IVec S16 32) : Prop :=
  (∀ a x, ((![v498, v308] : Fin 2 → IVec S16 32) a x).toNat < S32x512.size a)
theorem k0_idx77_inb : ∀ (v308 : IVec S16 32) (v498 : IVec S16 32) (k0_hw79 : k0_chk79 v308 v498), ∀ a x, ((![v498, v308] : Fin 2 → IVec S16 32) a x).toNat < S32x512.size a := fun v308 v498 k0_hw79 => k0_hw79

def k0_chk80 (v310 : IVec S16 32) : Prop :=
  (∀ a x, ((![v310] : Fin 1 → IVec S16 32) a x).toNat < S16640.size a)
theorem k0_idx78_inb : ∀ (v310 : IVec S16 32) (k0_hw80 : k0_chk80 v310), ∀ a x, ((![v310] : Fin 1 → IVec S16 32) a x).toNat < S16640.size a := fun v310 k0_hw80 => k0_hw80
def k0_cond2 (k0_t2 : Fin k0_t2_loop.trips) : BitVec 1 :=
  let c3_i32_178 : BitVec 32 := 3#32
  let c0_i32_80 : BitVec 32 := 0#32
  let c1_i32_81 : BitVec 32 := 1#32
  let arg19 : BitVec 32 := Scf.iv c0_i32_80 c1_i32_81 k0_t2
  let v215 : BitVec 32 := Scalar.muli c3_i32_178 arg19
  let c1_i32_179 : BitVec 32 := 1#32
  let v216 : BitVec 32 := Scalar.addi v215 c1_i32_179
  let c59_i32_180 : BitVec 32 := 59#32
  let v218 : BitVec 1 := Scalar.cmpi .slt v216 c59_i32_180
  let v219 : BitVec 32 := Scalar.extui v218
  let c0_i32_181 : BitVec 32 := 0#32
  let v220 : BitVec 1 := Scalar.cmpi .ne v219 c0_i32_181
  v220

def k0_off22 (i : grid0.Coords) (k0_t2 : Fin k0_t2_loop.trips) : Fin 2 → Nat :=
  let c0_i32_275 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32_178 : BitVec 32 := 3#32
  let c0_i32_80 : BitVec 32 := 0#32
  let c1_i32_81 : BitVec 32 := 1#32
  let arg19 : BitVec 32 := Scf.iv c0_i32_80 c1_i32_81 k0_t2
  let v215 : BitVec 32 := Scalar.muli c3_i32_178 arg19
  let c1_i32_179 : BitVec 32 := 1#32
  let v216 : BitVec 32 := Scalar.addi v215 c1_i32_179
  let v217 : BitVec 32 := Scalar.addi v84 v216
  let c2_i32_268 : BitVec 32 := 2#32
  let v297 : BitVec 32 := Scalar.addi v217 c2_i32_268
  let c512_i32_269 : BitVec 32 := 512#32
  let v298 : BitVec 32 := Scalar.muli v297 c512_i32_269
  ![0, v298.toNat]
def k0_off23 (i : grid0.Coords) (k0_t2 : Fin k0_t2_loop.trips) : Fin 2 → Nat :=
  let c8_i32_281 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32_178 : BitVec 32 := 3#32
  let c0_i32_80 : BitVec 32 := 0#32
  let c1_i32_81 : BitVec 32 := 1#32
  let arg19 : BitVec 32 := Scf.iv c0_i32_80 c1_i32_81 k0_t2
  let v215 : BitVec 32 := Scalar.muli c3_i32_178 arg19
  let c1_i32_179 : BitVec 32 := 1#32
  let v216 : BitVec 32 := Scalar.addi v215 c1_i32_179
  let v217 : BitVec 32 := Scalar.addi v84 v216
  let c2_i32_268 : BitVec 32 := 2#32
  let v297 : BitVec 32 := Scalar.addi v217 c2_i32_268
  let c512_i32_270 : BitVec 32 := 512#32
  let v299 : BitVec 32 := Scalar.muli v297 c512_i32_270
  ![8, v299.toNat]
def k0_off24 (i : grid0.Coords) (k0_t2 : Fin k0_t2_loop.trips) : Fin 2 → Nat :=
  let c16_i32_287 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32_178 : BitVec 32 := 3#32
  let c0_i32_80 : BitVec 32 := 0#32
  let c1_i32_81 : BitVec 32 := 1#32
  let arg19 : BitVec 32 := Scf.iv c0_i32_80 c1_i32_81 k0_t2
  let v215 : BitVec 32 := Scalar.muli c3_i32_178 arg19
  let c1_i32_179 : BitVec 32 := 1#32
  let v216 : BitVec 32 := Scalar.addi v215 c1_i32_179
  let v217 : BitVec 32 := Scalar.addi v84 v216
  let c2_i32_268 : BitVec 32 := 2#32
  let v297 : BitVec 32 := Scalar.addi v217 c2_i32_268
  let c512_i32_271 : BitVec 32 := 512#32
  let v300 : BitVec 32 := Scalar.muli v297 c512_i32_271
  ![16, v300.toNat]
def k0_off25 (i : grid0.Coords) (k0_t2 : Fin k0_t2_loop.trips) : Fin 2 → Nat :=
  let c24_i32_293 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32_178 : BitVec 32 := 3#32
  let c0_i32_80 : BitVec 32 := 0#32
  let c1_i32_81 : BitVec 32 := 1#32
  let arg19 : BitVec 32 := Scf.iv c0_i32_80 c1_i32_81 k0_t2
  let v215 : BitVec 32 := Scalar.muli c3_i32_178 arg19
  let c1_i32_179 : BitVec 32 := 1#32
  let v216 : BitVec 32 := Scalar.addi v215 c1_i32_179
  let v217 : BitVec 32 := Scalar.addi v84 v216
  let c2_i32_268 : BitVec 32 := 2#32
  let v297 : BitVec 32 := Scalar.addi v217 c2_i32_268
  let c512_i32_272 : BitVec 32 := 512#32
  let v301 : BitVec 32 := Scalar.muli v297 c512_i32_272
  ![24, v301.toNat]
def k0_off26 (i : grid0.Coords) (k0_t2 : Fin k0_t2_loop.trips) : Fin 2 → Nat :=
  let c0_i32_188 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32_178 : BitVec 32 := 3#32
  let c0_i32_80 : BitVec 32 := 0#32
  let c1_i32_81 : BitVec 32 := 1#32
  let arg19 : BitVec 32 := Scf.iv c0_i32_80 c1_i32_81 k0_t2
  let v215 : BitVec 32 := Scalar.muli c3_i32_178 arg19
  let c1_i32_179 : BitVec 32 := 1#32
  let v216 : BitVec 32 := Scalar.addi v215 c1_i32_179
  let v217 : BitVec 32 := Scalar.addi v84 v216
  let c512_i32_182 : BitVec 32 := 512#32
  let v221 : BitVec 32 := Scalar.muli v217 c512_i32_182
  ![0, v221.toNat]
def k0_off27 (i : grid0.Coords) (k0_t2 : Fin k0_t2_loop.trips) : Fin 2 → Nat :=
  let c8_i32_194 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32_178 : BitVec 32 := 3#32
  let c0_i32_80 : BitVec 32 := 0#32
  let c1_i32_81 : BitVec 32 := 1#32
  let arg19 : BitVec 32 := Scf.iv c0_i32_80 c1_i32_81 k0_t2
  let v215 : BitVec 32 := Scalar.muli c3_i32_178 arg19
  let c1_i32_179 : BitVec 32 := 1#32
  let v216 : BitVec 32 := Scalar.addi v215 c1_i32_179
  let v217 : BitVec 32 := Scalar.addi v84 v216
  let c512_i32_183 : BitVec 32 := 512#32
  let v222 : BitVec 32 := Scalar.muli v217 c512_i32_183
  ![8, v222.toNat]
def k0_off28 (i : grid0.Coords) (k0_t2 : Fin k0_t2_loop.trips) : Fin 2 → Nat :=
  let c16_i32_200 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32_178 : BitVec 32 := 3#32
  let c0_i32_80 : BitVec 32 := 0#32
  let c1_i32_81 : BitVec 32 := 1#32
  let arg19 : BitVec 32 := Scf.iv c0_i32_80 c1_i32_81 k0_t2
  let v215 : BitVec 32 := Scalar.muli c3_i32_178 arg19
  let c1_i32_179 : BitVec 32 := 1#32
  let v216 : BitVec 32 := Scalar.addi v215 c1_i32_179
  let v217 : BitVec 32 := Scalar.addi v84 v216
  let c512_i32_184 : BitVec 32 := 512#32
  let v223 : BitVec 32 := Scalar.muli v217 c512_i32_184
  ![16, v223.toNat]
def k0_off29 (i : grid0.Coords) (k0_t2 : Fin k0_t2_loop.trips) : Fin 2 → Nat :=
  let c24_i32_206 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32_178 : BitVec 32 := 3#32
  let c0_i32_80 : BitVec 32 := 0#32
  let c1_i32_81 : BitVec 32 := 1#32
  let arg19 : BitVec 32 := Scf.iv c0_i32_80 c1_i32_81 k0_t2
  let v215 : BitVec 32 := Scalar.muli c3_i32_178 arg19
  let c1_i32_179 : BitVec 32 := 1#32
  let v216 : BitVec 32 := Scalar.addi v215 c1_i32_179
  let v217 : BitVec 32 := Scalar.addi v84 v216
  let c512_i32_185 : BitVec 32 := 512#32
  let v224 : BitVec 32 := Scalar.muli v217 c512_i32_185
  ![24, v224.toNat]
@[reducible] def k0_t7_loop (v8 : BitVec 32) : Scf.Loop 32 :=
  let c0_i32_211 : BitVec 32 := 0#32
  let c15_i32 : BitVec 32 := 15#32
  let v82 : BitVec 32 := Scalar.addi v8 c15_i32
  let c4_i32 : BitVec 32 := 4#32
  let v83 : BitVec 32 := Scalar.shrui v82 c4_i32
  let v242 : BitVec 32 := Scalar.subi v83 c0_i32_211
  let c1_i32_213 : BitVec 32 := 1#32
  let v244 : BitVec 32 := Scalar.divsi v242 c1_i32_213
  let v245 : BitVec 32 := Scalar.muli v244 c1_i32_213
  let v246 : BitVec 32 := Scalar.addi c0_i32_211 v245
  let c1_i32_214 : BitVec 32 := 1#32
  ⟨c0_i32_211, v246, c1_i32_214⟩
def k0_off30 (v8 : BitVec 32) (k0_t7 : Fin (k0_t7_loop v8).trips) : Fin 1 → Nat :=
  let c0_i32_211 : BitVec 32 := 0#32
  let c1_i32_214 : BitVec 32 := 1#32
  let arg20 : BitVec 32 := Scf.iv c0_i32_211 c1_i32_214 k0_t7
  let c16_i32_268 : BitVec 32 := 16#32
  let v297 : BitVec 32 := Scalar.muli arg20 c16_i32_268
  let v298 : Index := Scalar.indexCast v297
  ![v298.toNat]

def k0_chk81 (v314 : IVec S16 32) : Prop :=
  (∀ a x, ((![v314] : Fin 1 → IVec S16 32) a x).toNat < S16384.size a)
theorem k0_idx79_inb : ∀ (v314 : IVec S16 32) (k0_hw81 : k0_chk81 v314), ∀ a x, ((![v314] : Fin 1 → IVec S16 32) a x).toNat < S16384.size a := fun v314 k0_hw81 => k0_hw81
@[reducible] def k0_t8_loop (v8 : BitVec 32) : Scf.Loop 32 :=
  let c0_i32_211 : BitVec 32 := 0#32
  let c15_i32 : BitVec 32 := 15#32
  let v82 : BitVec 32 := Scalar.addi v8 c15_i32
  let c4_i32 : BitVec 32 := 4#32
  let v83 : BitVec 32 := Scalar.shrui v82 c4_i32
  let v242 : BitVec 32 := Scalar.subi v83 c0_i32_211
  let c1_i32_213 : BitVec 32 := 1#32
  let v244 : BitVec 32 := Scalar.divsi v242 c1_i32_213
  let v245 : BitVec 32 := Scalar.muli v244 c1_i32_213
  let v246 : BitVec 32 := Scalar.addi c0_i32_211 v245
  let v243 : BitVec 32 := Scalar.addi c0_i32_211 v242
  let c1_i32_215 : BitVec 32 := 1#32
  ⟨v246, v243, c1_i32_215⟩
def k0_off31 (v8 : BitVec 32) (k0_t8 : Fin (k0_t8_loop v8).trips) : Fin 1 → Nat :=
  let c0_i32_211 : BitVec 32 := 0#32
  let c15_i32 : BitVec 32 := 15#32
  let v82 : BitVec 32 := Scalar.addi v8 c15_i32
  let c4_i32 : BitVec 32 := 4#32
  let v83 : BitVec 32 := Scalar.shrui v82 c4_i32
  let v242 : BitVec 32 := Scalar.subi v83 c0_i32_211
  let c1_i32_213 : BitVec 32 := 1#32
  let v244 : BitVec 32 := Scalar.divsi v242 c1_i32_213
  let v245 : BitVec 32 := Scalar.muli v244 c1_i32_213
  let v246 : BitVec 32 := Scalar.addi c0_i32_211 v245
  let c1_i32_215 : BitVec 32 := 1#32
  let arg20 : BitVec 32 := Scf.iv v246 c1_i32_215 k0_t8
  let c16_i32_268 : BitVec 32 := 16#32
  let v297 : BitVec 32 := Scalar.muli arg20 c16_i32_268
  let v298 : Index := Scalar.indexCast v297
  ![v298.toNat]

def k0_chk82 (v314 : IVec S16 32) : Prop :=
  (∀ a x, ((![v314] : Fin 1 → IVec S16 32) a x).toNat < S16384.size a)
theorem k0_idx80_inb : ∀ (v314 : IVec S16 32) (k0_hw82 : k0_chk82 v314), ∀ a x, ((![v314] : Fin 1 → IVec S16 32) a x).toNat < S16384.size a := fun v314 k0_hw82 => k0_hw82
@[reducible] def k0_t9_loop (v248 : BitVec 32) : Scf.Loop 32 :=
  let c0_i32_219 : BitVec 32 := 0#32
  let c15_i32_216 : BitVec 32 := 15#32
  let v249 : BitVec 32 := Scalar.addi v248 c15_i32_216
  let c4_i32_217 : BitVec 32 := 4#32
  let v250 : BitVec 32 := Scalar.shrui v249 c4_i32_217
  let v251 : BitVec 32 := Scalar.subi v250 c0_i32_219
  let c1_i32_220 : BitVec 32 := 1#32
  let v253 : BitVec 32 := Scalar.divsi v251 c1_i32_220
  let v254 : BitVec 32 := Scalar.muli v253 c1_i32_220
  let v255 : BitVec 32 := Scalar.addi c0_i32_219 v254
  let c1_i32_221 : BitVec 32 := 1#32
  ⟨c0_i32_219, v255, c1_i32_221⟩

def k0_off32 (v248 : BitVec 32) (k0_t9 : Fin (k0_t9_loop v248).trips) : Fin 1 → Nat :=
  let c0_i32_219 : BitVec 32 := 0#32
  let c1_i32_221 : BitVec 32 := 1#32
  let arg20 : BitVec 32 := Scf.iv c0_i32_219 c1_i32_221 k0_t9
  let c16_i32_269 : BitVec 32 := 16#32
  let v302 : BitVec 32 := Scalar.muli arg20 c16_i32_269
  let v303 : Index := Scalar.indexCast v302
  ![v303.toNat]

def k0_chk84 (v308 : IVec S16 32) (v312 : IVec S16 32) : Prop :=
  (∀ a x, ((![v312, v308] : Fin 2 → IVec S16 32) a x).toNat < S32x512.size a)
theorem k0_idx81_inb : ∀ (v308 : IVec S16 32) (v312 : IVec S16 32) (k0_hw84 : k0_chk84 v308 v312), ∀ a x, ((![v312, v308] : Fin 2 → IVec S16 32) a x).toNat < S32x512.size a := fun v308 v312 k0_hw84 => k0_hw84

def k0_chk85 (v308 : IVec S16 32) (v318 : IVec S16 32) : Prop :=
  (∀ a x, ((![v318, v308] : Fin 2 → IVec S16 32) a x).toNat < S32x512.size a)
theorem k0_idx82_inb : ∀ (v308 : IVec S16 32) (v318 : IVec S16 32) (k0_hw85 : k0_chk85 v308 v318), ∀ a x, ((![v318, v308] : Fin 2 → IVec S16 32) a x).toNat < S32x512.size a := fun v308 v318 k0_hw85 => k0_hw85

def k0_chk86 (v308 : IVec S16 32) (v324 : IVec S16 32) : Prop :=
  (∀ a x, ((![v324, v308] : Fin 2 → IVec S16 32) a x).toNat < S32x512.size a)
theorem k0_idx83_inb : ∀ (v308 : IVec S16 32) (v324 : IVec S16 32) (k0_hw86 : k0_chk86 v308 v324), ∀ a x, ((![v324, v308] : Fin 2 → IVec S16 32) a x).toNat < S32x512.size a := fun v308 v324 k0_hw86 => k0_hw86

def k0_chk87 (v308 : IVec S16 32) (v330 : IVec S16 32) : Prop :=
  (∀ a x, ((![v330, v308] : Fin 2 → IVec S16 32) a x).toNat < S32x512.size a)
theorem k0_idx84_inb : ∀ (v308 : IVec S16 32) (v330 : IVec S16 32) (k0_hw87 : k0_chk87 v308 v330), ∀ a x, ((![v330, v308] : Fin 2 → IVec S16 32) a x).toNat < S32x512.size a := fun v308 v330 k0_hw87 => k0_hw87

def k0_chk88 (v308 : IVec S16 32) (v336 : IVec S16 32) : Prop :=
  (∀ a x, ((![v336, v308] : Fin 2 → IVec S16 32) a x).toNat < S32x512.size a)
theorem k0_idx85_inb : ∀ (v308 : IVec S16 32) (v336 : IVec S16 32) (k0_hw88 : k0_chk88 v308 v336), ∀ a x, ((![v336, v308] : Fin 2 → IVec S16 32) a x).toNat < S32x512.size a := fun v308 v336 k0_hw88 => k0_hw88

def k0_chk89 (v308 : IVec S16 32) (v342 : IVec S16 32) : Prop :=
  (∀ a x, ((![v342, v308] : Fin 2 → IVec S16 32) a x).toNat < S32x512.size a)
theorem k0_idx86_inb : ∀ (v308 : IVec S16 32) (v342 : IVec S16 32) (k0_hw89 : k0_chk89 v308 v342), ∀ a x, ((![v342, v308] : Fin 2 → IVec S16 32) a x).toNat < S32x512.size a := fun v308 v342 k0_hw89 => k0_hw89

def k0_chk90 (v308 : IVec S16 32) (v348 : IVec S16 32) : Prop :=
  (∀ a x, ((![v348, v308] : Fin 2 → IVec S16 32) a x).toNat < S32x512.size a)
theorem k0_idx87_inb : ∀ (v308 : IVec S16 32) (v348 : IVec S16 32) (k0_hw90 : k0_chk90 v308 v348), ∀ a x, ((![v348, v308] : Fin 2 → IVec S16 32) a x).toNat < S32x512.size a := fun v308 v348 k0_hw90 => k0_hw90

def k0_chk91 (v308 : IVec S16 32) (v354 : IVec S16 32) : Prop :=
  (∀ a x, ((![v354, v308] : Fin 2 → IVec S16 32) a x).toNat < S32x512.size a)
theorem k0_idx88_inb : ∀ (v308 : IVec S16 32) (v354 : IVec S16 32) (k0_hw91 : k0_chk91 v308 v354), ∀ a x, ((![v354, v308] : Fin 2 → IVec S16 32) a x).toNat < S32x512.size a := fun v308 v354 k0_hw91 => k0_hw91

def k0_chk92 (v308 : IVec S16 32) (v360 : IVec S16 32) : Prop :=
  (∀ a x, ((![v360, v308] : Fin 2 → IVec S16 32) a x).toNat < S32x512.size a)
theorem k0_idx89_inb : ∀ (v308 : IVec S16 32) (v360 : IVec S16 32) (k0_hw92 : k0_chk92 v308 v360), ∀ a x, ((![v360, v308] : Fin 2 → IVec S16 32) a x).toNat < S32x512.size a := fun v308 v360 k0_hw92 => k0_hw92

def k0_chk93 (v308 : IVec S16 32) (v366 : IVec S16 32) : Prop :=
  (∀ a x, ((![v366, v308] : Fin 2 → IVec S16 32) a x).toNat < S32x512.size a)
theorem k0_idx90_inb : ∀ (v308 : IVec S16 32) (v366 : IVec S16 32) (k0_hw93 : k0_chk93 v308 v366), ∀ a x, ((![v366, v308] : Fin 2 → IVec S16 32) a x).toNat < S32x512.size a := fun v308 v366 k0_hw93 => k0_hw93

def k0_chk94 (v308 : IVec S16 32) (v372 : IVec S16 32) : Prop :=
  (∀ a x, ((![v372, v308] : Fin 2 → IVec S16 32) a x).toNat < S32x512.size a)
theorem k0_idx91_inb : ∀ (v308 : IVec S16 32) (v372 : IVec S16 32) (k0_hw94 : k0_chk94 v308 v372), ∀ a x, ((![v372, v308] : Fin 2 → IVec S16 32) a x).toNat < S32x512.size a := fun v308 v372 k0_hw94 => k0_hw94

def k0_chk95 (v308 : IVec S16 32) (v378 : IVec S16 32) : Prop :=
  (∀ a x, ((![v378, v308] : Fin 2 → IVec S16 32) a x).toNat < S32x512.size a)
theorem k0_idx92_inb : ∀ (v308 : IVec S16 32) (v378 : IVec S16 32) (k0_hw95 : k0_chk95 v308 v378), ∀ a x, ((![v378, v308] : Fin 2 → IVec S16 32) a x).toNat < S32x512.size a := fun v308 v378 k0_hw95 => k0_hw95

def k0_chk96 (v308 : IVec S16 32) (v384 : IVec S16 32) : Prop :=
  (∀ a x, ((![v384, v308] : Fin 2 → IVec S16 32) a x).toNat < S32x512.size a)
theorem k0_idx93_inb : ∀ (v308 : IVec S16 32) (v384 : IVec S16 32) (k0_hw96 : k0_chk96 v308 v384), ∀ a x, ((![v384, v308] : Fin 2 → IVec S16 32) a x).toNat < S32x512.size a := fun v308 v384 k0_hw96 => k0_hw96

def k0_chk97 (v308 : IVec S16 32) (v390 : IVec S16 32) : Prop :=
  (∀ a x, ((![v390, v308] : Fin 2 → IVec S16 32) a x).toNat < S32x512.size a)
theorem k0_idx94_inb : ∀ (v308 : IVec S16 32) (v390 : IVec S16 32) (k0_hw97 : k0_chk97 v308 v390), ∀ a x, ((![v390, v308] : Fin 2 → IVec S16 32) a x).toNat < S32x512.size a := fun v308 v390 k0_hw97 => k0_hw97

def k0_chk98 (v308 : IVec S16 32) (v396 : IVec S16 32) : Prop :=
  (∀ a x, ((![v396, v308] : Fin 2 → IVec S16 32) a x).toNat < S32x512.size a)
theorem k0_idx95_inb : ∀ (v308 : IVec S16 32) (v396 : IVec S16 32) (k0_hw98 : k0_chk98 v308 v396), ∀ a x, ((![v396, v308] : Fin 2 → IVec S16 32) a x).toNat < S32x512.size a := fun v308 v396 k0_hw98 => k0_hw98

def k0_chk99 (v308 : IVec S16 32) (v402 : IVec S16 32) : Prop :=
  (∀ a x, ((![v402, v308] : Fin 2 → IVec S16 32) a x).toNat < S32x512.size a)
theorem k0_idx96_inb : ∀ (v308 : IVec S16 32) (v402 : IVec S16 32) (k0_hw99 : k0_chk99 v308 v402), ∀ a x, ((![v402, v308] : Fin 2 → IVec S16 32) a x).toNat < S32x512.size a := fun v308 v402 k0_hw99 => k0_hw99

def k0_chk100 (v308 : IVec S16 32) (v408 : IVec S16 32) : Prop :=
  (∀ a x, ((![v408, v308] : Fin 2 → IVec S16 32) a x).toNat < S32x512.size a)
theorem k0_idx97_inb : ∀ (v308 : IVec S16 32) (v408 : IVec S16 32) (k0_hw100 : k0_chk100 v308 v408), ∀ a x, ((![v408, v308] : Fin 2 → IVec S16 32) a x).toNat < S32x512.size a := fun v308 v408 k0_hw100 => k0_hw100

def k0_chk101 (v308 : IVec S16 32) (v414 : IVec S16 32) : Prop :=
  (∀ a x, ((![v414, v308] : Fin 2 → IVec S16 32) a x).toNat < S32x512.size a)
theorem k0_idx98_inb : ∀ (v308 : IVec S16 32) (v414 : IVec S16 32) (k0_hw101 : k0_chk101 v308 v414), ∀ a x, ((![v414, v308] : Fin 2 → IVec S16 32) a x).toNat < S32x512.size a := fun v308 v414 k0_hw101 => k0_hw101

def k0_chk102 (v308 : IVec S16 32) (v420 : IVec S16 32) : Prop :=
  (∀ a x, ((![v420, v308] : Fin 2 → IVec S16 32) a x).toNat < S32x512.size a)
theorem k0_idx99_inb : ∀ (v308 : IVec S16 32) (v420 : IVec S16 32) (k0_hw102 : k0_chk102 v308 v420), ∀ a x, ((![v420, v308] : Fin 2 → IVec S16 32) a x).toNat < S32x512.size a := fun v308 v420 k0_hw102 => k0_hw102

def k0_chk103 (v308 : IVec S16 32) (v426 : IVec S16 32) : Prop :=
  (∀ a x, ((![v426, v308] : Fin 2 → IVec S16 32) a x).toNat < S32x512.size a)
theorem k0_idx100_inb : ∀ (v308 : IVec S16 32) (v426 : IVec S16 32) (k0_hw103 : k0_chk103 v308 v426), ∀ a x, ((![v426, v308] : Fin 2 → IVec S16 32) a x).toNat < S32x512.size a := fun v308 v426 k0_hw103 => k0_hw103

def k0_chk104 (v308 : IVec S16 32) (v432 : IVec S16 32) : Prop :=
  (∀ a x, ((![v432, v308] : Fin 2 → IVec S16 32) a x).toNat < S32x512.size a)
theorem k0_idx101_inb : ∀ (v308 : IVec S16 32) (v432 : IVec S16 32) (k0_hw104 : k0_chk104 v308 v432), ∀ a x, ((![v432, v308] : Fin 2 → IVec S16 32) a x).toNat < S32x512.size a := fun v308 v432 k0_hw104 => k0_hw104

def k0_chk105 (v308 : IVec S16 32) (v438 : IVec S16 32) : Prop :=
  (∀ a x, ((![v438, v308] : Fin 2 → IVec S16 32) a x).toNat < S32x512.size a)
theorem k0_idx102_inb : ∀ (v308 : IVec S16 32) (v438 : IVec S16 32) (k0_hw105 : k0_chk105 v308 v438), ∀ a x, ((![v438, v308] : Fin 2 → IVec S16 32) a x).toNat < S32x512.size a := fun v308 v438 k0_hw105 => k0_hw105

def k0_chk106 (v308 : IVec S16 32) (v444 : IVec S16 32) : Prop :=
  (∀ a x, ((![v444, v308] : Fin 2 → IVec S16 32) a x).toNat < S32x512.size a)
theorem k0_idx103_inb : ∀ (v308 : IVec S16 32) (v444 : IVec S16 32) (k0_hw106 : k0_chk106 v308 v444), ∀ a x, ((![v444, v308] : Fin 2 → IVec S16 32) a x).toNat < S32x512.size a := fun v308 v444 k0_hw106 => k0_hw106

def k0_chk107 (v308 : IVec S16 32) (v450 : IVec S16 32) : Prop :=
  (∀ a x, ((![v450, v308] : Fin 2 → IVec S16 32) a x).toNat < S32x512.size a)
theorem k0_idx104_inb : ∀ (v308 : IVec S16 32) (v450 : IVec S16 32) (k0_hw107 : k0_chk107 v308 v450), ∀ a x, ((![v450, v308] : Fin 2 → IVec S16 32) a x).toNat < S32x512.size a := fun v308 v450 k0_hw107 => k0_hw107

def k0_chk108 (v308 : IVec S16 32) (v456 : IVec S16 32) : Prop :=
  (∀ a x, ((![v456, v308] : Fin 2 → IVec S16 32) a x).toNat < S32x512.size a)
theorem k0_idx105_inb : ∀ (v308 : IVec S16 32) (v456 : IVec S16 32) (k0_hw108 : k0_chk108 v308 v456), ∀ a x, ((![v456, v308] : Fin 2 → IVec S16 32) a x).toNat < S32x512.size a := fun v308 v456 k0_hw108 => k0_hw108

def k0_chk109 (v308 : IVec S16 32) (v462 : IVec S16 32) : Prop :=
  (∀ a x, ((![v462, v308] : Fin 2 → IVec S16 32) a x).toNat < S32x512.size a)
theorem k0_idx106_inb : ∀ (v308 : IVec S16 32) (v462 : IVec S16 32) (k0_hw109 : k0_chk109 v308 v462), ∀ a x, ((![v462, v308] : Fin 2 → IVec S16 32) a x).toNat < S32x512.size a := fun v308 v462 k0_hw109 => k0_hw109

def k0_chk110 (v308 : IVec S16 32) (v468 : IVec S16 32) : Prop :=
  (∀ a x, ((![v468, v308] : Fin 2 → IVec S16 32) a x).toNat < S32x512.size a)
theorem k0_idx107_inb : ∀ (v308 : IVec S16 32) (v468 : IVec S16 32) (k0_hw110 : k0_chk110 v308 v468), ∀ a x, ((![v468, v308] : Fin 2 → IVec S16 32) a x).toNat < S32x512.size a := fun v308 v468 k0_hw110 => k0_hw110

def k0_chk111 (v308 : IVec S16 32) (v474 : IVec S16 32) : Prop :=
  (∀ a x, ((![v474, v308] : Fin 2 → IVec S16 32) a x).toNat < S32x512.size a)
theorem k0_idx108_inb : ∀ (v308 : IVec S16 32) (v474 : IVec S16 32) (k0_hw111 : k0_chk111 v308 v474), ∀ a x, ((![v474, v308] : Fin 2 → IVec S16 32) a x).toNat < S32x512.size a := fun v308 v474 k0_hw111 => k0_hw111

def k0_chk112 (v308 : IVec S16 32) (v480 : IVec S16 32) : Prop :=
  (∀ a x, ((![v480, v308] : Fin 2 → IVec S16 32) a x).toNat < S32x512.size a)
theorem k0_idx109_inb : ∀ (v308 : IVec S16 32) (v480 : IVec S16 32) (k0_hw112 : k0_chk112 v308 v480), ∀ a x, ((![v480, v308] : Fin 2 → IVec S16 32) a x).toNat < S32x512.size a := fun v308 v480 k0_hw112 => k0_hw112

def k0_chk113 (v308 : IVec S16 32) (v486 : IVec S16 32) : Prop :=
  (∀ a x, ((![v486, v308] : Fin 2 → IVec S16 32) a x).toNat < S32x512.size a)
theorem k0_idx110_inb : ∀ (v308 : IVec S16 32) (v486 : IVec S16 32) (k0_hw113 : k0_chk113 v308 v486), ∀ a x, ((![v486, v308] : Fin 2 → IVec S16 32) a x).toNat < S32x512.size a := fun v308 v486 k0_hw113 => k0_hw113

def k0_chk114 (v308 : IVec S16 32) (v492 : IVec S16 32) : Prop :=
  (∀ a x, ((![v492, v308] : Fin 2 → IVec S16 32) a x).toNat < S32x512.size a)
theorem k0_idx111_inb : ∀ (v308 : IVec S16 32) (v492 : IVec S16 32) (k0_hw114 : k0_chk114 v308 v492), ∀ a x, ((![v492, v308] : Fin 2 → IVec S16 32) a x).toNat < S32x512.size a := fun v308 v492 k0_hw114 => k0_hw114

def k0_chk115 (v308 : IVec S16 32) (v498 : IVec S16 32) : Prop :=
  (∀ a x, ((![v498, v308] : Fin 2 → IVec S16 32) a x).toNat < S32x512.size a)
theorem k0_idx112_inb : ∀ (v308 : IVec S16 32) (v498 : IVec S16 32) (k0_hw115 : k0_chk115 v308 v498), ∀ a x, ((![v498, v308] : Fin 2 → IVec S16 32) a x).toNat < S32x512.size a := fun v308 v498 k0_hw115 => k0_hw115

def k0_chk116 (v310 : IVec S16 32) : Prop :=
  (∀ a x, ((![v310] : Fin 1 → IVec S16 32) a x).toNat < S16640.size a)
theorem k0_idx113_inb : ∀ (v310 : IVec S16 32) (k0_hw116 : k0_chk116 v310), ∀ a x, ((![v310] : Fin 1 → IVec S16 32) a x).toNat < S16640.size a := fun v310 k0_hw116 => k0_hw116
@[reducible] def k0_t10_loop (v248 : BitVec 32) : Scf.Loop 32 :=
  let c0_i32_219 : BitVec 32 := 0#32
  let c15_i32_216 : BitVec 32 := 15#32
  let v249 : BitVec 32 := Scalar.addi v248 c15_i32_216
  let c4_i32_217 : BitVec 32 := 4#32
  let v250 : BitVec 32 := Scalar.shrui v249 c4_i32_217
  let v251 : BitVec 32 := Scalar.subi v250 c0_i32_219
  let c1_i32_220 : BitVec 32 := 1#32
  let v253 : BitVec 32 := Scalar.divsi v251 c1_i32_220
  let v254 : BitVec 32 := Scalar.muli v253 c1_i32_220
  let v255 : BitVec 32 := Scalar.addi c0_i32_219 v254
  let v252 : BitVec 32 := Scalar.addi c0_i32_219 v251
  let c1_i32_222 : BitVec 32 := 1#32
  ⟨v255, v252, c1_i32_222⟩
def k0_off33 (v248 : BitVec 32) (k0_t10 : Fin (k0_t10_loop v248).trips) : Fin 1 → Nat :=
  let c0_i32_219 : BitVec 32 := 0#32
  let c15_i32_216 : BitVec 32 := 15#32
  let v249 : BitVec 32 := Scalar.addi v248 c15_i32_216
  let c4_i32_217 : BitVec 32 := 4#32
  let v250 : BitVec 32 := Scalar.shrui v249 c4_i32_217
  let v251 : BitVec 32 := Scalar.subi v250 c0_i32_219
  let c1_i32_220 : BitVec 32 := 1#32
  let v253 : BitVec 32 := Scalar.divsi v251 c1_i32_220
  let v254 : BitVec 32 := Scalar.muli v253 c1_i32_220
  let v255 : BitVec 32 := Scalar.addi c0_i32_219 v254
  let c1_i32_222 : BitVec 32 := 1#32
  let arg20 : BitVec 32 := Scf.iv v255 c1_i32_222 k0_t10
  let c16_i32_269 : BitVec 32 := 16#32
  let v302 : BitVec 32 := Scalar.muli arg20 c16_i32_269
  let v303 : Index := Scalar.indexCast v302
  ![v303.toNat]

def k0_chk83 (v248 : BitVec 32) : Prop :=
  ((k0_t9_loop v248).OK) ∧
  (∀ k0_t9 : Fin (k0_t9_loop v248).trips, ∀ a, (k0_off32 v248 k0_t9) a + S16.size a ≤ S16384.size a) ∧
  ((k0_t10_loop v248).OK) ∧
  (∀ k0_t10 : Fin (k0_t10_loop v248).trips, ∀ a, (k0_off33 v248 k0_t10) a + S16.size a ≤ S16384.size a)
theorem k0_t9_ok : ∀ (v248 : BitVec 32) (k0_hw83 : k0_chk83 v248), (k0_t9_loop v248).OK := fun v248 k0_hw83 => k0_hw83.1
theorem k0_off32_inb : ∀ (v248 : BitVec 32) (k0_hw83 : k0_chk83 v248) (k0_t9 : Fin (k0_t9_loop v248).trips), ∀ a, (k0_off32 v248 k0_t9) a + S16.size a ≤ S16384.size a := fun v248 k0_hw83 k0_t9 => k0_hw83.2.1 k0_t9
theorem k0_t10_ok : ∀ (v248 : BitVec 32) (k0_hw83 : k0_chk83 v248), (k0_t10_loop v248).OK := fun v248 k0_hw83 => k0_hw83.2.2.1
theorem k0_off33_inb : ∀ (v248 : BitVec 32) (k0_hw83 : k0_chk83 v248) (k0_t10 : Fin (k0_t10_loop v248).trips), ∀ a, (k0_off33 v248 k0_t10) a + S16.size a ≤ S16384.size a := fun v248 k0_hw83 k0_t10 => k0_hw83.2.2.2 k0_t10

def k0_chk117 (v308 : IVec S16 32) (v312 : IVec S16 32) : Prop :=
  (∀ a x, ((![v312, v308] : Fin 2 → IVec S16 32) a x).toNat < S32x512.size a)
theorem k0_idx114_inb : ∀ (v308 : IVec S16 32) (v312 : IVec S16 32) (k0_hw117 : k0_chk117 v308 v312), ∀ a x, ((![v312, v308] : Fin 2 → IVec S16 32) a x).toNat < S32x512.size a := fun v308 v312 k0_hw117 => k0_hw117

def k0_chk118 (v308 : IVec S16 32) (v318 : IVec S16 32) : Prop :=
  (∀ a x, ((![v318, v308] : Fin 2 → IVec S16 32) a x).toNat < S32x512.size a)
theorem k0_idx115_inb : ∀ (v308 : IVec S16 32) (v318 : IVec S16 32) (k0_hw118 : k0_chk118 v308 v318), ∀ a x, ((![v318, v308] : Fin 2 → IVec S16 32) a x).toNat < S32x512.size a := fun v308 v318 k0_hw118 => k0_hw118

def k0_chk119 (v308 : IVec S16 32) (v324 : IVec S16 32) : Prop :=
  (∀ a x, ((![v324, v308] : Fin 2 → IVec S16 32) a x).toNat < S32x512.size a)
theorem k0_idx116_inb : ∀ (v308 : IVec S16 32) (v324 : IVec S16 32) (k0_hw119 : k0_chk119 v308 v324), ∀ a x, ((![v324, v308] : Fin 2 → IVec S16 32) a x).toNat < S32x512.size a := fun v308 v324 k0_hw119 => k0_hw119

def k0_chk120 (v308 : IVec S16 32) (v330 : IVec S16 32) : Prop :=
  (∀ a x, ((![v330, v308] : Fin 2 → IVec S16 32) a x).toNat < S32x512.size a)
theorem k0_idx117_inb : ∀ (v308 : IVec S16 32) (v330 : IVec S16 32) (k0_hw120 : k0_chk120 v308 v330), ∀ a x, ((![v330, v308] : Fin 2 → IVec S16 32) a x).toNat < S32x512.size a := fun v308 v330 k0_hw120 => k0_hw120

def k0_chk121 (v308 : IVec S16 32) (v336 : IVec S16 32) : Prop :=
  (∀ a x, ((![v336, v308] : Fin 2 → IVec S16 32) a x).toNat < S32x512.size a)
theorem k0_idx118_inb : ∀ (v308 : IVec S16 32) (v336 : IVec S16 32) (k0_hw121 : k0_chk121 v308 v336), ∀ a x, ((![v336, v308] : Fin 2 → IVec S16 32) a x).toNat < S32x512.size a := fun v308 v336 k0_hw121 => k0_hw121

def k0_chk122 (v308 : IVec S16 32) (v342 : IVec S16 32) : Prop :=
  (∀ a x, ((![v342, v308] : Fin 2 → IVec S16 32) a x).toNat < S32x512.size a)
theorem k0_idx119_inb : ∀ (v308 : IVec S16 32) (v342 : IVec S16 32) (k0_hw122 : k0_chk122 v308 v342), ∀ a x, ((![v342, v308] : Fin 2 → IVec S16 32) a x).toNat < S32x512.size a := fun v308 v342 k0_hw122 => k0_hw122

def k0_chk123 (v308 : IVec S16 32) (v348 : IVec S16 32) : Prop :=
  (∀ a x, ((![v348, v308] : Fin 2 → IVec S16 32) a x).toNat < S32x512.size a)
theorem k0_idx120_inb : ∀ (v308 : IVec S16 32) (v348 : IVec S16 32) (k0_hw123 : k0_chk123 v308 v348), ∀ a x, ((![v348, v308] : Fin 2 → IVec S16 32) a x).toNat < S32x512.size a := fun v308 v348 k0_hw123 => k0_hw123

def k0_chk124 (v308 : IVec S16 32) (v354 : IVec S16 32) : Prop :=
  (∀ a x, ((![v354, v308] : Fin 2 → IVec S16 32) a x).toNat < S32x512.size a)
theorem k0_idx121_inb : ∀ (v308 : IVec S16 32) (v354 : IVec S16 32) (k0_hw124 : k0_chk124 v308 v354), ∀ a x, ((![v354, v308] : Fin 2 → IVec S16 32) a x).toNat < S32x512.size a := fun v308 v354 k0_hw124 => k0_hw124

def k0_chk125 (v308 : IVec S16 32) (v360 : IVec S16 32) : Prop :=
  (∀ a x, ((![v360, v308] : Fin 2 → IVec S16 32) a x).toNat < S32x512.size a)
theorem k0_idx122_inb : ∀ (v308 : IVec S16 32) (v360 : IVec S16 32) (k0_hw125 : k0_chk125 v308 v360), ∀ a x, ((![v360, v308] : Fin 2 → IVec S16 32) a x).toNat < S32x512.size a := fun v308 v360 k0_hw125 => k0_hw125

def k0_chk126 (v308 : IVec S16 32) (v366 : IVec S16 32) : Prop :=
  (∀ a x, ((![v366, v308] : Fin 2 → IVec S16 32) a x).toNat < S32x512.size a)
theorem k0_idx123_inb : ∀ (v308 : IVec S16 32) (v366 : IVec S16 32) (k0_hw126 : k0_chk126 v308 v366), ∀ a x, ((![v366, v308] : Fin 2 → IVec S16 32) a x).toNat < S32x512.size a := fun v308 v366 k0_hw126 => k0_hw126

def k0_chk127 (v308 : IVec S16 32) (v372 : IVec S16 32) : Prop :=
  (∀ a x, ((![v372, v308] : Fin 2 → IVec S16 32) a x).toNat < S32x512.size a)
theorem k0_idx124_inb : ∀ (v308 : IVec S16 32) (v372 : IVec S16 32) (k0_hw127 : k0_chk127 v308 v372), ∀ a x, ((![v372, v308] : Fin 2 → IVec S16 32) a x).toNat < S32x512.size a := fun v308 v372 k0_hw127 => k0_hw127

def k0_chk128 (v308 : IVec S16 32) (v378 : IVec S16 32) : Prop :=
  (∀ a x, ((![v378, v308] : Fin 2 → IVec S16 32) a x).toNat < S32x512.size a)
theorem k0_idx125_inb : ∀ (v308 : IVec S16 32) (v378 : IVec S16 32) (k0_hw128 : k0_chk128 v308 v378), ∀ a x, ((![v378, v308] : Fin 2 → IVec S16 32) a x).toNat < S32x512.size a := fun v308 v378 k0_hw128 => k0_hw128

def k0_chk129 (v308 : IVec S16 32) (v384 : IVec S16 32) : Prop :=
  (∀ a x, ((![v384, v308] : Fin 2 → IVec S16 32) a x).toNat < S32x512.size a)
theorem k0_idx126_inb : ∀ (v308 : IVec S16 32) (v384 : IVec S16 32) (k0_hw129 : k0_chk129 v308 v384), ∀ a x, ((![v384, v308] : Fin 2 → IVec S16 32) a x).toNat < S32x512.size a := fun v308 v384 k0_hw129 => k0_hw129

def k0_chk130 (v308 : IVec S16 32) (v390 : IVec S16 32) : Prop :=
  (∀ a x, ((![v390, v308] : Fin 2 → IVec S16 32) a x).toNat < S32x512.size a)
theorem k0_idx127_inb : ∀ (v308 : IVec S16 32) (v390 : IVec S16 32) (k0_hw130 : k0_chk130 v308 v390), ∀ a x, ((![v390, v308] : Fin 2 → IVec S16 32) a x).toNat < S32x512.size a := fun v308 v390 k0_hw130 => k0_hw130

def k0_chk131 (v308 : IVec S16 32) (v396 : IVec S16 32) : Prop :=
  (∀ a x, ((![v396, v308] : Fin 2 → IVec S16 32) a x).toNat < S32x512.size a)
theorem k0_idx128_inb : ∀ (v308 : IVec S16 32) (v396 : IVec S16 32) (k0_hw131 : k0_chk131 v308 v396), ∀ a x, ((![v396, v308] : Fin 2 → IVec S16 32) a x).toNat < S32x512.size a := fun v308 v396 k0_hw131 => k0_hw131

def k0_chk132 (v308 : IVec S16 32) (v402 : IVec S16 32) : Prop :=
  (∀ a x, ((![v402, v308] : Fin 2 → IVec S16 32) a x).toNat < S32x512.size a)
theorem k0_idx129_inb : ∀ (v308 : IVec S16 32) (v402 : IVec S16 32) (k0_hw132 : k0_chk132 v308 v402), ∀ a x, ((![v402, v308] : Fin 2 → IVec S16 32) a x).toNat < S32x512.size a := fun v308 v402 k0_hw132 => k0_hw132

def k0_chk133 (v308 : IVec S16 32) (v408 : IVec S16 32) : Prop :=
  (∀ a x, ((![v408, v308] : Fin 2 → IVec S16 32) a x).toNat < S32x512.size a)
theorem k0_idx130_inb : ∀ (v308 : IVec S16 32) (v408 : IVec S16 32) (k0_hw133 : k0_chk133 v308 v408), ∀ a x, ((![v408, v308] : Fin 2 → IVec S16 32) a x).toNat < S32x512.size a := fun v308 v408 k0_hw133 => k0_hw133

def k0_chk134 (v308 : IVec S16 32) (v414 : IVec S16 32) : Prop :=
  (∀ a x, ((![v414, v308] : Fin 2 → IVec S16 32) a x).toNat < S32x512.size a)
theorem k0_idx131_inb : ∀ (v308 : IVec S16 32) (v414 : IVec S16 32) (k0_hw134 : k0_chk134 v308 v414), ∀ a x, ((![v414, v308] : Fin 2 → IVec S16 32) a x).toNat < S32x512.size a := fun v308 v414 k0_hw134 => k0_hw134

def k0_chk135 (v308 : IVec S16 32) (v420 : IVec S16 32) : Prop :=
  (∀ a x, ((![v420, v308] : Fin 2 → IVec S16 32) a x).toNat < S32x512.size a)
theorem k0_idx132_inb : ∀ (v308 : IVec S16 32) (v420 : IVec S16 32) (k0_hw135 : k0_chk135 v308 v420), ∀ a x, ((![v420, v308] : Fin 2 → IVec S16 32) a x).toNat < S32x512.size a := fun v308 v420 k0_hw135 => k0_hw135

def k0_chk136 (v308 : IVec S16 32) (v426 : IVec S16 32) : Prop :=
  (∀ a x, ((![v426, v308] : Fin 2 → IVec S16 32) a x).toNat < S32x512.size a)
theorem k0_idx133_inb : ∀ (v308 : IVec S16 32) (v426 : IVec S16 32) (k0_hw136 : k0_chk136 v308 v426), ∀ a x, ((![v426, v308] : Fin 2 → IVec S16 32) a x).toNat < S32x512.size a := fun v308 v426 k0_hw136 => k0_hw136

def k0_chk137 (v308 : IVec S16 32) (v432 : IVec S16 32) : Prop :=
  (∀ a x, ((![v432, v308] : Fin 2 → IVec S16 32) a x).toNat < S32x512.size a)
theorem k0_idx134_inb : ∀ (v308 : IVec S16 32) (v432 : IVec S16 32) (k0_hw137 : k0_chk137 v308 v432), ∀ a x, ((![v432, v308] : Fin 2 → IVec S16 32) a x).toNat < S32x512.size a := fun v308 v432 k0_hw137 => k0_hw137

def k0_chk138 (v308 : IVec S16 32) (v438 : IVec S16 32) : Prop :=
  (∀ a x, ((![v438, v308] : Fin 2 → IVec S16 32) a x).toNat < S32x512.size a)
theorem k0_idx135_inb : ∀ (v308 : IVec S16 32) (v438 : IVec S16 32) (k0_hw138 : k0_chk138 v308 v438), ∀ a x, ((![v438, v308] : Fin 2 → IVec S16 32) a x).toNat < S32x512.size a := fun v308 v438 k0_hw138 => k0_hw138

def k0_chk139 (v308 : IVec S16 32) (v444 : IVec S16 32) : Prop :=
  (∀ a x, ((![v444, v308] : Fin 2 → IVec S16 32) a x).toNat < S32x512.size a)
theorem k0_idx136_inb : ∀ (v308 : IVec S16 32) (v444 : IVec S16 32) (k0_hw139 : k0_chk139 v308 v444), ∀ a x, ((![v444, v308] : Fin 2 → IVec S16 32) a x).toNat < S32x512.size a := fun v308 v444 k0_hw139 => k0_hw139

def k0_chk140 (v308 : IVec S16 32) (v450 : IVec S16 32) : Prop :=
  (∀ a x, ((![v450, v308] : Fin 2 → IVec S16 32) a x).toNat < S32x512.size a)
theorem k0_idx137_inb : ∀ (v308 : IVec S16 32) (v450 : IVec S16 32) (k0_hw140 : k0_chk140 v308 v450), ∀ a x, ((![v450, v308] : Fin 2 → IVec S16 32) a x).toNat < S32x512.size a := fun v308 v450 k0_hw140 => k0_hw140

def k0_chk141 (v308 : IVec S16 32) (v456 : IVec S16 32) : Prop :=
  (∀ a x, ((![v456, v308] : Fin 2 → IVec S16 32) a x).toNat < S32x512.size a)
theorem k0_idx138_inb : ∀ (v308 : IVec S16 32) (v456 : IVec S16 32) (k0_hw141 : k0_chk141 v308 v456), ∀ a x, ((![v456, v308] : Fin 2 → IVec S16 32) a x).toNat < S32x512.size a := fun v308 v456 k0_hw141 => k0_hw141

def k0_chk142 (v308 : IVec S16 32) (v462 : IVec S16 32) : Prop :=
  (∀ a x, ((![v462, v308] : Fin 2 → IVec S16 32) a x).toNat < S32x512.size a)
theorem k0_idx139_inb : ∀ (v308 : IVec S16 32) (v462 : IVec S16 32) (k0_hw142 : k0_chk142 v308 v462), ∀ a x, ((![v462, v308] : Fin 2 → IVec S16 32) a x).toNat < S32x512.size a := fun v308 v462 k0_hw142 => k0_hw142

def k0_chk143 (v308 : IVec S16 32) (v468 : IVec S16 32) : Prop :=
  (∀ a x, ((![v468, v308] : Fin 2 → IVec S16 32) a x).toNat < S32x512.size a)
theorem k0_idx140_inb : ∀ (v308 : IVec S16 32) (v468 : IVec S16 32) (k0_hw143 : k0_chk143 v308 v468), ∀ a x, ((![v468, v308] : Fin 2 → IVec S16 32) a x).toNat < S32x512.size a := fun v308 v468 k0_hw143 => k0_hw143

def k0_chk144 (v308 : IVec S16 32) (v474 : IVec S16 32) : Prop :=
  (∀ a x, ((![v474, v308] : Fin 2 → IVec S16 32) a x).toNat < S32x512.size a)
theorem k0_idx141_inb : ∀ (v308 : IVec S16 32) (v474 : IVec S16 32) (k0_hw144 : k0_chk144 v308 v474), ∀ a x, ((![v474, v308] : Fin 2 → IVec S16 32) a x).toNat < S32x512.size a := fun v308 v474 k0_hw144 => k0_hw144

def k0_chk145 (v308 : IVec S16 32) (v480 : IVec S16 32) : Prop :=
  (∀ a x, ((![v480, v308] : Fin 2 → IVec S16 32) a x).toNat < S32x512.size a)
theorem k0_idx142_inb : ∀ (v308 : IVec S16 32) (v480 : IVec S16 32) (k0_hw145 : k0_chk145 v308 v480), ∀ a x, ((![v480, v308] : Fin 2 → IVec S16 32) a x).toNat < S32x512.size a := fun v308 v480 k0_hw145 => k0_hw145

def k0_chk146 (v308 : IVec S16 32) (v486 : IVec S16 32) : Prop :=
  (∀ a x, ((![v486, v308] : Fin 2 → IVec S16 32) a x).toNat < S32x512.size a)
theorem k0_idx143_inb : ∀ (v308 : IVec S16 32) (v486 : IVec S16 32) (k0_hw146 : k0_chk146 v308 v486), ∀ a x, ((![v486, v308] : Fin 2 → IVec S16 32) a x).toNat < S32x512.size a := fun v308 v486 k0_hw146 => k0_hw146

def k0_chk147 (v308 : IVec S16 32) (v492 : IVec S16 32) : Prop :=
  (∀ a x, ((![v492, v308] : Fin 2 → IVec S16 32) a x).toNat < S32x512.size a)
theorem k0_idx144_inb : ∀ (v308 : IVec S16 32) (v492 : IVec S16 32) (k0_hw147 : k0_chk147 v308 v492), ∀ a x, ((![v492, v308] : Fin 2 → IVec S16 32) a x).toNat < S32x512.size a := fun v308 v492 k0_hw147 => k0_hw147

def k0_chk148 (v308 : IVec S16 32) (v498 : IVec S16 32) : Prop :=
  (∀ a x, ((![v498, v308] : Fin 2 → IVec S16 32) a x).toNat < S32x512.size a)
theorem k0_idx145_inb : ∀ (v308 : IVec S16 32) (v498 : IVec S16 32) (k0_hw148 : k0_chk148 v308 v498), ∀ a x, ((![v498, v308] : Fin 2 → IVec S16 32) a x).toNat < S32x512.size a := fun v308 v498 k0_hw148 => k0_hw148

def k0_chk149 (v310 : IVec S16 32) : Prop :=
  (∀ a x, ((![v310] : Fin 1 → IVec S16 32) a x).toNat < S16640.size a)
theorem k0_idx146_inb : ∀ (v310 : IVec S16 32) (k0_hw149 : k0_chk149 v310), ∀ a x, ((![v310] : Fin 1 → IVec S16 32) a x).toNat < S16640.size a := fun v310 k0_hw149 => k0_hw149
def k0_cond3 (k0_t2 : Fin k0_t2_loop.trips) : BitVec 1 :=
  let c3_i32_223 : BitVec 32 := 3#32
  let c0_i32_80 : BitVec 32 := 0#32
  let c1_i32_81 : BitVec 32 := 1#32
  let arg19 : BitVec 32 := Scf.iv c0_i32_80 c1_i32_81 k0_t2
  let v256 : BitVec 32 := Scalar.muli c3_i32_223 arg19
  let c2_i32_224 : BitVec 32 := 2#32
  let v257 : BitVec 32 := Scalar.addi v256 c2_i32_224
  let c59_i32_225 : BitVec 32 := 59#32
  let v259 : BitVec 1 := Scalar.cmpi .slt v257 c59_i32_225
  let v260 : BitVec 32 := Scalar.extui v259
  let c0_i32_226 : BitVec 32 := 0#32
  let v261 : BitVec 1 := Scalar.cmpi .ne v260 c0_i32_226
  v261

def k0_off34 (i : grid0.Coords) (k0_t2 : Fin k0_t2_loop.trips) : Fin 2 → Nat :=
  let c0_i32_275 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32_223 : BitVec 32 := 3#32
  let c0_i32_80 : BitVec 32 := 0#32
  let c1_i32_81 : BitVec 32 := 1#32
  let arg19 : BitVec 32 := Scf.iv c0_i32_80 c1_i32_81 k0_t2
  let v256 : BitVec 32 := Scalar.muli c3_i32_223 arg19
  let c2_i32_224 : BitVec 32 := 2#32
  let v257 : BitVec 32 := Scalar.addi v256 c2_i32_224
  let v258 : BitVec 32 := Scalar.addi v84 v257
  let c2_i32_268 : BitVec 32 := 2#32
  let v297 : BitVec 32 := Scalar.addi v258 c2_i32_268
  let c512_i32_269 : BitVec 32 := 512#32
  let v298 : BitVec 32 := Scalar.muli v297 c512_i32_269
  ![0, v298.toNat]
def k0_off35 (i : grid0.Coords) (k0_t2 : Fin k0_t2_loop.trips) : Fin 2 → Nat :=
  let c8_i32_281 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32_223 : BitVec 32 := 3#32
  let c0_i32_80 : BitVec 32 := 0#32
  let c1_i32_81 : BitVec 32 := 1#32
  let arg19 : BitVec 32 := Scf.iv c0_i32_80 c1_i32_81 k0_t2
  let v256 : BitVec 32 := Scalar.muli c3_i32_223 arg19
  let c2_i32_224 : BitVec 32 := 2#32
  let v257 : BitVec 32 := Scalar.addi v256 c2_i32_224
  let v258 : BitVec 32 := Scalar.addi v84 v257
  let c2_i32_268 : BitVec 32 := 2#32
  let v297 : BitVec 32 := Scalar.addi v258 c2_i32_268
  let c512_i32_270 : BitVec 32 := 512#32
  let v299 : BitVec 32 := Scalar.muli v297 c512_i32_270
  ![8, v299.toNat]
def k0_off36 (i : grid0.Coords) (k0_t2 : Fin k0_t2_loop.trips) : Fin 2 → Nat :=
  let c16_i32_287 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32_223 : BitVec 32 := 3#32
  let c0_i32_80 : BitVec 32 := 0#32
  let c1_i32_81 : BitVec 32 := 1#32
  let arg19 : BitVec 32 := Scf.iv c0_i32_80 c1_i32_81 k0_t2
  let v256 : BitVec 32 := Scalar.muli c3_i32_223 arg19
  let c2_i32_224 : BitVec 32 := 2#32
  let v257 : BitVec 32 := Scalar.addi v256 c2_i32_224
  let v258 : BitVec 32 := Scalar.addi v84 v257
  let c2_i32_268 : BitVec 32 := 2#32
  let v297 : BitVec 32 := Scalar.addi v258 c2_i32_268
  let c512_i32_271 : BitVec 32 := 512#32
  let v300 : BitVec 32 := Scalar.muli v297 c512_i32_271
  ![16, v300.toNat]
def k0_off37 (i : grid0.Coords) (k0_t2 : Fin k0_t2_loop.trips) : Fin 2 → Nat :=
  let c24_i32_293 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32_223 : BitVec 32 := 3#32
  let c0_i32_80 : BitVec 32 := 0#32
  let c1_i32_81 : BitVec 32 := 1#32
  let arg19 : BitVec 32 := Scf.iv c0_i32_80 c1_i32_81 k0_t2
  let v256 : BitVec 32 := Scalar.muli c3_i32_223 arg19
  let c2_i32_224 : BitVec 32 := 2#32
  let v257 : BitVec 32 := Scalar.addi v256 c2_i32_224
  let v258 : BitVec 32 := Scalar.addi v84 v257
  let c2_i32_268 : BitVec 32 := 2#32
  let v297 : BitVec 32 := Scalar.addi v258 c2_i32_268
  let c512_i32_272 : BitVec 32 := 512#32
  let v301 : BitVec 32 := Scalar.muli v297 c512_i32_272
  ![24, v301.toNat]
def k0_off38 (i : grid0.Coords) (k0_t2 : Fin k0_t2_loop.trips) : Fin 2 → Nat :=
  let c0_i32_233 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32_223 : BitVec 32 := 3#32
  let c0_i32_80 : BitVec 32 := 0#32
  let c1_i32_81 : BitVec 32 := 1#32
  let arg19 : BitVec 32 := Scf.iv c0_i32_80 c1_i32_81 k0_t2
  let v256 : BitVec 32 := Scalar.muli c3_i32_223 arg19
  let c2_i32_224 : BitVec 32 := 2#32
  let v257 : BitVec 32 := Scalar.addi v256 c2_i32_224
  let v258 : BitVec 32 := Scalar.addi v84 v257
  let c512_i32_227 : BitVec 32 := 512#32
  let v262 : BitVec 32 := Scalar.muli v258 c512_i32_227
  ![0, v262.toNat]
def k0_off39 (i : grid0.Coords) (k0_t2 : Fin k0_t2_loop.trips) : Fin 2 → Nat :=
  let c8_i32_239 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32_223 : BitVec 32 := 3#32
  let c0_i32_80 : BitVec 32 := 0#32
  let c1_i32_81 : BitVec 32 := 1#32
  let arg19 : BitVec 32 := Scf.iv c0_i32_80 c1_i32_81 k0_t2
  let v256 : BitVec 32 := Scalar.muli c3_i32_223 arg19
  let c2_i32_224 : BitVec 32 := 2#32
  let v257 : BitVec 32 := Scalar.addi v256 c2_i32_224
  let v258 : BitVec 32 := Scalar.addi v84 v257
  let c512_i32_228 : BitVec 32 := 512#32
  let v263 : BitVec 32 := Scalar.muli v258 c512_i32_228
  ![8, v263.toNat]
def k0_off40 (i : grid0.Coords) (k0_t2 : Fin k0_t2_loop.trips) : Fin 2 → Nat :=
  let c16_i32_245 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32_223 : BitVec 32 := 3#32
  let c0_i32_80 : BitVec 32 := 0#32
  let c1_i32_81 : BitVec 32 := 1#32
  let arg19 : BitVec 32 := Scf.iv c0_i32_80 c1_i32_81 k0_t2
  let v256 : BitVec 32 := Scalar.muli c3_i32_223 arg19
  let c2_i32_224 : BitVec 32 := 2#32
  let v257 : BitVec 32 := Scalar.addi v256 c2_i32_224
  let v258 : BitVec 32 := Scalar.addi v84 v257
  let c512_i32_229 : BitVec 32 := 512#32
  let v264 : BitVec 32 := Scalar.muli v258 c512_i32_229
  ![16, v264.toNat]
def k0_off41 (i : grid0.Coords) (k0_t2 : Fin k0_t2_loop.trips) : Fin 2 → Nat :=
  let c24_i32_251 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c3_i32_223 : BitVec 32 := 3#32
  let c0_i32_80 : BitVec 32 := 0#32
  let c1_i32_81 : BitVec 32 := 1#32
  let arg19 : BitVec 32 := Scf.iv c0_i32_80 c1_i32_81 k0_t2
  let v256 : BitVec 32 := Scalar.muli c3_i32_223 arg19
  let c2_i32_224 : BitVec 32 := 2#32
  let v257 : BitVec 32 := Scalar.addi v256 c2_i32_224
  let v258 : BitVec 32 := Scalar.addi v84 v257
  let c512_i32_230 : BitVec 32 := 512#32
  let v265 : BitVec 32 := Scalar.muli v258 c512_i32_230
  ![24, v265.toNat]
@[reducible] def k0_t11_loop (v8 : BitVec 32) : Scf.Loop 32 :=
  let c0_i32_256 : BitVec 32 := 0#32
  let c15_i32 : BitVec 32 := 15#32
  let v82 : BitVec 32 := Scalar.addi v8 c15_i32
  let c4_i32 : BitVec 32 := 4#32
  let v83 : BitVec 32 := Scalar.shrui v82 c4_i32
  let v283 : BitVec 32 := Scalar.subi v83 c0_i32_256
  let c1_i32_258 : BitVec 32 := 1#32
  let v285 : BitVec 32 := Scalar.divsi v283 c1_i32_258
  let v286 : BitVec 32 := Scalar.muli v285 c1_i32_258
  let v287 : BitVec 32 := Scalar.addi c0_i32_256 v286
  let c1_i32_259 : BitVec 32 := 1#32
  ⟨c0_i32_256, v287, c1_i32_259⟩
def k0_off42 (v8 : BitVec 32) (k0_t11 : Fin (k0_t11_loop v8).trips) : Fin 1 → Nat :=
  let c0_i32_256 : BitVec 32 := 0#32
  let c1_i32_259 : BitVec 32 := 1#32
  let arg20 : BitVec 32 := Scf.iv c0_i32_256 c1_i32_259 k0_t11
  let c16_i32_268 : BitVec 32 := 16#32
  let v297 : BitVec 32 := Scalar.muli arg20 c16_i32_268
  let v298 : Index := Scalar.indexCast v297
  ![v298.toNat]

def k0_chk150 (v314 : IVec S16 32) : Prop :=
  (∀ a x, ((![v314] : Fin 1 → IVec S16 32) a x).toNat < S16384.size a)
theorem k0_idx147_inb : ∀ (v314 : IVec S16 32) (k0_hw150 : k0_chk150 v314), ∀ a x, ((![v314] : Fin 1 → IVec S16 32) a x).toNat < S16384.size a := fun v314 k0_hw150 => k0_hw150
@[reducible] def k0_t12_loop (v8 : BitVec 32) : Scf.Loop 32 :=
  let c0_i32_256 : BitVec 32 := 0#32
  let c15_i32 : BitVec 32 := 15#32
  let v82 : BitVec 32 := Scalar.addi v8 c15_i32
  let c4_i32 : BitVec 32 := 4#32
  let v83 : BitVec 32 := Scalar.shrui v82 c4_i32
  let v283 : BitVec 32 := Scalar.subi v83 c0_i32_256
  let c1_i32_258 : BitVec 32 := 1#32
  let v285 : BitVec 32 := Scalar.divsi v283 c1_i32_258
  let v286 : BitVec 32 := Scalar.muli v285 c1_i32_258
  let v287 : BitVec 32 := Scalar.addi c0_i32_256 v286
  let v284 : BitVec 32 := Scalar.addi c0_i32_256 v283
  let c1_i32_260 : BitVec 32 := 1#32
  ⟨v287, v284, c1_i32_260⟩
def k0_off43 (v8 : BitVec 32) (k0_t12 : Fin (k0_t12_loop v8).trips) : Fin 1 → Nat :=
  let c0_i32_256 : BitVec 32 := 0#32
  let c15_i32 : BitVec 32 := 15#32
  let v82 : BitVec 32 := Scalar.addi v8 c15_i32
  let c4_i32 : BitVec 32 := 4#32
  let v83 : BitVec 32 := Scalar.shrui v82 c4_i32
  let v283 : BitVec 32 := Scalar.subi v83 c0_i32_256
  let c1_i32_258 : BitVec 32 := 1#32
  let v285 : BitVec 32 := Scalar.divsi v283 c1_i32_258
  let v286 : BitVec 32 := Scalar.muli v285 c1_i32_258
  let v287 : BitVec 32 := Scalar.addi c0_i32_256 v286
  let c1_i32_260 : BitVec 32 := 1#32
  let arg20 : BitVec 32 := Scf.iv v287 c1_i32_260 k0_t12
  let c16_i32_268 : BitVec 32 := 16#32
  let v297 : BitVec 32 := Scalar.muli arg20 c16_i32_268
  let v298 : Index := Scalar.indexCast v297
  ![v298.toNat]

def k0_chk151 (v314 : IVec S16 32) : Prop :=
  (∀ a x, ((![v314] : Fin 1 → IVec S16 32) a x).toNat < S16384.size a)
theorem k0_idx148_inb : ∀ (v314 : IVec S16 32) (k0_hw151 : k0_chk151 v314), ∀ a x, ((![v314] : Fin 1 → IVec S16 32) a x).toNat < S16384.size a := fun v314 k0_hw151 => k0_hw151
@[reducible] def k0_t13_loop (v289 : BitVec 32) : Scf.Loop 32 :=
  let c0_i32_264 : BitVec 32 := 0#32
  let c15_i32_261 : BitVec 32 := 15#32
  let v290 : BitVec 32 := Scalar.addi v289 c15_i32_261
  let c4_i32_262 : BitVec 32 := 4#32
  let v291 : BitVec 32 := Scalar.shrui v290 c4_i32_262
  let v292 : BitVec 32 := Scalar.subi v291 c0_i32_264
  let c1_i32_265 : BitVec 32 := 1#32
  let v294 : BitVec 32 := Scalar.divsi v292 c1_i32_265
  let v295 : BitVec 32 := Scalar.muli v294 c1_i32_265
  let v296 : BitVec 32 := Scalar.addi c0_i32_264 v295
  let c1_i32_266 : BitVec 32 := 1#32
  ⟨c0_i32_264, v296, c1_i32_266⟩

def k0_off44 (v289 : BitVec 32) (k0_t13 : Fin (k0_t13_loop v289).trips) : Fin 1 → Nat :=
  let c0_i32_264 : BitVec 32 := 0#32
  let c1_i32_266 : BitVec 32 := 1#32
  let arg20 : BitVec 32 := Scf.iv c0_i32_264 c1_i32_266 k0_t13
  let c16_i32_269 : BitVec 32 := 16#32
  let v302 : BitVec 32 := Scalar.muli arg20 c16_i32_269
  let v303 : Index := Scalar.indexCast v302
  ![v303.toNat]

def k0_chk153 (v308 : IVec S16 32) (v312 : IVec S16 32) : Prop :=
  (∀ a x, ((![v312, v308] : Fin 2 → IVec S16 32) a x).toNat < S32x512.size a)
theorem k0_idx149_inb : ∀ (v308 : IVec S16 32) (v312 : IVec S16 32) (k0_hw153 : k0_chk153 v308 v312), ∀ a x, ((![v312, v308] : Fin 2 → IVec S16 32) a x).toNat < S32x512.size a := fun v308 v312 k0_hw153 => k0_hw153

def k0_chk154 (v308 : IVec S16 32) (v318 : IVec S16 32) : Prop :=
  (∀ a x, ((![v318, v308] : Fin 2 → IVec S16 32) a x).toNat < S32x512.size a)
theorem k0_idx150_inb : ∀ (v308 : IVec S16 32) (v318 : IVec S16 32) (k0_hw154 : k0_chk154 v308 v318), ∀ a x, ((![v318, v308] : Fin 2 → IVec S16 32) a x).toNat < S32x512.size a := fun v308 v318 k0_hw154 => k0_hw154

def k0_chk155 (v308 : IVec S16 32) (v324 : IVec S16 32) : Prop :=
  (∀ a x, ((![v324, v308] : Fin 2 → IVec S16 32) a x).toNat < S32x512.size a)
theorem k0_idx151_inb : ∀ (v308 : IVec S16 32) (v324 : IVec S16 32) (k0_hw155 : k0_chk155 v308 v324), ∀ a x, ((![v324, v308] : Fin 2 → IVec S16 32) a x).toNat < S32x512.size a := fun v308 v324 k0_hw155 => k0_hw155

def k0_chk156 (v308 : IVec S16 32) (v330 : IVec S16 32) : Prop :=
  (∀ a x, ((![v330, v308] : Fin 2 → IVec S16 32) a x).toNat < S32x512.size a)
theorem k0_idx152_inb : ∀ (v308 : IVec S16 32) (v330 : IVec S16 32) (k0_hw156 : k0_chk156 v308 v330), ∀ a x, ((![v330, v308] : Fin 2 → IVec S16 32) a x).toNat < S32x512.size a := fun v308 v330 k0_hw156 => k0_hw156

def k0_chk157 (v308 : IVec S16 32) (v336 : IVec S16 32) : Prop :=
  (∀ a x, ((![v336, v308] : Fin 2 → IVec S16 32) a x).toNat < S32x512.size a)
theorem k0_idx153_inb : ∀ (v308 : IVec S16 32) (v336 : IVec S16 32) (k0_hw157 : k0_chk157 v308 v336), ∀ a x, ((![v336, v308] : Fin 2 → IVec S16 32) a x).toNat < S32x512.size a := fun v308 v336 k0_hw157 => k0_hw157

def k0_chk158 (v308 : IVec S16 32) (v342 : IVec S16 32) : Prop :=
  (∀ a x, ((![v342, v308] : Fin 2 → IVec S16 32) a x).toNat < S32x512.size a)
theorem k0_idx154_inb : ∀ (v308 : IVec S16 32) (v342 : IVec S16 32) (k0_hw158 : k0_chk158 v308 v342), ∀ a x, ((![v342, v308] : Fin 2 → IVec S16 32) a x).toNat < S32x512.size a := fun v308 v342 k0_hw158 => k0_hw158

def k0_chk159 (v308 : IVec S16 32) (v348 : IVec S16 32) : Prop :=
  (∀ a x, ((![v348, v308] : Fin 2 → IVec S16 32) a x).toNat < S32x512.size a)
theorem k0_idx155_inb : ∀ (v308 : IVec S16 32) (v348 : IVec S16 32) (k0_hw159 : k0_chk159 v308 v348), ∀ a x, ((![v348, v308] : Fin 2 → IVec S16 32) a x).toNat < S32x512.size a := fun v308 v348 k0_hw159 => k0_hw159

def k0_chk160 (v308 : IVec S16 32) (v354 : IVec S16 32) : Prop :=
  (∀ a x, ((![v354, v308] : Fin 2 → IVec S16 32) a x).toNat < S32x512.size a)
theorem k0_idx156_inb : ∀ (v308 : IVec S16 32) (v354 : IVec S16 32) (k0_hw160 : k0_chk160 v308 v354), ∀ a x, ((![v354, v308] : Fin 2 → IVec S16 32) a x).toNat < S32x512.size a := fun v308 v354 k0_hw160 => k0_hw160

def k0_chk161 (v308 : IVec S16 32) (v360 : IVec S16 32) : Prop :=
  (∀ a x, ((![v360, v308] : Fin 2 → IVec S16 32) a x).toNat < S32x512.size a)
theorem k0_idx157_inb : ∀ (v308 : IVec S16 32) (v360 : IVec S16 32) (k0_hw161 : k0_chk161 v308 v360), ∀ a x, ((![v360, v308] : Fin 2 → IVec S16 32) a x).toNat < S32x512.size a := fun v308 v360 k0_hw161 => k0_hw161

def k0_chk162 (v308 : IVec S16 32) (v366 : IVec S16 32) : Prop :=
  (∀ a x, ((![v366, v308] : Fin 2 → IVec S16 32) a x).toNat < S32x512.size a)
theorem k0_idx158_inb : ∀ (v308 : IVec S16 32) (v366 : IVec S16 32) (k0_hw162 : k0_chk162 v308 v366), ∀ a x, ((![v366, v308] : Fin 2 → IVec S16 32) a x).toNat < S32x512.size a := fun v308 v366 k0_hw162 => k0_hw162

def k0_chk163 (v308 : IVec S16 32) (v372 : IVec S16 32) : Prop :=
  (∀ a x, ((![v372, v308] : Fin 2 → IVec S16 32) a x).toNat < S32x512.size a)
theorem k0_idx159_inb : ∀ (v308 : IVec S16 32) (v372 : IVec S16 32) (k0_hw163 : k0_chk163 v308 v372), ∀ a x, ((![v372, v308] : Fin 2 → IVec S16 32) a x).toNat < S32x512.size a := fun v308 v372 k0_hw163 => k0_hw163

def k0_chk164 (v308 : IVec S16 32) (v378 : IVec S16 32) : Prop :=
  (∀ a x, ((![v378, v308] : Fin 2 → IVec S16 32) a x).toNat < S32x512.size a)
theorem k0_idx160_inb : ∀ (v308 : IVec S16 32) (v378 : IVec S16 32) (k0_hw164 : k0_chk164 v308 v378), ∀ a x, ((![v378, v308] : Fin 2 → IVec S16 32) a x).toNat < S32x512.size a := fun v308 v378 k0_hw164 => k0_hw164

def k0_chk165 (v308 : IVec S16 32) (v384 : IVec S16 32) : Prop :=
  (∀ a x, ((![v384, v308] : Fin 2 → IVec S16 32) a x).toNat < S32x512.size a)
theorem k0_idx161_inb : ∀ (v308 : IVec S16 32) (v384 : IVec S16 32) (k0_hw165 : k0_chk165 v308 v384), ∀ a x, ((![v384, v308] : Fin 2 → IVec S16 32) a x).toNat < S32x512.size a := fun v308 v384 k0_hw165 => k0_hw165

def k0_chk166 (v308 : IVec S16 32) (v390 : IVec S16 32) : Prop :=
  (∀ a x, ((![v390, v308] : Fin 2 → IVec S16 32) a x).toNat < S32x512.size a)
theorem k0_idx162_inb : ∀ (v308 : IVec S16 32) (v390 : IVec S16 32) (k0_hw166 : k0_chk166 v308 v390), ∀ a x, ((![v390, v308] : Fin 2 → IVec S16 32) a x).toNat < S32x512.size a := fun v308 v390 k0_hw166 => k0_hw166

def k0_chk167 (v308 : IVec S16 32) (v396 : IVec S16 32) : Prop :=
  (∀ a x, ((![v396, v308] : Fin 2 → IVec S16 32) a x).toNat < S32x512.size a)
theorem k0_idx163_inb : ∀ (v308 : IVec S16 32) (v396 : IVec S16 32) (k0_hw167 : k0_chk167 v308 v396), ∀ a x, ((![v396, v308] : Fin 2 → IVec S16 32) a x).toNat < S32x512.size a := fun v308 v396 k0_hw167 => k0_hw167

def k0_chk168 (v308 : IVec S16 32) (v402 : IVec S16 32) : Prop :=
  (∀ a x, ((![v402, v308] : Fin 2 → IVec S16 32) a x).toNat < S32x512.size a)
theorem k0_idx164_inb : ∀ (v308 : IVec S16 32) (v402 : IVec S16 32) (k0_hw168 : k0_chk168 v308 v402), ∀ a x, ((![v402, v308] : Fin 2 → IVec S16 32) a x).toNat < S32x512.size a := fun v308 v402 k0_hw168 => k0_hw168

def k0_chk169 (v308 : IVec S16 32) (v408 : IVec S16 32) : Prop :=
  (∀ a x, ((![v408, v308] : Fin 2 → IVec S16 32) a x).toNat < S32x512.size a)
theorem k0_idx165_inb : ∀ (v308 : IVec S16 32) (v408 : IVec S16 32) (k0_hw169 : k0_chk169 v308 v408), ∀ a x, ((![v408, v308] : Fin 2 → IVec S16 32) a x).toNat < S32x512.size a := fun v308 v408 k0_hw169 => k0_hw169

def k0_chk170 (v308 : IVec S16 32) (v414 : IVec S16 32) : Prop :=
  (∀ a x, ((![v414, v308] : Fin 2 → IVec S16 32) a x).toNat < S32x512.size a)
theorem k0_idx166_inb : ∀ (v308 : IVec S16 32) (v414 : IVec S16 32) (k0_hw170 : k0_chk170 v308 v414), ∀ a x, ((![v414, v308] : Fin 2 → IVec S16 32) a x).toNat < S32x512.size a := fun v308 v414 k0_hw170 => k0_hw170

def k0_chk171 (v308 : IVec S16 32) (v420 : IVec S16 32) : Prop :=
  (∀ a x, ((![v420, v308] : Fin 2 → IVec S16 32) a x).toNat < S32x512.size a)
theorem k0_idx167_inb : ∀ (v308 : IVec S16 32) (v420 : IVec S16 32) (k0_hw171 : k0_chk171 v308 v420), ∀ a x, ((![v420, v308] : Fin 2 → IVec S16 32) a x).toNat < S32x512.size a := fun v308 v420 k0_hw171 => k0_hw171

def k0_chk172 (v308 : IVec S16 32) (v426 : IVec S16 32) : Prop :=
  (∀ a x, ((![v426, v308] : Fin 2 → IVec S16 32) a x).toNat < S32x512.size a)
theorem k0_idx168_inb : ∀ (v308 : IVec S16 32) (v426 : IVec S16 32) (k0_hw172 : k0_chk172 v308 v426), ∀ a x, ((![v426, v308] : Fin 2 → IVec S16 32) a x).toNat < S32x512.size a := fun v308 v426 k0_hw172 => k0_hw172

def k0_chk173 (v308 : IVec S16 32) (v432 : IVec S16 32) : Prop :=
  (∀ a x, ((![v432, v308] : Fin 2 → IVec S16 32) a x).toNat < S32x512.size a)
theorem k0_idx169_inb : ∀ (v308 : IVec S16 32) (v432 : IVec S16 32) (k0_hw173 : k0_chk173 v308 v432), ∀ a x, ((![v432, v308] : Fin 2 → IVec S16 32) a x).toNat < S32x512.size a := fun v308 v432 k0_hw173 => k0_hw173

def k0_chk174 (v308 : IVec S16 32) (v438 : IVec S16 32) : Prop :=
  (∀ a x, ((![v438, v308] : Fin 2 → IVec S16 32) a x).toNat < S32x512.size a)
theorem k0_idx170_inb : ∀ (v308 : IVec S16 32) (v438 : IVec S16 32) (k0_hw174 : k0_chk174 v308 v438), ∀ a x, ((![v438, v308] : Fin 2 → IVec S16 32) a x).toNat < S32x512.size a := fun v308 v438 k0_hw174 => k0_hw174

def k0_chk175 (v308 : IVec S16 32) (v444 : IVec S16 32) : Prop :=
  (∀ a x, ((![v444, v308] : Fin 2 → IVec S16 32) a x).toNat < S32x512.size a)
theorem k0_idx171_inb : ∀ (v308 : IVec S16 32) (v444 : IVec S16 32) (k0_hw175 : k0_chk175 v308 v444), ∀ a x, ((![v444, v308] : Fin 2 → IVec S16 32) a x).toNat < S32x512.size a := fun v308 v444 k0_hw175 => k0_hw175

def k0_chk176 (v308 : IVec S16 32) (v450 : IVec S16 32) : Prop :=
  (∀ a x, ((![v450, v308] : Fin 2 → IVec S16 32) a x).toNat < S32x512.size a)
theorem k0_idx172_inb : ∀ (v308 : IVec S16 32) (v450 : IVec S16 32) (k0_hw176 : k0_chk176 v308 v450), ∀ a x, ((![v450, v308] : Fin 2 → IVec S16 32) a x).toNat < S32x512.size a := fun v308 v450 k0_hw176 => k0_hw176

def k0_chk177 (v308 : IVec S16 32) (v456 : IVec S16 32) : Prop :=
  (∀ a x, ((![v456, v308] : Fin 2 → IVec S16 32) a x).toNat < S32x512.size a)
theorem k0_idx173_inb : ∀ (v308 : IVec S16 32) (v456 : IVec S16 32) (k0_hw177 : k0_chk177 v308 v456), ∀ a x, ((![v456, v308] : Fin 2 → IVec S16 32) a x).toNat < S32x512.size a := fun v308 v456 k0_hw177 => k0_hw177

def k0_chk178 (v308 : IVec S16 32) (v462 : IVec S16 32) : Prop :=
  (∀ a x, ((![v462, v308] : Fin 2 → IVec S16 32) a x).toNat < S32x512.size a)
theorem k0_idx174_inb : ∀ (v308 : IVec S16 32) (v462 : IVec S16 32) (k0_hw178 : k0_chk178 v308 v462), ∀ a x, ((![v462, v308] : Fin 2 → IVec S16 32) a x).toNat < S32x512.size a := fun v308 v462 k0_hw178 => k0_hw178

def k0_chk179 (v308 : IVec S16 32) (v468 : IVec S16 32) : Prop :=
  (∀ a x, ((![v468, v308] : Fin 2 → IVec S16 32) a x).toNat < S32x512.size a)
theorem k0_idx175_inb : ∀ (v308 : IVec S16 32) (v468 : IVec S16 32) (k0_hw179 : k0_chk179 v308 v468), ∀ a x, ((![v468, v308] : Fin 2 → IVec S16 32) a x).toNat < S32x512.size a := fun v308 v468 k0_hw179 => k0_hw179

def k0_chk180 (v308 : IVec S16 32) (v474 : IVec S16 32) : Prop :=
  (∀ a x, ((![v474, v308] : Fin 2 → IVec S16 32) a x).toNat < S32x512.size a)
theorem k0_idx176_inb : ∀ (v308 : IVec S16 32) (v474 : IVec S16 32) (k0_hw180 : k0_chk180 v308 v474), ∀ a x, ((![v474, v308] : Fin 2 → IVec S16 32) a x).toNat < S32x512.size a := fun v308 v474 k0_hw180 => k0_hw180

def k0_chk181 (v308 : IVec S16 32) (v480 : IVec S16 32) : Prop :=
  (∀ a x, ((![v480, v308] : Fin 2 → IVec S16 32) a x).toNat < S32x512.size a)
theorem k0_idx177_inb : ∀ (v308 : IVec S16 32) (v480 : IVec S16 32) (k0_hw181 : k0_chk181 v308 v480), ∀ a x, ((![v480, v308] : Fin 2 → IVec S16 32) a x).toNat < S32x512.size a := fun v308 v480 k0_hw181 => k0_hw181

def k0_chk182 (v308 : IVec S16 32) (v486 : IVec S16 32) : Prop :=
  (∀ a x, ((![v486, v308] : Fin 2 → IVec S16 32) a x).toNat < S32x512.size a)
theorem k0_idx178_inb : ∀ (v308 : IVec S16 32) (v486 : IVec S16 32) (k0_hw182 : k0_chk182 v308 v486), ∀ a x, ((![v486, v308] : Fin 2 → IVec S16 32) a x).toNat < S32x512.size a := fun v308 v486 k0_hw182 => k0_hw182

def k0_chk183 (v308 : IVec S16 32) (v492 : IVec S16 32) : Prop :=
  (∀ a x, ((![v492, v308] : Fin 2 → IVec S16 32) a x).toNat < S32x512.size a)
theorem k0_idx179_inb : ∀ (v308 : IVec S16 32) (v492 : IVec S16 32) (k0_hw183 : k0_chk183 v308 v492), ∀ a x, ((![v492, v308] : Fin 2 → IVec S16 32) a x).toNat < S32x512.size a := fun v308 v492 k0_hw183 => k0_hw183

def k0_chk184 (v308 : IVec S16 32) (v498 : IVec S16 32) : Prop :=
  (∀ a x, ((![v498, v308] : Fin 2 → IVec S16 32) a x).toNat < S32x512.size a)
theorem k0_idx180_inb : ∀ (v308 : IVec S16 32) (v498 : IVec S16 32) (k0_hw184 : k0_chk184 v308 v498), ∀ a x, ((![v498, v308] : Fin 2 → IVec S16 32) a x).toNat < S32x512.size a := fun v308 v498 k0_hw184 => k0_hw184

def k0_chk185 (v310 : IVec S16 32) : Prop :=
  (∀ a x, ((![v310] : Fin 1 → IVec S16 32) a x).toNat < S16640.size a)
theorem k0_idx181_inb : ∀ (v310 : IVec S16 32) (k0_hw185 : k0_chk185 v310), ∀ a x, ((![v310] : Fin 1 → IVec S16 32) a x).toNat < S16640.size a := fun v310 k0_hw185 => k0_hw185
@[reducible] def k0_t14_loop (v289 : BitVec 32) : Scf.Loop 32 :=
  let c0_i32_264 : BitVec 32 := 0#32
  let c15_i32_261 : BitVec 32 := 15#32
  let v290 : BitVec 32 := Scalar.addi v289 c15_i32_261
  let c4_i32_262 : BitVec 32 := 4#32
  let v291 : BitVec 32 := Scalar.shrui v290 c4_i32_262
  let v292 : BitVec 32 := Scalar.subi v291 c0_i32_264
  let c1_i32_265 : BitVec 32 := 1#32
  let v294 : BitVec 32 := Scalar.divsi v292 c1_i32_265
  let v295 : BitVec 32 := Scalar.muli v294 c1_i32_265
  let v296 : BitVec 32 := Scalar.addi c0_i32_264 v295
  let v293 : BitVec 32 := Scalar.addi c0_i32_264 v292
  let c1_i32_267 : BitVec 32 := 1#32
  ⟨v296, v293, c1_i32_267⟩
def k0_off45 (v289 : BitVec 32) (k0_t14 : Fin (k0_t14_loop v289).trips) : Fin 1 → Nat :=
  let c0_i32_264 : BitVec 32 := 0#32
  let c15_i32_261 : BitVec 32 := 15#32
  let v290 : BitVec 32 := Scalar.addi v289 c15_i32_261
  let c4_i32_262 : BitVec 32 := 4#32
  let v291 : BitVec 32 := Scalar.shrui v290 c4_i32_262
  let v292 : BitVec 32 := Scalar.subi v291 c0_i32_264
  let c1_i32_265 : BitVec 32 := 1#32
  let v294 : BitVec 32 := Scalar.divsi v292 c1_i32_265
  let v295 : BitVec 32 := Scalar.muli v294 c1_i32_265
  let v296 : BitVec 32 := Scalar.addi c0_i32_264 v295
  let c1_i32_267 : BitVec 32 := 1#32
  let arg20 : BitVec 32 := Scf.iv v296 c1_i32_267 k0_t14
  let c16_i32_269 : BitVec 32 := 16#32
  let v302 : BitVec 32 := Scalar.muli arg20 c16_i32_269
  let v303 : Index := Scalar.indexCast v302
  ![v303.toNat]

def k0_chk152 (v289 : BitVec 32) : Prop :=
  ((k0_t13_loop v289).OK) ∧
  (∀ k0_t13 : Fin (k0_t13_loop v289).trips, ∀ a, (k0_off44 v289 k0_t13) a + S16.size a ≤ S16384.size a) ∧
  ((k0_t14_loop v289).OK) ∧
  (∀ k0_t14 : Fin (k0_t14_loop v289).trips, ∀ a, (k0_off45 v289 k0_t14) a + S16.size a ≤ S16384.size a)
theorem k0_t13_ok : ∀ (v289 : BitVec 32) (k0_hw152 : k0_chk152 v289), (k0_t13_loop v289).OK := fun v289 k0_hw152 => k0_hw152.1
theorem k0_off44_inb : ∀ (v289 : BitVec 32) (k0_hw152 : k0_chk152 v289) (k0_t13 : Fin (k0_t13_loop v289).trips), ∀ a, (k0_off44 v289 k0_t13) a + S16.size a ≤ S16384.size a := fun v289 k0_hw152 k0_t13 => k0_hw152.2.1 k0_t13
theorem k0_t14_ok : ∀ (v289 : BitVec 32) (k0_hw152 : k0_chk152 v289), (k0_t14_loop v289).OK := fun v289 k0_hw152 => k0_hw152.2.2.1
theorem k0_off45_inb : ∀ (v289 : BitVec 32) (k0_hw152 : k0_chk152 v289) (k0_t14 : Fin (k0_t14_loop v289).trips), ∀ a, (k0_off45 v289 k0_t14) a + S16.size a ≤ S16384.size a := fun v289 k0_hw152 k0_t14 => k0_hw152.2.2.2 k0_t14

def k0_chk186 (v308 : IVec S16 32) (v312 : IVec S16 32) : Prop :=
  (∀ a x, ((![v312, v308] : Fin 2 → IVec S16 32) a x).toNat < S32x512.size a)
theorem k0_idx182_inb : ∀ (v308 : IVec S16 32) (v312 : IVec S16 32) (k0_hw186 : k0_chk186 v308 v312), ∀ a x, ((![v312, v308] : Fin 2 → IVec S16 32) a x).toNat < S32x512.size a := fun v308 v312 k0_hw186 => k0_hw186

def k0_chk187 (v308 : IVec S16 32) (v318 : IVec S16 32) : Prop :=
  (∀ a x, ((![v318, v308] : Fin 2 → IVec S16 32) a x).toNat < S32x512.size a)
theorem k0_idx183_inb : ∀ (v308 : IVec S16 32) (v318 : IVec S16 32) (k0_hw187 : k0_chk187 v308 v318), ∀ a x, ((![v318, v308] : Fin 2 → IVec S16 32) a x).toNat < S32x512.size a := fun v308 v318 k0_hw187 => k0_hw187

def k0_chk188 (v308 : IVec S16 32) (v324 : IVec S16 32) : Prop :=
  (∀ a x, ((![v324, v308] : Fin 2 → IVec S16 32) a x).toNat < S32x512.size a)
theorem k0_idx184_inb : ∀ (v308 : IVec S16 32) (v324 : IVec S16 32) (k0_hw188 : k0_chk188 v308 v324), ∀ a x, ((![v324, v308] : Fin 2 → IVec S16 32) a x).toNat < S32x512.size a := fun v308 v324 k0_hw188 => k0_hw188

def k0_chk189 (v308 : IVec S16 32) (v330 : IVec S16 32) : Prop :=
  (∀ a x, ((![v330, v308] : Fin 2 → IVec S16 32) a x).toNat < S32x512.size a)
theorem k0_idx185_inb : ∀ (v308 : IVec S16 32) (v330 : IVec S16 32) (k0_hw189 : k0_chk189 v308 v330), ∀ a x, ((![v330, v308] : Fin 2 → IVec S16 32) a x).toNat < S32x512.size a := fun v308 v330 k0_hw189 => k0_hw189

def k0_chk190 (v308 : IVec S16 32) (v336 : IVec S16 32) : Prop :=
  (∀ a x, ((![v336, v308] : Fin 2 → IVec S16 32) a x).toNat < S32x512.size a)
theorem k0_idx186_inb : ∀ (v308 : IVec S16 32) (v336 : IVec S16 32) (k0_hw190 : k0_chk190 v308 v336), ∀ a x, ((![v336, v308] : Fin 2 → IVec S16 32) a x).toNat < S32x512.size a := fun v308 v336 k0_hw190 => k0_hw190

def k0_chk191 (v308 : IVec S16 32) (v342 : IVec S16 32) : Prop :=
  (∀ a x, ((![v342, v308] : Fin 2 → IVec S16 32) a x).toNat < S32x512.size a)
theorem k0_idx187_inb : ∀ (v308 : IVec S16 32) (v342 : IVec S16 32) (k0_hw191 : k0_chk191 v308 v342), ∀ a x, ((![v342, v308] : Fin 2 → IVec S16 32) a x).toNat < S32x512.size a := fun v308 v342 k0_hw191 => k0_hw191

def k0_chk192 (v308 : IVec S16 32) (v348 : IVec S16 32) : Prop :=
  (∀ a x, ((![v348, v308] : Fin 2 → IVec S16 32) a x).toNat < S32x512.size a)
theorem k0_idx188_inb : ∀ (v308 : IVec S16 32) (v348 : IVec S16 32) (k0_hw192 : k0_chk192 v308 v348), ∀ a x, ((![v348, v308] : Fin 2 → IVec S16 32) a x).toNat < S32x512.size a := fun v308 v348 k0_hw192 => k0_hw192

def k0_chk193 (v308 : IVec S16 32) (v354 : IVec S16 32) : Prop :=
  (∀ a x, ((![v354, v308] : Fin 2 → IVec S16 32) a x).toNat < S32x512.size a)
theorem k0_idx189_inb : ∀ (v308 : IVec S16 32) (v354 : IVec S16 32) (k0_hw193 : k0_chk193 v308 v354), ∀ a x, ((![v354, v308] : Fin 2 → IVec S16 32) a x).toNat < S32x512.size a := fun v308 v354 k0_hw193 => k0_hw193

def k0_chk194 (v308 : IVec S16 32) (v360 : IVec S16 32) : Prop :=
  (∀ a x, ((![v360, v308] : Fin 2 → IVec S16 32) a x).toNat < S32x512.size a)
theorem k0_idx190_inb : ∀ (v308 : IVec S16 32) (v360 : IVec S16 32) (k0_hw194 : k0_chk194 v308 v360), ∀ a x, ((![v360, v308] : Fin 2 → IVec S16 32) a x).toNat < S32x512.size a := fun v308 v360 k0_hw194 => k0_hw194

def k0_chk195 (v308 : IVec S16 32) (v366 : IVec S16 32) : Prop :=
  (∀ a x, ((![v366, v308] : Fin 2 → IVec S16 32) a x).toNat < S32x512.size a)
theorem k0_idx191_inb : ∀ (v308 : IVec S16 32) (v366 : IVec S16 32) (k0_hw195 : k0_chk195 v308 v366), ∀ a x, ((![v366, v308] : Fin 2 → IVec S16 32) a x).toNat < S32x512.size a := fun v308 v366 k0_hw195 => k0_hw195

def k0_chk196 (v308 : IVec S16 32) (v372 : IVec S16 32) : Prop :=
  (∀ a x, ((![v372, v308] : Fin 2 → IVec S16 32) a x).toNat < S32x512.size a)
theorem k0_idx192_inb : ∀ (v308 : IVec S16 32) (v372 : IVec S16 32) (k0_hw196 : k0_chk196 v308 v372), ∀ a x, ((![v372, v308] : Fin 2 → IVec S16 32) a x).toNat < S32x512.size a := fun v308 v372 k0_hw196 => k0_hw196

def k0_chk197 (v308 : IVec S16 32) (v378 : IVec S16 32) : Prop :=
  (∀ a x, ((![v378, v308] : Fin 2 → IVec S16 32) a x).toNat < S32x512.size a)
theorem k0_idx193_inb : ∀ (v308 : IVec S16 32) (v378 : IVec S16 32) (k0_hw197 : k0_chk197 v308 v378), ∀ a x, ((![v378, v308] : Fin 2 → IVec S16 32) a x).toNat < S32x512.size a := fun v308 v378 k0_hw197 => k0_hw197

def k0_chk198 (v308 : IVec S16 32) (v384 : IVec S16 32) : Prop :=
  (∀ a x, ((![v384, v308] : Fin 2 → IVec S16 32) a x).toNat < S32x512.size a)
theorem k0_idx194_inb : ∀ (v308 : IVec S16 32) (v384 : IVec S16 32) (k0_hw198 : k0_chk198 v308 v384), ∀ a x, ((![v384, v308] : Fin 2 → IVec S16 32) a x).toNat < S32x512.size a := fun v308 v384 k0_hw198 => k0_hw198

def k0_chk199 (v308 : IVec S16 32) (v390 : IVec S16 32) : Prop :=
  (∀ a x, ((![v390, v308] : Fin 2 → IVec S16 32) a x).toNat < S32x512.size a)
theorem k0_idx195_inb : ∀ (v308 : IVec S16 32) (v390 : IVec S16 32) (k0_hw199 : k0_chk199 v308 v390), ∀ a x, ((![v390, v308] : Fin 2 → IVec S16 32) a x).toNat < S32x512.size a := fun v308 v390 k0_hw199 => k0_hw199

def k0_chk200 (v308 : IVec S16 32) (v396 : IVec S16 32) : Prop :=
  (∀ a x, ((![v396, v308] : Fin 2 → IVec S16 32) a x).toNat < S32x512.size a)
theorem k0_idx196_inb : ∀ (v308 : IVec S16 32) (v396 : IVec S16 32) (k0_hw200 : k0_chk200 v308 v396), ∀ a x, ((![v396, v308] : Fin 2 → IVec S16 32) a x).toNat < S32x512.size a := fun v308 v396 k0_hw200 => k0_hw200

def k0_chk201 (v308 : IVec S16 32) (v402 : IVec S16 32) : Prop :=
  (∀ a x, ((![v402, v308] : Fin 2 → IVec S16 32) a x).toNat < S32x512.size a)
theorem k0_idx197_inb : ∀ (v308 : IVec S16 32) (v402 : IVec S16 32) (k0_hw201 : k0_chk201 v308 v402), ∀ a x, ((![v402, v308] : Fin 2 → IVec S16 32) a x).toNat < S32x512.size a := fun v308 v402 k0_hw201 => k0_hw201

def k0_chk202 (v308 : IVec S16 32) (v408 : IVec S16 32) : Prop :=
  (∀ a x, ((![v408, v308] : Fin 2 → IVec S16 32) a x).toNat < S32x512.size a)
theorem k0_idx198_inb : ∀ (v308 : IVec S16 32) (v408 : IVec S16 32) (k0_hw202 : k0_chk202 v308 v408), ∀ a x, ((![v408, v308] : Fin 2 → IVec S16 32) a x).toNat < S32x512.size a := fun v308 v408 k0_hw202 => k0_hw202

def k0_chk203 (v308 : IVec S16 32) (v414 : IVec S16 32) : Prop :=
  (∀ a x, ((![v414, v308] : Fin 2 → IVec S16 32) a x).toNat < S32x512.size a)
theorem k0_idx199_inb : ∀ (v308 : IVec S16 32) (v414 : IVec S16 32) (k0_hw203 : k0_chk203 v308 v414), ∀ a x, ((![v414, v308] : Fin 2 → IVec S16 32) a x).toNat < S32x512.size a := fun v308 v414 k0_hw203 => k0_hw203

def k0_chk204 (v308 : IVec S16 32) (v420 : IVec S16 32) : Prop :=
  (∀ a x, ((![v420, v308] : Fin 2 → IVec S16 32) a x).toNat < S32x512.size a)
theorem k0_idx200_inb : ∀ (v308 : IVec S16 32) (v420 : IVec S16 32) (k0_hw204 : k0_chk204 v308 v420), ∀ a x, ((![v420, v308] : Fin 2 → IVec S16 32) a x).toNat < S32x512.size a := fun v308 v420 k0_hw204 => k0_hw204

def k0_chk205 (v308 : IVec S16 32) (v426 : IVec S16 32) : Prop :=
  (∀ a x, ((![v426, v308] : Fin 2 → IVec S16 32) a x).toNat < S32x512.size a)
theorem k0_idx201_inb : ∀ (v308 : IVec S16 32) (v426 : IVec S16 32) (k0_hw205 : k0_chk205 v308 v426), ∀ a x, ((![v426, v308] : Fin 2 → IVec S16 32) a x).toNat < S32x512.size a := fun v308 v426 k0_hw205 => k0_hw205

def k0_chk206 (v308 : IVec S16 32) (v432 : IVec S16 32) : Prop :=
  (∀ a x, ((![v432, v308] : Fin 2 → IVec S16 32) a x).toNat < S32x512.size a)
theorem k0_idx202_inb : ∀ (v308 : IVec S16 32) (v432 : IVec S16 32) (k0_hw206 : k0_chk206 v308 v432), ∀ a x, ((![v432, v308] : Fin 2 → IVec S16 32) a x).toNat < S32x512.size a := fun v308 v432 k0_hw206 => k0_hw206

def k0_chk207 (v308 : IVec S16 32) (v438 : IVec S16 32) : Prop :=
  (∀ a x, ((![v438, v308] : Fin 2 → IVec S16 32) a x).toNat < S32x512.size a)
theorem k0_idx203_inb : ∀ (v308 : IVec S16 32) (v438 : IVec S16 32) (k0_hw207 : k0_chk207 v308 v438), ∀ a x, ((![v438, v308] : Fin 2 → IVec S16 32) a x).toNat < S32x512.size a := fun v308 v438 k0_hw207 => k0_hw207

def k0_chk208 (v308 : IVec S16 32) (v444 : IVec S16 32) : Prop :=
  (∀ a x, ((![v444, v308] : Fin 2 → IVec S16 32) a x).toNat < S32x512.size a)
theorem k0_idx204_inb : ∀ (v308 : IVec S16 32) (v444 : IVec S16 32) (k0_hw208 : k0_chk208 v308 v444), ∀ a x, ((![v444, v308] : Fin 2 → IVec S16 32) a x).toNat < S32x512.size a := fun v308 v444 k0_hw208 => k0_hw208

def k0_chk209 (v308 : IVec S16 32) (v450 : IVec S16 32) : Prop :=
  (∀ a x, ((![v450, v308] : Fin 2 → IVec S16 32) a x).toNat < S32x512.size a)
theorem k0_idx205_inb : ∀ (v308 : IVec S16 32) (v450 : IVec S16 32) (k0_hw209 : k0_chk209 v308 v450), ∀ a x, ((![v450, v308] : Fin 2 → IVec S16 32) a x).toNat < S32x512.size a := fun v308 v450 k0_hw209 => k0_hw209

def k0_chk210 (v308 : IVec S16 32) (v456 : IVec S16 32) : Prop :=
  (∀ a x, ((![v456, v308] : Fin 2 → IVec S16 32) a x).toNat < S32x512.size a)
theorem k0_idx206_inb : ∀ (v308 : IVec S16 32) (v456 : IVec S16 32) (k0_hw210 : k0_chk210 v308 v456), ∀ a x, ((![v456, v308] : Fin 2 → IVec S16 32) a x).toNat < S32x512.size a := fun v308 v456 k0_hw210 => k0_hw210

def k0_chk211 (v308 : IVec S16 32) (v462 : IVec S16 32) : Prop :=
  (∀ a x, ((![v462, v308] : Fin 2 → IVec S16 32) a x).toNat < S32x512.size a)
theorem k0_idx207_inb : ∀ (v308 : IVec S16 32) (v462 : IVec S16 32) (k0_hw211 : k0_chk211 v308 v462), ∀ a x, ((![v462, v308] : Fin 2 → IVec S16 32) a x).toNat < S32x512.size a := fun v308 v462 k0_hw211 => k0_hw211

def k0_chk212 (v308 : IVec S16 32) (v468 : IVec S16 32) : Prop :=
  (∀ a x, ((![v468, v308] : Fin 2 → IVec S16 32) a x).toNat < S32x512.size a)
theorem k0_idx208_inb : ∀ (v308 : IVec S16 32) (v468 : IVec S16 32) (k0_hw212 : k0_chk212 v308 v468), ∀ a x, ((![v468, v308] : Fin 2 → IVec S16 32) a x).toNat < S32x512.size a := fun v308 v468 k0_hw212 => k0_hw212

def k0_chk213 (v308 : IVec S16 32) (v474 : IVec S16 32) : Prop :=
  (∀ a x, ((![v474, v308] : Fin 2 → IVec S16 32) a x).toNat < S32x512.size a)
theorem k0_idx209_inb : ∀ (v308 : IVec S16 32) (v474 : IVec S16 32) (k0_hw213 : k0_chk213 v308 v474), ∀ a x, ((![v474, v308] : Fin 2 → IVec S16 32) a x).toNat < S32x512.size a := fun v308 v474 k0_hw213 => k0_hw213

def k0_chk214 (v308 : IVec S16 32) (v480 : IVec S16 32) : Prop :=
  (∀ a x, ((![v480, v308] : Fin 2 → IVec S16 32) a x).toNat < S32x512.size a)
theorem k0_idx210_inb : ∀ (v308 : IVec S16 32) (v480 : IVec S16 32) (k0_hw214 : k0_chk214 v308 v480), ∀ a x, ((![v480, v308] : Fin 2 → IVec S16 32) a x).toNat < S32x512.size a := fun v308 v480 k0_hw214 => k0_hw214

def k0_chk215 (v308 : IVec S16 32) (v486 : IVec S16 32) : Prop :=
  (∀ a x, ((![v486, v308] : Fin 2 → IVec S16 32) a x).toNat < S32x512.size a)
theorem k0_idx211_inb : ∀ (v308 : IVec S16 32) (v486 : IVec S16 32) (k0_hw215 : k0_chk215 v308 v486), ∀ a x, ((![v486, v308] : Fin 2 → IVec S16 32) a x).toNat < S32x512.size a := fun v308 v486 k0_hw215 => k0_hw215

def k0_chk216 (v308 : IVec S16 32) (v492 : IVec S16 32) : Prop :=
  (∀ a x, ((![v492, v308] : Fin 2 → IVec S16 32) a x).toNat < S32x512.size a)
theorem k0_idx212_inb : ∀ (v308 : IVec S16 32) (v492 : IVec S16 32) (k0_hw216 : k0_chk216 v308 v492), ∀ a x, ((![v492, v308] : Fin 2 → IVec S16 32) a x).toNat < S32x512.size a := fun v308 v492 k0_hw216 => k0_hw216

def k0_chk217 (v308 : IVec S16 32) (v498 : IVec S16 32) : Prop :=
  (∀ a x, ((![v498, v308] : Fin 2 → IVec S16 32) a x).toNat < S32x512.size a)
theorem k0_idx213_inb : ∀ (v308 : IVec S16 32) (v498 : IVec S16 32) (k0_hw217 : k0_chk217 v308 v498), ∀ a x, ((![v498, v308] : Fin 2 → IVec S16 32) a x).toNat < S32x512.size a := fun v308 v498 k0_hw217 => k0_hw217

def k0_chk218 (v310 : IVec S16 32) : Prop :=
  (∀ a x, ((![v310] : Fin 1 → IVec S16 32) a x).toNat < S16640.size a)
theorem k0_idx214_inb : ∀ (v310 : IVec S16 32) (k0_hw218 : k0_chk218 v310), ∀ a x, ((![v310] : Fin 1 → IVec S16 32) a x).toNat < S16640.size a := fun v310 k0_hw218 => k0_hw218
def k0_off46 (i : grid0.Coords) : Fin 2 → Nat :=
  let c0_i32_91 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c61_i32_83 : BitVec 32 := 61#32
  let v127 : BitVec 32 := Scalar.addi v84 c61_i32_83
  let c1_i32_84 : BitVec 32 := 1#32
  let v128 : BitVec 32 := Scalar.subi v127 c1_i32_84
  let c512_i32_85 : BitVec 32 := 512#32
  let v129 : BitVec 32 := Scalar.muli v128 c512_i32_85
  ![0, v129.toNat]
def k0_off47 (i : grid0.Coords) : Fin 2 → Nat :=
  let c8_i32_97 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c61_i32_83 : BitVec 32 := 61#32
  let v127 : BitVec 32 := Scalar.addi v84 c61_i32_83
  let c1_i32_84 : BitVec 32 := 1#32
  let v128 : BitVec 32 := Scalar.subi v127 c1_i32_84
  let c512_i32_86 : BitVec 32 := 512#32
  let v130 : BitVec 32 := Scalar.muli v128 c512_i32_86
  ![8, v130.toNat]
def k0_off48 (i : grid0.Coords) : Fin 2 → Nat :=
  let c16_i32_103 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c61_i32_83 : BitVec 32 := 61#32
  let v127 : BitVec 32 := Scalar.addi v84 c61_i32_83
  let c1_i32_84 : BitVec 32 := 1#32
  let v128 : BitVec 32 := Scalar.subi v127 c1_i32_84
  let c512_i32_87 : BitVec 32 := 512#32
  let v131 : BitVec 32 := Scalar.muli v128 c512_i32_87
  ![16, v131.toNat]
def k0_off49 (i : grid0.Coords) : Fin 2 → Nat :=
  let c24_i32_109 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c61_i32 : BitVec 32 := 61#32
  let v84 : BitVec 32 := Scalar.muli v1 c61_i32
  let c61_i32_83 : BitVec 32 := 61#32
  let v127 : BitVec 32 := Scalar.addi v84 c61_i32_83
  let c1_i32_84 : BitVec 32 := 1#32
  let v128 : BitVec 32 := Scalar.subi v127 c1_i32_84
  let c512_i32_88 : BitVec 32 := 512#32
  let v132 : BitVec 32 := Scalar.muli v128 c512_i32_88
  ![24, v132.toNat]
@[reducible] def k0_t15_loop (v8 : BitVec 32) : Scf.Loop 32 :=
  let c0_i32_114 : BitVec 32 := 0#32
  let c15_i32 : BitVec 32 := 15#32
  let v82 : BitVec 32 := Scalar.addi v8 c15_i32
  let c4_i32 : BitVec 32 := 4#32
  let v83 : BitVec 32 := Scalar.shrui v82 c4_i32
  let v150 : BitVec 32 := Scalar.subi v83 c0_i32_114
  let c1_i32_116 : BitVec 32 := 1#32
  let v152 : BitVec 32 := Scalar.divsi v150 c1_i32_116
  let v153 : BitVec 32 := Scalar.muli v152 c1_i32_116
  let v154 : BitVec 32 := Scalar.addi c0_i32_114 v153
  let c1_i32_117 : BitVec 32 := 1#32
  ⟨c0_i32_114, v154, c1_i32_117⟩
def k0_off50 (v8 : BitVec 32) (k0_t15 : Fin (k0_t15_loop v8).trips) : Fin 1 → Nat :=
  let c0_i32_114 : BitVec 32 := 0#32
  let c1_i32_117 : BitVec 32 := 1#32
  let arg19 : BitVec 32 := Scf.iv c0_i32_114 c1_i32_117 k0_t15
  let c16_i32_135 : BitVec 32 := 16#32
  let v174 : BitVec 32 := Scalar.muli arg19 c16_i32_135
  let v175 : Index := Scalar.indexCast v174
  ![v175.toNat]

def k0_chk219 (v191 : IVec S16 32) : Prop :=
  (∀ a x, ((![v191] : Fin 1 → IVec S16 32) a x).toNat < S16384.size a)
theorem k0_idx215_inb : ∀ (v191 : IVec S16 32) (k0_hw219 : k0_chk219 v191), ∀ a x, ((![v191] : Fin 1 → IVec S16 32) a x).toNat < S16384.size a := fun v191 k0_hw219 => k0_hw219
@[reducible] def k0_t16_loop (v8 : BitVec 32) : Scf.Loop 32 :=
  let c0_i32_114 : BitVec 32 := 0#32
  let c15_i32 : BitVec 32 := 15#32
  let v82 : BitVec 32 := Scalar.addi v8 c15_i32
  let c4_i32 : BitVec 32 := 4#32
  let v83 : BitVec 32 := Scalar.shrui v82 c4_i32
  let v150 : BitVec 32 := Scalar.subi v83 c0_i32_114
  let c1_i32_116 : BitVec 32 := 1#32
  let v152 : BitVec 32 := Scalar.divsi v150 c1_i32_116
  let v153 : BitVec 32 := Scalar.muli v152 c1_i32_116
  let v154 : BitVec 32 := Scalar.addi c0_i32_114 v153
  let v151 : BitVec 32 := Scalar.addi c0_i32_114 v150
  let c1_i32_118 : BitVec 32 := 1#32
  ⟨v154, v151, c1_i32_118⟩
def k0_off51 (v8 : BitVec 32) (k0_t16 : Fin (k0_t16_loop v8).trips) : Fin 1 → Nat :=
  let c0_i32_114 : BitVec 32 := 0#32
  let c15_i32 : BitVec 32 := 15#32
  let v82 : BitVec 32 := Scalar.addi v8 c15_i32
  let c4_i32 : BitVec 32 := 4#32
  let v83 : BitVec 32 := Scalar.shrui v82 c4_i32
  let v150 : BitVec 32 := Scalar.subi v83 c0_i32_114
  let c1_i32_116 : BitVec 32 := 1#32
  let v152 : BitVec 32 := Scalar.divsi v150 c1_i32_116
  let v153 : BitVec 32 := Scalar.muli v152 c1_i32_116
  let v154 : BitVec 32 := Scalar.addi c0_i32_114 v153
  let c1_i32_118 : BitVec 32 := 1#32
  let arg19 : BitVec 32 := Scf.iv v154 c1_i32_118 k0_t16
  let c16_i32_135 : BitVec 32 := 16#32
  let v174 : BitVec 32 := Scalar.muli arg19 c16_i32_135
  let v175 : Index := Scalar.indexCast v174
  ![v175.toNat]

def k0_chk220 (v191 : IVec S16 32) : Prop :=
  (∀ a x, ((![v191] : Fin 1 → IVec S16 32) a x).toNat < S16384.size a)
theorem k0_idx216_inb : ∀ (v191 : IVec S16 32) (k0_hw220 : k0_chk220 v191), ∀ a x, ((![v191] : Fin 1 → IVec S16 32) a x).toNat < S16384.size a := fun v191 k0_hw220 => k0_hw220
@[reducible] def k0_t17_loop (v156 : BitVec 32) : Scf.Loop 32 :=
  let c0_i32_122 : BitVec 32 := 0#32
  let c15_i32_119 : BitVec 32 := 15#32
  let v157 : BitVec 32 := Scalar.addi v156 c15_i32_119
  let c4_i32_120 : BitVec 32 := 4#32
  let v158 : BitVec 32 := Scalar.shrui v157 c4_i32_120
  let v159 : BitVec 32 := Scalar.subi v158 c0_i32_122
  let c1_i32_123 : BitVec 32 := 1#32
  let v161 : BitVec 32 := Scalar.divsi v159 c1_i32_123
  let v162 : BitVec 32 := Scalar.muli v161 c1_i32_123
  let v163 : BitVec 32 := Scalar.addi c0_i32_122 v162
  let c1_i32_124 : BitVec 32 := 1#32
  ⟨c0_i32_122, v163, c1_i32_124⟩

def k0_off52 (v156 : BitVec 32) (k0_t17 : Fin (k0_t17_loop v156).trips) : Fin 1 → Nat :=
  let c0_i32_122 : BitVec 32 := 0#32
  let c1_i32_124 : BitVec 32 := 1#32
  let arg19 : BitVec 32 := Scf.iv c0_i32_122 c1_i32_124 k0_t17
  let c16_i32_136 : BitVec 32 := 16#32
  let v179 : BitVec 32 := Scalar.muli arg19 c16_i32_136
  let v180 : Index := Scalar.indexCast v179
  ![v180.toNat]

def k0_chk222 (v185 : IVec S16 32) (v189 : IVec S16 32) : Prop :=
  (∀ a x, ((![v189, v185] : Fin 2 → IVec S16 32) a x).toNat < S32x512.size a)
theorem k0_idx217_inb : ∀ (v185 : IVec S16 32) (v189 : IVec S16 32) (k0_hw222 : k0_chk222 v185 v189), ∀ a x, ((![v189, v185] : Fin 2 → IVec S16 32) a x).toNat < S32x512.size a := fun v185 v189 k0_hw222 => k0_hw222

def k0_chk223 (v185 : IVec S16 32) (v195 : IVec S16 32) : Prop :=
  (∀ a x, ((![v195, v185] : Fin 2 → IVec S16 32) a x).toNat < S32x512.size a)
theorem k0_idx218_inb : ∀ (v185 : IVec S16 32) (v195 : IVec S16 32) (k0_hw223 : k0_chk223 v185 v195), ∀ a x, ((![v195, v185] : Fin 2 → IVec S16 32) a x).toNat < S32x512.size a := fun v185 v195 k0_hw223 => k0_hw223

def k0_chk224 (v185 : IVec S16 32) (v201 : IVec S16 32) : Prop :=
  (∀ a x, ((![v201, v185] : Fin 2 → IVec S16 32) a x).toNat < S32x512.size a)
theorem k0_idx219_inb : ∀ (v185 : IVec S16 32) (v201 : IVec S16 32) (k0_hw224 : k0_chk224 v185 v201), ∀ a x, ((![v201, v185] : Fin 2 → IVec S16 32) a x).toNat < S32x512.size a := fun v185 v201 k0_hw224 => k0_hw224

def k0_chk225 (v185 : IVec S16 32) (v207 : IVec S16 32) : Prop :=
  (∀ a x, ((![v207, v185] : Fin 2 → IVec S16 32) a x).toNat < S32x512.size a)
theorem k0_idx220_inb : ∀ (v185 : IVec S16 32) (v207 : IVec S16 32) (k0_hw225 : k0_chk225 v185 v207), ∀ a x, ((![v207, v185] : Fin 2 → IVec S16 32) a x).toNat < S32x512.size a := fun v185 v207 k0_hw225 => k0_hw225

def k0_chk226 (v185 : IVec S16 32) (v213 : IVec S16 32) : Prop :=
  (∀ a x, ((![v213, v185] : Fin 2 → IVec S16 32) a x).toNat < S32x512.size a)
theorem k0_idx221_inb : ∀ (v185 : IVec S16 32) (v213 : IVec S16 32) (k0_hw226 : k0_chk226 v185 v213), ∀ a x, ((![v213, v185] : Fin 2 → IVec S16 32) a x).toNat < S32x512.size a := fun v185 v213 k0_hw226 => k0_hw226

def k0_chk227 (v185 : IVec S16 32) (v219 : IVec S16 32) : Prop :=
  (∀ a x, ((![v219, v185] : Fin 2 → IVec S16 32) a x).toNat < S32x512.size a)
theorem k0_idx222_inb : ∀ (v185 : IVec S16 32) (v219 : IVec S16 32) (k0_hw227 : k0_chk227 v185 v219), ∀ a x, ((![v219, v185] : Fin 2 → IVec S16 32) a x).toNat < S32x512.size a := fun v185 v219 k0_hw227 => k0_hw227

def k0_chk228 (v185 : IVec S16 32) (v225 : IVec S16 32) : Prop :=
  (∀ a x, ((![v225, v185] : Fin 2 → IVec S16 32) a x).toNat < S32x512.size a)
theorem k0_idx223_inb : ∀ (v185 : IVec S16 32) (v225 : IVec S16 32) (k0_hw228 : k0_chk228 v185 v225), ∀ a x, ((![v225, v185] : Fin 2 → IVec S16 32) a x).toNat < S32x512.size a := fun v185 v225 k0_hw228 => k0_hw228

def k0_chk229 (v185 : IVec S16 32) (v231 : IVec S16 32) : Prop :=
  (∀ a x, ((![v231, v185] : Fin 2 → IVec S16 32) a x).toNat < S32x512.size a)
theorem k0_idx224_inb : ∀ (v185 : IVec S16 32) (v231 : IVec S16 32) (k0_hw229 : k0_chk229 v185 v231), ∀ a x, ((![v231, v185] : Fin 2 → IVec S16 32) a x).toNat < S32x512.size a := fun v185 v231 k0_hw229 => k0_hw229

def k0_chk230 (v185 : IVec S16 32) (v237 : IVec S16 32) : Prop :=
  (∀ a x, ((![v237, v185] : Fin 2 → IVec S16 32) a x).toNat < S32x512.size a)
theorem k0_idx225_inb : ∀ (v185 : IVec S16 32) (v237 : IVec S16 32) (k0_hw230 : k0_chk230 v185 v237), ∀ a x, ((![v237, v185] : Fin 2 → IVec S16 32) a x).toNat < S32x512.size a := fun v185 v237 k0_hw230 => k0_hw230

def k0_chk231 (v185 : IVec S16 32) (v243 : IVec S16 32) : Prop :=
  (∀ a x, ((![v243, v185] : Fin 2 → IVec S16 32) a x).toNat < S32x512.size a)
theorem k0_idx226_inb : ∀ (v185 : IVec S16 32) (v243 : IVec S16 32) (k0_hw231 : k0_chk231 v185 v243), ∀ a x, ((![v243, v185] : Fin 2 → IVec S16 32) a x).toNat < S32x512.size a := fun v185 v243 k0_hw231 => k0_hw231

def k0_chk232 (v185 : IVec S16 32) (v249 : IVec S16 32) : Prop :=
  (∀ a x, ((![v249, v185] : Fin 2 → IVec S16 32) a x).toNat < S32x512.size a)
theorem k0_idx227_inb : ∀ (v185 : IVec S16 32) (v249 : IVec S16 32) (k0_hw232 : k0_chk232 v185 v249), ∀ a x, ((![v249, v185] : Fin 2 → IVec S16 32) a x).toNat < S32x512.size a := fun v185 v249 k0_hw232 => k0_hw232

def k0_chk233 (v185 : IVec S16 32) (v255 : IVec S16 32) : Prop :=
  (∀ a x, ((![v255, v185] : Fin 2 → IVec S16 32) a x).toNat < S32x512.size a)
theorem k0_idx228_inb : ∀ (v185 : IVec S16 32) (v255 : IVec S16 32) (k0_hw233 : k0_chk233 v185 v255), ∀ a x, ((![v255, v185] : Fin 2 → IVec S16 32) a x).toNat < S32x512.size a := fun v185 v255 k0_hw233 => k0_hw233

def k0_chk234 (v185 : IVec S16 32) (v261 : IVec S16 32) : Prop :=
  (∀ a x, ((![v261, v185] : Fin 2 → IVec S16 32) a x).toNat < S32x512.size a)
theorem k0_idx229_inb : ∀ (v185 : IVec S16 32) (v261 : IVec S16 32) (k0_hw234 : k0_chk234 v185 v261), ∀ a x, ((![v261, v185] : Fin 2 → IVec S16 32) a x).toNat < S32x512.size a := fun v185 v261 k0_hw234 => k0_hw234

def k0_chk235 (v185 : IVec S16 32) (v267 : IVec S16 32) : Prop :=
  (∀ a x, ((![v267, v185] : Fin 2 → IVec S16 32) a x).toNat < S32x512.size a)
theorem k0_idx230_inb : ∀ (v185 : IVec S16 32) (v267 : IVec S16 32) (k0_hw235 : k0_chk235 v185 v267), ∀ a x, ((![v267, v185] : Fin 2 → IVec S16 32) a x).toNat < S32x512.size a := fun v185 v267 k0_hw235 => k0_hw235

def k0_chk236 (v185 : IVec S16 32) (v273 : IVec S16 32) : Prop :=
  (∀ a x, ((![v273, v185] : Fin 2 → IVec S16 32) a x).toNat < S32x512.size a)
theorem k0_idx231_inb : ∀ (v185 : IVec S16 32) (v273 : IVec S16 32) (k0_hw236 : k0_chk236 v185 v273), ∀ a x, ((![v273, v185] : Fin 2 → IVec S16 32) a x).toNat < S32x512.size a := fun v185 v273 k0_hw236 => k0_hw236

def k0_chk237 (v185 : IVec S16 32) (v279 : IVec S16 32) : Prop :=
  (∀ a x, ((![v279, v185] : Fin 2 → IVec S16 32) a x).toNat < S32x512.size a)
theorem k0_idx232_inb : ∀ (v185 : IVec S16 32) (v279 : IVec S16 32) (k0_hw237 : k0_chk237 v185 v279), ∀ a x, ((![v279, v185] : Fin 2 → IVec S16 32) a x).toNat < S32x512.size a := fun v185 v279 k0_hw237 => k0_hw237

def k0_chk238 (v185 : IVec S16 32) (v285 : IVec S16 32) : Prop :=
  (∀ a x, ((![v285, v185] : Fin 2 → IVec S16 32) a x).toNat < S32x512.size a)
theorem k0_idx233_inb : ∀ (v185 : IVec S16 32) (v285 : IVec S16 32) (k0_hw238 : k0_chk238 v185 v285), ∀ a x, ((![v285, v185] : Fin 2 → IVec S16 32) a x).toNat < S32x512.size a := fun v185 v285 k0_hw238 => k0_hw238

def k0_chk239 (v185 : IVec S16 32) (v291 : IVec S16 32) : Prop :=
  (∀ a x, ((![v291, v185] : Fin 2 → IVec S16 32) a x).toNat < S32x512.size a)
theorem k0_idx234_inb : ∀ (v185 : IVec S16 32) (v291 : IVec S16 32) (k0_hw239 : k0_chk239 v185 v291), ∀ a x, ((![v291, v185] : Fin 2 → IVec S16 32) a x).toNat < S32x512.size a := fun v185 v291 k0_hw239 => k0_hw239

def k0_chk240 (v185 : IVec S16 32) (v297 : IVec S16 32) : Prop :=
  (∀ a x, ((![v297, v185] : Fin 2 → IVec S16 32) a x).toNat < S32x512.size a)
theorem k0_idx235_inb : ∀ (v185 : IVec S16 32) (v297 : IVec S16 32) (k0_hw240 : k0_chk240 v185 v297), ∀ a x, ((![v297, v185] : Fin 2 → IVec S16 32) a x).toNat < S32x512.size a := fun v185 v297 k0_hw240 => k0_hw240

def k0_chk241 (v185 : IVec S16 32) (v303 : IVec S16 32) : Prop :=
  (∀ a x, ((![v303, v185] : Fin 2 → IVec S16 32) a x).toNat < S32x512.size a)
theorem k0_idx236_inb : ∀ (v185 : IVec S16 32) (v303 : IVec S16 32) (k0_hw241 : k0_chk241 v185 v303), ∀ a x, ((![v303, v185] : Fin 2 → IVec S16 32) a x).toNat < S32x512.size a := fun v185 v303 k0_hw241 => k0_hw241

def k0_chk242 (v185 : IVec S16 32) (v309 : IVec S16 32) : Prop :=
  (∀ a x, ((![v309, v185] : Fin 2 → IVec S16 32) a x).toNat < S32x512.size a)
theorem k0_idx237_inb : ∀ (v185 : IVec S16 32) (v309 : IVec S16 32) (k0_hw242 : k0_chk242 v185 v309), ∀ a x, ((![v309, v185] : Fin 2 → IVec S16 32) a x).toNat < S32x512.size a := fun v185 v309 k0_hw242 => k0_hw242

def k0_chk243 (v185 : IVec S16 32) (v315 : IVec S16 32) : Prop :=
  (∀ a x, ((![v315, v185] : Fin 2 → IVec S16 32) a x).toNat < S32x512.size a)
theorem k0_idx238_inb : ∀ (v185 : IVec S16 32) (v315 : IVec S16 32) (k0_hw243 : k0_chk243 v185 v315), ∀ a x, ((![v315, v185] : Fin 2 → IVec S16 32) a x).toNat < S32x512.size a := fun v185 v315 k0_hw243 => k0_hw243

def k0_chk244 (v185 : IVec S16 32) (v321 : IVec S16 32) : Prop :=
  (∀ a x, ((![v321, v185] : Fin 2 → IVec S16 32) a x).toNat < S32x512.size a)
theorem k0_idx239_inb : ∀ (v185 : IVec S16 32) (v321 : IVec S16 32) (k0_hw244 : k0_chk244 v185 v321), ∀ a x, ((![v321, v185] : Fin 2 → IVec S16 32) a x).toNat < S32x512.size a := fun v185 v321 k0_hw244 => k0_hw244

def k0_chk245 (v185 : IVec S16 32) (v327 : IVec S16 32) : Prop :=
  (∀ a x, ((![v327, v185] : Fin 2 → IVec S16 32) a x).toNat < S32x512.size a)
theorem k0_idx240_inb : ∀ (v185 : IVec S16 32) (v327 : IVec S16 32) (k0_hw245 : k0_chk245 v185 v327), ∀ a x, ((![v327, v185] : Fin 2 → IVec S16 32) a x).toNat < S32x512.size a := fun v185 v327 k0_hw245 => k0_hw245

def k0_chk246 (v185 : IVec S16 32) (v333 : IVec S16 32) : Prop :=
  (∀ a x, ((![v333, v185] : Fin 2 → IVec S16 32) a x).toNat < S32x512.size a)
theorem k0_idx241_inb : ∀ (v185 : IVec S16 32) (v333 : IVec S16 32) (k0_hw246 : k0_chk246 v185 v333), ∀ a x, ((![v333, v185] : Fin 2 → IVec S16 32) a x).toNat < S32x512.size a := fun v185 v333 k0_hw246 => k0_hw246

def k0_chk247 (v185 : IVec S16 32) (v339 : IVec S16 32) : Prop :=
  (∀ a x, ((![v339, v185] : Fin 2 → IVec S16 32) a x).toNat < S32x512.size a)
theorem k0_idx242_inb : ∀ (v185 : IVec S16 32) (v339 : IVec S16 32) (k0_hw247 : k0_chk247 v185 v339), ∀ a x, ((![v339, v185] : Fin 2 → IVec S16 32) a x).toNat < S32x512.size a := fun v185 v339 k0_hw247 => k0_hw247

def k0_chk248 (v185 : IVec S16 32) (v345 : IVec S16 32) : Prop :=
  (∀ a x, ((![v345, v185] : Fin 2 → IVec S16 32) a x).toNat < S32x512.size a)
theorem k0_idx243_inb : ∀ (v185 : IVec S16 32) (v345 : IVec S16 32) (k0_hw248 : k0_chk248 v185 v345), ∀ a x, ((![v345, v185] : Fin 2 → IVec S16 32) a x).toNat < S32x512.size a := fun v185 v345 k0_hw248 => k0_hw248

def k0_chk249 (v185 : IVec S16 32) (v351 : IVec S16 32) : Prop :=
  (∀ a x, ((![v351, v185] : Fin 2 → IVec S16 32) a x).toNat < S32x512.size a)
theorem k0_idx244_inb : ∀ (v185 : IVec S16 32) (v351 : IVec S16 32) (k0_hw249 : k0_chk249 v185 v351), ∀ a x, ((![v351, v185] : Fin 2 → IVec S16 32) a x).toNat < S32x512.size a := fun v185 v351 k0_hw249 => k0_hw249

def k0_chk250 (v185 : IVec S16 32) (v357 : IVec S16 32) : Prop :=
  (∀ a x, ((![v357, v185] : Fin 2 → IVec S16 32) a x).toNat < S32x512.size a)
theorem k0_idx245_inb : ∀ (v185 : IVec S16 32) (v357 : IVec S16 32) (k0_hw250 : k0_chk250 v185 v357), ∀ a x, ((![v357, v185] : Fin 2 → IVec S16 32) a x).toNat < S32x512.size a := fun v185 v357 k0_hw250 => k0_hw250

def k0_chk251 (v185 : IVec S16 32) (v363 : IVec S16 32) : Prop :=
  (∀ a x, ((![v363, v185] : Fin 2 → IVec S16 32) a x).toNat < S32x512.size a)
theorem k0_idx246_inb : ∀ (v185 : IVec S16 32) (v363 : IVec S16 32) (k0_hw251 : k0_chk251 v185 v363), ∀ a x, ((![v363, v185] : Fin 2 → IVec S16 32) a x).toNat < S32x512.size a := fun v185 v363 k0_hw251 => k0_hw251

def k0_chk252 (v185 : IVec S16 32) (v369 : IVec S16 32) : Prop :=
  (∀ a x, ((![v369, v185] : Fin 2 → IVec S16 32) a x).toNat < S32x512.size a)
theorem k0_idx247_inb : ∀ (v185 : IVec S16 32) (v369 : IVec S16 32) (k0_hw252 : k0_chk252 v185 v369), ∀ a x, ((![v369, v185] : Fin 2 → IVec S16 32) a x).toNat < S32x512.size a := fun v185 v369 k0_hw252 => k0_hw252

def k0_chk253 (v185 : IVec S16 32) (v375 : IVec S16 32) : Prop :=
  (∀ a x, ((![v375, v185] : Fin 2 → IVec S16 32) a x).toNat < S32x512.size a)
theorem k0_idx248_inb : ∀ (v185 : IVec S16 32) (v375 : IVec S16 32) (k0_hw253 : k0_chk253 v185 v375), ∀ a x, ((![v375, v185] : Fin 2 → IVec S16 32) a x).toNat < S32x512.size a := fun v185 v375 k0_hw253 => k0_hw253

def k0_chk254 (v187 : IVec S16 32) : Prop :=
  (∀ a x, ((![v187] : Fin 1 → IVec S16 32) a x).toNat < S16640.size a)
theorem k0_idx249_inb : ∀ (v187 : IVec S16 32) (k0_hw254 : k0_chk254 v187), ∀ a x, ((![v187] : Fin 1 → IVec S16 32) a x).toNat < S16640.size a := fun v187 k0_hw254 => k0_hw254
@[reducible] def k0_t18_loop (v156 : BitVec 32) : Scf.Loop 32 :=
  let c0_i32_122 : BitVec 32 := 0#32
  let c15_i32_119 : BitVec 32 := 15#32
  let v157 : BitVec 32 := Scalar.addi v156 c15_i32_119
  let c4_i32_120 : BitVec 32 := 4#32
  let v158 : BitVec 32 := Scalar.shrui v157 c4_i32_120
  let v159 : BitVec 32 := Scalar.subi v158 c0_i32_122
  let c1_i32_123 : BitVec 32 := 1#32
  let v161 : BitVec 32 := Scalar.divsi v159 c1_i32_123
  let v162 : BitVec 32 := Scalar.muli v161 c1_i32_123
  let v163 : BitVec 32 := Scalar.addi c0_i32_122 v162
  let v160 : BitVec 32 := Scalar.addi c0_i32_122 v159
  let c1_i32_125 : BitVec 32 := 1#32
  ⟨v163, v160, c1_i32_125⟩
def k0_off53 (v156 : BitVec 32) (k0_t18 : Fin (k0_t18_loop v156).trips) : Fin 1 → Nat :=
  let c0_i32_122 : BitVec 32 := 0#32
  let c15_i32_119 : BitVec 32 := 15#32
  let v157 : BitVec 32 := Scalar.addi v156 c15_i32_119
  let c4_i32_120 : BitVec 32 := 4#32
  let v158 : BitVec 32 := Scalar.shrui v157 c4_i32_120
  let v159 : BitVec 32 := Scalar.subi v158 c0_i32_122
  let c1_i32_123 : BitVec 32 := 1#32
  let v161 : BitVec 32 := Scalar.divsi v159 c1_i32_123
  let v162 : BitVec 32 := Scalar.muli v161 c1_i32_123
  let v163 : BitVec 32 := Scalar.addi c0_i32_122 v162
  let c1_i32_125 : BitVec 32 := 1#32
  let arg19 : BitVec 32 := Scf.iv v163 c1_i32_125 k0_t18
  let c16_i32_136 : BitVec 32 := 16#32
  let v179 : BitVec 32 := Scalar.muli arg19 c16_i32_136
  let v180 : Index := Scalar.indexCast v179
  ![v180.toNat]

def k0_chk221 (v156 : BitVec 32) : Prop :=
  ((k0_t17_loop v156).OK) ∧
  (∀ k0_t17 : Fin (k0_t17_loop v156).trips, ∀ a, (k0_off52 v156 k0_t17) a + S16.size a ≤ S16384.size a) ∧
  ((k0_t18_loop v156).OK) ∧
  (∀ k0_t18 : Fin (k0_t18_loop v156).trips, ∀ a, (k0_off53 v156 k0_t18) a + S16.size a ≤ S16384.size a)
theorem k0_t17_ok : ∀ (v156 : BitVec 32) (k0_hw221 : k0_chk221 v156), (k0_t17_loop v156).OK := fun v156 k0_hw221 => k0_hw221.1
theorem k0_off52_inb : ∀ (v156 : BitVec 32) (k0_hw221 : k0_chk221 v156) (k0_t17 : Fin (k0_t17_loop v156).trips), ∀ a, (k0_off52 v156 k0_t17) a + S16.size a ≤ S16384.size a := fun v156 k0_hw221 k0_t17 => k0_hw221.2.1 k0_t17
theorem k0_t18_ok : ∀ (v156 : BitVec 32) (k0_hw221 : k0_chk221 v156), (k0_t18_loop v156).OK := fun v156 k0_hw221 => k0_hw221.2.2.1
theorem k0_off53_inb : ∀ (v156 : BitVec 32) (k0_hw221 : k0_chk221 v156) (k0_t18 : Fin (k0_t18_loop v156).trips), ∀ a, (k0_off53 v156 k0_t18) a + S16.size a ≤ S16384.size a := fun v156 k0_hw221 k0_t18 => k0_hw221.2.2.2 k0_t18

def k0_chk255 (v185 : IVec S16 32) (v189 : IVec S16 32) : Prop :=
  (∀ a x, ((![v189, v185] : Fin 2 → IVec S16 32) a x).toNat < S32x512.size a)
theorem k0_idx250_inb : ∀ (v185 : IVec S16 32) (v189 : IVec S16 32) (k0_hw255 : k0_chk255 v185 v189), ∀ a x, ((![v189, v185] : Fin 2 → IVec S16 32) a x).toNat < S32x512.size a := fun v185 v189 k0_hw255 => k0_hw255

def k0_chk256 (v185 : IVec S16 32) (v195 : IVec S16 32) : Prop :=
  (∀ a x, ((![v195, v185] : Fin 2 → IVec S16 32) a x).toNat < S32x512.size a)
theorem k0_idx251_inb : ∀ (v185 : IVec S16 32) (v195 : IVec S16 32) (k0_hw256 : k0_chk256 v185 v195), ∀ a x, ((![v195, v185] : Fin 2 → IVec S16 32) a x).toNat < S32x512.size a := fun v185 v195 k0_hw256 => k0_hw256

def k0_chk257 (v185 : IVec S16 32) (v201 : IVec S16 32) : Prop :=
  (∀ a x, ((![v201, v185] : Fin 2 → IVec S16 32) a x).toNat < S32x512.size a)
theorem k0_idx252_inb : ∀ (v185 : IVec S16 32) (v201 : IVec S16 32) (k0_hw257 : k0_chk257 v185 v201), ∀ a x, ((![v201, v185] : Fin 2 → IVec S16 32) a x).toNat < S32x512.size a := fun v185 v201 k0_hw257 => k0_hw257

def k0_chk258 (v185 : IVec S16 32) (v207 : IVec S16 32) : Prop :=
  (∀ a x, ((![v207, v185] : Fin 2 → IVec S16 32) a x).toNat < S32x512.size a)
theorem k0_idx253_inb : ∀ (v185 : IVec S16 32) (v207 : IVec S16 32) (k0_hw258 : k0_chk258 v185 v207), ∀ a x, ((![v207, v185] : Fin 2 → IVec S16 32) a x).toNat < S32x512.size a := fun v185 v207 k0_hw258 => k0_hw258

def k0_chk259 (v185 : IVec S16 32) (v213 : IVec S16 32) : Prop :=
  (∀ a x, ((![v213, v185] : Fin 2 → IVec S16 32) a x).toNat < S32x512.size a)
theorem k0_idx254_inb : ∀ (v185 : IVec S16 32) (v213 : IVec S16 32) (k0_hw259 : k0_chk259 v185 v213), ∀ a x, ((![v213, v185] : Fin 2 → IVec S16 32) a x).toNat < S32x512.size a := fun v185 v213 k0_hw259 => k0_hw259

def k0_chk260 (v185 : IVec S16 32) (v219 : IVec S16 32) : Prop :=
  (∀ a x, ((![v219, v185] : Fin 2 → IVec S16 32) a x).toNat < S32x512.size a)
theorem k0_idx255_inb : ∀ (v185 : IVec S16 32) (v219 : IVec S16 32) (k0_hw260 : k0_chk260 v185 v219), ∀ a x, ((![v219, v185] : Fin 2 → IVec S16 32) a x).toNat < S32x512.size a := fun v185 v219 k0_hw260 => k0_hw260

def k0_chk261 (v185 : IVec S16 32) (v225 : IVec S16 32) : Prop :=
  (∀ a x, ((![v225, v185] : Fin 2 → IVec S16 32) a x).toNat < S32x512.size a)
theorem k0_idx256_inb : ∀ (v185 : IVec S16 32) (v225 : IVec S16 32) (k0_hw261 : k0_chk261 v185 v225), ∀ a x, ((![v225, v185] : Fin 2 → IVec S16 32) a x).toNat < S32x512.size a := fun v185 v225 k0_hw261 => k0_hw261

def k0_chk262 (v185 : IVec S16 32) (v231 : IVec S16 32) : Prop :=
  (∀ a x, ((![v231, v185] : Fin 2 → IVec S16 32) a x).toNat < S32x512.size a)
theorem k0_idx257_inb : ∀ (v185 : IVec S16 32) (v231 : IVec S16 32) (k0_hw262 : k0_chk262 v185 v231), ∀ a x, ((![v231, v185] : Fin 2 → IVec S16 32) a x).toNat < S32x512.size a := fun v185 v231 k0_hw262 => k0_hw262

def k0_chk263 (v185 : IVec S16 32) (v237 : IVec S16 32) : Prop :=
  (∀ a x, ((![v237, v185] : Fin 2 → IVec S16 32) a x).toNat < S32x512.size a)
theorem k0_idx258_inb : ∀ (v185 : IVec S16 32) (v237 : IVec S16 32) (k0_hw263 : k0_chk263 v185 v237), ∀ a x, ((![v237, v185] : Fin 2 → IVec S16 32) a x).toNat < S32x512.size a := fun v185 v237 k0_hw263 => k0_hw263

def k0_chk264 (v185 : IVec S16 32) (v243 : IVec S16 32) : Prop :=
  (∀ a x, ((![v243, v185] : Fin 2 → IVec S16 32) a x).toNat < S32x512.size a)
theorem k0_idx259_inb : ∀ (v185 : IVec S16 32) (v243 : IVec S16 32) (k0_hw264 : k0_chk264 v185 v243), ∀ a x, ((![v243, v185] : Fin 2 → IVec S16 32) a x).toNat < S32x512.size a := fun v185 v243 k0_hw264 => k0_hw264

def k0_chk265 (v185 : IVec S16 32) (v249 : IVec S16 32) : Prop :=
  (∀ a x, ((![v249, v185] : Fin 2 → IVec S16 32) a x).toNat < S32x512.size a)
theorem k0_idx260_inb : ∀ (v185 : IVec S16 32) (v249 : IVec S16 32) (k0_hw265 : k0_chk265 v185 v249), ∀ a x, ((![v249, v185] : Fin 2 → IVec S16 32) a x).toNat < S32x512.size a := fun v185 v249 k0_hw265 => k0_hw265

def k0_chk266 (v185 : IVec S16 32) (v255 : IVec S16 32) : Prop :=
  (∀ a x, ((![v255, v185] : Fin 2 → IVec S16 32) a x).toNat < S32x512.size a)
theorem k0_idx261_inb : ∀ (v185 : IVec S16 32) (v255 : IVec S16 32) (k0_hw266 : k0_chk266 v185 v255), ∀ a x, ((![v255, v185] : Fin 2 → IVec S16 32) a x).toNat < S32x512.size a := fun v185 v255 k0_hw266 => k0_hw266

def k0_chk267 (v185 : IVec S16 32) (v261 : IVec S16 32) : Prop :=
  (∀ a x, ((![v261, v185] : Fin 2 → IVec S16 32) a x).toNat < S32x512.size a)
theorem k0_idx262_inb : ∀ (v185 : IVec S16 32) (v261 : IVec S16 32) (k0_hw267 : k0_chk267 v185 v261), ∀ a x, ((![v261, v185] : Fin 2 → IVec S16 32) a x).toNat < S32x512.size a := fun v185 v261 k0_hw267 => k0_hw267

def k0_chk268 (v185 : IVec S16 32) (v267 : IVec S16 32) : Prop :=
  (∀ a x, ((![v267, v185] : Fin 2 → IVec S16 32) a x).toNat < S32x512.size a)
theorem k0_idx263_inb : ∀ (v185 : IVec S16 32) (v267 : IVec S16 32) (k0_hw268 : k0_chk268 v185 v267), ∀ a x, ((![v267, v185] : Fin 2 → IVec S16 32) a x).toNat < S32x512.size a := fun v185 v267 k0_hw268 => k0_hw268

def k0_chk269 (v185 : IVec S16 32) (v273 : IVec S16 32) : Prop :=
  (∀ a x, ((![v273, v185] : Fin 2 → IVec S16 32) a x).toNat < S32x512.size a)
theorem k0_idx264_inb : ∀ (v185 : IVec S16 32) (v273 : IVec S16 32) (k0_hw269 : k0_chk269 v185 v273), ∀ a x, ((![v273, v185] : Fin 2 → IVec S16 32) a x).toNat < S32x512.size a := fun v185 v273 k0_hw269 => k0_hw269

def k0_chk270 (v185 : IVec S16 32) (v279 : IVec S16 32) : Prop :=
  (∀ a x, ((![v279, v185] : Fin 2 → IVec S16 32) a x).toNat < S32x512.size a)
theorem k0_idx265_inb : ∀ (v185 : IVec S16 32) (v279 : IVec S16 32) (k0_hw270 : k0_chk270 v185 v279), ∀ a x, ((![v279, v185] : Fin 2 → IVec S16 32) a x).toNat < S32x512.size a := fun v185 v279 k0_hw270 => k0_hw270

def k0_chk271 (v185 : IVec S16 32) (v285 : IVec S16 32) : Prop :=
  (∀ a x, ((![v285, v185] : Fin 2 → IVec S16 32) a x).toNat < S32x512.size a)
theorem k0_idx266_inb : ∀ (v185 : IVec S16 32) (v285 : IVec S16 32) (k0_hw271 : k0_chk271 v185 v285), ∀ a x, ((![v285, v185] : Fin 2 → IVec S16 32) a x).toNat < S32x512.size a := fun v185 v285 k0_hw271 => k0_hw271

def k0_chk272 (v185 : IVec S16 32) (v291 : IVec S16 32) : Prop :=
  (∀ a x, ((![v291, v185] : Fin 2 → IVec S16 32) a x).toNat < S32x512.size a)
theorem k0_idx267_inb : ∀ (v185 : IVec S16 32) (v291 : IVec S16 32) (k0_hw272 : k0_chk272 v185 v291), ∀ a x, ((![v291, v185] : Fin 2 → IVec S16 32) a x).toNat < S32x512.size a := fun v185 v291 k0_hw272 => k0_hw272

def k0_chk273 (v185 : IVec S16 32) (v297 : IVec S16 32) : Prop :=
  (∀ a x, ((![v297, v185] : Fin 2 → IVec S16 32) a x).toNat < S32x512.size a)
theorem k0_idx268_inb : ∀ (v185 : IVec S16 32) (v297 : IVec S16 32) (k0_hw273 : k0_chk273 v185 v297), ∀ a x, ((![v297, v185] : Fin 2 → IVec S16 32) a x).toNat < S32x512.size a := fun v185 v297 k0_hw273 => k0_hw273

def k0_chk274 (v185 : IVec S16 32) (v303 : IVec S16 32) : Prop :=
  (∀ a x, ((![v303, v185] : Fin 2 → IVec S16 32) a x).toNat < S32x512.size a)
theorem k0_idx269_inb : ∀ (v185 : IVec S16 32) (v303 : IVec S16 32) (k0_hw274 : k0_chk274 v185 v303), ∀ a x, ((![v303, v185] : Fin 2 → IVec S16 32) a x).toNat < S32x512.size a := fun v185 v303 k0_hw274 => k0_hw274

def k0_chk275 (v185 : IVec S16 32) (v309 : IVec S16 32) : Prop :=
  (∀ a x, ((![v309, v185] : Fin 2 → IVec S16 32) a x).toNat < S32x512.size a)
theorem k0_idx270_inb : ∀ (v185 : IVec S16 32) (v309 : IVec S16 32) (k0_hw275 : k0_chk275 v185 v309), ∀ a x, ((![v309, v185] : Fin 2 → IVec S16 32) a x).toNat < S32x512.size a := fun v185 v309 k0_hw275 => k0_hw275

def k0_chk276 (v185 : IVec S16 32) (v315 : IVec S16 32) : Prop :=
  (∀ a x, ((![v315, v185] : Fin 2 → IVec S16 32) a x).toNat < S32x512.size a)
theorem k0_idx271_inb : ∀ (v185 : IVec S16 32) (v315 : IVec S16 32) (k0_hw276 : k0_chk276 v185 v315), ∀ a x, ((![v315, v185] : Fin 2 → IVec S16 32) a x).toNat < S32x512.size a := fun v185 v315 k0_hw276 => k0_hw276

def k0_chk277 (v185 : IVec S16 32) (v321 : IVec S16 32) : Prop :=
  (∀ a x, ((![v321, v185] : Fin 2 → IVec S16 32) a x).toNat < S32x512.size a)
theorem k0_idx272_inb : ∀ (v185 : IVec S16 32) (v321 : IVec S16 32) (k0_hw277 : k0_chk277 v185 v321), ∀ a x, ((![v321, v185] : Fin 2 → IVec S16 32) a x).toNat < S32x512.size a := fun v185 v321 k0_hw277 => k0_hw277

def k0_chk278 (v185 : IVec S16 32) (v327 : IVec S16 32) : Prop :=
  (∀ a x, ((![v327, v185] : Fin 2 → IVec S16 32) a x).toNat < S32x512.size a)
theorem k0_idx273_inb : ∀ (v185 : IVec S16 32) (v327 : IVec S16 32) (k0_hw278 : k0_chk278 v185 v327), ∀ a x, ((![v327, v185] : Fin 2 → IVec S16 32) a x).toNat < S32x512.size a := fun v185 v327 k0_hw278 => k0_hw278

def k0_chk279 (v185 : IVec S16 32) (v333 : IVec S16 32) : Prop :=
  (∀ a x, ((![v333, v185] : Fin 2 → IVec S16 32) a x).toNat < S32x512.size a)
theorem k0_idx274_inb : ∀ (v185 : IVec S16 32) (v333 : IVec S16 32) (k0_hw279 : k0_chk279 v185 v333), ∀ a x, ((![v333, v185] : Fin 2 → IVec S16 32) a x).toNat < S32x512.size a := fun v185 v333 k0_hw279 => k0_hw279

def k0_chk280 (v185 : IVec S16 32) (v339 : IVec S16 32) : Prop :=
  (∀ a x, ((![v339, v185] : Fin 2 → IVec S16 32) a x).toNat < S32x512.size a)
theorem k0_idx275_inb : ∀ (v185 : IVec S16 32) (v339 : IVec S16 32) (k0_hw280 : k0_chk280 v185 v339), ∀ a x, ((![v339, v185] : Fin 2 → IVec S16 32) a x).toNat < S32x512.size a := fun v185 v339 k0_hw280 => k0_hw280

def k0_chk281 (v185 : IVec S16 32) (v345 : IVec S16 32) : Prop :=
  (∀ a x, ((![v345, v185] : Fin 2 → IVec S16 32) a x).toNat < S32x512.size a)
theorem k0_idx276_inb : ∀ (v185 : IVec S16 32) (v345 : IVec S16 32) (k0_hw281 : k0_chk281 v185 v345), ∀ a x, ((![v345, v185] : Fin 2 → IVec S16 32) a x).toNat < S32x512.size a := fun v185 v345 k0_hw281 => k0_hw281

def k0_chk282 (v185 : IVec S16 32) (v351 : IVec S16 32) : Prop :=
  (∀ a x, ((![v351, v185] : Fin 2 → IVec S16 32) a x).toNat < S32x512.size a)
theorem k0_idx277_inb : ∀ (v185 : IVec S16 32) (v351 : IVec S16 32) (k0_hw282 : k0_chk282 v185 v351), ∀ a x, ((![v351, v185] : Fin 2 → IVec S16 32) a x).toNat < S32x512.size a := fun v185 v351 k0_hw282 => k0_hw282

def k0_chk283 (v185 : IVec S16 32) (v357 : IVec S16 32) : Prop :=
  (∀ a x, ((![v357, v185] : Fin 2 → IVec S16 32) a x).toNat < S32x512.size a)
theorem k0_idx278_inb : ∀ (v185 : IVec S16 32) (v357 : IVec S16 32) (k0_hw283 : k0_chk283 v185 v357), ∀ a x, ((![v357, v185] : Fin 2 → IVec S16 32) a x).toNat < S32x512.size a := fun v185 v357 k0_hw283 => k0_hw283

def k0_chk284 (v185 : IVec S16 32) (v363 : IVec S16 32) : Prop :=
  (∀ a x, ((![v363, v185] : Fin 2 → IVec S16 32) a x).toNat < S32x512.size a)
theorem k0_idx279_inb : ∀ (v185 : IVec S16 32) (v363 : IVec S16 32) (k0_hw284 : k0_chk284 v185 v363), ∀ a x, ((![v363, v185] : Fin 2 → IVec S16 32) a x).toNat < S32x512.size a := fun v185 v363 k0_hw284 => k0_hw284

def k0_chk285 (v185 : IVec S16 32) (v369 : IVec S16 32) : Prop :=
  (∀ a x, ((![v369, v185] : Fin 2 → IVec S16 32) a x).toNat < S32x512.size a)
theorem k0_idx280_inb : ∀ (v185 : IVec S16 32) (v369 : IVec S16 32) (k0_hw285 : k0_chk285 v185 v369), ∀ a x, ((![v369, v185] : Fin 2 → IVec S16 32) a x).toNat < S32x512.size a := fun v185 v369 k0_hw285 => k0_hw285

def k0_chk286 (v185 : IVec S16 32) (v375 : IVec S16 32) : Prop :=
  (∀ a x, ((![v375, v185] : Fin 2 → IVec S16 32) a x).toNat < S32x512.size a)
theorem k0_idx281_inb : ∀ (v185 : IVec S16 32) (v375 : IVec S16 32) (k0_hw286 : k0_chk286 v185 v375), ∀ a x, ((![v375, v185] : Fin 2 → IVec S16 32) a x).toNat < S32x512.size a := fun v185 v375 k0_hw286 => k0_hw286

def k0_chk287 (v187 : IVec S16 32) : Prop :=
  (∀ a x, ((![v187] : Fin 1 → IVec S16 32) a x).toNat < S16640.size a)
theorem k0_idx282_inb : ∀ (v187 : IVec S16 32) (k0_hw287 : k0_chk287 v187), ∀ a x, ((![v187] : Fin 1 → IVec S16 32) a x).toNat < S16640.size a := fun v187 k0_hw287 => k0_hw287
def k0_cond4 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_126 : BitVec 32 := 31#32
  let v164 : BitVec 1 := Scalar.cmpi .eq v1 c31_i32_126
  let v165 : BitVec 32 := Scalar.extui v164
  let c0_i32_127 : BitVec 32 := 0#32
  let v166 : BitVec 1 := Scalar.cmpi .ne v165 c0_i32_127
  v166

@[reducible] def k0_t19_loop (v8 : BitVec 32) : Scf.Loop 32 :=
  let c0_i32_198 : BitVec 32 := 0#32
  let c15_i32 : BitVec 32 := 15#32
  let v82 : BitVec 32 := Scalar.addi v8 c15_i32
  let c4_i32 : BitVec 32 := 4#32
  let v83 : BitVec 32 := Scalar.shrui v82 c4_i32
  let v206 : BitVec 32 := Scalar.subi v83 c0_i32_198
  let c1_i32_200 : BitVec 32 := 1#32
  let v208 : BitVec 32 := Scalar.divsi v206 c1_i32_200
  let v209 : BitVec 32 := Scalar.muli v208 c1_i32_200
  let v210 : BitVec 32 := Scalar.addi c0_i32_198 v209
  let c1_i32_201 : BitVec 32 := 1#32
  ⟨c0_i32_198, v210, c1_i32_201⟩
def k0_off54 (v8 : BitVec 32) (k0_t19 : Fin (k0_t19_loop v8).trips) : Fin 1 → Nat :=
  let c0_i32_198 : BitVec 32 := 0#32
  let c1_i32_201 : BitVec 32 := 1#32
  let arg19 : BitVec 32 := Scf.iv c0_i32_198 c1_i32_201 k0_t19
  let c16_i32_222 : BitVec 32 := 16#32
  let v234 : BitVec 32 := Scalar.muli arg19 c16_i32_222
  let v235 : Index := Scalar.indexCast v234
  ![v235.toNat]

def k0_chk288 (i : grid0.Coords) (v250 : IVec S16 32) : Prop :=
  (∀ (k0_h4 : k0_cond4 i = 1#1), ∀ a x, ((![v250] : Fin 1 → IVec S16 32) a x).toNat < S16384.size a)
theorem k0_idx283_inb : ∀ (i : grid0.Coords) (v250 : IVec S16 32) (k0_hw288 : k0_chk288 i v250), ∀ (k0_h4 : k0_cond4 i = 1#1), ∀ a x, ((![v250] : Fin 1 → IVec S16 32) a x).toNat < S16384.size a := fun i v250 k0_hw288 k0_h4 => k0_hw288 k0_h4
@[reducible] def k0_t20_loop (v8 : BitVec 32) : Scf.Loop 32 :=
  let c0_i32_198 : BitVec 32 := 0#32
  let c15_i32 : BitVec 32 := 15#32
  let v82 : BitVec 32 := Scalar.addi v8 c15_i32
  let c4_i32 : BitVec 32 := 4#32
  let v83 : BitVec 32 := Scalar.shrui v82 c4_i32
  let v206 : BitVec 32 := Scalar.subi v83 c0_i32_198
  let c1_i32_200 : BitVec 32 := 1#32
  let v208 : BitVec 32 := Scalar.divsi v206 c1_i32_200
  let v209 : BitVec 32 := Scalar.muli v208 c1_i32_200
  let v210 : BitVec 32 := Scalar.addi c0_i32_198 v209
  let v207 : BitVec 32 := Scalar.addi c0_i32_198 v206
  let c1_i32_202 : BitVec 32 := 1#32
  ⟨v210, v207, c1_i32_202⟩
def k0_off55 (v8 : BitVec 32) (k0_t20 : Fin (k0_t20_loop v8).trips) : Fin 1 → Nat :=
  let c0_i32_198 : BitVec 32 := 0#32
  let c15_i32 : BitVec 32 := 15#32
  let v82 : BitVec 32 := Scalar.addi v8 c15_i32
  let c4_i32 : BitVec 32 := 4#32
  let v83 : BitVec 32 := Scalar.shrui v82 c4_i32
  let v206 : BitVec 32 := Scalar.subi v83 c0_i32_198
  let c1_i32_200 : BitVec 32 := 1#32
  let v208 : BitVec 32 := Scalar.divsi v206 c1_i32_200
  let v209 : BitVec 32 := Scalar.muli v208 c1_i32_200
  let v210 : BitVec 32 := Scalar.addi c0_i32_198 v209
  let c1_i32_202 : BitVec 32 := 1#32
  let arg19 : BitVec 32 := Scf.iv v210 c1_i32_202 k0_t20
  let c16_i32_222 : BitVec 32 := 16#32
  let v234 : BitVec 32 := Scalar.muli arg19 c16_i32_222
  let v235 : Index := Scalar.indexCast v234
  ![v235.toNat]

def k0_chk289 (i : grid0.Coords) (v250 : IVec S16 32) : Prop :=
  (∀ (k0_h4 : k0_cond4 i = 1#1), ∀ a x, ((![v250] : Fin 1 → IVec S16 32) a x).toNat < S16384.size a)
theorem k0_idx284_inb : ∀ (i : grid0.Coords) (v250 : IVec S16 32) (k0_hw289 : k0_chk289 i v250), ∀ (k0_h4 : k0_cond4 i = 1#1), ∀ a x, ((![v250] : Fin 1 → IVec S16 32) a x).toNat < S16384.size a := fun i v250 k0_hw289 k0_h4 => k0_hw289 k0_h4
@[reducible] def k0_t21_loop (v212 : BitVec 32) : Scf.Loop 32 :=
  let c0_i32_206 : BitVec 32 := 0#32
  let c15_i32_203 : BitVec 32 := 15#32
  let v213 : BitVec 32 := Scalar.addi v212 c15_i32_203
  let c4_i32_204 : BitVec 32 := 4#32
  let v214 : BitVec 32 := Scalar.shrui v213 c4_i32_204
  let v215 : BitVec 32 := Scalar.subi v214 c0_i32_206
  let c1_i32_207 : BitVec 32 := 1#32
  let v217 : BitVec 32 := Scalar.divsi v215 c1_i32_207
  let v218 : BitVec 32 := Scalar.muli v217 c1_i32_207
  let v219 : BitVec 32 := Scalar.addi c0_i32_206 v218
  let c1_i32_208 : BitVec 32 := 1#32
  ⟨c0_i32_206, v219, c1_i32_208⟩

def k0_off56 (v212 : BitVec 32) (k0_t21 : Fin (k0_t21_loop v212).trips) : Fin 1 → Nat :=
  let c0_i32_206 : BitVec 32 := 0#32
  let c1_i32_208 : BitVec 32 := 1#32
  let arg19 : BitVec 32 := Scf.iv c0_i32_206 c1_i32_208 k0_t21
  let c16_i32_223 : BitVec 32 := 16#32
  let v239 : BitVec 32 := Scalar.muli arg19 c16_i32_223
  let v240 : Index := Scalar.indexCast v239
  ![v240.toNat]

def k0_chk291 (i : grid0.Coords) (v245 : IVec S16 32) (v249 : IVec S16 32) : Prop :=
  (∀ (k0_h4 : k0_cond4 i = 1#1), ∀ a x, ((![v249, v245] : Fin 2 → IVec S16 32) a x).toNat < S32x512.size a)
theorem k0_idx285_inb : ∀ (i : grid0.Coords) (v245 : IVec S16 32) (v249 : IVec S16 32) (k0_hw291 : k0_chk291 i v245 v249), ∀ (k0_h4 : k0_cond4 i = 1#1), ∀ a x, ((![v249, v245] : Fin 2 → IVec S16 32) a x).toNat < S32x512.size a := fun i v245 v249 k0_hw291 k0_h4 => k0_hw291 k0_h4

def k0_chk292 (i : grid0.Coords) (v245 : IVec S16 32) (v255 : IVec S16 32) : Prop :=
  (∀ (k0_h4 : k0_cond4 i = 1#1), ∀ a x, ((![v255, v245] : Fin 2 → IVec S16 32) a x).toNat < S32x512.size a)
theorem k0_idx286_inb : ∀ (i : grid0.Coords) (v245 : IVec S16 32) (v255 : IVec S16 32) (k0_hw292 : k0_chk292 i v245 v255), ∀ (k0_h4 : k0_cond4 i = 1#1), ∀ a x, ((![v255, v245] : Fin 2 → IVec S16 32) a x).toNat < S32x512.size a := fun i v245 v255 k0_hw292 k0_h4 => k0_hw292 k0_h4

def k0_chk293 (i : grid0.Coords) (v245 : IVec S16 32) (v261 : IVec S16 32) : Prop :=
  (∀ (k0_h4 : k0_cond4 i = 1#1), ∀ a x, ((![v261, v245] : Fin 2 → IVec S16 32) a x).toNat < S32x512.size a)
theorem k0_idx287_inb : ∀ (i : grid0.Coords) (v245 : IVec S16 32) (v261 : IVec S16 32) (k0_hw293 : k0_chk293 i v245 v261), ∀ (k0_h4 : k0_cond4 i = 1#1), ∀ a x, ((![v261, v245] : Fin 2 → IVec S16 32) a x).toNat < S32x512.size a := fun i v245 v261 k0_hw293 k0_h4 => k0_hw293 k0_h4

def k0_chk294 (i : grid0.Coords) (v245 : IVec S16 32) (v267 : IVec S16 32) : Prop :=
  (∀ (k0_h4 : k0_cond4 i = 1#1), ∀ a x, ((![v267, v245] : Fin 2 → IVec S16 32) a x).toNat < S32x512.size a)
theorem k0_idx288_inb : ∀ (i : grid0.Coords) (v245 : IVec S16 32) (v267 : IVec S16 32) (k0_hw294 : k0_chk294 i v245 v267), ∀ (k0_h4 : k0_cond4 i = 1#1), ∀ a x, ((![v267, v245] : Fin 2 → IVec S16 32) a x).toNat < S32x512.size a := fun i v245 v267 k0_hw294 k0_h4 => k0_hw294 k0_h4

def k0_chk295 (i : grid0.Coords) (v245 : IVec S16 32) (v273 : IVec S16 32) : Prop :=
  (∀ (k0_h4 : k0_cond4 i = 1#1), ∀ a x, ((![v273, v245] : Fin 2 → IVec S16 32) a x).toNat < S32x512.size a)
theorem k0_idx289_inb : ∀ (i : grid0.Coords) (v245 : IVec S16 32) (v273 : IVec S16 32) (k0_hw295 : k0_chk295 i v245 v273), ∀ (k0_h4 : k0_cond4 i = 1#1), ∀ a x, ((![v273, v245] : Fin 2 → IVec S16 32) a x).toNat < S32x512.size a := fun i v245 v273 k0_hw295 k0_h4 => k0_hw295 k0_h4

def k0_chk296 (i : grid0.Coords) (v245 : IVec S16 32) (v279 : IVec S16 32) : Prop :=
  (∀ (k0_h4 : k0_cond4 i = 1#1), ∀ a x, ((![v279, v245] : Fin 2 → IVec S16 32) a x).toNat < S32x512.size a)
theorem k0_idx290_inb : ∀ (i : grid0.Coords) (v245 : IVec S16 32) (v279 : IVec S16 32) (k0_hw296 : k0_chk296 i v245 v279), ∀ (k0_h4 : k0_cond4 i = 1#1), ∀ a x, ((![v279, v245] : Fin 2 → IVec S16 32) a x).toNat < S32x512.size a := fun i v245 v279 k0_hw296 k0_h4 => k0_hw296 k0_h4

def k0_chk297 (i : grid0.Coords) (v245 : IVec S16 32) (v285 : IVec S16 32) : Prop :=
  (∀ (k0_h4 : k0_cond4 i = 1#1), ∀ a x, ((![v285, v245] : Fin 2 → IVec S16 32) a x).toNat < S32x512.size a)
theorem k0_idx291_inb : ∀ (i : grid0.Coords) (v245 : IVec S16 32) (v285 : IVec S16 32) (k0_hw297 : k0_chk297 i v245 v285), ∀ (k0_h4 : k0_cond4 i = 1#1), ∀ a x, ((![v285, v245] : Fin 2 → IVec S16 32) a x).toNat < S32x512.size a := fun i v245 v285 k0_hw297 k0_h4 => k0_hw297 k0_h4

def k0_chk298 (i : grid0.Coords) (v245 : IVec S16 32) (v291 : IVec S16 32) : Prop :=
  (∀ (k0_h4 : k0_cond4 i = 1#1), ∀ a x, ((![v291, v245] : Fin 2 → IVec S16 32) a x).toNat < S32x512.size a)
theorem k0_idx292_inb : ∀ (i : grid0.Coords) (v245 : IVec S16 32) (v291 : IVec S16 32) (k0_hw298 : k0_chk298 i v245 v291), ∀ (k0_h4 : k0_cond4 i = 1#1), ∀ a x, ((![v291, v245] : Fin 2 → IVec S16 32) a x).toNat < S32x512.size a := fun i v245 v291 k0_hw298 k0_h4 => k0_hw298 k0_h4

def k0_chk299 (i : grid0.Coords) (v245 : IVec S16 32) (v297 : IVec S16 32) : Prop :=
  (∀ (k0_h4 : k0_cond4 i = 1#1), ∀ a x, ((![v297, v245] : Fin 2 → IVec S16 32) a x).toNat < S32x512.size a)
theorem k0_idx293_inb : ∀ (i : grid0.Coords) (v245 : IVec S16 32) (v297 : IVec S16 32) (k0_hw299 : k0_chk299 i v245 v297), ∀ (k0_h4 : k0_cond4 i = 1#1), ∀ a x, ((![v297, v245] : Fin 2 → IVec S16 32) a x).toNat < S32x512.size a := fun i v245 v297 k0_hw299 k0_h4 => k0_hw299 k0_h4

def k0_chk300 (i : grid0.Coords) (v245 : IVec S16 32) (v303 : IVec S16 32) : Prop :=
  (∀ (k0_h4 : k0_cond4 i = 1#1), ∀ a x, ((![v303, v245] : Fin 2 → IVec S16 32) a x).toNat < S32x512.size a)
theorem k0_idx294_inb : ∀ (i : grid0.Coords) (v245 : IVec S16 32) (v303 : IVec S16 32) (k0_hw300 : k0_chk300 i v245 v303), ∀ (k0_h4 : k0_cond4 i = 1#1), ∀ a x, ((![v303, v245] : Fin 2 → IVec S16 32) a x).toNat < S32x512.size a := fun i v245 v303 k0_hw300 k0_h4 => k0_hw300 k0_h4

def k0_chk301 (i : grid0.Coords) (v245 : IVec S16 32) (v309 : IVec S16 32) : Prop :=
  (∀ (k0_h4 : k0_cond4 i = 1#1), ∀ a x, ((![v309, v245] : Fin 2 → IVec S16 32) a x).toNat < S32x512.size a)
theorem k0_idx295_inb : ∀ (i : grid0.Coords) (v245 : IVec S16 32) (v309 : IVec S16 32) (k0_hw301 : k0_chk301 i v245 v309), ∀ (k0_h4 : k0_cond4 i = 1#1), ∀ a x, ((![v309, v245] : Fin 2 → IVec S16 32) a x).toNat < S32x512.size a := fun i v245 v309 k0_hw301 k0_h4 => k0_hw301 k0_h4

def k0_chk302 (i : grid0.Coords) (v245 : IVec S16 32) (v315 : IVec S16 32) : Prop :=
  (∀ (k0_h4 : k0_cond4 i = 1#1), ∀ a x, ((![v315, v245] : Fin 2 → IVec S16 32) a x).toNat < S32x512.size a)
theorem k0_idx296_inb : ∀ (i : grid0.Coords) (v245 : IVec S16 32) (v315 : IVec S16 32) (k0_hw302 : k0_chk302 i v245 v315), ∀ (k0_h4 : k0_cond4 i = 1#1), ∀ a x, ((![v315, v245] : Fin 2 → IVec S16 32) a x).toNat < S32x512.size a := fun i v245 v315 k0_hw302 k0_h4 => k0_hw302 k0_h4

def k0_chk303 (i : grid0.Coords) (v245 : IVec S16 32) (v321 : IVec S16 32) : Prop :=
  (∀ (k0_h4 : k0_cond4 i = 1#1), ∀ a x, ((![v321, v245] : Fin 2 → IVec S16 32) a x).toNat < S32x512.size a)
theorem k0_idx297_inb : ∀ (i : grid0.Coords) (v245 : IVec S16 32) (v321 : IVec S16 32) (k0_hw303 : k0_chk303 i v245 v321), ∀ (k0_h4 : k0_cond4 i = 1#1), ∀ a x, ((![v321, v245] : Fin 2 → IVec S16 32) a x).toNat < S32x512.size a := fun i v245 v321 k0_hw303 k0_h4 => k0_hw303 k0_h4

def k0_chk304 (i : grid0.Coords) (v245 : IVec S16 32) (v327 : IVec S16 32) : Prop :=
  (∀ (k0_h4 : k0_cond4 i = 1#1), ∀ a x, ((![v327, v245] : Fin 2 → IVec S16 32) a x).toNat < S32x512.size a)
theorem k0_idx298_inb : ∀ (i : grid0.Coords) (v245 : IVec S16 32) (v327 : IVec S16 32) (k0_hw304 : k0_chk304 i v245 v327), ∀ (k0_h4 : k0_cond4 i = 1#1), ∀ a x, ((![v327, v245] : Fin 2 → IVec S16 32) a x).toNat < S32x512.size a := fun i v245 v327 k0_hw304 k0_h4 => k0_hw304 k0_h4

def k0_chk305 (i : grid0.Coords) (v245 : IVec S16 32) (v333 : IVec S16 32) : Prop :=
  (∀ (k0_h4 : k0_cond4 i = 1#1), ∀ a x, ((![v333, v245] : Fin 2 → IVec S16 32) a x).toNat < S32x512.size a)
theorem k0_idx299_inb : ∀ (i : grid0.Coords) (v245 : IVec S16 32) (v333 : IVec S16 32) (k0_hw305 : k0_chk305 i v245 v333), ∀ (k0_h4 : k0_cond4 i = 1#1), ∀ a x, ((![v333, v245] : Fin 2 → IVec S16 32) a x).toNat < S32x512.size a := fun i v245 v333 k0_hw305 k0_h4 => k0_hw305 k0_h4

def k0_chk306 (i : grid0.Coords) (v245 : IVec S16 32) (v339 : IVec S16 32) : Prop :=
  (∀ (k0_h4 : k0_cond4 i = 1#1), ∀ a x, ((![v339, v245] : Fin 2 → IVec S16 32) a x).toNat < S32x512.size a)
theorem k0_idx300_inb : ∀ (i : grid0.Coords) (v245 : IVec S16 32) (v339 : IVec S16 32) (k0_hw306 : k0_chk306 i v245 v339), ∀ (k0_h4 : k0_cond4 i = 1#1), ∀ a x, ((![v339, v245] : Fin 2 → IVec S16 32) a x).toNat < S32x512.size a := fun i v245 v339 k0_hw306 k0_h4 => k0_hw306 k0_h4

def k0_chk307 (i : grid0.Coords) (v245 : IVec S16 32) (v345 : IVec S16 32) : Prop :=
  (∀ (k0_h4 : k0_cond4 i = 1#1), ∀ a x, ((![v345, v245] : Fin 2 → IVec S16 32) a x).toNat < S32x512.size a)
theorem k0_idx301_inb : ∀ (i : grid0.Coords) (v245 : IVec S16 32) (v345 : IVec S16 32) (k0_hw307 : k0_chk307 i v245 v345), ∀ (k0_h4 : k0_cond4 i = 1#1), ∀ a x, ((![v345, v245] : Fin 2 → IVec S16 32) a x).toNat < S32x512.size a := fun i v245 v345 k0_hw307 k0_h4 => k0_hw307 k0_h4

def k0_chk308 (i : grid0.Coords) (v245 : IVec S16 32) (v351 : IVec S16 32) : Prop :=
  (∀ (k0_h4 : k0_cond4 i = 1#1), ∀ a x, ((![v351, v245] : Fin 2 → IVec S16 32) a x).toNat < S32x512.size a)
theorem k0_idx302_inb : ∀ (i : grid0.Coords) (v245 : IVec S16 32) (v351 : IVec S16 32) (k0_hw308 : k0_chk308 i v245 v351), ∀ (k0_h4 : k0_cond4 i = 1#1), ∀ a x, ((![v351, v245] : Fin 2 → IVec S16 32) a x).toNat < S32x512.size a := fun i v245 v351 k0_hw308 k0_h4 => k0_hw308 k0_h4

def k0_chk309 (i : grid0.Coords) (v245 : IVec S16 32) (v357 : IVec S16 32) : Prop :=
  (∀ (k0_h4 : k0_cond4 i = 1#1), ∀ a x, ((![v357, v245] : Fin 2 → IVec S16 32) a x).toNat < S32x512.size a)
theorem k0_idx303_inb : ∀ (i : grid0.Coords) (v245 : IVec S16 32) (v357 : IVec S16 32) (k0_hw309 : k0_chk309 i v245 v357), ∀ (k0_h4 : k0_cond4 i = 1#1), ∀ a x, ((![v357, v245] : Fin 2 → IVec S16 32) a x).toNat < S32x512.size a := fun i v245 v357 k0_hw309 k0_h4 => k0_hw309 k0_h4

def k0_chk310 (i : grid0.Coords) (v245 : IVec S16 32) (v363 : IVec S16 32) : Prop :=
  (∀ (k0_h4 : k0_cond4 i = 1#1), ∀ a x, ((![v363, v245] : Fin 2 → IVec S16 32) a x).toNat < S32x512.size a)
theorem k0_idx304_inb : ∀ (i : grid0.Coords) (v245 : IVec S16 32) (v363 : IVec S16 32) (k0_hw310 : k0_chk310 i v245 v363), ∀ (k0_h4 : k0_cond4 i = 1#1), ∀ a x, ((![v363, v245] : Fin 2 → IVec S16 32) a x).toNat < S32x512.size a := fun i v245 v363 k0_hw310 k0_h4 => k0_hw310 k0_h4

def k0_chk311 (i : grid0.Coords) (v245 : IVec S16 32) (v369 : IVec S16 32) : Prop :=
  (∀ (k0_h4 : k0_cond4 i = 1#1), ∀ a x, ((![v369, v245] : Fin 2 → IVec S16 32) a x).toNat < S32x512.size a)
theorem k0_idx305_inb : ∀ (i : grid0.Coords) (v245 : IVec S16 32) (v369 : IVec S16 32) (k0_hw311 : k0_chk311 i v245 v369), ∀ (k0_h4 : k0_cond4 i = 1#1), ∀ a x, ((![v369, v245] : Fin 2 → IVec S16 32) a x).toNat < S32x512.size a := fun i v245 v369 k0_hw311 k0_h4 => k0_hw311 k0_h4

def k0_chk312 (i : grid0.Coords) (v245 : IVec S16 32) (v375 : IVec S16 32) : Prop :=
  (∀ (k0_h4 : k0_cond4 i = 1#1), ∀ a x, ((![v375, v245] : Fin 2 → IVec S16 32) a x).toNat < S32x512.size a)
theorem k0_idx306_inb : ∀ (i : grid0.Coords) (v245 : IVec S16 32) (v375 : IVec S16 32) (k0_hw312 : k0_chk312 i v245 v375), ∀ (k0_h4 : k0_cond4 i = 1#1), ∀ a x, ((![v375, v245] : Fin 2 → IVec S16 32) a x).toNat < S32x512.size a := fun i v245 v375 k0_hw312 k0_h4 => k0_hw312 k0_h4

def k0_chk313 (i : grid0.Coords) (v245 : IVec S16 32) (v381 : IVec S16 32) : Prop :=
  (∀ (k0_h4 : k0_cond4 i = 1#1), ∀ a x, ((![v381, v245] : Fin 2 → IVec S16 32) a x).toNat < S32x512.size a)
theorem k0_idx307_inb : ∀ (i : grid0.Coords) (v245 : IVec S16 32) (v381 : IVec S16 32) (k0_hw313 : k0_chk313 i v245 v381), ∀ (k0_h4 : k0_cond4 i = 1#1), ∀ a x, ((![v381, v245] : Fin 2 → IVec S16 32) a x).toNat < S32x512.size a := fun i v245 v381 k0_hw313 k0_h4 => k0_hw313 k0_h4

def k0_chk314 (i : grid0.Coords) (v245 : IVec S16 32) (v387 : IVec S16 32) : Prop :=
  (∀ (k0_h4 : k0_cond4 i = 1#1), ∀ a x, ((![v387, v245] : Fin 2 → IVec S16 32) a x).toNat < S32x512.size a)
theorem k0_idx308_inb : ∀ (i : grid0.Coords) (v245 : IVec S16 32) (v387 : IVec S16 32) (k0_hw314 : k0_chk314 i v245 v387), ∀ (k0_h4 : k0_cond4 i = 1#1), ∀ a x, ((![v387, v245] : Fin 2 → IVec S16 32) a x).toNat < S32x512.size a := fun i v245 v387 k0_hw314 k0_h4 => k0_hw314 k0_h4

def k0_chk315 (i : grid0.Coords) (v245 : IVec S16 32) (v393 : IVec S16 32) : Prop :=
  (∀ (k0_h4 : k0_cond4 i = 1#1), ∀ a x, ((![v393, v245] : Fin 2 → IVec S16 32) a x).toNat < S32x512.size a)
theorem k0_idx309_inb : ∀ (i : grid0.Coords) (v245 : IVec S16 32) (v393 : IVec S16 32) (k0_hw315 : k0_chk315 i v245 v393), ∀ (k0_h4 : k0_cond4 i = 1#1), ∀ a x, ((![v393, v245] : Fin 2 → IVec S16 32) a x).toNat < S32x512.size a := fun i v245 v393 k0_hw315 k0_h4 => k0_hw315 k0_h4

def k0_chk316 (i : grid0.Coords) (v245 : IVec S16 32) (v399 : IVec S16 32) : Prop :=
  (∀ (k0_h4 : k0_cond4 i = 1#1), ∀ a x, ((![v399, v245] : Fin 2 → IVec S16 32) a x).toNat < S32x512.size a)
theorem k0_idx310_inb : ∀ (i : grid0.Coords) (v245 : IVec S16 32) (v399 : IVec S16 32) (k0_hw316 : k0_chk316 i v245 v399), ∀ (k0_h4 : k0_cond4 i = 1#1), ∀ a x, ((![v399, v245] : Fin 2 → IVec S16 32) a x).toNat < S32x512.size a := fun i v245 v399 k0_hw316 k0_h4 => k0_hw316 k0_h4

def k0_chk317 (i : grid0.Coords) (v245 : IVec S16 32) (v405 : IVec S16 32) : Prop :=
  (∀ (k0_h4 : k0_cond4 i = 1#1), ∀ a x, ((![v405, v245] : Fin 2 → IVec S16 32) a x).toNat < S32x512.size a)
theorem k0_idx311_inb : ∀ (i : grid0.Coords) (v245 : IVec S16 32) (v405 : IVec S16 32) (k0_hw317 : k0_chk317 i v245 v405), ∀ (k0_h4 : k0_cond4 i = 1#1), ∀ a x, ((![v405, v245] : Fin 2 → IVec S16 32) a x).toNat < S32x512.size a := fun i v245 v405 k0_hw317 k0_h4 => k0_hw317 k0_h4

def k0_chk318 (i : grid0.Coords) (v245 : IVec S16 32) (v411 : IVec S16 32) : Prop :=
  (∀ (k0_h4 : k0_cond4 i = 1#1), ∀ a x, ((![v411, v245] : Fin 2 → IVec S16 32) a x).toNat < S32x512.size a)
theorem k0_idx312_inb : ∀ (i : grid0.Coords) (v245 : IVec S16 32) (v411 : IVec S16 32) (k0_hw318 : k0_chk318 i v245 v411), ∀ (k0_h4 : k0_cond4 i = 1#1), ∀ a x, ((![v411, v245] : Fin 2 → IVec S16 32) a x).toNat < S32x512.size a := fun i v245 v411 k0_hw318 k0_h4 => k0_hw318 k0_h4

def k0_chk319 (i : grid0.Coords) (v245 : IVec S16 32) (v417 : IVec S16 32) : Prop :=
  (∀ (k0_h4 : k0_cond4 i = 1#1), ∀ a x, ((![v417, v245] : Fin 2 → IVec S16 32) a x).toNat < S32x512.size a)
theorem k0_idx313_inb : ∀ (i : grid0.Coords) (v245 : IVec S16 32) (v417 : IVec S16 32) (k0_hw319 : k0_chk319 i v245 v417), ∀ (k0_h4 : k0_cond4 i = 1#1), ∀ a x, ((![v417, v245] : Fin 2 → IVec S16 32) a x).toNat < S32x512.size a := fun i v245 v417 k0_hw319 k0_h4 => k0_hw319 k0_h4

def k0_chk320 (i : grid0.Coords) (v245 : IVec S16 32) (v423 : IVec S16 32) : Prop :=
  (∀ (k0_h4 : k0_cond4 i = 1#1), ∀ a x, ((![v423, v245] : Fin 2 → IVec S16 32) a x).toNat < S32x512.size a)
theorem k0_idx314_inb : ∀ (i : grid0.Coords) (v245 : IVec S16 32) (v423 : IVec S16 32) (k0_hw320 : k0_chk320 i v245 v423), ∀ (k0_h4 : k0_cond4 i = 1#1), ∀ a x, ((![v423, v245] : Fin 2 → IVec S16 32) a x).toNat < S32x512.size a := fun i v245 v423 k0_hw320 k0_h4 => k0_hw320 k0_h4

def k0_chk321 (i : grid0.Coords) (v245 : IVec S16 32) (v429 : IVec S16 32) : Prop :=
  (∀ (k0_h4 : k0_cond4 i = 1#1), ∀ a x, ((![v429, v245] : Fin 2 → IVec S16 32) a x).toNat < S32x512.size a)
theorem k0_idx315_inb : ∀ (i : grid0.Coords) (v245 : IVec S16 32) (v429 : IVec S16 32) (k0_hw321 : k0_chk321 i v245 v429), ∀ (k0_h4 : k0_cond4 i = 1#1), ∀ a x, ((![v429, v245] : Fin 2 → IVec S16 32) a x).toNat < S32x512.size a := fun i v245 v429 k0_hw321 k0_h4 => k0_hw321 k0_h4

def k0_chk322 (i : grid0.Coords) (v245 : IVec S16 32) (v435 : IVec S16 32) : Prop :=
  (∀ (k0_h4 : k0_cond4 i = 1#1), ∀ a x, ((![v435, v245] : Fin 2 → IVec S16 32) a x).toNat < S32x512.size a)
theorem k0_idx316_inb : ∀ (i : grid0.Coords) (v245 : IVec S16 32) (v435 : IVec S16 32) (k0_hw322 : k0_chk322 i v245 v435), ∀ (k0_h4 : k0_cond4 i = 1#1), ∀ a x, ((![v435, v245] : Fin 2 → IVec S16 32) a x).toNat < S32x512.size a := fun i v245 v435 k0_hw322 k0_h4 => k0_hw322 k0_h4

def k0_chk323 (i : grid0.Coords) (v247 : IVec S16 32) : Prop :=
  (∀ (k0_h4 : k0_cond4 i = 1#1), ∀ a x, ((![v247] : Fin 1 → IVec S16 32) a x).toNat < S16640.size a)
theorem k0_idx317_inb : ∀ (i : grid0.Coords) (v247 : IVec S16 32) (k0_hw323 : k0_chk323 i v247), ∀ (k0_h4 : k0_cond4 i = 1#1), ∀ a x, ((![v247] : Fin 1 → IVec S16 32) a x).toNat < S16640.size a := fun i v247 k0_hw323 k0_h4 => k0_hw323 k0_h4
@[reducible] def k0_t22_loop (v212 : BitVec 32) : Scf.Loop 32 :=
  let c0_i32_206 : BitVec 32 := 0#32
  let c15_i32_203 : BitVec 32 := 15#32
  let v213 : BitVec 32 := Scalar.addi v212 c15_i32_203
  let c4_i32_204 : BitVec 32 := 4#32
  let v214 : BitVec 32 := Scalar.shrui v213 c4_i32_204
  let v215 : BitVec 32 := Scalar.subi v214 c0_i32_206
  let c1_i32_207 : BitVec 32 := 1#32
  let v217 : BitVec 32 := Scalar.divsi v215 c1_i32_207
  let v218 : BitVec 32 := Scalar.muli v217 c1_i32_207
  let v219 : BitVec 32 := Scalar.addi c0_i32_206 v218
  let v216 : BitVec 32 := Scalar.addi c0_i32_206 v215
  let c1_i32_209 : BitVec 32 := 1#32
  ⟨v219, v216, c1_i32_209⟩
def k0_off57 (v212 : BitVec 32) (k0_t22 : Fin (k0_t22_loop v212).trips) : Fin 1 → Nat :=
  let c0_i32_206 : BitVec 32 := 0#32
  let c15_i32_203 : BitVec 32 := 15#32
  let v213 : BitVec 32 := Scalar.addi v212 c15_i32_203
  let c4_i32_204 : BitVec 32 := 4#32
  let v214 : BitVec 32 := Scalar.shrui v213 c4_i32_204
  let v215 : BitVec 32 := Scalar.subi v214 c0_i32_206
  let c1_i32_207 : BitVec 32 := 1#32
  let v217 : BitVec 32 := Scalar.divsi v215 c1_i32_207
  let v218 : BitVec 32 := Scalar.muli v217 c1_i32_207
  let v219 : BitVec 32 := Scalar.addi c0_i32_206 v218
  let c1_i32_209 : BitVec 32 := 1#32
  let arg19 : BitVec 32 := Scf.iv v219 c1_i32_209 k0_t22
  let c16_i32_223 : BitVec 32 := 16#32
  let v239 : BitVec 32 := Scalar.muli arg19 c16_i32_223
  let v240 : Index := Scalar.indexCast v239
  ![v240.toNat]

def k0_chk290 (i : grid0.Coords) (v212 : BitVec 32) : Prop :=
  (∀ (k0_h4 : k0_cond4 i = 1#1), (k0_t21_loop v212).OK) ∧
  (∀ k0_t21 : Fin (k0_t21_loop v212).trips, ∀ (k0_h4 : k0_cond4 i = 1#1), ∀ a, (k0_off56 v212 k0_t21) a + S16.size a ≤ S16384.size a) ∧
  (∀ (k0_h4 : k0_cond4 i = 1#1), (k0_t22_loop v212).OK) ∧
  (∀ k0_t22 : Fin (k0_t22_loop v212).trips, ∀ (k0_h4 : k0_cond4 i = 1#1), ∀ a, (k0_off57 v212 k0_t22) a + S16.size a ≤ S16384.size a)
theorem k0_t21_ok : ∀ (i : grid0.Coords) (v212 : BitVec 32) (k0_hw290 : k0_chk290 i v212), ∀ (k0_h4 : k0_cond4 i = 1#1), (k0_t21_loop v212).OK := fun i v212 k0_hw290 k0_h4 => k0_hw290.1 k0_h4
theorem k0_off56_inb : ∀ (i : grid0.Coords) (v212 : BitVec 32) (k0_hw290 : k0_chk290 i v212) (k0_t21 : Fin (k0_t21_loop v212).trips), ∀ (k0_h4 : k0_cond4 i = 1#1), ∀ a, (k0_off56 v212 k0_t21) a + S16.size a ≤ S16384.size a := fun i v212 k0_hw290 k0_t21 k0_h4 => k0_hw290.2.1 k0_t21 k0_h4
theorem k0_t22_ok : ∀ (i : grid0.Coords) (v212 : BitVec 32) (k0_hw290 : k0_chk290 i v212), ∀ (k0_h4 : k0_cond4 i = 1#1), (k0_t22_loop v212).OK := fun i v212 k0_hw290 k0_h4 => k0_hw290.2.2.1 k0_h4
theorem k0_off57_inb : ∀ (i : grid0.Coords) (v212 : BitVec 32) (k0_hw290 : k0_chk290 i v212) (k0_t22 : Fin (k0_t22_loop v212).trips), ∀ (k0_h4 : k0_cond4 i = 1#1), ∀ a, (k0_off57 v212 k0_t22) a + S16.size a ≤ S16384.size a := fun i v212 k0_hw290 k0_t22 k0_h4 => k0_hw290.2.2.2 k0_t22 k0_h4

def k0_chk324 (i : grid0.Coords) (v245 : IVec S16 32) (v249 : IVec S16 32) : Prop :=
  (∀ (k0_h4 : k0_cond4 i = 1#1), ∀ a x, ((![v249, v245] : Fin 2 → IVec S16 32) a x).toNat < S32x512.size a)
theorem k0_idx318_inb : ∀ (i : grid0.Coords) (v245 : IVec S16 32) (v249 : IVec S16 32) (k0_hw324 : k0_chk324 i v245 v249), ∀ (k0_h4 : k0_cond4 i = 1#1), ∀ a x, ((![v249, v245] : Fin 2 → IVec S16 32) a x).toNat < S32x512.size a := fun i v245 v249 k0_hw324 k0_h4 => k0_hw324 k0_h4

def k0_chk325 (i : grid0.Coords) (v245 : IVec S16 32) (v255 : IVec S16 32) : Prop :=
  (∀ (k0_h4 : k0_cond4 i = 1#1), ∀ a x, ((![v255, v245] : Fin 2 → IVec S16 32) a x).toNat < S32x512.size a)
theorem k0_idx319_inb : ∀ (i : grid0.Coords) (v245 : IVec S16 32) (v255 : IVec S16 32) (k0_hw325 : k0_chk325 i v245 v255), ∀ (k0_h4 : k0_cond4 i = 1#1), ∀ a x, ((![v255, v245] : Fin 2 → IVec S16 32) a x).toNat < S32x512.size a := fun i v245 v255 k0_hw325 k0_h4 => k0_hw325 k0_h4

def k0_chk326 (i : grid0.Coords) (v245 : IVec S16 32) (v261 : IVec S16 32) : Prop :=
  (∀ (k0_h4 : k0_cond4 i = 1#1), ∀ a x, ((![v261, v245] : Fin 2 → IVec S16 32) a x).toNat < S32x512.size a)
theorem k0_idx320_inb : ∀ (i : grid0.Coords) (v245 : IVec S16 32) (v261 : IVec S16 32) (k0_hw326 : k0_chk326 i v245 v261), ∀ (k0_h4 : k0_cond4 i = 1#1), ∀ a x, ((![v261, v245] : Fin 2 → IVec S16 32) a x).toNat < S32x512.size a := fun i v245 v261 k0_hw326 k0_h4 => k0_hw326 k0_h4

def k0_chk327 (i : grid0.Coords) (v245 : IVec S16 32) (v267 : IVec S16 32) : Prop :=
  (∀ (k0_h4 : k0_cond4 i = 1#1), ∀ a x, ((![v267, v245] : Fin 2 → IVec S16 32) a x).toNat < S32x512.size a)
theorem k0_idx321_inb : ∀ (i : grid0.Coords) (v245 : IVec S16 32) (v267 : IVec S16 32) (k0_hw327 : k0_chk327 i v245 v267), ∀ (k0_h4 : k0_cond4 i = 1#1), ∀ a x, ((![v267, v245] : Fin 2 → IVec S16 32) a x).toNat < S32x512.size a := fun i v245 v267 k0_hw327 k0_h4 => k0_hw327 k0_h4

def k0_chk328 (i : grid0.Coords) (v245 : IVec S16 32) (v273 : IVec S16 32) : Prop :=
  (∀ (k0_h4 : k0_cond4 i = 1#1), ∀ a x, ((![v273, v245] : Fin 2 → IVec S16 32) a x).toNat < S32x512.size a)
theorem k0_idx322_inb : ∀ (i : grid0.Coords) (v245 : IVec S16 32) (v273 : IVec S16 32) (k0_hw328 : k0_chk328 i v245 v273), ∀ (k0_h4 : k0_cond4 i = 1#1), ∀ a x, ((![v273, v245] : Fin 2 → IVec S16 32) a x).toNat < S32x512.size a := fun i v245 v273 k0_hw328 k0_h4 => k0_hw328 k0_h4

def k0_chk329 (i : grid0.Coords) (v245 : IVec S16 32) (v279 : IVec S16 32) : Prop :=
  (∀ (k0_h4 : k0_cond4 i = 1#1), ∀ a x, ((![v279, v245] : Fin 2 → IVec S16 32) a x).toNat < S32x512.size a)
theorem k0_idx323_inb : ∀ (i : grid0.Coords) (v245 : IVec S16 32) (v279 : IVec S16 32) (k0_hw329 : k0_chk329 i v245 v279), ∀ (k0_h4 : k0_cond4 i = 1#1), ∀ a x, ((![v279, v245] : Fin 2 → IVec S16 32) a x).toNat < S32x512.size a := fun i v245 v279 k0_hw329 k0_h4 => k0_hw329 k0_h4

def k0_chk330 (i : grid0.Coords) (v245 : IVec S16 32) (v285 : IVec S16 32) : Prop :=
  (∀ (k0_h4 : k0_cond4 i = 1#1), ∀ a x, ((![v285, v245] : Fin 2 → IVec S16 32) a x).toNat < S32x512.size a)
theorem k0_idx324_inb : ∀ (i : grid0.Coords) (v245 : IVec S16 32) (v285 : IVec S16 32) (k0_hw330 : k0_chk330 i v245 v285), ∀ (k0_h4 : k0_cond4 i = 1#1), ∀ a x, ((![v285, v245] : Fin 2 → IVec S16 32) a x).toNat < S32x512.size a := fun i v245 v285 k0_hw330 k0_h4 => k0_hw330 k0_h4

def k0_chk331 (i : grid0.Coords) (v245 : IVec S16 32) (v291 : IVec S16 32) : Prop :=
  (∀ (k0_h4 : k0_cond4 i = 1#1), ∀ a x, ((![v291, v245] : Fin 2 → IVec S16 32) a x).toNat < S32x512.size a)
theorem k0_idx325_inb : ∀ (i : grid0.Coords) (v245 : IVec S16 32) (v291 : IVec S16 32) (k0_hw331 : k0_chk331 i v245 v291), ∀ (k0_h4 : k0_cond4 i = 1#1), ∀ a x, ((![v291, v245] : Fin 2 → IVec S16 32) a x).toNat < S32x512.size a := fun i v245 v291 k0_hw331 k0_h4 => k0_hw331 k0_h4

def k0_chk332 (i : grid0.Coords) (v245 : IVec S16 32) (v297 : IVec S16 32) : Prop :=
  (∀ (k0_h4 : k0_cond4 i = 1#1), ∀ a x, ((![v297, v245] : Fin 2 → IVec S16 32) a x).toNat < S32x512.size a)
theorem k0_idx326_inb : ∀ (i : grid0.Coords) (v245 : IVec S16 32) (v297 : IVec S16 32) (k0_hw332 : k0_chk332 i v245 v297), ∀ (k0_h4 : k0_cond4 i = 1#1), ∀ a x, ((![v297, v245] : Fin 2 → IVec S16 32) a x).toNat < S32x512.size a := fun i v245 v297 k0_hw332 k0_h4 => k0_hw332 k0_h4

def k0_chk333 (i : grid0.Coords) (v245 : IVec S16 32) (v303 : IVec S16 32) : Prop :=
  (∀ (k0_h4 : k0_cond4 i = 1#1), ∀ a x, ((![v303, v245] : Fin 2 → IVec S16 32) a x).toNat < S32x512.size a)
theorem k0_idx327_inb : ∀ (i : grid0.Coords) (v245 : IVec S16 32) (v303 : IVec S16 32) (k0_hw333 : k0_chk333 i v245 v303), ∀ (k0_h4 : k0_cond4 i = 1#1), ∀ a x, ((![v303, v245] : Fin 2 → IVec S16 32) a x).toNat < S32x512.size a := fun i v245 v303 k0_hw333 k0_h4 => k0_hw333 k0_h4

def k0_chk334 (i : grid0.Coords) (v245 : IVec S16 32) (v309 : IVec S16 32) : Prop :=
  (∀ (k0_h4 : k0_cond4 i = 1#1), ∀ a x, ((![v309, v245] : Fin 2 → IVec S16 32) a x).toNat < S32x512.size a)
theorem k0_idx328_inb : ∀ (i : grid0.Coords) (v245 : IVec S16 32) (v309 : IVec S16 32) (k0_hw334 : k0_chk334 i v245 v309), ∀ (k0_h4 : k0_cond4 i = 1#1), ∀ a x, ((![v309, v245] : Fin 2 → IVec S16 32) a x).toNat < S32x512.size a := fun i v245 v309 k0_hw334 k0_h4 => k0_hw334 k0_h4

def k0_chk335 (i : grid0.Coords) (v245 : IVec S16 32) (v315 : IVec S16 32) : Prop :=
  (∀ (k0_h4 : k0_cond4 i = 1#1), ∀ a x, ((![v315, v245] : Fin 2 → IVec S16 32) a x).toNat < S32x512.size a)
theorem k0_idx329_inb : ∀ (i : grid0.Coords) (v245 : IVec S16 32) (v315 : IVec S16 32) (k0_hw335 : k0_chk335 i v245 v315), ∀ (k0_h4 : k0_cond4 i = 1#1), ∀ a x, ((![v315, v245] : Fin 2 → IVec S16 32) a x).toNat < S32x512.size a := fun i v245 v315 k0_hw335 k0_h4 => k0_hw335 k0_h4

def k0_chk336 (i : grid0.Coords) (v245 : IVec S16 32) (v321 : IVec S16 32) : Prop :=
  (∀ (k0_h4 : k0_cond4 i = 1#1), ∀ a x, ((![v321, v245] : Fin 2 → IVec S16 32) a x).toNat < S32x512.size a)
theorem k0_idx330_inb : ∀ (i : grid0.Coords) (v245 : IVec S16 32) (v321 : IVec S16 32) (k0_hw336 : k0_chk336 i v245 v321), ∀ (k0_h4 : k0_cond4 i = 1#1), ∀ a x, ((![v321, v245] : Fin 2 → IVec S16 32) a x).toNat < S32x512.size a := fun i v245 v321 k0_hw336 k0_h4 => k0_hw336 k0_h4

def k0_chk337 (i : grid0.Coords) (v245 : IVec S16 32) (v327 : IVec S16 32) : Prop :=
  (∀ (k0_h4 : k0_cond4 i = 1#1), ∀ a x, ((![v327, v245] : Fin 2 → IVec S16 32) a x).toNat < S32x512.size a)
theorem k0_idx331_inb : ∀ (i : grid0.Coords) (v245 : IVec S16 32) (v327 : IVec S16 32) (k0_hw337 : k0_chk337 i v245 v327), ∀ (k0_h4 : k0_cond4 i = 1#1), ∀ a x, ((![v327, v245] : Fin 2 → IVec S16 32) a x).toNat < S32x512.size a := fun i v245 v327 k0_hw337 k0_h4 => k0_hw337 k0_h4

def k0_chk338 (i : grid0.Coords) (v245 : IVec S16 32) (v333 : IVec S16 32) : Prop :=
  (∀ (k0_h4 : k0_cond4 i = 1#1), ∀ a x, ((![v333, v245] : Fin 2 → IVec S16 32) a x).toNat < S32x512.size a)
theorem k0_idx332_inb : ∀ (i : grid0.Coords) (v245 : IVec S16 32) (v333 : IVec S16 32) (k0_hw338 : k0_chk338 i v245 v333), ∀ (k0_h4 : k0_cond4 i = 1#1), ∀ a x, ((![v333, v245] : Fin 2 → IVec S16 32) a x).toNat < S32x512.size a := fun i v245 v333 k0_hw338 k0_h4 => k0_hw338 k0_h4

def k0_chk339 (i : grid0.Coords) (v245 : IVec S16 32) (v339 : IVec S16 32) : Prop :=
  (∀ (k0_h4 : k0_cond4 i = 1#1), ∀ a x, ((![v339, v245] : Fin 2 → IVec S16 32) a x).toNat < S32x512.size a)
theorem k0_idx333_inb : ∀ (i : grid0.Coords) (v245 : IVec S16 32) (v339 : IVec S16 32) (k0_hw339 : k0_chk339 i v245 v339), ∀ (k0_h4 : k0_cond4 i = 1#1), ∀ a x, ((![v339, v245] : Fin 2 → IVec S16 32) a x).toNat < S32x512.size a := fun i v245 v339 k0_hw339 k0_h4 => k0_hw339 k0_h4

def k0_chk340 (i : grid0.Coords) (v245 : IVec S16 32) (v345 : IVec S16 32) : Prop :=
  (∀ (k0_h4 : k0_cond4 i = 1#1), ∀ a x, ((![v345, v245] : Fin 2 → IVec S16 32) a x).toNat < S32x512.size a)
theorem k0_idx334_inb : ∀ (i : grid0.Coords) (v245 : IVec S16 32) (v345 : IVec S16 32) (k0_hw340 : k0_chk340 i v245 v345), ∀ (k0_h4 : k0_cond4 i = 1#1), ∀ a x, ((![v345, v245] : Fin 2 → IVec S16 32) a x).toNat < S32x512.size a := fun i v245 v345 k0_hw340 k0_h4 => k0_hw340 k0_h4

def k0_chk341 (i : grid0.Coords) (v245 : IVec S16 32) (v351 : IVec S16 32) : Prop :=
  (∀ (k0_h4 : k0_cond4 i = 1#1), ∀ a x, ((![v351, v245] : Fin 2 → IVec S16 32) a x).toNat < S32x512.size a)
theorem k0_idx335_inb : ∀ (i : grid0.Coords) (v245 : IVec S16 32) (v351 : IVec S16 32) (k0_hw341 : k0_chk341 i v245 v351), ∀ (k0_h4 : k0_cond4 i = 1#1), ∀ a x, ((![v351, v245] : Fin 2 → IVec S16 32) a x).toNat < S32x512.size a := fun i v245 v351 k0_hw341 k0_h4 => k0_hw341 k0_h4

def k0_chk342 (i : grid0.Coords) (v245 : IVec S16 32) (v357 : IVec S16 32) : Prop :=
  (∀ (k0_h4 : k0_cond4 i = 1#1), ∀ a x, ((![v357, v245] : Fin 2 → IVec S16 32) a x).toNat < S32x512.size a)
theorem k0_idx336_inb : ∀ (i : grid0.Coords) (v245 : IVec S16 32) (v357 : IVec S16 32) (k0_hw342 : k0_chk342 i v245 v357), ∀ (k0_h4 : k0_cond4 i = 1#1), ∀ a x, ((![v357, v245] : Fin 2 → IVec S16 32) a x).toNat < S32x512.size a := fun i v245 v357 k0_hw342 k0_h4 => k0_hw342 k0_h4

def k0_chk343 (i : grid0.Coords) (v245 : IVec S16 32) (v363 : IVec S16 32) : Prop :=
  (∀ (k0_h4 : k0_cond4 i = 1#1), ∀ a x, ((![v363, v245] : Fin 2 → IVec S16 32) a x).toNat < S32x512.size a)
theorem k0_idx337_inb : ∀ (i : grid0.Coords) (v245 : IVec S16 32) (v363 : IVec S16 32) (k0_hw343 : k0_chk343 i v245 v363), ∀ (k0_h4 : k0_cond4 i = 1#1), ∀ a x, ((![v363, v245] : Fin 2 → IVec S16 32) a x).toNat < S32x512.size a := fun i v245 v363 k0_hw343 k0_h4 => k0_hw343 k0_h4

def k0_chk344 (i : grid0.Coords) (v245 : IVec S16 32) (v369 : IVec S16 32) : Prop :=
  (∀ (k0_h4 : k0_cond4 i = 1#1), ∀ a x, ((![v369, v245] : Fin 2 → IVec S16 32) a x).toNat < S32x512.size a)
theorem k0_idx338_inb : ∀ (i : grid0.Coords) (v245 : IVec S16 32) (v369 : IVec S16 32) (k0_hw344 : k0_chk344 i v245 v369), ∀ (k0_h4 : k0_cond4 i = 1#1), ∀ a x, ((![v369, v245] : Fin 2 → IVec S16 32) a x).toNat < S32x512.size a := fun i v245 v369 k0_hw344 k0_h4 => k0_hw344 k0_h4

def k0_chk345 (i : grid0.Coords) (v245 : IVec S16 32) (v375 : IVec S16 32) : Prop :=
  (∀ (k0_h4 : k0_cond4 i = 1#1), ∀ a x, ((![v375, v245] : Fin 2 → IVec S16 32) a x).toNat < S32x512.size a)
theorem k0_idx339_inb : ∀ (i : grid0.Coords) (v245 : IVec S16 32) (v375 : IVec S16 32) (k0_hw345 : k0_chk345 i v245 v375), ∀ (k0_h4 : k0_cond4 i = 1#1), ∀ a x, ((![v375, v245] : Fin 2 → IVec S16 32) a x).toNat < S32x512.size a := fun i v245 v375 k0_hw345 k0_h4 => k0_hw345 k0_h4

def k0_chk346 (i : grid0.Coords) (v245 : IVec S16 32) (v381 : IVec S16 32) : Prop :=
  (∀ (k0_h4 : k0_cond4 i = 1#1), ∀ a x, ((![v381, v245] : Fin 2 → IVec S16 32) a x).toNat < S32x512.size a)
theorem k0_idx340_inb : ∀ (i : grid0.Coords) (v245 : IVec S16 32) (v381 : IVec S16 32) (k0_hw346 : k0_chk346 i v245 v381), ∀ (k0_h4 : k0_cond4 i = 1#1), ∀ a x, ((![v381, v245] : Fin 2 → IVec S16 32) a x).toNat < S32x512.size a := fun i v245 v381 k0_hw346 k0_h4 => k0_hw346 k0_h4

def k0_chk347 (i : grid0.Coords) (v245 : IVec S16 32) (v387 : IVec S16 32) : Prop :=
  (∀ (k0_h4 : k0_cond4 i = 1#1), ∀ a x, ((![v387, v245] : Fin 2 → IVec S16 32) a x).toNat < S32x512.size a)
theorem k0_idx341_inb : ∀ (i : grid0.Coords) (v245 : IVec S16 32) (v387 : IVec S16 32) (k0_hw347 : k0_chk347 i v245 v387), ∀ (k0_h4 : k0_cond4 i = 1#1), ∀ a x, ((![v387, v245] : Fin 2 → IVec S16 32) a x).toNat < S32x512.size a := fun i v245 v387 k0_hw347 k0_h4 => k0_hw347 k0_h4

def k0_chk348 (i : grid0.Coords) (v245 : IVec S16 32) (v393 : IVec S16 32) : Prop :=
  (∀ (k0_h4 : k0_cond4 i = 1#1), ∀ a x, ((![v393, v245] : Fin 2 → IVec S16 32) a x).toNat < S32x512.size a)
theorem k0_idx342_inb : ∀ (i : grid0.Coords) (v245 : IVec S16 32) (v393 : IVec S16 32) (k0_hw348 : k0_chk348 i v245 v393), ∀ (k0_h4 : k0_cond4 i = 1#1), ∀ a x, ((![v393, v245] : Fin 2 → IVec S16 32) a x).toNat < S32x512.size a := fun i v245 v393 k0_hw348 k0_h4 => k0_hw348 k0_h4

def k0_chk349 (i : grid0.Coords) (v245 : IVec S16 32) (v399 : IVec S16 32) : Prop :=
  (∀ (k0_h4 : k0_cond4 i = 1#1), ∀ a x, ((![v399, v245] : Fin 2 → IVec S16 32) a x).toNat < S32x512.size a)
theorem k0_idx343_inb : ∀ (i : grid0.Coords) (v245 : IVec S16 32) (v399 : IVec S16 32) (k0_hw349 : k0_chk349 i v245 v399), ∀ (k0_h4 : k0_cond4 i = 1#1), ∀ a x, ((![v399, v245] : Fin 2 → IVec S16 32) a x).toNat < S32x512.size a := fun i v245 v399 k0_hw349 k0_h4 => k0_hw349 k0_h4

def k0_chk350 (i : grid0.Coords) (v245 : IVec S16 32) (v405 : IVec S16 32) : Prop :=
  (∀ (k0_h4 : k0_cond4 i = 1#1), ∀ a x, ((![v405, v245] : Fin 2 → IVec S16 32) a x).toNat < S32x512.size a)
theorem k0_idx344_inb : ∀ (i : grid0.Coords) (v245 : IVec S16 32) (v405 : IVec S16 32) (k0_hw350 : k0_chk350 i v245 v405), ∀ (k0_h4 : k0_cond4 i = 1#1), ∀ a x, ((![v405, v245] : Fin 2 → IVec S16 32) a x).toNat < S32x512.size a := fun i v245 v405 k0_hw350 k0_h4 => k0_hw350 k0_h4

def k0_chk351 (i : grid0.Coords) (v245 : IVec S16 32) (v411 : IVec S16 32) : Prop :=
  (∀ (k0_h4 : k0_cond4 i = 1#1), ∀ a x, ((![v411, v245] : Fin 2 → IVec S16 32) a x).toNat < S32x512.size a)
theorem k0_idx345_inb : ∀ (i : grid0.Coords) (v245 : IVec S16 32) (v411 : IVec S16 32) (k0_hw351 : k0_chk351 i v245 v411), ∀ (k0_h4 : k0_cond4 i = 1#1), ∀ a x, ((![v411, v245] : Fin 2 → IVec S16 32) a x).toNat < S32x512.size a := fun i v245 v411 k0_hw351 k0_h4 => k0_hw351 k0_h4

def k0_chk352 (i : grid0.Coords) (v245 : IVec S16 32) (v417 : IVec S16 32) : Prop :=
  (∀ (k0_h4 : k0_cond4 i = 1#1), ∀ a x, ((![v417, v245] : Fin 2 → IVec S16 32) a x).toNat < S32x512.size a)
theorem k0_idx346_inb : ∀ (i : grid0.Coords) (v245 : IVec S16 32) (v417 : IVec S16 32) (k0_hw352 : k0_chk352 i v245 v417), ∀ (k0_h4 : k0_cond4 i = 1#1), ∀ a x, ((![v417, v245] : Fin 2 → IVec S16 32) a x).toNat < S32x512.size a := fun i v245 v417 k0_hw352 k0_h4 => k0_hw352 k0_h4

def k0_chk353 (i : grid0.Coords) (v245 : IVec S16 32) (v423 : IVec S16 32) : Prop :=
  (∀ (k0_h4 : k0_cond4 i = 1#1), ∀ a x, ((![v423, v245] : Fin 2 → IVec S16 32) a x).toNat < S32x512.size a)
theorem k0_idx347_inb : ∀ (i : grid0.Coords) (v245 : IVec S16 32) (v423 : IVec S16 32) (k0_hw353 : k0_chk353 i v245 v423), ∀ (k0_h4 : k0_cond4 i = 1#1), ∀ a x, ((![v423, v245] : Fin 2 → IVec S16 32) a x).toNat < S32x512.size a := fun i v245 v423 k0_hw353 k0_h4 => k0_hw353 k0_h4

def k0_chk354 (i : grid0.Coords) (v245 : IVec S16 32) (v429 : IVec S16 32) : Prop :=
  (∀ (k0_h4 : k0_cond4 i = 1#1), ∀ a x, ((![v429, v245] : Fin 2 → IVec S16 32) a x).toNat < S32x512.size a)
theorem k0_idx348_inb : ∀ (i : grid0.Coords) (v245 : IVec S16 32) (v429 : IVec S16 32) (k0_hw354 : k0_chk354 i v245 v429), ∀ (k0_h4 : k0_cond4 i = 1#1), ∀ a x, ((![v429, v245] : Fin 2 → IVec S16 32) a x).toNat < S32x512.size a := fun i v245 v429 k0_hw354 k0_h4 => k0_hw354 k0_h4

def k0_chk355 (i : grid0.Coords) (v245 : IVec S16 32) (v435 : IVec S16 32) : Prop :=
  (∀ (k0_h4 : k0_cond4 i = 1#1), ∀ a x, ((![v435, v245] : Fin 2 → IVec S16 32) a x).toNat < S32x512.size a)
theorem k0_idx349_inb : ∀ (i : grid0.Coords) (v245 : IVec S16 32) (v435 : IVec S16 32) (k0_hw355 : k0_chk355 i v245 v435), ∀ (k0_h4 : k0_cond4 i = 1#1), ∀ a x, ((![v435, v245] : Fin 2 → IVec S16 32) a x).toNat < S32x512.size a := fun i v245 v435 k0_hw355 k0_h4 => k0_hw355 k0_h4

def k0_chk356 (i : grid0.Coords) (v247 : IVec S16 32) : Prop :=
  (∀ (k0_h4 : k0_cond4 i = 1#1), ∀ a x, ((![v247] : Fin 1 → IVec S16 32) a x).toNat < S16640.size a)
theorem k0_idx350_inb : ∀ (i : grid0.Coords) (v247 : IVec S16 32) (k0_hw356 : k0_chk356 i v247), ∀ (k0_h4 : k0_cond4 i = 1#1), ∀ a x, ((![v247] : Fin 1 → IVec S16 32) a x).toNat < S16640.size a := fun i v247 k0_hw356 k0_h4 => k0_hw356 k0_h4
@[reducible] def k0_t23_loop (v8 : BitVec 32) : Scf.Loop 32 :=
  let c0_i32_210 : BitVec 32 := 0#32
  let c15_i32 : BitVec 32 := 15#32
  let v82 : BitVec 32 := Scalar.addi v8 c15_i32
  let c4_i32 : BitVec 32 := 4#32
  let v83 : BitVec 32 := Scalar.shrui v82 c4_i32
  let v220 : BitVec 32 := Scalar.subi v83 c0_i32_210
  let c1_i32_212 : BitVec 32 := 1#32
  let v222 : BitVec 32 := Scalar.divsi v220 c1_i32_212
  let v223 : BitVec 32 := Scalar.muli v222 c1_i32_212
  let v224 : BitVec 32 := Scalar.addi c0_i32_210 v223
  let c1_i32_213 : BitVec 32 := 1#32
  ⟨c0_i32_210, v224, c1_i32_213⟩
def k0_off58 (v8 : BitVec 32) (k0_t23 : Fin (k0_t23_loop v8).trips) : Fin 1 → Nat :=
  let c0_i32_210 : BitVec 32 := 0#32
  let c1_i32_213 : BitVec 32 := 1#32
  let arg19 : BitVec 32 := Scf.iv c0_i32_210 c1_i32_213 k0_t23
  let c16_i32_222 : BitVec 32 := 16#32
  let v234 : BitVec 32 := Scalar.muli arg19 c16_i32_222
  let v235 : Index := Scalar.indexCast v234
  ![v235.toNat]

def k0_chk357 (i : grid0.Coords) (v250 : IVec S16 32) : Prop :=
  (∀ (k0_h4 : k0_cond4 i = 1#1), ∀ a x, ((![v250] : Fin 1 → IVec S16 32) a x).toNat < S16384.size a)
theorem k0_idx351_inb : ∀ (i : grid0.Coords) (v250 : IVec S16 32) (k0_hw357 : k0_chk357 i v250), ∀ (k0_h4 : k0_cond4 i = 1#1), ∀ a x, ((![v250] : Fin 1 → IVec S16 32) a x).toNat < S16384.size a := fun i v250 k0_hw357 k0_h4 => k0_hw357 k0_h4
@[reducible] def k0_t24_loop (v8 : BitVec 32) : Scf.Loop 32 :=
  let c0_i32_210 : BitVec 32 := 0#32
  let c15_i32 : BitVec 32 := 15#32
  let v82 : BitVec 32 := Scalar.addi v8 c15_i32
  let c4_i32 : BitVec 32 := 4#32
  let v83 : BitVec 32 := Scalar.shrui v82 c4_i32
  let v220 : BitVec 32 := Scalar.subi v83 c0_i32_210
  let c1_i32_212 : BitVec 32 := 1#32
  let v222 : BitVec 32 := Scalar.divsi v220 c1_i32_212
  let v223 : BitVec 32 := Scalar.muli v222 c1_i32_212
  let v224 : BitVec 32 := Scalar.addi c0_i32_210 v223
  let v221 : BitVec 32 := Scalar.addi c0_i32_210 v220
  let c1_i32_214 : BitVec 32 := 1#32
  ⟨v224, v221, c1_i32_214⟩
def k0_off59 (v8 : BitVec 32) (k0_t24 : Fin (k0_t24_loop v8).trips) : Fin 1 → Nat :=
  let c0_i32_210 : BitVec 32 := 0#32
  let c15_i32 : BitVec 32 := 15#32
  let v82 : BitVec 32 := Scalar.addi v8 c15_i32
  let c4_i32 : BitVec 32 := 4#32
  let v83 : BitVec 32 := Scalar.shrui v82 c4_i32
  let v220 : BitVec 32 := Scalar.subi v83 c0_i32_210
  let c1_i32_212 : BitVec 32 := 1#32
  let v222 : BitVec 32 := Scalar.divsi v220 c1_i32_212
  let v223 : BitVec 32 := Scalar.muli v222 c1_i32_212
  let v224 : BitVec 32 := Scalar.addi c0_i32_210 v223
  let c1_i32_214 : BitVec 32 := 1#32
  let arg19 : BitVec 32 := Scf.iv v224 c1_i32_214 k0_t24
  let c16_i32_222 : BitVec 32 := 16#32
  let v234 : BitVec 32 := Scalar.muli arg19 c16_i32_222
  let v235 : Index := Scalar.indexCast v234
  ![v235.toNat]

def k0_chk358 (i : grid0.Coords) (v250 : IVec S16 32) : Prop :=
  (∀ (k0_h4 : k0_cond4 i = 1#1), ∀ a x, ((![v250] : Fin 1 → IVec S16 32) a x).toNat < S16384.size a)
theorem k0_idx352_inb : ∀ (i : grid0.Coords) (v250 : IVec S16 32) (k0_hw358 : k0_chk358 i v250), ∀ (k0_h4 : k0_cond4 i = 1#1), ∀ a x, ((![v250] : Fin 1 → IVec S16 32) a x).toNat < S16384.size a := fun i v250 k0_hw358 k0_h4 => k0_hw358 k0_h4
@[reducible] def k0_t25_loop (v226 : BitVec 32) : Scf.Loop 32 :=
  let c0_i32_218 : BitVec 32 := 0#32
  let c15_i32_215 : BitVec 32 := 15#32
  let v227 : BitVec 32 := Scalar.addi v226 c15_i32_215
  let c4_i32_216 : BitVec 32 := 4#32
  let v228 : BitVec 32 := Scalar.shrui v227 c4_i32_216
  let v229 : BitVec 32 := Scalar.subi v228 c0_i32_218
  let c1_i32_219 : BitVec 32 := 1#32
  let v231 : BitVec 32 := Scalar.divsi v229 c1_i32_219
  let v232 : BitVec 32 := Scalar.muli v231 c1_i32_219
  let v233 : BitVec 32 := Scalar.addi c0_i32_218 v232
  let c1_i32_220 : BitVec 32 := 1#32
  ⟨c0_i32_218, v233, c1_i32_220⟩

def k0_off60 (v226 : BitVec 32) (k0_t25 : Fin (k0_t25_loop v226).trips) : Fin 1 → Nat :=
  let c0_i32_218 : BitVec 32 := 0#32
  let c1_i32_220 : BitVec 32 := 1#32
  let arg19 : BitVec 32 := Scf.iv c0_i32_218 c1_i32_220 k0_t25
  let c16_i32_223 : BitVec 32 := 16#32
  let v239 : BitVec 32 := Scalar.muli arg19 c16_i32_223
  let v240 : Index := Scalar.indexCast v239
  ![v240.toNat]

def k0_chk360 (i : grid0.Coords) (v245 : IVec S16 32) (v249 : IVec S16 32) : Prop :=
  (∀ (k0_h4 : k0_cond4 i = 1#1), ∀ a x, ((![v249, v245] : Fin 2 → IVec S16 32) a x).toNat < S32x64.size a)
theorem k0_idx353_inb : ∀ (i : grid0.Coords) (v245 : IVec S16 32) (v249 : IVec S16 32) (k0_hw360 : k0_chk360 i v245 v249), ∀ (k0_h4 : k0_cond4 i = 1#1), ∀ a x, ((![v249, v245] : Fin 2 → IVec S16 32) a x).toNat < S32x64.size a := fun i v245 v249 k0_hw360 k0_h4 => k0_hw360 k0_h4

def k0_chk361 (i : grid0.Coords) (v245 : IVec S16 32) (v255 : IVec S16 32) : Prop :=
  (∀ (k0_h4 : k0_cond4 i = 1#1), ∀ a x, ((![v255, v245] : Fin 2 → IVec S16 32) a x).toNat < S32x64.size a)
theorem k0_idx354_inb : ∀ (i : grid0.Coords) (v245 : IVec S16 32) (v255 : IVec S16 32) (k0_hw361 : k0_chk361 i v245 v255), ∀ (k0_h4 : k0_cond4 i = 1#1), ∀ a x, ((![v255, v245] : Fin 2 → IVec S16 32) a x).toNat < S32x64.size a := fun i v245 v255 k0_hw361 k0_h4 => k0_hw361 k0_h4

def k0_chk362 (i : grid0.Coords) (v245 : IVec S16 32) (v261 : IVec S16 32) : Prop :=
  (∀ (k0_h4 : k0_cond4 i = 1#1), ∀ a x, ((![v261, v245] : Fin 2 → IVec S16 32) a x).toNat < S32x64.size a)
theorem k0_idx355_inb : ∀ (i : grid0.Coords) (v245 : IVec S16 32) (v261 : IVec S16 32) (k0_hw362 : k0_chk362 i v245 v261), ∀ (k0_h4 : k0_cond4 i = 1#1), ∀ a x, ((![v261, v245] : Fin 2 → IVec S16 32) a x).toNat < S32x64.size a := fun i v245 v261 k0_hw362 k0_h4 => k0_hw362 k0_h4

def k0_chk363 (i : grid0.Coords) (v245 : IVec S16 32) (v267 : IVec S16 32) : Prop :=
  (∀ (k0_h4 : k0_cond4 i = 1#1), ∀ a x, ((![v267, v245] : Fin 2 → IVec S16 32) a x).toNat < S32x64.size a)
theorem k0_idx356_inb : ∀ (i : grid0.Coords) (v245 : IVec S16 32) (v267 : IVec S16 32) (k0_hw363 : k0_chk363 i v245 v267), ∀ (k0_h4 : k0_cond4 i = 1#1), ∀ a x, ((![v267, v245] : Fin 2 → IVec S16 32) a x).toNat < S32x64.size a := fun i v245 v267 k0_hw363 k0_h4 => k0_hw363 k0_h4

def k0_chk364 (i : grid0.Coords) (v245 : IVec S16 32) (v273 : IVec S16 32) : Prop :=
  (∀ (k0_h4 : k0_cond4 i = 1#1), ∀ a x, ((![v273, v245] : Fin 2 → IVec S16 32) a x).toNat < S32x64.size a)
theorem k0_idx357_inb : ∀ (i : grid0.Coords) (v245 : IVec S16 32) (v273 : IVec S16 32) (k0_hw364 : k0_chk364 i v245 v273), ∀ (k0_h4 : k0_cond4 i = 1#1), ∀ a x, ((![v273, v245] : Fin 2 → IVec S16 32) a x).toNat < S32x64.size a := fun i v245 v273 k0_hw364 k0_h4 => k0_hw364 k0_h4

def k0_chk365 (i : grid0.Coords) (v245 : IVec S16 32) (v279 : IVec S16 32) : Prop :=
  (∀ (k0_h4 : k0_cond4 i = 1#1), ∀ a x, ((![v279, v245] : Fin 2 → IVec S16 32) a x).toNat < S32x64.size a)
theorem k0_idx358_inb : ∀ (i : grid0.Coords) (v245 : IVec S16 32) (v279 : IVec S16 32) (k0_hw365 : k0_chk365 i v245 v279), ∀ (k0_h4 : k0_cond4 i = 1#1), ∀ a x, ((![v279, v245] : Fin 2 → IVec S16 32) a x).toNat < S32x64.size a := fun i v245 v279 k0_hw365 k0_h4 => k0_hw365 k0_h4

def k0_chk366 (i : grid0.Coords) (v245 : IVec S16 32) (v285 : IVec S16 32) : Prop :=
  (∀ (k0_h4 : k0_cond4 i = 1#1), ∀ a x, ((![v285, v245] : Fin 2 → IVec S16 32) a x).toNat < S32x64.size a)
theorem k0_idx359_inb : ∀ (i : grid0.Coords) (v245 : IVec S16 32) (v285 : IVec S16 32) (k0_hw366 : k0_chk366 i v245 v285), ∀ (k0_h4 : k0_cond4 i = 1#1), ∀ a x, ((![v285, v245] : Fin 2 → IVec S16 32) a x).toNat < S32x64.size a := fun i v245 v285 k0_hw366 k0_h4 => k0_hw366 k0_h4

def k0_chk367 (i : grid0.Coords) (v245 : IVec S16 32) (v291 : IVec S16 32) : Prop :=
  (∀ (k0_h4 : k0_cond4 i = 1#1), ∀ a x, ((![v291, v245] : Fin 2 → IVec S16 32) a x).toNat < S32x64.size a)
theorem k0_idx360_inb : ∀ (i : grid0.Coords) (v245 : IVec S16 32) (v291 : IVec S16 32) (k0_hw367 : k0_chk367 i v245 v291), ∀ (k0_h4 : k0_cond4 i = 1#1), ∀ a x, ((![v291, v245] : Fin 2 → IVec S16 32) a x).toNat < S32x64.size a := fun i v245 v291 k0_hw367 k0_h4 => k0_hw367 k0_h4

def k0_chk368 (i : grid0.Coords) (v245 : IVec S16 32) (v297 : IVec S16 32) : Prop :=
  (∀ (k0_h4 : k0_cond4 i = 1#1), ∀ a x, ((![v297, v245] : Fin 2 → IVec S16 32) a x).toNat < S32x64.size a)
theorem k0_idx361_inb : ∀ (i : grid0.Coords) (v245 : IVec S16 32) (v297 : IVec S16 32) (k0_hw368 : k0_chk368 i v245 v297), ∀ (k0_h4 : k0_cond4 i = 1#1), ∀ a x, ((![v297, v245] : Fin 2 → IVec S16 32) a x).toNat < S32x64.size a := fun i v245 v297 k0_hw368 k0_h4 => k0_hw368 k0_h4

def k0_chk369 (i : grid0.Coords) (v245 : IVec S16 32) (v303 : IVec S16 32) : Prop :=
  (∀ (k0_h4 : k0_cond4 i = 1#1), ∀ a x, ((![v303, v245] : Fin 2 → IVec S16 32) a x).toNat < S32x64.size a)
theorem k0_idx362_inb : ∀ (i : grid0.Coords) (v245 : IVec S16 32) (v303 : IVec S16 32) (k0_hw369 : k0_chk369 i v245 v303), ∀ (k0_h4 : k0_cond4 i = 1#1), ∀ a x, ((![v303, v245] : Fin 2 → IVec S16 32) a x).toNat < S32x64.size a := fun i v245 v303 k0_hw369 k0_h4 => k0_hw369 k0_h4

def k0_chk370 (i : grid0.Coords) (v245 : IVec S16 32) (v309 : IVec S16 32) : Prop :=
  (∀ (k0_h4 : k0_cond4 i = 1#1), ∀ a x, ((![v309, v245] : Fin 2 → IVec S16 32) a x).toNat < S32x64.size a)
theorem k0_idx363_inb : ∀ (i : grid0.Coords) (v245 : IVec S16 32) (v309 : IVec S16 32) (k0_hw370 : k0_chk370 i v245 v309), ∀ (k0_h4 : k0_cond4 i = 1#1), ∀ a x, ((![v309, v245] : Fin 2 → IVec S16 32) a x).toNat < S32x64.size a := fun i v245 v309 k0_hw370 k0_h4 => k0_hw370 k0_h4

def k0_chk371 (i : grid0.Coords) (v245 : IVec S16 32) (v315 : IVec S16 32) : Prop :=
  (∀ (k0_h4 : k0_cond4 i = 1#1), ∀ a x, ((![v315, v245] : Fin 2 → IVec S16 32) a x).toNat < S32x64.size a)
theorem k0_idx364_inb : ∀ (i : grid0.Coords) (v245 : IVec S16 32) (v315 : IVec S16 32) (k0_hw371 : k0_chk371 i v245 v315), ∀ (k0_h4 : k0_cond4 i = 1#1), ∀ a x, ((![v315, v245] : Fin 2 → IVec S16 32) a x).toNat < S32x64.size a := fun i v245 v315 k0_hw371 k0_h4 => k0_hw371 k0_h4

def k0_chk372 (i : grid0.Coords) (v245 : IVec S16 32) (v321 : IVec S16 32) : Prop :=
  (∀ (k0_h4 : k0_cond4 i = 1#1), ∀ a x, ((![v321, v245] : Fin 2 → IVec S16 32) a x).toNat < S32x64.size a)
theorem k0_idx365_inb : ∀ (i : grid0.Coords) (v245 : IVec S16 32) (v321 : IVec S16 32) (k0_hw372 : k0_chk372 i v245 v321), ∀ (k0_h4 : k0_cond4 i = 1#1), ∀ a x, ((![v321, v245] : Fin 2 → IVec S16 32) a x).toNat < S32x64.size a := fun i v245 v321 k0_hw372 k0_h4 => k0_hw372 k0_h4

def k0_chk373 (i : grid0.Coords) (v245 : IVec S16 32) (v327 : IVec S16 32) : Prop :=
  (∀ (k0_h4 : k0_cond4 i = 1#1), ∀ a x, ((![v327, v245] : Fin 2 → IVec S16 32) a x).toNat < S32x64.size a)
theorem k0_idx366_inb : ∀ (i : grid0.Coords) (v245 : IVec S16 32) (v327 : IVec S16 32) (k0_hw373 : k0_chk373 i v245 v327), ∀ (k0_h4 : k0_cond4 i = 1#1), ∀ a x, ((![v327, v245] : Fin 2 → IVec S16 32) a x).toNat < S32x64.size a := fun i v245 v327 k0_hw373 k0_h4 => k0_hw373 k0_h4

def k0_chk374 (i : grid0.Coords) (v245 : IVec S16 32) (v333 : IVec S16 32) : Prop :=
  (∀ (k0_h4 : k0_cond4 i = 1#1), ∀ a x, ((![v333, v245] : Fin 2 → IVec S16 32) a x).toNat < S32x64.size a)
theorem k0_idx367_inb : ∀ (i : grid0.Coords) (v245 : IVec S16 32) (v333 : IVec S16 32) (k0_hw374 : k0_chk374 i v245 v333), ∀ (k0_h4 : k0_cond4 i = 1#1), ∀ a x, ((![v333, v245] : Fin 2 → IVec S16 32) a x).toNat < S32x64.size a := fun i v245 v333 k0_hw374 k0_h4 => k0_hw374 k0_h4

def k0_chk375 (i : grid0.Coords) (v245 : IVec S16 32) (v339 : IVec S16 32) : Prop :=
  (∀ (k0_h4 : k0_cond4 i = 1#1), ∀ a x, ((![v339, v245] : Fin 2 → IVec S16 32) a x).toNat < S32x64.size a)
theorem k0_idx368_inb : ∀ (i : grid0.Coords) (v245 : IVec S16 32) (v339 : IVec S16 32) (k0_hw375 : k0_chk375 i v245 v339), ∀ (k0_h4 : k0_cond4 i = 1#1), ∀ a x, ((![v339, v245] : Fin 2 → IVec S16 32) a x).toNat < S32x64.size a := fun i v245 v339 k0_hw375 k0_h4 => k0_hw375 k0_h4

def k0_chk376 (i : grid0.Coords) (v245 : IVec S16 32) (v345 : IVec S16 32) : Prop :=
  (∀ (k0_h4 : k0_cond4 i = 1#1), ∀ a x, ((![v345, v245] : Fin 2 → IVec S16 32) a x).toNat < S32x64.size a)
theorem k0_idx369_inb : ∀ (i : grid0.Coords) (v245 : IVec S16 32) (v345 : IVec S16 32) (k0_hw376 : k0_chk376 i v245 v345), ∀ (k0_h4 : k0_cond4 i = 1#1), ∀ a x, ((![v345, v245] : Fin 2 → IVec S16 32) a x).toNat < S32x64.size a := fun i v245 v345 k0_hw376 k0_h4 => k0_hw376 k0_h4

def k0_chk377 (i : grid0.Coords) (v245 : IVec S16 32) (v351 : IVec S16 32) : Prop :=
  (∀ (k0_h4 : k0_cond4 i = 1#1), ∀ a x, ((![v351, v245] : Fin 2 → IVec S16 32) a x).toNat < S32x64.size a)
theorem k0_idx370_inb : ∀ (i : grid0.Coords) (v245 : IVec S16 32) (v351 : IVec S16 32) (k0_hw377 : k0_chk377 i v245 v351), ∀ (k0_h4 : k0_cond4 i = 1#1), ∀ a x, ((![v351, v245] : Fin 2 → IVec S16 32) a x).toNat < S32x64.size a := fun i v245 v351 k0_hw377 k0_h4 => k0_hw377 k0_h4

def k0_chk378 (i : grid0.Coords) (v245 : IVec S16 32) (v357 : IVec S16 32) : Prop :=
  (∀ (k0_h4 : k0_cond4 i = 1#1), ∀ a x, ((![v357, v245] : Fin 2 → IVec S16 32) a x).toNat < S32x64.size a)
theorem k0_idx371_inb : ∀ (i : grid0.Coords) (v245 : IVec S16 32) (v357 : IVec S16 32) (k0_hw378 : k0_chk378 i v245 v357), ∀ (k0_h4 : k0_cond4 i = 1#1), ∀ a x, ((![v357, v245] : Fin 2 → IVec S16 32) a x).toNat < S32x64.size a := fun i v245 v357 k0_hw378 k0_h4 => k0_hw378 k0_h4

def k0_chk379 (i : grid0.Coords) (v245 : IVec S16 32) (v363 : IVec S16 32) : Prop :=
  (∀ (k0_h4 : k0_cond4 i = 1#1), ∀ a x, ((![v363, v245] : Fin 2 → IVec S16 32) a x).toNat < S32x64.size a)
theorem k0_idx372_inb : ∀ (i : grid0.Coords) (v245 : IVec S16 32) (v363 : IVec S16 32) (k0_hw379 : k0_chk379 i v245 v363), ∀ (k0_h4 : k0_cond4 i = 1#1), ∀ a x, ((![v363, v245] : Fin 2 → IVec S16 32) a x).toNat < S32x64.size a := fun i v245 v363 k0_hw379 k0_h4 => k0_hw379 k0_h4

def k0_chk380 (i : grid0.Coords) (v245 : IVec S16 32) (v369 : IVec S16 32) : Prop :=
  (∀ (k0_h4 : k0_cond4 i = 1#1), ∀ a x, ((![v369, v245] : Fin 2 → IVec S16 32) a x).toNat < S32x64.size a)
theorem k0_idx373_inb : ∀ (i : grid0.Coords) (v245 : IVec S16 32) (v369 : IVec S16 32) (k0_hw380 : k0_chk380 i v245 v369), ∀ (k0_h4 : k0_cond4 i = 1#1), ∀ a x, ((![v369, v245] : Fin 2 → IVec S16 32) a x).toNat < S32x64.size a := fun i v245 v369 k0_hw380 k0_h4 => k0_hw380 k0_h4

def k0_chk381 (i : grid0.Coords) (v245 : IVec S16 32) (v375 : IVec S16 32) : Prop :=
  (∀ (k0_h4 : k0_cond4 i = 1#1), ∀ a x, ((![v375, v245] : Fin 2 → IVec S16 32) a x).toNat < S32x64.size a)
theorem k0_idx374_inb : ∀ (i : grid0.Coords) (v245 : IVec S16 32) (v375 : IVec S16 32) (k0_hw381 : k0_chk381 i v245 v375), ∀ (k0_h4 : k0_cond4 i = 1#1), ∀ a x, ((![v375, v245] : Fin 2 → IVec S16 32) a x).toNat < S32x64.size a := fun i v245 v375 k0_hw381 k0_h4 => k0_hw381 k0_h4

def k0_chk382 (i : grid0.Coords) (v245 : IVec S16 32) (v381 : IVec S16 32) : Prop :=
  (∀ (k0_h4 : k0_cond4 i = 1#1), ∀ a x, ((![v381, v245] : Fin 2 → IVec S16 32) a x).toNat < S32x64.size a)
theorem k0_idx375_inb : ∀ (i : grid0.Coords) (v245 : IVec S16 32) (v381 : IVec S16 32) (k0_hw382 : k0_chk382 i v245 v381), ∀ (k0_h4 : k0_cond4 i = 1#1), ∀ a x, ((![v381, v245] : Fin 2 → IVec S16 32) a x).toNat < S32x64.size a := fun i v245 v381 k0_hw382 k0_h4 => k0_hw382 k0_h4

def k0_chk383 (i : grid0.Coords) (v245 : IVec S16 32) (v387 : IVec S16 32) : Prop :=
  (∀ (k0_h4 : k0_cond4 i = 1#1), ∀ a x, ((![v387, v245] : Fin 2 → IVec S16 32) a x).toNat < S32x64.size a)
theorem k0_idx376_inb : ∀ (i : grid0.Coords) (v245 : IVec S16 32) (v387 : IVec S16 32) (k0_hw383 : k0_chk383 i v245 v387), ∀ (k0_h4 : k0_cond4 i = 1#1), ∀ a x, ((![v387, v245] : Fin 2 → IVec S16 32) a x).toNat < S32x64.size a := fun i v245 v387 k0_hw383 k0_h4 => k0_hw383 k0_h4

def k0_chk384 (i : grid0.Coords) (v245 : IVec S16 32) (v393 : IVec S16 32) : Prop :=
  (∀ (k0_h4 : k0_cond4 i = 1#1), ∀ a x, ((![v393, v245] : Fin 2 → IVec S16 32) a x).toNat < S32x64.size a)
theorem k0_idx377_inb : ∀ (i : grid0.Coords) (v245 : IVec S16 32) (v393 : IVec S16 32) (k0_hw384 : k0_chk384 i v245 v393), ∀ (k0_h4 : k0_cond4 i = 1#1), ∀ a x, ((![v393, v245] : Fin 2 → IVec S16 32) a x).toNat < S32x64.size a := fun i v245 v393 k0_hw384 k0_h4 => k0_hw384 k0_h4

def k0_chk385 (i : grid0.Coords) (v245 : IVec S16 32) (v399 : IVec S16 32) : Prop :=
  (∀ (k0_h4 : k0_cond4 i = 1#1), ∀ a x, ((![v399, v245] : Fin 2 → IVec S16 32) a x).toNat < S32x64.size a)
theorem k0_idx378_inb : ∀ (i : grid0.Coords) (v245 : IVec S16 32) (v399 : IVec S16 32) (k0_hw385 : k0_chk385 i v245 v399), ∀ (k0_h4 : k0_cond4 i = 1#1), ∀ a x, ((![v399, v245] : Fin 2 → IVec S16 32) a x).toNat < S32x64.size a := fun i v245 v399 k0_hw385 k0_h4 => k0_hw385 k0_h4

def k0_chk386 (i : grid0.Coords) (v245 : IVec S16 32) (v405 : IVec S16 32) : Prop :=
  (∀ (k0_h4 : k0_cond4 i = 1#1), ∀ a x, ((![v405, v245] : Fin 2 → IVec S16 32) a x).toNat < S32x64.size a)
theorem k0_idx379_inb : ∀ (i : grid0.Coords) (v245 : IVec S16 32) (v405 : IVec S16 32) (k0_hw386 : k0_chk386 i v245 v405), ∀ (k0_h4 : k0_cond4 i = 1#1), ∀ a x, ((![v405, v245] : Fin 2 → IVec S16 32) a x).toNat < S32x64.size a := fun i v245 v405 k0_hw386 k0_h4 => k0_hw386 k0_h4

def k0_chk387 (i : grid0.Coords) (v245 : IVec S16 32) (v411 : IVec S16 32) : Prop :=
  (∀ (k0_h4 : k0_cond4 i = 1#1), ∀ a x, ((![v411, v245] : Fin 2 → IVec S16 32) a x).toNat < S32x64.size a)
theorem k0_idx380_inb : ∀ (i : grid0.Coords) (v245 : IVec S16 32) (v411 : IVec S16 32) (k0_hw387 : k0_chk387 i v245 v411), ∀ (k0_h4 : k0_cond4 i = 1#1), ∀ a x, ((![v411, v245] : Fin 2 → IVec S16 32) a x).toNat < S32x64.size a := fun i v245 v411 k0_hw387 k0_h4 => k0_hw387 k0_h4

def k0_chk388 (i : grid0.Coords) (v245 : IVec S16 32) (v417 : IVec S16 32) : Prop :=
  (∀ (k0_h4 : k0_cond4 i = 1#1), ∀ a x, ((![v417, v245] : Fin 2 → IVec S16 32) a x).toNat < S32x64.size a)
theorem k0_idx381_inb : ∀ (i : grid0.Coords) (v245 : IVec S16 32) (v417 : IVec S16 32) (k0_hw388 : k0_chk388 i v245 v417), ∀ (k0_h4 : k0_cond4 i = 1#1), ∀ a x, ((![v417, v245] : Fin 2 → IVec S16 32) a x).toNat < S32x64.size a := fun i v245 v417 k0_hw388 k0_h4 => k0_hw388 k0_h4

def k0_chk389 (i : grid0.Coords) (v245 : IVec S16 32) (v423 : IVec S16 32) : Prop :=
  (∀ (k0_h4 : k0_cond4 i = 1#1), ∀ a x, ((![v423, v245] : Fin 2 → IVec S16 32) a x).toNat < S32x64.size a)
theorem k0_idx382_inb : ∀ (i : grid0.Coords) (v245 : IVec S16 32) (v423 : IVec S16 32) (k0_hw389 : k0_chk389 i v245 v423), ∀ (k0_h4 : k0_cond4 i = 1#1), ∀ a x, ((![v423, v245] : Fin 2 → IVec S16 32) a x).toNat < S32x64.size a := fun i v245 v423 k0_hw389 k0_h4 => k0_hw389 k0_h4

def k0_chk390 (i : grid0.Coords) (v245 : IVec S16 32) (v429 : IVec S16 32) : Prop :=
  (∀ (k0_h4 : k0_cond4 i = 1#1), ∀ a x, ((![v429, v245] : Fin 2 → IVec S16 32) a x).toNat < S32x64.size a)
theorem k0_idx383_inb : ∀ (i : grid0.Coords) (v245 : IVec S16 32) (v429 : IVec S16 32) (k0_hw390 : k0_chk390 i v245 v429), ∀ (k0_h4 : k0_cond4 i = 1#1), ∀ a x, ((![v429, v245] : Fin 2 → IVec S16 32) a x).toNat < S32x64.size a := fun i v245 v429 k0_hw390 k0_h4 => k0_hw390 k0_h4

def k0_chk391 (i : grid0.Coords) (v245 : IVec S16 32) (v435 : IVec S16 32) : Prop :=
  (∀ (k0_h4 : k0_cond4 i = 1#1), ∀ a x, ((![v435, v245] : Fin 2 → IVec S16 32) a x).toNat < S32x64.size a)
theorem k0_idx384_inb : ∀ (i : grid0.Coords) (v245 : IVec S16 32) (v435 : IVec S16 32) (k0_hw391 : k0_chk391 i v245 v435), ∀ (k0_h4 : k0_cond4 i = 1#1), ∀ a x, ((![v435, v245] : Fin 2 → IVec S16 32) a x).toNat < S32x64.size a := fun i v245 v435 k0_hw391 k0_h4 => k0_hw391 k0_h4

def k0_chk392 (i : grid0.Coords) (v247 : IVec S16 32) : Prop :=
  (∀ (k0_h4 : k0_cond4 i = 1#1), ∀ a x, ((![v247] : Fin 1 → IVec S16 32) a x).toNat < S16640.size a)
theorem k0_idx385_inb : ∀ (i : grid0.Coords) (v247 : IVec S16 32) (k0_hw392 : k0_chk392 i v247), ∀ (k0_h4 : k0_cond4 i = 1#1), ∀ a x, ((![v247] : Fin 1 → IVec S16 32) a x).toNat < S16640.size a := fun i v247 k0_hw392 k0_h4 => k0_hw392 k0_h4
@[reducible] def k0_t26_loop (v226 : BitVec 32) : Scf.Loop 32 :=
  let c0_i32_218 : BitVec 32 := 0#32
  let c15_i32_215 : BitVec 32 := 15#32
  let v227 : BitVec 32 := Scalar.addi v226 c15_i32_215
  let c4_i32_216 : BitVec 32 := 4#32
  let v228 : BitVec 32 := Scalar.shrui v227 c4_i32_216
  let v229 : BitVec 32 := Scalar.subi v228 c0_i32_218
  let c1_i32_219 : BitVec 32 := 1#32
  let v231 : BitVec 32 := Scalar.divsi v229 c1_i32_219
  let v232 : BitVec 32 := Scalar.muli v231 c1_i32_219
  let v233 : BitVec 32 := Scalar.addi c0_i32_218 v232
  let v230 : BitVec 32 := Scalar.addi c0_i32_218 v229
  let c1_i32_221 : BitVec 32 := 1#32
  ⟨v233, v230, c1_i32_221⟩
def k0_off61 (v226 : BitVec 32) (k0_t26 : Fin (k0_t26_loop v226).trips) : Fin 1 → Nat :=
  let c0_i32_218 : BitVec 32 := 0#32
  let c15_i32_215 : BitVec 32 := 15#32
  let v227 : BitVec 32 := Scalar.addi v226 c15_i32_215
  let c4_i32_216 : BitVec 32 := 4#32
  let v228 : BitVec 32 := Scalar.shrui v227 c4_i32_216
  let v229 : BitVec 32 := Scalar.subi v228 c0_i32_218
  let c1_i32_219 : BitVec 32 := 1#32
  let v231 : BitVec 32 := Scalar.divsi v229 c1_i32_219
  let v232 : BitVec 32 := Scalar.muli v231 c1_i32_219
  let v233 : BitVec 32 := Scalar.addi c0_i32_218 v232
  let c1_i32_221 : BitVec 32 := 1#32
  let arg19 : BitVec 32 := Scf.iv v233 c1_i32_221 k0_t26
  let c16_i32_223 : BitVec 32 := 16#32
  let v239 : BitVec 32 := Scalar.muli arg19 c16_i32_223
  let v240 : Index := Scalar.indexCast v239
  ![v240.toNat]

def k0_chk359 (i : grid0.Coords) (v226 : BitVec 32) : Prop :=
  (∀ (k0_h4 : k0_cond4 i = 1#1), (k0_t25_loop v226).OK) ∧
  (∀ k0_t25 : Fin (k0_t25_loop v226).trips, ∀ (k0_h4 : k0_cond4 i = 1#1), ∀ a, (k0_off60 v226 k0_t25) a + S16.size a ≤ S16384.size a) ∧
  (∀ (k0_h4 : k0_cond4 i = 1#1), (k0_t26_loop v226).OK) ∧
  (∀ k0_t26 : Fin (k0_t26_loop v226).trips, ∀ (k0_h4 : k0_cond4 i = 1#1), ∀ a, (k0_off61 v226 k0_t26) a + S16.size a ≤ S16384.size a)
theorem k0_t25_ok : ∀ (i : grid0.Coords) (v226 : BitVec 32) (k0_hw359 : k0_chk359 i v226), ∀ (k0_h4 : k0_cond4 i = 1#1), (k0_t25_loop v226).OK := fun i v226 k0_hw359 k0_h4 => k0_hw359.1 k0_h4
theorem k0_off60_inb : ∀ (i : grid0.Coords) (v226 : BitVec 32) (k0_hw359 : k0_chk359 i v226) (k0_t25 : Fin (k0_t25_loop v226).trips), ∀ (k0_h4 : k0_cond4 i = 1#1), ∀ a, (k0_off60 v226 k0_t25) a + S16.size a ≤ S16384.size a := fun i v226 k0_hw359 k0_t25 k0_h4 => k0_hw359.2.1 k0_t25 k0_h4
theorem k0_t26_ok : ∀ (i : grid0.Coords) (v226 : BitVec 32) (k0_hw359 : k0_chk359 i v226), ∀ (k0_h4 : k0_cond4 i = 1#1), (k0_t26_loop v226).OK := fun i v226 k0_hw359 k0_h4 => k0_hw359.2.2.1 k0_h4
theorem k0_off61_inb : ∀ (i : grid0.Coords) (v226 : BitVec 32) (k0_hw359 : k0_chk359 i v226) (k0_t26 : Fin (k0_t26_loop v226).trips), ∀ (k0_h4 : k0_cond4 i = 1#1), ∀ a, (k0_off61 v226 k0_t26) a + S16.size a ≤ S16384.size a := fun i v226 k0_hw359 k0_t26 k0_h4 => k0_hw359.2.2.2 k0_t26 k0_h4

def k0_chk393 (i : grid0.Coords) (v245 : IVec S16 32) (v249 : IVec S16 32) : Prop :=
  (∀ (k0_h4 : k0_cond4 i = 1#1), ∀ a x, ((![v249, v245] : Fin 2 → IVec S16 32) a x).toNat < S32x64.size a)
theorem k0_idx386_inb : ∀ (i : grid0.Coords) (v245 : IVec S16 32) (v249 : IVec S16 32) (k0_hw393 : k0_chk393 i v245 v249), ∀ (k0_h4 : k0_cond4 i = 1#1), ∀ a x, ((![v249, v245] : Fin 2 → IVec S16 32) a x).toNat < S32x64.size a := fun i v245 v249 k0_hw393 k0_h4 => k0_hw393 k0_h4

def k0_chk394 (i : grid0.Coords) (v245 : IVec S16 32) (v255 : IVec S16 32) : Prop :=
  (∀ (k0_h4 : k0_cond4 i = 1#1), ∀ a x, ((![v255, v245] : Fin 2 → IVec S16 32) a x).toNat < S32x64.size a)
theorem k0_idx387_inb : ∀ (i : grid0.Coords) (v245 : IVec S16 32) (v255 : IVec S16 32) (k0_hw394 : k0_chk394 i v245 v255), ∀ (k0_h4 : k0_cond4 i = 1#1), ∀ a x, ((![v255, v245] : Fin 2 → IVec S16 32) a x).toNat < S32x64.size a := fun i v245 v255 k0_hw394 k0_h4 => k0_hw394 k0_h4

def k0_chk395 (i : grid0.Coords) (v245 : IVec S16 32) (v261 : IVec S16 32) : Prop :=
  (∀ (k0_h4 : k0_cond4 i = 1#1), ∀ a x, ((![v261, v245] : Fin 2 → IVec S16 32) a x).toNat < S32x64.size a)
theorem k0_idx388_inb : ∀ (i : grid0.Coords) (v245 : IVec S16 32) (v261 : IVec S16 32) (k0_hw395 : k0_chk395 i v245 v261), ∀ (k0_h4 : k0_cond4 i = 1#1), ∀ a x, ((![v261, v245] : Fin 2 → IVec S16 32) a x).toNat < S32x64.size a := fun i v245 v261 k0_hw395 k0_h4 => k0_hw395 k0_h4

def k0_chk396 (i : grid0.Coords) (v245 : IVec S16 32) (v267 : IVec S16 32) : Prop :=
  (∀ (k0_h4 : k0_cond4 i = 1#1), ∀ a x, ((![v267, v245] : Fin 2 → IVec S16 32) a x).toNat < S32x64.size a)
theorem k0_idx389_inb : ∀ (i : grid0.Coords) (v245 : IVec S16 32) (v267 : IVec S16 32) (k0_hw396 : k0_chk396 i v245 v267), ∀ (k0_h4 : k0_cond4 i = 1#1), ∀ a x, ((![v267, v245] : Fin 2 → IVec S16 32) a x).toNat < S32x64.size a := fun i v245 v267 k0_hw396 k0_h4 => k0_hw396 k0_h4

def k0_chk397 (i : grid0.Coords) (v245 : IVec S16 32) (v273 : IVec S16 32) : Prop :=
  (∀ (k0_h4 : k0_cond4 i = 1#1), ∀ a x, ((![v273, v245] : Fin 2 → IVec S16 32) a x).toNat < S32x64.size a)
theorem k0_idx390_inb : ∀ (i : grid0.Coords) (v245 : IVec S16 32) (v273 : IVec S16 32) (k0_hw397 : k0_chk397 i v245 v273), ∀ (k0_h4 : k0_cond4 i = 1#1), ∀ a x, ((![v273, v245] : Fin 2 → IVec S16 32) a x).toNat < S32x64.size a := fun i v245 v273 k0_hw397 k0_h4 => k0_hw397 k0_h4

def k0_chk398 (i : grid0.Coords) (v245 : IVec S16 32) (v279 : IVec S16 32) : Prop :=
  (∀ (k0_h4 : k0_cond4 i = 1#1), ∀ a x, ((![v279, v245] : Fin 2 → IVec S16 32) a x).toNat < S32x64.size a)
theorem k0_idx391_inb : ∀ (i : grid0.Coords) (v245 : IVec S16 32) (v279 : IVec S16 32) (k0_hw398 : k0_chk398 i v245 v279), ∀ (k0_h4 : k0_cond4 i = 1#1), ∀ a x, ((![v279, v245] : Fin 2 → IVec S16 32) a x).toNat < S32x64.size a := fun i v245 v279 k0_hw398 k0_h4 => k0_hw398 k0_h4

def k0_chk399 (i : grid0.Coords) (v245 : IVec S16 32) (v285 : IVec S16 32) : Prop :=
  (∀ (k0_h4 : k0_cond4 i = 1#1), ∀ a x, ((![v285, v245] : Fin 2 → IVec S16 32) a x).toNat < S32x64.size a)
theorem k0_idx392_inb : ∀ (i : grid0.Coords) (v245 : IVec S16 32) (v285 : IVec S16 32) (k0_hw399 : k0_chk399 i v245 v285), ∀ (k0_h4 : k0_cond4 i = 1#1), ∀ a x, ((![v285, v245] : Fin 2 → IVec S16 32) a x).toNat < S32x64.size a := fun i v245 v285 k0_hw399 k0_h4 => k0_hw399 k0_h4

def k0_chk400 (i : grid0.Coords) (v245 : IVec S16 32) (v291 : IVec S16 32) : Prop :=
  (∀ (k0_h4 : k0_cond4 i = 1#1), ∀ a x, ((![v291, v245] : Fin 2 → IVec S16 32) a x).toNat < S32x64.size a)
theorem k0_idx393_inb : ∀ (i : grid0.Coords) (v245 : IVec S16 32) (v291 : IVec S16 32) (k0_hw400 : k0_chk400 i v245 v291), ∀ (k0_h4 : k0_cond4 i = 1#1), ∀ a x, ((![v291, v245] : Fin 2 → IVec S16 32) a x).toNat < S32x64.size a := fun i v245 v291 k0_hw400 k0_h4 => k0_hw400 k0_h4

def k0_chk401 (i : grid0.Coords) (v245 : IVec S16 32) (v297 : IVec S16 32) : Prop :=
  (∀ (k0_h4 : k0_cond4 i = 1#1), ∀ a x, ((![v297, v245] : Fin 2 → IVec S16 32) a x).toNat < S32x64.size a)
theorem k0_idx394_inb : ∀ (i : grid0.Coords) (v245 : IVec S16 32) (v297 : IVec S16 32) (k0_hw401 : k0_chk401 i v245 v297), ∀ (k0_h4 : k0_cond4 i = 1#1), ∀ a x, ((![v297, v245] : Fin 2 → IVec S16 32) a x).toNat < S32x64.size a := fun i v245 v297 k0_hw401 k0_h4 => k0_hw401 k0_h4

def k0_chk402 (i : grid0.Coords) (v245 : IVec S16 32) (v303 : IVec S16 32) : Prop :=
  (∀ (k0_h4 : k0_cond4 i = 1#1), ∀ a x, ((![v303, v245] : Fin 2 → IVec S16 32) a x).toNat < S32x64.size a)
theorem k0_idx395_inb : ∀ (i : grid0.Coords) (v245 : IVec S16 32) (v303 : IVec S16 32) (k0_hw402 : k0_chk402 i v245 v303), ∀ (k0_h4 : k0_cond4 i = 1#1), ∀ a x, ((![v303, v245] : Fin 2 → IVec S16 32) a x).toNat < S32x64.size a := fun i v245 v303 k0_hw402 k0_h4 => k0_hw402 k0_h4

def k0_chk403 (i : grid0.Coords) (v245 : IVec S16 32) (v309 : IVec S16 32) : Prop :=
  (∀ (k0_h4 : k0_cond4 i = 1#1), ∀ a x, ((![v309, v245] : Fin 2 → IVec S16 32) a x).toNat < S32x64.size a)
theorem k0_idx396_inb : ∀ (i : grid0.Coords) (v245 : IVec S16 32) (v309 : IVec S16 32) (k0_hw403 : k0_chk403 i v245 v309), ∀ (k0_h4 : k0_cond4 i = 1#1), ∀ a x, ((![v309, v245] : Fin 2 → IVec S16 32) a x).toNat < S32x64.size a := fun i v245 v309 k0_hw403 k0_h4 => k0_hw403 k0_h4

def k0_chk404 (i : grid0.Coords) (v245 : IVec S16 32) (v315 : IVec S16 32) : Prop :=
  (∀ (k0_h4 : k0_cond4 i = 1#1), ∀ a x, ((![v315, v245] : Fin 2 → IVec S16 32) a x).toNat < S32x64.size a)
theorem k0_idx397_inb : ∀ (i : grid0.Coords) (v245 : IVec S16 32) (v315 : IVec S16 32) (k0_hw404 : k0_chk404 i v245 v315), ∀ (k0_h4 : k0_cond4 i = 1#1), ∀ a x, ((![v315, v245] : Fin 2 → IVec S16 32) a x).toNat < S32x64.size a := fun i v245 v315 k0_hw404 k0_h4 => k0_hw404 k0_h4

def k0_chk405 (i : grid0.Coords) (v245 : IVec S16 32) (v321 : IVec S16 32) : Prop :=
  (∀ (k0_h4 : k0_cond4 i = 1#1), ∀ a x, ((![v321, v245] : Fin 2 → IVec S16 32) a x).toNat < S32x64.size a)
theorem k0_idx398_inb : ∀ (i : grid0.Coords) (v245 : IVec S16 32) (v321 : IVec S16 32) (k0_hw405 : k0_chk405 i v245 v321), ∀ (k0_h4 : k0_cond4 i = 1#1), ∀ a x, ((![v321, v245] : Fin 2 → IVec S16 32) a x).toNat < S32x64.size a := fun i v245 v321 k0_hw405 k0_h4 => k0_hw405 k0_h4

def k0_chk406 (i : grid0.Coords) (v245 : IVec S16 32) (v327 : IVec S16 32) : Prop :=
  (∀ (k0_h4 : k0_cond4 i = 1#1), ∀ a x, ((![v327, v245] : Fin 2 → IVec S16 32) a x).toNat < S32x64.size a)
theorem k0_idx399_inb : ∀ (i : grid0.Coords) (v245 : IVec S16 32) (v327 : IVec S16 32) (k0_hw406 : k0_chk406 i v245 v327), ∀ (k0_h4 : k0_cond4 i = 1#1), ∀ a x, ((![v327, v245] : Fin 2 → IVec S16 32) a x).toNat < S32x64.size a := fun i v245 v327 k0_hw406 k0_h4 => k0_hw406 k0_h4

def k0_chk407 (i : grid0.Coords) (v245 : IVec S16 32) (v333 : IVec S16 32) : Prop :=
  (∀ (k0_h4 : k0_cond4 i = 1#1), ∀ a x, ((![v333, v245] : Fin 2 → IVec S16 32) a x).toNat < S32x64.size a)
theorem k0_idx400_inb : ∀ (i : grid0.Coords) (v245 : IVec S16 32) (v333 : IVec S16 32) (k0_hw407 : k0_chk407 i v245 v333), ∀ (k0_h4 : k0_cond4 i = 1#1), ∀ a x, ((![v333, v245] : Fin 2 → IVec S16 32) a x).toNat < S32x64.size a := fun i v245 v333 k0_hw407 k0_h4 => k0_hw407 k0_h4

def k0_chk408 (i : grid0.Coords) (v245 : IVec S16 32) (v339 : IVec S16 32) : Prop :=
  (∀ (k0_h4 : k0_cond4 i = 1#1), ∀ a x, ((![v339, v245] : Fin 2 → IVec S16 32) a x).toNat < S32x64.size a)
theorem k0_idx401_inb : ∀ (i : grid0.Coords) (v245 : IVec S16 32) (v339 : IVec S16 32) (k0_hw408 : k0_chk408 i v245 v339), ∀ (k0_h4 : k0_cond4 i = 1#1), ∀ a x, ((![v339, v245] : Fin 2 → IVec S16 32) a x).toNat < S32x64.size a := fun i v245 v339 k0_hw408 k0_h4 => k0_hw408 k0_h4

def k0_chk409 (i : grid0.Coords) (v245 : IVec S16 32) (v345 : IVec S16 32) : Prop :=
  (∀ (k0_h4 : k0_cond4 i = 1#1), ∀ a x, ((![v345, v245] : Fin 2 → IVec S16 32) a x).toNat < S32x64.size a)
theorem k0_idx402_inb : ∀ (i : grid0.Coords) (v245 : IVec S16 32) (v345 : IVec S16 32) (k0_hw409 : k0_chk409 i v245 v345), ∀ (k0_h4 : k0_cond4 i = 1#1), ∀ a x, ((![v345, v245] : Fin 2 → IVec S16 32) a x).toNat < S32x64.size a := fun i v245 v345 k0_hw409 k0_h4 => k0_hw409 k0_h4

def k0_chk410 (i : grid0.Coords) (v245 : IVec S16 32) (v351 : IVec S16 32) : Prop :=
  (∀ (k0_h4 : k0_cond4 i = 1#1), ∀ a x, ((![v351, v245] : Fin 2 → IVec S16 32) a x).toNat < S32x64.size a)
theorem k0_idx403_inb : ∀ (i : grid0.Coords) (v245 : IVec S16 32) (v351 : IVec S16 32) (k0_hw410 : k0_chk410 i v245 v351), ∀ (k0_h4 : k0_cond4 i = 1#1), ∀ a x, ((![v351, v245] : Fin 2 → IVec S16 32) a x).toNat < S32x64.size a := fun i v245 v351 k0_hw410 k0_h4 => k0_hw410 k0_h4

def k0_chk411 (i : grid0.Coords) (v245 : IVec S16 32) (v357 : IVec S16 32) : Prop :=
  (∀ (k0_h4 : k0_cond4 i = 1#1), ∀ a x, ((![v357, v245] : Fin 2 → IVec S16 32) a x).toNat < S32x64.size a)
theorem k0_idx404_inb : ∀ (i : grid0.Coords) (v245 : IVec S16 32) (v357 : IVec S16 32) (k0_hw411 : k0_chk411 i v245 v357), ∀ (k0_h4 : k0_cond4 i = 1#1), ∀ a x, ((![v357, v245] : Fin 2 → IVec S16 32) a x).toNat < S32x64.size a := fun i v245 v357 k0_hw411 k0_h4 => k0_hw411 k0_h4

def k0_chk412 (i : grid0.Coords) (v245 : IVec S16 32) (v363 : IVec S16 32) : Prop :=
  (∀ (k0_h4 : k0_cond4 i = 1#1), ∀ a x, ((![v363, v245] : Fin 2 → IVec S16 32) a x).toNat < S32x64.size a)
theorem k0_idx405_inb : ∀ (i : grid0.Coords) (v245 : IVec S16 32) (v363 : IVec S16 32) (k0_hw412 : k0_chk412 i v245 v363), ∀ (k0_h4 : k0_cond4 i = 1#1), ∀ a x, ((![v363, v245] : Fin 2 → IVec S16 32) a x).toNat < S32x64.size a := fun i v245 v363 k0_hw412 k0_h4 => k0_hw412 k0_h4

def k0_chk413 (i : grid0.Coords) (v245 : IVec S16 32) (v369 : IVec S16 32) : Prop :=
  (∀ (k0_h4 : k0_cond4 i = 1#1), ∀ a x, ((![v369, v245] : Fin 2 → IVec S16 32) a x).toNat < S32x64.size a)
theorem k0_idx406_inb : ∀ (i : grid0.Coords) (v245 : IVec S16 32) (v369 : IVec S16 32) (k0_hw413 : k0_chk413 i v245 v369), ∀ (k0_h4 : k0_cond4 i = 1#1), ∀ a x, ((![v369, v245] : Fin 2 → IVec S16 32) a x).toNat < S32x64.size a := fun i v245 v369 k0_hw413 k0_h4 => k0_hw413 k0_h4

def k0_chk414 (i : grid0.Coords) (v245 : IVec S16 32) (v375 : IVec S16 32) : Prop :=
  (∀ (k0_h4 : k0_cond4 i = 1#1), ∀ a x, ((![v375, v245] : Fin 2 → IVec S16 32) a x).toNat < S32x64.size a)
theorem k0_idx407_inb : ∀ (i : grid0.Coords) (v245 : IVec S16 32) (v375 : IVec S16 32) (k0_hw414 : k0_chk414 i v245 v375), ∀ (k0_h4 : k0_cond4 i = 1#1), ∀ a x, ((![v375, v245] : Fin 2 → IVec S16 32) a x).toNat < S32x64.size a := fun i v245 v375 k0_hw414 k0_h4 => k0_hw414 k0_h4

def k0_chk415 (i : grid0.Coords) (v245 : IVec S16 32) (v381 : IVec S16 32) : Prop :=
  (∀ (k0_h4 : k0_cond4 i = 1#1), ∀ a x, ((![v381, v245] : Fin 2 → IVec S16 32) a x).toNat < S32x64.size a)
theorem k0_idx408_inb : ∀ (i : grid0.Coords) (v245 : IVec S16 32) (v381 : IVec S16 32) (k0_hw415 : k0_chk415 i v245 v381), ∀ (k0_h4 : k0_cond4 i = 1#1), ∀ a x, ((![v381, v245] : Fin 2 → IVec S16 32) a x).toNat < S32x64.size a := fun i v245 v381 k0_hw415 k0_h4 => k0_hw415 k0_h4

def k0_chk416 (i : grid0.Coords) (v245 : IVec S16 32) (v387 : IVec S16 32) : Prop :=
  (∀ (k0_h4 : k0_cond4 i = 1#1), ∀ a x, ((![v387, v245] : Fin 2 → IVec S16 32) a x).toNat < S32x64.size a)
theorem k0_idx409_inb : ∀ (i : grid0.Coords) (v245 : IVec S16 32) (v387 : IVec S16 32) (k0_hw416 : k0_chk416 i v245 v387), ∀ (k0_h4 : k0_cond4 i = 1#1), ∀ a x, ((![v387, v245] : Fin 2 → IVec S16 32) a x).toNat < S32x64.size a := fun i v245 v387 k0_hw416 k0_h4 => k0_hw416 k0_h4

def k0_chk417 (i : grid0.Coords) (v245 : IVec S16 32) (v393 : IVec S16 32) : Prop :=
  (∀ (k0_h4 : k0_cond4 i = 1#1), ∀ a x, ((![v393, v245] : Fin 2 → IVec S16 32) a x).toNat < S32x64.size a)
theorem k0_idx410_inb : ∀ (i : grid0.Coords) (v245 : IVec S16 32) (v393 : IVec S16 32) (k0_hw417 : k0_chk417 i v245 v393), ∀ (k0_h4 : k0_cond4 i = 1#1), ∀ a x, ((![v393, v245] : Fin 2 → IVec S16 32) a x).toNat < S32x64.size a := fun i v245 v393 k0_hw417 k0_h4 => k0_hw417 k0_h4

def k0_chk418 (i : grid0.Coords) (v245 : IVec S16 32) (v399 : IVec S16 32) : Prop :=
  (∀ (k0_h4 : k0_cond4 i = 1#1), ∀ a x, ((![v399, v245] : Fin 2 → IVec S16 32) a x).toNat < S32x64.size a)
theorem k0_idx411_inb : ∀ (i : grid0.Coords) (v245 : IVec S16 32) (v399 : IVec S16 32) (k0_hw418 : k0_chk418 i v245 v399), ∀ (k0_h4 : k0_cond4 i = 1#1), ∀ a x, ((![v399, v245] : Fin 2 → IVec S16 32) a x).toNat < S32x64.size a := fun i v245 v399 k0_hw418 k0_h4 => k0_hw418 k0_h4

def k0_chk419 (i : grid0.Coords) (v245 : IVec S16 32) (v405 : IVec S16 32) : Prop :=
  (∀ (k0_h4 : k0_cond4 i = 1#1), ∀ a x, ((![v405, v245] : Fin 2 → IVec S16 32) a x).toNat < S32x64.size a)
theorem k0_idx412_inb : ∀ (i : grid0.Coords) (v245 : IVec S16 32) (v405 : IVec S16 32) (k0_hw419 : k0_chk419 i v245 v405), ∀ (k0_h4 : k0_cond4 i = 1#1), ∀ a x, ((![v405, v245] : Fin 2 → IVec S16 32) a x).toNat < S32x64.size a := fun i v245 v405 k0_hw419 k0_h4 => k0_hw419 k0_h4

def k0_chk420 (i : grid0.Coords) (v245 : IVec S16 32) (v411 : IVec S16 32) : Prop :=
  (∀ (k0_h4 : k0_cond4 i = 1#1), ∀ a x, ((![v411, v245] : Fin 2 → IVec S16 32) a x).toNat < S32x64.size a)
theorem k0_idx413_inb : ∀ (i : grid0.Coords) (v245 : IVec S16 32) (v411 : IVec S16 32) (k0_hw420 : k0_chk420 i v245 v411), ∀ (k0_h4 : k0_cond4 i = 1#1), ∀ a x, ((![v411, v245] : Fin 2 → IVec S16 32) a x).toNat < S32x64.size a := fun i v245 v411 k0_hw420 k0_h4 => k0_hw420 k0_h4

def k0_chk421 (i : grid0.Coords) (v245 : IVec S16 32) (v417 : IVec S16 32) : Prop :=
  (∀ (k0_h4 : k0_cond4 i = 1#1), ∀ a x, ((![v417, v245] : Fin 2 → IVec S16 32) a x).toNat < S32x64.size a)
theorem k0_idx414_inb : ∀ (i : grid0.Coords) (v245 : IVec S16 32) (v417 : IVec S16 32) (k0_hw421 : k0_chk421 i v245 v417), ∀ (k0_h4 : k0_cond4 i = 1#1), ∀ a x, ((![v417, v245] : Fin 2 → IVec S16 32) a x).toNat < S32x64.size a := fun i v245 v417 k0_hw421 k0_h4 => k0_hw421 k0_h4

def k0_chk422 (i : grid0.Coords) (v245 : IVec S16 32) (v423 : IVec S16 32) : Prop :=
  (∀ (k0_h4 : k0_cond4 i = 1#1), ∀ a x, ((![v423, v245] : Fin 2 → IVec S16 32) a x).toNat < S32x64.size a)
theorem k0_idx415_inb : ∀ (i : grid0.Coords) (v245 : IVec S16 32) (v423 : IVec S16 32) (k0_hw422 : k0_chk422 i v245 v423), ∀ (k0_h4 : k0_cond4 i = 1#1), ∀ a x, ((![v423, v245] : Fin 2 → IVec S16 32) a x).toNat < S32x64.size a := fun i v245 v423 k0_hw422 k0_h4 => k0_hw422 k0_h4

def k0_chk423 (i : grid0.Coords) (v245 : IVec S16 32) (v429 : IVec S16 32) : Prop :=
  (∀ (k0_h4 : k0_cond4 i = 1#1), ∀ a x, ((![v429, v245] : Fin 2 → IVec S16 32) a x).toNat < S32x64.size a)
theorem k0_idx416_inb : ∀ (i : grid0.Coords) (v245 : IVec S16 32) (v429 : IVec S16 32) (k0_hw423 : k0_chk423 i v245 v429), ∀ (k0_h4 : k0_cond4 i = 1#1), ∀ a x, ((![v429, v245] : Fin 2 → IVec S16 32) a x).toNat < S32x64.size a := fun i v245 v429 k0_hw423 k0_h4 => k0_hw423 k0_h4

def k0_chk424 (i : grid0.Coords) (v245 : IVec S16 32) (v435 : IVec S16 32) : Prop :=
  (∀ (k0_h4 : k0_cond4 i = 1#1), ∀ a x, ((![v435, v245] : Fin 2 → IVec S16 32) a x).toNat < S32x64.size a)
theorem k0_idx417_inb : ∀ (i : grid0.Coords) (v245 : IVec S16 32) (v435 : IVec S16 32) (k0_hw424 : k0_chk424 i v245 v435), ∀ (k0_h4 : k0_cond4 i = 1#1), ∀ a x, ((![v435, v245] : Fin 2 → IVec S16 32) a x).toNat < S32x64.size a := fun i v245 v435 k0_hw424 k0_h4 => k0_hw424 k0_h4

def k0_chk425 (i : grid0.Coords) (v247 : IVec S16 32) : Prop :=
  (∀ (k0_h4 : k0_cond4 i = 1#1), ∀ a x, ((![v247] : Fin 1 → IVec S16 32) a x).toNat < S16640.size a)
theorem k0_idx418_inb : ∀ (i : grid0.Coords) (v247 : IVec S16 32) (k0_hw425 : k0_chk425 i v247), ∀ (k0_h4 : k0_cond4 i = 1#1), ∀ a x, ((![v247] : Fin 1 → IVec S16 32) a x).toNat < S16640.size a := fun i v247 k0_hw425 k0_h4 => k0_hw425 k0_h4
@[reducible] def k0_t27_loop (v8 : BitVec 32) : Scf.Loop 32 :=
  let c0_i32_131 : BitVec 32 := 0#32
  let c127_i32_128 : BitVec 32 := 127#32
  let v167 : BitVec 32 := Scalar.addi v8 c127_i32_128
  let c7_i32_129 : BitVec 32 := 7#32
  let v168 : BitVec 32 := Scalar.shrui v167 c7_i32_129
  let v169 : BitVec 32 := Scalar.subi v168 c0_i32_131
  let c1_i32_132 : BitVec 32 := 1#32
  let v171 : BitVec 32 := Scalar.divsi v169 c1_i32_132
  let v172 : BitVec 32 := Scalar.muli v171 c1_i32_132
  let v173 : BitVec 32 := Scalar.addi c0_i32_131 v172
  let c1_i32_133 : BitVec 32 := 1#32
  ⟨c0_i32_131, v173, c1_i32_133⟩
def k0_off62 (v8 : BitVec 32) (k0_t27 : Fin (k0_t27_loop v8).trips) : Fin 1 → Nat :=
  let c0_i32_131 : BitVec 32 := 0#32
  let c1_i32_133 : BitVec 32 := 1#32
  let arg19 : BitVec 32 := Scf.iv c0_i32_131 c1_i32_133 k0_t27
  let c128_i32 : BitVec 32 := 128#32
  let v174 : BitVec 32 := Scalar.muli arg19 c128_i32
  ![v174.toNat]
def k0_off63 (v8 : BitVec 32) (k0_t27 : Fin (k0_t27_loop v8).trips) : Fin 2 → Nat :=
  let c0_i32_131 : BitVec 32 := 0#32
  let c1_i32_133 : BitVec 32 := 1#32
  let arg19 : BitVec 32 := Scf.iv c0_i32_131 c1_i32_133 k0_t27
  let c0_i32_135 : BitVec 32 := 0#32
  ![arg19.toNat, 0]
@[reducible] def k0_t28_loop (v8 : BitVec 32) : Scf.Loop 32 :=
  let c0_i32_131 : BitVec 32 := 0#32
  let c127_i32_128 : BitVec 32 := 127#32
  let v167 : BitVec 32 := Scalar.addi v8 c127_i32_128
  let c7_i32_129 : BitVec 32 := 7#32
  let v168 : BitVec 32 := Scalar.shrui v167 c7_i32_129
  let v169 : BitVec 32 := Scalar.subi v168 c0_i32_131
  let c1_i32_132 : BitVec 32 := 1#32
  let v171 : BitVec 32 := Scalar.divsi v169 c1_i32_132
  let v172 : BitVec 32 := Scalar.muli v171 c1_i32_132
  let v173 : BitVec 32 := Scalar.addi c0_i32_131 v172
  let v170 : BitVec 32 := Scalar.addi c0_i32_131 v169
  let c1_i32_134 : BitVec 32 := 1#32
  ⟨v173, v170, c1_i32_134⟩
def k0_off64 (v8 : BitVec 32) (k0_t28 : Fin (k0_t28_loop v8).trips) : Fin 1 → Nat :=
  let c0_i32_131 : BitVec 32 := 0#32
  let c127_i32_128 : BitVec 32 := 127#32
  let v167 : BitVec 32 := Scalar.addi v8 c127_i32_128
  let c7_i32_129 : BitVec 32 := 7#32
  let v168 : BitVec 32 := Scalar.shrui v167 c7_i32_129
  let v169 : BitVec 32 := Scalar.subi v168 c0_i32_131
  let c1_i32_132 : BitVec 32 := 1#32
  let v171 : BitVec 32 := Scalar.divsi v169 c1_i32_132
  let v172 : BitVec 32 := Scalar.muli v171 c1_i32_132
  let v173 : BitVec 32 := Scalar.addi c0_i32_131 v172
  let c1_i32_134 : BitVec 32 := 1#32
  let arg19 : BitVec 32 := Scf.iv v173 c1_i32_134 k0_t28
  let c128_i32 : BitVec 32 := 128#32
  let v174 : BitVec 32 := Scalar.muli arg19 c128_i32
  ![v174.toNat]
def k0_off65 (v8 : BitVec 32) (k0_t28 : Fin (k0_t28_loop v8).trips) : Fin 2 → Nat :=
  let c0_i32_131 : BitVec 32 := 0#32
  let c127_i32_128 : BitVec 32 := 127#32
  let v167 : BitVec 32 := Scalar.addi v8 c127_i32_128
  let c7_i32_129 : BitVec 32 := 7#32
  let v168 : BitVec 32 := Scalar.shrui v167 c7_i32_129
  let v169 : BitVec 32 := Scalar.subi v168 c0_i32_131
  let c1_i32_132 : BitVec 32 := 1#32
  let v171 : BitVec 32 := Scalar.divsi v169 c1_i32_132
  let v172 : BitVec 32 := Scalar.muli v171 c1_i32_132
  let v173 : BitVec 32 := Scalar.addi c0_i32_131 v172
  let c1_i32_134 : BitVec 32 := 1#32
  let arg19 : BitVec 32 := Scf.iv v173 c1_i32_134 k0_t28
  let c0_i32_135 : BitVec 32 := 0#32
  ![arg19.toNat, 0]

def k0_chk11 (i : grid0.Coords) (v8 : BitVec 32) : Prop :=
  ((k0_t3_loop v8).OK) ∧
  (∀ k0_t3 : Fin (k0_t3_loop v8).trips, ∀ a, (k0_off18 v8 k0_t3) a + S16.size a ≤ S16384.size a) ∧
  ((k0_t4_loop v8).OK) ∧
  (∀ k0_t4 : Fin (k0_t4_loop v8).trips, ∀ a, (k0_off19 v8 k0_t4) a + S16.size a ≤ S16384.size a) ∧
  ((k0_t7_loop v8).OK) ∧
  (∀ k0_t7 : Fin (k0_t7_loop v8).trips, ∀ a, (k0_off30 v8 k0_t7) a + S16.size a ≤ S16384.size a) ∧
  ((k0_t8_loop v8).OK) ∧
  (∀ k0_t8 : Fin (k0_t8_loop v8).trips, ∀ a, (k0_off31 v8 k0_t8) a + S16.size a ≤ S16384.size a) ∧
  ((k0_t11_loop v8).OK) ∧
  (∀ k0_t11 : Fin (k0_t11_loop v8).trips, ∀ a, (k0_off42 v8 k0_t11) a + S16.size a ≤ S16384.size a) ∧
  ((k0_t12_loop v8).OK) ∧
  (∀ k0_t12 : Fin (k0_t12_loop v8).trips, ∀ a, (k0_off43 v8 k0_t12) a + S16.size a ≤ S16384.size a) ∧
  ((k0_t15_loop v8).OK) ∧
  (∀ k0_t15 : Fin (k0_t15_loop v8).trips, ∀ a, (k0_off50 v8 k0_t15) a + S16.size a ≤ S16384.size a) ∧
  ((k0_t16_loop v8).OK) ∧
  (∀ k0_t16 : Fin (k0_t16_loop v8).trips, ∀ a, (k0_off51 v8 k0_t16) a + S16.size a ≤ S16384.size a) ∧
  (∀ (k0_h4 : k0_cond4 i = 1#1), (k0_t19_loop v8).OK) ∧
  (∀ k0_t19 : Fin (k0_t19_loop v8).trips, ∀ (k0_h4 : k0_cond4 i = 1#1), ∀ a, (k0_off54 v8 k0_t19) a + S16.size a ≤ S16384.size a) ∧
  (∀ (k0_h4 : k0_cond4 i = 1#1), (k0_t20_loop v8).OK) ∧
  (∀ k0_t20 : Fin (k0_t20_loop v8).trips, ∀ (k0_h4 : k0_cond4 i = 1#1), ∀ a, (k0_off55 v8 k0_t20) a + S16.size a ≤ S16384.size a) ∧
  (∀ (k0_h4 : k0_cond4 i = 1#1), (k0_t23_loop v8).OK) ∧
  (∀ k0_t23 : Fin (k0_t23_loop v8).trips, ∀ (k0_h4 : k0_cond4 i = 1#1), ∀ a, (k0_off58 v8 k0_t23) a + S16.size a ≤ S16384.size a) ∧
  (∀ (k0_h4 : k0_cond4 i = 1#1), (k0_t24_loop v8).OK) ∧
  (∀ k0_t24 : Fin (k0_t24_loop v8).trips, ∀ (k0_h4 : k0_cond4 i = 1#1), ∀ a, (k0_off59 v8 k0_t24) a + S16.size a ≤ S16384.size a) ∧
  ((k0_t27_loop v8).OK) ∧
  (∀ k0_t27 : Fin (k0_t27_loop v8).trips, ∀ a, (k0_off62 v8 k0_t27) a + S128.size a ≤ S16640.size a) ∧
  (∀ k0_t27 : Fin (k0_t27_loop v8).trips, ∀ a, (k0_off63 v8 k0_t27) a + S1x128.size a ≤ S130x128.size a) ∧
  ((k0_t28_loop v8).OK) ∧
  (∀ k0_t28 : Fin (k0_t28_loop v8).trips, ∀ a, (k0_off64 v8 k0_t28) a + S128.size a ≤ S16640.size a) ∧
  (∀ k0_t28 : Fin (k0_t28_loop v8).trips, ∀ a, (k0_off65 v8 k0_t28) a + S1x128.size a ≤ S130x128.size a)
theorem k0_t3_ok : ∀ (i : grid0.Coords) (v8 : BitVec 32) (k0_hw11 : k0_chk11 i v8), (k0_t3_loop v8).OK := fun i v8 k0_hw11 => k0_hw11.1
theorem k0_off18_inb : ∀ (i : grid0.Coords) (v8 : BitVec 32) (k0_hw11 : k0_chk11 i v8) (k0_t3 : Fin (k0_t3_loop v8).trips), ∀ a, (k0_off18 v8 k0_t3) a + S16.size a ≤ S16384.size a := fun i v8 k0_hw11 k0_t3 => k0_hw11.2.1 k0_t3
theorem k0_t4_ok : ∀ (i : grid0.Coords) (v8 : BitVec 32) (k0_hw11 : k0_chk11 i v8), (k0_t4_loop v8).OK := fun i v8 k0_hw11 => k0_hw11.2.2.1
theorem k0_off19_inb : ∀ (i : grid0.Coords) (v8 : BitVec 32) (k0_hw11 : k0_chk11 i v8) (k0_t4 : Fin (k0_t4_loop v8).trips), ∀ a, (k0_off19 v8 k0_t4) a + S16.size a ≤ S16384.size a := fun i v8 k0_hw11 k0_t4 => k0_hw11.2.2.2.1 k0_t4
theorem k0_t7_ok : ∀ (i : grid0.Coords) (v8 : BitVec 32) (k0_hw11 : k0_chk11 i v8), (k0_t7_loop v8).OK := fun i v8 k0_hw11 => k0_hw11.2.2.2.2.1
theorem k0_off30_inb : ∀ (i : grid0.Coords) (v8 : BitVec 32) (k0_hw11 : k0_chk11 i v8) (k0_t7 : Fin (k0_t7_loop v8).trips), ∀ a, (k0_off30 v8 k0_t7) a + S16.size a ≤ S16384.size a := fun i v8 k0_hw11 k0_t7 => k0_hw11.2.2.2.2.2.1 k0_t7
theorem k0_t8_ok : ∀ (i : grid0.Coords) (v8 : BitVec 32) (k0_hw11 : k0_chk11 i v8), (k0_t8_loop v8).OK := fun i v8 k0_hw11 => k0_hw11.2.2.2.2.2.2.1
theorem k0_off31_inb : ∀ (i : grid0.Coords) (v8 : BitVec 32) (k0_hw11 : k0_chk11 i v8) (k0_t8 : Fin (k0_t8_loop v8).trips), ∀ a, (k0_off31 v8 k0_t8) a + S16.size a ≤ S16384.size a := fun i v8 k0_hw11 k0_t8 => k0_hw11.2.2.2.2.2.2.2.1 k0_t8
theorem k0_t11_ok : ∀ (i : grid0.Coords) (v8 : BitVec 32) (k0_hw11 : k0_chk11 i v8), (k0_t11_loop v8).OK := fun i v8 k0_hw11 => k0_hw11.2.2.2.2.2.2.2.2.1
theorem k0_off42_inb : ∀ (i : grid0.Coords) (v8 : BitVec 32) (k0_hw11 : k0_chk11 i v8) (k0_t11 : Fin (k0_t11_loop v8).trips), ∀ a, (k0_off42 v8 k0_t11) a + S16.size a ≤ S16384.size a := fun i v8 k0_hw11 k0_t11 => k0_hw11.2.2.2.2.2.2.2.2.2.1 k0_t11
theorem k0_t12_ok : ∀ (i : grid0.Coords) (v8 : BitVec 32) (k0_hw11 : k0_chk11 i v8), (k0_t12_loop v8).OK := fun i v8 k0_hw11 => k0_hw11.2.2.2.2.2.2.2.2.2.2.1
theorem k0_off43_inb : ∀ (i : grid0.Coords) (v8 : BitVec 32) (k0_hw11 : k0_chk11 i v8) (k0_t12 : Fin (k0_t12_loop v8).trips), ∀ a, (k0_off43 v8 k0_t12) a + S16.size a ≤ S16384.size a := fun i v8 k0_hw11 k0_t12 => k0_hw11.2.2.2.2.2.2.2.2.2.2.2.1 k0_t12
theorem k0_t15_ok : ∀ (i : grid0.Coords) (v8 : BitVec 32) (k0_hw11 : k0_chk11 i v8), (k0_t15_loop v8).OK := fun i v8 k0_hw11 => k0_hw11.2.2.2.2.2.2.2.2.2.2.2.2.1
theorem k0_off50_inb : ∀ (i : grid0.Coords) (v8 : BitVec 32) (k0_hw11 : k0_chk11 i v8) (k0_t15 : Fin (k0_t15_loop v8).trips), ∀ a, (k0_off50 v8 k0_t15) a + S16.size a ≤ S16384.size a := fun i v8 k0_hw11 k0_t15 => k0_hw11.2.2.2.2.2.2.2.2.2.2.2.2.2.1 k0_t15
theorem k0_t16_ok : ∀ (i : grid0.Coords) (v8 : BitVec 32) (k0_hw11 : k0_chk11 i v8), (k0_t16_loop v8).OK := fun i v8 k0_hw11 => k0_hw11.2.2.2.2.2.2.2.2.2.2.2.2.2.2.1
theorem k0_off51_inb : ∀ (i : grid0.Coords) (v8 : BitVec 32) (k0_hw11 : k0_chk11 i v8) (k0_t16 : Fin (k0_t16_loop v8).trips), ∀ a, (k0_off51 v8 k0_t16) a + S16.size a ≤ S16384.size a := fun i v8 k0_hw11 k0_t16 => k0_hw11.2.2.2.2.2.2.2.2.2.2.2.2.2.2.2.1 k0_t16
theorem k0_t19_ok : ∀ (i : grid0.Coords) (v8 : BitVec 32) (k0_hw11 : k0_chk11 i v8), ∀ (k0_h4 : k0_cond4 i = 1#1), (k0_t19_loop v8).OK := fun i v8 k0_hw11 k0_h4 => k0_hw11.2.2.2.2.2.2.2.2.2.2.2.2.2.2.2.2.1 k0_h4
theorem k0_off54_inb : ∀ (i : grid0.Coords) (v8 : BitVec 32) (k0_hw11 : k0_chk11 i v8) (k0_t19 : Fin (k0_t19_loop v8).trips), ∀ (k0_h4 : k0_cond4 i = 1#1), ∀ a, (k0_off54 v8 k0_t19) a + S16.size a ≤ S16384.size a := fun i v8 k0_hw11 k0_t19 k0_h4 => k0_hw11.2.2.2.2.2.2.2.2.2.2.2.2.2.2.2.2.2.1 k0_t19 k0_h4
theorem k0_t20_ok : ∀ (i : grid0.Coords) (v8 : BitVec 32) (k0_hw11 : k0_chk11 i v8), ∀ (k0_h4 : k0_cond4 i = 1#1), (k0_t20_loop v8).OK := fun i v8 k0_hw11 k0_h4 => k0_hw11.2.2.2.2.2.2.2.2.2.2.2.2.2.2.2.2.2.2.1 k0_h4
theorem k0_off55_inb : ∀ (i : grid0.Coords) (v8 : BitVec 32) (k0_hw11 : k0_chk11 i v8) (k0_t20 : Fin (k0_t20_loop v8).trips), ∀ (k0_h4 : k0_cond4 i = 1#1), ∀ a, (k0_off55 v8 k0_t20) a + S16.size a ≤ S16384.size a := fun i v8 k0_hw11 k0_t20 k0_h4 => k0_hw11.2.2.2.2.2.2.2.2.2.2.2.2.2.2.2.2.2.2.2.1 k0_t20 k0_h4
theorem k0_t23_ok : ∀ (i : grid0.Coords) (v8 : BitVec 32) (k0_hw11 : k0_chk11 i v8), ∀ (k0_h4 : k0_cond4 i = 1#1), (k0_t23_loop v8).OK := fun i v8 k0_hw11 k0_h4 => k0_hw11.2.2.2.2.2.2.2.2.2.2.2.2.2.2.2.2.2.2.2.2.1 k0_h4
theorem k0_off58_inb : ∀ (i : grid0.Coords) (v8 : BitVec 32) (k0_hw11 : k0_chk11 i v8) (k0_t23 : Fin (k0_t23_loop v8).trips), ∀ (k0_h4 : k0_cond4 i = 1#1), ∀ a, (k0_off58 v8 k0_t23) a + S16.size a ≤ S16384.size a := fun i v8 k0_hw11 k0_t23 k0_h4 => k0_hw11.2.2.2.2.2.2.2.2.2.2.2.2.2.2.2.2.2.2.2.2.2.1 k0_t23 k0_h4
theorem k0_t24_ok : ∀ (i : grid0.Coords) (v8 : BitVec 32) (k0_hw11 : k0_chk11 i v8), ∀ (k0_h4 : k0_cond4 i = 1#1), (k0_t24_loop v8).OK := fun i v8 k0_hw11 k0_h4 => k0_hw11.2.2.2.2.2.2.2.2.2.2.2.2.2.2.2.2.2.2.2.2.2.2.1 k0_h4
theorem k0_off59_inb : ∀ (i : grid0.Coords) (v8 : BitVec 32) (k0_hw11 : k0_chk11 i v8) (k0_t24 : Fin (k0_t24_loop v8).trips), ∀ (k0_h4 : k0_cond4 i = 1#1), ∀ a, (k0_off59 v8 k0_t24) a + S16.size a ≤ S16384.size a := fun i v8 k0_hw11 k0_t24 k0_h4 => k0_hw11.2.2.2.2.2.2.2.2.2.2.2.2.2.2.2.2.2.2.2.2.2.2.2.1 k0_t24 k0_h4
theorem k0_t27_ok : ∀ (i : grid0.Coords) (v8 : BitVec 32) (k0_hw11 : k0_chk11 i v8), (k0_t27_loop v8).OK := fun i v8 k0_hw11 => k0_hw11.2.2.2.2.2.2.2.2.2.2.2.2.2.2.2.2.2.2.2.2.2.2.2.2.1
theorem k0_off62_inb : ∀ (i : grid0.Coords) (v8 : BitVec 32) (k0_hw11 : k0_chk11 i v8) (k0_t27 : Fin (k0_t27_loop v8).trips), ∀ a, (k0_off62 v8 k0_t27) a + S128.size a ≤ S16640.size a := fun i v8 k0_hw11 k0_t27 => k0_hw11.2.2.2.2.2.2.2.2.2.2.2.2.2.2.2.2.2.2.2.2.2.2.2.2.2.1 k0_t27
theorem k0_off63_inb : ∀ (i : grid0.Coords) (v8 : BitVec 32) (k0_hw11 : k0_chk11 i v8) (k0_t27 : Fin (k0_t27_loop v8).trips), ∀ a, (k0_off63 v8 k0_t27) a + S1x128.size a ≤ S130x128.size a := fun i v8 k0_hw11 k0_t27 => k0_hw11.2.2.2.2.2.2.2.2.2.2.2.2.2.2.2.2.2.2.2.2.2.2.2.2.2.2.1 k0_t27
theorem k0_t28_ok : ∀ (i : grid0.Coords) (v8 : BitVec 32) (k0_hw11 : k0_chk11 i v8), (k0_t28_loop v8).OK := fun i v8 k0_hw11 => k0_hw11.2.2.2.2.2.2.2.2.2.2.2.2.2.2.2.2.2.2.2.2.2.2.2.2.2.2.2.1
theorem k0_off64_inb : ∀ (i : grid0.Coords) (v8 : BitVec 32) (k0_hw11 : k0_chk11 i v8) (k0_t28 : Fin (k0_t28_loop v8).trips), ∀ a, (k0_off64 v8 k0_t28) a + S128.size a ≤ S16640.size a := fun i v8 k0_hw11 k0_t28 => k0_hw11.2.2.2.2.2.2.2.2.2.2.2.2.2.2.2.2.2.2.2.2.2.2.2.2.2.2.2.2.1 k0_t28
theorem k0_off65_inb : ∀ (i : grid0.Coords) (v8 : BitVec 32) (k0_hw11 : k0_chk11 i v8) (k0_t28 : Fin (k0_t28_loop v8).trips), ∀ a, (k0_off65 v8 k0_t28) a + S1x128.size a ≤ S130x128.size a := fun i v8 k0_hw11 k0_t28 => k0_hw11.2.2.2.2.2.2.2.2.2.2.2.2.2.2.2.2.2.2.2.2.2.2.2.2.2.2.2.2.2 k0_t28

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1x32 : Shape := ⟨2, ![1, 32]⟩
abbrev S1000000x32 : Shape := ⟨2, ![1000000, 32]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩
abbrev S32x16384 : Shape := ⟨2, ![32, 16384]⟩
abbrev S1x16384 : Shape := ⟨2, ![1, 16384]⟩

abbrev nBuf : Space → Nat
  | .hbm => 28
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1x32, .f32⟩
  | .hbm, ⟨2, _⟩ => ⟨S1000000x32, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x32, .f32⟩
  | .hbm, ⟨22, _⟩ => ⟨S16384x32, .i1⟩
  | .hbm, ⟨23, _⟩ => ⟨S_, .f32⟩
  | .hbm, ⟨24, _⟩ => ⟨S16384x32, .f32⟩
  | .hbm, ⟨25, _⟩ => ⟨S16384x32, .f32⟩
  | .hbm, ⟨26, _⟩ => ⟨S32x16384, .f32⟩
  | .hbm, ⟨27, _⟩ => ⟨S1x16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]
-- ==== Proof.Bodies.lean ====
/-
  The two loop bodies the kernel repeats for each of its six windows of the table, written once over what varies
  between the copies — the window's buffer, the values bound before the loop, and the side conditions the copy
  states —, and, per copy, the equation that says the printed body is that one.
-/
module

public import Idealize.ShloMosaic.Lib.SparseCore.Ops
public import proofs.«01_k».proof.Proof.Gen.KernelIdeal
public import proofs.«01_k».proof.Proof.Gen.KernelIdeal.Skeleton

@[expose] public section

noncomputable section

namespace Cert.Proof.Stream

open Cert.KernelIdeal Cert.KernelIdeal.Gen
open Idealize.ShloMosaic Idealize.SL.Sem

variable {F : FTy → Type} [FloatOps F]

/-- The `j`th row of the broadcast user vector lies inside its buffer. -/
theorem inb_row (j : Nat) (hj : j < 32) : ∀ a, (![j, 0] : Fin 2 → Nat) a + S1x16.size a ≤ S32x16.size a := by
  intro a; fin_cases a
  · show j + 1 ≤ 32; omega
  · show 0 + 16 ≤ 16; omega

/-- The shape of a window's buffer: 32 feature rows of `W` columns. -/
abbrev SW (W : Nat) : Shape := ⟨2, ![32, W]⟩

section Dot

variable (i : grid0.Coords) (W : Nat) (tb : Memref sig .scVector .vmem (SW W) .f32) (htb : 0 < (SW W).numel)
  (u : Memref sig .scVector .vmem S32x16 .f32)

/-- The multiply-and-add chain of one group of sixteen entries: `n` features left, the accumulator so far. -/
def dotChain (item : IVec S16 32) (Ck : IVec S16 32 → Prop) (dec : ∀ w, Decidable (Ck w))
    (inb : ∀ w, Ck w → ∀ a x, ((![w, item] : Fin 2 → IVec S16 32) a x).toNat < (SW W).size a) :
    (n : Nat) → n ≤ 32 → FVec F S16 .f32 → (FVec F S16 .f32 → Prog (TpuEff nD τ sig (Elt F) Λ₀ (.scVector ((i 0).castLE hcore0) ((i 1).castLE hsub0))) Unit) → Prog (TpuEff nD τ sig (Elt F) Λ₀ (.scVector ((i 0).castLE hcore0) ((i 1).castLE hsub0))) Unit
  | 0, _, acc, k => k acc
  | n + 1, hn, acc, k => do
    have hw : Ck (broadcast S16 (BitVec.ofNat 32 (31 - n))) := (← Prog.lift (TpuEff.assume (Ck (broadcast S16 (BitVec.ofNat 32 (31 - n)))) (dec _))).down
    let g : Vec F S16 .f32 ← SparseCore.vectorLoadIdx tb ![broadcast S16 (BitVec.ofNat 32 (31 - n)), item] (inb _ hw) (View.loads_vmem htb)
    let r : Vec F S1x16 .f32 ← Prog.lift (.load u (Rect.unit (s := S32x16) ![31 - n, 0] S1x16.size (inb_row (31 - n) (by omega))).toLoadRect (View.loadsAt_vmem h_S1x16))
    dotChain item Ck dec inb n (by omega) (addf acc (mulf g (shapeCast S16 r shapeCasts_S1x16_S16))) k

variable (proc : Memref sig .scVector .vmem S16384 .i32) (vb : Memref sig .scVector .vmem S16640 .f32)

/-- Which lanes of group `t` hold one of the `cnt` entries. -/
def dotMask (v2 : IVec S16 32) (cnt : BitVec 32) (t : BitVec 32) : IVec S16 1 :=
  cmpi .slt (addi (broadcast S16 (Scalar.muli t 16#32)) v2) (broadcast S16 cnt)

/-- The packed entries of a group, the lanes past the last entry cleared. -/
def dotPacked (v2 : IVec S16 32) (cnt : BitVec 32) (t : BitVec 32) (w : IVec S16 32) : IVec S16 32 :=
  select (dotMask v2 cnt t) w (broadcast S16 0#32)

/-- One trip of the value loop: sixteen packed entries read, unpacked into a column of the window and a slot of the
    value buffer, each lane's dot product accumulated feature by feature, the results stored at the slots. -/
def dotBody (v2 : IVec S16 32) (cnt : BitVec 32) (t : BitVec 32) (off : Fin 1 → Nat) (hoff : ∀ a, off a + S16.size a ≤ S16384.size a)
    (Ck : IVec S16 32 → IVec S16 32 → Prop) (dec : ∀ v w, Decidable (Ck v w))
    (inb : ∀ v w, Ck v w → ∀ a x, ((![w, v] : Fin 2 → IVec S16 32) a x).toNat < (SW W).size a)
    (Cs : IVec S16 32 → Prop) (decs : ∀ w, Decidable (Cs w))
    (inbs : ∀ w, Cs w → ∀ a x, ((![w] : Fin 1 → IVec S16 32) a x).toNat < S16640.size a) : Prog (TpuEff nD τ sig (Elt F) Λ₀ (.scVector ((i 0).castLE hcore0) ((i 1).castLE hsub0))) Unit := do
  let w : Vec F S16 .i32 ← Prog.lift (.load proc (Rect.unit (s := S16384) off S16.size hoff).toLoadRect (View.loadsAt_vmem h_S16))
  have hw : Cs (shrui (dotPacked v2 cnt t w) (broadcast S16 9#32)) := (← Prog.lift (TpuEff.assume (Cs (shrui (dotPacked v2 cnt t w) (broadcast S16 9#32))) (decs _))).down
  dotChain i W tb htb u (andi (dotPacked v2 cnt t w) (broadcast S16 511#32)) (Ck _) (dec _) (inb _) 32 (by omega) (broadcast S16 (Scalar.ofBits .f32 0x00000000#32)) fun acc =>
    SparseCore.vectorStoreIdx vb ![shrui (dotPacked v2 cnt t w) (broadcast S16 9#32)] acc (dotMask v2 cnt t) false (inbs _ hw) (View.stores_vmem_bits_univ h_S16640 rfl) >>= fun _ => pure ⟨⟩

end Dot

section Scan

variable (i : grid0.Coords) (idx proc : Memref sig .scVector .vmem S16384 .i32)

/-- Which lanes of a group of entries name an item of the window `[start, lim)`. -/
def scanMask (start lim : BitVec 32) (w : IVec S16 32) : IVec S16 1 :=
  andi (cmpi .sge w (broadcast S16 start)) (cmpi .slt w (broadcast S16 lim))

/-- The running count of those lanes. -/
def scanSum (start lim : BitVec 32) (w : IVec S16 32) : IVec S16 32 :=
  scan .sum (extui 32 (scanMask start lim w) natLt_1_32)

/-- Where each such lane's entry goes: after the `cnt` entries before it. -/
def scanSlot (start lim cnt : BitVec 32) (w : IVec S16 32) : IVec S16 32 :=
  select (scanMask start lim w) (subi (addi (broadcast S16 cnt) (scanSum start lim w)) (broadcast S16 1#32)) (broadcast S16 0#32)

/-- The packed entry of each lane: its position among the tile's entries, and its column of the window. -/
def scanPacked (v2 : IVec S16 32) (start : BitVec 32) (t : BitVec 32) (w : IVec S16 32) : IVec S16 32 :=
  addi (muli (addi (broadcast S16 (Scalar.muli t 16#32)) v2) (broadcast S16 512#32)) (subi w (broadcast S16 start))

/-- One trip of the scan: sixteen of the tile's entries read, those of the window compacted into the list. -/
def scanBody (v2 : IVec S16 32) (start lim : BitVec 32) (t : BitVec 32) (off : Fin 1 → Nat) (hoff : ∀ a, off a + S16.size a ≤ S16384.size a)
    (Cs : IVec S16 32 → Prop) (decs : ∀ w, Decidable (Cs w))
    (inbs : ∀ w, Cs w → ∀ a x, ((![w] : Fin 1 → IVec S16 32) a x).toNat < S16384.size a) (cnt : BitVec 32) : Prog (TpuEff nD τ sig (Elt F) Λ₀ (.scVector ((i 0).castLE hcore0) ((i 1).castLE hsub0))) (BitVec 32) := do
  let w : Vec F S16 .i32 ← Prog.lift (.load idx (Rect.unit (s := S16384) off S16.size hoff).toLoadRect (View.loadsAt_vmem h_S16))
  have hw : Cs (scanSlot start lim cnt w) := (← Prog.lift (TpuEff.assume (Cs (scanSlot start lim cnt w)) (decs _))).down
  SparseCore.vectorStoreIdx proc ![scanSlot start lim cnt w] (scanPacked v2 start t w) (scanMask start lim w) false (inbs _ hw) (View.stores_vmem_bits_univ h_S16384 rfl)
  pure (Scalar.addi cnt (extractAt ![15] (scanSum start lim w) inpos_S16_p15))

end Scan

set_option maxHeartbeats 4000000 in
theorem t5_body_eq (i : grid0.Coords) (arg2 : Memref sig .scVector .hbm S16384 .i32) (harg2 : arg2.IsWhole) (arg3 : Memref sig .scVector .hbm S32x16 .f32) (harg3 : arg3.IsWhole) (arg4 : Memref sig .scVector .hbm S32x1000000 .f32) (harg4 : arg4.IsWhole) (arg5 : Memref sig .scVector .hbm S16512 .f32) (harg5 : arg5.IsWhole) (arg6 : Memref sig .scVector .vmem S32x512 .f32) (harg6 : arg6.IsWhole) (arg7 : Memref sig .scVector .vmem S32x512 .f32) (harg7 : arg7.IsWhole) (arg8 : Memref sig .scVector .vmem S32x512 .f32) (harg8 : arg8.IsWhole) (arg9 : Memref sig .scVector .vmem S32x64 .f32) (harg9 : arg9.IsWhole) (arg10 : Memref sig .scVector .vmem S16384 .i32) (harg10 : arg10.IsWhole) (arg11 : Memref sig .scVector .vmem S16384 .i32) (harg11 : arg11.IsWhole) (arg12 : Memref sig .scVector .vmem S130x128 .i32) (harg12 : arg12.IsWhole) (arg13 : Memref sig .scVector .vmem S16640 .f32) (harg13 : arg13.IsWhole) (arg14 : Memref sig .scVector .vmem S32x16 .f32) (harg14 : arg14.IsWhole) (arg15 : DmaSems sig S_) (arg16 : DmaSems sig S_) (arg17 : DmaSems sig S_) (arg18 : DmaSems sig S_) (v174_r0 : DmaSems sig S_) (v174_r1 : DmaSems sig S_) (v234_r2 : DmaSems sig S_) (v2 : IVec S16 32) (v8 : BitVec 32) (k0_hw11 : k0_chk11 i v8) (v83 : BitVec 32) (v84 : BitVec 32) (k0_t2 : Fin k0_t2_loop.trips) (arg19 : BitVec 32) (v176 : BitVec 32) (v207 : BitVec 32) (k0_hw14 : k0_chk14 v207) (x : Fin (k0_t5_loop v207).trips) (y : Unit) :
    k0_t5_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v174_r0 v174_r1 v234_r2 v2 v8 k0_hw11 v83 v84 k0_t2 arg19 v176 v207 k0_hw14 x y =
      dotBody i 512 arg6 h_S32x512 arg14 arg11 arg13 v2 v207 (Scf.iv 0#32 1#32 x) (k0_off20 v207 x) (k0_off20_inb v207 k0_hw14 x)
        (k0_chk15) (k0_chk15.dec) (fun v w h => k0_idx13_inb v w h)
        (k0_chk47) (k0_chk47.dec) (fun w h => k0_idx45_inb w h) := by
  rfl

set_option maxHeartbeats 4000000 in
theorem t9_body_eq (i : grid0.Coords) (arg2 : Memref sig .scVector .hbm S16384 .i32) (harg2 : arg2.IsWhole) (arg3 : Memref sig .scVector .hbm S32x16 .f32) (harg3 : arg3.IsWhole) (arg4 : Memref sig .scVector .hbm S32x1000000 .f32) (harg4 : arg4.IsWhole) (arg5 : Memref sig .scVector .hbm S16512 .f32) (harg5 : arg5.IsWhole) (arg6 : Memref sig .scVector .vmem S32x512 .f32) (harg6 : arg6.IsWhole) (arg7 : Memref sig .scVector .vmem S32x512 .f32) (harg7 : arg7.IsWhole) (arg8 : Memref sig .scVector .vmem S32x512 .f32) (harg8 : arg8.IsWhole) (arg9 : Memref sig .scVector .vmem S32x64 .f32) (harg9 : arg9.IsWhole) (arg10 : Memref sig .scVector .vmem S16384 .i32) (harg10 : arg10.IsWhole) (arg11 : Memref sig .scVector .vmem S16384 .i32) (harg11 : arg11.IsWhole) (arg12 : Memref sig .scVector .vmem S130x128 .i32) (harg12 : arg12.IsWhole) (arg13 : Memref sig .scVector .vmem S16640 .f32) (harg13 : arg13.IsWhole) (arg14 : Memref sig .scVector .vmem S32x16 .f32) (harg14 : arg14.IsWhole) (arg15 : DmaSems sig S_) (arg16 : DmaSems sig S_) (arg17 : DmaSems sig S_) (arg18 : DmaSems sig S_) (v174_r0 : DmaSems sig S_) (v174_r1 : DmaSems sig S_) (v234_r2 : DmaSems sig S_) (v2 : IVec S16 32) (v84 : BitVec 32) (k0_t2 : Fin k0_t2_loop.trips) (arg19 : BitVec 32) (v248 : BitVec 32) (k0_hw83 : k0_chk83 v248) (c0_i32_219 : BitVec 32) (v251 : BitVec 32) (x : Fin (k0_t9_loop v248).trips) (y : Unit) :
    k0_t9_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v174_r0 v174_r1 v234_r2 v2 v84 k0_t2 arg19 v248 k0_hw83 c0_i32_219 v251 x y =
      dotBody i 512 arg7 h_S32x512 arg14 arg11 arg13 v2 v248 (Scf.iv c0_i32_219 1#32 x) (k0_off32 v248 x) (k0_off32_inb v248 k0_hw83 x)
        (k0_chk84) (k0_chk84.dec) (fun v w h => k0_idx81_inb v w h)
        (k0_chk116) (k0_chk116.dec) (fun w h => k0_idx113_inb w h) := by
  rfl

set_option maxHeartbeats 4000000 in
theorem t13_body_eq (i : grid0.Coords) (arg2 : Memref sig .scVector .hbm S16384 .i32) (harg2 : arg2.IsWhole) (arg3 : Memref sig .scVector .hbm S32x16 .f32) (harg3 : arg3.IsWhole) (arg4 : Memref sig .scVector .hbm S32x1000000 .f32) (harg4 : arg4.IsWhole) (arg5 : Memref sig .scVector .hbm S16512 .f32) (harg5 : arg5.IsWhole) (arg6 : Memref sig .scVector .vmem S32x512 .f32) (harg6 : arg6.IsWhole) (arg7 : Memref sig .scVector .vmem S32x512 .f32) (harg7 : arg7.IsWhole) (arg8 : Memref sig .scVector .vmem S32x512 .f32) (harg8 : arg8.IsWhole) (arg9 : Memref sig .scVector .vmem S32x64 .f32) (harg9 : arg9.IsWhole) (arg10 : Memref sig .scVector .vmem S16384 .i32) (harg10 : arg10.IsWhole) (arg11 : Memref sig .scVector .vmem S16384 .i32) (harg11 : arg11.IsWhole) (arg12 : Memref sig .scVector .vmem S130x128 .i32) (harg12 : arg12.IsWhole) (arg13 : Memref sig .scVector .vmem S16640 .f32) (harg13 : arg13.IsWhole) (arg14 : Memref sig .scVector .vmem S32x16 .f32) (harg14 : arg14.IsWhole) (arg15 : DmaSems sig S_) (arg16 : DmaSems sig S_) (arg17 : DmaSems sig S_) (arg18 : DmaSems sig S_) (v174_r0 : DmaSems sig S_) (v174_r1 : DmaSems sig S_) (v234_r2 : DmaSems sig S_) (v2 : IVec S16 32) (v8 : BitVec 32) (k0_hw11 : k0_chk11 i v8) (v83 : BitVec 32) (v84 : BitVec 32) (v289 : BitVec 32) (k0_hw152 : k0_chk152 v289) (x : Fin (k0_t13_loop v289).trips) (y : Unit) :
    k0_t13_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v174_r0 v174_r1 v234_r2 v2 v8 k0_hw11 v83 v84 v289 k0_hw152 x y =
      dotBody i 512 arg8 h_S32x512 arg14 arg11 arg13 v2 v289 (Scf.iv 0#32 1#32 x) (k0_off44 v289 x) (k0_off44_inb v289 k0_hw152 x)
        (k0_chk153) (k0_chk153.dec) (fun v w h => k0_idx149_inb v w h)
        (k0_chk185) (k0_chk185.dec) (fun w h => k0_idx181_inb w h) := by
  rfl

set_option maxHeartbeats 4000000 in
theorem t17_body_eq (i : grid0.Coords) (arg2 : Memref sig .scVector .hbm S16384 .i32) (harg2 : arg2.IsWhole) (arg3 : Memref sig .scVector .hbm S32x16 .f32) (harg3 : arg3.IsWhole) (arg4 : Memref sig .scVector .hbm S32x1000000 .f32) (harg4 : arg4.IsWhole) (arg5 : Memref sig .scVector .hbm S16512 .f32) (harg5 : arg5.IsWhole) (arg6 : Memref sig .scVector .vmem S32x512 .f32) (harg6 : arg6.IsWhole) (arg7 : Memref sig .scVector .vmem S32x512 .f32) (harg7 : arg7.IsWhole) (arg8 : Memref sig .scVector .vmem S32x512 .f32) (harg8 : arg8.IsWhole) (arg9 : Memref sig .scVector .vmem S32x64 .f32) (harg9 : arg9.IsWhole) (arg10 : Memref sig .scVector .vmem S16384 .i32) (harg10 : arg10.IsWhole) (arg11 : Memref sig .scVector .vmem S16384 .i32) (harg11 : arg11.IsWhole) (arg12 : Memref sig .scVector .vmem S130x128 .i32) (harg12 : arg12.IsWhole) (arg13 : Memref sig .scVector .vmem S16640 .f32) (harg13 : arg13.IsWhole) (arg14 : Memref sig .scVector .vmem S32x16 .f32) (harg14 : arg14.IsWhole) (arg15 : DmaSems sig S_) (arg16 : DmaSems sig S_) (arg17 : DmaSems sig S_) (arg18 : DmaSems sig S_) (v174_r0 : DmaSems sig S_) (v174_r1 : DmaSems sig S_) (v234_r2 : DmaSems sig S_) (v1 : BitVec 32) (v2 : IVec S16 32) (v8 : BitVec 32) (k0_hw11 : k0_chk11 i v8) (v83 : BitVec 32) (v128 : BitVec 32) (v156 : BitVec 32) (k0_hw221 : k0_chk221 v156) (x : Fin (k0_t17_loop v156).trips) (y : Unit) :
    k0_t17_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v174_r0 v174_r1 v234_r2 v1 v2 v8 k0_hw11 v83 v128 v156 k0_hw221 x y =
      dotBody i 512 arg6 h_S32x512 arg14 arg11 arg13 v2 v156 (Scf.iv 0#32 1#32 x) (k0_off52 v156 x) (k0_off52_inb v156 k0_hw221 x)
        (k0_chk222) (k0_chk222.dec) (fun v w h => k0_idx217_inb v w h)
        (k0_chk254) (k0_chk254.dec) (fun w h => k0_idx249_inb w h) := by
  rfl

set_option maxHeartbeats 4000000 in
theorem t21_body_eq (i : grid0.Coords) (arg2 : Memref sig .scVector .hbm S16384 .i32) (harg2 : arg2.IsWhole) (arg3 : Memref sig .scVector .hbm S32x16 .f32) (harg3 : arg3.IsWhole) (arg4 : Memref sig .scVector .hbm S32x1000000 .f32) (harg4 : arg4.IsWhole) (arg5 : Memref sig .scVector .hbm S16512 .f32) (harg5 : arg5.IsWhole) (arg6 : Memref sig .scVector .vmem S32x512 .f32) (harg6 : arg6.IsWhole) (arg7 : Memref sig .scVector .vmem S32x512 .f32) (harg7 : arg7.IsWhole) (arg8 : Memref sig .scVector .vmem S32x512 .f32) (harg8 : arg8.IsWhole) (arg9 : Memref sig .scVector .vmem S32x64 .f32) (harg9 : arg9.IsWhole) (arg10 : Memref sig .scVector .vmem S16384 .i32) (harg10 : arg10.IsWhole) (arg11 : Memref sig .scVector .vmem S16384 .i32) (harg11 : arg11.IsWhole) (arg12 : Memref sig .scVector .vmem S130x128 .i32) (harg12 : arg12.IsWhole) (arg13 : Memref sig .scVector .vmem S16640 .f32) (harg13 : arg13.IsWhole) (arg14 : Memref sig .scVector .vmem S32x16 .f32) (harg14 : arg14.IsWhole) (arg15 : DmaSems sig S_) (arg16 : DmaSems sig S_) (arg17 : DmaSems sig S_) (arg18 : DmaSems sig S_) (v174_r0 : DmaSems sig S_) (v174_r1 : DmaSems sig S_) (v234_r2 : DmaSems sig S_) (v1 : BitVec 32) (v2 : IVec S16 32) (v8 : BitVec 32) (k0_hw11 : k0_chk11 i v8) (v83 : BitVec 32) (v128 : BitVec 32) (k0_h4 : k0_cond4 i = 1#1) (v212 : BitVec 32) (k0_hw290 : k0_chk290 i v212) (x : Fin (k0_t21_loop v212).trips) (y : Unit) :
    k0_t21_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v174_r0 v174_r1 v234_r2 v1 v2 v8 k0_hw11 v83 v128 k0_h4 v212 k0_hw290 x y =
      dotBody i 512 arg6 h_S32x512 arg14 arg11 arg13 v2 v212 (Scf.iv 0#32 1#32 x) (k0_off56 v212 x) (k0_off56_inb i v212 k0_hw290 x k0_h4)
        (k0_chk291 i) (k0_chk291.dec i) (fun v w h => k0_idx285_inb i v w h k0_h4)
        (k0_chk323 i) (k0_chk323.dec i) (fun w h => k0_idx317_inb i w h k0_h4) := by
  rfl

set_option maxHeartbeats 4000000 in
theorem t25_body_eq (i : grid0.Coords) (arg2 : Memref sig .scVector .hbm S16384 .i32) (harg2 : arg2.IsWhole) (arg3 : Memref sig .scVector .hbm S32x16 .f32) (harg3 : arg3.IsWhole) (arg4 : Memref sig .scVector .hbm S32x1000000 .f32) (harg4 : arg4.IsWhole) (arg5 : Memref sig .scVector .hbm S16512 .f32) (harg5 : arg5.IsWhole) (arg6 : Memref sig .scVector .vmem S32x512 .f32) (harg6 : arg6.IsWhole) (arg7 : Memref sig .scVector .vmem S32x512 .f32) (harg7 : arg7.IsWhole) (arg8 : Memref sig .scVector .vmem S32x512 .f32) (harg8 : arg8.IsWhole) (arg9 : Memref sig .scVector .vmem S32x64 .f32) (harg9 : arg9.IsWhole) (arg10 : Memref sig .scVector .vmem S16384 .i32) (harg10 : arg10.IsWhole) (arg11 : Memref sig .scVector .vmem S16384 .i32) (harg11 : arg11.IsWhole) (arg12 : Memref sig .scVector .vmem S130x128 .i32) (harg12 : arg12.IsWhole) (arg13 : Memref sig .scVector .vmem S16640 .f32) (harg13 : arg13.IsWhole) (arg14 : Memref sig .scVector .vmem S32x16 .f32) (harg14 : arg14.IsWhole) (arg15 : DmaSems sig S_) (arg16 : DmaSems sig S_) (arg17 : DmaSems sig S_) (arg18 : DmaSems sig S_) (v174_r0 : DmaSems sig S_) (v174_r1 : DmaSems sig S_) (v234_r2 : DmaSems sig S_) (v1 : BitVec 32) (v2 : IVec S16 32) (v8 : BitVec 32) (k0_hw11 : k0_chk11 i v8) (v83 : BitVec 32) (v128 : BitVec 32) (k0_h4 : k0_cond4 i = 1#1) (v226 : BitVec 32) (k0_hw359 : k0_chk359 i v226) (x : Fin (k0_t25_loop v226).trips) (y : Unit) :
    k0_t25_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v174_r0 v174_r1 v234_r2 v1 v2 v8 k0_hw11 v83 v128 k0_h4 v226 k0_hw359 x y =
      dotBody i 64 arg9 h_S32x64 arg14 arg11 arg13 v2 v226 (Scf.iv 0#32 1#32 x) (k0_off60 v226 x) (k0_off60_inb i v226 k0_hw359 x k0_h4)
        (k0_chk360 i) (k0_chk360.dec i) (fun v w h => k0_idx353_inb i v w h k0_h4)
        (k0_chk392 i) (k0_chk392.dec i) (fun w h => k0_idx385_inb i w h k0_h4) := by
  rfl

set_option maxHeartbeats 4000000 in
theorem t3_body_eq (i : grid0.Coords) (arg2 : Memref sig .scVector .hbm S16384 .i32) (harg2 : arg2.IsWhole) (arg3 : Memref sig .scVector .hbm S32x16 .f32) (harg3 : arg3.IsWhole) (arg4 : Memref sig .scVector .hbm S32x1000000 .f32) (harg4 : arg4.IsWhole) (arg5 : Memref sig .scVector .hbm S16512 .f32) (harg5 : arg5.IsWhole) (arg6 : Memref sig .scVector .vmem S32x512 .f32) (harg6 : arg6.IsWhole) (arg7 : Memref sig .scVector .vmem S32x512 .f32) (harg7 : arg7.IsWhole) (arg8 : Memref sig .scVector .vmem S32x512 .f32) (harg8 : arg8.IsWhole) (arg9 : Memref sig .scVector .vmem S32x64 .f32) (harg9 : arg9.IsWhole) (arg10 : Memref sig .scVector .vmem S16384 .i32) (harg10 : arg10.IsWhole) (arg11 : Memref sig .scVector .vmem S16384 .i32) (harg11 : arg11.IsWhole) (arg12 : Memref sig .scVector .vmem S130x128 .i32) (harg12 : arg12.IsWhole) (arg13 : Memref sig .scVector .vmem S16640 .f32) (harg13 : arg13.IsWhole) (arg14 : Memref sig .scVector .vmem S32x16 .f32) (harg14 : arg14.IsWhole) (arg15 : DmaSems sig S_) (arg16 : DmaSems sig S_) (arg17 : DmaSems sig S_) (arg18 : DmaSems sig S_) (v174_r0 : DmaSems sig S_) (v174_r1 : DmaSems sig S_) (v234_r2 : DmaSems sig S_) (v2 : IVec S16 32) (v8 : BitVec 32) (k0_hw11 : k0_chk11 i v8) (v83 : BitVec 32) (v84 : BitVec 32) (k0_t2 : Fin k0_t2_loop.trips) (arg19 : BitVec 32) (v176 : BitVec 32) (x : Fin (k0_t3_loop v8).trips) (y : BitVec 32) :
    k0_t3_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v174_r0 v174_r1 v234_r2 v2 v8 k0_hw11 v83 v84 k0_t2 arg19 v176 x y =
      scanBody i arg10 arg11 v2 ((Scalar.muli v176 512#32)) ((Scalar.addi (Scalar.muli v176 512#32) 512#32)) (Scf.iv 0#32 1#32 x) (k0_off18 v8 x) (k0_off18_inb i v8 k0_hw11 x)
        (k0_chk12) (k0_chk12.dec) (fun w h => k0_idx11_inb w h) y := rfl

set_option maxHeartbeats 4000000 in
theorem t7_body_eq (i : grid0.Coords) (arg2 : Memref sig .scVector .hbm S16384 .i32) (harg2 : arg2.IsWhole) (arg3 : Memref sig .scVector .hbm S32x16 .f32) (harg3 : arg3.IsWhole) (arg4 : Memref sig .scVector .hbm S32x1000000 .f32) (harg4 : arg4.IsWhole) (arg5 : Memref sig .scVector .hbm S16512 .f32) (harg5 : arg5.IsWhole) (arg6 : Memref sig .scVector .vmem S32x512 .f32) (harg6 : arg6.IsWhole) (arg7 : Memref sig .scVector .vmem S32x512 .f32) (harg7 : arg7.IsWhole) (arg8 : Memref sig .scVector .vmem S32x512 .f32) (harg8 : arg8.IsWhole) (arg9 : Memref sig .scVector .vmem S32x64 .f32) (harg9 : arg9.IsWhole) (arg10 : Memref sig .scVector .vmem S16384 .i32) (harg10 : arg10.IsWhole) (arg11 : Memref sig .scVector .vmem S16384 .i32) (harg11 : arg11.IsWhole) (arg12 : Memref sig .scVector .vmem S130x128 .i32) (harg12 : arg12.IsWhole) (arg13 : Memref sig .scVector .vmem S16640 .f32) (harg13 : arg13.IsWhole) (arg14 : Memref sig .scVector .vmem S32x16 .f32) (harg14 : arg14.IsWhole) (arg15 : DmaSems sig S_) (arg16 : DmaSems sig S_) (arg17 : DmaSems sig S_) (arg18 : DmaSems sig S_) (v174_r0 : DmaSems sig S_) (v174_r1 : DmaSems sig S_) (v234_r2 : DmaSems sig S_) (v2 : IVec S16 32) (v8 : BitVec 32) (k0_hw11 : k0_chk11 i v8) (v83 : BitVec 32) (k0_t2 : Fin k0_t2_loop.trips) (v217 : BitVec 32) (x : Fin (k0_t7_loop v8).trips) (y : BitVec 32) :
    k0_t7_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v174_r0 v174_r1 v234_r2 v2 v8 k0_hw11 v83 k0_t2 v217 x y =
      scanBody i arg10 arg11 v2 ((Scalar.muli v217 512#32)) ((Scalar.addi (Scalar.muli v217 512#32) 512#32)) (Scf.iv 0#32 1#32 x) (k0_off30 v8 x) (k0_off30_inb i v8 k0_hw11 x)
        (k0_chk81) (k0_chk81.dec) (fun w h => k0_idx79_inb w h) y := rfl

set_option maxHeartbeats 4000000 in
theorem t11_body_eq (i : grid0.Coords) (arg2 : Memref sig .scVector .hbm S16384 .i32) (harg2 : arg2.IsWhole) (arg3 : Memref sig .scVector .hbm S32x16 .f32) (harg3 : arg3.IsWhole) (arg4 : Memref sig .scVector .hbm S32x1000000 .f32) (harg4 : arg4.IsWhole) (arg5 : Memref sig .scVector .hbm S16512 .f32) (harg5 : arg5.IsWhole) (arg6 : Memref sig .scVector .vmem S32x512 .f32) (harg6 : arg6.IsWhole) (arg7 : Memref sig .scVector .vmem S32x512 .f32) (harg7 : arg7.IsWhole) (arg8 : Memref sig .scVector .vmem S32x512 .f32) (harg8 : arg8.IsWhole) (arg9 : Memref sig .scVector .vmem S32x64 .f32) (harg9 : arg9.IsWhole) (arg10 : Memref sig .scVector .vmem S16384 .i32) (harg10 : arg10.IsWhole) (arg11 : Memref sig .scVector .vmem S16384 .i32) (harg11 : arg11.IsWhole) (arg12 : Memref sig .scVector .vmem S130x128 .i32) (harg12 : arg12.IsWhole) (arg13 : Memref sig .scVector .vmem S16640 .f32) (harg13 : arg13.IsWhole) (arg14 : Memref sig .scVector .vmem S32x16 .f32) (harg14 : arg14.IsWhole) (arg15 : DmaSems sig S_) (arg16 : DmaSems sig S_) (arg17 : DmaSems sig S_) (arg18 : DmaSems sig S_) (v174_r0 : DmaSems sig S_) (v174_r1 : DmaSems sig S_) (v234_r2 : DmaSems sig S_) (v2 : IVec S16 32) (v8 : BitVec 32) (k0_hw11 : k0_chk11 i v8) (v83 : BitVec 32) (v84 : BitVec 32) (v258 : BitVec 32) (x : Fin (k0_t11_loop v8).trips) (y : BitVec 32) :
    k0_t11_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v174_r0 v174_r1 v234_r2 v2 v8 k0_hw11 v83 v84 v258 x y =
      scanBody i arg10 arg11 v2 ((Scalar.muli v258 512#32)) ((Scalar.addi (Scalar.muli v258 512#32) 512#32)) (Scf.iv 0#32 1#32 x) (k0_off42 v8 x) (k0_off42_inb i v8 k0_hw11 x)
        (k0_chk150) (k0_chk150.dec) (fun w h => k0_idx147_inb w h) y := rfl

set_option maxHeartbeats 4000000 in
theorem t15_body_eq (i : grid0.Coords) (arg2 : Memref sig .scVector .hbm S16384 .i32) (harg2 : arg2.IsWhole) (arg3 : Memref sig .scVector .hbm S32x16 .f32) (harg3 : arg3.IsWhole) (arg4 : Memref sig .scVector .hbm S32x1000000 .f32) (harg4 : arg4.IsWhole) (arg5 : Memref sig .scVector .hbm S16512 .f32) (harg5 : arg5.IsWhole) (arg6 : Memref sig .scVector .vmem S32x512 .f32) (harg6 : arg6.IsWhole) (arg7 : Memref sig .scVector .vmem S32x512 .f32) (harg7 : arg7.IsWhole) (arg8 : Memref sig .scVector .vmem S32x512 .f32) (harg8 : arg8.IsWhole) (arg9 : Memref sig .scVector .vmem S32x64 .f32) (harg9 : arg9.IsWhole) (arg10 : Memref sig .scVector .vmem S16384 .i32) (harg10 : arg10.IsWhole) (arg11 : Memref sig .scVector .vmem S16384 .i32) (harg11 : arg11.IsWhole) (arg12 : Memref sig .scVector .vmem S130x128 .i32) (harg12 : arg12.IsWhole) (arg13 : Memref sig .scVector .vmem S16640 .f32) (harg13 : arg13.IsWhole) (arg14 : Memref sig .scVector .vmem S32x16 .f32) (harg14 : arg14.IsWhole) (arg15 : DmaSems sig S_) (arg16 : DmaSems sig S_) (arg17 : DmaSems sig S_) (arg18 : DmaSems sig S_) (v174_r0 : DmaSems sig S_) (v174_r1 : DmaSems sig S_) (v234_r2 : DmaSems sig S_) (v1 : BitVec 32) (v2 : IVec S16 32) (v8 : BitVec 32) (k0_hw11 : k0_chk11 i v8) (v83 : BitVec 32) (v128 : BitVec 32) (x : Fin (k0_t15_loop v8).trips) (y : BitVec 32) :
    k0_t15_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v174_r0 v174_r1 v234_r2 v1 v2 v8 k0_hw11 v83 v128 x y =
      scanBody i arg10 arg11 v2 ((Scalar.muli v128 512#32)) ((Scalar.addi (Scalar.muli v128 512#32) 512#32)) (Scf.iv 0#32 1#32 x) (k0_off50 v8 x) (k0_off50_inb i v8 k0_hw11 x)
        (k0_chk219) (k0_chk219.dec) (fun w h => k0_idx215_inb w h) y := rfl

set_option maxHeartbeats 4000000 in
theorem t19_body_eq (i : grid0.Coords) (arg2 : Memref sig .scVector .hbm S16384 .i32) (harg2 : arg2.IsWhole) (arg3 : Memref sig .scVector .hbm S32x16 .f32) (harg3 : arg3.IsWhole) (arg4 : Memref sig .scVector .hbm S32x1000000 .f32) (harg4 : arg4.IsWhole) (arg5 : Memref sig .scVector .hbm S16512 .f32) (harg5 : arg5.IsWhole) (arg6 : Memref sig .scVector .vmem S32x512 .f32) (harg6 : arg6.IsWhole) (arg7 : Memref sig .scVector .vmem S32x512 .f32) (harg7 : arg7.IsWhole) (arg8 : Memref sig .scVector .vmem S32x512 .f32) (harg8 : arg8.IsWhole) (arg9 : Memref sig .scVector .vmem S32x64 .f32) (harg9 : arg9.IsWhole) (arg10 : Memref sig .scVector .vmem S16384 .i32) (harg10 : arg10.IsWhole) (arg11 : Memref sig .scVector .vmem S16384 .i32) (harg11 : arg11.IsWhole) (arg12 : Memref sig .scVector .vmem S130x128 .i32) (harg12 : arg12.IsWhole) (arg13 : Memref sig .scVector .vmem S16640 .f32) (harg13 : arg13.IsWhole) (arg14 : Memref sig .scVector .vmem S32x16 .f32) (harg14 : arg14.IsWhole) (arg15 : DmaSems sig S_) (arg16 : DmaSems sig S_) (arg17 : DmaSems sig S_) (arg18 : DmaSems sig S_) (v174_r0 : DmaSems sig S_) (v174_r1 : DmaSems sig S_) (v234_r2 : DmaSems sig S_) (v2 : IVec S16 32) (v8 : BitVec 32) (k0_hw11 : k0_chk11 i v8) (v83 : BitVec 32) (k0_h4 : k0_cond4 i = 1#1) (x : Fin (k0_t19_loop v8).trips) (y : BitVec 32) :
    k0_t19_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v174_r0 v174_r1 v234_r2 v2 v8 k0_hw11 v83 k0_h4 x y =
      scanBody i arg10 arg11 v2 (999424#32) (999936#32) (Scf.iv 0#32 1#32 x) (k0_off54 v8 x) (k0_off54_inb i v8 k0_hw11 x k0_h4)
        (k0_chk288 i) (k0_chk288.dec i) (fun w h => k0_idx283_inb i w h k0_h4) y := rfl

set_option maxHeartbeats 4000000 in
theorem t23_body_eq (i : grid0.Coords) (arg2 : Memref sig .scVector .hbm S16384 .i32) (harg2 : arg2.IsWhole) (arg3 : Memref sig .scVector .hbm S32x16 .f32) (harg3 : arg3.IsWhole) (arg4 : Memref sig .scVector .hbm S32x1000000 .f32) (harg4 : arg4.IsWhole) (arg5 : Memref sig .scVector .hbm S16512 .f32) (harg5 : arg5.IsWhole) (arg6 : Memref sig .scVector .vmem S32x512 .f32) (harg6 : arg6.IsWhole) (arg7 : Memref sig .scVector .vmem S32x512 .f32) (harg7 : arg7.IsWhole) (arg8 : Memref sig .scVector .vmem S32x512 .f32) (harg8 : arg8.IsWhole) (arg9 : Memref sig .scVector .vmem S32x64 .f32) (harg9 : arg9.IsWhole) (arg10 : Memref sig .scVector .vmem S16384 .i32) (harg10 : arg10.IsWhole) (arg11 : Memref sig .scVector .vmem S16384 .i32) (harg11 : arg11.IsWhole) (arg12 : Memref sig .scVector .vmem S130x128 .i32) (harg12 : arg12.IsWhole) (arg13 : Memref sig .scVector .vmem S16640 .f32) (harg13 : arg13.IsWhole) (arg14 : Memref sig .scVector .vmem S32x16 .f32) (harg14 : arg14.IsWhole) (arg15 : DmaSems sig S_) (arg16 : DmaSems sig S_) (arg17 : DmaSems sig S_) (arg18 : DmaSems sig S_) (v174_r0 : DmaSems sig S_) (v174_r1 : DmaSems sig S_) (v234_r2 : DmaSems sig S_) (v1 : BitVec 32) (v2 : IVec S16 32) (v8 : BitVec 32) (k0_hw11 : k0_chk11 i v8) (v83 : BitVec 32) (v128 : BitVec 32) (k0_h4 : k0_cond4 i = 1#1) (x : Fin (k0_t23_loop v8).trips) (y : BitVec 32) :
    k0_t23_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v174_r0 v174_r1 v234_r2 v1 v2 v8 k0_hw11 v83 v128 k0_h4 x y =
      scanBody i arg10 arg11 v2 (999936#32) (1000000#32) (Scf.iv 0#32 1#32 x) (k0_off58 v8 x) (k0_off58_inb i v8 k0_hw11 x k0_h4)
        (k0_chk357 i) (k0_chk357.dec i) (fun w h => k0_idx351_inb i w h k0_h4) y := rfl

end Cert.Proof.Stream

end
-- ==== Proof.Pure.lean ====
/-
  Pure facts about the vector operations the kernel's compaction is made of: the scatter into a tile's buffer read at one
  element, the running count of a vector mask as `Nat.count`, and the compaction step — sixteen entries tested, the
  positive ones stored one behind another — as a step of `Nat.count`.
-/
module

public import Idealize.ShloMosaic.Lib.SparseCore.Ops
public import proofs.«01_k».proof.Proof.Bodies
public import Mathlib.Data.Nat.Count
public import Mathlib.Tactic.IntervalCases

@[expose] public section

noncomputable section

namespace Cert.Proof.Stream

open Cert.KernelIdeal Cert.KernelIdeal.Gen
open Idealize.ShloMosaic Idealize.SL.Sem

variable {F : FTy → Type} [FloatOps F]

/-- Lane `l` of a sixteen-lane vector. -/
def ln (l : Fin 16) : S16.Idx := Shape.ofLane (d := ![16]) l

theorem ln_zero_val (l : Fin 16) : ((ln l) 0).val = l.val := rfl

theorem eq_ln (x : S16.Idx) : x = ln (x 0) := by
  funext a; obtain rfl : a = 0 := Subsingleton.elim a 0; rfl

/-- One lane of a scatter: its value written at the element its indices name, if it is set. -/
def stepIdx {s : Shape} {e : EltTy} (idxs : Fin s.rank → IVec S16 32) (v : Vec F S16 e) (mask : IVec S16 1) (g : Vec F s e) (l : Fin 16) : Vec F s e :=
  if mask (ln l) = 1 then fun j => if (∀ a, (j a).val = (idxs a (ln l)).toNat) then v (ln l) else g j else g

theorem storeIdx_foldl {s : Shape} {e : EltTy} (f : Vec F s e) (idxs : Fin s.rank → IVec S16 32) (v : Vec F S16 e) (mask : IVec S16 1)
    (h : ∀ a x, (idxs a x).toNat < s.size a) :
    storeIdx f idxs v mask false h = (List.finRange 16).foldl (stepIdx idxs v mask) f := by
  unfold storeIdx
  refine congrArg (fun st : Vec F s e → Fin (![16] 0) → Vec F s e => List.foldl st f (List.finRange (![16] 0))) ?_
  funext g k j
  unfold stepIdx
  by_cases e1 : mask (ln k) = 1
  · have e1' : mask (Shape.ofLane (d := ![16]) k) = 1 := e1
    dsimp only
    rw [if_pos e1', if_pos e1]
    by_cases e2 : ∀ a, (j a).val = (idxs a (ln k)).toNat
    · have e2' : ∀ a, (j a).val = (idxAt idxs h (Shape.ofLane (d := ![16]) k) a).val := e2
      rw [if_pos e2', if_pos e2, if_neg (by simp)]; rfl
    · have e2' : ¬ ∀ a, (j a).val = (idxAt idxs h (Shape.ofLane (d := ![16]) k) a).val := e2
      rw [if_neg e2', if_neg e2]
  · have e1' : ¬ mask (Shape.ofLane (d := ![16]) k) = 1 := e1
    dsimp only
    rw [if_neg e1', if_neg e1]

/-- A scatter read at an element: if every set lane naming it stores `c` there, and some set lane names it or it held
    `c` before, it holds `c`. -/
theorem storeIdx_eq {s : Shape} {e : EltTy} (f : Vec F s e) (idxs : Fin s.rank → IVec S16 32) (v : Vec F S16 e) (mask : IVec S16 1)
    (h : ∀ a x, (idxs a x).toNat < s.size a) (j : s.Idx) (c : Elt F e)
    (hc : ∀ l : Fin 16, mask (ln l) = 1 → (∀ a, (j a).val = (idxs a (ln l)).toNat) → v (ln l) = c)
    (hf : (∃ l : Fin 16, mask (ln l) = 1 ∧ ∀ a, (j a).val = (idxs a (ln l)).toNat) ∨ f j = c) :
    storeIdx f idxs v mask false h j = c := by
  rw [storeIdx_foldl]
  have key : ∀ (L : List (Fin 16)) (f : Vec F s e),
      ((∃ l ∈ L, mask (ln l) = 1 ∧ ∀ a, (j a).val = (idxs a (ln l)).toNat) ∨ f j = c) →
      (L.foldl (stepIdx idxs v mask) f) j = c := by
    intro L
    induction L with
    | nil =>
      intro f hf
      rcases hf with ⟨l, hl, _⟩ | hf
      · cases hl
      · exact hf
    | cons l L ih =>
      intro f hf
      rw [List.foldl_cons]
      apply ih
      rcases hf with ⟨l', hl', hm, hn⟩ | hf
      · rcases List.mem_cons.1 hl' with rfl | hl'
        · right
          unfold stepIdx
          rw [if_pos hm, if_pos hn]
          exact hc l' hm hn
        · exact .inl ⟨l', hl', hm, hn⟩
      · right
        unfold stepIdx
        by_cases e1 : mask (ln l) = 1
        · rw [if_pos e1]
          by_cases e2 : ∀ a, (j a).val = (idxs a (ln l)).toNat
          · rw [if_pos e2]; exact hc l e1 e2
          · rw [if_neg e2]; exact hf
        · rw [if_neg e1]; exact hf
  exact key (List.finRange 16) f (hf.imp (fun ⟨l, h⟩ => ⟨l, List.mem_finRange l, h⟩) id)

/-! ### The running count -/

theorem scan_zero (v : IVec S16 32) : scan .sum v (ln 0) = v (ln 0) := rfl

theorem scan_succ (v : IVec S16 32) (j : Nat) (h : j + 1 < 16) :
    scan .sum v (ln ⟨j + 1, h⟩) = scan .sum v (ln ⟨j, by omega⟩) + v (ln ⟨j + 1, h⟩) := by
  have hj : j < 15 := by omega
  interval_cases j <;> rfl

/-- The running count of a mask that tests `P` at the positions from `b` on. -/
theorem scan_count (P : ℕ → Prop) [DecidablePred P] (b : ℕ) (mask : IVec S16 1) (hm : ∀ l : Fin 16, mask (ln l) = 1 ↔ P (b + l.val))
    (l : Fin 16) : Nat.count P b + (scan .sum (extui 32 mask natLt_1_32) (ln l)).toNat = Nat.count P (b + l.val + 1)
      ∧ (scan .sum (extui 32 mask natLt_1_32) (ln l)).toNat ≤ l.val + 1 := by
  have hv : ∀ l : Fin 16, ((extui 32 mask natLt_1_32 : IVec S16 32) (ln l)).toNat = if P (b + l.val) then 1 else 0 := by
    intro l
    have e : ((extui 32 mask natLt_1_32 : IVec S16 32) (ln l)) = (mask (ln l)).setWidth 32 := rfl
    rw [e]
    by_cases hp : P (b + l.val)
    · rw [if_pos hp, (hm l).2 hp]; rfl
    · rw [if_neg hp]
      have : mask (ln l) = 0 := by
        have h1 := mt (hm l).1 hp
        revert h1; generalize mask (ln l) = w; revert w; decide
      rw [this]; rfl
  obtain ⟨n, hn⟩ := l
  induction n with
  | zero =>
    have h0 := hv 0
    rw [show (⟨0, hn⟩ : Fin 16) = 0 from rfl, scan_zero, h0, Nat.count_succ]
    refine ⟨rfl, ?_⟩
    split <;> simp
  | succ n ih =>
    obtain ⟨ih1, ih2⟩ := ih (by omega)
    rw [scan_succ _ n hn, BitVec.toNat_add, hv ⟨n + 1, hn⟩]
    simp only at ih1 ih2 ⊢
    rw [Nat.mod_eq_of_lt (by split <;> omega), Nat.count_succ P (b + (n + 1)), ← add_assoc]
    rw [show b + (n + 1) = b + n + 1 from rfl, ih1]
    refine ⟨rfl, ?_⟩
    split <;> omega

section Slots

variable (P : ℕ → Prop) [DecidablePred P] (b : ℕ) (start lim : BitVec 32) (w : IVec S16 32)
  (hm : ∀ l : Fin 16, scanMask start lim w (ln l) = 1 ↔ P (b + l.val))

include hm in
/-- The total of a group: what the loop adds to its counter. -/
theorem count_group (cnt : BitVec 32) (hcnt : cnt.toNat = Nat.count P b) (hb : b + 16 < 2 ^ 32) :
    (Scalar.addi cnt (extractAt ![15] (scanSum start lim w) inpos_S16_p15)).toNat = Nat.count P (b + 16) := by
  have h := scan_count P b (scanMask start lim w) hm 15
  have e : extractAt ![15] (scanSum start lim w) inpos_S16_p15 = scan .sum (extui 32 (scanMask start lim w) natLt_1_32) (ln 15) :=
    congrArg (scanSum start lim w) (by funext a; obtain rfl : a = 0 := Subsingleton.elim a 0; rfl)
  rw [e]
  show (cnt + _).toNat = _
  have hle : Nat.count P b ≤ b := (Nat.count_le P)
  have h2 : (scan .sum (extui 32 (scanMask start lim w) natLt_1_32) (ln 15)).toNat ≤ 16 := h.2
  rw [BitVec.toNat_add, hcnt, Nat.mod_eq_of_lt (by omega), h.1]
  rfl

include hm in
/-- Where a positive lane's entry goes: the number of positives before it. -/
theorem slot_toNat (cnt : BitVec 32) (hcnt : cnt.toNat = Nat.count P b) (hb : b + 16 < 2 ^ 32) (l : Fin 16) (hl : P (b + l.val)) :
    (scanSlot start lim cnt w (ln l)).toNat = Nat.count P (b + l.val) := by
  have h := scan_count P b (scanMask start lim w) hm l
  have e : scanSlot start lim cnt w (ln l) = cnt + scan .sum (extui 32 (scanMask start lim w) natLt_1_32) (ln l) - 1#32 := by
    show (if scanMask start lim w (ln l) = 1 then _ else _) = _
    rw [if_pos ((hm l).2 hl)]; rfl
  rw [e]
  have hle : Nat.count P b ≤ b := (Nat.count_le P)
  have h1 : (cnt + scan .sum (extui 32 (scanMask start lim w) natLt_1_32) (ln l)).toNat = Nat.count P (b + l.val) + 1 := by
    rw [BitVec.toNat_add, hcnt, Nat.mod_eq_of_lt (by have := h.2; have := l.isLt; omega), h.1, Nat.count_succ, if_pos hl]
  rw [BitVec.toNat_sub, h1]
  have hle2 : Nat.count P (b + l.val) ≤ b + l.val := (Nat.count_le P)
  have := l.isLt
  simp only [BitVec.toNat_ofNat]
  omega

/-- The slot of a lane that is not positive is zero. -/
theorem slot_neg (cnt : BitVec 32) (l : Fin 16) (hl : scanMask start lim w (ln l) ≠ 1) : scanSlot start lim cnt w (ln l) = 0#32 := by
  show (if scanMask start lim w (ln l) = 1 then _ else _) = _
  rw [if_neg hl]; rfl

include hm in
/-- Every lane's slot is at most its own position: it names an entry of the list. -/
theorem slot_le (cnt : BitVec 32) (hcnt : cnt.toNat = Nat.count P b) (hb : b + 16 < 2 ^ 32) (l : Fin 16) :
    (scanSlot start lim cnt w (ln l)).toNat ≤ b + l.val := by
  by_cases hl : P (b + l.val)
  · rw [slot_toNat P b start lim w hm cnt hcnt hb l hl]; exact (Nat.count_le P)
  · rw [slot_neg start lim w cnt l (mt (hm l).1 hl)]; exact Nat.zero_le _

include hm in
/-- The compaction step read at an element at flat place `s`: `c` if that is the place of one of the group's positives
    and `c` the value stored for it, and what was there before if it is none's. -/
theorem compact_eq {S : Shape} {e : EltTy} (f : Vec F S e) (idxs : Fin S.rank → IVec S16 32) (v : Vec F S16 e)
    (h : ∀ a x, (idxs a x).toNat < S.size a) (cnt : BitVec 32) (hcnt : cnt.toNat = Nat.count P b) (hb : b + 16 < 2 ^ 32)
    (j : S.Idx) (s : ℕ) (hj : ∀ l : Fin 16, (∀ a, (j a).val = (idxs a (ln l)).toNat) ↔ (scanSlot start lim cnt w (ln l)).toNat = s) (c : Elt F e)
    (hc : ∀ l : Fin 16, P (b + l.val) → Nat.count P (b + l.val) = s → v (ln l) = c)
    (hf : (∃ l : Fin 16, P (b + l.val) ∧ Nat.count P (b + l.val) = s) ∨ f j = c) :
    storeIdx f idxs v (scanMask start lim w) false h j = c := by
  refine storeIdx_eq f idxs v _ h j c ?_ ?_
  · intro l hl hn
    have hp := (hm l).1 hl
    have := (hj l).1 hn
    rw [slot_toNat P b start lim w hm cnt hcnt hb l hp] at this
    exact hc l hp this
  · refine hf.imp ?_ id
    rintro ⟨l, hp, hl⟩
    refine ⟨l, (hm l).2 hp, (hj l).2 ?_⟩
    rw [slot_toNat P b start lim w hm cnt hcnt hb l hp, hl]

end Slots

end Cert.Proof.Stream

end
-- ==== Proof.Common.lean ====
/-
  The program as the launch theorem sees it, the resource algebra, and the resource the tile's proof is written over:
  a whole buffer of the tile holding given contents, with the rules of the operations that touch it.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Pipeline.Frame
public import Idealize.ShloMosaic.Lib.WholeRead
public import Idealize.ShloMosaic.Lib.Tactic
public import Idealize.ShloMosaic.Lib.Batch
public import Idealize.ShloMosaic.Lib.LoopRemainder
public import Idealize.ShloMosaic.Lib.ShareLeaves
public import Idealize.SL.RA.Instances
public import proofs.«01_k».proof.Proof.Gen.KernelIdeal
public import proofs.«01_k».proof.Proof.Gen.KernelIdeal.Skeleton
public import proofs.«01_k».proof.Proof.Bodies
public import proofs.«01_k».proof.Proof.Pure

@[expose] public section

noncomputable section

namespace Cert.Proof.Stream

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- Whether the call has begun, decided once. -/
abbrev UB1 : Type := Option (OneShot Unit)
abbrev UU : Type := UH × (UB1 × Counters)

/-- The logic's model. -/
abbrev 𝕄' (F : FTy → Type) := MT nD τ sig (HIx 1) (Elt F) ℕ UU ℕ

local notation "𝕄" => MT nD τ sig (HIx 1) (Elt F) ℕ UU ℕ

abbrev EH : Emb UH (MT nD τ sig (HIx 1) (Elt F) ℕ UU ℕ) := embL
abbrev EB : UEmb UB1 (MT nD τ sig (HIx 1) (Elt F) ℕ UU ℕ) := (UEmb.inl.trans UEmb.inr).trans uEmb

/-- The call has not begun, and may be begun; -/
def NotBegun : sProp 𝕄 := BI.own (EB (F := F) (some OneShot.pending))
/-- and it has, for good. -/
def Begun : sProp 𝕄 := BI.own (EB (F := F) (some (OneShot.shot ())))

instance begun_persistent : BI.Persistent (Begun : sProp 𝕄) :=
  ⟨BI.persistently_own_idem (EB.op_of_mem (Opt.idem_some.mpr (OneShot.idem_shot ())))⟩
instance notBegun_storable : BI.Storable (upEmb : UEmb _ 𝕄) (NotBegun : sProp 𝕄) := by unfold NotBegun; infer_instance
instance begun_storable : BI.Storable (upEmb : UEmb _ 𝕄) (Begun : sProp 𝕄) := by unfold Begun; infer_instance

theorem notBegun_begun : iprop(NotBegun ∗ Begun) ⊢ (⌜False⌝ : sProp 𝕄) :=
  BI.own_sep_opDef.trans (BI.pure_mono fun h => by
    have h' := Opt.opDef_some_some_iff.mp (EB.opDef_iff.mp h)
    unfold PCS.opDef at h'
    rw [OneShot.pending_op] at h'
    exact h')

theorem begin : (NotBegun : sProp 𝕄) ⊢ |==> Begun := BI.own_bupd_fpUpd₁ (EB.fpUpd₁ (OneShot.fpUpd₁_shoot ()))

/-- The tile of the grid point `i`. -/
abbrev TH (d : Dev nD) (i : grid0.Coords) : Thread nD τ := V d ((i 0).castLE hcore0) ((i 1).castLE hsub0)

variable [FloatOps F]

/-- The whole buffer behind `m` holds `X`, at the tile of `i`, at share `q`. -/
def Holds (d : Dev nD) (i : grid0.Coords) {sp : Space} {s : Shape} {e : EltTy} (m : Memref sig .scVector sp s e) (h : m.IsWhole) (q : PosShare TreeShare) (X : s.Idx → Elt F e) : sProp 𝕄 :=
  m.view.loc (TH d i) ↦[Finset.univ]{q} (h.unread X : Buf (Elt F) (m.view.loc (TH d i)))

/-- The weakest precondition of a tile's program. -/
abbrev WP (d : Dev nD) (i : grid0.Coords) {α : Type} (p : Prog (TpuEff nD τ sig (Elt F) Λ₀ (.scVector ((i 0).castLE hcore0) ((i 1).castLE hsub0))) α) (Q : α → sProp 𝕄) : sProp 𝕄 :=
  wp frame (wpE (defs₀ (F := F)) 𝒱₀ (TH d i) none) Set.univ p Q

theorem unread_congr {sp : Space} {s : Shape} {e : EltTy} {m : Memref sig .scVector sp s e} (h h' : m.IsWhole) (X : s.Idx → Elt F e) : h.unread X = h'.unread X := rfl

theorem unread_whole (b : Ref sig .scVector) (h : (Memref.whole b).IsWhole) (X : b.ty.Contents (Elt F)) : h.unread X = X :=
  (h.eq_unread (by simp only [Memref.view_whole, View.read_whole])).symm

theorem holds_whole (d : Dev nD) (i : grid0.Coords) (b : Ref sig .scVector) (q : PosShare TreeShare) (h : (Memref.whole b).IsWhole) (X : b.ty.Contents (Elt F)) :
    (Holds d i (Memref.whole b) h q X : sProp 𝕄) = ((TH d i).loc b ↦[Finset.univ]{q} X) := by
  unfold Holds; rw [unread_whole]

theorem read_access_unread {sp : Space} {s : Shape} {e : EltTy} {m : Memref sig .scVector sp s e} (h : m.IsWhole) {X : s.Idx → Elt F e} :
    (m.access (.whole s)).read (Elt F) (h.unread X) = X := by
  have h' := h
  obtain ⟨b, rfl, rfl, rfl, hb⟩ := h'; cases hb
  rw [unread_whole, Memref.read_access_whole]

theorem write_access_unread {sp : Space} {s : Shape} {e : EltTy} {m : Memref sig .scVector sp s e} (h : m.IsWhole) {X : s.Idx → Elt F e} (Y : s.Idx → Elt F e) :
    (m.access (.whole s)).write (Elt F) (h.unread X) Y Finset.univ = h.unread Y := by
  have h' := h
  obtain ⟨b, rfl, rfl, rfl, hb⟩ := h'; cases hb
  rw [unread_whole, unread_whole, Memref.write_access_whole_univ]

theorem set_access_whole' {sp : Space} {s : Shape} {e : EltTy} {m : Memref sig .scVector sp s e} (h : m.IsWhole) : (m.access (.whole s)).set = Finset.univ := by
  obtain ⟨b, rfl, rfl, rfl, hb⟩ := h; cases hb
  rw [Memref.set_access_whole]

section Rules

variable (d : Dev nD) (i : grid0.Coords) {s : Shape} {e : EltTy} {α : Type}
variable {m : Memref sig .scVector .vmem s e} (h : m.IsWhole) {q : PosShare TreeShare} {X : s.Idx → Elt F e}

theorem holds_load {Q : α → sProp 𝕄} (r : LoadRect s) {hl : m.view.LoadsAt r}
    {k : (r.shape.Idx → Elt F e) → Prog (TpuEff nD τ sig (Elt F) Λ₀ (.scVector ((i 0).castLE hcore0) ((i 1).castLE hsub0))) α} :
    Holds d i m h q X ⊢ iprop((Holds d i m h q X -∗ WP d i (k fun x => X (r.idx x)) Q) -∗ WP d i (.op (.load m r hl) k) Q) := by
  have hr : m.view.readAt (Elt F) r (h.unread X) = fun x => X (r.idx x) := funext fun x => h.readAt_unread X r x
  have := wp_load (Γ := []) (defs := defs₀ (F := F)) (Q := Q) (k := k) (hl := hl) (q := q) (f := (h.unread X : Buf (Elt F) (m.view.loc (TH d i)))) 𝒱₀ (TH d i) none Set.univ (S := Finset.univ) (Finset.subset_univ _)
  rw [hr] at this
  exact this

theorem holds_loadIdx {Q : α → sProp 𝕄} {t : Shape} {idxs : Fin s.rank → IVec t 32} {hin : ∀ a x, (idxs a x).toNat < s.size a} {hl : m.view.Loads}
    {k : Vec F t e → Prog (TpuEff nD τ sig (Elt F) Λ₀ (.scVector ((i 0).castLE hcore0) ((i 1).castLE hsub0))) α} :
    Holds d i m h q X ⊢ iprop((Holds d i m h q X -∗ WP d i (k (loadIdx X idxs hin)) Q) -∗ WP d i (SparseCore.vectorLoadIdx m idxs hin hl >>= k) Q) := by
  have := SparseCore.wp_vectorLoadIdx (defs := defs₀ (F := F)) (Q := Q) (k := k) (idxs := idxs) (h := hin) (hl := hl) (q := q) (f := (h.unread X : Buf (Elt F) (m.view.loc (TH d i)))) 𝒱₀ (TH d i) none Set.univ (base := m) (S := Finset.univ) (Finset.subset_univ _)
  rw [read_access_unread h] at this
  exact this

theorem holds_storeIdx {Q : α → sProp 𝕄} {n : Fin 1 → Nat} {idxs : Fin s.rank → IVec ⟨1, n⟩ 32} {v : Vec F ⟨1, n⟩ e} {mask : IVec ⟨1, n⟩ 1} {hin : ∀ a x, (idxs a x).toNat < s.size a}
    {hs : (m.access (.whole s)).Stores Finset.univ}
    {k : PUnit → Prog (TpuEff nD τ sig (Elt F) Λ₀ (.scVector ((i 0).castLE hcore0) ((i 1).castLE hsub0))) α} :
    Holds d i m h fullShare X ⊢ iprop((Holds d i m h fullShare (storeIdx X idxs v mask false hin) -∗ WP d i (k ⟨⟩) Q) -∗ WP d i (SparseCore.vectorStoreIdx m idxs v mask false hin hs >>= k) Q) := by
  have := SparseCore.wp_vectorStoreIdx (defs := defs₀ (F := F)) (Q := Q) (k := k) (idxs := idxs) (v := v) (mask := mask) (add := false) (h := hin) (hs := hs) (f := (h.unread X : Buf (Elt F) (m.view.loc (TH d i)))) 𝒱₀ (TH d i) none Set.univ (base := m)
  rw [set_access_whole' h, read_access_unread h, write_access_unread h] at this
  exact this

end Rules

/-- The side condition a load or store by index states is proved; the program goes on. -/
theorem wp_chk (d : Dev nD) (i : grid0.Coords) {α : Type} {Q : α → sProp 𝕄} {P : Prop} {dc : Decidable P}
    {k : PLift P → Prog (TpuEff nD τ sig (Elt F) Λ₀ (.scVector ((i 0).castLE hcore0) ((i 1).castLE hsub0))) α} (h : P) :
    WP d i (k ⟨h⟩) Q ⊢ WP d i (.op (.assume P dc) k) Q := wp_assume 𝒱₀ _ none Set.univ h

/-- A program at its end. -/
theorem wp_ret_intro (d : Dev nD) (i : grid0.Coords) {α : Type} {Q : α → sProp 𝕄} {r : α} :
    Q r ⊢ WP d i (.ret r) Q := le_wp_ret _ _ _ r Q

/-- A counted loop at the head of a program, by an invariant over the trips made and the values carried. -/
theorem wp_loop (d : Dev nD) (i : grid0.Coords) {σ α : Type} {L : Scf.Loop 32} {hok : L.OK} {init : σ}
    {body : Fin L.trips → σ → Prog (TpuEff nD τ sig (Elt F) Λ₀ (.scVector ((i 0).castLE hcore0) ((i 1).castLE hsub0))) σ}
    {kk : σ → Prog (TpuEff nD τ sig (Elt F) Λ₀ (.scVector ((i 0).castLE hcore0) ((i 1).castLE hsub0))) α} {Q : α → sProp 𝕄}
    (I : ℕ → σ → sProp 𝕄) (hbody : ∀ (k : Fin L.trips) (acc : σ), I k.val acc ⊢ WP d i (body k acc) (I (k.val + 1))) :
    I 0 init ⊢ iprop((∀ acc, I L.trips acc -∗ WP d i (kk acc) Q) -∗ WP d i (Scf.Loop.for L hok init body >>= kk) Q) :=
  Scf.wp_for_bind frame (wpE (defs₀ (F := F)) 𝒱₀ (TH d i) none) Set.univ L.lb L.ub L.st hok init body I hbody

/-- A loop of no trips at the head of a program. -/
theorem wp_loop0 (d : Dev nD) (i : grid0.Coords) {σ α : Type} {L : Scf.Loop 32} {hok : L.OK} {init : σ}
    {body : Fin L.trips → σ → Prog (TpuEff nD τ sig (Elt F) Λ₀ (.scVector ((i 0).castLE hcore0) ((i 1).castLE hsub0))) σ}
    {kk : σ → Prog (TpuEff nD τ sig (Elt F) Λ₀ (.scVector ((i 0).castLE hcore0) ((i 1).castLE hsub0))) α} {Q : α → sProp 𝕄} (hL : L.trips = 0) :
    WP d i (kk init) Q ⊢ WP d i (Scf.Loop.for L hok init body >>= kk) Q :=
  Scf.wp_for0_bind' frame (wpE (defs₀ (F := F)) 𝒱₀ (TH d i) none) Set.univ L.lb L.ub L.st hok init body hL kk Q _ .rfl

end Cert.Proof.Stream
-- ==== Proof.Rule.lean ====
/-
  An indirect scatter whose issuer need not own the rows it names. The issuer gives, for every entry of the list, an update
  of that entry's row: the right to write the row once, whatever it costs, with what is had of it afterwards. A row of its
  own it may hold outright; a row shared with other tiles it may reach through an invariant, and then two entries may name
  the same row.
-/
module

public import proofs.«01_k».proof.Proof.Common

@[expose] public section

noncomputable section

namespace Cert.Proof.Stream

open Cert.KernelIdeal Cert.KernelIdeal.Gen
open Idealize.ShloMosaic Idealize.ShloMosaic.SparseCore
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section Update

variable (c : Thread nD τ)

/-- The update of a view whose written elements lie in a set kept by an invariant: the invariant lends the set for each
    write, at any contents, while the issuer shows its token, which stays with it, beside what is known for good. -/
theorem shared_writeUpdate {sp : Space} {s : Shape} {e : EltTy} {v : View sig c.2.kind sp s e} {w : s.Idx → Elt F e}
    {S : Finset (Idx (v.loc c))} {ι : ℕ} {R Tok Else : sProp 𝕄} [BI.Persistent R] (hS : v.set ⊆ S)
    (hex : iprop(R ∗ Tok ∗ Else) ⊢ iprop(⌜False⌝)) :
    iprop((inv ι (iprop((∃ f, v.loc c ↦[S]{fullShare} f) ∨ Else)) ∗ R) ∗ Tok) ⊢ writeUpdate c v w Tok := by
  rw [writeUpdate, writeUpdateFrom_def]
  iintro ⟨⟨#Hinv, #HR⟩, Htok⟩
  iexists (fun _ => Tok)
  isplitl [Htok]; · iexact Htok
  isplitr
  · rw [writeSteps_def]
    imodintro
    iintro %M %M' HA
    imod (inv_acc (Set.mem_univ ι)) $$ Hinv with ⟨Hb, Hclose⟩
    icases Hb with (⟨%f, Hf⟩ | He)
    · imodintro
      rw [storeSpec_apply]
      iexists S, f
      isplitl [Hf]; · iexact Hf
      isplitr; · ipureintro; exact fun i hi => hS (v.setOn_subset_set _ hi)
      iintro Hf
      ihave Hc := Hclose $$ [Hf]
      · ileft; iexists (v.write (Elt F) f w M'); iexact Hf
      imod Hc
      imodintro
      iexact HA
    · iexfalso
      ihave %hf := hex $$ [HA He]
      · isplitr; · iexact HR
        isplitl [HA] <;> iassumption
      exact hf.elim
  · iintro H; iexact H

end Update

section Issue

variable {Λ : Labels} {defs : Defs nD τ sig (Elt F) Λ} (𝒱 : Variants) (c : Thread nD τ) (bd : Option 𝒱.V)
  {sp : Space} {e : EltTy} {s₀ s si : Shape} {a : ℕ} {α : Type}

/-- The issue of an indirect scatter from an update of every entry's row. -/
theorem wp_scatterUpdates {Q : α → sProp 𝕄}
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fo : Buf (Elt F) (offs.view.loc c)}
    (ι : HIx 1) (N : ℕ) (hs : 0 < s.numel) (hin : ∀ x, (offs.view.read (Elt F) fo x).toNat < s₀.size hg.axis)
    (R : Fin (s.size hg.axis') → sProp 𝕄) [∀ j, Storable (upEmb : UEmb _ 𝕄) (R j)]
    (hN : ∑ j, (dst.slice (s₀.rowRect hg.axis (rows (offs.view.read (Elt F) fo) hn hin j)) (s₀.stride_rowRect hg.axis _)).view.dmaCredit = N) :
    iprop((src.view.loc c ↦[src.view.set]{q} fs)
        ∗ (bigSep Finset.univ fun j => writeUpdate c (dst.view.slice (s₀.rowRect hg.axis (rows (offs.view.read (Elt F) fo) hn hin j)))
            (scatterRowPayload c src hg fs j) (R j))
        ∗ (offs.view.loc c ↦[offs.view.set]{qo} fo) ∗ semVal (c, SemLoc.dma sem) 0)
      ⊢ iprop((Transfers.Flight countersEmb c (.dma sem) ι N
                iprop(bigSep Finset.univ R ∗ (src.view.loc c ↦[src.view.set]{q} fs) ∗ (offs.view.loc c ↦[offs.view.set]{qo} fo))
              -∗ wp frame (wpE defs 𝒱 c bd) Set.univ (k ⟨⟩) Q)
          -∗ wp frame (wpE defs 𝒱 c bd) Set.univ (enqueueIndirectScatter hp src dst hg offs hn sem he hsp hr >>= k) Q) := by
  classical
  rw [enqueueIndirectScatter_bind]
  let St : Idealize.ShloMosaic.Stream nD τ sig (Elt F) :=
    Stream.issued c offs.view hn sem (fun j w => (rowOf (s₀.size hg.axis) w).map (scatterRow c src dst hg sem he hsp hr j)) 0
  let r : Fin (s.size hg.axis') → Fin (s₀.size hg.axis) := rows (offs.view.read (Elt F) fo) hn hin
  let rd : Fin (s.size hg.axis') → RowDma τ sig (Elt F) c.2 sem := fun j => scatterRow c src dst hg sem he hsp hr j (r j)
  let am : Fin (s.size hg.axis') → ℕ := fun j => (dst.slice (s₀.rowRect hg.axis (r j)) (s₀.stride_rowRect hg.axis _)).view.dmaCredit
  let w : (j : Fin (s.size hg.axis')) → (s₀.rowShape hg.axis).Idx → Elt F e := scatterRowPayload c src hg fs
  let srow : Fin (s.size hg.axis') → sProp 𝕄 := fun j => src.view.loc c ↦[(src.view.slice (s.rowRect hg.axis' j)).set]{q} fs
  let D : Fin (s.size hg.axis') → sProp 𝕄 := fun j => iprop((R j ∗ St.heldEntry qo fo j) ∗ srow j)
  have hrow0 : 0 < (s₀.rowShape hg.axis).numel := by rw [← hg.rowShape_eq]; exact rowShape_numel_pos hs _
  have ham : ∀ j, 0 < am j := fun j => View.dmaCredit_pos _ hrow0
  have hA : St.RowsAgree := by
    intro j x x' ρ ρ' h h'
    obtain ⟨_, _, rfl⟩ := Option.map_eq_some_iff.mp h
    obtain ⟨_, _, rfl⟩ := Option.map_eq_some_iff.mp h'
    rfl
  have hrd : ∀ j, St.row j (St.word fo j) = some (rd j) := fun j => by
    change (rowOf (s₀.size hg.axis) (offs.view.read (Elt F) fo (St.entry j))).map _ = _
    rw [rowOf_of_lt (hin _)]; rfl
  have hen : Function.Bijective St.entry :=
    (si.rowMajor.symm.bijective.comp (finCongr hn.symm).bijective)
  have hset : ∀ j, srow j = (src.view.loc c ↦[(rd j).src.view.set]{q} fs : sProp 𝕄) := fun j =>
    congrArg (fun I => (src.view.loc c ↦[I]{q} fs : sProp 𝕄)) (View.set_cast (v := src.view.slice (s.rowRect hg.axis' j)) _ _).symm
  iintro ⟨Hs, Hu, Ho, Hv⟩ Hk
  imod (Transfers.stream_alloc countersEmb ham D (g := (c, SemLoc.dma sem))) $$ Hv with ⟨%γ, %δ, %κ, #Hinv, Hγ, Hδ⟩
  ihave Ho' := (Entails.of_eq (pointsTo_entries c offs.view St.entry hen qo fo)) $$ Ho
  ihave Hs' := (Entails.of_eq (pointsTo_rows c src.view hg.axis' q fs)) $$ Hs
  have hone : ∀ j, iprop(inv κ (Transfers.streamBody countersEmb (c, SemLoc.dma sem) am D γ δ)
        ∗ ((((writeUpdate c (dst.view.slice (s₀.rowRect hg.axis (r j))) (w j) (R j)) ∗ St.heldEntry qo fo j)
        ∗ srow j) ∗ count countersEmb (γ j) 0))
      ⊢ iprop(St.heldEntry qo fo j ∗ (St.heldEntry qo fo j -∗ rowRes c (rd j))) := fun j => by
    iintro ⟨#Hinv, ⟨⟨Hr, He⟩, Hsq⟩, Hγj⟩
    isplitl [He]; · iexact He
    iintro He
    unfold rowRes
    iexists q, fs, iprop(R j ∗ St.heldEntry qo fo j)
    isplitl [Hsq]; · iapply (Entails.of_eq (hset j)) $$ Hsq
    isplitl [Hr He]
    · iapply writeUpdate_frame
      isplitl [Hr]
      · iexact Hr
      · iexact He
    · iapply (Entails.of_eq (congrArg (fun X => (creditUpdate (c, SemLoc.dma sem) ((rd j).dst.view.amount (.dma sem)) 0
          iprop((R j ∗ St.heldEntry qo fo j) ∗ X) : sProp 𝕄)) (hset j)))
      iapply (Transfers.stream_creditUpdate countersEmb (a := am) (D := D) (δ := δ) j)
      isplitr; · iexact Hinv
      iexact Hγj
  have hjoin : bigSep Finset.univ D
      ⊢ (iprop(bigSep Finset.univ R ∗ (src.view.loc c ↦[src.view.set]{q} fs) ∗ (offs.view.loc c ↦[offs.view.set]{qo} fo)) : sProp 𝕄) := by
    iintro HD
    ihave H1 := Transfers.bigSep_sep_out _ _ _ $$ HD
    icases H1 with ⟨H2, Hsrc⟩
    ihave H3 := Transfers.bigSep_sep_out _ _ _ $$ H2
    icases H3 with ⟨Hrows, Hoffs⟩
    isplitl [Hrows]; · iexact Hrows
    isplitl [Hsrc]
    · iapply (Entails.of_eq (pointsTo_rows c src.view hg.axis' q fs).symm) $$ Hsrc
    · iapply (Entails.of_eq (pointsTo_entries c offs.view St.entry hen qo fo).symm) $$ Hoffs
  iapply (wp_enqueueIndirectDma 𝒱 c bd Set.univ (qo := qo) (fo := fo) (rd := rd) ι N hA hrd hN) $$ [Hu Ho' Hs' Hγ]
  · unfold Stream.res
    ihave H1 := Transfers.bigSep_sep_in _ _ _ $$ [Hu Ho']; · isplitl [Hu] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hone j)
    isplitr; · iexact Hinv
    iexact H3
  · iintro Hcred
    iapply Hk
    iapply (Transfers.Flight_mono countersEmb c hjoin)
    iapply (Transfers.stream_flight countersEmb (a := am) hN)
    isplitr; · iexact Hinv
    isplitl [Hδ] <;> iassumption

end Issue

end Cert.Proof.Stream
-- ==== Proof.Waits.lean ====
/-
  A tile's waits on its own transfers: what the tile owes, whatever its own waits have recorded, and the rules of the waits
  over it.
-/
module

public import proofs.«01_k».proof.Proof.Common

@[expose] public section

noncomputable section

namespace Cert.Proof.Stream

open Cert.KernelIdeal Cert.KernelIdeal.Gen
open Idealize.ShloMosaic Idealize.ShloMosaic.SparseCore
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The tile owes `O`; its waits since `W` was recorded were on its own transfers. -/
def Owes (d : Dev nD) (i : grid0.Coords) (O : CellTallies nD τ sig (HIx 1)) (W : Waits sig (HIx 1)) : sProp 𝕄 :=
  iprop(∃ W' : Waits sig (HIx 1), ⌜∀ p ∈ W', p ∈ W ∨ p.2 = none⌝ ∗ owes (TH d i) O W')

/-- The levels of the launch's cells: the evidence every wait needs. -/
abbrev Levels : sProp 𝕄 := levAts (K (F := F)).L (K (F := F)).lev

theorem owes_start (d : Dev nD) (i : grid0.Coords) (O : CellTallies nD τ sig (HIx 1)) (W : Waits sig (HIx 1)) :
    (owes (TH d i) O W : sProp 𝕄) ⊢ Owes d i O W := by
  unfold Owes
  iintro H
  iexists W
  isplitr
  · ipureintro; exact fun p hp => Or.inl hp
  · iexact H

variable (d : Dev nD) (i : grid0.Coords) {O : CellTallies nD τ sig (HIx 1)} {W : Waits sig (HIx 1)} (hO : ∀ g, O g none = 0)
variable {α : Type} {sp sp' : Space} {s s' : Shape} {e e' : EltTy} {κ : Kind} {sem : DmaSem sig}
  {srcw : Memref sig .scVector sp' s' e'} {dstw : Memref sig κ sp s e} {hsrc : srcw.view.WordExact} {hdst : dstw.view.WordExact}
  {k : PUnit → Prog (TpuEff nD τ sig (Elt F) Λ₀ (.scVector ((i 0).castLE hcore0) ((i 1).castLE hsub0))) α}

include hO in
/-- The wait for one transfer. -/
theorem wp_waitOne {Q : α → sProp 𝕄} {N : ℕ} (hN : dstw.view.dmaCredit = N) {R : sProp 𝕄} :
    iprop(Transfers.Flight countersEmb (TH d i) (.dma sem) (default : HIx 1) N R ∗ Owes d i O W ∗ Levels)
      ⊢ iprop((iprop(R ∗ semVal (TH d i, SemLoc.dma sem) 0 ∗ Owes d i O W) -∗ WP d i (k ⟨⟩) Q)
          -∗ WP d i (.op (.waitDma2 sem srcw dstw hsrc hdst) k) Q) := by
  unfold Owes
  iintro ⟨HF, ⟨%W', %hW', HO⟩, #Hlv⟩ Hk
  ihave Hmw := (show (Levels : sProp 𝕄) ⊢ Transfers.MayWaits (TH d i) (default : HIx 1) O from K.mayWaits_none (thr := TH d i) hO) $$ Hlv
  ihave Hm := Transfers.MayWaits.elim (SemLoc.dma sem) $$ Hmw
  iapply (Transfers.wp_waitLocalO countersEmb 𝒱₀ (TH d i) none (default : HIx 1) hN) $$ [HF HO Hm]
  · isplitl [HF]; · iexact HF
    isplitl [HO] <;> iassumption
  iintro ⟨HR, Hv, HO⟩
  iapply Hk
  isplitl [HR]; · iexact HR
  isplitl [Hv]; · iexact Hv
  iexists (insert (SemLoc.dma sem, (default : HIx 1)) W')
  isplitr
  · ipureintro
    intro p hp
    rcases Finset.mem_insert.mp hp with rfl | hp
    · exact Or.inr rfl
    · exact hW' p hp
  · iexact HO

include hO in
/-- A wait of a batch that is not its last. -/
theorem wp_waitSome {Q : α → sProp 𝕄} {N n u : ℕ} {R : Fin n → sProp 𝕄} (hN : dstw.view.dmaCredit = N) (hu : u + N < N * n) :
    iprop(Transfers.Batch countersEmb (TH d i) (.dma sem) (default : HIx 1) N R n u ∗ Owes d i O W ∗ Levels)
      ⊢ iprop((iprop(Transfers.Batch countersEmb (TH d i) (.dma sem) (default : HIx 1) N R n (u + N) ∗ Owes d i O W) -∗ WP d i (k ⟨⟩) Q)
          -∗ WP d i (.op (.waitDma2 sem srcw dstw hsrc hdst) k) Q) := by
  unfold Owes
  iintro ⟨HF, ⟨%W', %hW', HO⟩, #Hlv⟩ Hk
  ihave Hmw := (show (Levels : sProp 𝕄) ⊢ Transfers.MayWaits (TH d i) (default : HIx 1) O from K.mayWaits_none (thr := TH d i) hO) $$ Hlv
  ihave Hm := Transfers.MayWaits.elim (SemLoc.dma sem) $$ Hmw
  iapply (Transfers.wp_waitBatchO countersEmb 𝒱₀ (TH d i) none (default : HIx 1) hN hu) $$ [HF HO Hm]
  · isplitl [HF]; · iexact HF
    isplitl [HO] <;> iassumption
  iintro ⟨HR, HO⟩
  iapply Hk
  isplitl [HR]; · iexact HR
  iexists (insert (SemLoc.dma sem, (default : HIx 1)) W')
  isplitr
  · ipureintro
    intro p hp
    rcases Finset.mem_insert.mp hp with rfl | hp
    · exact Or.inr rfl
    · exact hW' p hp
  · iexact HO

include hO in
/-- A batch's last wait. -/
theorem wp_waitLast {Q : α → sProp 𝕄} {N n u : ℕ} {R : Fin n → sProp 𝕄} [∀ j, Storable (upEmb : UEmb _ 𝕄) (R j)] (hN : dstw.view.dmaCredit = N) (hN0 : 0 < N) (hu : u + N = N * n) :
    iprop(Transfers.Batch countersEmb (TH d i) (.dma sem) (default : HIx 1) N R n u ∗ Owes d i O W ∗ Levels)
      ⊢ iprop((iprop(bigSep Finset.univ R ∗ semVal (TH d i, SemLoc.dma sem) 0 ∗ Owes d i O W) -∗ WP d i (k ⟨⟩) Q)
          -∗ WP d i (.op (.waitDma2 sem srcw dstw hsrc hdst) k) Q) := by
  unfold Owes
  iintro ⟨HF, ⟨%W', %hW', HO⟩, #Hlv⟩ Hk
  ihave Hmw := (show (Levels : sProp 𝕄) ⊢ Transfers.MayWaits (TH d i) (default : HIx 1) O from K.mayWaits_none (thr := TH d i) hO) $$ Hlv
  ihave Hm := Transfers.MayWaits.elim (SemLoc.dma sem) $$ Hmw
  iapply (Transfers.wp_waitBatchLastO countersEmb 𝒱₀ (TH d i) none (default : HIx 1) hN hN0 hu) $$ [HF HO Hm]
  · isplitl [HF]; · iexact HF
    isplitl [HO] <;> iassumption
  iintro ⟨HR, Hv, HO⟩
  iapply Hk
  isplitl [HR]; · iexact HR
  isplitl [Hv]; · iexact Hv
  iexists (insert (SemLoc.dma sem, (default : HIx 1)) W')
  isplitr
  · ipureintro
    intro p hp
    rcases Finset.mem_insert.mp hp with rfl | hp
    · exact Or.inr rfl
    · exact hW' p hp
  · iexact HO

end Cert.Proof.Stream
-- ==== Proof.Words.lean ====
/-
  Pure facts about the words the kernel computes with, and the value loop's arithmetic: the masks, the unpacking of a
  packed entry, and the feature-by-feature sum as a function of the entry's item.
-/
module

public import proofs.«01_k».proof.Proof.Common

@[expose] public section

noncomputable section

namespace Cert.Proof.Stream

open Cert.KernelIdeal Cert.KernelIdeal.Gen
open Idealize.ShloMosaic Idealize.SL.Sem

variable {F : FTy → Type} [FloatOps F]

/-- Signed comparison of words below `2 ^ 31`. -/
theorem slt_iff {a b : BitVec 32} (ha : a.toNat < 2 ^ 31) (hb : b.toNat < 2 ^ 31) : IntOp.cmpi .slt a b = 1 ↔ a.toNat < b.toNat := by
  have h : a.slt b = decide (a.toNat < b.toNat) := by
    rw [BitVec.slt_eq_decide, BitVec.toInt_eq_toNat_of_lt (by omega), BitVec.toInt_eq_toNat_of_lt (by omega)]
    simp
  show BitVec.ofBool (a.slt b) = 1 ↔ _
  rw [h]; by_cases hc : a.toNat < b.toNat <;> simp [hc]

theorem sge_iff {a b : BitVec 32} (ha : a.toNat < 2 ^ 31) (hb : b.toNat < 2 ^ 31) : IntOp.cmpi .sge a b = 1 ↔ b.toNat ≤ a.toNat := by
  have h : b.sle a = decide (b.toNat ≤ a.toNat) := by
    rw [BitVec.sle_eq_decide, BitVec.toInt_eq_toNat_of_lt (by omega), BitVec.toInt_eq_toNat_of_lt (by omega)]
    simp
  show BitVec.ofBool (b.sle a) = 1 ↔ _
  rw [h]; by_cases hc : b.toNat ≤ a.toNat <;> simp [hc]

theorem and1_iff {a b : BitVec 1} : a &&& b = 1 ↔ a = 1 ∧ b = 1 := by revert a b; decide

/-- The window test of a lane, by the numbers. -/
theorem scanMask_iff {start lim : BitVec 32} {w : IVec S16 32} {x : S16.Idx} (hs : start.toNat < 2 ^ 31) (hl : lim.toNat < 2 ^ 31) :
    scanMask start lim w x = 1 ↔ start.toNat ≤ (w x).toNat ∧ (w x).toNat < lim.toNat := by
  show IntOp.cmpi .sge (w x) start &&& IntOp.cmpi .slt (w x) lim = 1 ↔ _
  rw [and1_iff]
  by_cases hw : (w x).toNat < 2 ^ 31
  · rw [sge_iff hw hs, slt_iff hw hl]
  · -- a negative word lies below the window, and its number above it
    have h : start.sle (w x) = false := by
      have := (w x).isLt
      rw [BitVec.sle, BitVec.toInt_eq_toNat_cond, BitVec.toInt_eq_toNat_cond, decide_eq_false_iff_not]
      split <;> split <;> omega
    refine iff_of_false (fun hc => ?_) (fun hc => by omega)
    have h1 : BitVec.ofBool (start.sle (w x)) = 1 := hc.1
    rw [h] at h1
    exact absurd h1 (by decide)

variable {v2 : IVec S16 32} (hv2 : ∀ l : Fin 16, v2 (ln l) = BitVec.ofNat 32 l.val)

theorem lane_lt (l : Fin 16) : (BitVec.ofNat 32 l.val).toNat = l.val := by
  rw [BitVec.toNat_ofNat, Nat.mod_eq_of_lt (by omega)]

include hv2 in
theorem pos_toNat {t : BitVec 32} (ht : t.toNat < 2 ^ 20) (l : Fin 16) :
    (addi (broadcast S16 (Scalar.muli t 16#32)) v2 (ln l)).toNat = 16 * t.toNat + l.val := by
  show (t * 16#32 + v2 (ln l)).toNat = _
  rw [hv2, BitVec.toNat_add, BitVec.toNat_mul, lane_lt]
  show ((t.toNat * 16) % 2 ^ 32 + l.val) % 2 ^ 32 = _
  omega

include hv2 in
/-- Which lanes of group `t` hold an entry, by the numbers. -/
theorem dotMask_iff {cnt t : BitVec 32} (hc : cnt.toNat < 2 ^ 31) (ht : t.toNat < 2 ^ 20) (l : Fin 16) :
    dotMask v2 cnt t (ln l) = 1 ↔ 16 * t.toNat + l.val < cnt.toNat := by
  show IntOp.cmpi .slt (addi (broadcast S16 (Scalar.muli t 16#32)) v2 (ln l)) cnt = 1 ↔ _
  rw [slt_iff (by rw [pos_toNat hv2 ht]; omega) hc, pos_toNat hv2 ht]

include hv2 in
/-- The packed entry of a lane, by the numbers. -/
theorem scanPacked_toNat {start t : BitVec 32} {w : IVec S16 32} (ht : t.toNat < 1024) (l : Fin 16) (hs : start.toNat ≤ (w (ln l)).toNat)
    (hw : (w (ln l)).toNat < start.toNat + 512) :
    (scanPacked v2 start t w (ln l)).toNat = (16 * t.toNat + l.val) * 512 + ((w (ln l)).toNat - start.toNat) := by
  show ((addi (broadcast S16 (Scalar.muli t 16#32)) v2 (ln l)) * 512#32 + (w (ln l) - start)).toNat = _
  have h1 := pos_toNat hv2 (t := t) (by omega) l
  have h2 := (w (ln l)).isLt
  rw [BitVec.toNat_add, BitVec.toNat_mul, h1, BitVec.toNat_sub]
  show ((16 * t.toNat + l.val) * 512 % 2 ^ 32 + (2 ^ 32 - start.toNat + (w (ln l)).toNat) % 2 ^ 32) % 2 ^ 32 = _
  have := l.isLt
  omega

theorem shr9_toNat (u : ArithUnit) (x : BitVec 32) : (IntOp.shrui u x 9#32).toNat = x.toNat / 512 := by
  show (x >>> 9).toNat = _
  rw [BitVec.toNat_ushiftRight, Nat.shiftRight_eq_div_pow]

theorem shr7_toNat (u : ArithUnit) (x : BitVec 32) : (IntOp.shrui u x 7#32).toNat = x.toNat / 128 := by
  show (x >>> 7).toNat = _
  rw [BitVec.toNat_ushiftRight, Nat.shiftRight_eq_div_pow]

theorem shr4_toNat (u : ArithUnit) (x : BitVec 32) : (IntOp.shrui u x 4#32).toNat = x.toNat / 16 := by
  show (x >>> 4).toNat = _
  rw [BitVec.toNat_ushiftRight, Nat.shiftRight_eq_div_pow]

theorem and127_toNat (x : BitVec 32) : (x &&& 127#32).toNat = x.toNat % 128 := by
  rw [BitVec.toNat_and]; exact Nat.and_two_pow_sub_one_eq_mod _ 7

theorem and511_toNat (x : BitVec 32) : (x &&& 511#32).toNat = x.toNat % 512 := by
  rw [BitVec.toNat_and]; exact Nat.and_two_pow_sub_one_eq_mod _ 9

/-- The multiply-and-add of one entry: `n` features left, over the entry's column `g` and the user's vector. -/
def dotFold (g uu : ℕ → F .f32) : ℕ → F .f32 → F .f32
  | 0, acc => acc
  | n + 1, acc => dotFold g uu n (FloatOps.addf acc (FloatOps.mulf (g (31 - n)) (uu (31 - n))))

/-- The same over sixteen lanes, the columns given by a table of columns. -/
def chainAcc (col : ℕ → ℕ → F .f32) (uu : ℕ → F .f32) (item : IVec S16 32) : ℕ → FVec F S16 .f32 → FVec F S16 .f32
  | 0, acc => acc
  | n + 1, acc => chainAcc col uu item n (addf acc (mulf (fun x => col (31 - n) (item x).toNat) (fun _ => uu (31 - n))))

theorem chainAcc_apply (col : ℕ → ℕ → F .f32) (uu : ℕ → F .f32) (item : IVec S16 32) (x : S16.Idx) (n : ℕ) : ∀ acc : FVec F S16 .f32,
    chainAcc col uu item n acc x = dotFold (fun j => col j (item x).toNat) uu n (acc x) := by
  induction n with
  | zero => exact fun _ => rfl
  | succ n ih => exact fun acc => ih _

end Cert.Proof.Stream
-- ==== Proof.Dot.lean ====
/-
  The value loop of one window: every entry of the window's list gets its item's dot product with the user's vector
  stored at the entry's slot, whatever the slots' contents before.
-/
module

public import proofs.«01_k».proof.Proof.Words

@[expose] public section

noncomputable section

namespace Cert.Proof.Stream

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section Chain

variable (d : Dev nD) (i : grid0.Coords) (W : Nat) (tb : Memref sig .scVector .vmem (SW W) .f32) (wtb : tb.IsWhole) (htb : 0 < (SW W).numel)
  (u : Memref sig .scVector .vmem S32x16 .f32) (wu : u.IsWhole)

/-- The window's contents by the numbers, and the user's vector broadcast over the lanes. -/
def IsTab (TB : (SW W).Idx → F .f32) (col : ℕ → ℕ → F .f32) : Prop := ∀ x : (SW W).Idx, TB x = col (x 0).val (x 1).val
def IsVec (U : S32x16.Idx → F .f32) (uu : ℕ → F .f32) : Prop := ∀ x : S32x16.Idx, U x = uu (x 0).val

theorem row_const {U : S32x16.Idx → Elt F .f32} {uu : ℕ → F .f32} (hU : IsVec U uu) (j : ℕ) (h : ∀ a, (![j, 0] : Fin 2 → Nat) a + S1x16.size a ≤ S32x16.size a) :
    shapeCast S16 (fun x => U ((Rect.unit (s := S32x16) ![j, 0] S1x16.size h).toLoadRect.idx x)) shapeCasts_S1x16_S16 = fun _ => uu j := by
  have e : (fun x => U ((Rect.unit (s := S32x16) ![j, 0] S1x16.size h).toLoadRect.idx x)) = fun _ => uu j := ?_
  · rw [e]; rfl
  funext x
  show U _ = _
  rw [hU]
  congr 1
  show j + 1 * (x 0).val = _
  have : (x 0).val < 1 := (x 0).isLt
  omega

theorem tab_load {TB : (SW W).Idx → Elt F .f32} {col : ℕ → ℕ → F .f32} (hTB : IsTab W TB col) (j : ℕ) (hj : j < 32) (item : IVec S16 32)
    (h : ∀ a x, ((![broadcast S16 (BitVec.ofNat 32 j), item] : Fin 2 → IVec S16 32) a x).toNat < (SW W).size a) :
    loadIdx TB ![broadcast S16 (BitVec.ofNat 32 j), item] h = fun x => col j (item x).toNat := by
  funext x
  show TB _ = _
  rw [hTB]
  congr 1
  show (BitVec.ofNat 32 j).toNat = _
  rw [BitVec.toNat_ofNat, Nat.mod_eq_of_lt (by omega)]

theorem dotChain_succ {item : IVec S16 32} {Ck : IVec S16 32 → Prop} {dec : ∀ w, Decidable (Ck w)}
    {inb : ∀ w, Ck w → ∀ a x, ((![w, item] : Fin 2 → IVec S16 32) a x).toNat < (SW W).size a}
    {k : FVec F S16 .f32 → Prog (TpuEff nD τ sig (Elt F) Λ₀ (.scVector ((i 0).castLE hcore0) ((i 1).castLE hsub0))) Unit} (n : ℕ) (hn : n + 1 ≤ 32) (acc : FVec F S16 .f32) :
    dotChain i W tb htb u item Ck dec inb (n + 1) hn acc k
      = .op (.assume (Ck (broadcast S16 (BitVec.ofNat 32 (31 - n)))) (dec _)) fun hw =>
        SparseCore.vectorLoadIdx tb ![broadcast S16 (BitVec.ofNat 32 (31 - n)), item] (inb _ hw.down) (View.loads_vmem htb) >>= fun g =>
        .op (.load u (Rect.unit (s := S32x16) ![31 - n, 0] S1x16.size (inb_row (31 - n) (by omega))).toLoadRect (View.loadsAt_vmem h_S1x16)) fun r =>
        dotChain i W tb htb u item Ck dec inb n (by omega) (addf acc (mulf g (shapeCast S16 r shapeCasts_S1x16_S16))) k := rfl

theorem wp_dotChain {TB : (SW W).Idx → Elt F .f32} {col : ℕ → ℕ → F .f32} (hTB : IsTab W TB col) {U : S32x16.Idx → Elt F .f32} {uu : ℕ → F .f32} (hU : IsVec U uu)
    {item : IVec S16 32} {Ck : IVec S16 32 → Prop} {dec : ∀ w, Decidable (Ck w)}
    {inb : ∀ w, Ck w → ∀ a x, ((![w, item] : Fin 2 → IVec S16 32) a x).toNat < (SW W).size a}
    (hCk : ∀ j, j < 32 → Ck (broadcast S16 (BitVec.ofNat 32 j)))
    {k : FVec F S16 .f32 → Prog (TpuEff nD τ sig (Elt F) Λ₀ (.scVector ((i 0).castLE hcore0) ((i 1).castLE hsub0))) Unit} {Q : Unit → sProp 𝕄} (n : ℕ) (hn : n ≤ 32) : ∀ acc : FVec F S16 .f32,
    iprop(Holds d i tb wtb fullShare TB ∗ Holds d i u wu fullShare U ∗
        (Holds d i tb wtb fullShare TB -∗ Holds d i u wu fullShare U -∗ WP d i (k (chainAcc col uu item n acc)) Q))
      ⊢ WP d i (dotChain i W tb htb u item Ck dec inb n hn acc k) Q := by
  induction n with
  | zero =>
    intro acc
    iintro ⟨H1, H2, HK⟩
    iapply HK $$ H1 H2
  | succ n ih =>
    intro acc
    iintro ⟨H1, H2, HK⟩
    rw [dotChain_succ]
    have hck := hCk (31 - n) (by omega)
    iapply (wp_chk d i hck)
    iapply (holds_loadIdx d i wtb) $$ H1
    iintro H1
    iapply (holds_load d i wu) $$ H2
    iintro H2
    rw [row_const hU (31 - n) (inb_row (31 - n) (by omega)), tab_load W hTB (31 - n) (by omega) item (inb _ hck)]
    iapply (ih _ _)
    iframe
    iexact HK

end Chain

/-- An item's dot product with the user's vector, as the kernel sums it. -/
def dotVal (tab : ℕ → ℕ → F .f32) (uu : ℕ → F .f32) (n : ℕ) : F .f32 := dotFold (fun j => tab j n) uu 32 (Scalar.ofBits .f32 0x00000000#32)

/-- The list of a window: each of its first `C` words packs a position and its item's column in the window. -/
def IsList (raw : ℕ → ℕ) (start W C : ℕ) (PROC : S16384.Idx → BitVec 32) : Prop :=
  ∀ y : S16384.Idx, (y 0).val < C → ∃ p, p < 16384 ∧ start ≤ raw p ∧ raw p < start + W ∧ (PROC y).toNat = p * 512 + (raw p - start)

section Loop

variable (d : Dev nD) (i : grid0.Coords) (W : Nat) (hW : 0 < W ∧ W ≤ 512) (tb : Memref sig .scVector .vmem (SW W) .f32) (wtb : tb.IsWhole) (htb : 0 < (SW W).numel)
  (u : Memref sig .scVector .vmem S32x16 .f32) (wu : u.IsWhole)
  (proc : Memref sig .scVector .vmem S16384 .i32) (wproc : proc.IsWhole) (vb : Memref sig .scVector .vmem S16640 .f32) (wvb : vb.IsWhole)
  {v2 : IVec S16 32} (hv2 : ∀ l : Fin 16, v2 (ln l) = BitVec.ofNat 32 l.val)
  {tab : ℕ → ℕ → F .f32} {uu : ℕ → F .f32} {raw : ℕ → ℕ} {start : ℕ}
  {TB : (SW W).Idx → Elt F .f32} (hTB : IsTab W TB fun j c => tab j (start + c)) {U : S32x16.Idx → Elt F .f32} (hU : IsVec U uu)
  {cnt : BitVec 32} (hcnt : cnt.toNat ≤ 16384) {PROC : S16384.Idx → Elt F .i32} (hproc : IsList raw start W cnt.toNat PROC)
  {Ck : IVec S16 32 → IVec S16 32 → Prop} {dec : ∀ v w, Decidable (Ck v w)}
  {inb : ∀ v w, Ck v w → ∀ a x, ((![w, v] : Fin 2 → IVec S16 32) a x).toNat < (SW W).size a}
  {Cs : IVec S16 32 → Prop} {decs : ∀ w, Decidable (Cs w)}
  {inbs : ∀ w, Cs w → ∀ a x, ((![w] : Fin 1 → IVec S16 32) a x).toNat < S16640.size a}
  (hCk : ∀ v w, (∀ a x, ((![w, v] : Fin 2 → IVec S16 32) a x).toNat < (SW W).size a) → Ck v w)
  (hCs : ∀ w, (∀ a x, ((![w] : Fin 1 → IVec S16 32) a x).toNat < S16640.size a) → Cs w)

/-- Sixteen consecutive places read from a list, by the lane. -/
theorem rect16_idx {n : ℕ} {off : Fin 1 → ℕ} (hoff : ∀ a, off a + S16.size a ≤ (⟨1, ![n]⟩ : Shape).size a) (l : Fin 16) :
    ((Rect.unit (s := ⟨1, ![n]⟩) off S16.size hoff).toLoadRect.idx (ln l) 0).val = off 0 + l.val := by
  show off 0 + 1 * l.val = _; omega

include hv2 hproc hcnt hW in
theorem lane_entry {t : BitVec 32} {T : ℕ} (ht : t.toNat = T) (hT : T < 1024) {off : Fin 1 → ℕ} (hoff : ∀ a, off a + S16.size a ≤ S16384.size a) (hoff0 : off 0 = 16 * T) (l : Fin 16) :
    (dotMask v2 cnt t (ln l) = 1 → ∃ p, p < 16384 ∧ start ≤ raw p ∧ raw p < start + W ∧ (PROC ((Rect.unit (s := S16384) off S16.size hoff).toLoadRect.idx (ln l))).toNat / 512 = p ∧
      (dotPacked v2 cnt t (fun x => PROC ((Rect.unit (s := S16384) off S16.size hoff).toLoadRect.idx x)) (ln l)).toNat = p * 512 + (raw p - start)) ∧
    (dotMask v2 cnt t (ln l) ≠ 1 → (dotPacked v2 cnt t (fun x => PROC ((Rect.unit (s := S16384) off S16.size hoff).toLoadRect.idx x)) (ln l)).toNat = 0) := by
  have hr : ((Rect.unit (s := S16384) off S16.size hoff).toLoadRect.idx (ln l) 0).val = off 0 + l.val := rect16_idx hoff l
  constructor
  · intro hm
    have h1 := (dotMask_iff hv2 (cnt := cnt) (t := t) (by omega) (by omega) l).1 hm
    obtain ⟨p, hp, hp1, hp2, hp3⟩ := hproc ((Rect.unit (s := S16384) off S16.size hoff).toLoadRect.idx (ln l)) (by omega)
    refine ⟨p, hp, hp1, hp2, ?_, ?_⟩
    · rw [hp3]; omega
    · rw [← hp3]
      show (if dotMask v2 cnt t (ln l) = 1 then _ else _ : BitVec 32).toNat = _
      rw [if_pos hm]
  · intro hm
    show (if dotMask v2 cnt t (ln l) = 1 then _ else _ : BitVec 32).toNat = _
    rw [if_neg hm]; rfl

theorem dotBody_eq (t : BitVec 32) (off : Fin 1 → ℕ) (hoff : ∀ a, off a + S16.size a ≤ S16384.size a) :
    dotBody i W tb htb u proc vb v2 cnt t off hoff Ck dec inb Cs decs inbs
      = .op (.load proc (Rect.unit (s := S16384) off S16.size hoff).toLoadRect (View.loadsAt_vmem h_S16)) fun (w : Vec F S16 .i32) =>
        .op (.assume (Cs (shrui (dotPacked v2 cnt t w) (broadcast S16 9#32))) (decs _)) fun hw =>
        dotChain i W tb htb u (andi (dotPacked v2 cnt t w) (broadcast S16 511#32)) (Ck _) (dec _) (inb _) 32 (by omega) (broadcast S16 (Scalar.ofBits .f32 0x00000000#32)) fun acc =>
          SparseCore.vectorStoreIdx vb ![shrui (dotPacked v2 cnt t w) (broadcast S16 9#32)] acc (dotMask v2 cnt t) false (inbs _ hw.down) (View.stores_vmem_bits_univ h_S16640 rfl) >>= fun _ => .ret ⟨⟩ := rfl

include hv2 hproc hcnt hW hTB hU hCk hCs in
/-- One trip of the value loop. -/
theorem wp_dotBody {t : BitVec 32} {T : ℕ} (ht : t.toNat = T) (hT : T < 1024) {off : Fin 1 → ℕ} (hoff : ∀ a, off a + S16.size a ≤ S16384.size a) (hoff0 : off 0 = 16 * T)
    {VB : S16640.Idx → Elt F .f32} {Q : Unit → sProp 𝕄} :
    iprop(Holds d i tb wtb fullShare TB ∗ Holds d i u wu fullShare U ∗ Holds d i proc wproc fullShare PROC ∗ Holds d i vb wvb fullShare VB ∗
        (∀ VB' : S16640.Idx → Elt F .f32, ⌜∀ x : S16640.Idx, (VB x = dotVal tab uu (raw (x 0).val) ∨ ∃ y : S16384.Idx, 16 * T ≤ (y 0).val ∧ (y 0).val < 16 * T + 16 ∧ (y 0).val < cnt.toNat ∧ (PROC y).toNat / 512 = (x 0).val) →
            VB' x = dotVal tab uu (raw (x 0).val)⌝ -∗
          Holds d i tb wtb fullShare TB -∗ Holds d i u wu fullShare U -∗ Holds d i proc wproc fullShare PROC -∗ Holds d i vb wvb fullShare VB' -∗ Q ⟨⟩))
      ⊢ WP d i (dotBody i W tb htb u proc vb v2 cnt t off hoff Ck dec inb Cs decs inbs) Q := by
  have hL := lane_entry W hW hv2 hcnt hproc ht hT hoff hoff0
  have hcs : Cs (shrui (dotPacked v2 cnt t (fun x => PROC ((Rect.unit (s := S16384) off S16.size hoff).toLoadRect.idx x))) (broadcast S16 9#32)) := by
    refine hCs _ fun a x => ?_
    obtain rfl : a = 0 := Subsingleton.elim a 0
    rw [eq_ln x]
    show (IntOp.shrui .vector (dotPacked v2 cnt t _ (ln (x 0))) 9#32).toNat < 16640
    rw [shr9_toNat]
    by_cases hm : dotMask v2 cnt t (ln (x 0)) = 1
    · obtain ⟨p, hp, hp1, hp2, -, hp3⟩ := (hL (x 0)).1 hm
      rw [hp3]; omega
    · rw [(hL (x 0)).2 hm]; omega
  have hck : ∀ j, j < 32 → Ck (andi (dotPacked v2 cnt t (fun x => PROC ((Rect.unit (s := S16384) off S16.size hoff).toLoadRect.idx x))) (broadcast S16 511#32)) (broadcast S16 (BitVec.ofNat 32 j)) := by
    intro j hj
    refine hCk _ _ fun a x => ?_
    match a with
    | ⟨0, _⟩ =>
      show (BitVec.ofNat 32 j).toNat < 32
      rw [BitVec.toNat_ofNat]; omega
    | ⟨1, _⟩ =>
      rw [eq_ln x]
      show (dotPacked v2 cnt t _ (ln (x 0)) &&& 511#32).toNat < W
      rw [and511_toNat]
      by_cases hm : dotMask v2 cnt t (ln (x 0)) = 1
      · obtain ⟨p, hp, hp1, hp2, -, hp3⟩ := (hL (x 0)).1 hm
        rw [hp3]; omega
      · rw [(hL (x 0)).2 hm]; omega
  iintro ⟨H1, H2, H3, H4, HK⟩
  rw [dotBody_eq]
  iapply (holds_load d i wproc) $$ H3
  iintro H3
  iapply (wp_chk d i hcs)
  iapply (wp_dotChain d i W tb wtb htb u wu hTB hU hck)
  iframe
  iintro H1 H2
  iapply (holds_storeIdx d i wvb) $$ H4
  iintro H4
  iapply (wp_ret_intro d i)
  iapply HK $$ [] H1 H2 H3 H4
  ipureintro
  intro x hx
  refine storeIdx_eq _ _ _ _ _ x _ ?_ ?_
  · intro l hm hl
    obtain ⟨p, hp, hp1, hp2, hp3, hp4⟩ := (hL l).1 hm
    have hl0 := hl 0
    change (x 0).val = (IntOp.shrui .vector (dotPacked v2 cnt t _ (ln l)) 9#32).toNat at hl0
    rw [shr9_toNat] at hl0
    replace hl0 := hl0.trans (congrArg (· / 512) hp4)
    simp only at hl0
    have hx0 : (x 0).val = p := by omega
    rw [chainAcc_apply]
    have e : ((andi (dotPacked v2 cnt t (fun x => PROC ((Rect.unit (s := S16384) off S16.size hoff).toLoadRect.idx x))) (broadcast S16 511#32) : IVec S16 32) (ln l)).toNat = raw p - start := by
      show (dotPacked v2 cnt t _ (ln l) &&& 511#32).toNat = _
      rw [and511_toNat, hp4]; omega
    refine (congrArg (fun z => dotFold (fun j => tab j (start + z)) uu 32 _) e).trans ?_
    simp only [hx0, dotVal, show start + (raw p - start) = raw p by omega]
    rfl
  · rcases hx with hx | ⟨y, hy1, hy2, hy3, hy4⟩
    · exact .inr hx
    · refine .inl ⟨⟨(y 0).val - 16 * T, by omega⟩, ?_, ?_⟩
      · rw [dotMask_iff hv2 (by omega) (by omega)]; simp only; omega
      · intro a
        obtain rfl : a = 0 := Subsingleton.elim a 0
        set l : Fin 16 := ⟨(y 0).val - 16 * T, by omega⟩ with hl
        have hm : dotMask v2 cnt t (ln l) = 1 := by
          rw [dotMask_iff hv2 (by omega) (by omega)]; simp only [hl]; omega
        obtain ⟨p, hp, hp1, hp2, hp3, hp4⟩ := (hL l).1 hm
        have hr : ((Rect.unit (s := S16384) off S16.size hoff).toLoadRect.idx (ln l)) = y := by
          funext a; obtain rfl : a = 0 := Subsingleton.elim a 0
          apply Fin.ext
          rw [rect16_idx hoff l, hoff0]; simp only [hl]; omega
        rw [hr, hy4] at hp3
        show (x 0).val = (IntOp.shrui .vector (dotPacked v2 cnt t _ (ln l)) 9#32).toNat
        rw [shr9_toNat]
        exact Eq.trans (b := (p * 512 + (raw p - start)) / 512) (by omega) (congrArg (· / 512) hp4.symm)

theorem iv_toNat {n : ℕ} (h : n < 2 ^ 32) : (Scf.iv 0#32 1#32 n).toNat = n := by
  unfold Scf.iv
  rw [BitVec.mul_one, BitVec.zero_add, BitVec.toNat_ofNat, Nat.mod_eq_of_lt h]

include hv2 hproc hcnt hW hTB hU hCk hCs in
/-- The value loop and its empty remainder: every entry's slot ends at its item's product, and a slot that held its
    item's product keeps it. -/
theorem wp_dotLoop {L L' : Scf.Loop 32} {hok : L.OK} {hok' : L'.OK} (hL : L.trips = (cnt.toNat + 15) / 16) (hL' : L'.trips = 0)
    {off : Fin L.trips → Fin 1 → ℕ} {hoff : ∀ x a, off x a + S16.size a ≤ S16384.size a} (hoff0 : ∀ x, off x 0 = 16 * x.val)
    {body : Fin L.trips → Unit → Prog (TpuEff nD τ sig (Elt F) Λ₀ (.scVector ((i 0).castLE hcore0) ((i 1).castLE hsub0))) Unit}
    (hb : ∀ x y, body x y = dotBody i W tb htb u proc vb v2 cnt (Scf.iv 0#32 1#32 x) (off x) (hoff x) Ck dec inb Cs decs inbs)
    {body' : Fin L'.trips → Unit → Prog (TpuEff nD τ sig (Elt F) Λ₀ (.scVector ((i 0).castLE hcore0) ((i 1).castLE hsub0))) Unit}
    {α : Type} {kk : Unit → Prog (TpuEff nD τ sig (Elt F) Λ₀ (.scVector ((i 0).castLE hcore0) ((i 1).castLE hsub0))) α}
    {VB : S16640.Idx → Elt F .f32} {Q : α → sProp 𝕄} :
    iprop(Holds d i tb wtb fullShare TB ∗ Holds d i u wu fullShare U ∗ Holds d i proc wproc fullShare PROC ∗ Holds d i vb wvb fullShare VB ∗
        (∀ VB' : S16640.Idx → Elt F .f32, ⌜∀ x : S16640.Idx, (VB x = dotVal tab uu (raw (x 0).val) ∨ ∃ y : S16384.Idx, (y 0).val < cnt.toNat ∧ (PROC y).toNat / 512 = (x 0).val) →
            VB' x = dotVal tab uu (raw (x 0).val)⌝ -∗
          Holds d i tb wtb fullShare TB -∗ Holds d i u wu fullShare U -∗ Holds d i proc wproc fullShare PROC -∗ Holds d i vb wvb fullShare VB' -∗ WP d i (kk ⟨⟩) Q))
      ⊢ WP d i (Scf.Loop.for L hok ⟨⟩ body >>= fun _ => Scf.Loop.for L' hok' ⟨⟩ body' >>= kk) Q := by
  obtain ⟨I, hI⟩ : ∃ I : ℕ → Unit → sProp 𝕄, ∀ n a, I n a = iprop(Holds d i tb wtb fullShare TB ∗ Holds d i u wu fullShare U ∗ Holds d i proc wproc fullShare PROC ∗ ∃ VB' : S16640.Idx → Elt F .f32,
      ⌜∀ x : S16640.Idx, (VB x = dotVal tab uu (raw (x 0).val) ∨ ∃ y : S16384.Idx, (y 0).val < 16 * n ∧ (y 0).val < cnt.toNat ∧ (PROC y).toNat / 512 = (x 0).val) →
            VB' x = dotVal tab uu (raw (x 0).val)⌝ ∗ Holds d i vb wvb fullShare VB') := ⟨_, fun _ _ => rfl⟩
  have hbody : ∀ (x : Fin L.trips) (acc : Unit), I x.val acc ⊢ WP d i (body x acc) (I (x.val + 1)) := by
    intro x acc
    have hx : x.val < (cnt.toNat + 15) / 16 := hL ▸ x.isLt
    rw [hb x acc, hI]
    iintro ⟨H1, H2, H3, %VB', %hVB, H4⟩
    iapply (wp_dotBody d i W hW tb wtb htb u wu proc wproc vb wvb hv2 hTB hU hcnt hproc hCk hCs (T := x.val) (iv_toNat (by omega)) (by omega) (hoff x) (hoff0 x))
    iframe
    iintro %VB'' %hVB2 H1 H2 H3 H4
    rw [hI]
    iframe
    iexists VB''
    iframe
    ipureintro
    rintro y (h | ⟨z, hz1, hz2, hz3⟩)
    · exact hVB2 y (.inl (hVB y (.inl h)))
    · by_cases hz : (z 0).val < 16 * x.val
      · exact hVB2 y (.inl (hVB y (.inr ⟨z, hz, hz2, hz3⟩)))
      · exact hVB2 y (.inr ⟨z, by omega, by omega, hz2, hz3⟩)
  iintro ⟨H1, H2, H3, H4, HK⟩
  iapply (wp_loop d i I hbody) $$ [H1 H2 H3 H4]
  · rw [hI]
    iframe
    iexists VB
    iframe
    ipureintro
    rintro x (h | ⟨y, hy, -⟩)
    · exact h
    · omega
  · iintro %acc HI
    icases (Entails.of_eq (hI _ _)) $$ HI with ⟨H1, H2, H3, %VB', %hVB, H4⟩
    iapply (wp_loop0 d i hL')
    iapply HK $$ [] H1 H2 H3 H4
    ipureintro
    intro x hx
    refine hVB x (hx.imp id fun ⟨y, hy, hy'⟩ => ⟨y, ?_, hy, hy'⟩)
    omega

end Loop

end Cert.Proof.Stream
-- ==== Proof.Scan.lean ====
/-
  The scan of a tile's entries for one window: the entries whose item the window holds, packed one behind another.
-/
module

public import proofs.«01_k».proof.Proof.Dot

@[expose] public section

noncomputable section

namespace Cert.Proof.Stream

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- Every value of the count below the total is the count before some positive. -/
theorem exists_count (P : ℕ → Prop) [DecidablePred P] {n y : ℕ} (h : y < Nat.count P n) : ∃ p, p < n ∧ P p ∧ Nat.count P p = y := by
  induction n with
  | zero => simp at h
  | succ n ih =>
    rw [Nat.count_succ] at h
    by_cases hp : P n
    · rw [if_pos hp] at h
      by_cases hy : y < Nat.count P n
      · obtain ⟨p, h1, h2, h3⟩ := ih hy; exact ⟨p, by omega, h2, h3⟩
      · exact ⟨n, by omega, hp, by omega⟩
    · rw [if_neg hp] at h
      obtain ⟨p, h1, h2, h3⟩ := ih h; exact ⟨p, by omega, h2, h3⟩

/-- The items of the window `[start, lim)`. -/
abbrev InWin (raw : ℕ → ℕ) (start lim : ℕ) : ℕ → Prop := fun p => start ≤ raw p ∧ raw p < lim

section Loop

variable (d : Dev nD) (i : grid0.Coords)
  (idx : Memref sig .scVector .vmem S16384 .i32) (widx : idx.IsWhole) (proc : Memref sig .scVector .vmem S16384 .i32) (wproc : proc.IsWhole)
  {v2 : IVec S16 32} (hv2 : ∀ l : Fin 16, v2 (ln l) = BitVec.ofNat 32 l.val)
  {raw : ℕ → ℕ} {IDX : S16384.Idx → Elt F .i32} (hIDX : ∀ x : S16384.Idx, (IDX x : BitVec 32).toNat = raw (x 0).val)
  {start lim : BitVec 32} {s0 l0 : ℕ} (hs0 : start.toNat = s0) (hl0 : lim.toNat = l0) (hsl : l0 ≤ s0 + 512) (hl1 : l0 < 2 ^ 31) (hs1 : s0 < 2 ^ 31)
  {Cs : IVec S16 32 → Prop} {decs : ∀ w, Decidable (Cs w)}
  {inbs : ∀ w, Cs w → ∀ a x, ((![w] : Fin 1 → IVec S16 32) a x).toNat < S16384.size a}
  (hCs : ∀ w, (∀ a x, ((![w] : Fin 1 → IVec S16 32) a x).toNat < S16384.size a) → Cs w)

theorem scanBody_eq (t : BitVec 32) (off : Fin 1 → ℕ) (hoff : ∀ a, off a + S16.size a ≤ S16384.size a) (cnt : BitVec 32) :
    scanBody (F := F) i idx proc v2 start lim t off hoff Cs decs inbs cnt
      = .op (.load idx (Rect.unit (s := S16384) off S16.size hoff).toLoadRect (View.loadsAt_vmem h_S16)) fun (w : Vec F S16 .i32) =>
        .op (.assume (Cs (scanSlot start lim cnt w)) (decs _)) fun hw =>
        SparseCore.vectorStoreIdx proc ![scanSlot start lim cnt w] (scanPacked v2 start t w) (scanMask start lim w) false (inbs _ hw.down) (View.stores_vmem_bits_univ h_S16384 rfl) >>= fun _ =>
          .ret (Scalar.addi cnt (extractAt ![15] (scanSum start lim w) inpos_S16_p15)) := rfl

/-- What the list holds once the entries before `n` are scanned. -/
def Listed (raw : ℕ → ℕ) (s0 l0 n : ℕ) (PROC : S16384.Idx → BitVec 32) : Prop :=
  ∀ p, p < n → InWin raw s0 l0 p → ∀ y : S16384.Idx, (y 0).val = Nat.count (InWin raw s0 l0) p → (PROC y).toNat = p * 512 + (raw p - s0)

include hv2 hIDX hs0 hl0 hsl hl1 hs1 hCs in
/-- One trip of the scan. -/
theorem wp_scanBody {t : BitVec 32} {T : ℕ} (ht : t.toNat = T) (hT : T < 1024) {off : Fin 1 → ℕ} (hoff : ∀ a, off a + S16.size a ≤ S16384.size a) (hoff0 : off 0 = 16 * T)
    {cnt : BitVec 32} (hcnt : cnt.toNat = Nat.count (InWin raw s0 l0) (16 * T)) {PROC : S16384.Idx → Elt F .i32} (hP : Listed raw s0 l0 (16 * T) PROC) {Q : BitVec 32 → sProp 𝕄} :
    iprop(Holds d i idx widx fullShare IDX ∗ Holds d i proc wproc fullShare PROC ∗
        (∀ (cnt' : BitVec 32) (PROC' : S16384.Idx → Elt F .i32), ⌜cnt'.toNat = Nat.count (InWin raw s0 l0) (16 * T + 16) ∧ Listed raw s0 l0 (16 * T + 16) PROC'⌝ -∗
          Holds d i idx widx fullShare IDX -∗ Holds d i proc wproc fullShare PROC' -∗ Q cnt'))
      ⊢ WP d i (scanBody i idx proc v2 start lim t off hoff Cs decs inbs cnt) Q := by
  have hw : ∀ l : Fin 16, (IDX ((Rect.unit (s := S16384) off S16.size hoff).toLoadRect.idx (ln l)) : BitVec 32).toNat = raw (16 * T + l.val) := by
    intro l
    rw [hIDX, rect16_idx hoff l, hoff0]
  obtain ⟨w, hwd⟩ : ∃ w : Vec F S16 .i32, w = fun x => IDX ((Rect.unit (s := S16384) off S16.size hoff).toLoadRect.idx x) := ⟨_, rfl⟩
  have hw' : ∀ l : Fin 16, (w (ln l) : BitVec 32).toNat = raw (16 * T + l.val) := by rw [hwd]; exact hw
  have hm : ∀ l : Fin 16, scanMask start lim w (ln l) = 1 ↔ InWin raw s0 l0 (16 * T + l.val) := by
    intro l
    rw [scanMask_iff (by omega) (by omega), hw' l, hs0, hl0]
  have hcs : Cs (scanSlot start lim cnt w) := by
    refine hCs _ fun a x => ?_
    obtain rfl : a = 0 := Subsingleton.elim a 0
    rw [eq_ln x]
    have := slot_le (InWin raw s0 l0) (16 * T) start lim w hm cnt hcnt (by omega) (x 0)
    have h2 : (x 0).val < 16 := (x 0).isLt
    show (scanSlot start lim cnt w (ln (x 0))).toNat < 16384
    omega
  iintro ⟨H1, H2, HK⟩
  rw [scanBody_eq]
  iapply (holds_load d i widx) $$ H1
  iintro H1
  rw [← hwd]
  iapply (wp_chk d i hcs)
  iapply (holds_storeIdx d i wproc) $$ H2
  iintro H2
  iapply (wp_ret_intro d i)
  iapply HK $$ [] H1 H2
  ipureintro
  constructor
  · exact count_group (InWin raw s0 l0) (16 * T) start lim w hm cnt hcnt (by omega)
  · intro p hp hpw y hy
    have hpk : p * 512 + (raw p - s0) < 2 ^ 32 := by have := hpw.2; omega
    have hc : (storeIdx PROC ![scanSlot start lim cnt w] (scanPacked v2 start t w) (scanMask start lim w) false (inbs _ hcs) y : BitVec 32) = BitVec.ofNat 32 (p * 512 + (raw p - s0)) := by
      refine compact_eq (F := F) (e := .i32) (InWin raw s0 l0) (16 * T) start lim w hm PROC _ _ _ cnt hcnt (by omega) y (Nat.count (InWin raw s0 l0) p) ?_ _ ?_ ?_
      · intro l
        constructor
        · intro h; rw [← hy, h 0]; rfl
        · intro h a
          obtain rfl : a = 0 := Subsingleton.elim a 0
          rw [hy, ← h]; rfl
      · intro l hl hcl
        have e := Nat.count_injective hl hpw hcl
        apply BitVec.eq_of_toNat_eq
        rw [scanPacked_toNat hv2 (by omega) l (by rw [hw' l, hs0]; exact hl.1) (by rw [hw' l, hs0]; have := hl.2; omega), hw' l, hs0, ht, BitVec.toNat_ofNat, Nat.mod_eq_of_lt hpk, e]
      · by_cases hpT : p < 16 * T
        · right
          apply BitVec.eq_of_toNat_eq
          rw [BitVec.toNat_ofNat, Nat.mod_eq_of_lt hpk]
          exact hP p hpT hpw y hy
        · left
          exact ⟨⟨p - 16 * T, by omega⟩, by simpa [show 16 * T + (p - 16 * T) = p by omega] using hpw, by simp [show 16 * T + (p - 16 * T) = p by omega]⟩
    rw [hc, BitVec.toNat_ofNat, Nat.mod_eq_of_lt hpk]

include hv2 hIDX hs0 hl0 hsl hl1 hs1 hCs in
/-- The scan and its empty remainder: the list holds the window's entries, as many as the counter says. -/
theorem wp_scanLoop {L L' : Scf.Loop 32} {hok : L.OK} {hok' : L'.OK} {nv : ℕ} (hnv : nv ≤ 1024) (hL : L.trips = nv) (hL' : L'.trips = 0)
    {off : Fin L.trips → Fin 1 → ℕ} {hoff : ∀ x a, off x a + S16.size a ≤ S16384.size a} (hoff0 : ∀ x, off x 0 = 16 * x.val)
    {body : Fin L.trips → BitVec 32 → Prog (TpuEff nD τ sig (Elt F) Λ₀ (.scVector ((i 0).castLE hcore0) ((i 1).castLE hsub0))) (BitVec 32)}
    (hb : ∀ x y, body x y = scanBody i idx proc v2 start lim (Scf.iv 0#32 1#32 x) (off x) (hoff x) Cs decs inbs y)
    {body' : Fin L'.trips → BitVec 32 → Prog (TpuEff nD τ sig (Elt F) Λ₀ (.scVector ((i 0).castLE hcore0) ((i 1).castLE hsub0))) (BitVec 32)}
    {α : Type} {kk : BitVec 32 → Prog (TpuEff nD τ sig (Elt F) Λ₀ (.scVector ((i 0).castLE hcore0) ((i 1).castLE hsub0))) α}
    {PROC : S16384.Idx → Elt F .i32} {Q : α → sProp 𝕄} :
    iprop(Holds d i idx widx fullShare IDX ∗ Holds d i proc wproc fullShare PROC ∗
        (∀ (cnt' : BitVec 32) (PROC' : S16384.Idx → Elt F .i32), ⌜cnt'.toNat = Nat.count (InWin raw s0 l0) (16 * nv) ∧ Listed raw s0 l0 (16 * nv) PROC'⌝ -∗
          Holds d i idx widx fullShare IDX -∗ Holds d i proc wproc fullShare PROC' -∗ WP d i (kk cnt') Q))
      ⊢ WP d i (Scf.Loop.for L hok 0#32 body >>= fun v => Scf.Loop.for L' hok' v body' >>= kk) Q := by
  obtain ⟨I, hI⟩ : ∃ I : ℕ → BitVec 32 → sProp 𝕄, ∀ n a, I n a = iprop(⌜a.toNat = Nat.count (InWin raw s0 l0) (16 * n)⌝ ∗ Holds d i idx widx fullShare IDX ∗
      ∃ PROC' : S16384.Idx → Elt F .i32, ⌜Listed raw s0 l0 (16 * n) PROC'⌝ ∗ Holds d i proc wproc fullShare PROC') := ⟨_, fun _ _ => rfl⟩
  have hbody : ∀ (x : Fin L.trips) (acc : BitVec 32), I x.val acc ⊢ WP d i (body x acc) (I (x.val + 1)) := by
    intro x acc
    have hx : x.val < nv := hL ▸ x.isLt
    rw [hb x acc, hI]
    iintro ⟨%hcnt, H1, %PROC', %hP, H2⟩
    iapply (wp_scanBody d i idx widx proc wproc hv2 hIDX hs0 hl0 hsl hl1 hs1 hCs (T := x.val) (iv_toNat (by omega)) (by omega) (hoff x) (hoff0 x) hcnt hP)
    iframe
    iintro %cnt' %PROC'' %h H1 H2
    rw [hI]
    iframe
    isplitr
    · ipureintro; exact h.1
    · iexists PROC''
      iframe
      ipureintro; exact h.2
  iintro ⟨H1, H2, HK⟩
  iapply (wp_loop d i I hbody) $$ [H1 H2]
  · rw [hI]
    iframe
    isplitr
    · ipureintro; simp
    · iexists PROC
      iframe
      ipureintro; intro p hp; omega
  · iintro %acc HI
    icases (Entails.of_eq (hI _ _)) $$ HI with ⟨%hcnt, H1, %PROC', %hP, H2⟩
    iapply (wp_loop0 d i hL')
    iapply HK $$ [] H1 H2
    ipureintro
    rw [← hL]
    exact ⟨hcnt, hP⟩

/-- What is listed is a list of packed entries, and every entry of the window is in it. -/
theorem Listed.isList {PROC : S16384.Idx → BitVec 32} {n W : ℕ} (hn : n ≤ 16384) (hP : Listed raw s0 (s0 + W) n PROC) :
    IsList raw s0 W (Nat.count (InWin raw s0 (s0 + W)) n) PROC := by
  intro y hy
  obtain ⟨p, h1, h2, h3⟩ := exists_count _ hy
  exact ⟨p, by omega, h2.1, h2.2, hP p h1 h2 y h3.symm⟩

theorem Listed.mem {PROC : S16384.Idx → BitVec 32} {n W : ℕ} (hn : n ≤ 16384) (hW : W ≤ 512) (hP : Listed raw s0 (s0 + W) n PROC) {p : ℕ} (hp : p < n) (hw : InWin raw s0 (s0 + W) p) :
    ∃ y : S16384.Idx, (y 0).val < Nat.count (InWin raw s0 (s0 + W)) n ∧ (PROC y).toNat / 512 = p := by
  have h1 : Nat.count (InWin raw s0 (s0 + W)) p < Nat.count (InWin raw s0 (s0 + W)) n := Nat.count_strict_mono hw hp
  have h2 := Nat.count_le (InWin raw s0 (s0 + W)) (n := n)
  refine ⟨fun a => ⟨Nat.count (InWin raw s0 (s0 + W)) p, by obtain rfl : a = 0 := Subsingleton.elim a 0; show _ < 16384; omega⟩, h1, ?_⟩
  rw [hP p hp hw _ rfl]
  have := hw.1; have := hw.2
  omega

end Loop

end Cert.Proof.Stream
-- ==== Proof.Bin.lean ====
/-
  The compaction of the batch: the entries whose item lies in the tile's part of the table, moved to the front of the
  tile's own copy of the index list, their positions in the batch written to a second list, padded behind.
-/
module

public import proofs.«01_k».proof.Proof.Scan

@[expose] public section

noncomputable section

namespace Cert.Proof.Stream

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The words of a list of 16384, by the number of the place. -/
def natAt (X : S16384.Idx → BitVec 32) (n : ℕ) : ℕ := if h : n < 16384 then (X fun a => ⟨n, by obtain rfl : a = 0 := Subsingleton.elim a 0; exact h⟩).toNat else 0

theorem natAt_eq (X : S16384.Idx → BitVec 32) (x : S16384.Idx) : (X x).toNat = natAt X (x 0).val := by
  have h : (x 0).val < 16384 := (x 0).isLt
  rw [natAt, dif_pos h]
  congr 2
  funext a; obtain rfl : a = 0 := Subsingleton.elim a 0; rfl

theorem natAt_lt {X : S16384.Idx → BitVec 32} {b : ℕ} (hb : 0 < b) (h : ∀ x, (X x).toNat < b) (n : ℕ) : natAt X n < b := by
  unfold natAt; split
  · exact h _
  · exact hb

/-- The place of an element of the list of positions, kept in rows of 128. -/
def flat (x : S130x128.Idx) : ℕ := 128 * (x 0).val + (x 1).val

/-- The row and the column of a place of that list. -/
abbrev rowOf' (p : IVec S16 32) : IVec S16 32 := shrui p (broadcast S16 7#32)
abbrev colOf' (p : IVec S16 32) : IVec S16 32 := andi p (broadcast S16 127#32)

theorem rc_hits (p : IVec S16 32) (x : S130x128.Idx) (l : Fin 16) :
    (∀ a, (x a).val = ((![rowOf' p, colOf' p] : Fin 2 → IVec S16 32) a (ln l)).toNat) ↔ (p (ln l)).toNat = flat x := by
  have h0 : ((rowOf' p) (ln l)).toNat = (p (ln l)).toNat / 128 := shr7_toNat .vector _
  have h1 : ((colOf' p) (ln l)).toNat = (p (ln l)).toNat % 128 := and127_toNat _
  have hx1 : (x 1).val < 128 := (x 1).isLt
  unfold flat
  constructor
  · intro h
    have e0 : (x 0).val = ((rowOf' p) (ln l)).toNat := h 0
    have e1 : (x 1).val = ((colOf' p) (ln l)).toNat := h 1
    omega
  · intro h a
    match a with
    | ⟨0, _⟩ => show (x 0).val = ((rowOf' p) (ln l)).toNat; omega
    | ⟨1, _⟩ => show (x 1).val = ((colOf' p) (ln l)).toNat; omega

theorem rc_inb (p : IVec S16 32) (hp : ∀ l, (p (ln l)).toNat < 16640) :
    ∀ a x, ((![rowOf' p, colOf' p] : Fin 2 → IVec S16 32) a x).toNat < S130x128.size a := by
  intro a x
  rw [eq_ln x]
  have h0 : ((rowOf' p) (ln (x 0))).toNat = (p (ln (x 0))).toNat / 128 := shr7_toNat .vector _
  have h1 : ((colOf' p) (ln (x 0))).toNat = (p (ln (x 0))).toNat % 128 := and127_toNat _
  have := hp (x 0)
  match a with
  | ⟨0, _⟩ => show ((rowOf' p) (ln (x 0))).toNat < 130; omega
  | ⟨1, _⟩ => show ((colOf' p) (ln (x 0))).toNat < 128; omega

section Pads

variable (d : Dev nD) (i : grid0.Coords) (comp : Memref sig .scVector .vmem S130x128 .i32) (wcomp : comp.IsWhole)
  {v2 : IVec S16 32} (hv2 : ∀ l : Fin 16, v2 (ln l) = BitVec.ofNat 32 l.val)

include hv2 in
theorem padPos_toNat {b : BitVec 32} (hb : b.toNat < 2 ^ 30) (l : Fin 16) : ((addi (broadcast S16 b) v2 : IVec S16 32) (ln l)).toNat = b.toNat + l.val := by
  show (b + v2 (ln l)).toNat = _
  rw [hv2, BitVec.toNat_add, lane_lt]; omega

include hv2 in
/-- One pad: the sixteen places from `B` on get the padding value. -/
theorem wp_pad {b : BitVec 32} {B : ℕ} (hb : b.toNat = B) (hB : B + 16 ≤ 16640) {r c v : IVec S16 32} {mask : IVec S16 1}
    (hr : r = rowOf' (addi (broadcast S16 b) v2)) (hc : c = colOf' (addi (broadcast S16 b) v2)) (hv : v = broadcast S16 16384#32)
    (hmask : mask = cmpi .slt (addi (broadcast S16 b) v2) (broadcast S16 16640#32))
    {Ck : Prop} {dec : Decidable Ck} {inb : Ck → ∀ a x, ((![r, c] : Fin 2 → IVec S16 32) a x).toNat < S130x128.size a}
    (hCk : (∀ a x, ((![r, c] : Fin 2 → IVec S16 32) a x).toNat < S130x128.size a) → Ck)
    {hs : (comp.access (.whole S130x128)).Stores Finset.univ} {COMP : S130x128.Idx → Elt F .i32}
    {α : Type} {k : PUnit → Prog (TpuEff nD τ sig (Elt F) Λ₀ (.scVector ((i 0).castLE hcore0) ((i 1).castLE hsub0))) α} {Q : α → sProp 𝕄} :
    iprop(Holds d i comp wcomp fullShare COMP ∗ (∀ COMP' : S130x128.Idx → Elt F .i32,
        ⌜∀ x, (flat x < B → COMP' x = COMP x) ∧ (B ≤ flat x → flat x < B + 16 → COMP' x = (16384#32 : BitVec 32))⌝ -∗ Holds d i comp wcomp fullShare COMP' -∗ WP d i (k ⟨⟩) Q))
      ⊢ WP d i (.op (.assume Ck dec) fun hw => SparseCore.vectorStoreIdx comp ![r, c] v mask false (inb hw.down) hs >>= k) Q := by
  subst hr hc hv hmask
  have hp := fun l => padPos_toNat hv2 (b := b) (by omega) l
  have hck := hCk (rc_inb _ fun l => by rw [hp]; omega)
  have hm : ∀ l, (cmpi .slt (addi (broadcast S16 b) v2) (broadcast S16 16640#32) : IVec S16 1) (ln l) = 1 := by
    intro l
    show IntOp.cmpi .slt ((addi (broadcast S16 b) v2 : IVec S16 32) (ln l)) 16640#32 = 1
    rw [slt_iff (by rw [hp]; omega) (by decide), hp]
    show _ < 16640
    omega
  iintro ⟨H, HK⟩
  iapply (wp_chk d i hck)
  iapply (holds_storeIdx d i wcomp) $$ H
  iintro H
  iapply HK $$ [] H
  ipureintro
  intro x
  constructor
  · intro hx
    refine storeIdx_eq COMP _ _ _ _ x _ (fun l _ hl => ?_) (.inr rfl)
    have := (rc_hits _ x l).1 hl
    rw [hp] at this; omega
  · intro hx hx'
    refine storeIdx_eq COMP _ _ _ _ x _ (fun l _ hl => rfl) (.inl ⟨⟨flat x - B, by omega⟩, hm _, (rc_hits _ x _).2 ?_⟩)
    rw [hp]; simp only; omega

end Pads

section Bin

variable (d : Dev nD) (i : grid0.Coords) (idx : Memref sig .scVector .vmem S16384 .i32) (widx : idx.IsWhole) (comp : Memref sig .scVector .vmem S130x128 .i32) (wcomp : comp.IsWhole)
  {v2 : IVec S16 32} (hv2 : ∀ l : Fin 16, v2 (ln l) = BitVec.ofNat 32 l.val)

/-- One trip of the compaction. -/
def binBody (v2 : IVec S16 32) (lo hi : BitVec 32) (t : BitVec 32) (off : Fin 1 → Nat) (hoff : ∀ a, off a + S16.size a ≤ S16384.size a)
    (C1 : IVec S16 32 → Prop) (dec1 : ∀ w, Decidable (C1 w))
    (inb1 : ∀ w, C1 w → ∀ a x, ((![w] : Fin 1 → IVec S16 32) a x).toNat < S16384.size a)
    (C2 : IVec S16 32 → IVec S16 32 → Prop) (dec2 : ∀ r c, Decidable (C2 r c))
    (inb2 : ∀ r c, C2 r c → ∀ a x, ((![r, c] : Fin 2 → IVec S16 32) a x).toNat < S130x128.size a) (cnt : BitVec 32) :
    Prog (TpuEff nD τ sig (Elt F) Λ₀ (.scVector ((i 0).castLE hcore0) ((i 1).castLE hsub0))) (BitVec 32) :=
  .op (.load idx (Rect.unit (s := S16384) off S16.size hoff).toLoadRect (View.loadsAt_vmem h_S16)) fun (w : Vec F S16 .i32) =>
  .op (.assume (C1 (scanSlot lo hi cnt w)) (dec1 _)) fun hw =>
  SparseCore.vectorStoreIdx idx ![scanSlot lo hi cnt w] w (scanMask lo hi w) false (inb1 _ hw.down) (View.stores_vmem_bits_univ h_S16384 rfl) >>= fun _ =>
  .op (.assume (C2 (rowOf' (scanSlot lo hi cnt w)) (colOf' (scanSlot lo hi cnt w))) (dec2 _ _)) fun hw' =>
  SparseCore.vectorStoreIdx comp ![rowOf' (scanSlot lo hi cnt w), colOf' (scanSlot lo hi cnt w)] (addi (broadcast S16 (Scalar.muli t 16#32)) v2) (scanMask lo hi w) false (inb2 _ _ hw'.down) (View.stores_vmem_bits_univ h_S130x128 rfl) >>= fun _ =>
  .ret (Scalar.addi cnt (extractAt ![15] (scanSum lo hi w) inpos_S16_p15))

variable {IX : S16384.Idx → Elt F .i32}
  {lo hi : BitVec 32} {l0 h0 : ℕ} (hl0 : lo.toNat = l0) (hh0 : hi.toNat = h0) (hl1 : l0 < 2 ^ 31) (hh1 : h0 < 2 ^ 31)
  {C1 : IVec S16 32 → Prop} {dec1 : ∀ w, Decidable (C1 w)}
  {inb1 : ∀ w, C1 w → ∀ a x, ((![w] : Fin 1 → IVec S16 32) a x).toNat < S16384.size a}
  {C2 : IVec S16 32 → IVec S16 32 → Prop} {dec2 : ∀ r c, Decidable (C2 r c)}
  {inb2 : ∀ r c, C2 r c → ∀ a x, ((![r, c] : Fin 2 → IVec S16 32) a x).toNat < S130x128.size a}
  (hC1 : ∀ w, (∀ a x, ((![w] : Fin 1 → IVec S16 32) a x).toNat < S16384.size a) → C1 w)
  (hC2 : ∀ r c, (∀ a x, ((![r, c] : Fin 2 → IVec S16 32) a x).toNat < S130x128.size a) → C2 r c)

/-- The batch entries the tile is to serve. -/
abbrev Mine (IX : S16384.Idx → BitVec 32) (l0 h0 : ℕ) : ℕ → Prop := InWin (natAt IX) l0 h0

/-- The lists once the entries before `n` are compacted. -/
structure Binned (IX : S16384.Idx → BitVec 32) (l0 h0 n : ℕ) (IDX : S16384.Idx → BitVec 32) (COMP : S130x128.Idx → BitVec 32) : Prop where
  mine : ∀ p, p < n → Mine IX l0 h0 p → natAt IDX (Nat.count (Mine IX l0 h0) p) = natAt IX p
  pos : ∀ p, p < n → Mine IX l0 h0 p → ∀ x, flat x = Nat.count (Mine IX l0 h0) p → (COMP x).toNat = p
  rest : ∀ x : S16384.Idx, n ≤ (x 0).val → IDX x = IX x

include hv2 hl0 hh0 hl1 hh1 hC1 hC2 in
theorem wp_binBody {t : BitVec 32} {T : ℕ} (ht : t.toNat = T) (hT : T < 1024) {off : Fin 1 → ℕ} (hoff : ∀ a, off a + S16.size a ≤ S16384.size a) (hoff0 : off 0 = 16 * T)
    {cnt : BitVec 32} (hcnt : cnt.toNat = Nat.count (Mine IX l0 h0) (16 * T)) {IDX : S16384.Idx → Elt F .i32} {COMP : S130x128.Idx → Elt F .i32} (hP : Binned IX l0 h0 (16 * T) IDX COMP) {Q : BitVec 32 → sProp 𝕄} :
    iprop(Holds d i idx widx fullShare IDX ∗ Holds d i comp wcomp fullShare COMP ∗
        (∀ (cnt' : BitVec 32) (IDX' : S16384.Idx → Elt F .i32) (COMP' : S130x128.Idx → Elt F .i32), ⌜cnt'.toNat = Nat.count (Mine IX l0 h0) (16 * T + 16) ∧ Binned IX l0 h0 (16 * T + 16) IDX' COMP'⌝ -∗
          Holds d i idx widx fullShare IDX' -∗ Holds d i comp wcomp fullShare COMP' -∗ Q cnt'))
      ⊢ WP d i (binBody i idx comp v2 lo hi t off hoff C1 dec1 inb1 C2 dec2 inb2 cnt) Q := by
  obtain ⟨w, hwd⟩ : ∃ w : Vec F S16 .i32, w = fun x => IDX ((Rect.unit (s := S16384) off S16.size hoff).toLoadRect.idx x) := ⟨_, rfl⟩
  have hw' : ∀ l : Fin 16, (w (ln l) : BitVec 32).toNat = natAt IX (16 * T + l.val) := by
    intro l
    rw [hwd]
    show (IDX ((Rect.unit (s := S16384) off S16.size hoff).toLoadRect.idx (ln l)) : BitVec 32).toNat = _
    rw [hP.rest _ (by rw [rect16_idx hoff l, hoff0]; omega), natAt_eq, rect16_idx hoff l, hoff0]
  have hm : ∀ l : Fin 16, scanMask lo hi w (ln l) = 1 ↔ Mine IX l0 h0 (16 * T + l.val) := by
    intro l
    rw [scanMask_iff (by omega) (by omega), hw' l, hl0, hh0]
  have hsl := slot_le (Mine IX l0 h0) (16 * T) lo hi w hm cnt hcnt (by omega)
  have hc1 : C1 (scanSlot lo hi cnt w) := by
    refine hC1 _ fun a x => ?_
    obtain rfl : a = 0 := Subsingleton.elim a 0
    rw [eq_ln x]
    have := hsl (x 0)
    have h2 : (x 0).val < 16 := (x 0).isLt
    show (scanSlot lo hi cnt w (ln (x 0))).toNat < 16384
    omega
  have hc2 : C2 (rowOf' (scanSlot lo hi cnt w)) (colOf' (scanSlot lo hi cnt w)) := hC2 _ _ (rc_inb _ fun l => by have := hsl l; omega)
  iintro ⟨H1, H2, HK⟩
  unfold binBody
  iapply (holds_load d i widx) $$ H1
  iintro H1
  rw [← hwd]
  iapply (wp_chk d i hc1)
  iapply (holds_storeIdx d i widx) $$ H1
  iintro H1
  iapply (wp_chk d i hc2)
  iapply (holds_storeIdx d i wcomp) $$ H2
  iintro H2
  iapply (wp_ret_intro d i)
  iapply HK $$ [] H1 H2
  ipureintro
  have hj1 : ∀ (y : S16384.Idx) (l : Fin 16), (∀ a, (y a).val = ((![scanSlot lo hi cnt w] : Fin 1 → IVec S16 32) a (ln l)).toNat) ↔ (scanSlot lo hi cnt w (ln l)).toNat = (y 0).val := by
    intro y l
    constructor
    · intro h; exact (h 0).symm
    · intro h a
      obtain rfl : a = 0 := Subsingleton.elim a 0
      exact h.symm
  refine ⟨count_group (Mine IX l0 h0) (16 * T) lo hi w hm cnt hcnt (by omega), ⟨?_, ?_, ?_⟩⟩
  · intro p hp hpm
    have hle := Nat.count_le (Mine IX l0 h0) (n := p)
    obtain ⟨y, hy⟩ : ∃ y : S16384.Idx, (y 0).val = Nat.count (Mine IX l0 h0) p :=
      ⟨fun a => ⟨Nat.count (Mine IX l0 h0) p, by obtain rfl : a = 0 := Subsingleton.elim a 0; show _ < 16384; omega⟩, rfl⟩
    rw [← hy, ← natAt_eq]
    have hlt := natAt_lt (b := 2 ^ 32) (by decide) (fun x => (IX x : BitVec 32).isLt) p
    have hc : (storeIdx IDX ![scanSlot lo hi cnt w] w (scanMask lo hi w) false (inb1 _ hc1) y : BitVec 32) = BitVec.ofNat 32 (natAt IX p) := by
      refine compact_eq (F := F) (e := .i32) (Mine IX l0 h0) (16 * T) lo hi w hm IDX _ _ _ cnt hcnt (by omega) y (y 0).val (hj1 y) _ ?_ ?_
      · intro l hl hcl
        have e := Nat.count_injective hl hpm (hcl.trans hy)
        apply BitVec.eq_of_toNat_eq
        rw [hw' l, e, BitVec.toNat_ofNat, Nat.mod_eq_of_lt (by omega)]
      · by_cases hpT : p < 16 * T
        · right
          apply BitVec.eq_of_toNat_eq
          rw [natAt_eq, hy, hP.mine p hpT hpm, BitVec.toNat_ofNat, Nat.mod_eq_of_lt (by omega)]
        · left
          exact ⟨⟨p - 16 * T, by omega⟩, by simpa [show 16 * T + (p - 16 * T) = p by omega] using hpm, by simp [show 16 * T + (p - 16 * T) = p by omega, hy]⟩
    rw [hc, BitVec.toNat_ofNat, Nat.mod_eq_of_lt (by omega)]
  · intro p hp hpm x hx
    have hc : (storeIdx COMP ![rowOf' (scanSlot lo hi cnt w), colOf' (scanSlot lo hi cnt w)] (addi (broadcast S16 (Scalar.muli t 16#32)) v2) (scanMask lo hi w) false (inb2 _ _ hc2) x : BitVec 32) = BitVec.ofNat 32 p := by
      refine compact_eq (F := F) (e := .i32) (Mine IX l0 h0) (16 * T) lo hi w hm COMP _ _ _ cnt hcnt (by omega) x (flat x) (rc_hits _ x) _ ?_ ?_
      · intro l hl hcl
        have e := Nat.count_injective hl hpm (hcl.trans hx)
        apply BitVec.eq_of_toNat_eq
        rw [pos_toNat hv2 (by omega) l, ht, e, BitVec.toNat_ofNat, Nat.mod_eq_of_lt (by omega)]
      · by_cases hpT : p < 16 * T
        · right
          apply BitVec.eq_of_toNat_eq
          rw [hP.pos p hpT hpm x hx, BitVec.toNat_ofNat, Nat.mod_eq_of_lt (by omega)]
        · left
          exact ⟨⟨p - 16 * T, by omega⟩, by simpa [show 16 * T + (p - 16 * T) = p by omega] using hpm, by simp [show 16 * T + (p - 16 * T) = p by omega, hx]⟩
    rw [hc, BitVec.toNat_ofNat, Nat.mod_eq_of_lt (by omega)]
  · intro y hy
    refine (compact_eq (F := F) (e := .i32) (Mine IX l0 h0) (16 * T) lo hi w hm IDX _ _ _ cnt hcnt (by omega) y (y 0).val (hj1 y) (IDX y) ?_ (.inr rfl)).trans (hP.rest y (by omega))
    intro l hl hcl
    have := Nat.count_le (Mine IX l0 h0) (n := 16 * T + l.val)
    omega

include hv2 hl0 hh0 hl1 hh1 hC1 hC2 in
theorem wp_binLoop {L : Scf.Loop 32} {hok : L.OK} (hL : L.trips = 1024)
    {off : Fin L.trips → Fin 1 → ℕ} {hoff : ∀ x a, off x a + S16.size a ≤ S16384.size a} (hoff0 : ∀ x, off x 0 = 16 * x.val)
    {body : Fin L.trips → BitVec 32 → Prog (TpuEff nD τ sig (Elt F) Λ₀ (.scVector ((i 0).castLE hcore0) ((i 1).castLE hsub0))) (BitVec 32)}
    (hb : ∀ x y, body x y = binBody i idx comp v2 lo hi (Scf.iv 0#32 1#32 x) (off x) (hoff x) C1 dec1 inb1 C2 dec2 inb2 y)
    {α : Type} {kk : BitVec 32 → Prog (TpuEff nD τ sig (Elt F) Λ₀ (.scVector ((i 0).castLE hcore0) ((i 1).castLE hsub0))) α}
    {COMP : S130x128.Idx → Elt F .i32} {Q : α → sProp 𝕄} :
    iprop(Holds d i idx widx fullShare IX ∗ Holds d i comp wcomp fullShare COMP ∗
        (∀ (cnt' : BitVec 32) (IDX' : S16384.Idx → Elt F .i32) (COMP' : S130x128.Idx → Elt F .i32), ⌜cnt'.toNat = Nat.count (Mine IX l0 h0) 16384 ∧ Binned IX l0 h0 16384 IDX' COMP'⌝ -∗
          Holds d i idx widx fullShare IDX' -∗ Holds d i comp wcomp fullShare COMP' -∗ WP d i (kk cnt') Q))
      ⊢ WP d i (Scf.Loop.for L hok 0#32 body >>= kk) Q := by
  obtain ⟨I, hI⟩ : ∃ I : ℕ → BitVec 32 → sProp 𝕄, ∀ n a, I n a = iprop(∃ (IDX' : S16384.Idx → Elt F .i32) (COMP' : S130x128.Idx → Elt F .i32),
      ⌜a.toNat = Nat.count (Mine IX l0 h0) (16 * n) ∧ Binned IX l0 h0 (16 * n) IDX' COMP'⌝ ∗ Holds d i idx widx fullShare IDX' ∗ Holds d i comp wcomp fullShare COMP') := ⟨_, fun _ _ => rfl⟩
  have hbody : ∀ (x : Fin L.trips) (acc : BitVec 32), I x.val acc ⊢ WP d i (body x acc) (I (x.val + 1)) := by
    intro x acc
    have hx : x.val < 1024 := hL ▸ x.isLt
    rw [hb x acc, hI]
    iintro ⟨%IDX', %COMP', %hP, H1, H2⟩
    iapply (wp_binBody d i idx widx comp wcomp hv2 hl0 hh0 hl1 hh1 hC1 hC2 (T := x.val) (iv_toNat (by omega)) (by omega) (hoff x) (hoff0 x) hP.1 hP.2)
    iframe
    iintro %cnt' %IDX'' %COMP'' %h H1 H2
    rw [hI]
    iexists IDX''
    iexists COMP''
    iframe
    ipureintro; exact h
  iintro ⟨H1, H2, HK⟩
  iapply (wp_loop d i I hbody) $$ [H1 H2]
  · rw [hI]
    iexists IX
    iexists COMP
    iframe
    ipureintro
    exact ⟨by simp, ⟨fun p hp => by omega, fun p hp => by omega, fun _ _ => rfl⟩⟩
  · iintro %acc HI
    icases (Entails.of_eq (hI _ _)) $$ HI with ⟨%IDX', %COMP', %hP, H1, H2⟩
    iapply HK $$ [] H1 H2
    ipureintro
    rw [hL] at hP
    exact hP

end Bin

end Cert.Proof.Stream
-- ==== Proof.Trips.lean ====
/-
  The loops whose trip counts the kernel computes: their counts, and the conditions assumed of them.
-/
module

public import proofs.«01_k».proof.Proof.Bin
public import Idealize.ShloMosaic.Lib.Affine
public import Idealize.ShloMosaic.Lib.LoopRemainder

@[expose] public section

noncomputable section

namespace Cert.Proof.Stream

open Cert.KernelIdeal Cert.KernelIdeal.Gen
open Idealize.ShloMosaic

/-- The loop of `x` trips as it is printed, and its remainder. -/
@[reducible] def mainLoop (x : BitVec 32) : Scf.Loop 32 := ⟨0#32, Scalar.addi 0#32 (Scalar.muli (Scalar.divsi (Scalar.subi x 0#32) 1#32) 1#32), 1#32⟩
@[reducible] def remLoop (x : BitVec 32) : Scf.Loop 32 := ⟨Scalar.addi 0#32 (Scalar.muli (Scalar.divsi (Scalar.subi x 0#32) 1#32) 1#32), Scalar.addi 0#32 (Scalar.subi x 0#32), 1#32⟩

theorem mainLoop_ub (x : BitVec 32) : Scalar.addi 0#32 (Scalar.muli (Scalar.divsi (Scalar.subi x 0#32) 1#32) 1#32) = x := by
  rw [Scalar.muli_divsi_one]
  show 0#32 + (x - 0#32) = x
  simp

theorem isInt_of_toInt {x : BitVec 32} {n : ℕ} (h : x.toInt = n) : Affine.IsInt x n := by
    have e : x = BitVec.ofNat 32 n := by
      apply BitVec.eq_of_toNat_eq
      rw [BitVec.toInt_eq_toNat_cond] at h
      have := x.isLt
      rw [BitVec.toNat_ofNat, Nat.mod_eq_of_lt (by split at h <;> omega)]
      split at h <;> omega
    rw [e]
    exact Affine.ofNat n ⟨rfl, by rw [BitVec.toInt_eq_toNat_cond] at h; have := x.isLt; split at h <;> omega⟩

theorem mainLoop_trips {x : BitVec 32} {n : ℕ} (hx : x.toNat = n) (hn : n < 2 ^ 31) : (mainLoop x).trips = n := by
  show Scf.trips 0#32 (Scalar.addi 0#32 (Scalar.muli (Scalar.divsi (Scalar.subi x 0#32) 1#32) 1#32)) 1#32 = n
  rw [mainLoop_ub]
  have hxi : x.toInt = n := by rw [BitVec.toInt_eq_toNat_cond, hx]; split <;> omega
  exact Affine.trips_eq (Affine.ofNat (e := 0) 0 (by omega)) ((isInt_of_toInt hxi)) (Affine.ofNat (e := 1) 1 (by omega)) n (by omega)

theorem mainLoop_ok {x : BitVec 32} {n : ℕ} (hx : x.toNat = n) (hn : n < 2 ^ 30) : (mainLoop x).OK := by
  show Scf.OK 0#32 (Scalar.addi 0#32 (Scalar.muli (Scalar.divsi (Scalar.subi x 0#32) 1#32) 1#32)) 1#32
  rw [mainLoop_ub]
  have hxi : x.toInt = n := by rw [BitVec.toInt_eq_toNat_cond, hx]; split <;> omega
  exact Affine.ok (Affine.ofNat (e := 0) 0 (by omega)) (isInt_of_toInt hxi) (Affine.ofNat (e := 1) 1 (by omega)) (by omega)

theorem remLoop_trips (x : BitVec 32) : (remLoop x).trips = 0 := Scf.rem_trips _ _
theorem remLoop_ok (x : BitVec 32) : (remLoop x).OK := Scf.rem_ok _ _

/-- The groups of sixteen, and of 128, that `n` words fill. -/
abbrev groups16 (v : BitVec 32) : BitVec 32 := Scalar.shrui (Scalar.addi v 15#32) 4#32
abbrev groups128 (v : BitVec 32) : BitVec 32 := Scalar.shrui (Scalar.addi v 127#32) 7#32

theorem groups16_toNat {v : BitVec 32} (h : v.toNat ≤ 16384) : (groups16 v).toNat = (v.toNat + 15) / 16 := by
  refine (shr4_toNat .scalar _).trans ?_
  show (v + 15#32).toNat / 16 = _
  rw [BitVec.toNat_add, show (15#32 : BitVec 32).toNat = 15 from rfl, Nat.mod_eq_of_lt (by omega)]

theorem groups128_toNat {v : BitVec 32} (h : v.toNat ≤ 16384) : (groups128 v).toNat = (v.toNat + 127) / 128 := by
  refine (shr7_toNat .scalar _).trans ?_
  show (v + 127#32).toNat / 128 = _
  rw [BitVec.toNat_add, show (127#32 : BitVec 32).toNat = 127 from rfl, Nat.mod_eq_of_lt (by omega)]

theorem trips16 {v : BitVec 32} (h : v.toNat ≤ 16384) : (mainLoop (groups16 v)).trips = (v.toNat + 15) / 16 := mainLoop_trips (groups16_toNat h) (by omega)
theorem ok16 {v : BitVec 32} (h : v.toNat ≤ 16384) : (mainLoop (groups16 v)).OK := mainLoop_ok (groups16_toNat h) (by omega)
theorem trips128 {v : BitVec 32} (h : v.toNat ≤ 16384) : (mainLoop (groups128 v)).trips = (v.toNat + 127) / 128 := mainLoop_trips (groups128_toNat h) (by omega)
theorem ok128 {v : BitVec 32} (h : v.toNat ≤ 16384) : (mainLoop (groups128 v)).OK := mainLoop_ok (groups128_toNat h) (by omega)

/-- The offset of trip `t`'s sixteen words. -/
theorem off16 (t : ℕ) (ht : t < 2 ^ 20) : (Scalar.indexCast (Scalar.muli (Scf.iv 0#32 1#32 t) 16#32) : Index).toNat = 16 * t := by
  have e : (Scf.iv 0#32 1#32 t).toNat = t := iv_toNat (by omega)
  show (Scalar.muli (Scf.iv 0#32 1#32 t) 16#32).toNat = _
  show (Scf.iv 0#32 1#32 t * 16#32).toNat = _
  rw [BitVec.toNat_mul, e, show (16#32 : BitVec 32).toNat = 16 from rfl, Nat.mod_eq_of_lt (by omega)]; omega

theorem off128 (t : ℕ) (ht : t < 2 ^ 20) : (Scalar.muli (Scf.iv 0#32 1#32 t) 128#32).toNat = 128 * t := by
  have e : (Scf.iv 0#32 1#32 t).toNat = t := iv_toNat (by omega)
  show (Scf.iv 0#32 1#32 t * 128#32).toNat = _
  rw [BitVec.toNat_mul, e, show (128#32 : BitVec 32).toNat = 128 from rfl, Nat.mod_eq_of_lt (by omega)]; omega

theorem val_lt {n m : ℕ} (h : n = m) (t : Fin n) : t.val < m := lt_of_lt_of_eq t.isLt h
theorem g16_le {a t : ℕ} (h : a ≤ 16384) (ht : t < (a + 15) / 16) : t < 1024 := by omega
theorem g128_le {a t : ℕ} (h : a ≤ 16384) (ht : t < (a + 127) / 128) : t < 128 := by omega
theorem lt20 {t : ℕ} (h : t < 1024) : t < 2 ^ 20 := by omega
theorem lt20' {t : ℕ} (h : t < 128) : t < 2 ^ 20 := by omega
theorem lt31 {t : ℕ} (h : t < 128) : t < 2 ^ 32 := by omega
theorem fits128 {t o : ℕ} (h : t < 128) (ho : o = 128 * t) : o + 128 ≤ 16640 := by omega
theorem fits1 {t o : ℕ} (h : t < 128) (ho : o = t) : o + 1 ≤ 130 := by omega
theorem fits16 {t o : ℕ} (h : t < 1024) (ho : o = 16 * t) : o + 16 ≤ 16384 := by omega

theorem trip_lt {v : BitVec 32} (h : v.toNat ≤ 16384) (t : Fin (mainLoop (groups16 v)).trips) : t.val < 1024 := g16_le h (val_lt (trips16 h) t)
theorem trip_lt128 {v : BitVec 32} (h : v.toNat ≤ 16384) (t : Fin (mainLoop (groups128 v)).trips) : t.val < 128 := g128_le h (val_lt (trips128 h) t)
theorem no_trip {x : BitVec 32} {P : Prop} (t : Fin (remLoop x).trips) : P := absurd (val_lt (remLoop_trips x) t) (Nat.not_lt_zero _)

/-- What is assumed of a list's count before its loop: the loop is meant, its words inside. -/
theorem lift16 {v : BitVec 32} (h : v.toNat ≤ 16384) {off : Fin (mainLoop (groups16 v)).trips → Fin 1 → ℕ} (ho : ∀ t, off t 0 = 16 * t.val) (t : Fin (mainLoop (groups16 v)).trips) (a : Fin 1) :
    off t a + S16.size a ≤ S16384.size a := by
  obtain rfl : a = 0 := Subsingleton.elim a 0
  exact fits16 (trip_lt h t) (ho t)

variable {v : BitVec 32} (h : v.toNat ≤ 16384)
include h

theorem off18_0 (t) : k0_off18 v t 0 = 16 * t.val := off16 _ (lt20 (trip_lt h t))
theorem off30_0 (t) : k0_off30 v t 0 = 16 * t.val := off16 _ (lt20 (trip_lt h t))
theorem off42_0 (t) : k0_off42 v t 0 = 16 * t.val := off16 _ (lt20 (trip_lt h t))
theorem off50_0 (t) : k0_off50 v t 0 = 16 * t.val := off16 _ (lt20 (trip_lt h t))
theorem off54_0 (t) : k0_off54 v t 0 = 16 * t.val := off16 _ (lt20 (trip_lt h t))
theorem off58_0 (t) : k0_off58 v t 0 = 16 * t.val := off16 _ (lt20 (trip_lt h t))
theorem off20_0 (t) : k0_off20 v t 0 = 16 * t.val := off16 _ (lt20 (trip_lt h t))
theorem off32_0 (t) : k0_off32 v t 0 = 16 * t.val := off16 _ (lt20 (trip_lt h t))
theorem off44_0 (t) : k0_off44 v t 0 = 16 * t.val := off16 _ (lt20 (trip_lt h t))
theorem off52_0 (t) : k0_off52 v t 0 = 16 * t.val := off16 _ (lt20 (trip_lt h t))
theorem off56_0 (t) : k0_off56 v t 0 = 16 * t.val := off16 _ (lt20 (trip_lt h t))
theorem off60_0 (t) : k0_off60 v t 0 = 16 * t.val := off16 _ (lt20 (trip_lt h t))
theorem off62_0 (t) : k0_off62 v t 0 = 128 * t.val := off128 _ (lt20' (trip_lt128 h t))
theorem off63_0 (t) : k0_off63 v t 0 = t.val := iv_toNat (lt31 (trip_lt128 h t))
omit h in
theorem off63_1 (t) : k0_off63 v t 1 = 0 := rfl

theorem chk11 (i : grid0.Coords) : k0_chk11 i v :=
  ⟨ok16 h, fun t a => lift16 h (off18_0 h) t a, remLoop_ok _, fun t => no_trip (x := groups16 v) t,
   ok16 h, fun t a => lift16 h (off30_0 h) t a, remLoop_ok _, fun t => no_trip (x := groups16 v) t,
   ok16 h, fun t a => lift16 h (off42_0 h) t a, remLoop_ok _, fun t => no_trip (x := groups16 v) t,
   ok16 h, fun t a => lift16 h (off50_0 h) t a, remLoop_ok _, fun t => no_trip (x := groups16 v) t,
   fun _ => ok16 h, fun t _ a => lift16 h (off54_0 h) t a, fun _ => remLoop_ok _, fun t => no_trip (x := groups16 v) t,
   fun _ => ok16 h, fun t _ a => lift16 h (off58_0 h) t a, fun _ => remLoop_ok _, fun t => no_trip (x := groups16 v) t,
   ok128 h,
   fun t a => by
     obtain rfl : a = 0 := Subsingleton.elim a 0
     exact fits128 (trip_lt128 h t) (off62_0 h t),
   fun t a => match a with
     | ⟨0, _⟩ => fits1 (trip_lt128 h t) (off63_0 h t)
     | ⟨1, _⟩ => Nat.le_refl 128,
   remLoop_ok _, fun t => no_trip (x := groups128 v) t, fun t => no_trip (x := groups128 v) t⟩

theorem chk14 : k0_chk14 v := ⟨ok16 h, fun t a => lift16 h (off20_0 h) t a, remLoop_ok _, fun t => no_trip (x := groups16 v) t⟩
theorem chk83 : k0_chk83 v := ⟨ok16 h, fun t a => lift16 h (off32_0 h) t a, remLoop_ok _, fun t => no_trip (x := groups16 v) t⟩
theorem chk152 : k0_chk152 v := ⟨ok16 h, fun t a => lift16 h (off44_0 h) t a, remLoop_ok _, fun t => no_trip (x := groups16 v) t⟩
theorem chk221 : k0_chk221 v := ⟨ok16 h, fun t a => lift16 h (off52_0 h) t a, remLoop_ok _, fun t => no_trip (x := groups16 v) t⟩
theorem chk290 (i : grid0.Coords) : k0_chk290 i v := ⟨fun _ => ok16 h, fun t _ a => lift16 h (off56_0 h) t a, fun _ => remLoop_ok _, fun t => no_trip (x := groups16 v) t⟩
theorem chk359 (i : grid0.Coords) : k0_chk359 i v := ⟨fun _ => ok16 h, fun t _ a => lift16 h (off60_0 h) t a, fun _ => remLoop_ok _, fun t => no_trip (x := groups16 v) t⟩

end Cert.Proof.Stream
-- ==== Proof.Emit.lean ====
/-
  The last loop of a tile: 128 values at a time it scatters its list into the result. A batch's entries up to the list's
  count go to the tile's own elements; what stands behind the count goes to the one element nobody reads, which all tiles
  write.
-/
module

public import proofs.«01_k».proof.Proof.Rule
public import proofs.«01_k».proof.Proof.Waits
public import proofs.«01_k».proof.Proof.Bin
public import proofs.«01_k».proof.Proof.Trips

@[expose] public section

noncomputable section

namespace Cert.Proof.Stream

open Cert.KernelIdeal Cert.KernelIdeal.Gen
open Idealize.ShloMosaic Idealize.ShloMosaic.SparseCore
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The result, a tile's list of positions, its values, and the user's vector as every tile reads it. -/
abbrev outM : Memref sig .scVector .hbm S16512 .f32 := Memref.whole main_v3_scv
abbrev cpM : Memref sig .scVector .vmem S130x128 .i32 := Memref.whole cc0_scratch6
abbrev vbM : Memref sig .scVector .vmem S16640 .f32 := Memref.whole cc0_scratch7
abbrev ubM : Memref sig .scVector .hbm S32x16 .f32 := Memref.whole main_v1_scv

/-- The result as the scatter names it. -/
abbrev outV : Memref sig .scVector .hbm S16512 .f32 := outM.slice (Rect.unit (s := S16512) ![0] S16512.size inb_S16512_S16512_0) (fun _ => rfl)

/-- The values and the positions of one batch. -/
abbrev vbV (o : Fin 1 → ℕ) (ho : ∀ a, o a + S128.size a ≤ S16640.size a) : Memref sig .scVector .vmem S128 .f32 :=
  vbM.slice (Rect.unit (s := S16640) o S128.size ho) (fun _ => rfl)
abbrev cpV (o : Fin 2 → ℕ) (ho : ∀ a, o a + S1x128.size a ≤ S130x128.size a) : Memref sig .scVector .vmem S128 .i32 :=
  (cpM.slice (Rect.unit (s := S130x128) o S1x128.size ho) (fun _ => rfl)).squeeze S128 squeezes_S1x128_S128

/-- One batch. -/
def emitBody (i : grid0.Coords) (sem : DmaSem sig) (o : Fin 1 → ℕ) (ho : ∀ a, o a + S128.size a ≤ S16640.size a)
    (o2 : Fin 2 → ℕ) (ho2 : ∀ a, o2 a + S1x128.size a ≤ S130x128.size a) :
    Prog (TpuEff nD τ sig (Elt F) Λ₀ (.scVector ((i 0).castLE hcore0) ((i 1).castLE hsub0))) Unit :=
  SparseCore.enqueueIndirectScatter rfl (vbV o ho) outV gathers_S16512_S128 (cpV o2 ho2) rfl sem rfl (Or.inl rfl) >>= fun _ =>
  .op (.waitDma2 sem outV (vbV o ho) (View.wordExact_bits rfl) (View.wordExact_bits rfl)) fun _ => .ret ⟨⟩

/-- The result's elements at one index. -/
def rowSet (n : ℕ) : Finset S16512.Idx := Finset.univ.filter fun x => (x 0).val = n

theorem mem_rowSet {n : ℕ} {x : S16512.Idx} : x ∈ rowSet n ↔ (x 0).val = n := by simp [rowSet]

theorem rowSet_disjoint {n m : ℕ} (h : n ≠ m) : Disjoint (rowSet n) (rowSet m) :=
  Finset.disjoint_left.mpr fun x hx hy => h ((mem_rowSet.mp hx).symm.trans (mem_rowSet.mp hy))

theorem outRow_emb (r : Fin 16512) (y : (S16512.rowShape 0).Idx) :
    (((outV.view.slice (S16512.rowRect 0 r)).emb y : S16512.Idx) 0).val = r.val := by
  have hy : (y (0 : Fin 1)).val < 1 := (y (0 : Fin 1)).isLt
  show 0 + 1 * (r.val + 1 * (y (0 : Fin 1)).val) = r.val
  omega

theorem idx1_ext {x y : S16512.Idx} (h : (x 0).val = (y 0).val) : x = y :=
  funext fun a => match a with | ⟨0, _⟩ => Fin.ext h

theorem outRow_set (r : Fin 16512) : ((outV.view.slice (S16512.rowRect 0 r)).set : Finset S16512.Idx) = rowSet r.val := by
  ext x
  rw [mem_rowSet]
  constructor
  · intro h
    obtain ⟨y, -, rfl⟩ := Finset.mem_map.mp h
    exact outRow_emb r y
  · intro h
    have h0 : ∀ a, 0 < (S16512.rowShape 0).size a := fun a => match a with | ⟨0, _⟩ => Nat.one_pos
    exact Finset.mem_map.mpr ⟨fun a => ⟨0, h0 a⟩, Finset.mem_univ _, idx1_ext ((outRow_emb r _).trans h.symm)⟩

theorem outRow_write (r : Fin 16512) (f : S16512.Idx → Elt F .f32) (w : (S16512.rowShape 0).Idx → Elt F .f32) (x : S16512.Idx) (hx : x ∈ rowSet r.val)
    (v : Elt F .f32) (hw : ∀ y, w y = v) :
    ((outV.view.slice (S16512.rowRect 0 r)).write (Elt F) f w Finset.univ : S16512.Idx → Elt F .f32) x = v := by
  rw [← outRow_set] at hx
  obtain ⟨y, -, rfl⟩ := Finset.mem_map.mp hx
  exact (View.write_emb_of_mem (v := outV.view.slice (S16512.rowRect 0 r)) (Val := Elt F) f w (Finset.mem_univ y)).trans (hw y)

theorem cpV_read (o : Fin 2 → ℕ) (ho) (COMP : S130x128.Idx → Elt F .i32) (x : S128.Idx) :
    ∃ y : S130x128.Idx, flat y = 128 * o 0 + (o 1 + (x 0).val) ∧ (cpV o ho).view.read (Elt F) COMP x = COMP y := by
  refine ⟨(Rect.unit (s := S130x128) o S1x128.size ho).emb (Shape.reshapeEquiv squeezes_S1x128_S128.numel_eq x), ?_, rfl⟩
  have h := Shape.rowMajor_reshapeEquiv (s := S1x128) (s' := S128) squeezes_S1x128_S128.numel_eq x
  have h2 : ((Shape.reshapeEquiv squeezes_S1x128_S128.numel_eq x : S1x128.Idx) 0).val * 128 + ((Shape.reshapeEquiv squeezes_S1x128_S128.numel_eq x : S1x128.Idx) 1).val = (x 0).val :=
    (Shape.rowMajor_val_two (d := ![1, 128]) _).symm.trans (h.trans (Shape.rowMajor_val_one (d := ![128]) x))
  have h3 : ((Shape.reshapeEquiv squeezes_S1x128_S128.numel_eq x : S1x128.Idx) 0).val < 1 := ((Shape.reshapeEquiv squeezes_S1x128_S128.numel_eq x : S1x128.Idx) 0).isLt
  show 128 * (o 0 + 1 * ((Shape.reshapeEquiv squeezes_S1x128_S128.numel_eq x : S1x128.Idx) 0).val) + (o 1 + 1 * ((Shape.reshapeEquiv squeezes_S1x128_S128.numel_eq x : S1x128.Idx) 1).val) = _
  omega

theorem rows_val (c : Thread nD τ) (o2 : Fin 2 → ℕ) (ho2) (COMP : S130x128.Idx → Elt F .i32) (pos : ℕ → ℕ) (h0 : ∀ y, (COMP y : BitVec 32).toNat = pos (flat y))
    (hin : ∀ x, ((cpV o2 ho2).view.read (Elt F) COMP x : BitVec 32).toNat < S16512.size gathers_S16512_S128.axis) (j : Fin 128) :
    ((SparseCore.rows (F := F) (si := S128) (o := S128.size gathers_S16512_S128.axis') ((cpV o2 ho2).view.read (Elt F) COMP) rfl hin j : Fin 16512)).val
      = pos (128 * o2 0 + (o2 1 + j.val)) := by
  obtain ⟨y, hy, he⟩ := cpV_read (F := F) o2 ho2 COMP (S128.rowMajor.symm j)
  have hj : ((S128.rowMajor.symm j : S128.Idx) 0).val = j.val := by
    exact (Shape.rowMajor_val_one (d := ![128]) _).symm.trans (congrArg Fin.val (S128.rowMajor.apply_symm_apply j))
  rw [hj] at hy
  rw [← hy, ← h0 y, ← he]
  rfl

theorem payload_val (c : Thread nD τ) (o : Fin 1 → ℕ) (ho) (VB : S16640.Idx → Elt F .f32) (j : Fin 128) (y : (S16512.rowShape gathers_S16512_S128.axis).Idx) :
    ∃ z : S16640.Idx, (z 0).val = o 0 + j.val
      ∧ (((vbV o ho).slice (S128.rowRect gathers_S16512_S128.axis' j) (S128.stride_rowRect _ _)).cast gathers_S16512_S128.rowShape_eq rfl).view.read (Elt F) VB y = VB z := by
  refine ⟨(Rect.unit (s := S16640) o S128.size ho).emb ((S128.rowRect gathers_S16512_S128.axis' j).emb ((Shape.idxEquiv gathers_S16512_S128.rowShape_eq).symm y)), ?_, rfl⟩
  have hy : (((Shape.idxEquiv gathers_S16512_S128.rowShape_eq).symm y) (0 : Fin 1)).val < 1 :=
    (((Shape.idxEquiv gathers_S16512_S128.rowShape_eq).symm y) (0 : Fin 1)).isLt
  show o 0 + 1 * (j.val + 1 * (((Shape.idxEquiv gathers_S16512_S128.rowShape_eq).symm y) (0 : Fin 1)).val) = _
  omega

theorem sep_swap (A B : sProp 𝕄) : iprop(A ∗ B) = iprop(B ∗ A) :=
  Entails.antisymm (show (iprop(A ∗ B) : sProp 𝕄) ⊢ iprop(B ∗ A) from sep_comm.1) (show (iprop(B ∗ A) : sProp 𝕄) ⊢ iprop(A ∗ B) from sep_comm.1)

/-- An element of the user's vector in the common memory. -/
def ub0 : S32x16.Idx := fun a => match a with | ⟨0, _⟩ => (0 : Fin 32) | ⟨1, _⟩ => (0 : Fin 16)

/-- The share of the user's vector entry `j` shows. -/
abbrev tok (q : PosShare TreeShare) (j : Fin 128) : PosShare TreeShare := Transfers.dealOf q Finset.univ j

section Trip

variable (d : Dev nD) (i : grid0.Coords) {O : CellTallies nD τ sig (HIx 1)} {W : Waits sig (HIx 1)} (hO : ∀ g, O g none = 0)

/-- The place of the result, and of the user's vector in the common memory. -/
abbrev outLoc : Loc nD τ sig := outM.view.loc (TH d i)
abbrev ubLoc : Loc nD τ sig := ubM.view.loc (TH d i)

/-- The unread element's keeper: the element itself at some contents; or, before the call begins, nothing; or, once it
    has ended, the whole of the user's vector, which no tile can give while it holds a share of it. -/
def Keeper (UB : S32x16.Idx → Elt F .f32) : sProp 𝕄 :=
  iprop((∃ f : S16512.Idx → Elt F .f32, outLoc d i ↦[rowSet 16384]{fullShare} f) ∨ (NotBegun ∨ (ubLoc d i ↦[Finset.univ]{fullShare} UB)))

/-- The keeper, as a tile knows it: the call has begun. -/
def Kp (ι : ℕ) (UB : S32x16.Idx → Elt F .f32) : sProp 𝕄 := iprop(inv ι (Keeper d i UB) ∗ Begun)

instance kp_persistent (ι : ℕ) (UB : S32x16.Idx → Elt F .f32) : BI.Persistent (Kp d i ι UB) := by
  unfold Kp; infer_instance

theorem keeper_lends (UB : S32x16.Idx → Elt F .f32) (q : PosShare TreeShare) :
    iprop(Begun ∗ (ubLoc d i ↦[Finset.univ]{q} UB) ∗ (NotBegun ∨ (ubLoc d i ↦[Finset.univ]{fullShare} UB))) ⊢ (⌜False⌝ : sProp 𝕄) := by
  iintro ⟨HB, Ht, (Hn | Hu)⟩
  · iapply (notBegun_begun (F := F))
    isplitl [Hn] <;> iassumption
  · iapply (pointsTo_full_share_false (ℓ := ubLoc d i) (i := ub0) (Finset.mem_univ _) (Finset.mem_univ _)) $$ [Hu Ht]
    isplitl [Hu] <;> iassumption

/-- The elements entry `j` of batch `t` writes for good. -/
def Part (pos : ℕ → ℕ) (m t : ℕ) (j : Fin 128) : Finset S16512.Idx := if 128 * t + j.val < m then rowSet (pos (128 * t + j.val)) else ∅

theorem part_disjoint {pos : ℕ → ℕ} {m : ℕ} (hinj : ∀ p p', p < m → p' < m → pos p = pos p' → p = p') (t : ℕ) (j j' : Fin 128) (h : j ≠ j') :
    Disjoint (Part pos m t j) (Part pos m t j') := by
  unfold Part
  split
  · split
    · rename_i h1 h2
      exact rowSet_disjoint fun e => h (Fin.ext (by have := hinj _ _ h1 h2 e; omega))
    · exact Finset.disjoint_empty_right _
  · exact Finset.disjoint_empty_left _

set_option maxHeartbeats 400000 in
include hO in
/-- One batch of the last loop. -/
theorem wp_emit {Q : Unit → sProp 𝕄} (sem : DmaSem sig) (o : Fin 1 → ℕ) (ho) (o2 : Fin 2 → ℕ) (ho2) (t m : ℕ) (hot : o 0 = 128 * t) (ho20 : o2 0 = t) (ho21 : o2 1 = 0)
    {pos : ℕ → ℕ} {COMP : S130x128.Idx → Elt F .i32} {VB : S16640.Idx → Elt F .f32} {OUT f : S16512.Idx → Elt F .f32} {UB : S32x16.Idx → Elt F .f32} {S : Finset S16512.Idx}
    {q : PosShare TreeShare} {ι : ℕ}
    (h0 : ∀ y, (COMP y : BitVec 32).toNat = pos (flat y)) (hlt : ∀ p, p < m → pos p < 16384) (hdump : ∀ p, m ≤ p → p < m + 128 → pos p = 16384) (ht : 128 * t < m)
    (hinj : ∀ p p', p < m → p' < m → pos p = pos p' → p = p')
    (hval : ∀ (z : S16640.Idx) (x : S16512.Idx), (z 0).val < m → (x 0).val = pos (z 0).val → OUT x = VB z)
    (hS : ∀ p, p < m → rowSet (pos p) ⊆ S) :
    iprop(Kp d i ι UB ∗ (outLoc d i ↦[S]{fullShare} f) ∗ (ubLoc d i ↦[Finset.univ]{q} UB)
        ∗ Holds d i vbM (Memref.isWhole_whole _) fullShare VB ∗ Holds d i cpM (Memref.isWhole_whole _) fullShare COMP
        ∗ semVal (TH d i, SemLoc.dma sem) 0 ∗ Owes d i O W ∗ Levels
        ∗ ((outLoc d i ↦[S]{fullShare} ((Finset.univ.biUnion (Part pos m t)).piecewise OUT f)) -∗ (ubLoc d i ↦[Finset.univ]{q} UB)
            -∗ Holds d i vbM (Memref.isWhole_whole _) fullShare VB -∗ Holds d i cpM (Memref.isWhole_whole _) fullShare COMP
            -∗ semVal (TH d i, SemLoc.dma sem) 0 -∗ Owes d i O W -∗ Q ()))
      ⊢ WP d i (emitBody i sem o ho o2 ho2) Q := by
  classical
  have hin : ∀ x, ((cpV o2 ho2).view.read (Elt F) COMP x : BitVec 32).toNat < S16512.size gathers_S16512_S128.axis := fun x => by
    obtain ⟨y, hy, he⟩ := cpV_read (F := F) o2 ho2 COMP x
    have hx : (x 0).val < 128 := (x 0).isLt
    rw [he, h0 y, hy]
    show pos _ < 16512
    rcases lt_or_ge (128 * o2 0 + (o2 1 + (x 0).val)) m with h | h
    · exact (hlt _ h).trans (by norm_num)
    · rw [hdump _ h (by omega)]; norm_num
  have hr := fun j => rows_val (F := F) (TH d i) o2 ho2 COMP pos h0 hin j
  have hidx : ∀ j : Fin 128, 128 * o2 0 + (o2 1 + j.val) = 128 * t + j.val := fun j => by omega
  let T : Fin 128 → sProp 𝕄 := fun j => iprop((ubLoc d i ↦[Finset.univ]{tok q j} UB) ∗ (outLoc d i ↦[Part pos m t j]{fullShare} OUT))
  have hone : ∀ j : Fin 128, iprop(Kp d i ι UB ∗ ((ubLoc d i ↦[Finset.univ]{tok q j} UB) ∗ (outLoc d i ↦[Part pos m t j]{fullShare} f)))
      ⊢ writeUpdate (TH d i) (outV.view.slice (S16512.rowRect gathers_S16512_S128.axis (SparseCore.rows (F := F) (si := S128) ((cpV o2 ho2).view.read (Elt F) COMP) rfl hin j)))
          (scatterRowPayload (TH d i) (vbV o ho) gathers_S16512_S128 VB j) (T j) := fun j => by
    have hset : ((outV.view.slice (S16512.rowRect gathers_S16512_S128.axis (SparseCore.rows (F := F) (si := S128) ((cpV o2 ho2).view.read (Elt F) COMP) rfl hin j))).set : Finset S16512.Idx)
        = rowSet (pos (128 * t + j.val)) := (outRow_set _).trans (congrArg rowSet ((hr j).trans (congrArg pos (hidx j))))
    by_cases hj : 128 * t + j.val < m
    · have hP : Part pos m t j = rowSet (pos (128 * t + j.val)) := if_pos hj
      have hc : (outLoc d i ↦[rowSet (pos (128 * t + j.val))]{fullShare} OUT : sProp 𝕄)
          = outLoc d i ↦[rowSet (pos (128 * t + j.val))]{fullShare}
              ((outV.view.slice (S16512.rowRect gathers_S16512_S128.axis (SparseCore.rows (F := F) (si := S128) ((cpV o2 ho2).view.read (Elt F) COMP) rfl hin j))).write (Elt F) f
                (scatterRowPayload (TH d i) (vbV o ho) gathers_S16512_S128 VB j) Finset.univ) :=
        pointsTo_congr fun x hx => (outRow_write _ f _ x (mem_rowSet.mpr ((mem_rowSet.mp hx).trans ((hr j).trans (congrArg pos (hidx j))).symm)) (OUT x) fun y => by
          obtain ⟨z, hz, he⟩ := payload_val (F := F) (TH d i) o ho VB j y
          exact he.trans (hval z x (by omega) ((mem_rowSet.mp hx).trans (by rw [hz, hot]))).symm).symm
      have hT : T j = iprop((outLoc d i ↦[rowSet (pos (128 * t + j.val))]{fullShare} ((outV.view.slice (S16512.rowRect gathers_S16512_S128.axis (SparseCore.rows (F := F) (si := S128) ((cpV o2 ho2).view.read (Elt F) COMP) rfl hin j))).write (Elt F) f
                (scatterRowPayload (TH d i) (vbV o ho) gathers_S16512_S128 VB j) Finset.univ)) ∗ (ubLoc d i ↦[Finset.univ]{tok q j} UB)) := by
        rw [← hc, ← hP]
        exact sep_swap _ _
      rw [hT, hP]
      iintro ⟨-, Htok, Hout⟩
      iapply writeUpdate_frame
      isplitl [Hout]
      · iapply (pointsTo_writeUpdate (TH d i) (v := outV.view.slice (S16512.rowRect gathers_S16512_S128.axis (SparseCore.rows (F := F) (si := S128) ((cpV o2 ho2).view.read (Elt F) COMP) rfl hin j)))
          (S := rowSet (pos (128 * t + j.val))) (fd := f) (subset_of_eq hset)) $$ Hout
      · iexact Htok
    · have hP : Part pos m t j = ∅ := if_neg hj
      have hp : pos (128 * t + j.val) = 16384 := hdump _ (by omega) (by omega)
      have hT : T j = iprop((ubLoc d i ↦[Finset.univ]{tok q j} UB) ∗ (outLoc d i ↦[Part pos m t j]{fullShare} f)) := by
        show iprop(_ ∗ _) = _
        rw [hP, pointsTo_empty, pointsTo_empty]
      rw [hT]
      iintro ⟨#Hinv, Htok, Hout⟩
      iapply writeUpdate_frame
      isplitl [Htok]
      · iapply (shared_writeUpdate (TH d i) (v := outV.view.slice (S16512.rowRect gathers_S16512_S128.axis (SparseCore.rows (F := F) (si := S128) ((cpV o2 ho2).view.read (Elt F) COMP) rfl hin j)))
          (S := rowSet 16384) (ι := ι) (R := Begun) (Else := iprop(NotBegun ∨ (ubLoc d i ↦[Finset.univ]{fullShare} UB))) (subset_of_eq (hset.trans (congrArg rowSet hp)))
          (keeper_lends d i UB _)) $$ [Htok]
        isplitr
        · icases (show Kp d i ι UB ⊢ iprop(inv ι (Keeper d i UB) ∗ Begun) from .rfl) $$ Hinv with ⟨#Hk, #Hb⟩
          isplitr
          · iexact Hk
          · iexact Hb
        · iexact Htok
      · iexact Hout
  have hsub : Finset.univ.biUnion (Part pos m t) ⊆ S := Finset.biUnion_subset.mpr fun j _ => by
    unfold Part
    split
    · rename_i h; exact hS _ h
    · exact Finset.empty_subset _
  have hpart : ∀ g : S16512.Idx → Elt F .f32, (outLoc d i ↦[Finset.univ.biUnion (Part pos m t)]{fullShare} g : sProp 𝕄)
      = bigSep Finset.univ fun j : Fin 128 => outLoc d i ↦[Part pos m t j]{fullShare} g := fun g =>
    pointsTo_biUnion _ _ fun j _ j' _ h => part_disjoint hinj t j j' h
  have hN : ∑ j, (outV.slice (S16512.rowRect gathers_S16512_S128.axis (SparseCore.rows (F := F) (si := S128) ((cpV o2 ho2).view.read (Elt F) COMP) rfl hin j)) (S16512.stride_rowRect gathers_S16512_S128.axis _)).view.dmaCredit
      = (vbV o ho).view.dmaCredit :=
    SparseCore.sum_scatterCredit_eq_srcCredit (TH d i) (vbV o ho) outV gathers_S16512_S128 rfl _ (fun _ => rfl) (fun _ => rfl)
  rw [holds_whole, holds_whole]
  unfold emitBody
  have hdeal : (ubLoc d i ↦[Finset.univ]{q} UB : sProp 𝕄) = bigSep Finset.univ fun j : Fin 128 => ubLoc d i ↦[Finset.univ]{tok q j} UB :=
    Transfers.pointsTo_deal Finset.univ ⟨0, Finset.mem_univ _⟩ q
  haveI hst : ∀ j : Fin (S128.size gathers_S16512_S128.axis'), Storable (upEmb : UEmb _ 𝕄) (T j) := fun j => by
    show Storable (upEmb : UEmb _ 𝕄) iprop((ubLoc d i ↦[Finset.univ]{tok q j} UB) ∗ (outLoc d i ↦[Part pos m t j]{fullShare} OUT))
    infer_instance
  iintro ⟨#Hinv, Hout, Hub, Hvb, Hcp, Hv, HO, #Hlv, Hk⟩
  ihave Hvb := (pointsTo_split_subset (I := (vbV o ho).view.set) (Finset.subset_univ _)).1 $$ Hvb
  icases Hvb with ⟨Hvb, Hvb'⟩
  ihave Hcp := (pointsTo_split_subset (I := (cpV o2 ho2).view.set) (Finset.subset_univ _)).1 $$ Hcp
  icases Hcp with ⟨Hcp, Hcp'⟩
  ihave Hout := (pointsTo_split_subset hsub).1 $$ Hout
  icases Hout with ⟨Hout, Hout'⟩
  ihave Hout := (Entails.of_eq (hpart f)) $$ Hout
  ihave Hub := (Entails.of_eq hdeal) $$ Hub
  ihave H1 := Transfers.bigSep_sep_in _ _ _ $$ [Hub Hout]
  · isplitl [Hub] <;> iassumption
  ihave H2 := (Transfers.bigSep_mono_pers Finset.univ _ _ _ fun j _ => hone j) $$ [H1]
  · isplitr
    · iexact Hinv
    · iexact H1
  iapply (wp_scatterUpdates 𝒱₀ (TH d i) none (default : HIx 1) _ (by decide) hin T hN) $$ [Hvb H2 Hcp Hv]
  · isplitl [Hvb]; · iexact Hvb
    isplitl [H2]; · iexact H2
    isplitl [Hcp] <;> iassumption
  iintro HF
  iapply (wp_waitOne d i hO rfl) $$ [HF HO]
  · isplitl [HF]; · iexact HF
    isplitl [HO]; · iexact HO
    iexact Hlv
  iintro ⟨⟨HT, Hvb, Hcp⟩, Hv, HO⟩
  iapply (wp_ret_intro d i)
  ihave HT := (show bigSep (Finset.univ : Finset (Fin (S128.size gathers_S16512_S128.axis'))) T ⊢ _ from Transfers.bigSep_sep_out (Finset.univ : Finset (Fin 128)) (fun j : Fin 128 => (ubLoc d i ↦[Finset.univ]{tok q j} UB : sProp 𝕄)) (fun j => (outLoc d i ↦[Part pos m t j]{fullShare} OUT : sProp 𝕄))) $$ HT
  icases HT with ⟨Hub, Hout⟩
  ihave Hub := (Entails.of_eq hdeal.symm) $$ Hub
  ihave Hout := (Entails.of_eq (hpart OUT).symm) $$ Hout
  ihave Hout := (pointsTo_join_subset (ℓ := outLoc d i) (q := fullShare) (g := OUT) (f := f) hsub) $$ [Hout Hout']
  · isplitl [Hout] <;> iassumption
  ihave Hvb := (pointsTo_split_subset (ℓ := (vbV o ho).view.loc (TH d i)) (I := (vbV o ho).view.set) (Finset.subset_univ _)).2 $$ [Hvb Hvb']
  · isplitl [Hvb] <;> iassumption
  ihave Hcp := (pointsTo_split_subset (ℓ := (cpV o2 ho2).view.loc (TH d i)) (I := (cpV o2 ho2).view.set) (Finset.subset_univ _)).2 $$ [Hcp Hcp']
  · isplitl [Hcp] <;> iassumption
  iapply Hk $$ Hout Hub Hvb Hcp Hv HO

include hO in
/-- The last loop: every batch of the list goes out. -/
theorem wp_emitLoop {α : Type} {Q : α → sProp 𝕄} {sem : DmaSem sig} {m : ℕ} {L L' : Scf.Loop 32} {hok : L.OK} {hok' : L'.OK}
    {body : Fin L.trips → Unit → Prog (TpuEff nD τ sig (Elt F) Λ₀ (.scVector ((i 0).castLE hcore0) ((i 1).castLE hsub0))) Unit}
    {body' : Fin L'.trips → Unit → Prog (TpuEff nD τ sig (Elt F) Λ₀ (.scVector ((i 0).castLE hcore0) ((i 1).castLE hsub0))) Unit}
    {kk : Unit → Prog (TpuEff nD τ sig (Elt F) Λ₀ (.scVector ((i 0).castLE hcore0) ((i 1).castLE hsub0))) α}
    (hL : L.trips = (m + 127) / 128) (hL' : L'.trips = 0)
    {o : Fin L.trips → Fin 1 → ℕ} {ho : ∀ t a, o t a + S128.size a ≤ S16640.size a} {o2 : Fin L.trips → Fin 2 → ℕ} {ho2 : ∀ t a, o2 t a + S1x128.size a ≤ S130x128.size a}
    (hot : ∀ t, o t 0 = 128 * t.val) (ho20 : ∀ t, o2 t 0 = t.val) (ho21 : ∀ t, o2 t 1 = 0)
    (hb : ∀ t u, body t u = emitBody i sem (o t) (ho t) (o2 t) (ho2 t))
    {pos : ℕ → ℕ} {COMP : S130x128.Idx → Elt F .i32} {VB : S16640.Idx → Elt F .f32} {OUT f : S16512.Idx → Elt F .f32} {UB : S32x16.Idx → Elt F .f32} {S : Finset S16512.Idx}
    {q : PosShare TreeShare} {ι : ℕ}
    (h0 : ∀ y, (COMP y : BitVec 32).toNat = pos (flat y)) (hlt : ∀ p, p < m → pos p < 16384) (hdump : ∀ p, m ≤ p → p < m + 128 → pos p = 16384)
    (hinj : ∀ p p', p < m → p' < m → pos p = pos p' → p = p')
    (hval : ∀ (z : S16640.Idx) (x : S16512.Idx), (z 0).val < m → (x 0).val = pos (z 0).val → OUT x = VB z)
    (hS : ∀ p, p < m → rowSet (pos p) ⊆ S) (hcov : ∀ x ∈ S, ∃ p, p < m ∧ (x 0).val = pos p) :
    iprop(Kp d i ι UB ∗ (outLoc d i ↦[S]{fullShare} f) ∗ (ubLoc d i ↦[Finset.univ]{q} UB)
        ∗ Holds d i vbM (Memref.isWhole_whole _) fullShare VB ∗ Holds d i cpM (Memref.isWhole_whole _) fullShare COMP
        ∗ semVal (TH d i, SemLoc.dma sem) 0 ∗ Owes d i O W ∗ Levels
        ∗ ((outLoc d i ↦[S]{fullShare} OUT) -∗ (ubLoc d i ↦[Finset.univ]{q} UB)
            -∗ Holds d i vbM (Memref.isWhole_whole _) fullShare VB -∗ Holds d i cpM (Memref.isWhole_whole _) fullShare COMP
            -∗ semVal (TH d i, SemLoc.dma sem) 0 -∗ Owes d i O W -∗ WP d i (kk ()) Q))
      ⊢ WP d i (Scf.Loop.for L hok () body >>= fun _ => Scf.Loop.for L' hok' () body' >>= kk) Q := by
  classical
  obtain ⟨I, hI⟩ : ∃ I : ℕ → Unit → sProp 𝕄, ∀ n a, I n a = iprop(∃ g : S16512.Idx → Elt F .f32,
      ⌜∀ p, p < m → p < 128 * n → ∀ x ∈ rowSet (pos p), g x = OUT x⌝ ∗ Kp d i ι UB ∗ Levels ∗ (outLoc d i ↦[S]{fullShare} g) ∗ (ubLoc d i ↦[Finset.univ]{q} UB)
        ∗ Holds d i vbM (Memref.isWhole_whole _) fullShare VB ∗ Holds d i cpM (Memref.isWhole_whole _) fullShare COMP
        ∗ semVal (TH d i, SemLoc.dma sem) 0 ∗ Owes d i O W) := ⟨_, fun _ _ => rfl⟩
  have hbody : ∀ (k : Fin L.trips) (acc : Unit), I k.val acc ⊢ WP d i (body k acc) (I (k.val + 1)) := fun k acc => by
    have hk : 128 * k.val < m := by have := lt_of_lt_of_eq k.isLt hL; omega
    rw [hb k acc, hI]
    iintro ⟨%g, %hg, #Hinv, #Hlv, Hout, Hub, Hvb, Hcp, Hv, HO⟩
    iapply (wp_emit d i hO sem (o k) (ho k) (o2 k) (ho2 k) k.val m (hot k) (ho20 k) (ho21 k) h0 hlt hdump hk hinj hval hS)
    isplitr; · iexact Hinv
    isplitl [Hout]; · iexact Hout
    isplitl [Hub]; · iexact Hub
    isplitl [Hvb]; · iexact Hvb
    isplitl [Hcp]; · iexact Hcp
    isplitl [Hv]; · iexact Hv
    isplitl [HO]; · iexact HO
    isplitr; · iexact Hlv
    iintro Hout Hub Hvb Hcp Hv HO
    iapply (Entails.of_eq (hI _ _).symm)
    iexists ((Finset.univ.biUnion (Part pos m k.val)).piecewise OUT g)
    isplitr
    · ipureintro
      intro p hp hpk x hx
      by_cases hmem : x ∈ Finset.univ.biUnion (Part pos m k.val)
      · exact Finset.piecewise_eq_of_mem _ _ _ hmem
      · refine (Finset.piecewise_eq_of_notMem _ _ _ hmem).trans (hg p hp ?_ x hx)
        by_contra hge
        refine hmem (Finset.mem_biUnion.mpr ⟨⟨p - 128 * k.val, by omega⟩, Finset.mem_univ _, ?_⟩)
        have e : 128 * k.val + (p - 128 * k.val) = p := by omega
        unfold Part
        dsimp only
        rw [e, if_pos hp]
        exact hx
    isplitr; · iexact Hinv
    isplitr; · iexact Hlv
    isplitl [Hout]; · iexact Hout
    isplitl [Hub]; · iexact Hub
    isplitl [Hvb]; · iexact Hvb
    isplitl [Hcp]; · iexact Hcp
    isplitl [Hv]; · iexact Hv
    iexact HO
  iintro ⟨#Hinv, Hout, Hub, Hvb, Hcp, Hv, HO, #Hlv, Hk⟩
  iapply (wp_loop d i I hbody) $$ [Hout Hub Hvb Hcp Hv HO]
  · iapply (Entails.of_eq (hI _ _).symm)
    iexists f
    isplitr
    · ipureintro; intro p _ h; exact absurd h (Nat.not_lt_zero _)
    isplitr; · iexact Hinv
    isplitr; · iexact Hlv
    isplitl [Hout]; · iexact Hout
    isplitl [Hub]; · iexact Hub
    isplitl [Hvb]; · iexact Hvb
    isplitl [Hcp]; · iexact Hcp
    isplitl [Hv]; · iexact Hv
    iexact HO
  iintro %acc HI
  icases (Entails.of_eq (hI _ _)) $$ HI with ⟨%g, %hg, -, -, Hout, Hub, Hvb, Hcp, Hv, HO⟩
  have hfin : (outLoc d i ↦[S]{fullShare} g : sProp 𝕄) = outLoc d i ↦[S]{fullShare} OUT :=
    pointsTo_congr fun x hx => by
      obtain ⟨p, hp, hxp⟩ := hcov x hx
      exact hg p hp (by rw [hL]; omega) x (mem_rowSet.mpr hxp)
  ihave Hout := (Entails.of_eq hfin) $$ Hout
  iapply (wp_loop0 d i hL')
  iapply Hk $$ Hout Hub Hvb Hcp Hv HO

end Trip

end Cert.Proof.Stream
-- ==== Proof.Copies.lean ====
/-
  The windows of the table a tile brings into its memory: four copies of eight rows each, on one counter. What is in flight,
  what each copy delivers, and the rules of the copies and of their waits.
-/
module

public import proofs.«01_k».proof.Proof.Waits

@[expose] public section

noncomputable section

namespace Cert.Proof.Stream

open Cert.KernelIdeal Cert.KernelIdeal.Gen
open Idealize.ShloMosaic Idealize.ShloMosaic.SparseCore
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section Whole

variable (d : Dev nD) (i : grid0.Coords) {sp : Space} {s : Shape} {e : EltTy} {m : Memref sig .scVector sp s e} (h : m.IsWhole)

/-- A whole buffer is its pieces. -/
theorem holds_pieces {n : ℕ} (r : Fin n → Rect s) (hr : ∀ p a, (r p).stride a = 1)
    (hd : ∀ p p', p ≠ p' → Disjoint (r p).set (r p').set) (hc : Finset.univ.biUnion (fun p => (r p).set) = Finset.univ) (X : s.Idx → Elt F e) :
    (Holds d i m h fullShare X : sProp 𝕄)
      = bigSep Finset.univ fun p => m.view.loc (TH d i) ↦[(m.slice (r p) (hr p)).view.set]{fullShare} (h.unread X : Buf (Elt F) (m.view.loc (TH d i))) := by
  have h' := h
  obtain ⟨b, rfl, rfl, rfl, hb⟩ := h'; cases hb
  have e1 : ∀ p, ((Memref.whole b).slice (r p) (hr p)).view.set = (r p).set := fun p => View.set_slice_whole b (r p)
  simp only [e1]
  unfold Holds
  rw [← pointsTo_biUnion Finset.univ _ (fun p _ p' _ hpp => hd p p' hpp)]
  exact congrArg (fun S => ((Memref.whole b).view.loc (TH d i) ↦[S]{fullShare} _ : sProp 𝕄)) hc.symm

/-- A copy into a piece leaves it at the contents its source spells out. -/
theorem piece_written (r : Rect s) (hr : ∀ a, r.stride a = 1) (X : s.Idx → Elt F e) (f : Buf (Elt F) (m.view.loc (TH d i))) (w : r.shape.Idx → Elt F e) (hw : ∀ x, w x = X (r.emb x)) :
    (m.view.loc (TH d i) ↦[(m.slice r hr).view.set]{fullShare} ((m.slice r hr).view.write (Elt F) f w Finset.univ : Buf (Elt F) (m.view.loc (TH d i))) : sProp 𝕄)
      = m.view.loc (TH d i) ↦[(m.slice r hr).view.set]{fullShare} (h.unread X : Buf (Elt F) (m.view.loc (TH d i))) := by
  have h' := h
  obtain ⟨b, rfl, rfl, rfl, hb⟩ := h'; cases hb
  refine pointsTo_congr fun y hy => ?_
  obtain ⟨x, -, rfl⟩ := Finset.mem_map.mp hy
  rw [unread_whole]
  exact (View.write_emb_of_mem (v := ((Memref.whole b).slice r hr).view) (Val := Elt F) f w (Finset.mem_univ x)).trans (hw x)

end Whole

abbrev ttM : Memref sig .scVector .hbm S32x1000000 .f32 := Memref.whole main_v2_scv

/-- The rows of one copy in the tile's buffer, and its window of the table. -/
def slabR (p : Fin 4) : Rect S32x512 :=
  Rect.unit (s := S32x512) ![8 * p.val, 0] S8x512.size fun a => match a with
    | ⟨0, _⟩ => by show 8 * p.val + 8 ≤ 32; omega
    | ⟨1, _⟩ => by show 0 + 512 ≤ 512; omega

def winSet (start : ℕ) (p : Fin 4) : Finset S32x1000000.Idx :=
  Finset.univ.filter fun x => (8 * p.val ≤ (x 0).val ∧ (x 0).val < 8 * p.val + 8) ∧ start ≤ (x 1).val ∧ (x 1).val < start + 512

theorem win_set (o : Fin 2 → ℕ) (ho : ∀ a, o a + S8x512.size a ≤ S32x1000000.size a) (start : ℕ) (p : Fin 4) (he : o = ![8 * p.val, start]) :
    ((ttM.slice (Rect.unit (s := S32x1000000) o S8x512.size ho) (fun _ => rfl)).view.set : Finset S32x1000000.Idx) = winSet start p := by
  subst he
  refine (View.set_slice_whole main_v2_scv _).trans ?_
  ext x
  refine (Rect.mem_set_unit (s := S32x1000000)).trans ?_
  simp only [winSet, Finset.mem_filter, Finset.mem_univ, true_and]
  constructor
  · intro h; exact ⟨h 0, h 1⟩
  · rintro ⟨h0, h1⟩ a
    match a with
    | ⟨0, _⟩ => exact h0
    | ⟨1, _⟩ => exact h1

theorem mem_slab {p : Fin 4} {x : S32x512.Idx} : x ∈ (slabR p).set ↔ 8 * p.val ≤ (x 0).val ∧ (x 0).val < 8 * p.val + 8 := by
  refine (Rect.mem_set_unit (s := S32x512)).trans ?_
  constructor
  · intro h; exact h 0
  · intro h a
    match a with
    | ⟨0, _⟩ => exact h
    | ⟨1, _⟩ => exact ⟨Nat.zero_le _, by have : (x 1).val < 512 := (x 1).isLt; show (x 1).val < 0 + 512; omega⟩

theorem slab_disjoint (p p' : Fin 4) (h : p ≠ p') : Disjoint (slabR p).set (slabR p').set := by
  rw [Finset.disjoint_left]
  intro x hx hx'
  have h1 := mem_slab.mp hx
  have h2 := mem_slab.mp hx'
  exact h (Fin.ext (by omega))

theorem slab_cover : Finset.univ.biUnion (fun p => (slabR p).set) = Finset.univ := by
  ext x
  have hx : (x 0).val < 32 := (x 0).isLt
  simp only [Finset.mem_biUnion, Finset.mem_univ, true_and, iff_true]
  exact ⟨⟨(x 0).val / 8, by omega⟩, mem_slab.mpr (by dsimp only; omega)⟩

section Copy

variable (d : Dev nD) (i : grid0.Coords) {O : CellTallies nD τ sig (HIx 1)} {W : Waits sig (HIx 1)} (hO : ∀ g, O g none = 0)
  (tb : Memref sig .scVector .vmem S32x512 .f32) (h : tb.IsWhole) (sem : DmaSem sig) (tab : ℕ → ℕ → F .f32) (TT : S32x1000000.Idx → Elt F .f32)
  (hTT : ∀ x : S32x1000000.Idx, TT x = tab (x 0).val (x 1).val) (q : PosShare TreeShare)

/-- The table's window as the tile's buffer holds it. -/
def tabBuf (start : ℕ) : S32x512.Idx → Elt F .f32 := fun x => tab (x 0).val (start + (x 1).val)

abbrev slabV (p : Fin 4) : Memref sig .scVector .vmem S8x512 .f32 := tb.slice (slabR p) (fun _ => rfl)

abbrev ttLoc : Loc nD τ sig := ttM.view.loc (TH d i)

abbrev Piece (X : S32x512.Idx → Elt F .f32) (p : Fin 4) : sProp 𝕄 :=
  tb.view.loc (TH d i) ↦[(slabV tb p).view.set]{fullShare} (h.unread X : Buf (Elt F) (tb.view.loc (TH d i)))

abbrev tq (p : Fin 4) : PosShare TreeShare := Transfers.dealOf q Finset.univ p

def Del (start : ℕ) (p : Fin 4) : sProp 𝕄 := iprop(Piece d i tb h (tabBuf tab start) p ∗ (ttLoc d i ↦[winSet start p]{tq q p} TT))

instance (start : ℕ) (p : Fin 4) : Storable (upEmb : UEmb _ 𝕄) (Del d i tb h tab TT q start p) := by
  unfold Del; infer_instance

/-- What one copy credits. -/
abbrev slabN : ℕ := (slabV tb 0).view.dmaCredit

/-- `j` of the four copies are issued and `u` waits are done. -/
def Fly (start : ℕ) (X : S32x512.Idx → Elt F .f32) (j u : ℕ) : sProp 𝕄 :=
  iprop(Transfers.Batch countersEmb (TH d i) (.dma sem) (default : HIx 1) (slabN tb) (Del d i tb h tab TT q start) j (u * slabN tb)
    ∗ bigSep (Transfers.pending (n := 4) j) (fun p => iprop(Piece d i tb h X p ∗ (ttLoc d i ↦[Finset.univ]{tq q p} TT)))
    ∗ bigSep (Transfers.issued (m := 4) j) (fun p => (ttLoc d i ↦[Finset.univ \ winSet start p]{tq q p} TT)))

/-- The buffer is the tile's, nothing is in flight. -/
def Idle (X : S32x512.Idx → Elt F .f32) : sProp 𝕄 :=
  iprop(Holds d i tb h fullShare X ∗ (ttLoc d i ↦[Finset.univ]{q} TT) ∗ semVal (TH d i, SemLoc.dma sem) 0)

theorem fly_start (start : ℕ) (X : S32x512.Idx → Elt F .f32) :
    (Idle d i tb h sem TT q X : sProp 𝕄) ⊢ |={Set.univ}=> Fly d i tb h sem tab TT q start X 0 0 := by
  unfold Idle Fly
  rw [Transfers.issued_zero, BI.bigSep_empty, Transfers.pending_zero]
  iintro ⟨H, Ht, Hv⟩
  imod (Transfers.batch_alloc' countersEmb (TH d i) (default : HIx 1) (slabN tb) (Del d i tb h tab TT q start) (E := Set.univ)) $$ Hv with HB
  imodintro
  rw [Nat.zero_mul]
  iframe HB
  ihave H := (Entails.of_eq (holds_pieces d i h slabR (fun _ _ => rfl) slab_disjoint slab_cover X)) $$ H
  ihave Ht := (Entails.of_eq (Transfers.pointsTo_deal (ℓ := ttLoc d i) (S := Finset.univ) (f := TT) (Finset.univ : Finset (Fin 4)) ⟨0, Finset.mem_univ _⟩ q)) $$ Ht
  isplitl
  · iapply (Transfers.bigSep_sep_in (Finset.univ : Finset (Fin 4)) (fun p => Piece d i tb h X p) (fun p => (ttLoc d i ↦[Finset.univ]{tq q p} TT)))
    isplitl [H]; · iexact H
    iexact Ht
  · exact .rfl

variable {α : Type} {sp : Space}
  {k : PUnit → Prog (TpuEff nD τ sig (Elt F) Λ₀ (.scVector ((i 0).castLE hcore0) ((i 1).castLE hsub0))) α}

include hTT in
/-- One of the four copies is issued. -/
theorem wp_copyIn {Q : α → sProp 𝕄} {start : ℕ} {X : S32x512.Idx → Elt F .f32} {u : ℕ} (p : Fin 4) (hu : u ≤ p.val) {o : Fin 2 → ℕ} {ho : ∀ a, o a + S8x512.size a ≤ S32x1000000.size a}
    (he : o = ![8 * p.val, start])
    {hsrc : (ttM.slice (Rect.unit (s := S32x1000000) o S8x512.size ho) (fun _ => rfl)).view.WordExact} {hdst : (slabV tb p).view.WordExact}
    {hsem : DmaTarget.Typed (nD := nD) (p := .scVector ((i 0).castLE hcore0) ((i 1).castLE hsub0)) .hbm (SemLoc.dma sem) (.here (slabV tb p))} :
    Fly d i tb h sem tab TT q start X p.val u
      ⊢ iprop((Fly d i tb h sem tab TT q start X (p.val + 1) u -∗ WP d i (k ⟨⟩) Q)
          -∗ WP d i (.op (.enqueueDma (ttM.slice (Rect.unit (s := S32x1000000) o S8x512.size ho) (fun _ => rfl)) (.here (slabV tb p)) (.dma sem) hsrc hdst hsem) k) Q) := by
  have hset := win_set o ho start p he
  have hD : iprop(((slabV tb p).view.loc (TH d i) ↦[(slabV tb p).view.set]{fullShare}
        ((slabV tb p).view.write (Elt F) (h.unread X : Buf (Elt F) (tb.view.loc (TH d i))) (ReadAs.same.apply ((ttM.slice (Rect.unit (s := S32x1000000) o S8x512.size ho) (fun _ => rfl)).view.read (Elt F) TT)) Finset.univ))
      ∗ ((ttM.slice (Rect.unit (s := S32x1000000) o S8x512.size ho) (fun _ => rfl)).view.loc (TH d i) ↦[(ttM.slice (Rect.unit (s := S32x1000000) o S8x512.size ho) (fun _ => rfl)).view.set]{tq q p} TT))
      ⊢ (Del d i tb h tab TT q start p : sProp 𝕄) := by
    unfold Del
    refine sep_mono (Entails.of_eq (piece_written d i h (slabR p) (fun _ => rfl) (tabBuf tab start) _ _ ?_)) (Entails.of_eq (by rw [hset]))
    intro x
    refine (hTT _).trans ?_
    subst he
    have h0 : (x 0).val = (x 0).val := rfl
    show tab (8 * p.val + 1 * (x 0).val) (start + 1 * (x 1).val) = tab (8 * p.val + 1 * (x 0).val) (start + (0 + 1 * (x 1).val))
    rw [Nat.zero_add]
  have rule := Transfers.wp_dmaBatch (defs := defs₀ (F := F)) (Q := Q) (k := k) (bd := none) (via := .same) countersEmb 𝒱₀ (TH d i) (default : HIx 1) (slabN tb)
    (src := ttM.slice (Rect.unit (s := S32x1000000) o S8x512.size ho) (fun _ => rfl)) (dst := slabV tb p) (sm := .dma sem) (hsrc := hsrc) (hdst := hdst) (hsem := hsem)
    (q := tq q p) (fs := TT) (Sd := (slabV tb p).view.set) (fd := (h.unread X : Buf (Elt F) (tb.view.loc (TH d i)))) (D := Del d i tb h tab TT q start) (j := p.val) (u := u * slabN tb)
    rfl (Finset.Subset.refl _) p.isLt (Nat.mul_le_mul_right _ hu) hD
  have e1 : (bigSep (Transfers.pending (n := 4) p.val) (fun p => iprop(Piece d i tb h X p ∗ (ttLoc d i ↦[Finset.univ]{tq q p} TT))) : sProp 𝕄)
      = iprop((Piece d i tb h X p ∗ (ttLoc d i ↦[Finset.univ]{tq q p} TT)) ∗ bigSep (Transfers.pending (n := 4) (p.val + 1)) (fun p => iprop(Piece d i tb h X p ∗ (ttLoc d i ↦[Finset.univ]{tq q p} TT)))) := by
    rw [Transfers.pending_succ p.isLt, BI.bigSep_insert (Transfers.not_mem_pending_succ p.isLt)]; rfl
  have e2 : (bigSep (Transfers.issued (m := 4) (p.val + 1)) (fun p => (ttLoc d i ↦[Finset.univ \ winSet start p]{tq q p} TT)) : sProp 𝕄)
      = iprop((ttLoc d i ↦[Finset.univ \ winSet start p]{tq q p} TT) ∗ bigSep (Transfers.issued (m := 4) p.val) (fun p => (ttLoc d i ↦[Finset.univ \ winSet start p]{tq q p} TT))) := by
    rw [Transfers.issued_succ p.isLt, BI.bigSep_insert (Transfers.not_mem_issued p.isLt)]; rfl
  unfold Fly
  rw [e1, e2]
  iintro ⟨HB, ⟨⟨Hp, Ht⟩, Hpend⟩, Hiss⟩ Hk
  icases (pointsTo_split_subset (ℓ := ttLoc d i) (I := winSet start p) (S := Finset.univ) (q := tq q p) (f := TT) (Finset.subset_univ _)).1 $$ Ht with ⟨Hw, Hr⟩
  iapply rule $$ [HB Hp Hw]
  · isplitl [Hw]; · iapply (Entails.of_eq (by rw [hset])) $$ Hw
    isplitl [Hp]; · iexact Hp
    iexact HB
  iintro HB
  iapply Hk
  isplitl [HB]; · iexact HB
  isplitl [Hpend]; · iexact Hpend
  isplitl [Hr]; · iexact Hr
  iexact Hiss

include hO in
/-- A wait that is not the last. -/
theorem wp_copyWait {Q : α → sProp 𝕄} {start : ℕ} {X : S32x512.Idx → Elt F .f32} {u : ℕ} (p : Fin 4) (hu : u < 3)
    {sp' : Space} {s' : Shape} {e' : EltTy} {srcw : Memref sig .scVector sp' s' e'} {hsrc : srcw.view.WordExact} {hdst : (slabV tb p).view.WordExact} :
    iprop(Fly d i tb h sem tab TT q start X 4 u ∗ Owes d i O W ∗ Levels)
      ⊢ iprop((Fly d i tb h sem tab TT q start X 4 (u + 1) -∗ Owes d i O W -∗ WP d i (k ⟨⟩) Q)
          -∗ WP d i (.op (.waitDma2 sem srcw (slabV tb p) hsrc hdst) k) Q) := by
  have hN0 : 0 < slabN tb := View.dmaCredit_pos _ (by decide)
  have rule := wp_waitSome d i (W := W) hO (Q := Q) (k := k) (sem := sem) (srcw := srcw) (dstw := slabV tb p) (hsrc := hsrc) (hdst := hdst) (N := slabN tb) (n := 4) (u := u * slabN tb)
    (R := Del d i tb h tab TT q start) rfl (by have : (u + 1) * slabN tb < 4 * slabN tb := Nat.mul_lt_mul_of_pos_right (by omega) hN0
                                               rw [Nat.add_mul, Nat.one_mul] at this; rwa [Nat.mul_comm (slabN tb) 4])
  have e : u * slabN tb + slabN tb = (u + 1) * slabN tb := by rw [Nat.add_mul, Nat.one_mul]
  rw [e] at rule
  unfold Fly
  iintro ⟨⟨HB, H1, H2⟩, HO, #Hlv⟩ Hk
  iapply rule $$ [HB HO]
  · isplitl [HB]; · iexact HB
    isplitl [HO]; · iexact HO
    iexact Hlv
  iintro ⟨HB, HO⟩
  iapply Hk $$ [HB H1 H2] HO
  isplitl [HB]; · iexact HB
  isplitl [H1]; · iexact H1
  iexact H2

include hO in
/-- The last wait: the buffer holds the window, and everything lent is back. -/
theorem wp_copyWaitLast {Q : α → sProp 𝕄} {start : ℕ} {X : S32x512.Idx → Elt F .f32} (p : Fin 4)
    {sp' : Space} {s' : Shape} {e' : EltTy} {srcw : Memref sig .scVector sp' s' e'} {hsrc : srcw.view.WordExact} {hdst : (slabV tb p).view.WordExact} :
    iprop(Fly d i tb h sem tab TT q start X 4 3 ∗ Owes d i O W ∗ Levels)
      ⊢ iprop((Idle d i tb h sem TT q (tabBuf tab start) -∗ Owes d i O W -∗ WP d i (k ⟨⟩) Q)
          -∗ WP d i (.op (.waitDma2 sem srcw (slabV tb p) hsrc hdst) k) Q) := by
  have hN0 : 0 < slabN tb := View.dmaCredit_pos _ (by decide)
  have rule := wp_waitLast d i (W := W) hO (Q := Q) (k := k) (sem := sem) (srcw := srcw) (dstw := slabV tb p) (hsrc := hsrc) (hdst := hdst) (N := slabN tb) (n := 4) (u := 3 * slabN tb)
    (R := Del d i tb h tab TT q start) rfl hN0 (by omega)
  have hback : iprop(bigSep Finset.univ (Del d i tb h tab TT q start) ∗ bigSep (Transfers.issued (m := 4) 4) (fun p => (ttLoc d i ↦[Finset.univ \ winSet start p]{tq q p} TT)))
      ⊢ (iprop(Holds d i tb h fullShare (tabBuf tab start) ∗ (ttLoc d i ↦[Finset.univ]{q} TT)) : sProp 𝕄) := by
    rw [Transfers.issued_all rfl]
    unfold Del
    iintro ⟨HD, HR⟩
    icases (Transfers.bigSep_sep_out (Finset.univ : Finset (Fin 4)) (fun p => Piece d i tb h (tabBuf tab start) p) (fun p => (ttLoc d i ↦[winSet start p]{tq q p} TT))) $$ HD with ⟨HP, HW⟩
    isplitl [HP]
    · iapply (Entails.of_eq (holds_pieces d i h slabR (fun _ _ => rfl) slab_disjoint slab_cover (tabBuf tab start)).symm)
      iexact HP
    · iapply (Entails.of_eq (Transfers.pointsTo_deal (ℓ := ttLoc d i) (S := Finset.univ) (f := TT) (Finset.univ : Finset (Fin 4)) ⟨0, Finset.mem_univ _⟩ q).symm)
      iapply (show bigSep (Finset.univ : Finset (Fin 4)) (fun p => iprop((ttLoc d i ↦[winSet start p]{tq q p} TT) ∗ (ttLoc d i ↦[Finset.univ \ winSet start p]{tq q p} TT)))
          ⊢ (bigSep (Finset.univ : Finset (Fin 4)) (fun p => (ttLoc d i ↦[Finset.univ]{tq q p} TT)) : sProp 𝕄) from
        Entails.of_eq (congrArg (bigSep (Finset.univ : Finset (Fin 4))) (funext fun p => Entails.antisymm
          (pointsTo_split_subset (ℓ := ttLoc d i) (I := winSet start p) (S := Finset.univ) (q := tq q p) (f := TT) (Finset.subset_univ _)).2
          (pointsTo_split_subset (ℓ := ttLoc d i) (I := winSet start p) (S := Finset.univ) (q := tq q p) (f := TT) (Finset.subset_univ _)).1)))
      iapply (Transfers.bigSep_sep_in (Finset.univ : Finset (Fin 4)) (fun p => (ttLoc d i ↦[winSet start p]{tq q p} TT)) (fun p => (ttLoc d i ↦[Finset.univ \ winSet start p]{tq q p} TT)))
      isplitl [HW]; · iexact HW
      iexact HR
  unfold Fly Idle
  iintro ⟨⟨HB, H1, H2⟩, HO, #Hlv⟩ Hk
  iapply rule $$ [HB HO]
  · isplitl [HB]; · iexact HB
    isplitl [HO]; · iexact HO
    iexact Hlv
  iintro ⟨HD, Hv, HO⟩
  icases hback $$ [HD H2] with ⟨Hh, Ht⟩
  · isplitl [HD]; · iexact HD
    iexact H2
  iapply Hk $$ [Hh Ht Hv] HO
  isplitl [Hh]; · iexact Hh
  isplitl [Ht]; · iexact Ht
  iexact Hv

end Copy

section Fetch

variable (d : Dev nD) (i : grid0.Coords) {O : CellTallies nD τ sig (HIx 1)} {W : Waits sig (HIx 1)} (hO : ∀ g, O g none = 0)

theorem whole_written {sp : Space} {s : Shape} {e : EltTy} {m : Memref sig .scVector sp s e} (h : m.IsWhole) (X Y : s.Idx → Elt F e) :
    m.view.write (Elt F) (h.unread X) Y Finset.univ = h.unread Y := by
  have h' := h
  obtain ⟨b, rfl, rfl, rfl, hb⟩ := h'; cases hb
  rw [unread_whole, unread_whole]
  simp only [Memref.view_whole, View.write_whole_univ]

theorem whole_set {sp : Space} {s : Shape} {e : EltTy} {m : Memref sig .scVector sp s e} (h : m.IsWhole) : m.view.set = Finset.univ := by
  obtain ⟨b, rfl, rfl, rfl, hb⟩ := h; cases hb
  simp only [Memref.view_whole, View.set_whole]

include hO in
/-- A copy into a whole buffer and its wait. -/
theorem wp_fetch {α : Type} {Q : α → sProp 𝕄} {sp : Space} {s : Shape} {e : EltTy} {src : Memref sig .scVector sp s e} {dst : Memref sig .scVector .vmem s e} (h : dst.IsWhole) (hn : 0 < s.numel)
    {sem : DmaSem sig} {q : PosShare TreeShare} {fs : Buf (Elt F) (src.view.loc (TH d i))} {X : s.Idx → Elt F e}
    {sp' : Space} {s' : Shape} {e' : EltTy} {srcw : Memref sig .scVector sp' s' e'} {hsrc : src.view.WordExact} {hdst : dst.view.WordExact} {hsrcw : srcw.view.WordExact} {hdstw : dst.view.WordExact}
    {hsem : DmaTarget.Typed (nD := nD) (p := .scVector ((i 0).castLE hcore0) ((i 1).castLE hsub0)) sp (SemLoc.dma sem) (.here dst)}
    {k : Unit → Prog (TpuEff nD τ sig (Elt F) Λ₀ (.scVector ((i 0).castLE hcore0) ((i 1).castLE hsub0))) α} :
    iprop((src.view.loc (TH d i) ↦[src.view.set]{q} fs) ∗ Holds d i dst h fullShare X ∗ semVal (TH d i, SemLoc.dma sem) 0 ∗ Owes d i O W ∗ Levels)
      ⊢ iprop(((src.view.loc (TH d i) ↦[src.view.set]{q} fs) -∗ Holds d i dst h fullShare (src.view.read (Elt F) fs) -∗ semVal (TH d i, SemLoc.dma sem) 0 -∗ Owes d i O W -∗ WP d i (k ⟨⟩) Q)
          -∗ WP d i (.op (.enqueueDma src (.here dst) (.dma sem) hsrc hdst hsem) fun _ => .op (.waitDma2 sem srcw dst hsrcw hdstw) k) Q) := by
  obtain ⟨D, hDe⟩ : ∃ D : Fin 1 → sProp 𝕄, D = fun _ => iprop(Holds d i dst h fullShare (src.view.read (Elt F) fs) ∗ (src.view.loc (TH d i) ↦[src.view.set]{q} fs)) := ⟨_, rfl⟩
  haveI : ∀ j, Storable (upEmb : UEmb _ 𝕄) (D j) := fun j => by rw [hDe]; unfold Holds; infer_instance
  have hD : iprop((dst.view.loc (TH d i) ↦[Finset.univ]{fullShare} (dst.view.write (Elt F) (h.unread X : Buf (Elt F) (dst.view.loc (TH d i))) (ReadAs.same.apply (src.view.read (Elt F) fs)) Finset.univ))
      ∗ (src.view.loc (TH d i) ↦[src.view.set]{q} fs)) ⊢ D ⟨0, Nat.one_pos⟩ := by
    rw [hDe]
    refine sep_mono (Entails.of_eq ?_) .rfl
    unfold Holds
    exact congrArg (fun f => (dst.view.loc (TH d i) ↦[Finset.univ]{fullShare} f : sProp 𝕄)) (whole_written h X (src.view.read (Elt F) fs))
  have hN0 : 0 < dst.view.dmaCredit := View.dmaCredit_pos _ hn
  have rule := Transfers.wp_dmaBatch (defs := defs₀ (F := F)) (Q := Q) (k := fun _ => .op (.waitDma2 sem srcw dst hsrcw hdstw) k) (bd := none) (via := .same) countersEmb 𝒱₀ (TH d i) (default : HIx 1) dst.view.dmaCredit
    (src := src) (dst := dst) (sm := .dma sem) (hsrc := hsrc) (hdst := hdst) (hsem := hsem)
    (q := q) (fs := fs) (Sd := Finset.univ) (fd := (h.unread X : Buf (Elt F) (dst.view.loc (TH d i)))) (D := D) (j := 0) (u := 0)
    rfl (Finset.subset_univ _) Nat.one_pos (Nat.zero_le _) hD
  have rule2 := wp_waitLast d i (W := W) hO (Q := Q) (k := k) (sem := sem) (srcw := srcw) (dstw := dst) (hsrc := hsrcw) (hdst := hdstw) (N := dst.view.dmaCredit) (n := 1) (u := 0)
    (R := D) rfl hN0 (by omega)
  iintro ⟨Hs, Hd, Hv, HO, #Hlv⟩ Hk
  imod (Transfers.batch_alloc' countersEmb (TH d i) (default : HIx 1) dst.view.dmaCredit D (E := Set.univ)) $$ Hv with HB
  iapply rule $$ [HB Hs Hd]
  · isplitl [Hs]; · iexact Hs
    isplitl [Hd]
    · iapply (show (Holds d i dst h fullShare X : sProp 𝕄) ⊢ (dst.view.loc (TH d i) ↦[Finset.univ]{fullShare} (h.unread X : Buf (Elt F) (dst.view.loc (TH d i)))) from .rfl)
      iexact Hd
    iexact HB
  iintro HB
  iapply rule2 $$ [HB HO]
  · isplitl [HB]; · iexact HB
    isplitl [HO]; · iexact HO
    iexact Hlv
  iintro ⟨HD, Hv, HO⟩
  have e : bigSep (Finset.univ : Finset (Fin 1)) D = iprop(Holds d i dst h fullShare (src.view.read (Elt F) fs) ∗ (src.view.loc (TH d i) ↦[src.view.set]{q} fs)) := by
    have : (Finset.univ : Finset (Fin 1)) = {0} := rfl
    rw [this, BI.bigSep_singleton, hDe]
  icases (Entails.of_eq e) $$ HD with ⟨Hd, Hs⟩
  iapply Hk $$ Hs Hd Hv HO

end Fetch

end Cert.Proof.Stream
-- ==== Proof.Process.lean ====
/-
  One window of the table worked through: the tile's items of the window are listed, and every listed item's product is put
  in its slot. After it the slots of all the items before the window's end hold their products.
-/
module

public import proofs.«01_k».proof.Proof.Emit
public import proofs.«01_k».proof.Proof.Copies

@[expose] public section

noncomputable section

namespace Cert.Proof.Stream

open Cert.KernelIdeal Cert.KernelIdeal.Gen
open Idealize.ShloMosaic Idealize.ShloMosaic.SparseCore
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- A tile's indices, its list of a window, and the user's vector in its memory. -/
abbrev iaM : Memref sig .scVector .vmem S16384 .i32 := Memref.whole cc0_scratch4
abbrev prM : Memref sig .scVector .vmem S16384 .i32 := Memref.whole cc0_scratch5
abbrev uM : Memref sig .scVector .vmem S32x16 .f32 := Memref.whole cc0_scratch8

section Step

variable (d : Dev nD) (i : grid0.Coords) (tab : ℕ → ℕ → F .f32) (uu : ℕ → F .f32) (raw : ℕ → ℕ) (IDX : S16384.Idx → Elt F .i32) (U : S32x16.Idx → Elt F .f32) (nv lo : ℕ)

/-- The slots of the items from `lo` up to `e` hold their products. -/
def Good (e : ℕ) (VB : S16640.Idx → Elt F .f32) : Prop :=
  ∀ x : S16640.Idx, (x 0).val < 16 * nv → lo ≤ raw (x 0).val → raw (x 0).val < e → VB x = dotVal tab uu (raw (x 0).val)

def Work (e : ℕ) : sProp 𝕄 :=
  iprop(∃ (PROC : S16384.Idx → Elt F .i32) (VB : S16640.Idx → Elt F .f32), ⌜Good tab uu raw nv lo e VB⌝
    ∗ Holds d i iaM (Memref.isWhole_whole _) fullShare IDX ∗ Holds d i prM (Memref.isWhole_whole _) fullShare PROC
    ∗ Holds d i uM (Memref.isWhole_whole _) fullShare U ∗ Holds d i vbM (Memref.isWhole_whole _) fullShare VB)

/-- The window `[s0, s0 + W)` is listed: `c` entries. -/
def Mid (s0 W : ℕ) (c : BitVec 32) : sProp 𝕄 :=
  iprop(∃ (PROC : S16384.Idx → Elt F .i32) (VB : S16640.Idx → Elt F .f32),
    ⌜Good tab uu raw nv lo s0 VB ∧ c.toNat = Nat.count (InWin raw s0 (s0 + W)) (16 * nv) ∧ Listed raw s0 (s0 + W) (16 * nv) PROC⌝
    ∗ Holds d i iaM (Memref.isWhole_whole _) fullShare IDX ∗ Holds d i prM (Memref.isWhole_whole _) fullShare PROC
    ∗ Holds d i uM (Memref.isWhole_whole _) fullShare U ∗ Holds d i vbM (Memref.isWhole_whole _) fullShare VB)

variable {tab uu raw IDX U nv lo}
variable {v2 : IVec S16 32} (hv2 : ∀ l : Fin 16, v2 (ln l) = BitVec.ofNat 32 l.val) (hnv : nv ≤ 1024)

include hv2 hnv in
/-- The window's items are listed. -/
theorem wp_list (hIDX : ∀ x : S16384.Idx, (IDX x : BitVec 32).toNat = raw (x 0).val)
    {start lim : BitVec 32} {s0 W : ℕ} (hs0 : start.toNat = s0) (hl0 : lim.toNat = s0 + W) (hW : W ≤ 512) (hl1 : s0 + W < 2 ^ 31)
    {Cs : IVec S16 32 → Prop} {decs : ∀ w, Decidable (Cs w)}
    {inbs : ∀ w, Cs w → ∀ a x, ((![w] : Fin 1 → IVec S16 32) a x).toNat < S16384.size a}
    (hCs : ∀ w, (∀ a x, ((![w] : Fin 1 → IVec S16 32) a x).toNat < S16384.size a) → Cs w)
    {L L' : Scf.Loop 32} {hok : L.OK} {hok' : L'.OK} (hL : L.trips = nv) (hL' : L'.trips = 0)
    {off : Fin L.trips → Fin 1 → ℕ} {hoff : ∀ x a, off x a + S16.size a ≤ S16384.size a} (hoff0 : ∀ x, off x 0 = 16 * x.val)
    {body : Fin L.trips → BitVec 32 → Prog (TpuEff nD τ sig (Elt F) Λ₀ (.scVector ((i 0).castLE hcore0) ((i 1).castLE hsub0))) (BitVec 32)}
    (hb : ∀ x y, body x y = scanBody i iaM prM v2 start lim (Scf.iv 0#32 1#32 x) (off x) (hoff x) Cs decs inbs y)
    {body' : Fin L'.trips → BitVec 32 → Prog (TpuEff nD τ sig (Elt F) Λ₀ (.scVector ((i 0).castLE hcore0) ((i 1).castLE hsub0))) (BitVec 32)}
    {α : Type} {kk : BitVec 32 → Prog (TpuEff nD τ sig (Elt F) Λ₀ (.scVector ((i 0).castLE hcore0) ((i 1).castLE hsub0))) α} {Q : α → sProp 𝕄} :
    Work d i tab uu raw IDX U nv lo s0
      ⊢ iprop((∀ c : BitVec 32, ⌜c.toNat ≤ 16384⌝ -∗ Mid d i tab uu raw IDX U nv lo s0 W c -∗ WP d i (kk c) Q)
        -∗ WP d i (Scf.Loop.for L hok 0#32 body >>= fun v => Scf.Loop.for L' hok' v body' >>= kk) Q) := by
  unfold Work Mid
  iintro ⟨%PROC, %VB, %hG, H1, H2, H3, H4⟩ HK
  iapply (wp_scanLoop d i iaM (Memref.isWhole_whole _) prM (Memref.isWhole_whole _) hv2 hIDX hs0 hl0 (by omega) hl1 (by omega) hCs hnv hL hL' hoff0 hb)
  isplitl [H1]; · iexact H1
  isplitl [H2]; · iexact H2
  iintro %c %PROC' %hc H1 H2
  have hcle : c.toNat ≤ 16384 := by
    rw [hc.1]
    have := Nat.count_le (InWin raw s0 (s0 + W)) (n := 16 * nv)
    omega
  iapply HK $$ %c %hcle
  iexists PROC', VB
  isplitr
  · ipureintro; exact ⟨hG, hc.1, hc.2⟩
  isplitl [H1]; · iexact H1
  isplitl [H2]; · iexact H2
  isplitl [H3]; · iexact H3
  iexact H4

include hv2 hnv in
/-- The listed items' products are put in their slots. -/
theorem wp_dots (W : ℕ) (hW : 0 < W ∧ W ≤ 512) {tb : Memref sig .scVector .vmem (SW W) .f32} (wtb : tb.IsWhole) (htb : 0 < (SW W).numel) {TB : (SW W).Idx → Elt F .f32} {s0 : ℕ}
    (hTB : IsTab W TB fun j c => tab j (s0 + c)) (hU : IsVec U uu)
    {cnt : BitVec 32} (hcnt : cnt.toNat ≤ 16384)
    {Ck : IVec S16 32 → IVec S16 32 → Prop} {dec : ∀ v w, Decidable (Ck v w)}
    {inb : ∀ v w, Ck v w → ∀ a x, ((![w, v] : Fin 2 → IVec S16 32) a x).toNat < (SW W).size a}
    {Cs : IVec S16 32 → Prop} {decs : ∀ w, Decidable (Cs w)}
    {inbs : ∀ w, Cs w → ∀ a x, ((![w] : Fin 1 → IVec S16 32) a x).toNat < S16640.size a}
    (hCk : ∀ v w, (∀ a x, ((![w, v] : Fin 2 → IVec S16 32) a x).toNat < (SW W).size a) → Ck v w)
    (hCs : ∀ w, (∀ a x, ((![w] : Fin 1 → IVec S16 32) a x).toNat < S16640.size a) → Cs w)
    {L L' : Scf.Loop 32} {hok : L.OK} {hok' : L'.OK} (hL : L.trips = (cnt.toNat + 15) / 16) (hL' : L'.trips = 0)
    {off : Fin L.trips → Fin 1 → ℕ} {hoff : ∀ x a, off x a + S16.size a ≤ S16384.size a} (hoff0 : ∀ x, off x 0 = 16 * x.val)
    {body : Fin L.trips → Unit → Prog (TpuEff nD τ sig (Elt F) Λ₀ (.scVector ((i 0).castLE hcore0) ((i 1).castLE hsub0))) Unit}
    (hb : ∀ x y, body x y = dotBody i W tb htb uM prM vbM v2 cnt (Scf.iv 0#32 1#32 x) (off x) (hoff x) Ck dec inb Cs decs inbs)
    {body' : Fin L'.trips → Unit → Prog (TpuEff nD τ sig (Elt F) Λ₀ (.scVector ((i 0).castLE hcore0) ((i 1).castLE hsub0))) Unit}
    {α : Type} {kk : Unit → Prog (TpuEff nD τ sig (Elt F) Λ₀ (.scVector ((i 0).castLE hcore0) ((i 1).castLE hsub0))) α} {Q : α → sProp 𝕄} :
    iprop(Holds d i tb wtb fullShare TB ∗ Mid d i tab uu raw IDX U nv lo s0 W cnt)
      ⊢ iprop((Holds d i tb wtb fullShare TB -∗ Work d i tab uu raw IDX U nv lo (s0 + W) -∗ WP d i (kk ⟨⟩) Q)
        -∗ WP d i (Scf.Loop.for L hok ⟨⟩ body >>= fun _ => Scf.Loop.for L' hok' ⟨⟩ body' >>= kk) Q) := by
  unfold Work Mid
  iintro ⟨HT, %PROC, %VB, %hG, H1, H2, H3, H4⟩ HK
  have hlist : IsList raw s0 W cnt.toNat PROC := by
    rw [hG.2.1]; exact Listed.isList (by omega) hG.2.2
  iapply (wp_dotLoop d i W hW tb wtb htb uM (Memref.isWhole_whole _) prM (Memref.isWhole_whole _) vbM (Memref.isWhole_whole _) hv2 hTB hU hcnt hlist hCk hCs hL hL' hoff0 hb)
  isplitl [HT]; · iexact HT
  isplitl [H3]; · iexact H3
  isplitl [H2]; · iexact H2
  isplitl [H4]; · iexact H4
  iintro %VB' %hVB HT H3 H2 H4
  iapply HK $$ HT
  iexists PROC, VB'
  isplitr
  · ipureintro
    intro x hx hlo he
    refine hVB x ?_
    by_cases hs : raw (x 0).val < s0
    · exact .inl (hG.1 x hx hlo hs)
    · obtain ⟨y, hy1, hy2⟩ := Listed.mem (by omega) hW.2 hG.2.2 hx ⟨by omega, he⟩
      exact .inr ⟨y, by rw [hG.2.1]; exact hy1, hy2⟩
  isplitl [H1]; · iexact H1
  isplitl [H2]; · iexact H2
  isplitl [H3]; · iexact H3
  iexact H4

end Step

end Cert.Proof.Stream
-- ==== Proof.Block.lean ====
/-
  A trip of the main loop: three windows of the table, each worked through while the next ones come in.
-/
module

public import proofs.«01_k».proof.Proof.Process

@[expose] public section

noncomputable section

namespace Cert.Proof.Stream

open Cert.KernelIdeal Cert.KernelIdeal.Gen
open Idealize.ShloMosaic Idealize.ShloMosaic.SparseCore
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

abbrev ixM : Memref sig .scVector .hbm S16384 .i32 := Memref.whole main_arg0_scv
abbrev tb0M : Memref sig .scVector .vmem S32x512 .f32 := Memref.whole cc0_scratch0
abbrev tb1M : Memref sig .scVector .vmem S32x512 .f32 := Memref.whole cc0_scratch1
abbrev tb2M : Memref sig .scVector .vmem S32x512 .f32 := Memref.whole cc0_scratch2
abbrev tailM : Memref sig .scVector .vmem S32x64 .f32 := Memref.whole cc0_scratch3

section Parts

variable (i : grid0.Coords) (s9 s10 s11 s12 p0 p1 p2 : DmaSems sig S_)

theorem part37_eq (v84 : BitVec 32) (t : Fin k0_t2_loop.trips) (hc : k0_cond1 t = 1#1) :
    k0_part37 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v84 0#32 1#32 t
      = .op (.enqueueDma (ttM.slice (Rect.unit (s := S32x1000000) (k0_off10 i t) S8x512.size (k0_off10_inb i t hc)) (fun _ => rfl)) (.here (slabV tb2M 0)) (.dma s11.sem) (View.wordExact_bits rfl) (View.wordExact_bits rfl) ⟨Or.inl rfl, trivial⟩) fun _ =>
        .op (.enqueueDma (ttM.slice (Rect.unit (s := S32x1000000) (k0_off11 i t) S8x512.size (k0_off11_inb i t hc)) (fun _ => rfl)) (.here (slabV tb2M 1)) (.dma s11.sem) (View.wordExact_bits rfl) (View.wordExact_bits rfl) ⟨Or.inl rfl, trivial⟩) fun _ =>
        .op (.enqueueDma (ttM.slice (Rect.unit (s := S32x1000000) (k0_off12 i t) S8x512.size (k0_off12_inb i t hc)) (fun _ => rfl)) (.here (slabV tb2M 2)) (.dma s11.sem) (View.wordExact_bits rfl) (View.wordExact_bits rfl) ⟨Or.inl rfl, trivial⟩) fun _ =>
        .op (.enqueueDma (ttM.slice (Rect.unit (s := S32x1000000) (k0_off13 i t) S8x512.size (k0_off13_inb i t hc)) (fun _ => rfl)) (.here (slabV tb2M 3)) (.dma s11.sem) (View.wordExact_bits rfl) (View.wordExact_bits rfl) ⟨Or.inl rfl, trivial⟩) fun _ =>
        .op (.waitDma2 s9.sem (ttM.slice (Rect.unit (s := S32x1000000) (k0_off14 i t) S8x512.size (k0_off14_inb i t)) (fun _ => rfl)) (slabV tb0M 0) (View.wordExact_bits rfl) (View.wordExact_bits rfl)) fun _ =>
        .op (.waitDma2 s9.sem (ttM.slice (Rect.unit (s := S32x1000000) (k0_off15 i t) S8x512.size (k0_off15_inb i t)) (fun _ => rfl)) (slabV tb0M 1) (View.wordExact_bits rfl) (View.wordExact_bits rfl)) fun _ =>
        .op (.waitDma2 s9.sem (ttM.slice (Rect.unit (s := S32x1000000) (k0_off16 i t) S8x512.size (k0_off16_inb i t)) (fun _ => rfl)) (slabV tb0M 2) (View.wordExact_bits rfl) (View.wordExact_bits rfl)) fun _ =>
        .ret ⟨Scf.iv 0#32 1#32 t, Scalar.addi v84 (Scalar.addi (Scalar.muli 3#32 (Scf.iv 0#32 1#32 t)) 0#32)⟩ := by
  rw [k0_part37_eq_skeleton]
  unfold k0_part37_skel
  rw [dif_pos hc]
  rfl

theorem part38_eq (v2 : IVec S16 32) (v8 : BitVec 32) (hw11 : k0_chk11 i v8) (v83 v84 : BitVec 32) (t : Fin k0_t2_loop.trips) (hc : k0_cond2 t = 1#1) (a v176 : BitVec 32) :
    k0_part38 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84 t a v176
      = .op (.waitDma2 s9.sem (ttM.slice (Rect.unit (s := S32x1000000) (k0_off17 i t) S8x512.size (k0_off17_inb i t)) (fun _ => rfl)) (slabV tb0M 3) (View.wordExact_bits rfl) (View.wordExact_bits rfl)) fun _ =>
        Scf.Loop.for (k0_t3_loop v8) (k0_t3_ok i v8 hw11) 0#32 (k0_t3_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84 t a v176) >>= fun v206 =>
        Scf.Loop.for (k0_t4_loop v8) (k0_t4_ok i v8 hw11) v206 (k0_t4_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84 t a v176) >>= fun c =>
        .op (.assume (k0_chk14 c) (k0_chk14.dec c)) fun hw =>
        Scf.Loop.for (k0_t5_loop c) (k0_t5_ok c hw.down) ⟨⟩ (k0_t5_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84 t a v176 c hw.down) >>= fun _ =>
        Scf.Loop.for (k0_t6_loop c) (k0_t6_ok c hw.down) ⟨⟩ (k0_t6_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84 t a v176 c hw.down (Scalar.addi 0#32 (Scalar.muli (Scalar.divsi (Scalar.subi (Scalar.shrui (Scalar.addi c 15#32) 4#32) 0#32) 1#32) 1#32))) >>= fun _ =>
        .op (.enqueueDma (ttM.slice (Rect.unit (s := S32x1000000) (k0_off22 i t) S8x512.size (k0_off22_inb i t hc)) (fun _ => rfl)) (.here (slabV tb0M 0)) (.dma s9.sem) (View.wordExact_bits rfl) (View.wordExact_bits rfl) ⟨Or.inl rfl, trivial⟩) fun _ =>
        .op (.enqueueDma (ttM.slice (Rect.unit (s := S32x1000000) (k0_off23 i t) S8x512.size (k0_off23_inb i t hc)) (fun _ => rfl)) (.here (slabV tb0M 1)) (.dma s9.sem) (View.wordExact_bits rfl) (View.wordExact_bits rfl) ⟨Or.inl rfl, trivial⟩) fun _ =>
        .op (.enqueueDma (ttM.slice (Rect.unit (s := S32x1000000) (k0_off24 i t) S8x512.size (k0_off24_inb i t hc)) (fun _ => rfl)) (.here (slabV tb0M 2)) (.dma s9.sem) (View.wordExact_bits rfl) (View.wordExact_bits rfl) ⟨Or.inl rfl, trivial⟩) fun _ =>
        .op (.enqueueDma (ttM.slice (Rect.unit (s := S32x1000000) (k0_off25 i t) S8x512.size (k0_off25_inb i t hc)) (fun _ => rfl)) (.here (slabV tb0M 3)) (.dma s9.sem) (View.wordExact_bits rfl) (View.wordExact_bits rfl) ⟨Or.inl rfl, trivial⟩) fun _ =>
        .ret (Scalar.addi v84 (Scalar.addi (Scalar.muli 3#32 a) 1#32)) := by
  rw [k0_part38_eq_skeleton]
  unfold k0_part38_skel
  simp only [dif_pos hc]
  rfl

theorem part39_eq (v2 : IVec S16 32) (v8 : BitVec 32) (hw11 : k0_chk11 i v8) (v83 : BitVec 32) (t : Fin k0_t2_loop.trips) (v217 : BitVec 32) :
    k0_part39 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 t v217
      = .op (.waitDma2 s10.sem (ttM.slice (Rect.unit (s := S32x1000000) (k0_off26 i t) S8x512.size (k0_off26_inb i t)) (fun _ => rfl)) (slabV tb1M 0) (View.wordExact_bits rfl) (View.wordExact_bits rfl)) fun _ =>
        .op (.waitDma2 s10.sem (ttM.slice (Rect.unit (s := S32x1000000) (k0_off27 i t) S8x512.size (k0_off27_inb i t)) (fun _ => rfl)) (slabV tb1M 1) (View.wordExact_bits rfl) (View.wordExact_bits rfl)) fun _ =>
        .op (.waitDma2 s10.sem (ttM.slice (Rect.unit (s := S32x1000000) (k0_off28 i t) S8x512.size (k0_off28_inb i t)) (fun _ => rfl)) (slabV tb1M 2) (View.wordExact_bits rfl) (View.wordExact_bits rfl)) fun _ =>
        .op (.waitDma2 s10.sem (ttM.slice (Rect.unit (s := S32x1000000) (k0_off29 i t) S8x512.size (k0_off29_inb i t)) (fun _ => rfl)) (slabV tb1M 3) (View.wordExact_bits rfl) (View.wordExact_bits rfl)) fun _ =>
        Scf.Loop.for (k0_t7_loop v8) (k0_t7_ok i v8 hw11) 0#32 (k0_t7_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 t v217) >>= fun v247 =>
        Scf.Loop.for (k0_t8_loop v8) (k0_t8_ok i v8 hw11) v247 (k0_t8_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 t v217) >>= fun c =>
        .op (.assume (k0_chk83 c) (k0_chk83.dec c)) fun hw =>
        .ret ⟨c, hw.down, 0#32, Scalar.subi (Scalar.shrui (Scalar.addi c 15#32) 4#32) 0#32⟩ := by
  rw [k0_part39_eq_skeleton]
  rfl

theorem part40_eq (v2 : IVec S16 32) (v84 : BitVec 32) (t : Fin k0_t2_loop.trips) (hc : k0_cond3 t = 1#1) (a c : BitVec 32) (hw : k0_chk83 c) (z b : BitVec 32) :
    k0_part40 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v84 t a c hw z b
      = Scf.Loop.for (k0_t9_loop c) (k0_t9_ok c hw) ⟨⟩ (k0_t9_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v84 t a c hw z b) >>= fun _ =>
        Scf.Loop.for (k0_t10_loop c) (k0_t10_ok c hw) ⟨⟩ (k0_t10_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v84 t a c hw z b (Scalar.addi z (Scalar.muli (Scalar.divsi b 1#32) 1#32))) >>= fun _ =>
        .op (.enqueueDma (ttM.slice (Rect.unit (s := S32x1000000) (k0_off34 i t) S8x512.size (k0_off34_inb i t hc)) (fun _ => rfl)) (.here (slabV tb1M 0)) (.dma s10.sem) (View.wordExact_bits rfl) (View.wordExact_bits rfl) ⟨Or.inl rfl, trivial⟩) fun _ =>
        .op (.enqueueDma (ttM.slice (Rect.unit (s := S32x1000000) (k0_off35 i t) S8x512.size (k0_off35_inb i t hc)) (fun _ => rfl)) (.here (slabV tb1M 1)) (.dma s10.sem) (View.wordExact_bits rfl) (View.wordExact_bits rfl) ⟨Or.inl rfl, trivial⟩) fun _ =>
        .op (.enqueueDma (ttM.slice (Rect.unit (s := S32x1000000) (k0_off36 i t) S8x512.size (k0_off36_inb i t hc)) (fun _ => rfl)) (.here (slabV tb1M 2)) (.dma s10.sem) (View.wordExact_bits rfl) (View.wordExact_bits rfl) ⟨Or.inl rfl, trivial⟩) fun _ =>
        .op (.enqueueDma (ttM.slice (Rect.unit (s := S32x1000000) (k0_off37 i t) S8x512.size (k0_off37_inb i t hc)) (fun _ => rfl)) (.here (slabV tb1M 3)) (.dma s10.sem) (View.wordExact_bits rfl) (View.wordExact_bits rfl) ⟨Or.inl rfl, trivial⟩) fun _ =>
        .op (.waitDma2 s11.sem (ttM.slice (Rect.unit (s := S32x1000000) (k0_off38 i t) S8x512.size (k0_off38_inb i t)) (fun _ => rfl)) (slabV tb2M 0) (View.wordExact_bits rfl) (View.wordExact_bits rfl)) fun _ =>
        .op (.waitDma2 s11.sem (ttM.slice (Rect.unit (s := S32x1000000) (k0_off39 i t) S8x512.size (k0_off39_inb i t)) (fun _ => rfl)) (slabV tb2M 1) (View.wordExact_bits rfl) (View.wordExact_bits rfl)) fun _ =>
        .ret (Scalar.addi v84 (Scalar.addi (Scalar.muli 3#32 a) 2#32)) := by
  rw [k0_part40_eq_skeleton]
  unfold k0_part40_skel
  simp only [dif_pos hc]
  rfl

theorem part40_eq' (v2 : IVec S16 32) (v84 : BitVec 32) (t : Fin k0_t2_loop.trips) (hc : ¬ k0_cond3 t = 1#1) (a c : BitVec 32) (hw : k0_chk83 c) (z b : BitVec 32) :
    k0_part40 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v84 t a c hw z b
      = Scf.Loop.for (k0_t9_loop c) (k0_t9_ok c hw) ⟨⟩ (k0_t9_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v84 t a c hw z b) >>= fun _ =>
        Scf.Loop.for (k0_t10_loop c) (k0_t10_ok c hw) ⟨⟩ (k0_t10_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v84 t a c hw z b (Scalar.addi z (Scalar.muli (Scalar.divsi b 1#32) 1#32))) >>= fun _ =>
        .op (.waitDma2 s11.sem (ttM.slice (Rect.unit (s := S32x1000000) (k0_off38 i t) S8x512.size (k0_off38_inb i t)) (fun _ => rfl)) (slabV tb2M 0) (View.wordExact_bits rfl) (View.wordExact_bits rfl)) fun _ =>
        .op (.waitDma2 s11.sem (ttM.slice (Rect.unit (s := S32x1000000) (k0_off39 i t) S8x512.size (k0_off39_inb i t)) (fun _ => rfl)) (slabV tb2M 1) (View.wordExact_bits rfl) (View.wordExact_bits rfl)) fun _ =>
        .ret (Scalar.addi v84 (Scalar.addi (Scalar.muli 3#32 a) 2#32)) := by
  rw [k0_part40_eq_skeleton]
  unfold k0_part40_skel
  simp only [dif_neg hc]
  rfl

theorem t2_body_eq (v2 : IVec S16 32) (v8 : BitVec 32) (hw11 : k0_chk11 i v8) (v83 v84 : BitVec 32) (t : Fin k0_t2_loop.trips) (y : Unit) :
    k0_t2_body (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84 t y
      = (k0_part37 i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v84 0#32 1#32 t >>= fun r =>
        k0_part38 i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84 t r.1 r.2 >>= fun v217 =>
        k0_part39 i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 t v217 >>= fun c =>
        k0_part40 i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v84 t r.1 c.1 c.2.1 c.2.2.1 c.2.2.2 >>= fun v258 =>
        .op (.waitDma2 s11.sem (ttM.slice (Rect.unit (s := S32x1000000) (k0_off40 i t) S8x512.size (k0_off40_inb i t)) (fun _ => rfl)) (slabV tb2M 2) (View.wordExact_bits rfl) (View.wordExact_bits rfl)) fun _ =>
        .op (.waitDma2 s11.sem (ttM.slice (Rect.unit (s := S32x1000000) (k0_off41 i t) S8x512.size (k0_off41_inb i t)) (fun _ => rfl)) (slabV tb2M 3) (View.wordExact_bits rfl) (View.wordExact_bits rfl)) fun _ =>
        Scf.Loop.for (k0_t11_loop v8) (k0_t11_ok i v8 hw11) 0#32 (k0_t11_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84 v258) >>= fun v288 =>
        Scf.Loop.for (k0_t12_loop v8) (k0_t12_ok i v8 hw11) v288 (k0_t12_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84 v258) >>= fun c =>
        .op (.assume (k0_chk152 c) (k0_chk152.dec c)) fun hw =>
        Scf.Loop.for (k0_t13_loop c) (k0_t13_ok c hw.down) ⟨⟩ (k0_t13_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84 c hw.down) >>= fun _ =>
        Scf.Loop.for (k0_t14_loop c) (k0_t14_ok c hw.down) ⟨⟩ (k0_t14_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84 c hw.down (Scalar.addi 0#32 (Scalar.muli (Scalar.divsi (Scalar.subi (Scalar.shrui (Scalar.addi c 15#32) 4#32) 0#32) 1#32) 1#32))) >>= fun _ =>
        .ret ⟨⟩) := by
  rfl

end Parts

end Cert.Proof.Stream
-- ==== Proof.Trip.lean ====
/-
  What a trip of the main loop does, part by part.
-/
module

public import proofs.«01_k».proof.Proof.Block

@[expose] public section

noncomputable section

namespace Cert.Proof.Stream

open Cert.KernelIdeal Cert.KernelIdeal.Gen
open Idealize.ShloMosaic Idealize.ShloMosaic.SparseCore
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The block a trip works through: its number, times 512. -/
theorem block_toNat {v84 : BitVec 32} {c1 c0 : ℕ} (h1 : c1 < 16) (h0 : c0 < 2) (h : v84.toNat = 122 * c1 + 61 * c0) {t : ℕ} (ht : t < 20) {c : BitVec 32} (hc : c.toNat < 3) :
    (Scalar.muli (Scalar.addi v84 (Scalar.addi (Scalar.muli 3#32 (Scf.iv 0#32 1#32 t)) c)) 512#32).toNat = 62464 * c1 + 31232 * c0 + 1536 * t + 512 * c.toNat := by
  have e : (Scf.iv 0#32 1#32 t).toNat = t := iv_toNat (by omega)
  show ((v84 + (3#32 * Scf.iv 0#32 1#32 t + c)) * 512#32).toNat = _
  rw [BitVec.toNat_mul, BitVec.toNat_add, BitVec.toNat_add, BitVec.toNat_mul, e, h, show (3#32 : BitVec 32).toNat = 3 from rfl, show (512#32 : BitVec 32).toNat = 512 from rfl]
  omega

theorem lim_toNat {x : BitVec 32} {A : ℕ} (h : x.toNat = A) (hA : A ≤ 1000000) : (Scalar.addi x 512#32).toNat = A + 512 := by
  show (x + 512#32).toNat = _
  rw [BitVec.toNat_add, h, show (512#32 : BitVec 32).toNat = 512 from rfl]; omega

theorem isTab_tabBuf (tab : ℕ → ℕ → F .f32) (A : ℕ) : IsTab 512 (tabBuf tab A) fun j c => tab j (A + c) := fun _ => rfl

theorem cond1_true : ∀ t : Fin k0_t2_loop.trips, k0_cond1 t = 1#1 := by decide +kernel
theorem cond2_true : ∀ t : Fin k0_t2_loop.trips, k0_cond2 t = 1#1 := by decide +kernel
theorem cond3_iff : ∀ t : Fin k0_t2_loop.trips, k0_cond3 t = 1#1 ↔ t.val < 19 := by decide +kernel
theorem t2_trips : k0_t2_loop.trips = 20 := by decide +kernel

section Trip

variable (i : grid0.Coords) (s9 s10 s11 s12 p0 p1 p2 : DmaSems sig S_) (d : Dev nD)
  {O : CellTallies nD τ sig (HIx 1)} {W : Waits sig (HIx 1)} (hO : ∀ g, O g none = 0)
  (tab : ℕ → ℕ → F .f32) (uu : ℕ → F .f32) (raw : ℕ → ℕ) (IDX : S16384.Idx → Elt F .i32) (U : S32x16.Idx → Elt F .f32) (nv lo : ℕ)
  {v2 : IVec S16 32} (hv2 : ∀ l : Fin 16, v2 (ln l) = BitVec.ofNat 32 l.val) (hnv : nv ≤ 1024)
  (hIDX : ∀ x : S16384.Idx, (IDX x : BitVec 32).toNat = raw (x 0).val) (hU : IsVec U uu)
  (TT : Buf (Elt F) (ttLoc d i)) (hTT : ∀ x : S32x1000000.Idx, TT x = tab (x 0).val (x 1).val) (q0 q1 q2 : PosShare TreeShare)
  {v8 : BitVec 32} (hv8 : v8.toNat ≤ 16384) (hn8 : nv = (v8.toNat + 15) / 16)

/-- Copies of a window under way, into a buffer that held something. -/
def FlyE (tb : Memref sig .scVector .vmem S32x512 .f32) (h : tb.IsWhole) (sem : DmaSem sig) (q : PosShare TreeShare) (A j u : ℕ) : sProp 𝕄 :=
  iprop(∃ X : S32x512.Idx → Elt F .f32, Fly d i tb h sem tab TT q A X j u)

/-- A buffer at rest. -/
def IdleE (tb : Memref sig .scVector .vmem S32x512 .f32) (h : tb.IsWhole) (sem : DmaSem sig) (q : PosShare TreeShare) : sProp 𝕄 :=
  iprop(∃ X : S32x512.Idx → Elt F .f32, Idle d i tb h sem TT q X)

include hTT in
/-- One of the four copies is issued; the counts are numerals. -/
theorem wp_copyAt {tb : Memref sig .scVector .vmem S32x512 .f32} (h : tb.IsWhole) {sem : DmaSem sig} {q : PosShare TreeShare} {α : Type}
    {k : PUnit → Prog (TpuEff nD τ sig (Elt F) Λ₀ (.scVector ((i 0).castLE hcore0) ((i 1).castLE hsub0))) α} {Q : α → sProp 𝕄} {start : ℕ} {X : S32x512.Idx → Elt F .f32}
    (p : Fin 4) {j j' : ℕ} (hj : p.val = j) (hj' : j + 1 = j') {o : Fin 2 → ℕ} {ho : ∀ a, o a + S8x512.size a ≤ S32x1000000.size a}
    (he : o = ![8 * p.val, start])
    {hsrc : (ttM.slice (Rect.unit (s := S32x1000000) o S8x512.size ho) (fun _ => rfl)).view.WordExact} {hdst : (slabV tb p).view.WordExact}
    {hsem : DmaTarget.Typed (nD := nD) (p := .scVector ((i 0).castLE hcore0) ((i 1).castLE hsub0)) .hbm (SemLoc.dma sem) (.here (slabV tb p))} :
    Fly d i tb h sem tab TT q start X j 0
      ⊢ iprop((Fly d i tb h sem tab TT q start X j' 0 -∗ WP d i (k ⟨⟩) Q)
          -∗ WP d i (.op (.enqueueDma (ttM.slice (Rect.unit (s := S32x1000000) o S8x512.size ho) (fun _ => rfl)) (.here (slabV tb p)) (.dma sem) hsrc hdst hsem) k) Q) := by
  subst hj; subst hj'
  exact wp_copyIn d i tb h sem tab TT hTT q p (Nat.zero_le _) he

include hO hTT in
theorem wp_part37 (v84 : BitVec 32) (t : Fin k0_t2_loop.trips) (A : ℕ) (hA : 62464 * (i 1).val + 31232 * (i 0).val + 1536 * t.val = A)
    {Q : (Σ' (arg19 : BitVec 32), BitVec 32) → sProp 𝕄} :
    iprop(FlyE i d tab TT tb0M (Memref.isWhole_whole _) s9.sem q0 A 4 0 ∗ IdleE i d TT tb2M (Memref.isWhole_whole _) s11.sem q2 ∗ Owes d i O W ∗ Levels)
      ⊢ iprop((FlyE i d tab TT tb0M (Memref.isWhole_whole _) s9.sem q0 A 4 3 -∗ FlyE i d tab TT tb2M (Memref.isWhole_whole _) s11.sem q2 (A + 1024) 4 0 -∗ Owes d i O W
          -∗ Q ⟨Scf.iv 0#32 1#32 t, Scalar.addi v84 (Scalar.addi (Scalar.muli 3#32 (Scf.iv 0#32 1#32 t)) 0#32)⟩)
        -∗ WP d i (k0_part37 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v84 0#32 1#32 t) Q) := by
  rw [part37_eq i s9 s10 s11 s12 p0 p1 p2 v84 t (cond1_true t)]
  unfold FlyE IdleE
  iintro ⟨⟨%X0, HF0⟩, ⟨%X2, HI⟩, HO, #Hlv⟩ HK
  imod (fly_start d i tb2M (Memref.isWhole_whole _) s11.sem tab TT q2 (A + 1024) X2) $$ HI with HF2
  iapply (wp_copyAt i d tab TT hTT (Memref.isWhole_whole _) (sem := s11.sem) (q := q2) 0 (j := 0) (j' := 1) rfl rfl ((k0_off10_eq i t).trans (by rw [hA]; rfl))) $$ HF2
  iintro HF2
  iapply (wp_copyAt i d tab TT hTT (Memref.isWhole_whole _) (sem := s11.sem) (q := q2) 1 (j := 1) (j' := 2) rfl rfl ((k0_off11_eq i t).trans (by rw [hA]; rfl))) $$ HF2
  iintro HF2
  iapply (wp_copyAt i d tab TT hTT (Memref.isWhole_whole _) (sem := s11.sem) (q := q2) 2 (j := 2) (j' := 3) rfl rfl ((k0_off12_eq i t).trans (by rw [hA]; rfl))) $$ HF2
  iintro HF2
  iapply (wp_copyAt i d tab TT hTT (Memref.isWhole_whole _) (sem := s11.sem) (q := q2) 3 (j := 3) (j' := 4) rfl rfl ((k0_off13_eq i t).trans (by rw [hA]; rfl))) $$ HF2
  iintro HF2
  iapply (wp_copyWait d i (W := W) hO tb0M (Memref.isWhole_whole _) s9.sem tab TT q0 (u := 0) 0 (by omega)) $$ [HF0 HO]
  · iframe HF0 HO Hlv
  iintro HF0 HO
  iapply (wp_copyWait d i (W := W) hO tb0M (Memref.isWhole_whole _) s9.sem tab TT q0 (u := 1) 1 (by omega)) $$ [HF0 HO]
  · iframe HF0 HO Hlv
  iintro HF0 HO
  iapply (wp_copyWait d i (W := W) hO tb0M (Memref.isWhole_whole _) s9.sem tab TT q0 (u := 2) 2 (by omega)) $$ [HF0 HO]
  · iframe HF0 HO Hlv
  iintro HF0 HO
  iapply (wp_ret_intro d i)
  iapply HK $$ [HF0] [HF2] HO
  · iexists X0; iexact HF0
  · iexists X2; iexact HF2

include hO hv2 hnv hIDX hU hTT hv8 hn8 in
theorem wp_part38 (hw11 : k0_chk11 i v8) (v83 v84 : BitVec 32) (t : Fin k0_t2_loop.trips) (a v176 : BitVec 32) (A : ℕ) (hA : 62464 * (i 1).val + 31232 * (i 0).val + 1536 * t.val = A) (hA1 : A + 512 ≤ 1000000)
    (hv : (Scalar.muli v176 512#32).toNat = A) {Q : BitVec 32 → sProp 𝕄} :
    iprop(FlyE i d tab TT tb0M (Memref.isWhole_whole _) s9.sem q0 A 4 3 ∗ Work d i tab uu raw IDX U nv lo A ∗ Owes d i O W ∗ Levels)
      ⊢ iprop((FlyE i d tab TT tb0M (Memref.isWhole_whole _) s9.sem q0 (A + 1536) 4 0 -∗ Work d i tab uu raw IDX U nv lo (A + 512) -∗ Owes d i O W
          -∗ Q (Scalar.addi v84 (Scalar.addi (Scalar.muli 3#32 a) 1#32)))
        -∗ WP d i (k0_part38 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84 t a v176) Q) := by
  rw [part38_eq i s9 s10 s11 s12 p0 p1 p2 v2 v8 hw11 v83 v84 t (cond2_true t) a v176]
  unfold FlyE
  iintro ⟨⟨%X, HF⟩, HW, HO, #Hlv⟩ HK
  iapply (wp_copyWaitLast d i (W := W) hO tb0M (Memref.isWhole_whole _) s9.sem tab TT q0 3) $$ [HF HO]
  · iframe HF HO Hlv
  iintro HI HO
  unfold Idle
  icases HI with ⟨HT, Htt, Hs⟩
  iapply (wp_list d i (v2 := v2) hv2 hnv hIDX hv (lim_toNat hv (by omega)) (by omega : 512 ≤ 512) (by omega) (Cs := k0_chk12) (fun _ h => h)
    (L := k0_t3_loop v8) (L' := k0_t4_loop v8) ((trips16 hv8).trans hn8.symm) (remLoop_trips _) (fun x => off18_0 hv8 x)
    (fun x y => t3_body_eq i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84 t a v176 x y)) $$ HW
  iintro %c %hc HM
  iapply (wp_chk d i (chk14 hc))
  iapply (wp_dots d i (v2 := v2) hv2 hnv 512 (by omega) (Memref.isWhole_whole _) h_S32x512 (s0 := A) (isTab_tabBuf tab _) hU hc (Ck := k0_chk15) (Cs := k0_chk47) (fun _ _ h => h) (fun _ h => h)
    (L := k0_t5_loop c) (L' := k0_t6_loop c) (trips16 hc) (remLoop_trips _) (fun x => off20_0 hc x)
    (fun x y => t5_body_eq i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84 t a v176 c (chk14 hc) x y)) $$ [HT HM]
  · iframe HT HM
  iintro HT HW
  ihave HI : (Idle d i tb0M (Memref.isWhole_whole _) s9.sem TT q0 (tabBuf tab A) : sProp 𝕄) $$ [HT Htt Hs]
  · unfold Idle; iframe HT Htt Hs
  imod (fly_start d i tb0M (Memref.isWhole_whole _) s9.sem tab TT q0 (A + 1536) (tabBuf tab A)) $$ HI with HF
  iapply (wp_copyAt i d tab TT hTT (tb := tb0M) (Memref.isWhole_whole _) (sem := s9.sem) (q := q0) 0 (j := 0) (j' := 1) rfl rfl ((k0_off22_eq i t).trans (by rw [hA]; rfl))) $$ HF
  iintro HF
  iapply (wp_copyAt i d tab TT hTT (tb := tb0M) (Memref.isWhole_whole _) (sem := s9.sem) (q := q0) 1 (j := 1) (j' := 2) rfl rfl ((k0_off23_eq i t).trans (by rw [hA]; rfl))) $$ HF
  iintro HF
  iapply (wp_copyAt i d tab TT hTT (tb := tb0M) (Memref.isWhole_whole _) (sem := s9.sem) (q := q0) 2 (j := 2) (j' := 3) rfl rfl ((k0_off24_eq i t).trans (by rw [hA]; rfl))) $$ HF
  iintro HF
  iapply (wp_copyAt i d tab TT hTT (tb := tb0M) (Memref.isWhole_whole _) (sem := s9.sem) (q := q0) 3 (j := 3) (j' := 4) rfl rfl ((k0_off25_eq i t).trans (by rw [hA]; rfl))) $$ HF
  iintro HF
  iapply (wp_ret_intro d i)
  iapply HK $$ [HF] HW HO
  iexists (tabBuf tab A); iexact HF

include hO hv2 hnv hIDX hU hTT hv8 hn8 in
theorem wp_part39 (hw11 : k0_chk11 i v8) (v83 : BitVec 32) (t : Fin k0_t2_loop.trips) (v217 : BitVec 32) (A : ℕ) (hA1 : A + 512 ≤ 1000000)
    (hv : (Scalar.muli v217 512#32).toNat = A) {Q : (Σ' (v248 : BitVec 32) (k0_hw83 : k0_chk83 v248) (c0_i32_219 : BitVec 32), BitVec 32) → sProp 𝕄} :
    iprop(FlyE i d tab TT tb1M (Memref.isWhole_whole _) s10.sem q1 A 4 0 ∗ Work d i tab uu raw IDX U nv lo A ∗ Owes d i O W ∗ Levels)
      ⊢ iprop((∀ c : BitVec 32, ∀ hc : c.toNat ≤ 16384, Idle d i tb1M (Memref.isWhole_whole _) s10.sem TT q1 (tabBuf tab A) -∗ Mid d i tab uu raw IDX U nv lo A 512 c -∗ Owes d i O W
          -∗ Q ⟨c, chk83 hc, 0#32, Scalar.subi (Scalar.shrui (Scalar.addi c 15#32) 4#32) 0#32⟩)
        -∗ WP d i (k0_part39 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 t v217) Q) := by
  rw [part39_eq i s9 s10 s11 s12 p0 p1 p2 v2 v8 hw11 v83 t v217]
  unfold FlyE
  iintro ⟨⟨%X, HF⟩, HW, HO, #Hlv⟩ HK
  iapply (wp_copyWait d i (W := W) hO tb1M (Memref.isWhole_whole _) s10.sem tab TT q1 (u := 0) 0 (by omega)) $$ [HF HO]
  · iframe HF HO Hlv
  iintro HF HO
  iapply (wp_copyWait d i (W := W) hO tb1M (Memref.isWhole_whole _) s10.sem tab TT q1 (u := 1) 1 (by omega)) $$ [HF HO]
  · iframe HF HO Hlv
  iintro HF HO
  iapply (wp_copyWait d i (W := W) hO tb1M (Memref.isWhole_whole _) s10.sem tab TT q1 (u := 2) 2 (by omega)) $$ [HF HO]
  · iframe HF HO Hlv
  iintro HF HO
  iapply (wp_copyWaitLast d i (W := W) hO tb1M (Memref.isWhole_whole _) s10.sem tab TT q1 3) $$ [HF HO]
  · iframe HF HO Hlv
  iintro HI HO
  unfold Idle
  icases HI with ⟨HT, Htt, Hs⟩
  iapply (wp_list d i (v2 := v2) hv2 hnv hIDX hv (lim_toNat hv (by omega)) (by omega : 512 ≤ 512) (by omega) (Cs := k0_chk81) (fun _ h => h)
    (L := k0_t7_loop v8) (L' := k0_t8_loop v8) ((trips16 hv8).trans hn8.symm) (remLoop_trips _) (fun x => off30_0 hv8 x)
    (fun x y => t7_body_eq i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 t v217 x y)) $$ HW
  iintro %c %hc HM
  iapply (wp_chk d i (chk83 hc))
  iapply (wp_ret_intro d i)
  iapply HK $$ %c %hc [HT Htt Hs] HM HO
  iframe HT Htt Hs

include hO hv2 hnv hIDX hU hTT hv8 hn8 in
theorem wp_part40 (v84 : BitVec 32) (t : Fin k0_t2_loop.trips) (hlt : k0_cond3 t = 1#1) (a c : BitVec 32) (hc : c.toNat ≤ 16384) (A : ℕ) (hA : 62464 * (i 1).val + 31232 * (i 0).val + 1536 * t.val = A) {Q : BitVec 32 → sProp 𝕄} :
    iprop(Idle d i tb1M (Memref.isWhole_whole _) s10.sem TT q1 (tabBuf tab (A + 512)) ∗ FlyE i d tab TT tb2M (Memref.isWhole_whole _) s11.sem q2 (A + 1024) 4 0 ∗ Mid d i tab uu raw IDX U nv lo (A + 512) 512 c ∗ Owes d i O W ∗ Levels)
      ⊢ iprop((FlyE i d tab TT tb1M (Memref.isWhole_whole _) s10.sem q1 (A + 2048) 4 0 -∗ FlyE i d tab TT tb2M (Memref.isWhole_whole _) s11.sem q2 (A + 1024) 4 2 -∗ Work d i tab uu raw IDX U nv lo (A + 512 + 512) -∗ Owes d i O W
          -∗ Q (Scalar.addi v84 (Scalar.addi (Scalar.muli 3#32 a) 2#32)))
        -∗ WP d i (k0_part40 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v84 t a c (chk83 hc) 0#32 (Scalar.subi (Scalar.shrui (Scalar.addi c 15#32) 4#32) 0#32)) Q) := by
  rw [part40_eq i s9 s10 s11 s12 p0 p1 p2 v2 v84 t hlt a c (chk83 hc) 0#32 _]
  unfold FlyE Idle
  iintro ⟨⟨HT, Htt, Hs⟩, ⟨%X2, HF2⟩, HM, HO, #Hlv⟩ HK
  iapply (wp_dots d i (v2 := v2) hv2 hnv 512 (by omega) (Memref.isWhole_whole _) h_S32x512 (s0 := A + 512) (isTab_tabBuf tab _) hU hc (Ck := k0_chk84) (Cs := k0_chk116) (fun _ _ h => h) (fun _ h => h)
    (L := k0_t9_loop c) (L' := k0_t10_loop c) (trips16 hc) (remLoop_trips _) (fun x => off32_0 hc x)
    (fun x y => t9_body_eq i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v84 t a c (chk83 hc) 0#32 _ x y)) $$ [HT HM]
  · iframe HT HM
  iintro HT HW
  ihave HI : (Idle d i tb1M (Memref.isWhole_whole _) s10.sem TT q1 (tabBuf tab (A + 512)) : sProp 𝕄) $$ [HT Htt Hs]
  · unfold Idle; iframe HT Htt Hs
  imod (fly_start d i tb1M (Memref.isWhole_whole _) s10.sem tab TT q1 (A + 2048) (tabBuf tab (A + 512))) $$ HI with HF
  iapply (wp_copyAt i d tab TT hTT (tb := tb1M) (Memref.isWhole_whole _) (sem := s10.sem) (q := q1) 0 (j := 0) (j' := 1) rfl rfl ((k0_off34_eq i t).trans (by rw [hA]; rfl))) $$ HF
  iintro HF
  iapply (wp_copyAt i d tab TT hTT (tb := tb1M) (Memref.isWhole_whole _) (sem := s10.sem) (q := q1) 1 (j := 1) (j' := 2) rfl rfl ((k0_off35_eq i t).trans (by rw [hA]; rfl))) $$ HF
  iintro HF
  iapply (wp_copyAt i d tab TT hTT (tb := tb1M) (Memref.isWhole_whole _) (sem := s10.sem) (q := q1) 2 (j := 2) (j' := 3) rfl rfl ((k0_off36_eq i t).trans (by rw [hA]; rfl))) $$ HF
  iintro HF
  iapply (wp_copyAt i d tab TT hTT (tb := tb1M) (Memref.isWhole_whole _) (sem := s10.sem) (q := q1) 3 (j := 3) (j' := 4) rfl rfl ((k0_off37_eq i t).trans (by rw [hA]; rfl))) $$ HF
  iintro HF
  iapply (wp_copyWait d i (W := W) hO tb2M (Memref.isWhole_whole _) s11.sem tab TT q2 (u := 0) 0 (by omega)) $$ [HF2 HO]
  · iframe HF2 HO Hlv
  iintro HF2 HO
  iapply (wp_copyWait d i (W := W) hO tb2M (Memref.isWhole_whole _) s11.sem tab TT q2 (u := 1) 1 (by omega)) $$ [HF2 HO]
  · iframe HF2 HO Hlv
  iintro HF2 HO
  iapply (wp_ret_intro d i)
  iapply HK $$ [HF] [HF2] HW HO
  · iexists (tabBuf tab (A + 512)); iexact HF
  · iexists X2; iexact HF2

include hO hv2 hnv hIDX hU hTT hv8 hn8 in
theorem wp_part40' (v84 : BitVec 32) (t : Fin k0_t2_loop.trips) (hlt : ¬ k0_cond3 t = 1#1) (a c : BitVec 32) (hc : c.toNat ≤ 16384) (A : ℕ) (hA : 62464 * (i 1).val + 31232 * (i 0).val + 1536 * t.val = A) {Q : BitVec 32 → sProp 𝕄} :
    iprop(Idle d i tb1M (Memref.isWhole_whole _) s10.sem TT q1 (tabBuf tab (A + 512)) ∗ FlyE i d tab TT tb2M (Memref.isWhole_whole _) s11.sem q2 (A + 1024) 4 0 ∗ Mid d i tab uu raw IDX U nv lo (A + 512) 512 c ∗ Owes d i O W ∗ Levels)
      ⊢ iprop((IdleE i d TT tb1M (Memref.isWhole_whole _) s10.sem q1 -∗ FlyE i d tab TT tb2M (Memref.isWhole_whole _) s11.sem q2 (A + 1024) 4 2 -∗ Work d i tab uu raw IDX U nv lo (A + 512 + 512) -∗ Owes d i O W
          -∗ Q (Scalar.addi v84 (Scalar.addi (Scalar.muli 3#32 a) 2#32)))
        -∗ WP d i (k0_part40 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v84 t a c (chk83 hc) 0#32 (Scalar.subi (Scalar.shrui (Scalar.addi c 15#32) 4#32) 0#32)) Q) := by
  rw [part40_eq' i s9 s10 s11 s12 p0 p1 p2 v2 v84 t hlt a c (chk83 hc) 0#32 _]
  unfold FlyE Idle IdleE Idle
  iintro ⟨⟨HT, Htt, Hs⟩, ⟨%X2, HF2⟩, HM, HO, #Hlv⟩ HK
  iapply (wp_dots d i (v2 := v2) hv2 hnv 512 (by omega) (Memref.isWhole_whole _) h_S32x512 (s0 := A + 512) (isTab_tabBuf tab _) hU hc (Ck := k0_chk84) (Cs := k0_chk116) (fun _ _ h => h) (fun _ h => h)
    (L := k0_t9_loop c) (L' := k0_t10_loop c) (trips16 hc) (remLoop_trips _) (fun x => off32_0 hc x)
    (fun x y => t9_body_eq i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v84 t a c (chk83 hc) 0#32 _ x y)) $$ [HT HM]
  · iframe HT HM
  iintro HT HW
  iapply (wp_copyWait d i (W := W) hO tb2M (Memref.isWhole_whole _) s11.sem tab TT q2 (u := 0) 0 (by omega)) $$ [HF2 HO]
  · iframe HF2 HO Hlv
  iintro HF2 HO
  iapply (wp_copyWait d i (W := W) hO tb2M (Memref.isWhole_whole _) s11.sem tab TT q2 (u := 1) 1 (by omega)) $$ [HF2 HO]
  · iframe HF2 HO Hlv
  iintro HF2 HO
  iapply (wp_ret_intro d i)
  iapply HK $$ [HT Htt Hs] [HF2] HW HO
  · iexists (tabBuf tab (A + 512)); iframe HT Htt Hs
  · iexists X2; iexact HF2

end Trip

end Cert.Proof.Stream
-- ==== Proof.Main.lean ====
/-
  The main loop, trip by trip.
-/
module

public import proofs.«01_k».proof.Proof.Trip

@[expose] public section

noncomputable section

namespace Cert.Proof.Stream

open Cert.KernelIdeal Cert.KernelIdeal.Gen
open Idealize.ShloMosaic Idealize.ShloMosaic.SparseCore
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

theorem wp_bind_intro (d : Dev nD) (i : grid0.Coords) {α β : Type} {Q : β → sProp 𝕄} {p : Prog (TpuEff nD τ sig (Elt F) Λ₀ (.scVector ((i 0).castLE hcore0) ((i 1).castLE hsub0))) α} {k : α → Prog (TpuEff nD τ sig (Elt F) Λ₀ (.scVector ((i 0).castLE hcore0) ((i 1).castLE hsub0))) β} :
    WP d i p (fun r => WP d i (k r) Q) ⊢ WP d i (p >>= k) Q := Entails.of_eq (wp_bind frame (wpE (defs₀ (F := F)) 𝒱₀ (TH d i) none) Set.univ p k Q).symm

section Main

variable (i : grid0.Coords) (s9 s10 s11 s12 p0 p1 p2 : DmaSems sig S_) (d : Dev nD)
  {O : CellTallies nD τ sig (HIx 1)} {W : Waits sig (HIx 1)} (hO : ∀ g, O g none = 0)
  (tab : ℕ → ℕ → F .f32) (uu : ℕ → F .f32) (raw : ℕ → ℕ) (IDX : S16384.Idx → Elt F .i32) (U : S32x16.Idx → Elt F .f32) (nv lo : ℕ)
  {v2 : IVec S16 32} (hv2 : ∀ l : Fin 16, v2 (ln l) = BitVec.ofNat 32 l.val) (hnv : nv ≤ 1024)
  (hIDX : ∀ x : S16384.Idx, (IDX x : BitVec 32).toNat = raw (x 0).val) (hU : IsVec U uu)
  (TT : Buf (Elt F) (ttLoc d i)) (hTT : ∀ x : S32x1000000.Idx, TT x = tab (x 0).val (x 1).val) (q0 q1 q2 : PosShare TreeShare)
  {v8 : BitVec 32} (hv8 : v8.toNat ≤ 16384) (hn8 : nv = (v8.toNat + 15) / 16)

/-- The second buffer before trip `k`: its window on its way in, until there is none left for it. -/
def Slot1 (B k : ℕ) : sProp 𝕄 :=
  if k < 20 then FlyE i d tab TT tb1M (Memref.isWhole_whole _) s10.sem q1 (B + 1536 * k + 512) 4 0 else IdleE i d TT tb1M (Memref.isWhole_whole _) s10.sem q1

include hO hv2 hnv hIDX hU hTT hv8 hn8 in
theorem wp_trip (hw11 : k0_chk11 i v8) (v83 : BitVec 32) {v84 : BitVec 32} (hv84 : v84.toNat = 122 * (i 1).val + 61 * (i 0).val) (t : Fin k0_t2_loop.trips) (y : Unit)
    (B : ℕ) (hB : 62464 * (i 1).val + 31232 * (i 0).val = B) {Q : Unit → sProp 𝕄} :
    iprop(FlyE i d tab TT tb0M (Memref.isWhole_whole _) s9.sem q0 (B + 1536 * t.val) 4 0 ∗ Slot1 i s10 d tab TT q1 B t.val ∗ IdleE i d TT tb2M (Memref.isWhole_whole _) s11.sem q2
        ∗ Work d i tab uu raw IDX U nv lo (B + 1536 * t.val) ∗ Owes d i O W ∗ Levels)
      ⊢ iprop((FlyE i d tab TT tb0M (Memref.isWhole_whole _) s9.sem q0 (B + 1536 * (t.val + 1)) 4 0 -∗ Slot1 i s10 d tab TT q1 B (t.val + 1) -∗ IdleE i d TT tb2M (Memref.isWhole_whole _) s11.sem q2
          -∗ Work d i tab uu raw IDX U nv lo (B + 1536 * (t.val + 1)) -∗ Owes d i O W -∗ Q ⟨⟩)
        -∗ WP d i (k0_t2_body (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84 t y) Q) := by
  have ht : t.val < 20 := val_lt t2_trips t
  have hi1 : (i 1).val < 16 := (i 1).isLt
  have hi0 : (i 0).val < 2 := (i 0).isLt
  obtain ⟨A, hA⟩ : ∃ A, A = B + 1536 * t.val := ⟨_, rfl⟩
  have hA' : 62464 * (i 1).val + 31232 * (i 0).val + 1536 * t.val = A := by omega
  have b0 := block_toNat hi1 hi0 hv84 ht (c := 0#32) (by decide)
  have b1 := block_toNat hi1 hi0 hv84 ht (c := 1#32) (by decide)
  have b2 := block_toNat hi1 hi0 hv84 ht (c := 2#32) (by decide)
  rw [hA', show (0#32 : BitVec 32).toNat = 0 from rfl] at b0
  rw [hA', show (1#32 : BitVec 32).toNat = 1 from rfl] at b1
  rw [hA', show (2#32 : BitVec 32).toNat = 2 from rfl] at b2
  have e1 : A + 512 + 512 = A + 1024 := by omega
  have e2 : A + 1024 + 512 = A + 1536 := by omega
  have e3 : B + 1536 * (t.val + 1) = A + 1536 := by omega
  have e4 : A + 1536 + 512 = A + 2048 := by omega
  have hrest : ∀ v258 : BitVec 32, v258 = Scalar.addi v84 (Scalar.addi (Scalar.muli 3#32 (Scf.iv 0#32 1#32 t)) 2#32) →
    iprop(Slot1 i s10 d tab TT q1 B (t.val + 1) ∗ FlyE i d tab TT tb2M (Memref.isWhole_whole _) s11.sem q2 (A + 1024) 4 2 ∗ Work d i tab uu raw IDX U nv lo (A + 1024) ∗ Owes d i O W ∗ Levels)
      ⊢ iprop((Slot1 i s10 d tab TT q1 B (t.val + 1) -∗ IdleE i d TT tb2M (Memref.isWhole_whole _) s11.sem q2 -∗ Work d i tab uu raw IDX U nv lo (A + 1536) -∗ Owes d i O W -∗ Q ⟨⟩)
        -∗ WP d i (
        .op (.waitDma2 s11.sem (ttM.slice (Rect.unit (s := S32x1000000) (k0_off40 i t) S8x512.size (k0_off40_inb i t)) (fun _ => rfl)) (slabV tb2M 2) (View.wordExact_bits rfl) (View.wordExact_bits rfl)) fun _ =>
        .op (.waitDma2 s11.sem (ttM.slice (Rect.unit (s := S32x1000000) (k0_off41 i t) S8x512.size (k0_off41_inb i t)) (fun _ => rfl)) (slabV tb2M 3) (View.wordExact_bits rfl) (View.wordExact_bits rfl)) fun _ =>
        Scf.Loop.for (k0_t11_loop v8) (k0_t11_ok i v8 hw11) 0#32 (k0_t11_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84 v258) >>= fun v288 =>
        Scf.Loop.for (k0_t12_loop v8) (k0_t12_ok i v8 hw11) v288 (k0_t12_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84 v258) >>= fun c =>
        .op (.assume (k0_chk152 c) (k0_chk152.dec c)) fun hw =>
        Scf.Loop.for (k0_t13_loop c) (k0_t13_ok c hw.down) ⟨⟩ (k0_t13_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84 c hw.down) >>= fun _ =>
        Scf.Loop.for (k0_t14_loop c) (k0_t14_ok c hw.down) ⟨⟩ (k0_t14_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84 c hw.down (Scalar.addi 0#32 (Scalar.muli (Scalar.divsi (Scalar.subi (Scalar.shrui (Scalar.addi c 15#32) 4#32) 0#32) 1#32) 1#32))) >>= fun _ =>
        .ret ⟨⟩) Q) := by
    rintro v258 rfl
    unfold FlyE IdleE
    iintro ⟨HS, ⟨%X, HF⟩, HW, HO, #Hlv⟩ HK
    iapply (wp_copyWait d i (W := W) hO tb2M (Memref.isWhole_whole _) s11.sem tab TT q2 (u := 2) 2 (by omega)) $$ [HF HO]
    · iframe HF HO Hlv
    iintro HF HO
    iapply (wp_copyWaitLast d i (W := W) hO tb2M (Memref.isWhole_whole _) s11.sem tab TT q2 3) $$ [HF HO]
    · iframe HF HO Hlv
    iintro HI HO
    unfold Idle
    icases HI with ⟨HT, Htt, Hs⟩
    iapply (wp_list d i (v2 := v2) hv2 hnv hIDX b2 (lim_toNat b2 (by omega)) (by omega : 512 ≤ 512) (by omega) (Cs := k0_chk150) (fun _ h => h)
      (L := k0_t11_loop v8) (L' := k0_t12_loop v8) ((trips16 hv8).trans hn8.symm) (remLoop_trips _) (fun x => off42_0 hv8 x)
      (fun x y => t11_body_eq i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84 _ x y)) $$ HW
    iintro %c %hc HM
    iapply (wp_chk d i (chk152 hc))
    iapply (wp_dots d i (v2 := v2) hv2 hnv 512 (by omega) (Memref.isWhole_whole _) h_S32x512 (s0 := A + 1024) (isTab_tabBuf tab _) hU hc (Ck := k0_chk153) (Cs := k0_chk185) (fun _ _ h => h) (fun _ h => h)
      (L := k0_t13_loop c) (L' := k0_t14_loop c) (trips16 hc) (remLoop_trips _) (fun x => off44_0 hc x)
      (fun x y => t13_body_eq i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84 c (chk152 hc) x y)) $$ [HT HM]
    · iframe HT HM
    iintro HT HW
    iapply (wp_ret_intro d i)
    rw [e2]
    iapply HK $$ HS [HT Htt Hs] HW HO
    iexists (tabBuf tab (A + 1024)); iframe HT Htt Hs
  rw [t2_body_eq i s9 s10 s11 s12 p0 p1 p2 v2 v8 hw11 v83 v84 t y, e3, ← hA]
  have hs : Slot1 i s10 d tab TT q1 B t.val = (FlyE i d tab TT tb1M (Memref.isWhole_whole _) s10.sem q1 (A + 512) 4 0 : sProp 𝕄) := by
    unfold Slot1; rw [if_pos ht, ← hA]
  rw [hs]
  iintro ⟨HF0, HF1, HI2, HW, HO, #Hlv⟩ HK
  iapply (wp_bind_intro d i)
  iapply (wp_part37 i s9 s10 s11 s12 p0 p1 p2 d (W := W) hO tab TT hTT q0 q2 v84 t A hA') $$ [HF0 HI2 HO]
  · iframe HF0 HI2 HO Hlv
  iintro HF0 HF2 HO
  try dsimp only
  iapply (wp_bind_intro d i)
  iapply (wp_part38 i s9 s10 s11 s12 p0 p1 p2 d (W := W) hO tab uu raw IDX U nv lo hv2 hnv hIDX hU TT hTT q0 hv8 hn8 hw11 v83 v84 t _ _ A hA' (by omega) b0) $$ [HF0 HW HO]
  · iframe HF0 HW HO Hlv
  iintro HF0 HW HO
  try dsimp only
  iapply (wp_bind_intro d i)
  iapply (wp_part39 i s9 s10 s11 s12 p0 p1 p2 d (W := W) hO tab uu raw IDX U nv lo hv2 hnv hIDX hU TT hTT q1 hv8 hn8 hw11 v83 t _ (A + 512) (by omega) b1) $$ [HF1 HW HO]
  · iframe HF1 HW HO Hlv
  iintro %c %hc HI1 HM HO
  try dsimp only
  iapply (wp_bind_intro d i)
  by_cases h3 : k0_cond3 t = 1#1
  · have ht3 := (cond3_iff t).mp h3
    iapply (wp_part40 i s9 s10 s11 s12 p0 p1 p2 d (W := W) hO tab uu raw IDX U nv lo hv2 hnv hIDX hU TT hTT q1 q2 hv8 hn8 v84 t h3 _ c hc A hA') $$ [HI1 HF2 HM HO]
    · iframe HI1 HF2 HM HO Hlv
    iintro HF1 HF2 HW HO
    try dsimp only
    rw [e1]
    iapply (hrest _ rfl) $$ [HF1 HF2 HW HO]
    · unfold Slot1; rw [if_pos (by omega), e3, e4]; iframe HF1 HF2 HW HO Hlv
    iintro HS HI2 HW HO
    iapply HK $$ HF0 HS HI2 HW HO
  · have ht3 : ¬ t.val < 19 := fun h => h3 ((cond3_iff t).mpr h)
    iapply (wp_part40' i s9 s10 s11 s12 p0 p1 p2 d (W := W) hO tab uu raw IDX U nv lo hv2 hnv hIDX hU TT hTT q1 q2 hv8 hn8 v84 t h3 _ c hc A hA') $$ [HI1 HF2 HM HO]
    · iframe HI1 HF2 HM HO Hlv
    iintro HI1 HF2 HW HO
    try dsimp only
    rw [e1]
    iapply (hrest _ rfl) $$ [HI1 HF2 HW HO]
    · unfold Slot1; rw [if_neg (by omega)]; iframe HI1 HF2 HW HO Hlv
    iintro HS HI2 HW HO
    iapply HK $$ HF0 HS HI2 HW HO

end Main

end Cert.Proof.Stream
-- ==== Proof.Tail.lean ====
/-
  After the main loop: the last window, and what the last tile does besides.
-/
module

public import proofs.«01_k».proof.Proof.Main

@[expose] public section

noncomputable section

namespace Cert.Proof.Stream

open Cert.KernelIdeal Cert.KernelIdeal.Gen
open Idealize.ShloMosaic Idealize.ShloMosaic.SparseCore
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

theorem cond4_iff : ∀ i : grid0.Coords, k0_cond4 i = 1#1 ↔ 2 * (i 1).val + (i 0).val = 31 := by decide +kernel

/-- The table's last 64 columns. -/
abbrev endM : Memref sig .scVector .hbm S32x64 .f32 := ttM.slice (Rect.unit (s := S32x1000000) ![0, 999936] S32x64.size inb_S32x1000000_S32x64_0_999936) (fun _ => rfl)

section Eqs

variable (i : grid0.Coords) (s9 s10 s11 s12 p0 p1 p2 : DmaSems sig S_)

theorem part77_eq :
    k0_part77 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2
      = .op (.enqueueDma (ttM.slice (Rect.unit (s := S32x1000000) (![0, 999424]) S8x512.size (inb_S32x1000000_S8x512_0_999424)) (fun _ => rfl)) (.here (slabV tb0M 0)) (.dma s9.sem) (View.wordExact_bits rfl) (View.wordExact_bits rfl) ⟨Or.inl rfl, trivial⟩) fun _ =>
        .op (.enqueueDma (ttM.slice (Rect.unit (s := S32x1000000) (![8, 999424]) S8x512.size (inb_S32x1000000_S8x512_8_999424)) (fun _ => rfl)) (.here (slabV tb0M 1)) (.dma s9.sem) (View.wordExact_bits rfl) (View.wordExact_bits rfl) ⟨Or.inl rfl, trivial⟩) fun _ =>
        .op (.enqueueDma (ttM.slice (Rect.unit (s := S32x1000000) (![16, 999424]) S8x512.size (inb_S32x1000000_S8x512_16_999424)) (fun _ => rfl)) (.here (slabV tb0M 2)) (.dma s9.sem) (View.wordExact_bits rfl) (View.wordExact_bits rfl) ⟨Or.inl rfl, trivial⟩) fun _ =>
        .op (.enqueueDma (ttM.slice (Rect.unit (s := S32x1000000) (![24, 999424]) S8x512.size (inb_S32x1000000_S8x512_24_999424)) (fun _ => rfl)) (.here (slabV tb0M 3)) (.dma s9.sem) (View.wordExact_bits rfl) (View.wordExact_bits rfl) ⟨Or.inl rfl, trivial⟩) fun _ =>
        .ret ⟨⟩ := by
  rw [k0_part77_eq_skeleton]
  rfl

theorem part78_eq (v2 : IVec S16 32) (v8 : BitVec 32) (hw11 : k0_chk11 i v8) (v83 : BitVec 32) (h4 : k0_cond4 i = 1#1) :
    k0_part78 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 h4
      = .op (.waitDma2 s9.sem (ttM.slice (Rect.unit (s := S32x1000000) (![0, 999424]) S8x512.size (inb_S32x1000000_S8x512_0_999424)) (fun _ => rfl)) (slabV tb0M 0) (View.wordExact_bits rfl) (View.wordExact_bits rfl)) fun _ =>
        .op (.waitDma2 s9.sem (ttM.slice (Rect.unit (s := S32x1000000) (![8, 999424]) S8x512.size (inb_S32x1000000_S8x512_8_999424)) (fun _ => rfl)) (slabV tb0M 1) (View.wordExact_bits rfl) (View.wordExact_bits rfl)) fun _ =>
        .op (.waitDma2 s9.sem (ttM.slice (Rect.unit (s := S32x1000000) (![16, 999424]) S8x512.size (inb_S32x1000000_S8x512_16_999424)) (fun _ => rfl)) (slabV tb0M 2) (View.wordExact_bits rfl) (View.wordExact_bits rfl)) fun _ =>
        .op (.waitDma2 s9.sem (ttM.slice (Rect.unit (s := S32x1000000) (![24, 999424]) S8x512.size (inb_S32x1000000_S8x512_24_999424)) (fun _ => rfl)) (slabV tb0M 3) (View.wordExact_bits rfl) (View.wordExact_bits rfl)) fun _ =>
        Scf.Loop.for (k0_t19_loop v8) (k0_t19_ok i v8 hw11 h4) 0#32 (k0_t19_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 h4) >>= fun v211 =>
        Scf.Loop.for (k0_t20_loop v8) (k0_t20_ok i v8 hw11 h4) v211 (k0_t20_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 h4) >>= fun c =>
        .op (.assume (k0_chk290 i c) (k0_chk290.dec i c)) fun hw =>
        .ret ⟨c, hw.down, Scalar.addi c 15#32, 4#32⟩ := by
  rw [k0_part78_eq_skeleton]
  rfl

theorem part83_eq (v2 : IVec S16 32) (v8 : BitVec 32) (hw11 : k0_chk11 i v8) (v83 v84 : BitVec 32) :
    k0_part83 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84
      = .op (.enqueueDma (ttM.slice (Rect.unit (s := S32x1000000) (k0_off8 i) S8x512.size (k0_off8_inb i)) (fun _ => rfl)) (.here (slabV tb1M 2)) (.dma s10.sem) (View.wordExact_bits rfl) (View.wordExact_bits rfl) ⟨Or.inl rfl, trivial⟩) fun _ =>
        .op (.enqueueDma (ttM.slice (Rect.unit (s := S32x1000000) (k0_off9 i) S8x512.size (k0_off9_inb i)) (fun _ => rfl)) (.here (slabV tb1M 3)) (.dma s10.sem) (View.wordExact_bits rfl) (View.wordExact_bits rfl) ⟨Or.inl rfl, trivial⟩) fun _ =>
        Scf.Loop.for k0_t2_loop k0_t2_ok ⟨⟩ (k0_t2_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84) >>= fun _ =>
        .op (.waitDma2 s9.sem (ttM.slice (Rect.unit (s := S32x1000000) (k0_off46 i) S8x512.size (k0_off46_inb i)) (fun _ => rfl)) (slabV tb0M 0) (View.wordExact_bits rfl) (View.wordExact_bits rfl)) fun _ =>
        .ret (Scalar.subi (Scalar.addi v84 61#32) 1#32) := by
  rw [k0_part83_eq_skeleton]
  rfl

theorem part84_eq (v1 : BitVec 32) (v2 : IVec S16 32) (v8 : BitVec 32) (hw11 : k0_chk11 i v8) (v83 v128 : BitVec 32) (h4 : k0_cond4 i = 1#1) :
    k0_part84 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128
      = .op (.waitDma2 s9.sem (ttM.slice (Rect.unit (s := S32x1000000) (k0_off47 i) S8x512.size (k0_off47_inb i)) (fun _ => rfl)) (slabV tb0M 1) (View.wordExact_bits rfl) (View.wordExact_bits rfl)) fun _ =>
        .op (.waitDma2 s9.sem (ttM.slice (Rect.unit (s := S32x1000000) (k0_off48 i) S8x512.size (k0_off48_inb i)) (fun _ => rfl)) (slabV tb0M 2) (View.wordExact_bits rfl) (View.wordExact_bits rfl)) fun _ =>
        .op (.waitDma2 s9.sem (ttM.slice (Rect.unit (s := S32x1000000) (k0_off49 i) S8x512.size (k0_off49_inb i)) (fun _ => rfl)) (slabV tb0M 3) (View.wordExact_bits rfl) (View.wordExact_bits rfl)) fun _ =>
        Scf.Loop.for (k0_t15_loop v8) (k0_t15_ok i v8 hw11) 0#32 (k0_t15_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128) >>= fun v155 =>
        Scf.Loop.for (k0_t16_loop v8) (k0_t16_ok i v8 hw11) v155 (k0_t16_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128) >>= fun c =>
        .op (.assume (k0_chk221 c) (k0_chk221.dec c)) fun hw =>
        Scf.Loop.for (k0_t17_loop c) (k0_t17_ok c hw.down) ⟨⟩ (k0_t17_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128 c hw.down) >>= fun _ =>
        Scf.Loop.for (k0_t18_loop c) (k0_t18_ok c hw.down) ⟨⟩ (k0_t18_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128 c hw.down (Scalar.addi 0#32 (Scalar.muli (Scalar.divsi (Scalar.subi (Scalar.shrui (Scalar.addi c 15#32) 4#32) 0#32) 1#32) 1#32))) >>= fun _ =>
        (k0_part77 i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 >>= fun _ =>
        k0_part78 i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 h4 >>= fun r =>
        Scf.Loop.for (k0_t21_loop r.1) (k0_t21_ok i r.1 r.2.1 h4) ⟨⟩ (k0_t21_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128 h4 r.1 r.2.1) >>= fun _ =>
        Scf.Loop.for (k0_t22_loop r.1) (k0_t22_ok i r.1 r.2.1 h4) ⟨⟩ (k0_t22_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128 h4 r.1 r.2.1 (Scalar.addi 0#32 (Scalar.muli (Scalar.divsi (Scalar.subi (Scalar.shrui r.2.2.1 r.2.2.2) 0#32) 1#32) 1#32))) >>= fun _ =>
        .op (.enqueueDma endM (.here tailM) (.dma p2.sem) (View.wordExact_bits rfl) (Memref.isWhole_whole cc0_scratch3).wordExact ⟨Or.inl rfl, trivial⟩) fun _ =>
        .op (.waitDma2 p2.sem endM tailM (View.wordExact_bits rfl) (Memref.isWhole_whole cc0_scratch3).wordExact) fun _ =>
        Scf.Loop.for (k0_t23_loop v8) (k0_t23_ok i v8 hw11 h4) 0#32 (k0_t23_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128 h4) >>= fun v225 =>
        Scf.Loop.for (k0_t24_loop v8) (k0_t24_ok i v8 hw11 h4) v225 (k0_t24_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128 h4) >>= fun c =>
        .op (.assume (k0_chk359 i c) (k0_chk359.dec i c)) fun hw =>
        Scf.Loop.for (k0_t25_loop c) (k0_t25_ok i c hw.down h4) ⟨⟩ (k0_t25_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128 h4 c hw.down) >>= fun _ =>
        Scf.Loop.for (k0_t26_loop c) (k0_t26_ok i c hw.down h4) ⟨⟩ (k0_t26_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128 h4 c hw.down (Scalar.addi 0#32 (Scalar.muli (Scalar.divsi (Scalar.subi (Scalar.shrui (Scalar.addi c 15#32) 4#32) 0#32) 1#32) 1#32))) >>= fun _ =>
        .ret ⟨⟩) := by
  rw [k0_part84_eq_skeleton]
  unfold k0_part84_skel
  simp only [dif_pos h4]
  rfl

theorem part84_eq' (v1 : BitVec 32) (v2 : IVec S16 32) (v8 : BitVec 32) (hw11 : k0_chk11 i v8) (v83 v128 : BitVec 32) (h4 : ¬ k0_cond4 i = 1#1) :
    k0_part84 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128
      = .op (.waitDma2 s9.sem (ttM.slice (Rect.unit (s := S32x1000000) (k0_off47 i) S8x512.size (k0_off47_inb i)) (fun _ => rfl)) (slabV tb0M 1) (View.wordExact_bits rfl) (View.wordExact_bits rfl)) fun _ =>
        .op (.waitDma2 s9.sem (ttM.slice (Rect.unit (s := S32x1000000) (k0_off48 i) S8x512.size (k0_off48_inb i)) (fun _ => rfl)) (slabV tb0M 2) (View.wordExact_bits rfl) (View.wordExact_bits rfl)) fun _ =>
        .op (.waitDma2 s9.sem (ttM.slice (Rect.unit (s := S32x1000000) (k0_off49 i) S8x512.size (k0_off49_inb i)) (fun _ => rfl)) (slabV tb0M 3) (View.wordExact_bits rfl) (View.wordExact_bits rfl)) fun _ =>
        Scf.Loop.for (k0_t15_loop v8) (k0_t15_ok i v8 hw11) 0#32 (k0_t15_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128) >>= fun v155 =>
        Scf.Loop.for (k0_t16_loop v8) (k0_t16_ok i v8 hw11) v155 (k0_t16_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128) >>= fun c =>
        .op (.assume (k0_chk221 c) (k0_chk221.dec c)) fun hw =>
        Scf.Loop.for (k0_t17_loop c) (k0_t17_ok c hw.down) ⟨⟩ (k0_t17_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128 c hw.down) >>= fun _ =>
        Scf.Loop.for (k0_t18_loop c) (k0_t18_ok c hw.down) ⟨⟩ (k0_t18_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128 c hw.down (Scalar.addi 0#32 (Scalar.muli (Scalar.divsi (Scalar.subi (Scalar.shrui (Scalar.addi c 15#32) 4#32) 0#32) 1#32) 1#32))) >>= fun _ =>
        .ret ⟨⟩ := by
  rw [k0_part84_eq_skeleton]
  unfold k0_part84_skel
  simp only [dif_neg h4]
  rfl

end Eqs

section Tail

variable (i : grid0.Coords) (s9 s10 s11 s12 p0 p1 p2 : DmaSems sig S_) (d : Dev nD)
  {O : CellTallies nD τ sig (HIx 1)} {W : Waits sig (HIx 1)} (hO : ∀ g, O g none = 0)
  (tab : ℕ → ℕ → F .f32) (uu : ℕ → F .f32) (raw : ℕ → ℕ) (IDX : S16384.Idx → Elt F .i32) (U : S32x16.Idx → Elt F .f32) (nv lo : ℕ)
  {v2 : IVec S16 32} (hv2 : ∀ l : Fin 16, v2 (ln l) = BitVec.ofNat 32 l.val) (hnv : nv ≤ 1024)
  (hIDX : ∀ x : S16384.Idx, (IDX x : BitVec 32).toNat = raw (x 0).val) (hU : IsVec U uu)
  (TT : Buf (Elt F) (ttLoc d i)) (hTT : ∀ x : S32x1000000.Idx, TT x = tab (x 0).val (x 1).val) (q0 q1 q2 : PosShare TreeShare)
  {v8 : BitVec 32} (hv8 : v8.toNat ≤ 16384) (hn8 : nv = (v8.toNat + 15) / 16)

include hO hv2 hnv hIDX hU hTT hv8 hn8 in
/-- The window whose copies are out is waited for, listed and worked through. -/
theorem wp_part84_head (hw11 : k0_chk11 i v8) (v1 v83 v128 : BitVec 32) (A : ℕ) (hA1 : A + 512 ≤ 1000000) (hv : (Scalar.muli v128 512#32).toNat = A)
    {α : Type} {kk : Prog (TpuEff nD τ sig (Elt F) Λ₀ (.scVector ((i 0).castLE hcore0) ((i 1).castLE hsub0))) α} {Q : α → sProp 𝕄} :
    iprop(FlyE i d tab TT tb0M (Memref.isWhole_whole _) s9.sem q0 A 4 1 ∗ Work d i tab uu raw IDX U nv lo A ∗ Owes d i O W ∗ Levels)
      ⊢ iprop((IdleE i d TT tb0M (Memref.isWhole_whole _) s9.sem q0 -∗ Work d i tab uu raw IDX U nv lo (A + 512) -∗ Owes d i O W -∗ WP d i kk Q)
        -∗ WP d i (.op (.waitDma2 s9.sem (ttM.slice (Rect.unit (s := S32x1000000) (k0_off47 i) S8x512.size (k0_off47_inb i)) (fun _ => rfl)) (slabV tb0M 1) (View.wordExact_bits rfl) (View.wordExact_bits rfl)) fun _ =>
        .op (.waitDma2 s9.sem (ttM.slice (Rect.unit (s := S32x1000000) (k0_off48 i) S8x512.size (k0_off48_inb i)) (fun _ => rfl)) (slabV tb0M 2) (View.wordExact_bits rfl) (View.wordExact_bits rfl)) fun _ =>
        .op (.waitDma2 s9.sem (ttM.slice (Rect.unit (s := S32x1000000) (k0_off49 i) S8x512.size (k0_off49_inb i)) (fun _ => rfl)) (slabV tb0M 3) (View.wordExact_bits rfl) (View.wordExact_bits rfl)) fun _ =>
        Scf.Loop.for (k0_t15_loop v8) (k0_t15_ok i v8 hw11) 0#32 (k0_t15_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128) >>= fun v155 =>
        Scf.Loop.for (k0_t16_loop v8) (k0_t16_ok i v8 hw11) v155 (k0_t16_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128) >>= fun c =>
        .op (.assume (k0_chk221 c) (k0_chk221.dec c)) fun hw =>
        Scf.Loop.for (k0_t17_loop c) (k0_t17_ok c hw.down) ⟨⟩ (k0_t17_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128 c hw.down) >>= fun _ =>
        Scf.Loop.for (k0_t18_loop c) (k0_t18_ok c hw.down) ⟨⟩ (k0_t18_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128 c hw.down (Scalar.addi 0#32 (Scalar.muli (Scalar.divsi (Scalar.subi (Scalar.shrui (Scalar.addi c 15#32) 4#32) 0#32) 1#32) 1#32))) >>= fun _ =>
          kk) Q) := by
  unfold FlyE IdleE
  iintro ⟨⟨%X, HF⟩, HW, HO, #Hlv⟩ HK
  iapply (wp_copyWait d i (W := W) hO tb0M (Memref.isWhole_whole _) s9.sem tab TT q0 (u := 1) 1 (by omega)) $$ [HF HO]
  · iframe HF HO Hlv
  iintro HF HO
  iapply (wp_copyWait d i (W := W) hO tb0M (Memref.isWhole_whole _) s9.sem tab TT q0 (u := 2) 2 (by omega)) $$ [HF HO]
  · iframe HF HO Hlv
  iintro HF HO
  iapply (wp_copyWaitLast d i (W := W) hO tb0M (Memref.isWhole_whole _) s9.sem tab TT q0 3) $$ [HF HO]
  · iframe HF HO Hlv
  iintro HI HO
  unfold Idle
  icases HI with ⟨HT, Htt, Hs⟩
  iapply (wp_list d i (v2 := v2) hv2 hnv hIDX hv (lim_toNat hv (by omega)) (by omega : 512 ≤ 512) (by omega) (Cs := k0_chk219) (fun _ h => h)
    (L := k0_t15_loop v8) (L' := k0_t16_loop v8) ((trips16 hv8).trans hn8.symm) (remLoop_trips _) (fun x => off50_0 hv8 x)
    (fun x y => t15_body_eq i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128 x y)) $$ HW
  iintro %c %hc HM
  iapply (wp_chk d i (chk221 hc))
  iapply (wp_dots d i (v2 := v2) hv2 hnv 512 (by omega) (Memref.isWhole_whole _) h_S32x512 (s0 := A) (isTab_tabBuf tab _) hU hc (Ck := k0_chk222) (Cs := k0_chk254) (fun _ _ h => h) (fun _ h => h)
    (L := k0_t17_loop c) (L' := k0_t18_loop c) (trips16 hc) (remLoop_trips _) (fun x => off52_0 hc x)
    (fun x y => t17_body_eq i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128 c (chk221 hc) x y)) $$ [HT HM]
  · iframe HT HM
  iintro HT HW
  iapply HK $$ [HT Htt Hs] HW HO
  iexists (tabBuf tab A); iframe HT Htt Hs

include hO hTT in
theorem wp_part77 {Q : PUnit → sProp 𝕄} :
    IdleE i d TT tb0M (Memref.isWhole_whole _) s9.sem q0 ⊢ iprop((FlyE i d tab TT tb0M (Memref.isWhole_whole _) s9.sem q0 999424 4 0 -∗ Q ⟨⟩) -∗ WP d i (k0_part77 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2) Q) := by
  rw [part77_eq i s9 s10 s11 s12 p0 p1 p2]
  unfold FlyE IdleE
  iintro ⟨%X, HI⟩ HK
  imod (fly_start d i tb0M (Memref.isWhole_whole _) s9.sem tab TT q0 (999424) X) $$ HI with HF
  iapply (wp_copyAt i d tab TT hTT (tb := tb0M) (Memref.isWhole_whole _) (sem := s9.sem) (q := q0) 0 (j := 0) (j' := 1) rfl rfl rfl) $$ HF
  iintro HF
  iapply (wp_copyAt i d tab TT hTT (tb := tb0M) (Memref.isWhole_whole _) (sem := s9.sem) (q := q0) 1 (j := 1) (j' := 2) rfl rfl rfl) $$ HF
  iintro HF
  iapply (wp_copyAt i d tab TT hTT (tb := tb0M) (Memref.isWhole_whole _) (sem := s9.sem) (q := q0) 2 (j := 2) (j' := 3) rfl rfl rfl) $$ HF
  iintro HF
  iapply (wp_copyAt i d tab TT hTT (tb := tb0M) (Memref.isWhole_whole _) (sem := s9.sem) (q := q0) 3 (j := 3) (j' := 4) rfl rfl rfl) $$ HF
  iintro HF
  iapply (wp_ret_intro d i)
  iapply HK
  iexists X; iexact HF

include hO hv2 hnv hIDX hU hTT hv8 hn8 in
theorem wp_part78 (hw11 : k0_chk11 i v8) (v83 : BitVec 32) (h4 : k0_cond4 i = 1#1) {Q : (Σ' (v212 : BitVec 32) (k0_hw290 : k0_chk290 i v212) (v213 : BitVec 32), BitVec 32) → sProp 𝕄} :
    iprop(FlyE i d tab TT tb0M (Memref.isWhole_whole _) s9.sem q0 999424 4 0 ∗ Work d i tab uu raw IDX U nv lo 999424 ∗ Owes d i O W ∗ Levels)
      ⊢ iprop((∀ c : BitVec 32, ∀ hc : c.toNat ≤ 16384, Idle d i tb0M (Memref.isWhole_whole _) s9.sem TT q0 (tabBuf tab 999424) -∗ Mid d i tab uu raw IDX U nv lo 999424 512 c -∗ Owes d i O W
          -∗ Q ⟨c, chk290 hc i, Scalar.addi c 15#32, 4#32⟩)
        -∗ WP d i (k0_part78 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 h4) Q) := by
  rw [part78_eq i s9 s10 s11 s12 p0 p1 p2 v2 v8 hw11 v83 h4]
  unfold FlyE
  iintro ⟨⟨%X, HF⟩, HW, HO, #Hlv⟩ HK
  iapply (wp_copyWait d i (W := W) hO tb0M (Memref.isWhole_whole _) s9.sem tab TT q0 (u := 0) 0 (by omega)) $$ [HF HO]
  · iframe HF HO Hlv
  iintro HF HO
  iapply (wp_copyWait d i (W := W) hO tb0M (Memref.isWhole_whole _) s9.sem tab TT q0 (u := 1) 1 (by omega)) $$ [HF HO]
  · iframe HF HO Hlv
  iintro HF HO
  iapply (wp_copyWait d i (W := W) hO tb0M (Memref.isWhole_whole _) s9.sem tab TT q0 (u := 2) 2 (by omega)) $$ [HF HO]
  · iframe HF HO Hlv
  iintro HF HO
  iapply (wp_copyWaitLast d i (W := W) hO tb0M (Memref.isWhole_whole _) s9.sem tab TT q0 3) $$ [HF HO]
  · iframe HF HO Hlv
  iintro HI HO
  unfold Idle
  icases HI with ⟨HT, Htt, Hs⟩
  iapply (wp_list d i (v2 := v2) hv2 hnv hIDX (s0 := 999424) (W := 512) (rfl : (999424#32 : BitVec 32).toNat = 999424) (rfl : (999936#32 : BitVec 32).toNat = 999424 + 512) (by omega : 512 ≤ 512) (by omega) (Cs := k0_chk288 i) (fun _ h _ => h)
    (L := k0_t19_loop v8) (L' := k0_t20_loop v8) ((trips16 hv8).trans hn8.symm) (remLoop_trips _) (fun x => off54_0 hv8 x)
    (fun x y => t19_body_eq i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 h4 x y)) $$ HW
  iintro %c %hc HM
  iapply (wp_chk d i (chk290 hc i))
  iapply (wp_ret_intro d i)
  iapply HK $$ %c %hc [HT Htt Hs] HM HO
  iframe HT Htt Hs

/-- What is left of the tile's table work at the end. -/
def Rest (q3 : PosShare TreeShare) : sProp 𝕄 :=
  iprop((∃ X : S32x64.Idx → Elt F .f32, Holds d i tailM (Memref.isWhole_whole _) fullShare X) ∗ (ttLoc d i ↦[Finset.univ]{q3} TT) ∗ semVal (TH d i, SemLoc.dma p2.sem) 0)

include hTT in
theorem read_end (x : S32x64.Idx) : (endM.view.read (Elt F) TT : S32x64.Idx → Elt F .f32) x = tab (x 0).val (999936 + (x 1).val) := by
  refine (hTT _).trans ?_
  show tab (0 + 1 * (x 0).val) (999936 + 1 * (x 1).val) = _
  rw [Nat.zero_add, Nat.one_mul, Nat.one_mul]

include hO hv2 hnv hIDX hU hTT hv8 hn8 in
theorem wp_part84 (q3 : PosShare TreeShare) (hw11 : k0_chk11 i v8) (v1 v83 v128 : BitVec 32) (B : ℕ) (hB : 62464 * (i 1).val + 31232 * (i 0).val = B) (hv : (Scalar.muli v128 512#32).toNat = B + 30720)
    {Q : PUnit → sProp 𝕄} :
    iprop(FlyE i d tab TT tb0M (Memref.isWhole_whole _) s9.sem q0 (B + 30720) 4 1 ∗ Rest i p2 d TT q3 ∗ Work d i tab uu raw IDX U nv lo (B + 30720) ∗ Owes d i O W ∗ Levels)
      ⊢ iprop((IdleE i d TT tb0M (Memref.isWhole_whole _) s9.sem q0 -∗ Rest i p2 d TT q3 -∗ Work d i tab uu raw IDX U nv lo (if 2 * (i 1).val + (i 0).val = 31 then 1000000 else B + 31232) -∗ Owes d i O W -∗ Q ⟨⟩)
        -∗ WP d i (k0_part84 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128) Q) := by
  have hi1 : (i 1).val < 16 := (i 1).isLt
  have hi0 : (i 0).val < 2 := (i 0).isLt
  have e0 : B + 30720 + 512 = B + 31232 := by omega
  by_cases h4 : k0_cond4 i = 1#1
  · have h31 := (cond4_iff i).mp h4
    have eB : B + 31232 = 999424 := by omega
    rw [part84_eq i s9 s10 s11 s12 p0 p1 p2 v1 v2 v8 hw11 v83 v128 h4, if_pos h31]
    iintro ⟨HF, HR, HW, HO, #Hlv⟩ HK
    iapply (wp_part84_head i s9 s10 s11 s12 p0 p1 p2 d (W := W) hO tab uu raw IDX U nv lo hv2 hnv hIDX hU TT hTT q0 hv8 hn8 hw11 v1 v83 v128 (B + 30720) (by omega) hv) $$ [HF HW HO]
    · iframe HF HW HO Hlv
    iintro HI HW HO
    rw [e0, eB]
    iapply (wp_bind_intro d i)
    iapply (wp_part77 i s9 s10 s11 s12 p0 p1 p2 d hO tab TT hTT q0) $$ HI
    iintro HF
    try dsimp only
    iapply (wp_bind_intro d i)
    iapply (wp_part78 i s9 s10 s11 s12 p0 p1 p2 d (W := W) hO tab uu raw IDX U nv lo hv2 hnv hIDX hU TT hTT q0 hv8 hn8 hw11 v83 h4) $$ [HF HW HO]
    · iframe HF HW HO Hlv
    iintro %c %hc HI HM HO
    try dsimp only
    unfold Idle Rest
    icases HI with ⟨HT, Htt, Hs⟩
    iapply (wp_dots d i (v2 := v2) hv2 hnv 512 (by omega) (Memref.isWhole_whole _) h_S32x512 (s0 := 999424) (isTab_tabBuf tab _) hU hc (Ck := k0_chk291 i) (Cs := k0_chk323 i) (fun _ _ h _ => h) (fun _ h _ => h)
      (L := k0_t21_loop c) (L' := k0_t22_loop c) (trips16 hc) (remLoop_trips _) (fun x => off56_0 hc x)
      (fun x y => t21_body_eq i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128 h4 c (chk290 hc i) x y)) $$ [HT HM]
    · iframe HT HM
    iintro HT HW
    icases HR with ⟨⟨%XE, HE⟩, Htr, Hp2⟩
    icases (pointsTo_split_subset (ℓ := ttLoc d i) (I := endM.view.set) (S := Finset.univ) (q := q3) (f := TT) (Finset.subset_univ _)).1 $$ Htr with ⟨Htr, Htc⟩
    iapply (wp_fetch d i (W := W) hO (src := endM) (dst := tailM) (Memref.isWhole_whole _) (by decide) (q := q3) (fs := TT) (X := XE)) $$ [Htr HE Hp2 HO]
    · iframe Htr HE Hp2 HO Hlv
    iintro Htr HE Hp2 HO
    iapply (wp_list d i (v2 := v2) hv2 hnv hIDX (s0 := 999936) (W := 64) (rfl : (999936#32 : BitVec 32).toNat = 999936) (rfl : (1000000#32 : BitVec 32).toNat = 999936 + 64) (by omega : 64 ≤ 512) (by omega) (Cs := k0_chk357 i) (fun _ h _ => h)
      (L := k0_t23_loop v8) (L' := k0_t24_loop v8) ((trips16 hv8).trans hn8.symm) (remLoop_trips _) (fun x => off58_0 hv8 x)
      (fun x y => t23_body_eq i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128 h4 x y)) $$ HW
    iintro %c %hc HM
    iapply (wp_chk d i (chk359 hc i))
    iapply (wp_dots d i (v2 := v2) hv2 hnv 64 (by omega) (Memref.isWhole_whole _) h_S32x64 (s0 := 999936) (fun x => read_end i d tab TT hTT x) hU hc (Ck := k0_chk360 i) (Cs := k0_chk392 i) (fun _ _ h _ => h) (fun _ h _ => h)
      (L := k0_t25_loop c) (L' := k0_t26_loop c) (trips16 hc) (remLoop_trips _) (fun x => off60_0 hc x)
      (fun x y => t25_body_eq i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 hw11 v83 v128 h4 c (chk359 hc i) x y)) $$ [HE HM]
    · iframe HE HM
    iintro HE HW
    ihave Htr := (pointsTo_split_subset (ℓ := ttLoc d i) (I := endM.view.set) (S := Finset.univ) (q := q3) (f := TT) (Finset.subset_univ _)).2 $$ [Htr Htc]
    · iframe Htr Htc
    iapply (wp_ret_intro d i)
    iapply HK $$ [HT Htt Hs] [HE Htr Hp2] HW HO
    · unfold IdleE Idle; iexists (tabBuf tab 999424); iframe HT Htt Hs
    · iframe Htr Hp2; iexists _; iexact HE
  · have h31 : ¬ 2 * (i 1).val + (i 0).val = 31 := fun h => h4 ((cond4_iff i).mpr h)
    rw [part84_eq' i s9 s10 s11 s12 p0 p1 p2 v1 v2 v8 hw11 v83 v128 h4, if_neg h31]
    iintro ⟨HF, HR, HW, HO, #Hlv⟩ HK
    iapply (wp_part84_head i s9 s10 s11 s12 p0 p1 p2 d (W := W) hO tab uu raw IDX U nv lo hv2 hnv hIDX hU TT hTT q0 hv8 hn8 hw11 v1 v83 v128 (B + 30720) (by omega) hv) $$ [HF HW HO]
    · iframe HF HW HO Hlv
    iintro HI HW HO
    rw [e0]
    iapply (wp_ret_intro d i)
    iapply HK $$ HI HR HW HO

end Tail

end Cert.Proof.Stream
-- ==== Proof.Head.lean ====
/-
  Before the main loop: the entries a tile serves are compacted, the list of positions padded, the first windows sent for.
-/
module

public import proofs.«01_k».proof.Proof.Tail
public import proofs.«01_k».proof.Proof.Bin

@[expose] public section

noncomputable section

namespace Cert.Proof.Stream

open Cert.KernelIdeal Cert.KernelIdeal.Gen
open Idealize.ShloMosaic Idealize.ShloMosaic.SparseCore
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The tile's number, as a word. -/
abbrev widW (i : grid0.Coords) : BitVec 32 := Scalar.addi (Scalar.muli (BitVec.ofNat 32 (i 1).val) 2#32) (BitVec.ofNat 32 (i 0).val)
abbrev lanesV : IVec S16 32 := iota .scVector S16 32 [0] iota_S16_d0_w32_scVector
abbrev loW (i : grid0.Coords) : BitVec 32 := Scalar.muli (widW i) 31232#32
abbrev hiW (i : grid0.Coords) : BitVec 32 := Scalar.select (Scalar.cmpi .eq (widW i) 31#32) 1000000#32 (Scalar.addi (loW i) 31232#32)

/-- The items the tile serves: from `loOf` up to `hiOf`. -/
abbrev loOf (i : grid0.Coords) : ℕ := 62464 * (i 1).val + 31232 * (i 0).val
abbrev hiOf (i : grid0.Coords) : ℕ := if 2 * (i 1).val + (i 0).val = 31 then 1000000 else loOf i + 31232

theorem loW_toNat : ∀ i : grid0.Coords, (loW i).toNat = loOf i := by decide +kernel
theorem hiW_toNat : ∀ i : grid0.Coords, (hiW i).toNat = hiOf i := by decide +kernel
theorem w84_toNat : ∀ i : grid0.Coords, (Scalar.muli (widW i) 61#32).toNat = 122 * (i 1).val + 61 * (i 0).val := by decide +kernel
theorem w128_toNat : ∀ i : grid0.Coords, (Scalar.muli (Scalar.subi (Scalar.addi (Scalar.muli (widW i) 61#32) 61#32) 1#32) 512#32).toNat = loOf i + 30720 := by decide +kernel
theorem lanesV_apply : ∀ l : Fin 16, lanesV (ln l) = BitVec.ofNat 32 l.val := by
  decide +kernel
theorem t1_trips : k0_t1_loop.trips = 1024 := by decide +kernel
theorem hi_le (i : grid0.Coords) : loOf i ≤ 968192 ∧ loOf i < hiOf i ∧ hiOf i ≤ 1000000 := by
  have h1 : (i 1).val < 16 := (i 1).isLt
  have h0 : (i 0).val < 2 := (i 0).isLt
  unfold hiOf loOf
  split <;> omega

section Eqs

variable (i : grid0.Coords) (s9 s10 s11 s12 p0 p1 p2 : DmaSems sig S_)

theorem t1_body_eq (x : Fin k0_t1_loop.trips) (y : BitVec 32) :
    k0_t1_body (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 x y
      = binBody i iaM cpM lanesV (loW i) (hiW i) (Scf.iv 0#32 1#32 x) (k0_off1 x) (k0_off1_inb x)
          k0_chk1 k0_chk1.dec k0_idx1_inb k0_chk2 k0_chk2.dec k0_idx2_inb y := by
  rfl

theorem part79_eq :
    k0_part79 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2
      = .op (.enqueueDma ixM (.here iaM) (.dma p0.sem) (Memref.isWhole_whole main_arg0_scv).wordExact (Memref.isWhole_whole cc0_scratch4).wordExact ⟨Or.inl rfl, trivial⟩) fun _ =>
        .op (.waitDma2 p0.sem ixM iaM (Memref.isWhole_whole main_arg0_scv).wordExact (Memref.isWhole_whole cc0_scratch4).wordExact) fun _ =>
        .op (.enqueueDma ubM (.here uM) (.dma p1.sem) (Memref.isWhole_whole main_v1_scv).wordExact (Memref.isWhole_whole cc0_scratch8).wordExact ⟨Or.inl rfl, trivial⟩) fun _ =>
        .op (.waitDma2 p1.sem ubM uM (Memref.isWhole_whole main_v1_scv).wordExact (Memref.isWhole_whole cc0_scratch8).wordExact) fun _ =>
        Scf.Loop.for k0_t1_loop k0_t1_ok 0#32 (k0_t1_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2) >>= fun v8 =>
        .op (.assume (k0_chk11 i v8) (k0_chk11.dec i v8)) fun hw11 =>
        .op (.assume (k0_chk3 (k0_pay188 v8) (k0_pay189 v8)) (k0_chk3.dec (k0_pay188 v8) (k0_pay189 v8))) fun hw =>
        SparseCore.vectorStoreIdx cpM ![k0_pay188 v8, k0_pay189 v8] k0_pay186 (k0_pay190 v8) false (k0_idx3_inb (k0_pay188 v8) (k0_pay189 v8) hw.down) (View.stores_vmem_bits_univ h_S130x128 rfl) >>= fun _ =>
        .op (.assume (k0_chk4 (k0_pay192 v8) (k0_pay193 v8)) (k0_chk4.dec (k0_pay192 v8) (k0_pay193 v8))) fun hw =>
        SparseCore.vectorStoreIdx cpM ![k0_pay192 v8, k0_pay193 v8] k0_pay186 (k0_pay194 v8) false (k0_idx4_inb (k0_pay192 v8) (k0_pay193 v8) hw.down) (View.stores_vmem_bits_univ h_S130x128 rfl) >>= fun _ =>

        .ret ⟨widW i, lanesV, v8, hw11.down, k0_pay186, Scalar.addi v8 32#32⟩ := by
  rw [k0_part79_eq_skeleton]
  rfl

theorem part80_eq (v2 : IVec S16 32) (v8 : BitVec 32) (v9 : IVec S16 32) (v28 : BitVec 32) :
    k0_part80 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 v9 v28
      = .op (.assume (k0_chk5 (k0_pay196 v2 v28) (k0_pay197 v2 v28)) (k0_chk5.dec (k0_pay196 v2 v28) (k0_pay197 v2 v28))) fun hw =>
        SparseCore.vectorStoreIdx cpM ![k0_pay196 v2 v28, k0_pay197 v2 v28] v9 (k0_pay198 v2 v28) false (k0_idx5_inb (k0_pay196 v2 v28) (k0_pay197 v2 v28) hw.down) (View.stores_vmem_bits_univ h_S130x128 rfl) >>= fun _ =>
        .op (.assume (k0_chk6 (k0_pay200 v2 v8) (k0_pay201 v2 v8)) (k0_chk6.dec (k0_pay200 v2 v8) (k0_pay201 v2 v8))) fun hw =>
        SparseCore.vectorStoreIdx cpM ![k0_pay200 v2 v8, k0_pay201 v2 v8] v9 (k0_pay202 v2 v8) false (k0_idx6_inb (k0_pay200 v2 v8) (k0_pay201 v2 v8) hw.down) (View.stores_vmem_bits_univ h_S130x128 rfl) >>= fun _ =>
        .op (.assume (k0_chk7 (k0_pay204 v2 v8) (k0_pay205 v2 v8)) (k0_chk7.dec (k0_pay204 v2 v8) (k0_pay205 v2 v8))) fun hw =>
        SparseCore.vectorStoreIdx cpM ![k0_pay204 v2 v8, k0_pay205 v2 v8] v9 (k0_pay206 v2 v8) false (k0_idx7_inb (k0_pay204 v2 v8) (k0_pay205 v2 v8) hw.down) (View.stores_vmem_bits_univ h_S130x128 rfl) >>= fun _ =>
        .op (.assume (k0_chk8 (k0_pay208 v2 v8) (k0_pay209 v2 v8)) (k0_chk8.dec (k0_pay208 v2 v8) (k0_pay209 v2 v8))) fun hw =>
        SparseCore.vectorStoreIdx cpM ![k0_pay208 v2 v8, k0_pay209 v2 v8] v9 (k0_pay210 v2 v8) false (k0_idx8_inb (k0_pay208 v2 v8) (k0_pay209 v2 v8) hw.down) (View.stores_vmem_bits_univ h_S130x128 rfl) >>= fun _ =>
        .ret (Scalar.addi v8 96#32) := by
  rw [k0_part80_eq_skeleton]
  rfl

theorem part81_eq (v1 : BitVec 32) (v2 : IVec S16 32) (v8 : BitVec 32) (v9 : IVec S16 32) (v64 : BitVec 32) :
    k0_part81 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v1 v2 v8 v9 v64
      = .op (.assume (k0_chk9 (k0_pay212 v2 v64) (k0_pay213 v2 v64)) (k0_chk9.dec (k0_pay212 v2 v64) (k0_pay213 v2 v64))) fun hw =>
        SparseCore.vectorStoreIdx cpM ![k0_pay212 v2 v64, k0_pay213 v2 v64] v9 (k0_pay214 v2 v64) false (k0_idx9_inb (k0_pay212 v2 v64) (k0_pay213 v2 v64) hw.down) (View.stores_vmem_bits_univ h_S130x128 rfl) >>= fun _ =>
        .op (.assume (k0_chk10 (k0_pay216 v2 v8) (k0_pay217 v2 v8)) (k0_chk10.dec (k0_pay216 v2 v8) (k0_pay217 v2 v8))) fun hw =>
        SparseCore.vectorStoreIdx cpM ![k0_pay216 v2 v8, k0_pay217 v2 v8] v9 (k0_pay218 v2 v8) false (k0_idx10_inb (k0_pay216 v2 v8) (k0_pay217 v2 v8) hw.down) (View.stores_vmem_bits_univ h_S130x128 rfl) >>= fun _ =>
        .op (.enqueueDma (ttM.slice (Rect.unit (s := S32x1000000) (k0_off2 i) S8x512.size (k0_off2_inb i)) (fun _ => rfl)) (.here (slabV tb0M 0)) (.dma s9.sem) (View.wordExact_bits rfl) (View.wordExact_bits rfl) ⟨Or.inl rfl, trivial⟩) fun _ =>
        .ret ⟨Scalar.shrui (Scalar.addi v8 15#32) 4#32, Scalar.muli v1 61#32⟩ := by
  rw [k0_part81_eq_skeleton]
  rfl

theorem part82_eq (v84 : BitVec 32) :
    k0_part82 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v84
      = .op (.enqueueDma (ttM.slice (Rect.unit (s := S32x1000000) (k0_off3 i) S8x512.size (k0_off3_inb i)) (fun _ => rfl)) (.here (slabV tb0M 1)) (.dma s9.sem) (View.wordExact_bits rfl) (View.wordExact_bits rfl) ⟨Or.inl rfl, trivial⟩) fun _ =>
        .op (.enqueueDma (ttM.slice (Rect.unit (s := S32x1000000) (k0_off4 i) S8x512.size (k0_off4_inb i)) (fun _ => rfl)) (.here (slabV tb0M 2)) (.dma s9.sem) (View.wordExact_bits rfl) (View.wordExact_bits rfl) ⟨Or.inl rfl, trivial⟩) fun _ =>
        .op (.enqueueDma (ttM.slice (Rect.unit (s := S32x1000000) (k0_off5 i) S8x512.size (k0_off5_inb i)) (fun _ => rfl)) (.here (slabV tb0M 3)) (.dma s9.sem) (View.wordExact_bits rfl) (View.wordExact_bits rfl) ⟨Or.inl rfl, trivial⟩) fun _ =>
        .op (.enqueueDma (ttM.slice (Rect.unit (s := S32x1000000) (k0_off6 i) S8x512.size (k0_off6_inb i)) (fun _ => rfl)) (.here (slabV tb1M 0)) (.dma s10.sem) (View.wordExact_bits rfl) (View.wordExact_bits rfl) ⟨Or.inl rfl, trivial⟩) fun _ =>
        .op (.enqueueDma (ttM.slice (Rect.unit (s := S32x1000000) (k0_off7 i) S8x512.size (k0_off7_inb i)) (fun _ => rfl)) (.here (slabV tb1M 1)) (.dma s10.sem) (View.wordExact_bits rfl) (View.wordExact_bits rfl) ⟨Or.inl rfl, trivial⟩) fun _ =>
        .ret ⟨⟩ := by
  rw [k0_part82_eq_skeleton]
  rfl

end Eqs

section Head

variable (i : grid0.Coords) (s9 s10 s11 s12 p0 p1 p2 : DmaSems sig S_) (d : Dev nD)
  {O : CellTallies nD τ sig (HIx 1)} {W : Waits sig (HIx 1)} (hO : ∀ g, O g none = 0)
  (tab : ℕ → ℕ → F .f32) (uu : ℕ → F .f32) (raw : ℕ → ℕ) (IDX : S16384.Idx → Elt F .i32) (U : S32x16.Idx → Elt F .f32) (nv lo : ℕ)
  {v2 : IVec S16 32} (hv2 : ∀ l : Fin 16, v2 (ln l) = BitVec.ofNat 32 l.val) (hnv : nv ≤ 1024)
  (hIDX : ∀ x : S16384.Idx, (IDX x : BitVec 32).toNat = raw (x 0).val) (hU : IsVec U uu)
  (TT : Buf (Elt F) (ttLoc d i)) (hTT : ∀ x : S32x1000000.Idx, TT x = tab (x 0).val (x 1).val) (q0 q1 q2 : PosShare TreeShare)
  {v8 : BitVec 32} (hv8 : v8.toNat ≤ 16384) (hn8 : nv = (v8.toNat + 15) / 16)

/-- The list of positions, its first `n` places padded after `v` ones. -/
def Padded (v n : ℕ) (C0 C : S130x128.Idx → BitVec 32) : Prop :=
  ∀ x, (flat x < v → C x = C0 x) ∧ (v ≤ flat x → flat x < v + n → C x = 16384#32)

theorem Padded.step {v n : ℕ} {C0 C C' : S130x128.Idx → BitVec 32} (h : Padded v n C0 C)
    (h' : ∀ x, (flat x < v + n → C' x = C x) ∧ (v + n ≤ flat x → flat x < v + n + 16 → C' x = (16384#32 : BitVec 32))) : Padded v (n + 16) C0 C' := by
  intro x
  constructor
  · intro hx
    rw [(h' x).1 (by omega)]; exact (h x).1 hx
  · intro h1 h2
    by_cases hx : flat x < v + n
    · rw [(h' x).1 hx]; exact (h x).2 h1 hx
    · exact (h' x).2 (by omega) (by omega)

theorem Padded.zero {v : ℕ} {C : S130x128.Idx → BitVec 32} : Padded v 0 C C := fun x => ⟨fun _ => rfl, fun _ h => by omega⟩

theorem addk_toNat {v8 k : BitVec 32} {n : ℕ} (h : v8.toNat ≤ 16384) (hk : k.toNat = n) (hn : n ≤ 128) : (Scalar.addi v8 k).toNat = v8.toNat + n := by
  show (v8 + k).toNat = _
  rw [BitVec.toNat_add, hk]; omega

abbrev ixLoc : Loc nD τ sig := ixM.view.loc (TH d i)

include hO in
theorem wp_part79 {IX : S16384.Idx → Elt F .i32} {UB : S32x16.Idx → Elt F .f32}
    {X1 : S16384.Idx → Elt F .i32} {X2 : S32x16.Idx → Elt F .f32} {X3 : S130x128.Idx → Elt F .i32} {qi qu : PosShare TreeShare}
    {Q : (Σ' (v1 : BitVec 32) (v2 : IVec S16 32) (v8 : BitVec 32) (k0_hw11 : k0_chk11 i v8) (v9 : IVec S16 32), BitVec 32) → sProp 𝕄} :
    iprop((ixLoc i d ↦[Finset.univ]{qi} IX) ∗ (ubLoc d i ↦[Finset.univ]{qu} UB)
        ∗ Holds d i iaM (Memref.isWhole_whole _) fullShare X1 ∗ Holds d i uM (Memref.isWhole_whole _) fullShare X2 ∗ Holds d i cpM (Memref.isWhole_whole _) fullShare X3
        ∗ semVal (TH d i, SemLoc.dma p0.sem) 0 ∗ semVal (TH d i, SemLoc.dma p1.sem) 0 ∗ Owes d i O W ∗ Levels)
      ⊢ iprop((∀ (v8 : BitVec 32) (hv8 : v8.toNat ≤ 16384) (IDX : S16384.Idx → Elt F .i32) (C0 C : S130x128.Idx → Elt F .i32),
          ⌜v8.toNat = Nat.count (Mine IX (loOf i) (hiOf i)) 16384 ∧ Binned IX (loOf i) (hiOf i) 16384 IDX C0 ∧ Padded v8.toNat 32 C0 C⌝
          -∗ (ixLoc i d ↦[Finset.univ]{qi} IX) -∗ (ubLoc d i ↦[Finset.univ]{qu} UB)
          -∗ Holds d i iaM (Memref.isWhole_whole _) fullShare IDX -∗ Holds d i uM (Memref.isWhole_whole _) fullShare UB -∗ Holds d i cpM (Memref.isWhole_whole _) fullShare C
          -∗ semVal (TH d i, SemLoc.dma p0.sem) 0 -∗ semVal (TH d i, SemLoc.dma p1.sem) 0 -∗ Owes d i O W
          -∗ Q ⟨widW i, lanesV, v8, chk11 hv8 i, k0_pay186, Scalar.addi v8 32#32⟩)
        -∗ WP d i (k0_part79 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2) Q) := by
  rw [part79_eq i s9 s10 s11 s12 p0 p1 p2]
  iintro ⟨Hi, Hu, H1, H2, H3, Hp0, Hp1, HO, #Hlv⟩ HK
  iapply (wp_fetch d i (W := W) hO (src := ixM) (dst := iaM) (Memref.isWhole_whole _) (by decide) (q := qi) (fs := IX) (X := X1)) $$ [Hi H1 Hp0 HO]
  · rw [whole_set (m := ixM) (Memref.isWhole_whole _)]
    iframe Hi H1 Hp0 HO Hlv
  rw [whole_set (m := ixM) (Memref.isWhole_whole _)]
  iintro Hi H1 Hp0 HO
  iapply (wp_fetch d i (W := W) hO (src := ubM) (dst := uM) (Memref.isWhole_whole _) (by decide) (q := qu) (fs := UB) (X := X2)) $$ [Hu H2 Hp1 HO]
  · rw [whole_set (m := ubM) (Memref.isWhole_whole _)]
    iframe Hu H2 Hp1 HO Hlv
  rw [whole_set (m := ubM) (Memref.isWhole_whole _)]
  iintro Hu H2 Hp1 HO
  ihave H2 := (show (Holds d i uM (Memref.isWhole_whole _) fullShare (View.read (Elt F) ubM.view UB) : sProp 𝕄) ⊢ Holds d i uM (Memref.isWhole_whole _) fullShare UB from .rfl) $$ H2
  have hl := hi_le i
  iapply (wp_binLoop d i iaM (Memref.isWhole_whole _) cpM (Memref.isWhole_whole _) (v2 := lanesV) lanesV_apply (loW_toNat i) (hiW_toNat i) (by omega) (by omega) (C1 := k0_chk1) (C2 := k0_chk2) (fun _ h => h) (fun _ _ h => h)
    (L := k0_t1_loop) t1_trips (fun x => by rw [k0_off1_eq]; rfl) (fun x y => t1_body_eq i s9 s10 s11 s12 p0 p1 p2 x y)) $$ [-]
  isplitl [H1]; · iexact H1
  isplitl [H3]; · iexact H3
  iintro %v8 %IDX %C0 %hP H1 H3
  have hv8 : v8.toNat ≤ 16384 := by rw [hP.1]; exact Nat.count_le _
  iapply (wp_chk d i (chk11 hv8 i))
  iapply (wp_pad d i cpM (Memref.isWhole_whole _) (v2 := lanesV) lanesV_apply (addk_toNat (k := 0#32) (n := 0) hv8 rfl (by omega)) (by omega) rfl rfl rfl rfl (Ck := k0_chk3 _ _) (fun h => h)) $$ [-]
  isplitl [H3]; · iexact H3
  iintro %C1 %h1 H3
  iapply (wp_pad d i cpM (Memref.isWhole_whole _) (v2 := lanesV) lanesV_apply (addk_toNat (k := 16#32) (n := 16) hv8 rfl (by omega)) (by omega) rfl rfl rfl rfl (Ck := k0_chk4 _ _) (fun h => h)) $$ [-]
  isplitl [H3]; · iexact H3
  iintro %C2 %h2 H3
  iapply (wp_ret_intro d i)
  iapply HK $$ %v8 %hv8 %IDX %C0 %C2 %⟨hP.1, hP.2, (Padded.zero.step h1).step h2⟩ Hi Hu H1 H2 H3 Hp0 Hp1 HO

theorem wp_part80 (hv8 : v8.toNat ≤ 16384) {C0 C : S130x128.Idx → Elt F .i32} (hC : Padded v8.toNat 32 C0 C) {Q : BitVec 32 → sProp 𝕄} :
    iprop(Holds d i cpM (Memref.isWhole_whole _) fullShare C)
      ⊢ iprop((∀ C : S130x128.Idx → Elt F .i32, ⌜Padded v8.toNat 96 C0 C⌝ -∗ Holds d i cpM (Memref.isWhole_whole _) fullShare C -∗ Q (Scalar.addi v8 96#32))
        -∗ WP d i (k0_part80 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 lanesV v8 k0_pay186 (Scalar.addi v8 32#32)) Q) := by
  rw [part80_eq i s9 s10 s11 s12 p0 p1 p2]
  iintro H3 HK
  iapply (wp_pad d i cpM (Memref.isWhole_whole _) (v2 := lanesV) lanesV_apply (addk_toNat (k := 32#32) (n := 32) hv8 rfl (by omega)) (by omega) rfl rfl rfl rfl (Ck := k0_chk5 _ _) (fun h => h)) $$ [-]
  isplitl [H3]; · iexact H3
  iintro %C5 %h5 H3
  iapply (wp_pad d i cpM (Memref.isWhole_whole _) (v2 := lanesV) lanesV_apply (addk_toNat (k := 48#32) (n := 48) hv8 rfl (by omega)) (by omega) rfl rfl rfl rfl (Ck := k0_chk6 _ _) (fun h => h)) $$ [-]
  isplitl [H3]; · iexact H3
  iintro %C6 %h6 H3
  iapply (wp_pad d i cpM (Memref.isWhole_whole _) (v2 := lanesV) lanesV_apply (addk_toNat (k := 64#32) (n := 64) hv8 rfl (by omega)) (by omega) rfl rfl rfl rfl (Ck := k0_chk7 _ _) (fun h => h)) $$ [-]
  isplitl [H3]; · iexact H3
  iintro %C7 %h7 H3
  iapply (wp_pad d i cpM (Memref.isWhole_whole _) (v2 := lanesV) lanesV_apply (addk_toNat (k := 80#32) (n := 80) hv8 rfl (by omega)) (by omega) rfl rfl rfl rfl (Ck := k0_chk8 _ _) (fun h => h)) $$ [-]
  isplitl [H3]; · iexact H3
  iintro %C8 %h8 H3
  iapply (wp_ret_intro d i)
  iapply HK $$ %C8 %((((hC.step h5).step h6).step h7).step h8) H3

include hTT in
theorem wp_part81 (hv8 : v8.toNat ≤ 16384) {C0 C : S130x128.Idx → Elt F .i32} (hC : Padded v8.toNat 96 C0 C) {Q : (Σ' (v83 : BitVec 32), BitVec 32) → sProp 𝕄} :
    iprop(Holds d i cpM (Memref.isWhole_whole _) fullShare C ∗ IdleE i d TT tb0M (Memref.isWhole_whole _) s9.sem q0)
      ⊢ iprop((∀ C : S130x128.Idx → Elt F .i32, ⌜Padded v8.toNat 128 C0 C⌝ -∗ Holds d i cpM (Memref.isWhole_whole _) fullShare C -∗ FlyE i d tab TT tb0M (Memref.isWhole_whole _) s9.sem q0 (loOf i) 1 0
          -∗ Q ⟨Scalar.shrui (Scalar.addi v8 15#32) 4#32, Scalar.muli (widW i) 61#32⟩)
        -∗ WP d i (k0_part81 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 (widW i) lanesV v8 k0_pay186 (Scalar.addi v8 96#32)) Q) := by
  rw [part81_eq i s9 s10 s11 s12 p0 p1 p2]
  unfold IdleE FlyE
  iintro ⟨H3, %X, HI⟩ HK
  iapply (wp_pad d i cpM (Memref.isWhole_whole _) (v2 := lanesV) lanesV_apply (addk_toNat (k := 96#32) (n := 96) hv8 rfl (by omega)) (by omega) rfl rfl rfl rfl (Ck := k0_chk9 _ _) (fun h => h)) $$ [-]
  isplitl [H3]; · iexact H3
  iintro %C9 %h9 H3
  iapply (wp_pad d i cpM (Memref.isWhole_whole _) (v2 := lanesV) lanesV_apply (addk_toNat (k := 112#32) (n := 112) hv8 rfl (by omega)) (by omega) rfl rfl rfl rfl (Ck := k0_chk10 _ _) (fun h => h)) $$ [-]
  isplitl [H3]; · iexact H3
  iintro %C10 %h10 H3
  imod (fly_start d i tb0M (Memref.isWhole_whole _) s9.sem tab TT q0 (loOf i) X) $$ HI with HF
  iapply (wp_copyAt i d tab TT hTT (tb := tb0M) (Memref.isWhole_whole _) (sem := s9.sem) (q := q0) 0 (j := 0) (j' := 1) rfl rfl (k0_off2_eq i)) $$ HF
  iintro HF
  iapply (wp_ret_intro d i)
  iapply HK $$ %C10 %((hC.step h9).step h10) H3 [HF]
  iexists X; iexact HF

include hTT in
theorem wp_part82 (v84 : BitVec 32) {Q : PUnit → sProp 𝕄} :
    iprop(FlyE i d tab TT tb0M (Memref.isWhole_whole _) s9.sem q0 (loOf i) 1 0 ∗ IdleE i d TT tb1M (Memref.isWhole_whole _) s10.sem q1)
      ⊢ iprop((FlyE i d tab TT tb0M (Memref.isWhole_whole _) s9.sem q0 (loOf i) 4 0 -∗ FlyE i d tab TT tb1M (Memref.isWhole_whole _) s10.sem q1 (loOf i + 512) 2 0 -∗ Q ⟨⟩)
        -∗ WP d i (k0_part82 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v84) Q) := by
  rw [part82_eq i s9 s10 s11 s12 p0 p1 p2]
  unfold IdleE FlyE
  iintro ⟨⟨%X0, HF0⟩, %X, HI⟩ HK
  iapply (wp_copyAt i d tab TT hTT (tb := tb0M) (Memref.isWhole_whole _) (sem := s9.sem) (q := q0) 1 (j := 1) (j' := 2) rfl rfl (k0_off3_eq i)) $$ HF0
  iintro HF0
  iapply (wp_copyAt i d tab TT hTT (tb := tb0M) (Memref.isWhole_whole _) (sem := s9.sem) (q := q0) 2 (j := 2) (j' := 3) rfl rfl (k0_off4_eq i)) $$ HF0
  iintro HF0
  iapply (wp_copyAt i d tab TT hTT (tb := tb0M) (Memref.isWhole_whole _) (sem := s9.sem) (q := q0) 3 (j := 3) (j' := 4) rfl rfl (k0_off5_eq i)) $$ HF0
  iintro HF0
  imod (fly_start d i tb1M (Memref.isWhole_whole _) s10.sem tab TT q1 (loOf i + 512) X) $$ HI with HF
  iapply (wp_copyAt i d tab TT hTT (tb := tb1M) (Memref.isWhole_whole _) (sem := s10.sem) (q := q1) 0 (j := 0) (j' := 1) rfl rfl (k0_off6_eq i)) $$ HF
  iintro HF
  iapply (wp_copyAt i d tab TT hTT (tb := tb1M) (Memref.isWhole_whole _) (sem := s10.sem) (q := q1) 1 (j := 1) (j' := 2) rfl rfl (k0_off7_eq i)) $$ HF
  iintro HF
  iapply (wp_ret_intro d i)
  iapply HK $$ [HF0] [HF]
  · iexists X0; iexact HF0
  · iexists X; iexact HF

include hO hv2 hnv hIDX hU hTT hv8 hn8 in
theorem wp_part83 (hw11 : k0_chk11 i v8) (v83 : BitVec 32) {v84 : BitVec 32} (hv84 : v84.toNat = 122 * (i 1).val + 61 * (i 0).val) {Q : BitVec 32 → sProp 𝕄} :
    iprop(FlyE i d tab TT tb0M (Memref.isWhole_whole _) s9.sem q0 (loOf i) 4 0 ∗ FlyE i d tab TT tb1M (Memref.isWhole_whole _) s10.sem q1 (loOf i + 512) 2 0 ∗ IdleE i d TT tb2M (Memref.isWhole_whole _) s11.sem q2
        ∗ Work d i tab uu raw IDX U nv lo (loOf i) ∗ Owes d i O W ∗ Levels)
      ⊢ iprop((FlyE i d tab TT tb0M (Memref.isWhole_whole _) s9.sem q0 (loOf i + 30720) 4 1 -∗ IdleE i d TT tb1M (Memref.isWhole_whole _) s10.sem q1 -∗ IdleE i d TT tb2M (Memref.isWhole_whole _) s11.sem q2
          -∗ Work d i tab uu raw IDX U nv lo (loOf i + 30720) -∗ Owes d i O W -∗ Q (Scalar.subi (Scalar.addi v84 61#32) 1#32))
        -∗ WP d i (k0_part83 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84) Q) := by
  obtain ⟨I, hI⟩ : ∃ I : ℕ → Unit → sProp 𝕄, ∀ n a, I n a = iprop(FlyE i d tab TT tb0M (Memref.isWhole_whole _) s9.sem q0 (loOf i + 1536 * n) 4 0 ∗ Slot1 i s10 d tab TT q1 (loOf i) n ∗ IdleE i d TT tb2M (Memref.isWhole_whole _) s11.sem q2
        ∗ Work d i tab uu raw IDX U nv lo (loOf i + 1536 * n) ∗ Owes d i O W ∗ Levels) := ⟨_, fun _ _ => rfl⟩
  have hbody : ∀ (x : Fin k0_t2_loop.trips) (acc : Unit), I x.val acc ⊢ WP d i (k0_t2_body i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v2 v8 hw11 v83 v84 x acc) (I (x.val + 1)) := by
    intro x acc
    rw [hI]
    iintro ⟨H1, H2, H3, H4, H5, #Hlv⟩
    iapply (wp_trip i s9 s10 s11 s12 p0 p1 p2 d (W := W) hO tab uu raw IDX U nv lo hv2 hnv hIDX hU TT hTT q0 q1 q2 hv8 hn8 hw11 v83 hv84 x acc (loOf i) rfl) $$ [H1 H2 H3 H4 H5]
    · iframe H1 H2 H3 H4 H5 Hlv
    iintro H1 H2 H3 H4 H5
    rw [hI]
    iframe H1 H2 H3 H4 H5 Hlv
  rw [part83_eq i s9 s10 s11 s12 p0 p1 p2 v2 v8 hw11 v83 v84]
  unfold FlyE at *
  iintro ⟨H1, ⟨%X, HF⟩, H3, H4, HO, #Hlv⟩ HK
  iapply (wp_copyAt i d tab TT hTT (tb := tb1M) (Memref.isWhole_whole _) (sem := s10.sem) (q := q1) 2 (j := 2) (j' := 3) rfl rfl (k0_off8_eq i)) $$ HF
  iintro HF
  iapply (wp_copyAt i d tab TT hTT (tb := tb1M) (Memref.isWhole_whole _) (sem := s10.sem) (q := q1) 3 (j := 3) (j' := 4) rfl rfl (k0_off9_eq i)) $$ HF
  iintro HF
  iapply (wp_loop d i I hbody) $$ [H1 HF H3 H4 HO]
  · rw [hI, Nat.mul_zero, Nat.add_zero]
    isplitl [H1]; · iexact H1
    isplitl [HF]
    · unfold Slot1
      rw [if_pos (by omega), Nat.mul_zero, Nat.add_zero]
      unfold FlyE
      iexists X; iexact HF
    iframe H3 H4 HO Hlv
  iintro %acc HI
  rw [t2_trips]
  icases (Entails.of_eq (hI _ _)) $$ HI with ⟨H1, H2, H3, H4, HO, #_⟩
  icases H1 with ⟨%X0, H1⟩
  iapply (wp_copyWait d i (W := W) hO tb0M (Memref.isWhole_whole _) s9.sem tab TT q0 (u := 0) 0 (by omega)) $$ [H1 HO]
  · iframe H1 HO Hlv
  iintro H1 HO
  iapply (wp_ret_intro d i)
  iapply HK $$ [H1] [H2] H3 H4 HO
  · iexists X0; iexact H1
  · iapply (show (Slot1 i s10 d tab TT q1 (loOf i) 20 : sProp 𝕄) ⊢ IdleE i d TT tb1M (Memref.isWhole_whole _) s10.sem q1 from by unfold Slot1; rw [if_neg (by omega)]); iexact H2

end Head

end Cert.Proof.Stream
-- ==== Proof.Tile.lean ====
/-
  One tile's whole task: what it reads, what it fills, and the program run from its parts.
-/
module

public import proofs.«01_k».proof.Proof.Head
public import proofs.«01_k».proof.Proof.Emit

@[expose] public section

noncomputable section

namespace Cert.Proof.Stream

open Cert.KernelIdeal Cert.KernelIdeal.Gen
open Idealize.ShloMosaic Idealize.ShloMosaic.SparseCore
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

theorem count_inj {P : ℕ → Prop} [DecidablePred P] {p p' : ℕ} (h : P p) (h' : P p') (e : Nat.count P p = Nat.count P p') : p = p' :=
  Nat.count_injective h h' e

/-- The elements of the result that a tile serving `lo` up to `hi` fills. -/
def ownSet (IX : S16384.Idx → BitVec 32) (lo hi : ℕ) : Finset S16512.Idx :=
  Finset.univ.filter fun x => (x 0).val < 16384 ∧ lo ≤ natAt IX (x 0).val ∧ natAt IX (x 0).val < hi

theorem mem_ownSet {IX : S16384.Idx → BitVec 32} {lo hi : ℕ} {x : S16512.Idx} :
    x ∈ ownSet IX lo hi ↔ (x 0).val < 16384 ∧ lo ≤ natAt IX (x 0).val ∧ natAt IX (x 0).val < hi := by
  simp [ownSet]

/-- The list of positions, by the number of the place. -/
def posAt (C : S130x128.Idx → BitVec 32) (n : ℕ) : ℕ :=
  (C fun a => match a with | ⟨0, _⟩ => ⟨n / 128 % 130, Nat.mod_lt _ (by decide)⟩ | ⟨1, _⟩ => ⟨n % 128, Nat.mod_lt _ (by decide)⟩).toNat

theorem posAt_flat (C : S130x128.Idx → BitVec 32) (y : S130x128.Idx) : (C y).toNat = posAt C (flat y) := by
  have h0 : (y 0).val < 130 := (y 0).isLt
  have h1 : (y 1).val < 128 := (y 1).isLt
  unfold posAt
  congr 2
  funext a
  match a with
  | ⟨0, _⟩ => apply Fin.ext; show (y 0).val = (128 * (y 0).val + (y 1).val) / 128 % 130; omega
  | ⟨1, _⟩ => apply Fin.ext; show (y 1).val = (128 * (y 0).val + (y 1).val) % 128; omega

theorem exists_flat {n : ℕ} (h : n < 16640) : ∃ x : S130x128.Idx, flat x = n :=
  ⟨fun a => match a with | ⟨0, _⟩ => ⟨n / 128, by show _ < 130; omega⟩ | ⟨1, _⟩ => ⟨n % 128, Nat.mod_lt _ (by decide)⟩,
    by show 128 * (n / 128) + n % 128 = n; omega⟩

section Places

variable {IX IDX : S16384.Idx → BitVec 32} {C0 C : S130x128.Idx → BitVec 32} {lo hi v : ℕ}
  (hv : v = Nat.count (Mine IX lo hi) 16384) (hB : Binned IX lo hi 16384 IDX C0) (hP : Padded v 128 C0 C)
include hv hB hP

/-- A place of the list below the count holds the position of one entry served, and the entry stands at that place. -/
theorem place_pos {k : ℕ} (hk : k < v) : ∃ p, p < 16384 ∧ Mine IX lo hi p ∧ Nat.count (Mine IX lo hi) p = k ∧ posAt C k = p ∧ natAt IDX k = natAt IX p := by
  have hv' : v ≤ 16384 := by rw [hv]; exact Nat.count_le _
  obtain ⟨p, h1, h2, h3⟩ := exists_count (Mine IX lo hi) (n := 16384) (y := k) (by omega)
  obtain ⟨x, hx⟩ := exists_flat (n := k) (by omega)
  refine ⟨p, h1, h2, h3, ?_, ?_⟩
  · rw [← hx, ← posAt_flat, (hP x).1 (by omega)]
    exact hB.pos p h1 h2 x (by omega)
  · rw [← h3]; exact hB.mine p h1 h2

theorem place_lt {k : ℕ} (hk : k < v) : posAt C k < 16384 := by
  obtain ⟨p, h1, -, -, h4, -⟩ := place_pos hv hB hP hk
  omega

theorem place_dump {k : ℕ} (h1 : v ≤ k) (h2 : k < v + 128) : posAt C k = 16384 := by
  have hv' : v ≤ 16384 := by rw [hv]; exact Nat.count_le _
  obtain ⟨x, hx⟩ := exists_flat (n := k) (by omega)
  rw [← hx, ← posAt_flat, (hP x).2 (by omega) (by omega)]; rfl

theorem place_inj {k k' : ℕ} (hk : k < v) (hk' : k' < v) (e : posAt C k = posAt C k') : k = k' := by
  obtain ⟨p, -, -, h3, h4, -⟩ := place_pos hv hB hP hk
  obtain ⟨p', -, -, h3', h4', -⟩ := place_pos hv hB hP hk'
  obtain rfl : p = p' := by omega
  omega

theorem place_sub {k : ℕ} (hk : k < v) : rowSet (posAt C k) ⊆ ownSet IX lo hi := by
  obtain ⟨p, h1, h2, -, h4, -⟩ := place_pos hv hB hP hk
  intro x hx
  rw [mem_rowSet] at hx
  rw [mem_ownSet, hx, h4]
  exact ⟨h1, h2⟩

theorem place_cov {x : S16512.Idx} (hx : x ∈ ownSet IX lo hi) : ∃ k, k < v ∧ (x 0).val = posAt C k := by
  rw [mem_ownSet] at hx
  have hm : Mine IX lo hi (x 0).val := hx.2
  have hlt : Nat.count (Mine IX lo hi) (x 0).val < v := by
    rw [hv]; exact Nat.count_strict_mono hm hx.1
  obtain ⟨p, -, h2, h3, h4, -⟩ := place_pos hv hB hP hlt
  exact ⟨_, hlt, by rw [h4]; exact count_inj hm h2 h3.symm⟩

/-- What a place of the list of values holds once every item served is done is the value of the entry it belongs to. -/
theorem place_val {tab : ℕ → ℕ → F .f32} {uu : ℕ → F .f32} {VB : S16640.Idx → F .f32} {OUT : S16512.Idx → F .f32}
    (hG : Good tab uu (natAt IDX) ((v + 15) / 16) lo hi VB) (hO : ∀ x, OUT x = dotVal tab uu (natAt IX (x 0).val))
    (z : S16640.Idx) (x : S16512.Idx) (hz : (z 0).val < v) (hx : (x 0).val = posAt C (z 0).val) : OUT x = VB z := by
  obtain ⟨p, h1, h2, h3, h4, h5⟩ := place_pos hv hB hP hz
  rw [hO, hx, h4, ← h5]
  refine (hG z (by omega) ?_ ?_).symm
  · rw [h5]; exact h2.1
  · rw [h5]; exact h2.2

end Places

section Program

variable (i : grid0.Coords) (s9 s10 s11 s12 p0 p1 p2 : DmaSems sig S_)

theorem cc0_eq :
    cc0__sc_stream_score (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2
      = (k0_part79 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 >>= fun r =>
          k0_part80 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 r.2.1 r.2.2.1 r.2.2.2.2.1 r.2.2.2.2.2 >>= fun v64 =>
          k0_part81 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 r.1 r.2.1 r.2.2.1 r.2.2.2.2.1 v64 >>= fun r' =>
          k0_part82 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 r'.2 >>= fun _ =>
          k0_part83 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 r.2.1 r.2.2.1 r.2.2.2.1 r'.1 r'.2 >>= fun v128 =>
          k0_part84 (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 r.1 r.2.1 r.2.2.1 r.2.2.2.1 r'.1 v128 >>= fun _ =>
          Scf.Loop.for (k0_t27_loop r.2.2.1) (k0_t27_ok i r.2.2.1 r.2.2.2.1) () (k0_t27_body (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 r.2.2.1 r.2.2.2.1) >>= fun _ =>
          Scf.Loop.for (k0_t28_loop r.2.2.1) (k0_t28_ok i r.2.2.1 r.2.2.2.1) () (k0_t28_body (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 r.2.2.1 r.2.2.2.1) >>= fun _ =>
          .ret ⟨⟩) := by
  rw [cc0__sc_stream_score_eq_skeleton]; rfl

theorem t27_body_eq (v8 : BitVec 32) (hw : k0_chk11 i v8) (t) (u) :
    k0_t27_body (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2 v8 hw t u = emitBody i s12.sem (k0_off62 v8 t) (k0_off62_inb i v8 hw t) (k0_off63 v8 t) (k0_off63_inb i v8 hw t) := rfl

end Program

section Tile

variable (i : grid0.Coords) (s9 s10 s11 s12 p0 p1 p2 : DmaSems sig S_) (d : Dev nD)
  {O : CellTallies nD τ sig (HIx 1)} {W : Waits sig (HIx 1)} (hO : ∀ g, O g none = 0)
  (tab : ℕ → ℕ → F .f32) (uu : ℕ → F .f32)
  (TT : Buf (Elt F) (ttLoc d i)) (hTT : ∀ x : S32x1000000.Idx, TT x = tab (x 0).val (x 1).val)

/-- A tile's scratch, whatever it holds. -/
def Scratch : sProp 𝕄 :=
  iprop((∃ X, Holds d i tb0M (Memref.isWhole_whole _) fullShare X) ∗ (∃ X, Holds d i tb1M (Memref.isWhole_whole _) fullShare X) ∗ (∃ X, Holds d i tb2M (Memref.isWhole_whole _) fullShare X)
    ∗ (∃ X, Holds d i tailM (Memref.isWhole_whole _) fullShare X) ∗ (∃ X, Holds d i iaM (Memref.isWhole_whole _) fullShare X) ∗ (∃ X, Holds d i prM (Memref.isWhole_whole _) fullShare X)
    ∗ (∃ X, Holds d i cpM (Memref.isWhole_whole _) fullShare X) ∗ (∃ X, Holds d i vbM (Memref.isWhole_whole _) fullShare X) ∗ (∃ X, Holds d i uM (Memref.isWhole_whole _) fullShare X))

/-- A tile's semaphores, at zero. -/
def Sems : sProp 𝕄 :=
  iprop(semVal (TH d i, SemLoc.dma s9.sem) 0 ∗ semVal (TH d i, SemLoc.dma s10.sem) 0 ∗ semVal (TH d i, SemLoc.dma s11.sem) 0 ∗ semVal (TH d i, SemLoc.dma s12.sem) 0
    ∗ semVal (TH d i, SemLoc.dma p0.sem) 0 ∗ semVal (TH d i, SemLoc.dma p1.sem) 0 ∗ semVal (TH d i, SemLoc.dma p2.sem) 0)

theorem tt_deal (q : PosShare TreeShare) : (ttLoc d i ↦[Finset.univ]{q} TT : sProp 𝕄)
    = iprop((ttLoc d i ↦[Finset.univ]{Transfers.dealOf q Finset.univ (0 : Fin 4)} TT) ∗ (ttLoc d i ↦[Finset.univ]{Transfers.dealOf q Finset.univ (1 : Fin 4)} TT)
        ∗ (ttLoc d i ↦[Finset.univ]{Transfers.dealOf q Finset.univ (2 : Fin 4)} TT) ∗ (ttLoc d i ↦[Finset.univ]{Transfers.dealOf q Finset.univ (3 : Fin 4)} TT)) := by
  rw [Transfers.pointsTo_deal (ℓ := ttLoc d i) (S := Finset.univ) (f := TT) (Finset.univ : Finset (Fin 4)) ⟨0, Finset.mem_univ _⟩ q]
  rw [show (Finset.univ : Finset (Fin 4)) = {0, 1, 2, 3} from rfl, BI.bigSep_insert (by decide), BI.bigSep_insert (by decide), BI.bigSep_insert (by decide), BI.bigSep_singleton]
  rfl

include hO hTT in
theorem wp_tile {IX : S16384.Idx → Elt F .i32} {UB : S32x16.Idx → Elt F .f32} (hU : IsVec UB uu)
    {OUT f : S16512.Idx → Elt F .f32} (hOUT : ∀ x, OUT x = dotVal tab uu (natAt IX (x 0).val)) (qi qu qt : PosShare TreeShare) {ι : ℕ} {Q : PUnit → sProp 𝕄} :
    iprop((ixLoc i d ↦[Finset.univ]{qi} IX) ∗ (ubLoc d i ↦[Finset.univ]{qu} UB) ∗ (ttLoc d i ↦[Finset.univ]{qt} TT)
        ∗ Kp d i ι UB ∗ (outLoc d i ↦[ownSet IX (loOf i) (hiOf i)]{fullShare} f)
        ∗ Scratch i d ∗ Sems i s9 s10 s11 s12 p0 p1 p2 d ∗ Owes d i O W ∗ Levels
        ∗ ((ixLoc i d ↦[Finset.univ]{qi} IX) -∗ (ubLoc d i ↦[Finset.univ]{qu} UB) -∗ (ttLoc d i ↦[Finset.univ]{qt} TT)
            -∗ (outLoc d i ↦[ownSet IX (loOf i) (hiOf i)]{fullShare} OUT)
            -∗ Scratch i d -∗ Sems i s9 s10 s11 s12 p0 p1 p2 d -∗ Owes d i O W -∗ Q ⟨⟩))
      ⊢ WP d i (cc0__sc_stream_score (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _) s9 s10 s11 s12 p0 p1 p2) Q := by
  rw [cc0_eq, tt_deal i d TT qt]
  have hbind : ∀ {α β : Type} (p : Prog (TpuEff nD τ sig (Elt F) Λ₀ (.scVector ((i 0).castLE hcore0) ((i 1).castLE hsub0))) α) (k : α → Prog (TpuEff nD τ sig (Elt F) Λ₀ (.scVector ((i 0).castLE hcore0) ((i 1).castLE hsub0))) β) (Q : β → sProp 𝕄), WP d i p (fun a => WP d i (k a) Q) ⊢ WP d i (p >>= k) Q :=
    fun p k Q => wp_bind_intro d i
  unfold Scratch Sems
  iintro ⟨Hix, Hub, ⟨Ht0, Ht1, Ht2, Ht3⟩, #Hinv, Hout, ⟨⟨%X0, H0⟩, ⟨%X1, H1⟩, ⟨%X2, H2⟩, ⟨%X3, H3⟩, ⟨%X4, H4⟩, ⟨%X5, H5⟩, ⟨%X6, H6⟩, ⟨%X7, H7⟩, ⟨%X8, H8⟩⟩, ⟨S9, S10, S11, S12, P0, P1, P2⟩, HO, #Hlv, HK⟩
  iapply (hbind _ _ _)
  iapply (wp_part79 i s9 s10 s11 s12 p0 p1 p2 d (W := W) hO) $$ [Hix Hub H4 H8 H6 P0 P1 HO]
  · iframe Hix Hub H4 H8 H6 P0 P1 HO Hlv
  iintro %v8 %hv8 %IDX %C0 %C1 %hp Hix Hub H4 H8 H6 P0 P1 HO
  obtain ⟨hv, hB, hC1⟩ := hp
  try dsimp only
  iapply (hbind _ _ _)
  iapply (wp_part80 i s9 s10 s11 s12 p0 p1 p2 d hv8 hC1) $$ H6
  iintro %C2 %hC2 H6
  try dsimp only
  iapply (hbind _ _ _)
  iapply (wp_part81 i s9 s10 s11 s12 p0 p1 p2 d tab TT hTT (Transfers.dealOf qt Finset.univ (0 : Fin 4)) hv8 hC2) $$ [H6 H0 Ht0 S9]
  · isplitl [H6]; · iexact H6
    unfold IdleE Idle
    iexists X0; iframe H0 Ht0 S9
  iintro %C %hC H6 HF0
  try dsimp only
  iapply (hbind _ _ _)
  iapply (wp_part82 i s9 s10 s11 s12 p0 p1 p2 d tab TT hTT (Transfers.dealOf qt Finset.univ (0 : Fin 4)) (Transfers.dealOf qt Finset.univ (1 : Fin 4)) (Scalar.muli (widW i) 61#32)) $$ [HF0 H1 Ht1 S10]
  · isplitl [HF0]; · iexact HF0
    unfold IdleE Idle
    iexists X1; iframe H1 Ht1 S10
  iintro HF0 HF1
  try dsimp only
  have hnv : (v8.toNat + 15) / 16 ≤ 1024 := by omega
  iapply (hbind _ _ _)
  iapply (wp_part83 i s9 s10 s11 s12 p0 p1 p2 d (W := W) hO tab uu (natAt IDX) IDX UB ((v8.toNat + 15) / 16) (loOf i) lanesV_apply hnv (natAt_eq IDX) hU TT hTT
    (Transfers.dealOf qt Finset.univ (0 : Fin 4)) (Transfers.dealOf qt Finset.univ (1 : Fin 4)) (Transfers.dealOf qt Finset.univ (2 : Fin 4)) hv8 rfl (chk11 hv8 i)
    (Scalar.shrui (Scalar.addi v8 15#32) 4#32) (w84_toNat i)) $$ [HF0 HF1 H2 Ht2 S11 H4 H5 H7 H8 HO]
  · isplitl [HF0]; · iexact HF0
    isplitl [HF1]; · iexact HF1
    isplitl [H2 Ht2 S11]
    · unfold IdleE Idle
      iexists X2; iframe H2 Ht2 S11
    isplitl [H4 H5 H7 H8]
    · unfold Work
      iexists X5, X7
      isplitr
      · ipureintro; intro x _ h1 h2; omega
      iframe H4 H5 H8 H7
    iframe HO Hlv
  iintro HF0 HI1 HI2 HWk HO
  try dsimp only
  iapply (hbind _ _ _)
  iapply (wp_part84 i s9 s10 s11 s12 p0 p1 p2 d (W := W) hO tab uu (natAt IDX) IDX UB ((v8.toNat + 15) / 16) (loOf i) lanesV_apply hnv (natAt_eq IDX) hU TT hTT
    (Transfers.dealOf qt Finset.univ (0 : Fin 4)) hv8 rfl (Transfers.dealOf qt Finset.univ (3 : Fin 4)) (chk11 hv8 i)
    (widW i) (Scalar.shrui (Scalar.addi v8 15#32) 4#32) (Scalar.subi (Scalar.addi (Scalar.muli (widW i) 61#32) 61#32) 1#32) (loOf i) rfl (w128_toNat i)) $$ [HF0 H3 Ht3 P2 HWk HO]
  · isplitl [HF0]; · iexact HF0
    isplitl [H3 Ht3 P2]
    · unfold Rest
      isplitl [H3]; · iexists X3; iexact H3
      iframe Ht3 P2
    iframe HWk HO Hlv
  iintro HI0 HR HWk HO
  try dsimp only
  unfold Work
  icases HWk with ⟨%PR, %VB, %hG, H4, H5, H8, H7⟩
  iapply (wp_emitLoop d i (W := W) hO (sem := s12.sem) (m := v8.toNat) (L := k0_t27_loop v8) (L' := k0_t28_loop v8) (trips128 hv8) (remLoop_trips _)
    (off62_0 hv8) (off63_0 hv8) off63_1 (t27_body_eq i s9 s10 s11 s12 p0 p1 p2 v8 (chk11 hv8 i)) (pos := posAt C) (COMP := C) (VB := VB) (OUT := OUT) (f := f) (UB := UB)
    (S := ownSet IX (loOf i) (hiOf i)) (q := qu) (ι := ι) (posAt_flat C)
    (fun p h => place_lt hv hB hC h) (fun p h h' => place_dump hv hB hC h h') (fun p p' h h' e => place_inj hv hB hC h h' e)
    (place_val hv hB hC hG hOUT) (fun p h => place_sub hv hB hC h) (fun x hx => place_cov hv hB hC hx))
  isplitr; · iexact Hinv
  iframe Hout Hub H7 H6 S12 HO Hlv
  iintro Hout Hub H7 H6 S12 HO
  iapply (wp_ret_intro d i)
  unfold IdleE Idle Rest
  icases HI0 with ⟨%Y0, H0, Ht0, S9⟩
  icases HI1 with ⟨%Y1, H1, Ht1, S10⟩
  icases HI2 with ⟨%Y2, H2, Ht2, S11⟩
  icases HR with ⟨⟨%Y3, H3⟩, Ht3, P2⟩
  iapply HK $$ Hix Hub [Ht0 Ht1 Ht2 Ht3] Hout [H0 H1 H2 H3 H4 H5 H6 H7 H8] [S9 S10 S11 S12 P0 P1 P2] HO
  · iframe Ht0 Ht1 Ht2 Ht3
  · isplitl [H0]; · iexists Y0; iexact H0
    isplitl [H1]; · iexists Y1; iexact H1
    isplitl [H2]; · iexists Y2; iexact H2
    isplitl [H3]; · iexists Y3; iexact H3
    isplitl [H4]; · iexists IDX; iexact H4
    isplitl [H5]; · iexists PR; iexact H5
    isplitl [H6]; · iexists C; iexact H6
    isplitl [H7]; · iexists VB; iexact H7
    iexists UB; iexact H8
  · iframe S9 S10 S11 S12 P0 P1 P2

end Tile

end Cert.Proof.Stream
-- ==== Proof.Task.lean ====
/-
  The launch's tasks: what the call gives a tile and takes back, and the tile's obligation from its program's run.
-/
module

public import proofs.«01_k».proof.Proof.Tile

@[expose] public section

noncomputable section

namespace Cert.Proof.Stream

open Cert.KernelIdeal Cert.KernelIdeal.Gen
open Idealize.ShloMosaic Idealize.ShloMosaic.SparseCore
open Idealize.ShloMosaic.SparseCore.Cfg (HIx Pay)
open Idealize.ShloMosaic.SparseCore.Cfg (ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ)

/-! ## The values -/

/-- The items the launch asks for. -/
def IXv (d : Dev nD) : S16384.Idx → Elt F .i32 := m ((SparseCore.T d).loc main_arg0)
/-- The user's vector, each entry repeated along a row. -/
def UBv (d : Dev nD) : S32x16.Idx → Elt F .f32 :=
  broadcastInDim S32x16 ![0, 1] bcast_S32x1_S32x16_0_1 (shapeCast S32x1 (m ((SparseCore.T d).loc main_arg1) : S1x32.Idx → Elt F .f32) shapeCasts_S1x32_S32x1)
/-- The table, an item to a column. -/
def TTv (d : Dev nD) : S32x1000000.Idx → Elt F .f32 :=
  transpose S32x1000000 [1, 0] (m ((SparseCore.T d).loc main_arg2) : S1000000x32.Idx → Elt F .f32) transposes_S1000000x32_S32x1000000_1_0

/-- A number as an item of the table. -/
def itemOf (n : ℕ) : Fin 1000000 := ⟨n % 1000000, Nat.mod_lt _ (Nat.succ_pos _)⟩
theorem itemOf_val (x : Fin 1000000) : itemOf x.val = x := Fin.ext (Nat.mod_eq_of_lt x.isLt)
/-- A number as a component of the user's vector. -/
def compOf (n : ℕ) : Fin 32 := ⟨n % 32, Nat.mod_lt _ (Nat.succ_pos _)⟩
theorem compOf_val (x : Fin 32) : compOf x.val = x := Fin.ext (Nat.mod_eq_of_lt x.isLt)

/-- The table by numbers. -/
def tabv (d : Dev nD) (j n : ℕ) : F .f32 :=
  TTv m d fun a => match a with | ⟨0, _⟩ => compOf j | ⟨1, _⟩ => itemOf n
/-- The user's vector by numbers. -/
def uuv (d : Dev nD) (j : ℕ) : F .f32 :=
  (m ((SparseCore.T d).loc main_arg1) : S1x32.Idx → Elt F .f32) fun a => match a with | ⟨0, _⟩ => (0 : Fin 1) | ⟨1, _⟩ => compOf j
/-- What the tiles leave in the result. -/
def OUTv (d : Dev nD) : S16512.Idx → Elt F .f32 := fun x => dotVal (tabv m d) (uuv m d) (natAt (IXv m d) (x 0).val)

theorem TTv_tab (d : Dev nD) (x : S32x1000000.Idx) : TTv m d x = tabv m d (x 0).val (x 1).val := by
  unfold tabv
  congr 1
  funext a
  match a with
  | ⟨0, _⟩ => exact (compOf_val (x 0)).symm
  | ⟨1, _⟩ => exact (itemOf_val (x 1)).symm

/-! ## What goes to a tile and comes back -/

/-- The grid's point on SparseCore `c`, tile `s`. -/
def pt (c : Fin (grid0.bound 0)) (s : Fin (grid0.bound 1)) : grid0.Coords :=
  fun | 0 => c | 1 => s | ⟨_ + 2, h⟩ => absurd h (Nat.not_lt.2 (Nat.le_add_left _ _))

def pt0 : grid0.Coords := pt (0 : Fin 2) (0 : Fin 16)

/-- A tile's share of what all of them read. -/
def shareOf (i : grid0.Coords) : PosShare TreeShare := Transfers.dealOf (Transfers.dealOf fullShare Finset.univ (i 0)) Finset.univ (i 1)

/-- The elements of the result a tile fills. -/
def tileSet (d : Dev nD) (i : grid0.Coords) : Finset S16512.Idx := ownSet (IXv m d) (loOf i) (hiOf i)

/-- The keeper of the unread element, as every thread knows it from the launch. -/
def Kept (d : Dev nD) : sProp 𝕄 := iprop(∃ ι : ℕ, inv ι (Keeper d pt0 (UBv m d)))

instance kept_persistent (d : Dev nD) : BI.Persistent (Kept m d) := by unfold Kept; infer_instance

/-- What a tile reads. -/
def Reads (d : Dev nD) (i : grid0.Coords) : sProp 𝕄 :=
  iprop((ixLoc i d ↦[Finset.univ]{shareOf i} (IXv m d : Buf (Elt F) (ixLoc i d))) ∗ (ubLoc d i ↦[Finset.univ]{shareOf i} (UBv m d : Buf (Elt F) (ubLoc d i)))
    ∗ (ttLoc d i ↦[Finset.univ]{shareOf i} (TTv m d : Buf (Elt F) (ttLoc d i))))

/-- What the call gives a tile: shares of what it reads, that the call has begun, and the elements it fills. -/
def Given (d : Dev nD) (i : grid0.Coords) : sProp 𝕄 :=
  iprop(Reads m d i ∗ Begun ∗ (outLoc d i ↦[tileSet m d i]{fullShare} (m ((SparseCore.T d).loc main_v3) : Buf (Elt F) (outLoc d i))))

/-- What the tile gives back: the elements filled. -/
def Done (d : Dev nD) (i : grid0.Coords) : sProp 𝕄 :=
  iprop(Reads m d i ∗ (outLoc d i ↦[tileSet m d i]{fullShare} (OUTv m d : Buf (Elt F) (outLoc d i))))

instance keeper_storable (d : Dev nD) (i : grid0.Coords) : BI.Storable (upEmb : UEmb _ 𝕄) (Keeper d i (UBv m d)) := by
  unfold Keeper; infer_instance
instance given_storable (d : Dev nD) (i : grid0.Coords) : BI.Storable (upEmb : UEmb _ 𝕄) (Given m d i) := by
  unfold Given Reads; infer_instance
instance done_storable (d : Dev nD) (i : grid0.Coords) : BI.Storable (upEmb : UEmb _ 𝕄) (Done m d i) := by
  unfold Done Reads; infer_instance

/-! ## A tile's own semaphores and buffers -/

def semOf : Fin 7 → DmaSem sig
  | 0 => cc0_scratch9.sem | 1 => cc0_scratch10.sem | 2 => cc0_scratch11.sem | 3 => cc0_scratch12.sem
  | 4 => cc0_scoped0.sem | 5 => cc0_scoped1.sem | 6 => cc0_scoped2.sem

def bufOf : Fin 9 → Ref sig .scVector
  | 0 => cc0_scratch0 | 1 => cc0_scratch1 | 2 => cc0_scratch2 | 3 => cc0_scratch3 | 4 => cc0_scratch4
  | 5 => cc0_scratch5 | 6 => cc0_scratch6 | 7 => cc0_scratch7 | 8 => cc0_scratch8

theorem semOf_inj : Function.Injective semOf := by decide
theorem bufOf_inj : Function.Injective bufOf := by decide
theorem semOf_scoped (k : Fin 7) : (SemLoc.dma (semOf k) : SemLoc sig).isScoped .scVector = true := by revert k; decide

def cellOf (d : Dev nD) (i : grid0.Coords) (k : Fin 7) : GSem nD τ sig := (TH d i, .dma (semOf k))
def refOf (d : Dev nD) (i : grid0.Coords) (k : Fin 9) : DevRef τ sig := (TH d i).2.devRef (bufOf k)

theorem sems_split (i : grid0.Coords) (d : Dev nD) : (ownSems0 (TH d i) : sProp 𝕄)
    = iprop(Sems i cc0_scratch9 cc0_scratch10 cc0_scratch11 cc0_scratch12 cc0_scoped0 cc0_scoped1 cc0_scoped2 d
        ∗ bigSep (ownCells (TH d i) \ Finset.univ.image (cellOf d i)) fun g => semVal g 0) := by
  unfold SparseCore.Cfg.ownSems0
  rw [SparseCore.bigSep_sdiff_split' (t := Finset.univ.image (cellOf d i)) (fun g hg => by
    obtain ⟨k, -, rfl⟩ := Finset.mem_image.mp hg
    exact mem_ownCells.mpr ⟨rfl, semOf_scoped k⟩)]
  rw [SparseCore.bigSep_image_of_injOn (f := cellOf d i) (fun a _ b _ e => semOf_inj (SemLoc.dma.inj (Prod.mk.inj e).2)) (fun g => (semVal g 0 : sProp 𝕄))]
  rw [show (Finset.univ : Finset (Fin 7)) = {0, 1, 2, 3, 4, 5, 6} from rfl, BI.bigSep_insert (by decide), BI.bigSep_insert (by decide), BI.bigSep_insert (by decide),
    BI.bigSep_insert (by decide), BI.bigSep_insert (by decide), BI.bigSep_insert (by decide), BI.bigSep_singleton]
  rfl

theorem holds_ex (i : grid0.Coords) (d : Dev nD) (b : Ref sig .scVector) (h : (Memref.whole b).IsWhole) :
    (iprop(∃ X, Holds d i (Memref.whole b) h fullShare X) : sProp 𝕄) = iprop(∃ f, (TH d i).loc b ↦{fullShare} f) := by
  congr 1; funext X; exact holds_whole d i b fullShare h X

set_option maxHeartbeats 1000000 in
theorem bufs_split (i : grid0.Coords) (d : Dev nD) : (ownBufs (TH d i) : sProp 𝕄)
    = iprop(Scratch i d ∗ bigSep (ownRefs (TH d i).2 \ Finset.univ.image (refOf d i)) fun b => iprop(∃ f, ((d, b) : Loc nD τ sig) ↦{fullShare} f)) := by
  unfold SparseCore.Cfg.ownBufs
  rw [SparseCore.bigSep_sdiff_split' (t := Finset.univ.image (refOf d i)) (fun g hg => by
    obtain ⟨k, -, rfl⟩ := Finset.mem_image.mp hg
    exact SparseCore.Cfg.mem_ownRefs_of_owner (p := (TH d i).2) (b := refOf d i k) (by fin_cases k <;> rfl))]
  rw [SparseCore.bigSep_image_of_injOn (f := refOf d i) (fun a _ b _ e => bufOf_inj (Proc.devRef_injective _ e)) (fun b => (iprop(∃ f, (((TH d i).1, b) : Loc nD τ sig) ↦{fullShare} f) : sProp 𝕄))]
  rw [show (Finset.univ : Finset (Fin 9)) = {0, 1, 2, 3, 4, 5, 6, 7, 8} from rfl, BI.bigSep_insert (by decide), BI.bigSep_insert (by decide), BI.bigSep_insert (by decide),
    BI.bigSep_insert (by decide), BI.bigSep_insert (by decide), BI.bigSep_insert (by decide), BI.bigSep_insert (by decide), BI.bigSep_insert (by decide), BI.bigSep_singleton]
  unfold Scratch
  refine congrArg₂ BIBase.sep ?_ rfl
  refine congrArg₂ BIBase.sep (holds_ex i d cc0_scratch0 _).symm ?_
  refine congrArg₂ BIBase.sep (holds_ex i d cc0_scratch1 _).symm ?_
  refine congrArg₂ BIBase.sep (holds_ex i d cc0_scratch2 _).symm ?_
  refine congrArg₂ BIBase.sep (holds_ex i d cc0_scratch3 _).symm ?_
  refine congrArg₂ BIBase.sep (holds_ex i d cc0_scratch4 _).symm ?_
  refine congrArg₂ BIBase.sep (holds_ex i d cc0_scratch5 _).symm ?_
  refine congrArg₂ BIBase.sep (holds_ex i d cc0_scratch6 _).symm ?_
  exact congrArg₂ BIBase.sep (holds_ex i d cc0_scratch7 _).symm (holds_ex i d cc0_scratch8 _).symm

/-! ## The obligation -/

theorem UBv_vec (d : Dev nD) : IsVec (UBv m d) (uuv m d) := by
  intro x
  have h0 : (x 0).val < 32 := (x 0).isLt
  unfold UBv uuv
  show shapeCast S32x1 _ shapeCasts_S1x32_S32x1 _ = _
  refine shapeCast_apply _ _ _ _ ?_
  rw [Shape.rowMajor_val_two, Shape.rowMajor_val_two]
  show 0 * 32 + (x 0).val % 32 = (x 0).val * 1 + 0
  omega

set_option maxHeartbeats 1000000 in
theorem tile_body (i : grid0.Coords) (d : Dev nD)
    (O : CellTallies nD τ sig (HIx 1)) (W : Waits sig (HIx 1)) (hO : ∀ g, O g none = 0) :
    iprop(levAts (K (F := F)).L (K (F := F)).lev ∗ Kept m d ∗ Given m d i ∗ scopedBufs (TH d i) ∗ scopedSems0 (TH d i) ∗ owes (TH d i) O W)
      ⊢ WP d i (cc0__sc_stream_score (F := F) i ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _)
            cc0_scratch9 cc0_scratch10 cc0_scratch11 cc0_scratch12 cc0_scoped0 cc0_scoped1 cc0_scoped2)
          fun _ => iprop(Done m d i ∗ scopedBufs (TH d i) ∗ scopedSems0 (TH d i)
            ∗ ∃ W', ⌜∀ p ∈ W', p ∈ W ∨ p.2 = none⌝ ∗ owes (TH d i) O W') := by
  rw [(K (F := F)).scopedBufs_V facts d _ _, SparseCore.Cfg.scopedSems0_V (Val := Elt F) d _ _, sems_split, bufs_split]
  unfold Given Kept Done Reads
  iintro ⟨#Hlv, ⟨%ι, #Hinv⟩, ⟨⟨Hix, Hub, Htt⟩, #Hbeg, Hout⟩, ⟨Hs, Hbs⟩, ⟨Hm, Hms⟩, HO⟩
  iapply (wp_tile i cc0_scratch9 cc0_scratch10 cc0_scratch11 cc0_scratch12 cc0_scoped0 cc0_scoped1 cc0_scoped2 d (W := W) hO (tabv m d) (uuv m d)
    (TTv m d) (TTv_tab m d) (UBv_vec m d) (OUT := OUTv m d) (f := m ((SparseCore.T d).loc main_v3)) (fun _ => rfl) (shareOf i) (shareOf i) (shareOf i) (ι := ι))
  isplitl [Hix]; · iexact Hix
  isplitl [Hub]; · iexact Hub
  isplitl [Htt]; · iexact Htt
  isplitr
  · unfold Kp; isplitr; · iexact Hinv
    iexact Hbeg
  isplitl [Hout]; · iexact Hout
  isplitl [Hs]; · iexact Hs
  isplitl [Hm]; · iexact Hm
  isplitl [HO]; · iapply (owes_start d i O W); iexact HO
  isplitr; · iexact Hlv
  iintro Hix Hub Htt Hout Hs Hm HO
  isplitl [Hix Hub Htt Hout]
  · isplitl [Hix Hub Htt]
    · isplitl [Hix]; · iexact Hix
      isplitl [Hub]; · iexact Hub
      iexact Htt
    iexact Hout
  isplitl [Hs Hbs]
  · isplitl [Hs]; · iexact Hs
    iexact Hbs
  isplitl [Hm Hms]
  · isplitl [Hm]; · iexact Hm
    iexact Hms
  iapply (show Owes d i O W ⊢ iprop(∃ W', ⌜∀ p ∈ W', p ∈ W ∨ p.2 = none⌝ ∗ owes (TH d i) O W') from .rfl)
  iexact HO

/-- What the call's handshakes carry. -/
def P : (K (F := F)).Pay (nD := nD) (Val := Elt F) (Name := ℕ) (U := UU) where
  st := fun q d c => match q with | 0 => bigSep Finset.univ fun s : Fin (grid0.bound 1) => Given m d (pt c s)
  dn := fun q d c => match q with | 0 => bigSep Finset.univ fun s : Fin (grid0.bound 1) => Done m d (pt c s)
  go := fun q d c s => match q with | 0 => Given m d (pt c s)
  td := fun q d c s => match q with | 0 => Done m d (pt c s)
  x := fun _ thr => Kept m thr.1

instance P_storable : (P (F := F) m).IsStorable where
  st q d c := match q with
    | 0 => (inferInstance : BI.Storable (upEmb : UEmb _ 𝕄) (bigSep Finset.univ fun s : Fin (grid0.bound 1) => Given m d (pt c s)))
  dn q d c := match q with
    | 0 => (inferInstance : BI.Storable (upEmb : UEmb _ 𝕄) (bigSep Finset.univ fun s : Fin (grid0.bound 1) => Done m d (pt c s)))
  go q d c s := match q with
    | 0 => (inferInstance : BI.Storable (upEmb : UEmb _ 𝕄) (Given m d (pt c s)))
  td q d c s := match q with
    | 0 => (inferInstance : BI.Storable (upEmb : UEmb _ 𝕄) (Done m d (pt c s)))

theorem defs₀_vector (c : Fin τ.nSC) (s : Fin τ.nSub) :
    defs₀ (F := F) (.scVector c s) 0 ()
      = SparseCore.onTile hcore0 hsub0 (fun c s => cc0__sc_stream_score (F := F) (pt c s) ixM (Memref.isWhole_whole _) ubM (Memref.isWhole_whole _) ttM (Memref.isWhole_whole _) outM (Memref.isWhole_whole _) tb0M (Memref.isWhole_whole _) tb1M (Memref.isWhole_whole _) tb2M (Memref.isWhole_whole _) tailM (Memref.isWhole_whole _) iaM (Memref.isWhole_whole _) prM (Memref.isWhole_whole _) cpM (Memref.isWhole_whole _) vbM (Memref.isWhole_whole _) uM (Memref.isWhole_whole _)
            cc0_scratch9 cc0_scratch10 cc0_scratch11 cc0_scratch12 cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'
  isplitr
  · ipureintro; exact fun p hp => (hW' p hp).imp_right Or.inl
  · iexact HO

set_option maxRecDepth 16384 in
theorem tileObl : (K (F := F)).TileObl (D (F := F)) 𝒱 (P m) v₀ 0 := by
  intro d c i O W hO _ _
  simp only [show (P (F := F) m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m (pt ⟨_, hci.1⟩ ⟨_, hci.2⟩) d O W hO).trans (wp_mono frame _ _ fun _ => obl_post)

theorem vecSplit : (K (F := F)).VecSplit' (P m) 0 := by
  intro d c
  show (bigSep Finset.univ fun s : Fin (grid0.bound 1) => Given m d (pt c s)) ⊢ |={Set.univ}=> iprop(
      (bigSep Finset.univ fun s : Fin (grid0.bound 1) => Given m d (pt c s))
      ∗ ((bigSep Finset.univ fun s : Fin (grid0.bound 1) => Done m d (pt c s)) -∗ (bigSep Finset.univ fun s : Fin (grid0.bound 1) => Done m d (pt c s))))
  iintro H; imodintro
  isplitl [H]; · iexact H
  iintro H; iexact H

end Cert.Proof.Stream

end
-- ==== Proof.Launch.lean ====
/-
  The launch: the TensorCore's run of the program around the call, and the whole program's run.
-/
module

public import proofs.«01_k».proof.Proof.Task

@[expose] public section

noncomputable section

namespace Cert.Proof.Stream

open Cert.KernelIdeal Cert.KernelIdeal.Gen
open Idealize.ShloMosaic Idealize.ShloMosaic.SparseCore
open Idealize.ShloMosaic.SparseCore.Cfg (HIx Pay)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v5Loc (d : Dev nD) : Loc nD τ sig := (SparseCore.T d).loc main_v5

/-! ## The keeper, opened by the TensorCore before the call and after it -/

def out0 : S16512.Idx := fun a => ⟨16384, by obtain rfl : a = 0 := Subsingleton.elim a 0; decide⟩
theorem out0_mem : out0 ∈ rowSet 16384 := mem_rowSet.mpr rfl

/-- Before the call the unread element is put in, and the call begins; -/
theorem keeper_begin (d : Dev nD) (ι : ℕ) (UB : S32x16.Idx → Elt F .f32) (f : S16512.Idx → Elt F .f32) :
    iprop(inv ι (Keeper d pt0 UB) ∗ (outLoc d pt0 ↦[rowSet 16384]{fullShare} f) ∗ (ubLoc d pt0 ↦[Finset.univ]{fullShare} UB))
      ⊢ |={Set.univ}=> iprop((Begun : sProp 𝕄) ∗ (ubLoc d pt0 ↦[Finset.univ]{fullShare} UB)) := by
  iintro ⟨#Hinv, Hr, Hu⟩
  imod (inv_acc (Set.mem_univ ι)) $$ Hinv with ⟨Hb, Hclose⟩
  icases (show Keeper d pt0 UB ⊢ iprop((∃ f : S16512.Idx → Elt F .f32, outLoc d pt0 ↦[rowSet 16384]{fullShare} f) ∨ (NotBegun ∨ (ubLoc d pt0 ↦[Finset.univ]{fullShare} UB))) from .rfl) $$ Hb
    with (⟨%g, Hg⟩ | (Hn | Hu'))
  · iexfalso
    iapply (pointsTo_full_share_false (ℓ := outLoc d pt0) (i := out0) out0_mem out0_mem) $$ [Hr Hg]
    isplitl [Hr] <;> iassumption
  · imod begin $$ Hn with #HB
    ihave Hc := Hclose $$ [Hr]
    · iapply (show iprop((∃ f : S16512.Idx → Elt F .f32, outLoc d pt0 ↦[rowSet 16384]{fullShare} f) ∨ (NotBegun ∨ (ubLoc d pt0 ↦[Finset.univ]{fullShare} UB))) ⊢ Keeper d pt0 UB from .rfl)
      ileft
      iexists f
      iexact Hr
    imod Hc
    imodintro
    isplitr
    · iexact HB
    · iexact Hu
  · iexfalso
    iapply (pointsTo_full_share_false (ℓ := ubLoc d pt0) (i := ub0) (Finset.mem_univ _) (Finset.mem_univ _)) $$ [Hu Hu']
    isplitl [Hu] <;> iassumption

/-- and after it the element is taken back, for the whole of the user's vector. -/
theorem keeper_end (d : Dev nD) (ι : ℕ) (UB : S32x16.Idx → Elt F .f32) :
    iprop(inv ι (Keeper d pt0 UB) ∗ Begun ∗ (ubLoc d pt0 ↦[Finset.univ]{fullShare} UB))
      ⊢ |={Set.univ}=> (iprop(∃ f : S16512.Idx → Elt F .f32, outLoc d pt0 ↦[rowSet 16384]{fullShare} f) : sProp 𝕄) := by
  iintro ⟨#Hinv, #HB, Hu⟩
  imod (inv_acc (Set.mem_univ ι)) $$ Hinv with ⟨Hb, Hclose⟩
  icases (show Keeper d pt0 UB ⊢ iprop((∃ f : S16512.Idx → Elt F .f32, outLoc d pt0 ↦[rowSet 16384]{fullShare} f) ∨ (NotBegun ∨ (ubLoc d pt0 ↦[Finset.univ]{fullShare} UB))) from .rfl) $$ Hb
    with (⟨%g, Hg⟩ | Hn)
  · ihave Hc := Hclose $$ [Hu]
    · iapply (show iprop((∃ f : S16512.Idx → Elt F .f32, outLoc d pt0 ↦[rowSet 16384]{fullShare} f) ∨ (NotBegun ∨ (ubLoc d pt0 ↦[Finset.univ]{fullShare} UB))) ⊢ Keeper d pt0 UB from .rfl)
      iright
      iright
      iexact Hu
    imod Hc
    imodintro
    iexists g
    iexact Hg
  · iexfalso
    iapply (keeper_lends d pt0 UB fullShare)
    isplitr
    · iexact HB
    isplitl [Hu]
    · iexact Hu
    · iexact Hn

/-! ## What is dealt to the tiles -/

theorem bigSep_pair {I : Type} (s : Finset I) (Φ Ψ : I → sProp 𝕄) : (bigSep s fun i => iprop(Φ i ∗ Ψ i)) = iprop(bigSep s Φ ∗ bigSep s Ψ) := BI.bigSep_sep s Φ Ψ

theorem deal2 (ℓ : Loc nD τ sig) (f : Buf (Elt F) ℓ) :
    (ℓ ↦[Finset.univ]{fullShare} f : sProp 𝕄)
      = bigSep Finset.univ fun c : Fin (grid0.bound 0) => bigSep Finset.univ fun s : Fin (grid0.bound 1) => ℓ ↦[Finset.univ]{shareOf (pt c s)} f := by
  rw [Transfers.pointsTo_deal (ℓ := ℓ) (S := Finset.univ) (f := f) (Finset.univ : Finset (Fin (grid0.bound 0))) ⟨(0 : Fin 2), Finset.mem_univ _⟩ fullShare]
  exact BI.bigSep_congr fun c _ => Transfers.pointsTo_deal (ℓ := ℓ) (S := Finset.univ) (f := f) (Finset.univ : Finset (Fin (grid0.bound 1))) ⟨(0 : Fin 16), Finset.mem_univ _⟩ _

/-- All the elements the tiles fill. -/
def coreSet (d : Dev nD) (c : Fin (grid0.bound 0)) : Finset S16512.Idx := Finset.univ.biUnion fun s : Fin (grid0.bound 1) => tileSet m d (pt c s)
def filled (d : Dev nD) : Finset S16512.Idx := Finset.univ.biUnion (coreSet m d)

theorem tileSet_disjoint (d : Dev nD) {c c' : Fin (grid0.bound 0)} {s s' : Fin (grid0.bound 1)} (h : c ≠ c' ∨ s ≠ s') :
    Disjoint (tileSet m d (pt c s)) (tileSet m d (pt c' s')) := by
  refine Finset.disjoint_left.mpr fun x hx hy => ?_
  obtain ⟨-, h1, h2⟩ := mem_ownSet.mp hx
  obtain ⟨-, h3, h4⟩ := mem_ownSet.mp hy
  have hc : c.val < 2 := c.isLt
  have hc' : c'.val < 2 := c'.isLt
  have hs : s.val < 16 := s.isLt
  have hs' : s'.val < 16 := s'.isLt
  have hne : c.val ≠ c'.val ∨ s.val ≠ s'.val := h.imp (fun h e => h (Fin.ext e)) fun h e => h (Fin.ext e)
  change 62464 * s.val + 31232 * c.val ≤ _ at h1
  change 62464 * s'.val + 31232 * c'.val ≤ _ at h3
  change _ < (if 2 * s.val + c.val = 31 then 1000000 else 62464 * s.val + 31232 * c.val + 31232) at h2
  change _ < (if 2 * s'.val + c'.val = 31 then 1000000 else 62464 * s'.val + 31232 * c'.val + 31232) at h4
  generalize natAt (IXv m d) (x 0).val = n at *
  split at h2 <;> split at h4 <;> omega

theorem filled_deal (d : Dev nD) (f : S16512.Idx → Elt F .f32) :
    (v3Loc d ↦[filled m d]{fullShare} f : sProp 𝕄)
      = bigSep Finset.univ fun c : Fin (grid0.bound 0) => bigSep Finset.univ fun s : Fin (grid0.bound 1) => v3Loc d ↦[tileSet m d (pt c s)]{fullShare} f := by
  have h1 : (v3Loc d ↦[filled m d]{fullShare} f : sProp 𝕄) = bigSep Finset.univ fun c : Fin (grid0.bound 0) => v3Loc d ↦[coreSet m d c]{fullShare} f :=
    pointsTo_biUnion _ _ fun c _ c' _ h => (Finset.disjoint_biUnion_left _ _ _).mpr fun s _ => (Finset.disjoint_biUnion_right _ _ _).mpr fun s' _ => tileSet_disjoint m d (.inl h)
  rw [h1]
  exact BI.bigSep_congr fun c _ => pointsTo_biUnion _ _ fun s _ s' _ h => tileSet_disjoint m d (.inr h)

theorem mem_filled (d : Dev nD) (hIX : ∀ x, (IXv m d x : BitVec 32).toNat < 1000000) {x : S16512.Idx} (hx : (x 0).val < 16384) : x ∈ filled m d := by
  have hn : natAt (IXv m d) (x 0).val < 1000000 := by
    rw [natAt, dif_pos hx]; exact hIX _
  obtain ⟨w, hw, hlo, hhi⟩ : ∃ w, w < 32 ∧ 31232 * w ≤ natAt (IXv m d) (x 0).val ∧ natAt (IXv m d) (x 0).val < (if w = 31 then 1000000 else 31232 * w + 31232) := by
    generalize natAt (IXv m d) (x 0).val = n at *
    by_cases h : n < 968192
    · refine ⟨n / 31232, by omega, by omega, ?_⟩
      rw [if_neg (by omega)]; omega
    · exact ⟨31, by omega, by omega, by rw [if_pos rfl]; exact hn⟩
  refine Finset.mem_biUnion.mpr ⟨(⟨w % 2, Nat.mod_lt _ (by decide)⟩ : Fin 2), Finset.mem_univ _, Finset.mem_biUnion.mpr ⟨(⟨w / 2, by omega⟩ : Fin 16), Finset.mem_univ _, mem_ownSet.mpr ⟨hx, ?_, ?_⟩⟩⟩
  · change 62464 * (w / 2) + 31232 * (w % 2) ≤ _
    omega
  · change _ < (if 2 * (w / 2) + w % 2 = 31 then 1000000 else 62464 * (w / 2) + 31232 * (w % 2) + 31232)
    split at hhi
    · rw [if_pos (by omega)]; exact hhi
    · rw [if_neg (by omega)]; omega

theorem filled_lt (d : Dev nD) {x : S16512.Idx} (hx : x ∈ filled m d) : (x 0).val < 16384 := by
  obtain ⟨c, -, hx⟩ := Finset.mem_biUnion.mp hx
  obtain ⟨s, -, hx⟩ := Finset.mem_biUnion.mp hx
  exact (mem_ownSet.mp hx).1

theorem row_sub (d : Dev nD) : rowSet 16384 ⊆ Finset.univ \ filled m d := fun x hx =>
  Finset.mem_sdiff.mpr ⟨Finset.mem_univ _, fun h => by
    have := filled_lt m d h
    rw [mem_rowSet.mp hx] at this
    exact absurd this (lt_irrefl _)⟩

/-- The result's memory, put together again: the tiles' elements, the unread one and the rest. -/
theorem out_join (d : Dev nD) (f g : S16512.Idx → Elt F .f32) :
    iprop((v3Loc d ↦[filled m d]{fullShare} OUTv m d) ∗ (v3Loc d ↦[rowSet 16384]{fullShare} f) ∗ (v3Loc d ↦[(Finset.univ \ filled m d) \ rowSet 16384]{fullShare} g))
      ⊢ (iprop(∃ h : S16512.Idx → Elt F .f32, ⌜(∀ x, (IXv m d x : BitVec 32).toNat < 1000000) → ∀ x, (x 0).val < 16384 → h x = OUTv m d x⌝ ∗ (v3Loc d ↦{fullShare} h)) : sProp 𝕄) := by
  iintro ⟨Ho, Hr, Hx⟩
  ihave H1 := (pointsTo_join_subset (ℓ := v3Loc d) (q := fullShare) (f := g) (g := f) (row_sub m d)) $$ [Hr Hx]
  · isplitl [Hr] <;> iassumption
  ihave H2 := (pointsTo_join_subset (ℓ := v3Loc d) (q := fullShare) (g := OUTv m d) (Finset.subset_univ (filled m d))) $$ [Ho H1]
  · isplitl [Ho] <;> iassumption
  iexists _
  isplitr
  swap
  · iexact H2
  · ipureintro
    intro hIX x hx
    exact Finset.piecewise_eq_of_mem _ _ _ (mem_filled m d hIX hx)

/-! ## The launch's ghost state -/

def u₀ : UU := (initOf (K (F := F)).hsCells (K (F := F)).hsToks, ((some OneShot.pending : UB1), (1 : Counters)))

theorem hu₀ : (ownU (u₀ (F := F)) : sProp 𝕄)
    ⊢ |={Set.univ}=> iprop(BI.own (EH (initOf (K (F := F)).hsCells (K (F := F)).hsToks)) ∗ (bigSep Finset.univ fun d : Dev nD => Kept m d)
        ∗ bigSep Finset.univ fun thr : Thread nD τ => bigSep Finset.univ fun q : Fin 1 => (P m).x q thr) := by
  unfold u₀
  iintro Hu
  ihave H := (ownU_pair (initOf (K (F := F)).hsCells (K (F := F)).hsToks) ((some OneShot.pending : UB1), (1 : Counters))) $$ Hu
  icases H with ⟨HH, HN⟩
  ihave HN' := (show (BI.own (embR ((some OneShot.pending : UB1), (1 : Counters))) : sProp 𝕄) ⊢ NotBegun from .rfl) $$ HN
  imod (inv_alloc (P := Keeper (0 : Fin 1) pt0 (UBv m 0)) (E := Set.univ)) $$ [HN'] with ⟨%ι, #Hinv⟩
  · iapply (show iprop((∃ f : S16512.Idx → Elt F .f32, outLoc (0 : Fin 1) pt0 ↦[rowSet 16384]{fullShare} f) ∨ (NotBegun ∨ (ubLoc (0 : Fin 1) pt0 ↦[Finset.univ]{fullShare} (UBv m 0)))) ⊢ (Keeper (0 : Fin 1) pt0 (UBv m 0) : sProp 𝕄) from .rfl)
    iright
    ileft
    iexact HN'
  ihave #HK : Kept m (0 : Fin 1) $$ []
  · iapply (show iprop(∃ ι : ℕ, inv ι (Keeper (0 : Fin 1) pt0 (UBv m 0))) ⊢ (Kept m (0 : Fin 1) : sProp 𝕄) from .rfl)
    iexists ι
    iexact Hinv
  imodintro
  isplitl [HH]; · iexact HH
  isplitr
  · rw [bigSep_univ_of_subsingleton (0 : Dev nD)]
    iexact HK
  · iapply (Transfers.bigSep_mono_pers (Finset.univ : Finset (Thread nD τ)) (Kept m (0 : Fin 1)) (fun _ => iprop(emp)) (fun thr => bigSep Finset.univ fun q : Fin 1 => (P m).x q thr) (fun thr _ => by
      rw [bigSep_univ_of_subsingleton (0 : Fin 1)]
      have e : thr.1 = (0 : Fin 1) := Subsingleton.elim _ _
      show _ ⊢ Kept m thr.1
      rw [e]
      exact sep_elim_left))
    isplitr
    · iexact HK
    · iapply (show (iprop(emp) : sProp 𝕄) ⊢ bigSep (Finset.univ : Finset (Thread nD τ)) fun _ => iprop(emp) from Entails.of_eq (bigSep_emp_const _).symm)
      iempintro

/-! ## The TensorCore's arrays -/

abbrev a0' : DevRef τ sig := Proc.devRef .tc main_arg0
abbrev a1' : DevRef τ sig := Proc.devRef .tc main_arg1
abbrev a2' : DevRef τ sig := Proc.devRef .tc main_arg2
abbrev v0' : DevRef τ sig := Proc.devRef .tc main_v0
abbrev v1' : DevRef τ sig := Proc.devRef .tc main_v1
abbrev v2' : DevRef τ sig := Proc.devRef .tc main_v2
abbrev v3' : DevRef τ sig := Proc.devRef .tc main_v3
abbrev v4' : DevRef τ sig := Proc.devRef .tc main_v4
abbrev v5' : DevRef τ sig := Proc.devRef .tc main_v5

abbrev op0 : HloOp τ sig (Elt F) := StableHlo.reshape main_arg1 main_v0 (rfl : (.f32 : EltTy) = .f32) shapeCasts_S1x32_S32x1
abbrev op1 : HloOp τ sig (Elt F) :=
  StableHlo.unary main_v0 main_v1 (broadcastInDim S32x16 ![0, 1] bcast_S32x1_S32x16_0_1 : (⟨S32x1, .f32⟩ : BufTy).Contents (Elt F) → (⟨S32x16, .f32⟩ : BufTy).Contents (Elt F))
abbrev op2 : HloOp τ sig (Elt F) :=
  StableHlo.unary main_arg2 main_v2 ((transpose S32x1000000 [1, 0] · transposes_S1000000x32_S32x1000000_1_0) : (⟨S1000000x32, .f32⟩ : BufTy).Contents (Elt F) → (⟨S32x1000000, .f32⟩ : BufTy).Contents (Elt F))
abbrev op4 : HloOp τ sig (Elt F) :=
  StableHlo.unary main_v3 main_v4 ((extractStridedSlice S16384 ![0] · slices_S16512_S16384_0) : (⟨S16512, .f32⟩ : BufTy).Contents (Elt F) → (⟨S16384, .f32⟩ : BufTy).Contents (Elt F))
abbrev op5 : HloOp τ sig (Elt F) := StableHlo.reshape main_v4 main_v5 (rfl : (.f32 : EltTy) = .f32) shapeCasts_S16384_S1x16384

/-- The arrays before the call, and those left after it. -/
abbrev S9 : Finset (DevRef τ sig) := {a0', a1', a2', v0', v1', v2', v3', v4', v5'}
abbrev S8 : Finset (DevRef τ sig) := {a0', a1', a2', v0', v2', v3', v4', v5'}

theorem held_S9 (d : Dev nD) (W : Valuation τ sig (Elt F)) :
    (held (SparseCore.T d) S9 W : sProp 𝕄)
      = iprop((a0Loc d ↦{fullShare} W a0') ∗ (a1Loc d ↦{fullShare} W a1') ∗ (a2Loc d ↦{fullShare} W a2') ∗ ((SparseCore.T d).loc main_v0 ↦{fullShare} W v0')
          ∗ (v1Loc d ↦{fullShare} W v1') ∗ (v2Loc d ↦{fullShare} W v2') ∗ (v3Loc d ↦{fullShare} W v3') ∗ ((SparseCore.T d).loc main_v4 ↦{fullShare} W v4') ∗ v5Loc d ↦{fullShare} W v5') := by
  unfold held S9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

theorem held_S8 (d : Dev nD) (W : Valuation τ sig (Elt F)) :
    (held (SparseCore.T d) S8 W : sProp 𝕄)
      = iprop((a0Loc d ↦{fullShare} W a0') ∗ (a1Loc d ↦{fullShare} W a1') ∗ (a2Loc d ↦{fullShare} W a2') ∗ ((SparseCore.T d).loc main_v0 ↦{fullShare} W v0')
          ∗ (v2Loc d ↦{fullShare} W v2') ∗ (v3Loc d ↦{fullShare} W v3') ∗ ((SparseCore.T d).loc main_v4 ↦{fullShare} W v4') ∗ v5Loc d ↦{fullShare} W v5') := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (a2Loc d ↦{fullShare} W main_arg2) ∗ ((SparseCore.T d).loc main_v0 ↦{fullShare} W main_v0)
          ∗ (v1Loc d ↦{fullShare} W main_v1) ∗ (v2Loc d ↦{fullShare} W main_v2) ∗ (v3Loc d ↦{fullShare} W main_v3) ∗ ((SparseCore.T d).loc main_v4 ↦{fullShare} W main_v4) ∗ v5Loc d ↦{fullShare} W main_v5) := by
  unfold unscopedBufs
  rw [show (Finset.univ.filter fun b : Ref sig .tc => ¬ b.isScoped) = {main_arg0, main_arg1, main_arg2, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

def W0 (d : Dev nD) : Valuation τ sig (Elt F) := fun b => m (d, b)
/-- Before the call; -/
def W3 (d : Dev nD) : Valuation τ sig (Elt F) := (op2 (F := F)).result ((op1 (F := F)).result ((op0 (F := F)).result (W0 m d)))
/-- after it, the result at `g`; -/
def W4 (d : Dev nD) (g : S16512.Idx → Elt F .f32) : Valuation τ sig (Elt F) := Function.update (W3 m d) v3' g
/-- and at the end. -/
def W6 (d : Dev nD) (g : S16512.Idx → Elt F .f32) : Valuation τ sig (Elt F) := (op5 (F := F)).result ((op4 (F := F)).result (W4 m d g))

theorem unscoped_held (d : Dev nD) : (unscopedBufs d (fun b => m ((SparseCore.T d).loc b)) : sProp 𝕄) = held (SparseCore.T d) S9 (W0 m d) := by
  rw [unscopedBufs_eq, held_S9]; rfl

theorem W3_ne (d : Dev nD) (b : DevRef τ sig) (h0 : b ∉ ({v0'} : Finset (DevRef τ sig))) (h1 : b ∉ ({v1'} : Finset (DevRef τ sig))) (h2 : b ∉ ({v2'} : Finset (DevRef τ sig))) :
    W3 m d b = m (d, b) := by
  unfold W3
  rw [(op2 (F := F)).result_of_not_mem _ h2, (op1 (F := F)).result_of_not_mem _ h1, (op0 (F := F)).result_of_not_mem _ h0]
  rfl
theorem W3_v1 (d : Dev nD) : W3 m d v1' = UBv m d := by
  unfold W3
  rw [(op2 (F := F)).result_of_not_mem _ (show v1' ∉ ({v2'} : Finset (DevRef τ sig)) by decide)]
  refine (StableHlo.unary_result _ _ _ _ _ _).trans ?_
  unfold UBv
  refine congrArg (broadcastInDim S32x16 ![0, 1] bcast_S32x1_S32x16_0_1 : (S32x1.Idx → Elt F .f32) → S32x16.Idx → Elt F .f32) ?_
  exact StableHlo.reshape_result _ _ _ _ _ _ _
theorem W3_v2 (d : Dev nD) : W3 m d v2' = TTv m d := by
  unfold W3
  refine (StableHlo.unary_result _ _ _ _ _ _).trans ?_
  rw [(op1 (F := F)).result_of_not_mem _ (show a2' ∉ ({v1'} : Finset (DevRef τ sig)) by decide), (op0 (F := F)).result_of_not_mem _ (show a2' ∉ ({v0'} : Finset (DevRef τ sig)) by decide)]
  rfl

theorem W4_ne (d : Dev nD) (g : S16512.Idx → Elt F .f32) (b : DevRef τ sig) (h : b ≠ v3') : W4 m d g b = W3 m d b := Function.update_of_ne h _ _
theorem W4_v3 (d : Dev nD) (g : S16512.Idx → Elt F .f32) : W4 m d g v3' = g := Function.update_self _ _ _

theorem W6_ne (d : Dev nD) (g : S16512.Idx → Elt F .f32) (b : DevRef τ sig) (h4 : b ∉ ({v4'} : Finset (DevRef τ sig))) (h5 : b ∉ ({v5'} : Finset (DevRef τ sig))) :
    W6 m d g b = W4 m d g b := by
  unfold W6
  rw [(op5 (F := F)).result_of_not_mem _ h5, (op4 (F := F)).result_of_not_mem _ h4]

/-- The launch's result: at each position, the product of the user's vector and the item asked for there. -/
def RESv (d : Dev nD) : S1x16384.Idx → Elt F .f32 := fun y => dotVal (tabv m d) (uuv m d) (natAt (IXv m d) (y 1).val)

theorem W6_v5 (d : Dev nD) (g : S16512.Idx → Elt F .f32) (hg : ∀ x, (x 0).val < 16384 → g x = OUTv m d x) : W6 m d g v5' = RESv m d := by
  unfold W6
  refine (StableHlo.reshape_result _ _ _ _ _ _ _).trans ?_
  funext y
  have hy : (y 1).val < 16384 := (y 1).isLt
  have hy0 : (y 0).val < 1 := (y 0).isLt
  have e : (op4 (F := F)).result (W4 m d g) v4' = extractStridedSlice S16384 ![0] g slices_S16512_S16384_0 := by
    refine (StableHlo.unary_result _ _ _ _ _ _).trans ?_
    exact congrArg (extractStridedSlice S16384 ![0] · slices_S16512_S16384_0) (W4_v3 m d g)
  show shapeCast S1x16384 ((op4 (F := F)).result (W4 m d g) v4') shapeCasts_S16384_S1x16384 y = _
  rw [e]
  generalize hg' : extractStridedSlice S16384 ![0] g slices_S16512_S16384_0 = g'
  rw [shapeCast_apply (t := S1x16384) g' _ y (fun a => ⟨(y 1).val, by obtain rfl : a = 0 := Subsingleton.elim a 0; exact hy⟩) (by
    rw [Shape.rowMajor_val_one, Shape.rowMajor_val_two]
    show (y 1).val = (y 0).val * 16384 + (y 1).val
    omega)]
  rw [← hg', extractStridedSlice_apply _ _ _ _ (fun a => ⟨(y 1).val, by obtain rfl : a = 0 := Subsingleton.elim a 0; exact Nat.lt_trans hy (by decide)⟩) (fun a => by
    obtain rfl : a = 0 := Subsingleton.elim a 0
    show (y 1).val = 0 + (y 1).val
    omega)]
  exact hg _ hy

/-! ## The program on the TensorCore -/

theorem hOp0 : (op0 (F := F)).bufs ⊆ S9 := by show ({a1', v0'} : Finset (DevRef τ sig)) ⊆ S9; decide
theorem hOp1 : (op1 (F := F)).bufs ⊆ S9 := by show ({v0', v1'} : Finset (DevRef τ sig)) ⊆ S9; decide
theorem hOp2 : (op2 (F := F)).bufs ⊆ S9 := by show ({a2', v2'} : Finset (DevRef τ sig)) ⊆ S9; decide
theorem hOp4 : (op4 (F := F)).bufs ⊆ S8 := by show ({v3', v4'} : Finset (DevRef τ sig)) ⊆ S8; decide
theorem hOp5 : (op5 (F := F)).bufs ⊆ S8 := by show ({v4', v5'} : Finset (DevRef τ sig)) ⊆ S8; decide

/-- What the launch leaves: the arguments as they were and, where the indices name items, the result. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ ∃ r : Buf (Elt F) (v5Loc d), ⌜(∀ x, (IXv m d x : BitVec 32).toNat < 1000000) → r = RESv m d⌝ ∗ v5Loc d ↦{fullShare} r)

/-- The reads of all the tiles together are the whole arrays. -/
theorem reads_all (d : Dev nD) :
    (bigSep Finset.univ fun c : Fin (grid0.bound 0) => bigSep Finset.univ fun s : Fin (grid0.bound 1) => Reads m d (pt c s) : sProp 𝕄)
      = iprop((a0Loc d ↦[Finset.univ]{fullShare} IXv m d) ∗ (v1Loc d ↦[Finset.univ]{fullShare} UBv m d) ∗ (v2Loc d ↦[Finset.univ]{fullShare} TTv m d)) := by
  rw [deal2 (a0Loc d) (IXv m d), deal2 (v1Loc d) (UBv m d), deal2 (v2Loc d) (TTv m d), ← bigSep_pair, ← bigSep_pair]
  refine BI.bigSep_congr fun c _ => ?_
  rw [← bigSep_pair, ← bigSep_pair]
  rfl

theorem given_all (d : Dev nD) :
    iprop((a0Loc d ↦[Finset.univ]{fullShare} IXv m d) ∗ (v1Loc d ↦[Finset.univ]{fullShare} UBv m d) ∗ (v2Loc d ↦[Finset.univ]{fullShare} TTv m d) ∗ Begun
        ∗ (v3Loc d ↦[filled m d]{fullShare} m (v3Loc d)))
      ⊢ (bigSep Finset.univ fun c : Fin ((K (F := F)).nCore 0) => (P m).st 0 d c : sProp 𝕄) := by
  iintro ⟨H0, H1, H2, #HB, H3⟩
  ihave HR := (Entails.of_eq (reads_all m d).symm) $$ [H0 H1 H2]
  · isplitl [H0]; · iexact H0
    isplitl [H1] <;> iassumption
  ihave HO := (Entails.of_eq (filled_deal m d (m (v3Loc d)))) $$ H3
  iapply (Transfers.bigSep_mono_pers (Finset.univ : Finset (Fin (grid0.bound 0))) Begun
    (fun c => iprop((bigSep Finset.univ fun s : Fin (grid0.bound 1) => Reads m d (pt c s)) ∗ bigSep Finset.univ fun s : Fin (grid0.bound 1) => v3Loc d ↦[tileSet m d (pt c s)]{fullShare} m (v3Loc d)))
    (fun c => bigSep Finset.univ fun s : Fin (grid0.bound 1) => Given m d (pt c s)) (fun c _ => by
      rw [← bigSep_pair]
      refine Transfers.bigSep_mono_pers _ _ _ _ fun s _ => ?_
      unfold Given
      iintro ⟨#HB, HR, HO⟩
      isplitl [HR]; · iexact HR
      isplitr; · iexact HB
      iexact HO))
  isplitr; · iexact HB
  rw [bigSep_pair]
  isplitl [HR] <;> iassumption

theorem done_all (d : Dev nD) :
    (bigSep Finset.univ fun c : Fin ((K (F := F)).nCore 0) => (P m).dn 0 d c : sProp 𝕄)
      = iprop(((a0Loc d ↦[Finset.univ]{fullShare} IXv m d) ∗ (v1Loc d ↦[Finset.univ]{fullShare} UBv m d) ∗ (v2Loc d ↦[Finset.univ]{fullShare} TTv m d))
        ∗ (v3Loc d ↦[filled m d]{fullShare} OUTv m d)) := by
  rw [← reads_all, filled_deal, ← bigSep_pair]
  refine BI.bigSep_congr fun c _ => ?_
  rw [← bigSep_pair]
  rfl

set_option maxRecDepth 16384 in
theorem hmain (κ : GSem nD τ sig → ℕ) (d : Dev nD) :
    iprop((K (F := F)).ctx EH (P m) κ ∗ (K (F := F)).tcSt EH d 0 ∗ (K (F := F)).tcRes m ρ d ∗ Kept m d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, #HK⟩
  icases (show Kept m d ⊢ iprop(∃ ι : ℕ, inv ι (Keeper d pt0 (UBv m d))) from .rfl) $$ HK with ⟨%ι, #Hinv⟩
  iapply (wp_hlo_within 𝒱 (SparseCore.T d) none Set.univ (op := op0) (S := S9) hOp0 (V := W0 m d)) $$ [Hb Hheld]
  · isplitl [Hb] <;> iassumption
  iintro ⟨Hb, Hheld⟩
  rw [wp_ret]; imodintro
  iapply (wp_hlo_within 𝒱 (SparseCore.T d) none Set.univ (op := op1) (S := S9) hOp1 (V := (op0 (F := F)).result (W0 m d))) $$ [Hb Hheld]
  · isplitl [Hb] <;> iassumption
  iintro ⟨Hb, Hheld⟩
  rw [wp_ret]; imodintro
  iapply (wp_hlo_within 𝒱 (SparseCore.T d) none Set.univ (op := op2) (S := S9) hOp2 (V := (op1 (F := F)).result ((op0 (F := F)).result (W0 m d)))) $$ [Hb Hheld]
  · isplitl [Hb] <;> iassumption
  iintro ⟨Hb, Hheld⟩
  rw [wp_ret]; imodintro
  -- what the call is given
  ihave Hh := ((show held (SparseCore.T d) S9 ((op2 (F := F)).result ((op1 (F := F)).result ((op0 (F := F)).result (W0 m d)))) ⊢ (held (SparseCore.T d) S9 (W3 m d) : sProp 𝕄) from .rfl).trans (Entails.of_eq (held_S9 d (W3 m d)))) $$ Hheld
  icases Hh with ⟨H0, H1, H2, Hv0, Hv1, Hv2, Hv3, Hv4, Hv5⟩
  ihave H0' := (Entails.of_eq (show (a0Loc d ↦{fullShare} W3 m d a0' : sProp 𝕄) = (a0Loc d ↦[Finset.univ]{fullShare} IXv m d) by
    rw [W3_ne m d a0' (by decide) (by decide) (by decide)]; rfl)) $$ H0
  ihave Hv1' := (Entails.of_eq (show (v1Loc d ↦{fullShare} W3 m d v1' : sProp 𝕄) = (v1Loc d ↦[Finset.univ]{fullShare} UBv m d) by rw [W3_v1])) $$ Hv1
  ihave Hv2' := (Entails.of_eq (show (v2Loc d ↦{fullShare} W3 m d v2' : sProp 𝕄) = (v2Loc d ↦[Finset.univ]{fullShare} TTv m d) by rw [W3_v2])) $$ Hv2
  ihave Hv3' := (Entails.of_eq (show (v3Loc d ↦{fullShare} W3 m d v3' : sProp 𝕄) = (v3Loc d ↦[Finset.univ]{fullShare} m (v3Loc d)) by
    rw [W3_ne m d v3' (by decide) (by decide) (by decide)])) $$ Hv3
  ihave Hs := (pointsTo_split_subset (ℓ := v3Loc d) (q := fullShare) (f := m (v3Loc d)) (Finset.subset_univ (filled m d))).1 $$ Hv3'
  icases Hs with ⟨Hfill, Hrest⟩
  ihave Hs := (pointsTo_split_subset (ℓ := v3Loc d) (q := fullShare) (f := m (v3Loc d)) (row_sub m d)).1 $$ Hrest
  icases Hs with ⟨Hrow, Hrest⟩
  imod (keeper_begin d ι (UBv m d) (m (v3Loc d))) $$ [Hrow Hv1'] with ⟨#HB, Hv1'⟩
  · isplitr; · iexact Hinv
    isplitl [Hrow]; · iexact Hrow
    iexact Hv1'
  iapply ((K (F := F)).wp_run (D (F := F)) 𝒱 (EH := EH) (P := P m) κ d 0) $$ [Hst H0' H1 H2 Hv0 Hv1' Hv2' Hfill Hrest Hv4 Hv5 Hb Hts]
  isplitr; · iexact Hctx
  isplitl [Hst]; · iexact Hst
  isplitl [H0' Hv1' Hv2' Hfill]
  · iapply (given_all m d)
    isplitl [H0']; · iexact H0'
    isplitl [Hv1']; · iexact Hv1'
    isplitl [Hv2']; · iexact Hv2'
    isplitr; · iexact HB
    iexact Hfill
  iintro ⟨Hst, Hdn⟩
  ihave Hdn' := (Entails.of_eq (done_all m d)) $$ Hdn
  icases Hdn' with ⟨⟨H0, Hv1, Hv2⟩, Hfill⟩
  imod (keeper_end d ι (UBv m d)) $$ [Hv1] with ⟨%f, Hrow⟩
  · isplitr; · iexact Hinv
    isplitr; · iexact HB
    iexact Hv1
  ihave Hv3 := (out_join m d f (m (v3Loc d))) $$ [Hfill Hrow Hrest]
  · isplitl [Hfill]; · iexact Hfill
    isplitl [Hrow]; · iexact Hrow
    iexact Hrest
  icases Hv3 with ⟨%g, %hg, Hv3⟩
  -- the result taken out
  ihave Hheld := (Entails.of_eq (held_S8 d (W4 m d g)).symm) $$ [H0 H1 H2 Hv0 Hv2 Hv3 Hv4 Hv5]
  · rw [W4_ne m d g a0' (by decide), W4_ne m d g a1' (by decide), W4_ne m d g a2' (by decide), W4_ne m d g v0' (by decide), W4_ne m d g v2' (by decide),
      W4_ne m d g v4' (by decide), W4_ne m d g v5' (by decide), W4_v3, W3_ne m d a0' (by decide) (by decide) (by decide), W3_v2]
    isplitl [H0]; · iexact H0
    isplitl [H1]; · iexact H1
    isplitl [H2]; · iexact H2
    isplitl [Hv0]; · iexact Hv0
    isplitl [Hv2]; · iexact Hv2
    isplitl [Hv3]; · iexact Hv3
    isplitl [Hv4]; · iexact Hv4
    iexact Hv5
  iapply (wp_hlo_within 𝒱 (SparseCore.T d) none Set.univ (op := op4) (S := S8) hOp4 (V := W4 m d g)) $$ [Hb Hheld]
  · isplitl [Hb] <;> iassumption
  iintro ⟨Hb, Hheld⟩
  rw [wp_ret]; imodintro
  iapply (wp_hlo_within 𝒱 (SparseCore.T d) none Set.univ (op := op5) (S := S8) hOp5 (V := (op4 (F := F)).result (W4 m d g))) $$ [Hb Hheld]
  · isplitl [Hb] <;> iassumption
  iintro ⟨Hb, Hheld⟩
  rw [wp_ret]; imodintro
  ihave Hh := ((show held (SparseCore.T d) S8 ((op5 (F := F)).result ((op4 (F := F)).result (W4 m d g))) ⊢ (held (SparseCore.T d) S8 (W6 m d g) : sProp 𝕄) from .rfl).trans (Entails.of_eq (held_S8 d (W6 m d g)))) $$ Hheld
  icases Hh with ⟨H0, H1, H2, -, -, -, -, Hv5⟩
  ihave H0' := (Entails.of_eq (show (a0Loc d ↦{fullShare} W6 m d g a0' : sProp 𝕄) = (a0Loc d ↦{fullShare} m (a0Loc d)) by
    rw [W6_ne m d g a0' (by decide) (by decide), W4_ne m d g a0' (by decide), W3_ne m d a0' (by decide) (by decide) (by decide)])) $$ H0
  ihave H1' := (Entails.of_eq (show (a1Loc d ↦{fullShare} W6 m d g a1' : sProp 𝕄) = (a1Loc d ↦{fullShare} m (a1Loc d)) by
    rw [W6_ne m d g a1' (by decide) (by decide), W4_ne m d g a1' (by decide), W3_ne m d a1' (by decide) (by decide) (by decide)])) $$ H1
  ihave H2' := (Entails.of_eq (show (a2Loc d ↦{fullShare} W6 m d g a2' : sProp 𝕄) = (a2Loc d ↦{fullShare} m (a2Loc d)) by
    rw [W6_ne m d g a2' (by decide) (by decide), W4_ne m d g a2' (by decide), W3_ne m d a2' (by decide) (by decide) (by decide)])) $$ H2
  imodintro
  isplitl [Hst]; · iexact Hst
  isplitr [Hb Hts]
  · isplitl [H0']; · iexact H0'
    isplitl [H1']; · iexact H1'
    isplitl [H2']; · iexact H2'
    iexists W6 m d g v5'
    isplitr
    · ipureintro; exact fun hIX => W6_v5 m d g (hg hIX)
    iexact Hv5
  isplitl [Hb] <;> iassumption

/-! ## The run -/

def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d) ∧ ((∀ x, (IXv m d x : BitVec 32).toNat < 1000000) → s'.mem.mem (v5Loc d) = RESv m d)

theorem agree (s' : Phys nD τ sig (Elt F)) (ℓ : Loc nD τ sig) (f : Buf (Elt F) ℓ) :
    iprop(SI s' ∗ (ℓ ↦{fullShare} f)) ⊢ (iprop(SI s' ∗ ⌜s'.mem.mem ℓ = f⌝) : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitl [HSI]; · iexact HSI
  ipureintro
  exact funext fun i => h1 i (Finset.mem_univ i)

theorem hfin (d : Dev nD) (s' : Phys nD τ sig (Elt F)) : iprop(FIN m d ∗ SI s') ⊢ (⌜fq m d s'⌝ : sProp 𝕄) := by
  iintro ⟨⟨H0, H1, H2, %r, %hr, H5⟩, HSI⟩
  ihave H := (agree s' (a0Loc d) (m (a0Loc d))) $$ [HSI H0]
  · isplitl [HSI] <;> iassumption
  icases H with ⟨HSI, %e0⟩
  ihave H := (agree s' (a1Loc d) (m (a1Loc d))) $$ [HSI H1]
  · isplitl [HSI] <;> iassumption
  icases H with ⟨HSI, %e1⟩
  ihave H := (agree s' (a2Loc d) (m (a2Loc d))) $$ [HSI H2]
  · isplitl [HSI] <;> iassumption
  icases H with ⟨HSI, %e2⟩
  ihave H := (agree s' (v5Loc d) r) $$ [HSI H5]
  · isplitl [HSI] <;> iassumption
  icases H with ⟨HSI, %e5⟩
  ipureintro
  exact ⟨e0, e1, e2, fun hIX => e5.trans (hr hIX)⟩

/-- What every run of the program ends in. -/
def QC : PUnit × MemSt nD τ sig (Elt F) → Prop := fun r =>
  (∀ d : Dev nD, r.2.mem (a0Loc d) = m (a0Loc d) ∧ r.2.mem (a1Loc d) = m (a1Loc d) ∧ r.2.mem (a2Loc d) = m (a2Loc d) ∧ ((∀ x, (IXv m d x : BitVec 32).toNat < 1000000) → r.2.mem (v5Loc d) = RESv m d))
    ∧ r.2.sem = fun _ => 0

/-- The program runs from every memory and ends in that. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun d => Kept m d) (FIN m) (u₀ (F := F)) (sep_elim_left.trans (hu₀ m)) (hmain m ρ) (fq m) (hfin m) (QC m) (fun _ h hz => ⟨h, hz⟩)

end Cert.Proof.Stream

end
-- ==== Proof.Value.lean ====
/-
  The values: what the reference's program computes at an index, and the kernel's sum as the same sum.
-/
module

public import proofs.«01_k».proof.Proof.Launch
public import proofs.«01_k».proof.Proof.Gen.ReferenceIdeal.Run
public import proofs.«01_k».proof.Proof.Gen.Pre_in_range
public import Idealize.ShloMosaic.Lib.StackMember
public import Idealize.ShloMosaic.Lib.ReduceAll
public import Idealize.ShloMosaic.Lib.Routing.Ops

@[expose] public section

noncomputable section

namespace Cert.Proof.Stream

open Idealize.ShloMosaic Idealize.ShloMosaic.ValueIdx

/-! ## Words below a million, read signed -/

theorem slt_zero {v : BitVec 32} (h : v.toNat < 1000000) : IntOp.cmpi .slt v 0#32 = 0#1 := by
  have : BitVec.slt v 0#32 = false := by
    rw [BitVec.slt_eq_decide, decide_eq_false_iff_not, BitVec.toInt_eq_toNat_cond, BitVec.toInt_eq_toNat_cond]
    simp only [BitVec.toNat_ofNat, Nat.reducePow, Nat.reduceMod]
    omega
  simp only [IntOp.cmpi, this]; rfl

theorem sge_zero {v : BitVec 32} (h : v.toNat < 1000000) : IntOp.cmpi .sge v 0#32 = 1#1 := by
  have : BitVec.sle 0#32 v = true := by
    rw [BitVec.sle_eq_decide, decide_eq_true_iff, BitVec.toInt_eq_toNat_cond, BitVec.toInt_eq_toNat_cond]
    simp only [BitVec.toNat_ofNat, Nat.reducePow, Nat.reduceMod]
    omega
  simp only [IntOp.cmpi, this]; rfl

theorem sle_last {v : BitVec 32} (h : v.toNat < 1000000) : IntOp.cmpi .sle v 999999#32 = 1#1 := by
  have : BitVec.sle v 999999#32 = true := by
    rw [BitVec.sle_eq_decide, decide_eq_true_iff, BitVec.toInt_eq_toNat_cond, BitVec.toInt_eq_toNat_cond]
    simp only [BitVec.toNat_ofNat, Nat.reducePow, Nat.reduceMod]
    omega
  simp only [IntOp.cmpi, this]; rfl

/-- A word that passes both of the precondition's tests is below a million. -/
theorem lt_of_tests {v : BitVec 32} (e : IntOp.andi (IntOp.cmpi .sge v 0#32) (IntOp.cmpi .slt v 1000000#32) = 1#1) : v.toNat < 1000000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition: every index names an item. -/
theorem lt_of_pre {F : FTy → Type} [FloatOps F] {A0 : IVec ⟨1, ![16384]⟩ 32} {A1 : FVec F ⟨2, ![1, 32]⟩ .f32} {A2 : FVec F ⟨2, ![1000000, 32]⟩ .f32}
    (h : Cert.Pre_in_range.fn (F := F) A0 A1 A2 = fun _ => 1#1) (x : (⟨1, ![16384]⟩ : Shape).Idx) : (A0 x).toNat < 1000000 := by
  have e := congrFun h (fun a => a.elim0)
  haveI : Subsingleton (Cert.Pre_in_range.S_).Idx := ⟨fun a b => funext fun x => x.elim0⟩
  have e' := Host.reduce_andi_all _ _ _ _ _ e x
  exact lt_of_tests e'

theorem select_one {s : Shape} {α : Type} {c : IVec s 1} {p q : s.Idx → α} {x : s.Idx} (h : c x = 1#1) : select c p q x = p x := if_pos h

/-! ## The reference -/

section Reference

open Cert.ReferenceIdeal Cert.ReferenceIdeal.Gen

variable {F : FTy → Type} [FloatOps F]
variable (IX : IVec S16384 32) (U : FVec F S1x32 .f32) (T : FVec F S1000000x32 .f32)

/-- The indices with a negative one counted from the table's end. -/
def refWrap : IVec S16384 32 :=
  select (cmpi .slt IX (broadcastInDim S16384 ![] bcast_S_S16384 (constantI S_ 32 0#32))) (addi IX (broadcastInDim S16384 ![] bcast_S_S16384 (constantI S_ 32 1000000#32))) IX
def refCols : IVec S16384x1 32 := broadcastInDim S16384x1 ![0] bcast_S16384_S16384x1_0 (refWrap IX)
/-- Whether an index names a row. -/
def refMask : IVec S16384 1 :=
  Host.reduce IntOp.andi (andi (cmpi .sge (refCols IX) (broadcastInDim S16384x1 ![] bcast_S_S16384x1 (constantI S_ 32 0#32)))
    (cmpi .sle (refCols IX) (broadcastInDim S16384x1 ![0, 1] bcast_S1x1_S16384x1_0_1 (broadcastInDim S1x1 ![1] bcast_S1_S1x1_1 (constantI S1 32 999999#32)))))
    (constantI S_ 1 1#1) reducesTo_S16384x1_S16384_d1 h_S_
/-- The rows taken. -/
def refRows : FVec F S16384x32 .f32 :=
  select (broadcastInDim S16384x32 ![0] bcast_S16384_S16384x32_0 (refMask IX)) (Host.gather gather_S1000000x32_S16384x1_S16384x32_1_0_n_n_0_1_132 T (refCols IX))
    (broadcastInDim S16384x32 ![] bcast_S_S16384x32 (constant S_ .f32 0x7FC00000#32))
/-- The result. -/
def refOut : FVec F S1x16384 .f32 :=
  Host.dotGeneral dot_S1x32_S32x16384_S1x16384_1_0_0_1_n_n none U (transpose S32x16384 [1, 0] (refRows IX T) transposes_S16384x32_S32x16384_1_0)

variable {IX} (hIX : ∀ x, (IX x).toNat < 1000000)

include hIX in
theorem refWrap_eq : refWrap IX = IX := by
  funext x
  show (if IntOp.cmpi .slt (IX x) 0#32 = 1#1 then _ else IX x) = IX x
  rw [slt_zero (hIX x)]
  exact if_neg (by decide)

include hIX in
theorem refCols_apply (y : S16384x1.Idx) : refCols IX y = IX (fun a => ⟨(y 0).val, by obtain rfl : a = 0 := Subsingleton.elim a 0; exact (y 0).isLt⟩) := by
  unfold refCols
  rw [refWrap_eq hIX]
  show IX _ = IX _
  congr 1
  funext a
  obtain rfl : a = 0 := Subsingleton.elim a 0
  exact dif_neg (by decide)

include hIX in
theorem refMask_eq (x : S16384.Idx) : refMask IX x = 1#1 := by
  refine Host.reduce_andi_one _ _ _ _ _ rfl fun y => ?_
  show IntOp.andi (IntOp.cmpi .sge (refCols IX y) 0#32) (IntOp.cmpi .sle (refCols IX y) 999999#32) = 1#1
  rw [refCols_apply hIX, sge_zero (hIX _), sle_last (hIX _)]
  rfl

set_option maxRecDepth 16384 in
include hIX in
theorem refRows_apply (b : Fin 16384) (j : Fin 32) : refRows IX T (ix2 b j) = T (ix2 ⟨(IX (ix1 b)).toNat, hIX _⟩ j) := by
  unfold refRows
  have hm : (broadcastInDim S16384x32 ![0] bcast_S16384_S16384x32_0 (refMask IX)) (ix2 b j) = 1#1 := refMask_eq hIX _
  have hc : refCols IX (ix2 b (0 : Fin 1)) = BitVec.ofNat 32 (IX (ix1 b)).toNat := by
    refine (refCols_apply hIX _).trans (Eq.trans ?_ ((BitVec.ofNat_toNat 32 _).trans (BitVec.setWidth_eq _)).symm)
    exact congrArg IX (funext fun a => match a with | ⟨0, _⟩ => rfl)
  refine (select_one hm).trans ?_
  exact Routing.gather_row gather_S1000000x32_S16384x1_S16384x32_1_0_n_n_0_1_132 rfl rfl rfl rfl rfl T (refCols IX) b j ⟨(IX (ix1 b)).toNat, hIX _⟩ hc (by norm_num)

end Reference

/-- The reference at an index: the sum of the products of the user's vector and the item's row. -/
theorem refOut_apply {IX : IVec Cert.ReferenceIdeal.S16384 32} (U : FVec Ideal Cert.ReferenceIdeal.S1x32 .f32) (T : FVec Ideal Cert.ReferenceIdeal.S1000000x32 .f32)
    (hIX : ∀ x, (IX x).toNat < 1000000) (a : Fin 1) (b : Fin 16384) :
    refOut IX U T (ix2 a b) = ∑ c : Fin 32, U (ix2 a c) * T (ix2 ⟨(IX (ix1 b)).toNat, hIX _⟩ c) := by
  unfold refOut
  refine (StackMember.dotGeneral_plain_apply none U (transpose Cert.ReferenceIdeal.S32x16384 [1, 0] (refRows IX T) Cert.ReferenceIdeal.Gen.facts.transposes_S16384x32_S32x16384_1_0) a b).trans ?_
  refine Finset.sum_congr rfl fun c _ => congrArg (U (ix2 a c) * ·) ?_
  rw [transpose_apply _ _ _ _ (ix2 b c) (fun x => by match x with | ⟨0, _⟩ => rfl | ⟨1, _⟩ => rfl)]
  exact refRows_apply T hIX b c

/-! ## The kernel's sum -/

theorem dotFold_sum (g uu : ℕ → Ideal .f32) : ∀ n, n ≤ 32 → ∀ acc : Ideal .f32, dotFold g uu n acc = acc + ∑ j ∈ Finset.Ico (32 - n) 32, g j * uu j
  | 0, _, acc => by simp [dotFold]
  | n + 1, hn, acc => by
    rw [dotFold, dotFold_sum g uu n (by omega), Finset.sum_eq_sum_Ico_succ_bot (a := 32 - (n + 1)) (by omega), show 32 - (n + 1) + 1 = 32 - n by omega, show 31 - n = 32 - (n + 1) by omega]
    show acc + g _ * uu _ + _ = _
    rw [add_assoc]

theorem dotVal_sum (tab : ℕ → ℕ → Ideal .f32) (uu : ℕ → Ideal .f32) (n : ℕ) : dotVal tab uu n = ∑ j : Fin 32, tab j.val n * uu j.val := by
  unfold dotVal
  rw [dotFold_sum _ _ 32 (le_refl _), Nat.sub_self, ← Finset.range_eq_Ico, Finset.sum_range]
  show Ideal.ofBits .f32 0x00000000#32 + _ = _
  rw [Ideal.ofBits_zero_f32, zero_add]

open Cert.KernelIdeal Cert.KernelIdeal.Gen in
/-- The kernel's result is the reference's. -/
theorem res_eq (m : (ℓ : Loc nD τ sig) → Buf (Elt Ideal) ℓ) (d : Dev nD) (hIX : ∀ x, (IXv m d x : BitVec 32).toNat < 1000000) :
    RESv m d = refOut (F := Ideal) (IXv m d) (m (a1Loc d) : S1x32.Idx → Elt Ideal .f32) (m (a2Loc d) : S1000000x32.Idx → Elt Ideal .f32) := by
  funext y
  have h1 : (y 1).val < 16384 := (y 1).isLt
  have h0 : (y 0).val < 1 := (y 0).isLt
  have hy : y = ix2 ⟨(y 0).val, h0⟩ ⟨(y 1).val, h1⟩ := by
    funext a
    match a with
    | ⟨0, _⟩ => rfl
    | ⟨1, _⟩ => rfl
  rw [hy, refOut_apply _ _ hIX]
  unfold RESv
  rw [dotVal_sum]
  refine Finset.sum_congr rfl fun c _ => ?_
  rw [mul_comm]
  refine congrArg₂ (· * ·) ?_ ?_
  · unfold uuv
    refine congrArg (m (a1Loc d) : S1x32.Idx → Elt Ideal .f32) (funext fun a => ?_)
    match a with
    | ⟨0, _⟩ => exact (Subsingleton.elim _ _ : (0 : Fin 1) = ⟨(y 0).val, h0⟩)
    | ⟨1, _⟩ => exact compOf_val c
  · unfold tabv TTv
    refine transpose_apply _ _ _ _ _ fun b => ?_
    match b with
    | ⟨0, _⟩ => exact (congrArg Fin.val (compOf_val c)).symm
    | ⟨1, _⟩ =>
      show (IXv m d _ : BitVec 32).toNat = (itemOf (natAt (IXv m d) (y 1).val)).val
      have e : (IXv m d (ix1 ⟨(y 1).val, h1⟩) : BitVec 32).toNat = natAt (IXv m d) (y 1).val := natAt_eq _ _
      show _ = natAt (IXv m d) (y 1).val % 1000000
      rw [← e, Nat.mod_eq_of_lt (hIX _)]

end Cert.Proof.Stream

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The kernel's program runs from every memory, leaves its arguments and ends quiescent. -/
theorem frame_kernel : Cert.quiescent_Kernel (hKernel := Cert.Kernel.Gen.facts) := fun m ρ _ =>
  (θ_run Cert.KernelIdeal.defs _ _).mono (fun _ h => ⟨fun c => ⟨(h.1 c).1, (h.1 c).2.1, (h.1 c).2.2.1⟩, h.2⟩)
    (Stream.run_main (F := Bits) m ρ)

/-- The same at the ideal values. -/
theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1⟩, h.2⟩)
    (Stream.run_main (F := Ideal) m ρ)

/-- The same, under the precondition. -/
theorem frame_ideal_pre : Cert.quiescent_KernelIdeal_pre_in_range (hKernelIdeal := Cert.KernelIdeal.Gen.facts) (hPre_in_range := Cert.Pre_in_range.Gen.facts) := fun m ρ _ =>
  (θ_run Cert.KernelIdeal.defs _ _).mono (fun _ h => ⟨fun c => ⟨(h.1 c).1, (h.1 c).2.1, (h.1 c).2.2.1⟩, h.2⟩)
    (Stream.run_main (F := Ideal) m ρ)

/-- The reference's program runs, leaves its arguments and has no semaphore to leave raised. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, under the precondition. -/
theorem frame_ref_pre : Cert.quiescent_ReferenceIdeal_pre_in_range (hReferenceIdeal := Cert.ReferenceIdeal.Gen.facts) (hPre_in_range := Cert.Pre_in_range.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the ideal values, where the indices name items, the kernel's result is the reference's: at each position, the product of the user's vector and
    the row of the item asked for there. -/
theorem algebraic : Cert.algebraic_KernelIdeal_ReferenceIdeal_pre_in_range (hKernelIdeal := Cert.KernelIdeal.Gen.facts) (hReferenceIdeal := Cert.ReferenceIdeal.Gen.facts) (hPre_in_range := Cert.Pre_in_range.Gen.facts) := by
  intro m g m' g' hpre hagree
  have hIX : ∀ d x, (Stream.IXv m d x : BitVec 32).toNat < 1000000 := fun d x => Stream.lt_of_pre (hpre d) x
  refine ⟨fun c => Stream.RESv m c, ?_, ?_⟩
  · exact (θ_run Cert.KernelIdeal.defs _ _).mono (fun _ h c => ⟨(h.1 c).2.2.2 (hIX c), (h.1 c).1, (h.1 c).2.1, (h.1 c).2.2.1⟩)
      (Stream.run_main (F := Ideal) m g)
  · refine (θ_run Cert.ReferenceIdeal.defs _ _).mono (fun _ h c => ⟨(h c).1.trans ?_, (h c).2⟩) (Cert.ReferenceIdeal.Value.run (F := Ideal) m' g')
    obtain ⟨h0, h1, h2⟩ := hagree c
    refine Eq.trans ?_ (Stream.res_eq m c (hIX c)).symm
    rw [h0, h1, h2]
    rfl

theorem claim : Cert.Claim := ⟨Cert.Kernel.Gen.facts, Cert.KernelIdeal.Gen.facts, Cert.ReferenceIdeal.Gen.facts, Cert.Pre_in_range.Gen.facts,
  frame_kernel, frame_ideal, frame_ideal_pre, frame_ref, frame_ref_pre, trivial, algebraic⟩

end Cert.Proof

end
